-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Kernel2Ideal_finite_pool [hPre_finite_pool : Cert.Pre_finite_pool.Facts] (m : (ℓ : Loc Cert.Kernel2Ideal.nD Cert.Kernel2Ideal.τ Cert.Kernel2Ideal.sig) → Buf (Elt Ideal) ℓ) : Prop :=
  ∀ c : Dev Cert.Kernel2Ideal.nD,
    (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).1 = (fun _ => 1#1)
    ∧ (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.1 = (fun _ => 1#1)
    ∧ (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.1 = (fun _ => 1#1)
    ∧ (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.1 = (fun _ => 1#1)
    ∧ (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.1 = (fun _ => 1#1)
    ∧ (Cert.Pre_finite_pool.fn (F := Ideal) (m ((c.tc : Thread Cert.Kernel2Ideal.nD Cert.Kernel2Ideal.τ).loc Cert.Kernel2Ideal.main_arg0)) (m ((c.tc : Thread Cert.Kernel2Ideal.nD Cert.Kernel2Ideal.τ).loc Cert.Kernel2Ideal.main_arg1)) (m ((c.tc : Thread Cert.Kernel2Ideal.nD Cert.Kernel2Ideal.τ).loc Cert.Kernel2Ideal.main_arg2)) (m ((c.tc : Thread Cert.Kernel2Ideal.nD Cert.Kernel2Ideal.τ).loc Cert.Kernel2Ideal.main_arg3)) (m ((c.tc : Thread Cert.Kernel2Ideal.nD Cert.Kernel2Ideal.τ).loc Cert.Kernel2Ideal.main_arg4)) (m ((c.tc : Thread Cert.Kernel2Ideal.nD Cert.Kernel2Ideal.τ).loc Cert.Kernel2Ideal.main_arg5))).2.2.2.2.2 = (fun _ => 1#1)

def Pre_Reference2Ideal (m : (ℓ : Loc Cert.Reference2Ideal.nD Cert.Reference2Ideal.τ Cert.Reference2Ideal.sig) → Buf (Elt Ideal) ℓ) : Prop :=
  True

def Pre_Reference2Ideal_finite_pool [hPre_finite_pool : Cert.Pre_finite_pool.Facts] (m : (ℓ : Loc Cert.Reference2Ideal.nD Cert.Reference2Ideal.τ Cert.Reference2Ideal.sig) → Buf (Elt Ideal) ℓ) : Prop :=
  ∀ c : Dev Cert.Reference2Ideal.nD,
    (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).1 = (fun _ => 1#1)
    ∧ (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.1 = (fun _ => 1#1)
    ∧ (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.1 = (fun _ => 1#1)
    ∧ (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.1 = (fun _ => 1#1)
    ∧ (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.1 = (fun _ => 1#1)
    ∧ (Cert.Pre_finite_pool.fn (F := Ideal) (m ((c.tc : Thread Cert.Reference2Ideal.nD Cert.Reference2Ideal.τ).loc Cert.Reference2Ideal.main_arg0)) (m ((c.tc : Thread Cert.Reference2Ideal.nD Cert.Reference2Ideal.τ).loc Cert.Reference2Ideal.main_arg1)) (m ((c.tc : Thread Cert.Reference2Ideal.nD Cert.Reference2Ideal.τ).loc Cert.Reference2Ideal.main_arg2)) (m ((c.tc : Thread Cert.Reference2Ideal.nD Cert.Reference2Ideal.τ).loc Cert.Reference2Ideal.main_arg3)) (m ((c.tc : Thread Cert.Reference2Ideal.nD Cert.Reference2Ideal.τ).loc Cert.Reference2Ideal.main_arg4)) (m ((c.tc : Thread Cert.Reference2Ideal.nD Cert.Reference2Ideal.τ).loc Cert.Reference2Ideal.main_arg5))).2.2.2.2.2 = (fun _ => 1#1)

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Kernel3Ideal_finite_out [hPre_finite_out : Cert.Pre_finite_out.Facts] (m : (ℓ : Loc Cert.Kernel3Ideal.nD Cert.Kernel3Ideal.τ Cert.Kernel3Ideal.sig) → Buf (Elt Ideal) ℓ) : Prop :=
  ∀ c : Dev Cert.Kernel3Ideal.nD,
    (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.1 = (fun _ => 1#1)
    ∧ (Cert.Pre_finite_out.fn (F := Ideal) (m ((c.tc : Thread Cert.Kernel3Ideal.nD Cert.Kernel3Ideal.τ).loc Cert.Kernel3Ideal.main_arg0)) (m ((c.tc : Thread Cert.Kernel3Ideal.nD Cert.Kernel3Ideal.τ).loc Cert.Kernel3Ideal.main_arg1)) (m ((c.tc : Thread Cert.Kernel3Ideal.nD Cert.Kernel3Ideal.τ).loc Cert.Kernel3Ideal.main_arg2)) (m ((c.tc : Thread Cert.Kernel3Ideal.nD Cert.Kernel3Ideal.τ).loc Cert.Kernel3Ideal.main_arg3)) (m ((c.tc : Thread Cert.Kernel3Ideal.nD Cert.Kernel3Ideal.τ).loc Cert.Kernel3Ideal.main_arg4)) (m ((c.tc : Thread Cert.Kernel3Ideal.nD Cert.Kernel3Ideal.τ).loc Cert.Kernel3Ideal.main_arg5))).2.2.2.2 = (fun _ => 1#1)

def Pre_Reference3Ideal (m : (ℓ : Loc Cert.Reference3Ideal.nD Cert.Reference3Ideal.τ Cert.Reference3Ideal.sig) → Buf (Elt Ideal) ℓ) : Prop :=
  True

def Pre_Reference3Ideal_finite_out [hPre_finite_out : Cert.Pre_finite_out.Facts] (m : (ℓ : Loc Cert.Reference3Ideal.nD Cert.Reference3Ideal.τ Cert.Reference3Ideal.sig) → Buf (Elt Ideal) ℓ) : Prop :=
  ∀ c : Dev Cert.Reference3Ideal.nD,
    (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.1 = (fun _ => 1#1)
    ∧ (Cert.Pre_finite_out.fn (F := Ideal) (m ((c.tc : Thread Cert.Reference3Ideal.nD Cert.Reference3Ideal.τ).loc Cert.Reference3Ideal.main_arg0)) (m ((c.tc : Thread Cert.Reference3Ideal.nD Cert.Reference3Ideal.τ).loc Cert.Reference3Ideal.main_arg1)) (m ((c.tc : Thread Cert.Reference3Ideal.nD Cert.Reference3Ideal.τ).loc Cert.Reference3Ideal.main_arg2)) (m ((c.tc : Thread Cert.Reference3Ideal.nD Cert.Reference3Ideal.τ).loc Cert.Reference3Ideal.main_arg3)) (m ((c.tc : Thread Cert.Reference3Ideal.nD Cert.Reference3Ideal.τ).loc Cert.Reference3Ideal.main_arg4)) (m ((c.tc : Thread Cert.Reference3Ideal.nD Cert.Reference3Ideal.τ).loc Cert.Reference3Ideal.main_arg5))).2.2.2.2 = (fun _ => 1#1)

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 (m : (ℓ : Loc Cert.Kernel8.nD Cert.Kernel8.τ Cert.Kernel8.sig) → Buf (Elt Bits) ℓ) : Prop :=
  True

def Pre_Kernel8Ideal (m : (ℓ : Loc Cert.Kernel8Ideal.nD Cert.Kernel8Ideal.τ Cert.Kernel8Ideal.sig) → Buf (Elt Ideal) ℓ) : Prop :=
  True

def Pre_Kernel8Ideal_finite_pool_fwd [hPre_finite_pool_fwd : Cert.Pre_finite_pool_fwd.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_finite_pool_fwd.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_finite_pool_fwd [hPre_finite_pool_fwd : Cert.Pre_finite_pool_fwd.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_finite_pool_fwd.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Kernel13Ideal_finite_rnn [hPre_finite_rnn : Cert.Pre_finite_rnn.Facts] (m : (ℓ : Loc Cert.Kernel13Ideal.nD Cert.Kernel13Ideal.τ Cert.Kernel13Ideal.sig) → Buf (Elt Ideal) ℓ) : Prop :=
  ∀ c : Dev Cert.Kernel13Ideal.nD,
    (Cert.Pre_finite_rnn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))).1 = (fun _ => 1#1)
    ∧ (Cert.Pre_finite_rnn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))).2.1 = (fun _ => 1#1)
    ∧ (Cert.Pre_finite_rnn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))).2.2.1 = (fun _ => 1#1)
    ∧ (Cert.Pre_finite_rnn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))).2.2.2.1 = (fun _ => 1#1)
    ∧ (Cert.Pre_finite_rnn.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))).2.2.2.2 = (fun _ => 1#1)

def Pre_Reference13Ideal (m : (ℓ : Loc Cert.Reference13Ideal.nD Cert.Reference13Ideal.τ Cert.Reference13Ideal.sig) → Buf (Elt Ideal) ℓ) : Prop :=
  True

def Pre_Reference13Ideal_finite_rnn [hPre_finite_rnn : Cert.Pre_finite_rnn.Facts] (m : (ℓ : Loc Cert.Reference13Ideal.nD Cert.Reference13Ideal.τ Cert.Reference13Ideal.sig) → Buf (Elt Ideal) ℓ) : Prop :=
  ∀ c : Dev Cert.Reference13Ideal.nD,
    (Cert.Pre_finite_rnn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9))).1 = (fun _ => 1#1)
    ∧ (Cert.Pre_finite_rnn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9))).2.1 = (fun _ => 1#1)
    ∧ (Cert.Pre_finite_rnn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9))).2.2.1 = (fun _ => 1#1)
    ∧ (Cert.Pre_finite_rnn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9))).2.2.2.1 = (fun _ => 1#1)
    ∧ (Cert.Pre_finite_rnn.fn (F := Ideal) (m ((c.tc : Thread Cert.Reference13Ideal.nD Cert.Reference13Ideal.τ).loc Cert.Reference13Ideal.main_arg0)) (m ((c.tc : Thread Cert.Reference13Ideal.nD Cert.Reference13Ideal.τ).loc Cert.Reference13Ideal.main_arg1)) (m ((c.tc : Thread Cert.Reference13Ideal.nD Cert.Reference13Ideal.τ).loc Cert.Reference13Ideal.main_arg2)) (m ((c.tc : Thread Cert.Reference13Ideal.nD Cert.Reference13Ideal.τ).loc Cert.Reference13Ideal.main_arg3)) (m ((c.tc : Thread Cert.Reference13Ideal.nD Cert.Reference13Ideal.τ).loc Cert.Reference13Ideal.main_arg4)) (m ((c.tc : Thread Cert.Reference13Ideal.nD Cert.Reference13Ideal.τ).loc Cert.Reference13Ideal.main_arg5)) (m ((c.tc : Thread Cert.Reference13Ideal.nD Cert.Reference13Ideal.τ).loc Cert.Reference13Ideal.main_arg6)) (m ((c.tc : Thread Cert.Reference13Ideal.nD Cert.Reference13Ideal.τ).loc Cert.Reference13Ideal.main_arg7)) (m ((c.tc : Thread Cert.Reference13Ideal.nD Cert.Reference13Ideal.τ).loc Cert.Reference13Ideal.main_arg8)) (m ((c.tc : Thread Cert.Reference13Ideal.nD Cert.Reference13Ideal.τ).loc Cert.Reference13Ideal.main_arg9))).2.2.2.2 = (fun _ => 1#1)

def Pre_Kernel14 (m : (ℓ : Loc Cert.Kernel14.nD Cert.Kernel14.τ Cert.Kernel14.sig) → Buf (Elt Bits) ℓ) : Prop :=
  True

def Pre_Kernel14Ideal (m : (ℓ : Loc Cert.Kernel14Ideal.nD Cert.Kernel14Ideal.τ Cert.Kernel14Ideal.sig) → Buf (Elt Ideal) ℓ) : Prop :=
  True

def Pre_Reference14Ideal (m : (ℓ : Loc Cert.Reference14Ideal.nD Cert.Reference14Ideal.τ Cert.Reference14Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Kernel2Ideal_pre_finite_pool [hKernel2Ideal : Cert.Kernel2Ideal.Facts] [hPre_finite_pool : Cert.Pre_finite_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal_finite_pool m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Reference2Ideal_pre_finite_pool [hReference2Ideal : Cert.Reference2Ideal.Facts] [hPre_finite_pool : Cert.Pre_finite_pool.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal_finite_pool m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Kernel3Ideal_pre_finite_out [hKernel3Ideal : Cert.Kernel3Ideal.Facts] [hPre_finite_out : Cert.Pre_finite_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal_finite_out m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Reference3Ideal_pre_finite_out [hReference3Ideal : Cert.Reference3Ideal.Facts] [hPre_finite_out : Cert.Pre_finite_out.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal_finite_out m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3)
      ∧ r.2.mem ((c.tc : Thread Cert.Kernel4.nD Cert.Kernel4.τ).loc Cert.Kernel4.main_arg4) = m ((c.tc : Thread Cert.Kernel4.nD Cert.Kernel4.τ).loc Cert.Kernel4.main_arg4))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
      ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3)
      ∧ r.2.mem ((c.tc : Thread Cert.Reference4Ideal.nD Cert.Reference4Ideal.τ).loc Cert.Reference4Ideal.main_arg4) = m ((c.tc : Thread Cert.Reference4Ideal.nD Cert.Reference4Ideal.τ).loc Cert.Reference4Ideal.main_arg4))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3)
      ∧ r.2.mem ((c.tc : Thread Cert.Kernel5.nD Cert.Kernel5.τ).loc Cert.Kernel5.main_arg4) = m ((c.tc : Thread Cert.Kernel5.nD Cert.Kernel5.τ).loc Cert.Kernel5.main_arg4)
      ∧ r.2.mem ((c.tc : Thread Cert.Kernel5.nD Cert.Kernel5.τ).loc Cert.Kernel5.main_arg5) = m ((c.tc : Thread Cert.Kernel5.nD Cert.Kernel5.τ).loc Cert.Kernel5.main_arg5))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
      ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
      ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3)
      ∧ r.2.mem ((c.tc : Thread Cert.Reference5Ideal.nD Cert.Reference5Ideal.τ).loc Cert.Reference5Ideal.main_arg4) = m ((c.tc : Thread Cert.Reference5Ideal.nD Cert.Reference5Ideal.τ).loc Cert.Reference5Ideal.main_arg4)
      ∧ r.2.mem ((c.tc : Thread Cert.Reference5Ideal.nD Cert.Reference5Ideal.τ).loc Cert.Reference5Ideal.main_arg5) = m ((c.tc : Thread Cert.Reference5Ideal.nD Cert.Reference5Ideal.τ).loc Cert.Reference5Ideal.main_arg5))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3))
      ∧ r.2.sem = fun _ => 0)

def quiescent_Kernel8 [hKernel8 : Cert.Kernel8.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Kernel8Ideal_pre_finite_pool_fwd [hKernel8Ideal : Cert.Kernel8Ideal.Facts] [hPre_finite_pool_fwd : Cert.Pre_finite_pool_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal_finite_pool_fwd m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_finite_pool_fwd [hReference8Ideal : Cert.Reference8Ideal.Facts] [hPre_finite_pool_fwd : Cert.Pre_finite_pool_fwd.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_finite_pool_fwd m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2)
      ∧ r.2.mem ((c.tc : Thread Cert.Kernel9.nD Cert.Kernel9.τ).loc Cert.Kernel9.main_arg3) = m ((c.tc : Thread Cert.Kernel9.nD Cert.Kernel9.τ).loc Cert.Kernel9.main_arg3)
      ∧ r.2.mem ((c.tc : Thread Cert.Kernel9.nD Cert.Kernel9.τ).loc Cert.Kernel9.main_arg4) = m ((c.tc : Thread Cert.Kernel9.nD Cert.Kernel9.τ).loc Cert.Kernel9.main_arg4))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
      ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
      ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2)
      ∧ r.2.mem ((c.tc : Thread Cert.Reference9Ideal.nD Cert.Reference9Ideal.τ).loc Cert.Reference9Ideal.main_arg3) = m ((c.tc : Thread Cert.Reference9Ideal.nD Cert.Reference9Ideal.τ).loc Cert.Reference9Ideal.main_arg3)
      ∧ r.2.mem ((c.tc : Thread Cert.Reference9Ideal.nD Cert.Reference9Ideal.τ).loc Cert.Reference9Ideal.main_arg4) = m ((c.tc : Thread Cert.Reference9Ideal.nD Cert.Reference9Ideal.τ).loc Cert.Reference9Ideal.main_arg4))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3)
      ∧ r.2.mem ((c.tc : Thread Cert.Kernel10.nD Cert.Kernel10.τ).loc Cert.Kernel10.main_arg4) = m ((c.tc : Thread Cert.Kernel10.nD Cert.Kernel10.τ).loc Cert.Kernel10.main_arg4)
      ∧ r.2.mem ((c.tc : Thread Cert.Kernel10.nD Cert.Kernel10.τ).loc Cert.Kernel10.main_arg5) = m ((c.tc : Thread Cert.Kernel10.nD Cert.Kernel10.τ).loc Cert.Kernel10.main_arg5)
      ∧ r.2.mem ((c.tc : Thread Cert.Kernel10.nD Cert.Kernel10.τ).loc Cert.Kernel10.main_arg6) = m ((c.tc : Thread Cert.Kernel10.nD Cert.Kernel10.τ).loc Cert.Kernel10.main_arg6)
      ∧ r.2.mem ((c.tc : Thread Cert.Kernel10.nD Cert.Kernel10.τ).loc Cert.Kernel10.main_arg7) = m ((c.tc : Thread Cert.Kernel10.nD Cert.Kernel10.τ).loc Cert.Kernel10.main_arg7)
      ∧ r.2.mem ((c.tc : Thread Cert.Kernel10.nD Cert.Kernel10.τ).loc Cert.Kernel10.main_arg8) = m ((c.tc : Thread Cert.Kernel10.nD Cert.Kernel10.τ).loc Cert.Kernel10.main_arg8)
      ∧ r.2.mem ((c.tc : Thread Cert.Kernel10.nD Cert.Kernel10.τ).loc Cert.Kernel10.main_arg9) = m ((c.tc : Thread Cert.Kernel10.nD Cert.Kernel10.τ).loc Cert.Kernel10.main_arg9)
      ∧ r.2.mem ((c.tc : Thread Cert.Kernel10.nD Cert.Kernel10.τ).loc Cert.Kernel10.main_arg10) = m ((c.tc : Thread Cert.Kernel10.nD Cert.Kernel10.τ).loc Cert.Kernel10.main_arg10))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3)
      ∧ r.2.mem ((c.tc : Thread Cert.Kernel10Ideal.nD Cert.Kernel10Ideal.τ).loc Cert.Kernel10Ideal.main_arg4) = m ((c.tc : Thread Cert.Kernel10Ideal.nD Cert.Kernel10Ideal.τ).loc Cert.Kernel10Ideal.main_arg4)
      ∧ r.2.mem ((c.tc : Thread Cert.Kernel10Ideal.nD Cert.Kernel10Ideal.τ).loc Cert.Kernel10Ideal.main_arg5) = m ((c.tc : Thread Cert.Kernel10Ideal.nD Cert.Kernel10Ideal.τ).loc Cert.Kernel10Ideal.main_arg5)
      ∧ r.2.mem ((c.tc : Thread Cert.Kernel10Ideal.nD Cert.Kernel10Ideal.τ).loc Cert.Kernel10Ideal.main_arg6) = m ((c.tc : Thread Cert.Kernel10Ideal.nD Cert.Kernel10Ideal.τ).loc Cert.Kernel10Ideal.main_arg6)
      ∧ r.2.mem ((c.tc : Thread Cert.Kernel10Ideal.nD Cert.Kernel10Ideal.τ).loc Cert.Kernel10Ideal.main_arg7) = m ((c.tc : Thread Cert.Kernel10Ideal.nD Cert.Kernel10Ideal.τ).loc Cert.Kernel10Ideal.main_arg7)
      ∧ r.2.mem ((c.tc : Thread Cert.Kernel10Ideal.nD Cert.Kernel10Ideal.τ).loc Cert.Kernel10Ideal.main_arg8) = m ((c.tc : Thread Cert.Kernel10Ideal.nD Cert.Kernel10Ideal.τ).loc Cert.Kernel10Ideal.main_arg8)
      ∧ r.2.mem ((c.tc : Thread Cert.Kernel10Ideal.nD Cert.Kernel10Ideal.τ).loc Cert.Kernel10Ideal.main_arg9) = m ((c.tc : Thread Cert.Kernel10Ideal.nD Cert.Kernel10Ideal.τ).loc Cert.Kernel10Ideal.main_arg9)
      ∧ r.2.mem ((c.tc : Thread Cert.Kernel10Ideal.nD Cert.Kernel10Ideal.τ).loc Cert.Kernel10Ideal.main_arg10) = m ((c.tc : Thread Cert.Kernel10Ideal.nD Cert.Kernel10Ideal.τ).loc Cert.Kernel10Ideal.main_arg10))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1)
      ∧ r.2.mem ((c.tc : Thread Cert.Kernel11.nD Cert.Kernel11.τ).loc Cert.Kernel11.main_arg2) = m ((c.tc : Thread Cert.Kernel11.nD Cert.Kernel11.τ).loc Cert.Kernel11.main_arg2)
      ∧ r.2.mem ((c.tc : Thread Cert.Kernel11.nD Cert.Kernel11.τ).loc Cert.Kernel11.main_arg3) = m ((c.tc : Thread Cert.Kernel11.nD Cert.Kernel11.τ).loc Cert.Kernel11.main_arg3)
      ∧ r.2.mem ((c.tc : Thread Cert.Kernel11.nD Cert.Kernel11.τ).loc Cert.Kernel11.main_arg4) = m ((c.tc : Thread Cert.Kernel11.nD Cert.Kernel11.τ).loc Cert.Kernel11.main_arg4))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
      ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
      ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
      ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1)
      ∧ r.2.mem ((c.tc : Thread Cert.Reference11Ideal.nD Cert.Reference11Ideal.τ).loc Cert.Reference11Ideal.main_arg2) = m ((c.tc : Thread Cert.Reference11Ideal.nD Cert.Reference11Ideal.τ).loc Cert.Reference11Ideal.main_arg2)
      ∧ r.2.mem ((c.tc : Thread Cert.Reference11Ideal.nD Cert.Reference11Ideal.τ).loc Cert.Reference11Ideal.main_arg3) = m ((c.tc : Thread Cert.Reference11Ideal.nD Cert.Reference11Ideal.τ).loc Cert.Reference11Ideal.main_arg3)
      ∧ r.2.mem ((c.tc : Thread Cert.Reference11Ideal.nD Cert.Reference11Ideal.τ).loc Cert.Reference11Ideal.main_arg4) = m ((c.tc : Thread Cert.Reference11Ideal.nD Cert.Reference11Ideal.τ).loc Cert.Reference11Ideal.main_arg4))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1)
      ∧ r.2.mem ((c.tc : Thread Cert.Kernel13.nD Cert.Kernel13.τ).loc Cert.Kernel13.main_arg2) = m ((c.tc : Thread Cert.Kernel13.nD Cert.Kernel13.τ).loc Cert.Kernel13.main_arg2)
      ∧ r.2.mem ((c.tc : Thread Cert.Kernel13.nD Cert.Kernel13.τ).loc Cert.Kernel13.main_arg3) = m ((c.tc : Thread Cert.Kernel13.nD Cert.Kernel13.τ).loc Cert.Kernel13.main_arg3)
      ∧ r.2.mem ((c.tc : Thread Cert.Kernel13.nD Cert.Kernel13.τ).loc Cert.Kernel13.main_arg4) = m ((c.tc : Thread Cert.Kernel13.nD Cert.Kernel13.τ).loc Cert.Kernel13.main_arg4)
      ∧ r.2.mem ((c.tc : Thread Cert.Kernel13.nD Cert.Kernel13.τ).loc Cert.Kernel13.main_arg5) = m ((c.tc : Thread Cert.Kernel13.nD Cert.Kernel13.τ).loc Cert.Kernel13.main_arg5)
      ∧ r.2.mem ((c.tc : Thread Cert.Kernel13.nD Cert.Kernel13.τ).loc Cert.Kernel13.main_arg6) = m ((c.tc : Thread Cert.Kernel13.nD Cert.Kernel13.τ).loc Cert.Kernel13.main_arg6)
      ∧ r.2.mem ((c.tc : Thread Cert.Kernel13.nD Cert.Kernel13.τ).loc Cert.Kernel13.main_arg7) = m ((c.tc : Thread Cert.Kernel13.nD Cert.Kernel13.τ).loc Cert.Kernel13.main_arg7)
      ∧ r.2.mem ((c.tc : Thread Cert.Kernel13.nD Cert.Kernel13.τ).loc Cert.Kernel13.main_arg8) = m ((c.tc : Thread Cert.Kernel13.nD Cert.Kernel13.τ).loc Cert.Kernel13.main_arg8)
      ∧ r.2.mem ((c.tc : Thread Cert.Kernel13.nD Cert.Kernel13.τ).loc Cert.Kernel13.main_arg9) = m ((c.tc : Thread Cert.Kernel13.nD Cert.Kernel13.τ).loc Cert.Kernel13.main_arg9))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Kernel13Ideal_pre_finite_rnn [hKernel13Ideal : Cert.Kernel13Ideal.Facts] [hPre_finite_rnn : Cert.Pre_finite_rnn.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal_finite_rnn m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
      ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
      ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
      ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
      ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
      ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
      ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
      ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
      ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Reference13Ideal_pre_finite_rnn [hReference13Ideal : Cert.Reference13Ideal.Facts] [hPre_finite_rnn : Cert.Pre_finite_rnn.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal_finite_rnn m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1)
      ∧ r.2.mem ((c.tc : Thread Cert.Reference13Ideal.nD Cert.Reference13Ideal.τ).loc Cert.Reference13Ideal.main_arg2) = m ((c.tc : Thread Cert.Reference13Ideal.nD Cert.Reference13Ideal.τ).loc Cert.Reference13Ideal.main_arg2)
      ∧ r.2.mem ((c.tc : Thread Cert.Reference13Ideal.nD Cert.Reference13Ideal.τ).loc Cert.Reference13Ideal.main_arg3) = m ((c.tc : Thread Cert.Reference13Ideal.nD Cert.Reference13Ideal.τ).loc Cert.Reference13Ideal.main_arg3)
      ∧ r.2.mem ((c.tc : Thread Cert.Reference13Ideal.nD Cert.Reference13Ideal.τ).loc Cert.Reference13Ideal.main_arg4) = m ((c.tc : Thread Cert.Reference13Ideal.nD Cert.Reference13Ideal.τ).loc Cert.Reference13Ideal.main_arg4)
      ∧ r.2.mem ((c.tc : Thread Cert.Reference13Ideal.nD Cert.Reference13Ideal.τ).loc Cert.Reference13Ideal.main_arg5) = m ((c.tc : Thread Cert.Reference13Ideal.nD Cert.Reference13Ideal.τ).loc Cert.Reference13Ideal.main_arg5)
      ∧ r.2.mem ((c.tc : Thread Cert.Reference13Ideal.nD Cert.Reference13Ideal.τ).loc Cert.Reference13Ideal.main_arg6) = m ((c.tc : Thread Cert.Reference13Ideal.nD Cert.Reference13Ideal.τ).loc Cert.Reference13Ideal.main_arg6)
      ∧ r.2.mem ((c.tc : Thread Cert.Reference13Ideal.nD Cert.Reference13Ideal.τ).loc Cert.Reference13Ideal.main_arg7) = m ((c.tc : Thread Cert.Reference13Ideal.nD Cert.Reference13Ideal.τ).loc Cert.Reference13Ideal.main_arg7)
      ∧ r.2.mem ((c.tc : Thread Cert.Reference13Ideal.nD Cert.Reference13Ideal.τ).loc Cert.Reference13Ideal.main_arg8) = m ((c.tc : Thread Cert.Reference13Ideal.nD Cert.Reference13Ideal.τ).loc Cert.Reference13Ideal.main_arg8)
      ∧ r.2.mem ((c.tc : Thread Cert.Reference13Ideal.nD Cert.Reference13Ideal.τ).loc Cert.Reference13Ideal.main_arg9) = m ((c.tc : Thread Cert.Reference13Ideal.nD Cert.Reference13Ideal.τ).loc Cert.Reference13Ideal.main_arg9))
      ∧ r.2.sem = fun _ => 0)

def quiescent_Kernel14 [hKernel14 : Cert.Kernel14.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3)
      ∧ r.2.mem ((c.tc : Thread Cert.Kernel14.nD Cert.Kernel14.τ).loc Cert.Kernel14.main_arg4) = m ((c.tc : Thread Cert.Kernel14.nD Cert.Kernel14.τ).loc Cert.Kernel14.main_arg4)
      ∧ r.2.mem ((c.tc : Thread Cert.Kernel14.nD Cert.Kernel14.τ).loc Cert.Kernel14.main_arg5) = m ((c.tc : Thread Cert.Kernel14.nD Cert.Kernel14.τ).loc Cert.Kernel14.main_arg5)
      ∧ r.2.mem ((c.tc : Thread Cert.Kernel14.nD Cert.Kernel14.τ).loc Cert.Kernel14.main_arg6) = m ((c.tc : Thread Cert.Kernel14.nD Cert.Kernel14.τ).loc Cert.Kernel14.main_arg6)
      ∧ r.2.mem ((c.tc : Thread Cert.Kernel14.nD Cert.Kernel14.τ).loc Cert.Kernel14.main_arg7) = m ((c.tc : Thread Cert.Kernel14.nD Cert.Kernel14.τ).loc Cert.Kernel14.main_arg7))
      ∧ r.2.sem = fun _ => 0)

def quiescent_Kernel14Ideal [hKernel14Ideal : Cert.Kernel14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
      ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
      ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
      ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
      ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3)
      ∧ r.2.mem ((c.tc : Thread Cert.Reference14Ideal.nD Cert.Reference14Ideal.τ).loc Cert.Reference14Ideal.main_arg4) = m ((c.tc : Thread Cert.Reference14Ideal.nD Cert.Reference14Ideal.τ).loc Cert.Reference14Ideal.main_arg4)
      ∧ r.2.mem ((c.tc : Thread Cert.Reference14Ideal.nD Cert.Reference14Ideal.τ).loc Cert.Reference14Ideal.main_arg5) = m ((c.tc : Thread Cert.Reference14Ideal.nD Cert.Reference14Ideal.τ).loc Cert.Reference14Ideal.main_arg5)
      ∧ r.2.mem ((c.tc : Thread Cert.Reference14Ideal.nD Cert.Reference14Ideal.τ).loc Cert.Reference14Ideal.main_arg6) = m ((c.tc : Thread Cert.Reference14Ideal.nD Cert.Reference14Ideal.τ).loc Cert.Reference14Ideal.main_arg6)
      ∧ r.2.mem ((c.tc : Thread Cert.Reference14Ideal.nD Cert.Reference14Ideal.τ).loc Cert.Reference14Ideal.main_arg7) = m ((c.tc : Thread Cert.Reference14Ideal.nD Cert.Reference14Ideal.τ).loc Cert.Reference14Ideal.main_arg7))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v13_0)) (v1 : (c : Dev Cert.KernelIdeal.nD) → Buf (Elt Ideal) ((c.tc : Thread Cert.KernelIdeal.nD Cert.KernelIdeal.τ).loc Cert.KernelIdeal.main_v13_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13_0) = v0 c
          ∧ r.2.mem ((c.tc : Thread Cert.KernelIdeal.nD Cert.KernelIdeal.τ).loc Cert.KernelIdeal.main_v13_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v62) = v0 c
          ∧ r.2.mem ((c.tc : Thread Cert.ReferenceIdeal.nD Cert.ReferenceIdeal.τ).loc Cert.ReferenceIdeal.main_v65) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal_pre_finite_pool [hKernel2Ideal : Cert.Kernel2Ideal.Facts] [hReference2Ideal : Cert.Reference2Ideal.Facts] [hPre_finite_pool : Cert.Pre_finite_pool.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal_finite_pool m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)) →
    ∃ (v0 : (c : Dev Cert.Kernel2Ideal.nD) → Buf (Elt Ideal) ((c.tc : Thread Cert.Kernel2Ideal.nD Cert.Kernel2Ideal.τ).loc Cert.Kernel2Ideal.main_v16_0)) (v1 : (c : Dev Cert.Kernel2Ideal.nD) → Buf (Elt Ideal) ((c.tc : Thread Cert.Kernel2Ideal.nD Cert.Kernel2Ideal.τ).loc Cert.Kernel2Ideal.main_v16_1)) (v2 : (c : Dev Cert.Kernel2Ideal.nD) → Buf (Elt Ideal) ((c.tc : Thread Cert.Kernel2Ideal.nD Cert.Kernel2Ideal.τ).loc Cert.Kernel2Ideal.main_v16_2)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v16_0) = v0 c
          ∧ r.2.mem ((c.tc : Thread Cert.Kernel2Ideal.nD Cert.Kernel2Ideal.τ).loc Cert.Kernel2Ideal.main_v16_1) = v1 c
          ∧ r.2.mem ((c.tc : Thread Cert.Kernel2Ideal.nD Cert.Kernel2Ideal.τ).loc Cert.Kernel2Ideal.main_v16_2) = v2 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v157) = v0 c
          ∧ r.2.mem ((c.tc : Thread Cert.Reference2Ideal.nD Cert.Reference2Ideal.τ).loc Cert.Reference2Ideal.main_v158) = v1 c
          ∧ r.2.mem ((c.tc : Thread Cert.Reference2Ideal.nD Cert.Reference2Ideal.τ).loc Cert.Reference2Ideal.main_v162) = v2 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5))

def preserves_Kernel3_Kernel3Ideal : Prop :=
  True

def algebraic_Kernel3Ideal_Reference3Ideal_pre_finite_out [hKernel3Ideal : Cert.Kernel3Ideal.Facts] [hReference3Ideal : Cert.Reference3Ideal.Facts] [hPre_finite_out : Cert.Pre_finite_out.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal_finite_out m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)) →
    ∃ (v0 : (c : Dev Cert.Kernel3Ideal.nD) → Buf (Elt Ideal) ((c.tc : Thread Cert.Kernel3Ideal.nD Cert.Kernel3Ideal.τ).loc Cert.Kernel3Ideal.main_v14_0)) (v1 : (c : Dev Cert.Kernel3Ideal.nD) → Buf (Elt Ideal) ((c.tc : Thread Cert.Kernel3Ideal.nD Cert.Kernel3Ideal.τ).loc Cert.Kernel3Ideal.main_v14_1)) (v2 : (c : Dev Cert.Kernel3Ideal.nD) → Buf (Elt Ideal) ((c.tc : Thread Cert.Kernel3Ideal.nD Cert.Kernel3Ideal.τ).loc Cert.Kernel3Ideal.main_v14_2)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v14_0) = v0 c
          ∧ r.2.mem ((c.tc : Thread Cert.Kernel3Ideal.nD Cert.Kernel3Ideal.τ).loc Cert.Kernel3Ideal.main_v14_1) = v1 c
          ∧ r.2.mem ((c.tc : Thread Cert.Kernel3Ideal.nD Cert.Kernel3Ideal.τ).loc Cert.Kernel3Ideal.main_v14_2) = v2 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v55) = v0 c
          ∧ r.2.mem ((c.tc : Thread Cert.Reference3Ideal.nD Cert.Reference3Ideal.τ).loc Cert.Reference3Ideal.main_v57) = v1 c
          ∧ r.2.mem ((c.tc : Thread Cert.Reference3Ideal.nD Cert.Reference3Ideal.τ).loc Cert.Reference3Ideal.main_v60) = v2 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)
      ∧ m' ((c.tc : Thread Cert.Reference4Ideal.nD Cert.Reference4Ideal.τ).loc Cert.Reference4Ideal.main_arg4) = m ((c.tc : Thread Cert.Kernel4Ideal.nD Cert.Kernel4Ideal.τ).loc Cert.Kernel4Ideal.main_arg4)) →
    ∃ (v0 : (c : Dev Cert.Kernel4Ideal.nD) → Buf (Elt Ideal) ((c.tc : Thread Cert.Kernel4Ideal.nD Cert.Kernel4Ideal.τ).loc Cert.Kernel4Ideal.main_v9)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v9) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3)
          ∧ r.2.mem ((c.tc : Thread Cert.Kernel4Ideal.nD Cert.Kernel4Ideal.τ).loc Cert.Kernel4Ideal.main_arg4) = m ((c.tc : Thread Cert.Kernel4Ideal.nD Cert.Kernel4Ideal.τ).loc Cert.Kernel4Ideal.main_arg4))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v29) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3)
          ∧ r.2.mem ((c.tc : Thread Cert.Reference4Ideal.nD Cert.Reference4Ideal.τ).loc Cert.Reference4Ideal.main_arg4) = m' ((c.tc : Thread Cert.Reference4Ideal.nD Cert.Reference4Ideal.τ).loc Cert.Reference4Ideal.main_arg4))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)
      ∧ m' ((c.tc : Thread Cert.Reference5Ideal.nD Cert.Reference5Ideal.τ).loc Cert.Reference5Ideal.main_arg4) = m ((c.tc : Thread Cert.Kernel5Ideal.nD Cert.Kernel5Ideal.τ).loc Cert.Kernel5Ideal.main_arg4)
      ∧ m' ((c.tc : Thread Cert.Reference5Ideal.nD Cert.Reference5Ideal.τ).loc Cert.Reference5Ideal.main_arg5) = m ((c.tc : Thread Cert.Kernel5Ideal.nD Cert.Kernel5Ideal.τ).loc Cert.Kernel5Ideal.main_arg5)) →
    ∃ (v0 : (c : Dev Cert.Kernel5Ideal.nD) → Buf (Elt Ideal) ((c.tc : Thread Cert.Kernel5Ideal.nD Cert.Kernel5Ideal.τ).loc Cert.Kernel5Ideal.main_v11_0)) (v1 : (c : Dev Cert.Kernel5Ideal.nD) → Buf (Elt Ideal) ((c.tc : Thread Cert.Kernel5Ideal.nD Cert.Kernel5Ideal.τ).loc Cert.Kernel5Ideal.main_v11_1)) (v2 : (c : Dev Cert.Kernel5Ideal.nD) → Buf (Elt Ideal) ((c.tc : Thread Cert.Kernel5Ideal.nD Cert.Kernel5Ideal.τ).loc Cert.Kernel5Ideal.main_v11_2)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v11_0) = v0 c
          ∧ r.2.mem ((c.tc : Thread Cert.Kernel5Ideal.nD Cert.Kernel5Ideal.τ).loc Cert.Kernel5Ideal.main_v11_1) = v1 c
          ∧ r.2.mem ((c.tc : Thread Cert.Kernel5Ideal.nD Cert.Kernel5Ideal.τ).loc Cert.Kernel5Ideal.main_v11_2) = v2 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3)
          ∧ r.2.mem ((c.tc : Thread Cert.Kernel5Ideal.nD Cert.Kernel5Ideal.τ).loc Cert.Kernel5Ideal.main_arg4) = m ((c.tc : Thread Cert.Kernel5Ideal.nD Cert.Kernel5Ideal.τ).loc Cert.Kernel5Ideal.main_arg4)
          ∧ r.2.mem ((c.tc : Thread Cert.Kernel5Ideal.nD Cert.Kernel5Ideal.τ).loc Cert.Kernel5Ideal.main_arg5) = m ((c.tc : Thread Cert.Kernel5Ideal.nD Cert.Kernel5Ideal.τ).loc Cert.Kernel5Ideal.main_arg5))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v37) = v0 c
          ∧ r.2.mem ((c.tc : Thread Cert.Reference5Ideal.nD Cert.Reference5Ideal.τ).loc Cert.Reference5Ideal.main_v38) = v1 c
          ∧ r.2.mem ((c.tc : Thread Cert.Reference5Ideal.nD Cert.Reference5Ideal.τ).loc Cert.Reference5Ideal.main_v40) = v2 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3)
          ∧ r.2.mem ((c.tc : Thread Cert.Reference5Ideal.nD Cert.Reference5Ideal.τ).loc Cert.Reference5Ideal.main_arg4) = m' ((c.tc : Thread Cert.Reference5Ideal.nD Cert.Reference5Ideal.τ).loc Cert.Reference5Ideal.main_arg4)
          ∧ r.2.mem ((c.tc : Thread Cert.Reference5Ideal.nD Cert.Reference5Ideal.τ).loc Cert.Reference5Ideal.main_arg5) = m' ((c.tc : Thread Cert.Reference5Ideal.nD Cert.Reference5Ideal.τ).loc Cert.Reference5Ideal.main_arg5))

def preserves_Kernel6_Kernel6Ideal : Prop :=
  True

def algebraic_Kernel6Ideal_Reference6Ideal_on_written [hKernel6Ideal : Cert.Kernel6Ideal.Facts] [hReference6Ideal : Cert.Reference6Ideal.Facts] [hOn_written : Cert.On_written.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)) →
    ∃ (v0 : (c : Dev Cert.Kernel6Ideal.nD) → Buf (Elt Ideal) ((c.tc : Thread Cert.Kernel6Ideal.nD Cert.Kernel6Ideal.τ).loc Cert.Kernel6Ideal.main_v16_0)) (v1 : (c : Dev Cert.Kernel6Ideal.nD) → Buf (Elt Ideal) ((c.tc : Thread Cert.Kernel6Ideal.nD Cert.Kernel6Ideal.τ).loc Cert.Kernel6Ideal.main_v16_1)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          (∀ i : (⟨2, ![4096, 2048]⟩ : Shape).Idx, (Cert.On_written.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 i = 1#1 → r.2.mem ((c.tc : Thread Cert.Kernel6Ideal.nD Cert.Kernel6Ideal.τ).loc Cert.Kernel6Ideal.main_v16_0) i = v0 c i)
          ∧ (∀ i : (⟨2, ![4096, 1024]⟩ : Shape).Idx, (Cert.On_written.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2 i = 1#1 → r.2.mem ((c.tc : Thread Cert.Kernel6Ideal.nD Cert.Kernel6Ideal.τ).loc Cert.Kernel6Ideal.main_v16_1) i = v1 c i)
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          (∀ i : (⟨2, ![4096, 2048]⟩ : Shape).Idx, (Cert.On_written.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).1 i = 1#1 → r.2.mem ((c.tc : Thread Cert.Reference6Ideal.nD Cert.Reference6Ideal.τ).loc Cert.Reference6Ideal.main_v83) i = v0 c i)
          ∧ (∀ i : (⟨2, ![4096, 1024]⟩ : Shape).Idx, (Cert.On_written.fn (F := Ideal) (m ((c.tc : Thread Cert.Kernel6Ideal.nD Cert.Kernel6Ideal.τ).loc Cert.Kernel6Ideal.main_arg0)) (m ((c.tc : Thread Cert.Kernel6Ideal.nD Cert.Kernel6Ideal.τ).loc Cert.Kernel6Ideal.main_arg1)) (m ((c.tc : Thread Cert.Kernel6Ideal.nD Cert.Kernel6Ideal.τ).loc Cert.Kernel6Ideal.main_arg2)) (m ((c.tc : Thread Cert.Kernel6Ideal.nD Cert.Kernel6Ideal.τ).loc Cert.Kernel6Ideal.main_arg3)) (m ((c.tc : Thread Cert.Kernel6Ideal.nD Cert.Kernel6Ideal.τ).loc Cert.Kernel6Ideal.main_arg4)) (m ((c.tc : Thread Cert.Kernel6Ideal.nD Cert.Kernel6Ideal.τ).loc Cert.Kernel6Ideal.main_arg5)) (m ((c.tc : Thread Cert.Kernel6Ideal.nD Cert.Kernel6Ideal.τ).loc Cert.Kernel6Ideal.main_arg6)) (m ((c.tc : Thread Cert.Kernel6Ideal.nD Cert.Kernel6Ideal.τ).loc Cert.Kernel6Ideal.main_arg7)) (m ((c.tc : Thread Cert.Kernel6Ideal.nD Cert.Kernel6Ideal.τ).loc Cert.Kernel6Ideal.main_arg8))).2 i = 1#1 → r.2.mem ((c.tc : Thread Cert.Reference6Ideal.nD Cert.Reference6Ideal.τ).loc Cert.Reference6Ideal.main_v84) i = v1 c i)
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)) →
    ∃ (v0 : (c : Dev Cert.Kernel7Ideal.nD) → Buf (Elt Ideal) ((c.tc : Thread Cert.Kernel7Ideal.nD Cert.Kernel7Ideal.τ).loc Cert.Kernel7Ideal.main_v8)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v8) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v26) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3))

def preserves_Kernel8_Kernel8Ideal : Prop :=
  True

def algebraic_Kernel8Ideal_Reference8Ideal_pre_finite_pool_fwd [hKernel8Ideal : Cert.Kernel8Ideal.Facts] [hReference8Ideal : Cert.Reference8Ideal.Facts] [hPre_finite_pool_fwd : Cert.Pre_finite_pool_fwd.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal_finite_pool_fwd m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v14)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v14) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v79) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)
      ∧ m' ((c.tc : Thread Cert.Reference9Ideal.nD Cert.Reference9Ideal.τ).loc Cert.Reference9Ideal.main_arg3) = m ((c.tc : Thread Cert.Kernel9Ideal.nD Cert.Kernel9Ideal.τ).loc Cert.Kernel9Ideal.main_arg3)
      ∧ m' ((c.tc : Thread Cert.Reference9Ideal.nD Cert.Reference9Ideal.τ).loc Cert.Reference9Ideal.main_arg4) = m ((c.tc : Thread Cert.Kernel9Ideal.nD Cert.Kernel9Ideal.τ).loc Cert.Kernel9Ideal.main_arg4)) →
    ∃ (v0 : (c : Dev Cert.Kernel9Ideal.nD) → Buf (Elt Ideal) ((c.tc : Thread Cert.Kernel9Ideal.nD Cert.Kernel9Ideal.τ).loc Cert.Kernel9Ideal.main_v10_0)) (v1 : (c : Dev Cert.Kernel9Ideal.nD) → Buf (Elt Ideal) ((c.tc : Thread Cert.Kernel9Ideal.nD Cert.Kernel9Ideal.τ).loc Cert.Kernel9Ideal.main_v10_1)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v10_0) = v0 c
          ∧ r.2.mem ((c.tc : Thread Cert.Kernel9Ideal.nD Cert.Kernel9Ideal.τ).loc Cert.Kernel9Ideal.main_v10_1) = v1 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2)
          ∧ r.2.mem ((c.tc : Thread Cert.Kernel9Ideal.nD Cert.Kernel9Ideal.τ).loc Cert.Kernel9Ideal.main_arg3) = m ((c.tc : Thread Cert.Kernel9Ideal.nD Cert.Kernel9Ideal.τ).loc Cert.Kernel9Ideal.main_arg3)
          ∧ r.2.mem ((c.tc : Thread Cert.Kernel9Ideal.nD Cert.Kernel9Ideal.τ).loc Cert.Kernel9Ideal.main_arg4) = m ((c.tc : Thread Cert.Kernel9Ideal.nD Cert.Kernel9Ideal.τ).loc Cert.Kernel9Ideal.main_arg4))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v22) = v0 c
          ∧ r.2.mem ((c.tc : Thread Cert.Reference9Ideal.nD Cert.Reference9Ideal.τ).loc Cert.Reference9Ideal.main_v23) = v1 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2)
          ∧ r.2.mem ((c.tc : Thread Cert.Reference9Ideal.nD Cert.Reference9Ideal.τ).loc Cert.Reference9Ideal.main_arg3) = m' ((c.tc : Thread Cert.Reference9Ideal.nD Cert.Reference9Ideal.τ).loc Cert.Reference9Ideal.main_arg3)
          ∧ r.2.mem ((c.tc : Thread Cert.Reference9Ideal.nD Cert.Reference9Ideal.τ).loc Cert.Reference9Ideal.main_arg4) = m' ((c.tc : Thread Cert.Reference9Ideal.nD Cert.Reference9Ideal.τ).loc Cert.Reference9Ideal.main_arg4))

def preserves_Kernel10_Kernel10Ideal : Prop :=
  True

def preserves_Kernel11_Kernel11Ideal : Prop :=
  True

def algebraic_Kernel11Ideal_Reference11Ideal_on_last_layer [hKernel11Ideal : Cert.Kernel11Ideal.Facts] [hReference11Ideal : Cert.Reference11Ideal.Facts] [hOn_last_layer : Cert.On_last_layer.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)
      ∧ m' ((c.tc : Thread Cert.Reference11Ideal.nD Cert.Reference11Ideal.τ).loc Cert.Reference11Ideal.main_arg2) = m ((c.tc : Thread Cert.Kernel11Ideal.nD Cert.Kernel11Ideal.τ).loc Cert.Kernel11Ideal.main_arg2)
      ∧ m' ((c.tc : Thread Cert.Reference11Ideal.nD Cert.Reference11Ideal.τ).loc Cert.Reference11Ideal.main_arg3) = m ((c.tc : Thread Cert.Kernel11Ideal.nD Cert.Kernel11Ideal.τ).loc Cert.Kernel11Ideal.main_arg3)
      ∧ m' ((c.tc : Thread Cert.Reference11Ideal.nD Cert.Reference11Ideal.τ).loc Cert.Reference11Ideal.main_arg4) = m ((c.tc : Thread Cert.Kernel11Ideal.nD Cert.Kernel11Ideal.τ).loc Cert.Kernel11Ideal.main_arg4)) →
    ∃ (v0 : (c : Dev Cert.Kernel11Ideal.nD) → Buf (Elt Ideal) ((c.tc : Thread Cert.Kernel11Ideal.nD Cert.Kernel11Ideal.τ).loc Cert.Kernel11Ideal.main_v5_0)) (v1 : (c : Dev Cert.Kernel11Ideal.nD) → Buf (Elt Ideal) ((c.tc : Thread Cert.Kernel11Ideal.nD Cert.Kernel11Ideal.τ).loc Cert.Kernel11Ideal.main_v5_1)) (v2 : (c : Dev Cert.Kernel11Ideal.nD) → Buf (Elt Ideal) ((c.tc : Thread Cert.Kernel11Ideal.nD Cert.Kernel11Ideal.τ).loc Cert.Kernel11Ideal.main_v5_2)) (v3 : (c : Dev Cert.Kernel11Ideal.nD) → Buf (Elt Ideal) ((c.tc : Thread Cert.Kernel11Ideal.nD Cert.Kernel11Ideal.τ).loc Cert.Kernel11Ideal.main_v5_3)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 i = 1#1 → r.2.mem ((c.tc : Thread Cert.Kernel11Ideal.nD Cert.Kernel11Ideal.τ).loc Cert.Kernel11Ideal.main_v5_0) i = v0 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 i = 1#1 → r.2.mem ((c.tc : Thread Cert.Kernel11Ideal.nD Cert.Kernel11Ideal.τ).loc Cert.Kernel11Ideal.main_v5_1) i = v1 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 i = 1#1 → r.2.mem ((c.tc : Thread Cert.Kernel11Ideal.nD Cert.Kernel11Ideal.τ).loc Cert.Kernel11Ideal.main_v5_2) i = v2 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2 i = 1#1 → r.2.mem ((c.tc : Thread Cert.Kernel11Ideal.nD Cert.Kernel11Ideal.τ).loc Cert.Kernel11Ideal.main_v5_3) i = v3 c i)
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1)
          ∧ r.2.mem ((c.tc : Thread Cert.Kernel11Ideal.nD Cert.Kernel11Ideal.τ).loc Cert.Kernel11Ideal.main_arg2) = m ((c.tc : Thread Cert.Kernel11Ideal.nD Cert.Kernel11Ideal.τ).loc Cert.Kernel11Ideal.main_arg2)
          ∧ r.2.mem ((c.tc : Thread Cert.Kernel11Ideal.nD Cert.Kernel11Ideal.τ).loc Cert.Kernel11Ideal.main_arg3) = m ((c.tc : Thread Cert.Kernel11Ideal.nD Cert.Kernel11Ideal.τ).loc Cert.Kernel11Ideal.main_arg3)
          ∧ r.2.mem ((c.tc : Thread Cert.Kernel11Ideal.nD Cert.Kernel11Ideal.τ).loc Cert.Kernel11Ideal.main_arg4) = m ((c.tc : Thread Cert.Kernel11Ideal.nD Cert.Kernel11Ideal.τ).loc Cert.Kernel11Ideal.main_arg4))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).1 i = 1#1 → r.2.mem ((c.tc : Thread Cert.Reference11Ideal.nD Cert.Reference11Ideal.τ).loc Cert.Reference11Ideal.main_v32) i = v0 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.1 i = 1#1 → r.2.mem ((c.tc : Thread Cert.Reference11Ideal.nD Cert.Reference11Ideal.τ).loc Cert.Reference11Ideal.main_v33) i = v1 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.1 i = 1#1 → r.2.mem ((c.tc : Thread Cert.Reference11Ideal.nD Cert.Reference11Ideal.τ).loc Cert.Reference11Ideal.main_v34) i = v2 c i)
          ∧ (∀ i : (⟨2, ![2048, 1024]⟩ : Shape).Idx, (Cert.On_last_layer.fn (F := Ideal) (m ((c.tc : Thread Cert.Kernel11Ideal.nD Cert.Kernel11Ideal.τ).loc Cert.Kernel11Ideal.main_arg0)) (m ((c.tc : Thread Cert.Kernel11Ideal.nD Cert.Kernel11Ideal.τ).loc Cert.Kernel11Ideal.main_arg1)) (m ((c.tc : Thread Cert.Kernel11Ideal.nD Cert.Kernel11Ideal.τ).loc Cert.Kernel11Ideal.main_arg2)) (m ((c.tc : Thread Cert.Kernel11Ideal.nD Cert.Kernel11Ideal.τ).loc Cert.Kernel11Ideal.main_arg3)) (m ((c.tc : Thread Cert.Kernel11Ideal.nD Cert.Kernel11Ideal.τ).loc Cert.Kernel11Ideal.main_arg4))).2.2.2 i = 1#1 → r.2.mem ((c.tc : Thread Cert.Reference11Ideal.nD Cert.Reference11Ideal.τ).loc Cert.Reference11Ideal.main_v35) i = v3 c i)
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1)
          ∧ r.2.mem ((c.tc : Thread Cert.Reference11Ideal.nD Cert.Reference11Ideal.τ).loc Cert.Reference11Ideal.main_arg2) = m' ((c.tc : Thread Cert.Reference11Ideal.nD Cert.Reference11Ideal.τ).loc Cert.Reference11Ideal.main_arg2)
          ∧ r.2.mem ((c.tc : Thread Cert.Reference11Ideal.nD Cert.Reference11Ideal.τ).loc Cert.Reference11Ideal.main_arg3) = m' ((c.tc : Thread Cert.Reference11Ideal.nD Cert.Reference11Ideal.τ).loc Cert.Reference11Ideal.main_arg3)
          ∧ r.2.mem ((c.tc : Thread Cert.Reference11Ideal.nD Cert.Reference11Ideal.τ).loc Cert.Reference11Ideal.main_arg4) = m' ((c.tc : Thread Cert.Reference11Ideal.nD Cert.Reference11Ideal.τ).loc Cert.Reference11Ideal.main_arg4))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)) →
    ∃ (v0 : (c : Dev Cert.Kernel12Ideal.nD) → Buf (Elt Ideal) ((c.tc : Thread Cert.Kernel12Ideal.nD Cert.Kernel12Ideal.τ).loc Cert.Kernel12Ideal.main_v1)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v1) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v1) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0))

def preserves_Kernel13_Kernel13Ideal : Prop :=
  True

def algebraic_Kernel13Ideal_Reference13Ideal_on_gate_plane_pre_finite_rnn [hKernel13Ideal : Cert.Kernel13Ideal.Facts] [hReference13Ideal : Cert.Reference13Ideal.Facts] [hPre_finite_rnn : Cert.Pre_finite_rnn.Facts] [hOn_gate_plane : Cert.On_gate_plane.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal_finite_rnn m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)
      ∧ m' ((c.tc : Thread Cert.Reference13Ideal.nD Cert.Reference13Ideal.τ).loc Cert.Reference13Ideal.main_arg2) = m ((c.tc : Thread Cert.Kernel13Ideal.nD Cert.Kernel13Ideal.τ).loc Cert.Kernel13Ideal.main_arg2)
      ∧ m' ((c.tc : Thread Cert.Reference13Ideal.nD Cert.Reference13Ideal.τ).loc Cert.Reference13Ideal.main_arg3) = m ((c.tc : Thread Cert.Kernel13Ideal.nD Cert.Kernel13Ideal.τ).loc Cert.Kernel13Ideal.main_arg3)
      ∧ m' ((c.tc : Thread Cert.Reference13Ideal.nD Cert.Reference13Ideal.τ).loc Cert.Reference13Ideal.main_arg4) = m ((c.tc : Thread Cert.Kernel13Ideal.nD Cert.Kernel13Ideal.τ).loc Cert.Kernel13Ideal.main_arg4)
      ∧ m' ((c.tc : Thread Cert.Reference13Ideal.nD Cert.Reference13Ideal.τ).loc Cert.Reference13Ideal.main_arg5) = m ((c.tc : Thread Cert.Kernel13Ideal.nD Cert.Kernel13Ideal.τ).loc Cert.Kernel13Ideal.main_arg5)
      ∧ m' ((c.tc : Thread Cert.Reference13Ideal.nD Cert.Reference13Ideal.τ).loc Cert.Reference13Ideal.main_arg6) = m ((c.tc : Thread Cert.Kernel13Ideal.nD Cert.Kernel13Ideal.τ).loc Cert.Kernel13Ideal.main_arg6)
      ∧ m' ((c.tc : Thread Cert.Reference13Ideal.nD Cert.Reference13Ideal.τ).loc Cert.Reference13Ideal.main_arg7) = m ((c.tc : Thread Cert.Kernel13Ideal.nD Cert.Kernel13Ideal.τ).loc Cert.Kernel13Ideal.main_arg7)
      ∧ m' ((c.tc : Thread Cert.Reference13Ideal.nD Cert.Reference13Ideal.τ).loc Cert.Reference13Ideal.main_arg8) = m ((c.tc : Thread Cert.Kernel13Ideal.nD Cert.Kernel13Ideal.τ).loc Cert.Kernel13Ideal.main_arg8)
      ∧ m' ((c.tc : Thread Cert.Reference13Ideal.nD Cert.Reference13Ideal.τ).loc Cert.Reference13Ideal.main_arg9) = m ((c.tc : Thread Cert.Kernel13Ideal.nD Cert.Kernel13Ideal.τ).loc Cert.Kernel13Ideal.main_arg9)) →
    ∃ (v0 : (c : Dev Cert.Kernel13Ideal.nD) → Buf (Elt Ideal) ((c.tc : Thread Cert.Kernel13Ideal.nD Cert.Kernel13Ideal.τ).loc Cert.Kernel13Ideal.main_v205_0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          (∀ i : (⟨3, ![4, 4096, 1024]⟩ : Shape).Idx, (Cert.On_gate_plane.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))) i = 1#1 → r.2.mem ((c.tc : Thread Cert.Kernel13Ideal.nD Cert.Kernel13Ideal.τ).loc Cert.Kernel13Ideal.main_v205_0) i = v0 c i)
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1)
          ∧ r.2.mem ((c.tc : Thread Cert.Kernel13Ideal.nD Cert.Kernel13Ideal.τ).loc Cert.Kernel13Ideal.main_arg2) = m ((c.tc : Thread Cert.Kernel13Ideal.nD Cert.Kernel13Ideal.τ).loc Cert.Kernel13Ideal.main_arg2)
          ∧ r.2.mem ((c.tc : Thread Cert.Kernel13Ideal.nD Cert.Kernel13Ideal.τ).loc Cert.Kernel13Ideal.main_arg3) = m ((c.tc : Thread Cert.Kernel13Ideal.nD Cert.Kernel13Ideal.τ).loc Cert.Kernel13Ideal.main_arg3)
          ∧ r.2.mem ((c.tc : Thread Cert.Kernel13Ideal.nD Cert.Kernel13Ideal.τ).loc Cert.Kernel13Ideal.main_arg4) = m ((c.tc : Thread Cert.Kernel13Ideal.nD Cert.Kernel13Ideal.τ).loc Cert.Kernel13Ideal.main_arg4)
          ∧ r.2.mem ((c.tc : Thread Cert.Kernel13Ideal.nD Cert.Kernel13Ideal.τ).loc Cert.Kernel13Ideal.main_arg5) = m ((c.tc : Thread Cert.Kernel13Ideal.nD Cert.Kernel13Ideal.τ).loc Cert.Kernel13Ideal.main_arg5)
          ∧ r.2.mem ((c.tc : Thread Cert.Kernel13Ideal.nD Cert.Kernel13Ideal.τ).loc Cert.Kernel13Ideal.main_arg6) = m ((c.tc : Thread Cert.Kernel13Ideal.nD Cert.Kernel13Ideal.τ).loc Cert.Kernel13Ideal.main_arg6)
          ∧ r.2.mem ((c.tc : Thread Cert.Kernel13Ideal.nD Cert.Kernel13Ideal.τ).loc Cert.Kernel13Ideal.main_arg7) = m ((c.tc : Thread Cert.Kernel13Ideal.nD Cert.Kernel13Ideal.τ).loc Cert.Kernel13Ideal.main_arg7)
          ∧ r.2.mem ((c.tc : Thread Cert.Kernel13Ideal.nD Cert.Kernel13Ideal.τ).loc Cert.Kernel13Ideal.main_arg8) = m ((c.tc : Thread Cert.Kernel13Ideal.nD Cert.Kernel13Ideal.τ).loc Cert.Kernel13Ideal.main_arg8)
          ∧ r.2.mem ((c.tc : Thread Cert.Kernel13Ideal.nD Cert.Kernel13Ideal.τ).loc Cert.Kernel13Ideal.main_arg9) = m ((c.tc : Thread Cert.Kernel13Ideal.nD Cert.Kernel13Ideal.τ).loc Cert.Kernel13Ideal.main_arg9))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          (∀ i : (⟨3, ![4, 4096, 1024]⟩ : Shape).Idx, (Cert.On_gate_plane.fn (F := Ideal) (m ((c.tc : Thread Cert.Kernel13Ideal.nD Cert.Kernel13Ideal.τ).loc Cert.Kernel13Ideal.main_arg0)) (m ((c.tc : Thread Cert.Kernel13Ideal.nD Cert.Kernel13Ideal.τ).loc Cert.Kernel13Ideal.main_arg1)) (m ((c.tc : Thread Cert.Kernel13Ideal.nD Cert.Kernel13Ideal.τ).loc Cert.Kernel13Ideal.main_arg2)) (m ((c.tc : Thread Cert.Kernel13Ideal.nD Cert.Kernel13Ideal.τ).loc Cert.Kernel13Ideal.main_arg3)) (m ((c.tc : Thread Cert.Kernel13Ideal.nD Cert.Kernel13Ideal.τ).loc Cert.Kernel13Ideal.main_arg4)) (m ((c.tc : Thread Cert.Kernel13Ideal.nD Cert.Kernel13Ideal.τ).loc Cert.Kernel13Ideal.main_arg5)) (m ((c.tc : Thread Cert.Kernel13Ideal.nD Cert.Kernel13Ideal.τ).loc Cert.Kernel13Ideal.main_arg6)) (m ((c.tc : Thread Cert.Kernel13Ideal.nD Cert.Kernel13Ideal.τ).loc Cert.Kernel13Ideal.main_arg7)) (m ((c.tc : Thread Cert.Kernel13Ideal.nD Cert.Kernel13Ideal.τ).loc Cert.Kernel13Ideal.main_arg8)) (m ((c.tc : Thread Cert.Kernel13Ideal.nD Cert.Kernel13Ideal.τ).loc Cert.Kernel13Ideal.main_arg9))) i = 1#1 → r.2.mem ((c.tc : Thread Cert.Reference13Ideal.nD Cert.Reference13Ideal.τ).loc Cert.Reference13Ideal.main_v85) i = v0 c i)
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1)
          ∧ r.2.mem ((c.tc : Thread Cert.Reference13Ideal.nD Cert.Reference13Ideal.τ).loc Cert.Reference13Ideal.main_arg2) = m' ((c.tc : Thread Cert.Reference13Ideal.nD Cert.Reference13Ideal.τ).loc Cert.Reference13Ideal.main_arg2)
          ∧ r.2.mem ((c.tc : Thread Cert.Reference13Ideal.nD Cert.Reference13Ideal.τ).loc Cert.Reference13Ideal.main_arg3) = m' ((c.tc : Thread Cert.Reference13Ideal.nD Cert.Reference13Ideal.τ).loc Cert.Reference13Ideal.main_arg3)
          ∧ r.2.mem ((c.tc : Thread Cert.Reference13Ideal.nD Cert.Reference13Ideal.τ).loc Cert.Reference13Ideal.main_arg4) = m' ((c.tc : Thread Cert.Reference13Ideal.nD Cert.Reference13Ideal.τ).loc Cert.Reference13Ideal.main_arg4)
          ∧ r.2.mem ((c.tc : Thread Cert.Reference13Ideal.nD Cert.Reference13Ideal.τ).loc Cert.Reference13Ideal.main_arg5) = m' ((c.tc : Thread Cert.Reference13Ideal.nD Cert.Reference13Ideal.τ).loc Cert.Reference13Ideal.main_arg5)
          ∧ r.2.mem ((c.tc : Thread Cert.Reference13Ideal.nD Cert.Reference13Ideal.τ).loc Cert.Reference13Ideal.main_arg6) = m' ((c.tc : Thread Cert.Reference13Ideal.nD Cert.Reference13Ideal.τ).loc Cert.Reference13Ideal.main_arg6)
          ∧ r.2.mem ((c.tc : Thread Cert.Reference13Ideal.nD Cert.Reference13Ideal.τ).loc Cert.Reference13Ideal.main_arg7) = m' ((c.tc : Thread Cert.Reference13Ideal.nD Cert.Reference13Ideal.τ).loc Cert.Reference13Ideal.main_arg7)
          ∧ r.2.mem ((c.tc : Thread Cert.Reference13Ideal.nD Cert.Reference13Ideal.τ).loc Cert.Reference13Ideal.main_arg8) = m' ((c.tc : Thread Cert.Reference13Ideal.nD Cert.Reference13Ideal.τ).loc Cert.Reference13Ideal.main_arg8)
          ∧ r.2.mem ((c.tc : Thread Cert.Reference13Ideal.nD Cert.Reference13Ideal.τ).loc Cert.Reference13Ideal.main_arg9) = m' ((c.tc : Thread Cert.Reference13Ideal.nD Cert.Reference13Ideal.τ).loc Cert.Reference13Ideal.main_arg9))

def preserves_Kernel14_Kernel14Ideal : Prop :=
  True

def algebraic_Kernel14Ideal_Reference14Ideal [hKernel14Ideal : Cert.Kernel14Ideal.Facts] [hReference14Ideal : Cert.Reference14Ideal.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)
      ∧ m' ((c.tc : Thread Cert.Reference14Ideal.nD Cert.Reference14Ideal.τ).loc Cert.Reference14Ideal.main_arg4) = m ((c.tc : Thread Cert.Kernel14Ideal.nD Cert.Kernel14Ideal.τ).loc Cert.Kernel14Ideal.main_arg4)
      ∧ m' ((c.tc : Thread Cert.Reference14Ideal.nD Cert.Reference14Ideal.τ).loc Cert.Reference14Ideal.main_arg5) = m ((c.tc : Thread Cert.Kernel14Ideal.nD Cert.Kernel14Ideal.τ).loc Cert.Kernel14Ideal.main_arg5)
      ∧ m' ((c.tc : Thread Cert.Reference14Ideal.nD Cert.Reference14Ideal.τ).loc Cert.Reference14Ideal.main_arg6) = m ((c.tc : Thread Cert.Kernel14Ideal.nD Cert.Kernel14Ideal.τ).loc Cert.Kernel14Ideal.main_arg6)
      ∧ m' ((c.tc : Thread Cert.Reference14Ideal.nD Cert.Reference14Ideal.τ).loc Cert.Reference14Ideal.main_arg7) = m ((c.tc : Thread Cert.Kernel14Ideal.nD Cert.Kernel14Ideal.τ).loc Cert.Kernel14Ideal.main_arg7)) →
    ∃ (v0 : (c : Dev Cert.Kernel14Ideal.nD) → Buf (Elt Ideal) ((c.tc : Thread Cert.Kernel14Ideal.nD Cert.Kernel14Ideal.τ).loc Cert.Kernel14Ideal.main_v0_0)) (v1 : (c : Dev Cert.Kernel14Ideal.nD) → Buf (Elt Ideal) ((c.tc : Thread Cert.Kernel14Ideal.nD Cert.Kernel14Ideal.τ).loc Cert.Kernel14Ideal.main_v0_1)) (v2 : (c : Dev Cert.Kernel14Ideal.nD) → Buf (Elt Ideal) ((c.tc : Thread Cert.Kernel14Ideal.nD Cert.Kernel14Ideal.τ).loc Cert.Kernel14Ideal.main_v0_2)) (v3 : (c : Dev Cert.Kernel14Ideal.nD) → Buf (Elt Ideal) ((c.tc : Thread Cert.Kernel14Ideal.nD Cert.Kernel14Ideal.τ).loc Cert.Kernel14Ideal.main_v0_3)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0_0) = v0 c
          ∧ r.2.mem ((c.tc : Thread Cert.Kernel14Ideal.nD Cert.Kernel14Ideal.τ).loc Cert.Kernel14Ideal.main_v0_1) = v1 c
          ∧ r.2.mem ((c.tc : Thread Cert.Kernel14Ideal.nD Cert.Kernel14Ideal.τ).loc Cert.Kernel14Ideal.main_v0_2) = v2 c
          ∧ r.2.mem ((c.tc : Thread Cert.Kernel14Ideal.nD Cert.Kernel14Ideal.τ).loc Cert.Kernel14Ideal.main_v0_3) = v3 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3)
          ∧ r.2.mem ((c.tc : Thread Cert.Kernel14Ideal.nD Cert.Kernel14Ideal.τ).loc Cert.Kernel14Ideal.main_arg4) = m ((c.tc : Thread Cert.Kernel14Ideal.nD Cert.Kernel14Ideal.τ).loc Cert.Kernel14Ideal.main_arg4)
          ∧ r.2.mem ((c.tc : Thread Cert.Kernel14Ideal.nD Cert.Kernel14Ideal.τ).loc Cert.Kernel14Ideal.main_arg5) = m ((c.tc : Thread Cert.Kernel14Ideal.nD Cert.Kernel14Ideal.τ).loc Cert.Kernel14Ideal.main_arg5)
          ∧ r.2.mem ((c.tc : Thread Cert.Kernel14Ideal.nD Cert.Kernel14Ideal.τ).loc Cert.Kernel14Ideal.main_arg6) = m ((c.tc : Thread Cert.Kernel14Ideal.nD Cert.Kernel14Ideal.τ).loc Cert.Kernel14Ideal.main_arg6)
          ∧ r.2.mem ((c.tc : Thread Cert.Kernel14Ideal.nD Cert.Kernel14Ideal.τ).loc Cert.Kernel14Ideal.main_arg7) = m ((c.tc : Thread Cert.Kernel14Ideal.nD Cert.Kernel14Ideal.τ).loc Cert.Kernel14Ideal.main_arg7))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v14) = v0 c
          ∧ r.2.mem ((c.tc : Thread Cert.Reference14Ideal.nD Cert.Reference14Ideal.τ).loc Cert.Reference14Ideal.main_v43) = v1 c
          ∧ r.2.mem ((c.tc : Thread Cert.Reference14Ideal.nD Cert.Reference14Ideal.τ).loc Cert.Reference14Ideal.main_v28) = v2 c
          ∧ r.2.mem ((c.tc : Thread Cert.Reference14Ideal.nD Cert.Reference14Ideal.τ).loc Cert.Reference14Ideal.main_v57) = v3 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3)
          ∧ r.2.mem ((c.tc : Thread Cert.Reference14Ideal.nD Cert.Reference14Ideal.τ).loc Cert.Reference14Ideal.main_arg4) = m' ((c.tc : Thread Cert.Reference14Ideal.nD Cert.Reference14Ideal.τ).loc Cert.Reference14Ideal.main_arg4)
          ∧ r.2.mem ((c.tc : Thread Cert.Reference14Ideal.nD Cert.Reference14Ideal.τ).loc Cert.Reference14Ideal.main_arg5) = m' ((c.tc : Thread Cert.Reference14Ideal.nD Cert.Reference14Ideal.τ).loc Cert.Reference14Ideal.main_arg5)
          ∧ r.2.mem ((c.tc : Thread Cert.Reference14Ideal.nD Cert.Reference14Ideal.τ).loc Cert.Reference14Ideal.main_arg6) = m' ((c.tc : Thread Cert.Reference14Ideal.nD Cert.Reference14Ideal.τ).loc Cert.Reference14Ideal.main_arg6)
          ∧ r.2.mem ((c.tc : Thread Cert.Reference14Ideal.nD Cert.Reference14Ideal.τ).loc Cert.Reference14Ideal.main_arg7) = m' ((c.tc : Thread Cert.Reference14Ideal.nD Cert.Reference14Ideal.τ).loc Cert.Reference14Ideal.main_arg7))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hPre_finite : Cert.Pre_finite.Facts) (hPre_finite_pool : Cert.Pre_finite_pool.Facts) (hPre_finite_out : Cert.Pre_finite_out.Facts) (hPre_finite_pool_fwd : Cert.Pre_finite_pool_fwd.Facts) (hPre_finite_rnn : Cert.Pre_finite_rnn.Facts) (hOn_written : Cert.On_written.Facts) (hOn_last_layer : Cert.On_last_layer.Facts) (hOn_gate_plane : Cert.On_gate_plane.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Kernel2Ideal_pre_finite_pool (hKernel2Ideal := hKernel2Ideal) (hPre_finite_pool := hPre_finite_pool)
    ∧ quiescent_Reference2Ideal (hReference2Ideal := hReference2Ideal)
    ∧ quiescent_Reference2Ideal_pre_finite_pool (hReference2Ideal := hReference2Ideal) (hPre_finite_pool := hPre_finite_pool)
    ∧ quiescent_Kernel3 (hKernel3 := hKernel3)
    ∧ quiescent_Kernel3Ideal (hKernel3Ideal := hKernel3Ideal)
    ∧ quiescent_Kernel3Ideal_pre_finite_out (hKernel3Ideal := hKernel3Ideal) (hPre_finite_out := hPre_finite_out)
    ∧ quiescent_Reference3Ideal (hReference3Ideal := hReference3Ideal)
    ∧ quiescent_Reference3Ideal_pre_finite_out (hReference3Ideal := hReference3Ideal) (hPre_finite_out := hPre_finite_out)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8)
    ∧ quiescent_Kernel8Ideal (hKernel8Ideal := hKernel8Ideal)
    ∧ quiescent_Kernel8Ideal_pre_finite_pool_fwd (hKernel8Ideal := hKernel8Ideal) (hPre_finite_pool_fwd := hPre_finite_pool_fwd)
    ∧ quiescent_Reference8Ideal (hReference8Ideal := hReference8Ideal)
    ∧ quiescent_Reference8Ideal_pre_finite_pool_fwd (hReference8Ideal := hReference8Ideal) (hPre_finite_pool_fwd := hPre_finite_pool_fwd)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Kernel13Ideal_pre_finite_rnn (hKernel13Ideal := hKernel13Ideal) (hPre_finite_rnn := hPre_finite_rnn)
    ∧ quiescent_Reference13Ideal (hReference13Ideal := hReference13Ideal)
    ∧ quiescent_Reference13Ideal_pre_finite_rnn (hReference13Ideal := hReference13Ideal) (hPre_finite_rnn := hPre_finite_rnn)
    ∧ quiescent_Kernel14 (hKernel14 := hKernel14)
    ∧ quiescent_Kernel14Ideal (hKernel14Ideal := hKernel14Ideal)
    ∧ quiescent_Reference14Ideal (hReference14Ideal := hReference14Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal_pre_finite_pool (hKernel2Ideal := hKernel2Ideal) (hReference2Ideal := hReference2Ideal) (hPre_finite_pool := hPre_finite_pool)
    ∧ preserves_Kernel3_Kernel3Ideal
    ∧ algebraic_Kernel3Ideal_Reference3Ideal_pre_finite_out (hKernel3Ideal := hKernel3Ideal) (hReference3Ideal := hReference3Ideal) (hPre_finite_out := hPre_finite_out)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal_on_written (hKernel6Ideal := hKernel6Ideal) (hReference6Ideal := hReference6Ideal) (hOn_written := hOn_written)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal_pre_finite_pool_fwd (hKernel8Ideal := hKernel8Ideal) (hReference8Ideal := hReference8Ideal) (hPre_finite_pool_fwd := hPre_finite_pool_fwd)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ preserves_Kernel11_Kernel11Ideal
    ∧ algebraic_Kernel11Ideal_Reference11Ideal_on_last_layer (hKernel11Ideal := hKernel11Ideal) (hReference11Ideal := hReference11Ideal) (hOn_last_layer := hOn_last_layer)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal_on_gate_plane_pre_finite_rnn (hKernel13Ideal := hKernel13Ideal) (hReference13Ideal := hReference13Ideal) (hPre_finite_rnn := hPre_finite_rnn) (hOn_gate_plane := hOn_gate_plane)
    ∧ preserves_Kernel14_Kernel14Ideal
    ∧ algebraic_Kernel14Ideal_Reference14Ideal (hKernel14Ideal := hKernel14Ideal) (hReference14Ideal := hReference14Ideal)
-- ==== On_gate_plane.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S4x4096x1024 : Shape := ⟨3, ![4, 4096, 1024]⟩
abbrev S_ : Shape := ⟨0, ![]⟩

class Facts : Prop where
  bcast_S_S4x4096x1024 : S_.BroadcastsInDim S4x4096x1024 (![] : Fin 0 → Fin S4x4096x1024.rank)

variable [Facts]

def fn {F : FTy → Type} [FloatOps F] (main_arg0 : FVec F S1x4096x1024 .f32) (main_arg1 : FVec F S1x4096x1024 .f32) (main_arg2 : FVec F S4x1024 .f32) (main_arg3 : FVec F S1024 .f32) (main_arg4 : FVec F S8x128x128 .f32) (main_arg5 : FVec F S8x128 .f32) (main_arg6 : FVec F S8x128x128 .f32) (main_arg7 : FVec F S8x128 .f32) (main_arg8 : FVec F S1024 .f32) (main_arg9 : FVec F S1x4096x1024 .f32) : IVec S4x4096x1024 1 :=
  let main_v0 : IVec S4x4096x1024 32 := iotaInDim S4x4096x1024 32 0
  let main_c : IVec S_ 32 := constantI S_ 32 1#32
  let main_v1 : IVec S4x4096x1024 32 := broadcastInDim S4x4096x1024 ![] bcast_S_S4x4096x1024 main_c
  let main_v2 : IVec S4x4096x1024 1 := cmpi .eq main_v0 main_v1
  main_v2
-- ==== On_last_layer.lean ====
abbrev S2x1024x1024 : Shape := ⟨3, ![2, 1024, 1024]⟩
abbrev S1024x1024 : Shape := ⟨2, ![1024, 1024]⟩
abbrev S2048x1024 : Shape := ⟨2, ![2048, 1024]⟩
abbrev S_ : Shape := ⟨0, ![]⟩

class Facts : Prop where
  bcast_S_S2048x1024 : S_.BroadcastsInDim S2048x1024 (![] : Fin 0 → Fin S2048x1024.rank)

variable [Facts]

def fn {F : FTy → Type} [FloatOps F] (main_arg0 : FVec F S2x1024x1024 .f32) (main_arg1 : FVec F S2x1024x1024 .f32) (main_arg2 : FVec F S2x1024x1024 .f32) (main_arg3 : FVec F S1024x1024 .f32) (main_arg4 : FVec F S1024x1024 .f32) : IVec S2048x1024 1 × IVec S2048x1024 1 × IVec S2048x1024 1 × IVec S2048x1024 1 :=
  let main_v0 : IVec S2048x1024 32 := iotaInDim S2048x1024 32 0
  let main_c : IVec S_ 32 := constantI S_ 32 1024#32
  let main_v1 : IVec S2048x1024 32 := broadcastInDim S2048x1024 ![] bcast_S_S2048x1024 main_c
  let main_v2 : IVec S2048x1024 1 := cmpi .sge main_v0 main_v1
  (main_v2, main_v2, main_v2, main_v2)
-- ==== On_written.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S4096x2048 : Shape := ⟨2, ![4096, 2048]⟩
abbrev S_ : Shape := ⟨0, ![]⟩
abbrev S4096x1024 : Shape := ⟨2, ![4096, 1024]⟩

class Facts : Prop where
  bcast_S_S4096x2048 : S_.BroadcastsInDim S4096x2048 (![] : Fin 0 → Fin S4096x2048.rank)
  bcast_S_S4096x1024 : S_.BroadcastsInDim S4096x1024 (![] : Fin 0 → Fin S4096x1024.rank)

variable [Facts]

def fn {F : FTy → Type} [FloatOps F] (main_arg0 : FVec F S1x4096x1024 .f32) (main_arg1 : FVec F S1x4096x1024 .f32) (main_arg2 : FVec F S4x1024 .f32) (main_arg3 : FVec F S1024 .f32) (main_arg4 : FVec F S8x128x128 .f32) (main_arg5 : FVec F S8x128 .f32) (main_arg6 : FVec F S8x128x128 .f32) (main_arg7 : FVec F S8x128 .f32) (main_arg8 : FVec F S1024 .f32) : IVec S4096x2048 1 × IVec S4096x1024 1 :=
  let main_v0 : IVec S4096x2048 32 := iotaInDim S4096x2048 32 1
  let main_c : IVec S_ 32 := constantI S_ 32 1024#32
  let main_v1 : IVec S4096x2048 32 := broadcastInDim S4096x2048 ![] bcast_S_S4096x2048 main_c
  let main_v2 : IVec S4096x2048 1 := cmpi .slt main_v0 main_v1
  let main_v3 : IVec S4096x1024 32 := iotaInDim S4096x1024 32 1
  let main_c_0 : IVec S_ 32 := constantI S_ 32 1024#32
  let main_v4 : IVec S4096x1024 32 := broadcastInDim S4096x1024 ![] bcast_S_S4096x1024 main_c_0
  let main_v5 : IVec S4096x1024 1 := cmpi .slt main_v3 main_v4
  (main_v2, main_v5)
-- ==== Pre_finite.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x4096x4096 : Shape := ⟨3, ![1, 4096, 4096]⟩
abbrev S1x1024 : Shape := ⟨2, ![1, 1024]⟩
abbrev S_ : Shape := ⟨0, ![]⟩

class Facts : Prop where
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x4096x1024 : S_.BroadcastsInDim S1x4096x1024 (![] : Fin 0 → Fin S1x4096x1024.rank)
  bcast_S_S1x1024 : S_.BroadcastsInDim S1x1024 (![] : Fin 0 → Fin S1x1024.rank)
  bcast_S_S1024 : S_.BroadcastsInDim S1024 (![] : Fin 0 → Fin S1024.rank)
  bcast_S_S1024x4096 : S_.BroadcastsInDim S1024x4096 (![] : Fin 0 → Fin S1024x4096.rank)
  bcast_S_S1x4096x4096 : S_.BroadcastsInDim S1x4096x4096 (![] : Fin 0 → Fin S1x4096x4096.rank)

variable [Facts]

def fn {F : FTy → Type} [FloatOps F] (main_arg0 : FVec F S1x4096x1024 .f32) (main_arg1 : FVec F S1x3072 .f32) (main_arg2 : FVec F S1024 .f32) (main_arg3 : FVec F S1024x4096 .f32) (main_arg4 : FVec F S1x4096x4096 .f32) (main_arg5 : FVec F S1x4096x1024 .f32) : IVec S1x4096x1024 1 × IVec S1x1024 1 × IVec S1024 1 × IVec S1024x4096 1 × IVec S1x4096x4096 1 :=
  let main_v0 : FVec F S1x1024 .f32 := (extractStridedSlice S1x1024 ![0, 0] · slices_S1x3072_S1x1024_0_0) main_arg1
  let main_v1 : FVec F S1x1024 .f32 := (extractStridedSlice S1x1024 ![0, 1024] · slices_S1x3072_S1x1024_0_1024) main_arg1
  let main_v2 : FVec F S1x1024 .f32 := (extractStridedSlice S1x1024 ![0, 2048] · slices_S1x3072_S1x1024_0_2048) main_arg1
  let main_v3 : FVec F S1x4096x1024 .f32 := Host.absf main_arg0
  let main_cst : FVec F S_ .f32 := constant S_ .f32 0x7F800000#32
  let main_v4 : FVec F S1x4096x1024 .f32 := broadcastInDim S1x4096x1024 ![] bcast_S_S1x4096x1024 main_cst
  let main_v5 : IVec S1x4096x1024 1 := cmpf .olt main_v3 main_v4
  let main_v6 : FVec F S1x1024 .f32 := Host.absf main_v1
  let main_cst_0 : FVec F S_ .f32 := constant S_ .f32 0x7F800000#32
  let main_v7 : FVec F S1x1024 .f32 := broadcastInDim S1x1024 ![] bcast_S_S1x1024 main_cst_0
  let main_v8 : IVec S1x1024 1 := cmpf .olt main_v6 main_v7
  let main_v9 : FVec F S1024 .f32 := Host.absf main_arg2
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : FVec F S1024x4096 .f32 := Host.absf main_arg3
  let main_cst_2 : FVec F S_ .f32 := constant S_ .f32 0x7F800000#32
  let main_v13 : FVec F S1024x4096 .f32 := broadcastInDim S1024x4096 ![] bcast_S_S1024x4096 main_cst_2
  let main_v14 : IVec S1024x4096 1 := cmpf .olt main_v12 main_v13
  let main_v15 : FVec F S1x4096x4096 .f32 := Host.absf main_arg4
  let main_cst_3 : FVec F S_ .f32 := constant S_ .f32 0x7F800000#32
  let main_v16 : FVec F S1x4096x4096 .f32 := broadcastInDim S1x4096x4096 ![] bcast_S_S1x4096x4096 main_cst_3
  let main_v17 : IVec S1x4096x4096 1 := cmpf .olt main_v15 main_v16
  (main_v5, main_v8, main_v11, main_v14, main_v17)
-- ==== Pre_finite_out.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S1x1024 : Shape := ⟨2, ![1, 1024]⟩
abbrev S_ : Shape := ⟨0, ![]⟩

class Facts : Prop where
  slices_S1x3072_S1x1024_0_0 : S1x3072.Slices ![0, 0] S1x1024
  slices_S1x3072_S1x1024_0_1024 : S1x3072.Slices ![0, 1024] S1x1024
  slices_S1x3072_S1x1024_0_2048 : S1x3072.Slices ![0, 2048] S1x1024
  bcast_S_S1x4096x2048 : S_.BroadcastsInDim S1x4096x2048 (![] : Fin 0 → Fin S1x4096x2048.rank)
  bcast_S_S1x1024 : S_.BroadcastsInDim S1x1024 (![] : Fin 0 → Fin S1x1024.rank)
  bcast_S_S1024 : S_.BroadcastsInDim S1024 (![] : Fin 0 → Fin S1024.rank)
  bcast_S_S2048x1024 : S_.BroadcastsInDim S2048x1024 (![] : Fin 0 → Fin S2048x1024.rank)
  bcast_S_S1x4096x1024 : S_.BroadcastsInDim S1x4096x1024 (![] : Fin 0 → Fin S1x4096x1024.rank)

variable [Facts]

def fn {F : FTy → Type} [FloatOps F] (main_arg0 : FVec F S1x4096x1024 .f32) (main_arg1 : FVec F S1x4096x2048 .f32) (main_arg2 : FVec F S1x3072 .f32) (main_arg3 : FVec F S1024 .f32) (main_arg4 : FVec F S2048x1024 .f32) (main_arg5 : FVec F S1x4096x1024 .f32) : IVec S1x4096x2048 1 × IVec S1x1024 1 × IVec S1024 1 × IVec S2048x1024 1 × IVec S1x4096x1024 1 :=
  let main_v0 : FVec F S1x1024 .f32 := (extractStridedSlice S1x1024 ![0, 0] · slices_S1x3072_S1x1024_0_0) main_arg2
  let main_v1 : FVec F S1x1024 .f32 := (extractStridedSlice S1x1024 ![0, 1024] · slices_S1x3072_S1x1024_0_1024) main_arg2
  let main_v2 : FVec F S1x1024 .f32 := (extractStridedSlice S1x1024 ![0, 2048] · slices_S1x3072_S1x1024_0_2048) main_arg2
  let main_v3 : FVec F S1x4096x2048 .f32 := Host.absf main_arg1
  let main_cst : FVec F S_ .f32 := constant S_ .f32 0x7F800000#32
  let main_v4 : FVec F S1x4096x2048 .f32 := broadcastInDim S1x4096x2048 ![] bcast_S_S1x4096x2048 main_cst
  let main_v5 : IVec S1x4096x2048 1 := cmpf .olt main_v3 main_v4
  let main_v6 : FVec F S1x1024 .f32 := Host.absf main_v2
  let main_cst_0 : FVec F S_ .f32 := constant S_ .f32 0x7F800000#32
  let main_v7 : FVec F S1x1024 .f32 := broadcastInDim S1x1024 ![] bcast_S_S1x1024 main_cst_0
  let main_v8 : IVec S1x1024 1 := cmpf .olt main_v6 main_v7
  let main_v9 : FVec F S1024 .f32 := Host.absf main_arg3
  let main_cst_1 : FVec F S_ .f32 := constant S_ .f32 0x7F800000#32
  let main_v10 : FVec F S1024 .f32 := broadcastInDim S1024 ![] bcast_S_S1024 main_cst_1
  let main_v11 : IVec S1024 1 := cmpf .olt main_v9 main_v10
  let main_v12 : FVec F S2048x1024 .f32 := Host.absf main_arg4
  let main_cst_2 : FVec F S_ .f32 := constant S_ .f32 0x7F800000#32
  let main_v13 : FVec F S2048x1024 .f32 := broadcastInDim S2048x1024 ![] bcast_S_S2048x1024 main_cst_2
  let main_v14 : IVec S2048x1024 1 := cmpf .olt main_v12 main_v13
  let main_v15 : FVec F S1x4096x1024 .f32 := Host.absf main_arg5
  let main_cst_3 : FVec F S_ .f32 := constant S_ .f32 0x7F800000#32
  let main_v16 : FVec F S1x4096x1024 .f32 := broadcastInDim S1x4096x1024 ![] bcast_S_S1x4096x1024 main_cst_3
  let main_v17 : IVec S1x4096x1024 1 := cmpf .olt main_v15 main_v16
  (main_v5, main_v8, main_v11, main_v14, main_v17)
-- ==== Pre_finite_pool.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)
  bcast_S_S4x256x256 : S_.BroadcastsInDim S4x256x256 (![] : Fin 0 → Fin S4x256x256.rank)
  bcast_S_S4x256 : S_.BroadcastsInDim S4x256 (![] : Fin 0 → Fin S4x256.rank)
  bcast_S_S1024 : S_.BroadcastsInDim S1024 (![] : Fin 0 → Fin S1024.rank)

variable [Facts]

def fn {F : FTy → Type} [FloatOps F] (main_arg0 : FVec F S1x4096x1024 .f32) (main_arg1 : FVec F S1x4096x1024 .f32) (main_arg2 : FVec F S4x256x256 .f32) (main_arg3 : FVec F S4x256 .f32) (main_arg4 : FVec F S1024 .f32) (main_arg5 : FVec F S1x4096x1024 .f32) : IVec S1x4096x1024 1 × IVec S1x4096x1024 1 × IVec S4x256x256 1 × IVec S4x256 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S4x256x256 .f32 := Host.absf main_arg2
  let main_cst_1 : FVec F S_ .f32 := constant S_ .f32 0x7F800000#32
  let main_v7 : FVec F S4x256x256 .f32 := broadcastInDim S4x256x256 ![] bcast_S_S4x256x256 main_cst_1
  let main_v8 : IVec S4x256x256 1 := cmpf .olt main_v6 main_v7
  let main_v9 : FVec F S4x256 .f32 := Host.absf main_arg3
  let main_cst_2 : FVec F S_ .f32 := constant S_ .f32 0x7F800000#32
  let main_v10 : FVec F S4x256 .f32 := broadcastInDim S4x256 ![] bcast_S_S4x256 main_cst_2
  let main_v11 : IVec S4x256 1 := cmpf .olt main_v9 main_v10
  let main_v12 : FVec F S1024 .f32 := Host.absf main_arg4
  let main_cst_3 : FVec F S_ .f32 := constant S_ .f32 0x7F800000#32
  let main_v13 : FVec F S1024 .f32 := broadcastInDim S1024 ![] bcast_S_S1024 main_cst_3
  let main_v14 : IVec S1024 1 := cmpf .olt main_v12 main_v13
  let main_v15 : FVec F S1x4096x1024 .f32 := Host.absf main_arg5
  let main_cst_4 : FVec F S_ .f32 := constant S_ .f32 0x7F800000#32
  let main_v16 : FVec F S1x4096x1024 .f32 := broadcastInDim S1x4096x1024 ![] bcast_S_S1x4096x1024 main_cst_4
  let main_v17 : IVec S1x4096x1024 1 := cmpf .olt main_v15 main_v16
  (main_v2, main_v5, main_v8, main_v11, main_v14, main_v17)
-- ==== Pre_finite_pool_fwd.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S_ : Shape := ⟨0, ![]⟩

class Facts : Prop where
  bcast_S_S1x4096x1024 : S_.BroadcastsInDim S1x4096x1024 (![] : Fin 0 → Fin S1x4096x1024.rank)

variable [Facts]

def fn {F : FTy → Type} [FloatOps F] (main_arg0 : FVec F S1x4096x1024 .f32) (main_arg1 : FVec F S1x4096x1024 .f32) (main_arg2 : FVec F S4x256x256 .f32) (main_arg3 : FVec F S4x256 .f32) (main_arg4 : FVec F S1024 .f32) : IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  main_v2
-- ==== Pre_finite_rnn.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩

class Facts : Prop where
  bcast_S_S1x4096x1024 : S_.BroadcastsInDim S1x4096x1024 (![] : Fin 0 → Fin S1x4096x1024.rank)
  bcast_S_S4x1024 : S_.BroadcastsInDim S4x1024 (![] : Fin 0 → Fin S4x1024.rank)
  bcast_S_S1024 : S_.BroadcastsInDim S1024 (![] : Fin 0 → Fin S1024.rank)

variable [Facts]

def fn {F : FTy → Type} [FloatOps F] (main_arg0 : FVec F S1x4096x1024 .f32) (main_arg1 : FVec F S1x4096x1024 .f32) (main_arg2 : FVec F S4x1024 .f32) (main_arg3 : FVec F S1024 .f32) (main_arg4 : FVec F S8x128x128 .f32) (main_arg5 : FVec F S8x128 .f32) (main_arg6 : FVec F S8x128x128 .f32) (main_arg7 : FVec F S8x128 .f32) (main_arg8 : FVec F S1024 .f32) (main_arg9 : FVec F S1x4096x1024 .f32) : IVec S1x4096x1024 1 × IVec S1x4096x1024 1 × IVec S4x1024 1 × IVec S1024 1 × IVec S1x4096x1024 1 :=
  let main_v0 : FVec F S1x4096x1024 .f32 := Host.absf main_arg0
  let main_cst : FVec F S_ .f32 := constant S_ .f32 0x7F800000#32
  let main_v1 : FVec F S1x4096x1024 .f32 := broadcastInDim S1x4096x1024 ![] bcast_S_S1x4096x1024 main_cst
  let main_v2 : IVec S1x4096x1024 1 := cmpf .olt main_v0 main_v1
  let main_v3 : FVec F S1x4096x1024 .f32 := Host.absf main_arg1
  let main_cst_0 : FVec F S_ .f32 := constant S_ .f32 0x7F800000#32
  let main_v4 : FVec F S1x4096x1024 .f32 := broadcastInDim S1x4096x1024 ![] bcast_S_S1x4096x1024 main_cst_0
  let main_v5 : IVec S1x4096x1024 1 := cmpf .olt main_v3 main_v4
  let main_v6 : FVec F S4x1024 .f32 := Host.absf main_arg2
  let main_cst_1 : FVec F S_ .f32 := constant S_ .f32 0x7F800000#32
  let main_v7 : FVec F S4x1024 .f32 := broadcastInDim S4x1024 ![] bcast_S_S4x1024 main_cst_1
  let main_v8 : IVec S4x1024 1 := cmpf .olt main_v6 main_v7
  let main_v9 : FVec F S1024 .f32 := Host.absf main_arg3
  let main_cst_2 : FVec F S_ .f32 := constant S_ .f32 0x7F800000#32
  let main_v10 : FVec F S1024 .f32 := broadcastInDim S1024 ![] bcast_S_S1024 main_cst_2
  let main_v11 : IVec S1024 1 := cmpf .olt main_v9 main_v10
  let main_v12 : FVec F S1x4096x1024 .f32 := Host.absf main_arg9
  let main_cst_3 : FVec F S_ .f32 := constant S_ .f32 0x7F800000#32
  let main_v13 : FVec F S1x4096x1024 .f32 := broadcastInDim S1x4096x1024 ![] bcast_S_S1x4096x1024 main_cst_3
  let main_v14 : IVec S1x4096x1024 1 := cmpf .olt main_v12 main_v13
  (main_v2, main_v5, main_v8, main_v11, main_v14)
-- ==== Kernel.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x4096x4096 : Shape := ⟨3, ![1, 4096, 4096]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S1024x4x1024 : Shape := ⟨3, ![1024, 4, 1024]⟩
abbrev S4x1024x1024 : Shape := ⟨3, ![4, 1024, 1024]⟩
abbrev S4096x4x1024 : Shape := ⟨3, ![4096, 4, 1024]⟩
abbrev S4x4096x1024 : Shape := ⟨3, ![4, 4096, 1024]⟩
abbrev S4096x1024 : Shape := ⟨2, ![4096, 1024]⟩
abbrev S8x128 : Shape := ⟨2, ![8, 128]⟩
abbrev S4x512x1024 : Shape := ⟨3, ![4, 512, 1024]⟩
abbrev S512x1024 : Shape := ⟨2, ![512, 1024]⟩
abbrev S1x512x1024 : Shape := ⟨3, ![1, 512, 1024]⟩
abbrev S1x1024x1024 : Shape := ⟨3, ![1, 1024, 1024]⟩
abbrev S1024x1024 : Shape := ⟨2, ![1024, 1024]⟩
abbrev S512 : Shape := ⟨1, ![512]⟩
abbrev S512x1 : Shape := ⟨2, ![512, 1]⟩

abbrev nBuf : Space → Nat
  | .hbm => 23
  | .vmem => 11
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S1x4096x4096, .f32⟩
  | .hbm, ⟨5, _⟩ => ⟨S1x4096x1024, .f32⟩
  | .hbm, ⟨6, _⟩ => ⟨S3x1024, .f32⟩
  | .hbm, ⟨7, _⟩ => ⟨S1x1024, .f32⟩
  | .hbm, ⟨8, _⟩ => ⟨S_, .f32⟩
  | .hbm, ⟨9, _⟩ => ⟨S4x1024, .f32⟩
  | .hbm, ⟨10, _⟩ => ⟨S8x1024, .f32⟩
  | .hbm, ⟨11, _⟩ => ⟨S1024x4x1024, .f32⟩
  | .hbm, ⟨12, _⟩ => ⟨S4x1024x1024, .f32⟩
  | .hbm, ⟨13, _⟩ => ⟨S4x1024x1024, .bf16⟩
  | .hbm, ⟨14, _⟩ => ⟨S4096x4x1024, .f32⟩
  | .hbm, ⟨15, _⟩ => ⟨S4x4096x1024, .f32⟩
  | .hbm, ⟨16, _⟩ => ⟨S4x4096x1024, .bf16⟩
  | .hbm, ⟨17, _⟩ => ⟨S4096x1024, .f32⟩
  | .hbm, ⟨18, _⟩ => ⟨S4096x1024, .f32⟩
  | .hbm, ⟨19, _⟩ => ⟨S_, .f32⟩
  | .hbm, ⟨20, _⟩ => ⟨S8x128, .f32⟩
  | .hbm, ⟨21, _⟩ => ⟨S4096x1024, .f32⟩
  | .hbm, ⟨22, _⟩ => ⟨S8x1024, .f32⟩
  | .local _ .vmem, ⟨0, _⟩ => ⟨S4x512x1024, .bf16⟩
  | .local _ .vmem, ⟨1, _⟩ => ⟨S4x512x1024, .bf16⟩
  | .local _ .vmem, ⟨2, _⟩ => ⟨S4x1024x1024, .bf16⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .f32⟩
  | .local _ .vmem, ⟨7, _⟩ => ⟨S8x1024, .f32⟩
  | .local _ .vmem, ⟨8, _⟩ => ⟨S512x1024, .f32⟩
  | .local _ .vmem, ⟨9, _⟩ => ⟨S512x1024, .f32⟩
  | .local _ .vmem, ⟨10, _⟩ => ⟨S8x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_v13_0 : Ref sig .tc := ⟨.hbm, 21, rfl⟩
abbrev main_v13_1 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem5_0 : DmaSem sig := 8
abbrev cc0_sem5_1 : DmaSem sig := 9
abbrev cc0_sem6_0 : DmaSem sig := 10

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x1024x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S8x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]
-- ==== ReferenceIdeal.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x4096x4096 : Shape := ⟨3, ![1, 4096, 4096]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096 : Shape := ⟨1, ![4096]⟩
abbrev S4096x1024 : Shape := ⟨2, ![4096, 1024]⟩
abbrev S5x1024 : Shape := ⟨2, ![5, 1024]⟩
abbrev S8x1024 : Shape := ⟨2, ![8, 1024]⟩

abbrev nBuf : Space → Nat
  | .hbm => 87
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S1x4096x4096, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x4096x1024, .f32⟩
  | .hbm, ⟨10, _⟩ => ⟨S_, .f32⟩
  | .hbm, ⟨11, _⟩ => ⟨S1x4096, .f32⟩
  | .hbm, ⟨12, _⟩ => ⟨S1x4096x1, .f32⟩
  | .hbm, ⟨13, _⟩ => ⟨S_, .f32⟩
  | .hbm, ⟨14, _⟩ => ⟨S1x4096x1, .f32⟩
  | .hbm, ⟨15, _⟩ => ⟨S1x4096x1, .f32⟩
  | .hbm, ⟨16, _⟩ => ⟨S_, .f32⟩
  | .hbm, ⟨17, _⟩ => ⟨S1x4096x1, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S_, .f32⟩
  | .hbm, ⟨22, _⟩ => ⟨S1x4096x1, .f32⟩
  | .hbm, ⟨23, _⟩ => ⟨S1x4096x1, .f32⟩
  | .hbm, ⟨24, _⟩ => ⟨S1x4096x1024, .f32⟩
  | .hbm, ⟨25, _⟩ => ⟨S1x4096x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S_, .f32⟩
  | .hbm, ⟨31, _⟩ => ⟨S1x1x1024, .f32⟩
  | .hbm, ⟨32, _⟩ => ⟨S1x1x1024, .f32⟩
  | .hbm, ⟨33, _⟩ => ⟨S1x4096x1024, .f32⟩
  | .hbm, ⟨34, _⟩ => ⟨S1x4096x1024, .f32⟩
  | .hbm, ⟨35, _⟩ => ⟨S1x1x1024, .f32⟩
  | .hbm, ⟨36, _⟩ => ⟨S1x4096x1024, .f32⟩
  | .hbm, ⟨37, _⟩ => ⟨S1x4096x1024, .f32⟩
  | .hbm, ⟨38, _⟩ => ⟨S1x4096x4096, .f32⟩
  | .hbm, ⟨39, _⟩ => ⟨S1x4096x1024, .f32⟩
  | .hbm, ⟨40, _⟩ => ⟨S_, .f32⟩
  | .hbm, ⟨41, _⟩ => ⟨S1x1024, .f32⟩
  | .hbm, ⟨42, _⟩ => ⟨S1x1x1024, .f32⟩
  | .hbm, ⟨43, _⟩ => ⟨S_, .f32⟩
  | .hbm, ⟨44, _⟩ => ⟨S1024, .f32⟩
  | .hbm, ⟨45, _⟩ => ⟨S1x1024, .f32⟩
  | .hbm, ⟨46, _⟩ => ⟨S1x4096x1024, .f32⟩
  | .hbm, ⟨47, _⟩ => ⟨S_, .f32⟩
  | .hbm, ⟨48, _⟩ => ⟨S1x1024, .f32⟩
  | .hbm, ⟨49, _⟩ => ⟨S1x1x1024, .f32⟩
  | .hbm, ⟨50, _⟩ => ⟨S1x4096x1024, .f32⟩
  | .hbm, ⟨51, _⟩ => ⟨S1x4096x1024, .f32⟩
  | .hbm, ⟨52, _⟩ => ⟨S_, .f32⟩
  | .hbm, ⟨53, _⟩ => ⟨S1024, .f32⟩
  | .hbm, ⟨54, _⟩ => ⟨S1x1024, .f32⟩
  | .hbm, ⟨55, _⟩ => ⟨S1x4096x1024, .f32⟩
  | .hbm, ⟨56, _⟩ => ⟨S_, .f32⟩
  | .hbm, ⟨57, _⟩ => ⟨S1x1024, .f32⟩
  | .hbm, ⟨58, _⟩ => ⟨S1x1x1024, .f32⟩
  | .hbm, ⟨59, _⟩ => ⟨S1x4096x1024, .f32⟩
  | .hbm, ⟨60, _⟩ => ⟨S1x4096x1024, .f32⟩
  | .hbm, ⟨61, _⟩ => ⟨S_, .f32⟩
  | .hbm, ⟨62, _⟩ => ⟨S1024, .f32⟩
  | .hbm, ⟨63, _⟩ => ⟨S1x4096x1024, .f32⟩
  | .hbm, ⟨64, _⟩ => ⟨S_, .f32⟩
  | .hbm, ⟨65, _⟩ => ⟨S1x4096, .f32⟩
  | .hbm, ⟨66, _⟩ => ⟨S1x4096x1, .f32⟩
  | .hbm, ⟨67, _⟩ => ⟨S1x4096x1024, .f32⟩
  | .hbm, ⟨68, _⟩ => ⟨S1x4096x1024, .f32⟩
  | .hbm, ⟨69, _⟩ => ⟨S1x4096x1024, .f32⟩
  | .hbm, ⟨70, _⟩ => ⟨S1x4096x1, .f32⟩
  | .hbm, ⟨71, _⟩ => ⟨S_, .f32⟩
  | .hbm, ⟨72, _⟩ => ⟨S1x4096x1, .f32⟩
  | .hbm, ⟨73, _⟩ => ⟨S1x4096x1, .f32⟩
  | .hbm, ⟨74, _⟩ => ⟨S_, .f32⟩
  | .hbm, ⟨75, _⟩ => ⟨S4096, .f32⟩
  | .hbm, ⟨76, _⟩ => ⟨S1x4096, .f32⟩
  | .hbm, ⟨77, _⟩ => ⟨S1x4096x1024, .f32⟩
  | .hbm, ⟨78, _⟩ => ⟨S1x4096x1024, .f32⟩
  | .hbm, ⟨79, _⟩ => ⟨S1x4096x1024, .f32⟩
  | .hbm, ⟨80, _⟩ => ⟨S1x4096x1024, .f32⟩
  | .hbm, ⟨81, _⟩ => ⟨S1x4096x1024, .f32⟩
  | .hbm, ⟨82, _⟩ => ⟨S4096x1024, .f32⟩
  | .hbm, ⟨83, _⟩ => ⟨S1x1024, .f32⟩
  | .hbm, ⟨84, _⟩ => ⟨S_, .f32⟩
  | .hbm, ⟨85, _⟩ => ⟨S5x1024, .f32⟩
  | .hbm, ⟨86, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_cst : Ref sig .tc := ⟨.hbm, 10, rfl⟩
abbrev main_v4 : Ref sig .tc := ⟨.hbm, 11, rfl⟩
abbrev main_v5 : Ref sig .tc := ⟨.hbm, 12, rfl⟩
abbrev main_cst_0 : Ref sig .tc := ⟨.hbm, 13, rfl⟩
abbrev main_v6 : Ref sig .tc := ⟨.hbm, 14, rfl⟩
abbrev main_v7 : Ref sig .tc := ⟨.hbm, 15, rfl⟩
abbrev main_cst_1 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_cst_2 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_cst_3 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_cst_4 : Ref sig .tc := ⟨.hbm, 40, rfl⟩
abbrev main_v29 : Ref sig .tc := ⟨.hbm, 41, rfl⟩
abbrev main_v30 : Ref sig .tc := ⟨.hbm, 42, rfl⟩
abbrev main_cst_5 : Ref sig .tc := ⟨.hbm, 43, rfl⟩
abbrev main_v31 : Ref sig .tc := ⟨.hbm, 44, rfl⟩
abbrev main_v32 : Ref sig .tc := ⟨.hbm, 45, rfl⟩
abbrev main_v33 : Ref sig .tc := ⟨.hbm, 46, rfl⟩
abbrev main_cst_6 : Ref sig .tc := ⟨.hbm, 47, rfl⟩
abbrev main_v34 : Ref sig .tc := ⟨.hbm, 48, rfl⟩
abbrev main_v35 : Ref sig .tc := ⟨.hbm, 49, rfl⟩
abbrev main_v36 : Ref sig .tc := ⟨.hbm, 50, rfl⟩
abbrev main_v37 : Ref sig .tc := ⟨.hbm, 51, rfl⟩
abbrev main_cst_7 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_8 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_cst_9 : Ref sig .tc := ⟨.hbm, 61, rfl⟩
abbrev main_v45 : Ref sig .tc := ⟨.hbm, 62, rfl⟩
abbrev main_v46 : Ref sig .tc := ⟨.hbm, 63, rfl⟩
abbrev main_cst_10 : Ref sig .tc := ⟨.hbm, 64, rfl⟩
abbrev main_v47 : Ref sig .tc := ⟨.hbm, 65, rfl⟩
abbrev main_v48 : Ref sig .tc := ⟨.hbm, 66, rfl⟩
abbrev main_v49 : Ref sig .tc := ⟨.hbm, 67, rfl⟩
abbrev main_v50 : Ref sig .tc := ⟨.hbm, 68, rfl⟩
abbrev main_v51 : Ref sig .tc := ⟨.hbm, 69, rfl⟩
abbrev main_v52 : Ref sig .tc := ⟨.hbm, 70, rfl⟩
abbrev main_cst_11 : Ref sig .tc := ⟨.hbm, 71, rfl⟩
abbrev main_v53 : Ref sig .tc := ⟨.hbm, 72, rfl⟩
abbrev main_v54 : Ref sig .tc := ⟨.hbm, 73, rfl⟩
abbrev main_cst_12 : Ref sig .tc := ⟨.hbm, 74, rfl⟩
abbrev main_v55 : Ref sig .tc := ⟨.hbm, 75, rfl⟩
abbrev main_v56 : Ref sig .tc := ⟨.hbm, 76, rfl⟩
abbrev main_v57 : Ref sig .tc := ⟨.hbm, 77, rfl⟩
abbrev main_v58 : Ref sig .tc := ⟨.hbm, 78, rfl⟩
abbrev main_v59 : Ref sig .tc := ⟨.hbm, 79, rfl⟩
abbrev main_v60 : Ref sig .tc := ⟨.hbm, 80, rfl⟩
abbrev main_v61 : Ref sig .tc := ⟨.hbm, 81, rfl⟩
abbrev main_v62 : Ref sig .tc := ⟨.hbm, 82, rfl⟩
abbrev main_v63 : Ref sig .tc := ⟨.hbm, 83, rfl⟩
abbrev main_cst_13 : Ref sig .tc := ⟨.hbm, 84, rfl⟩
abbrev main_v64 : Ref sig .tc := ⟨.hbm, 85, rfl⟩
abbrev main_v65 : Ref sig .tc := ⟨.hbm, 86, rfl⟩

abbrev nD : Nat := 1
abbrev τ : Topo := Topo.v7x

variable {F : FTy → Type} [FloatOps F]
-- ==== Kernel2.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S1x1024 : Shape := ⟨2, ![1, 1024]⟩
abbrev S_ : Shape := ⟨0, ![]⟩
abbrev S6x1024 : Shape := ⟨2, ![6, 1024]⟩
abbrev S8x1024 : Shape := ⟨2, ![8, 1024]⟩
abbrev S4096x1024 : Shape := ⟨2, ![4096, 1024]⟩
abbrev S4x4096x1024 : Shape := ⟨3, ![4, 4096, 1024]⟩
abbrev S4096x2048 : Shape := ⟨2, ![4096, 2048]⟩
abbrev S2x512x1024 : Shape := ⟨3, ![2, 512, 1024]⟩
abbrev S1x16x1024 : Shape := ⟨3, ![1, 16, 1024]⟩
abbrev S512x1024 : Shape := ⟨2, ![512, 1024]⟩
abbrev S528x1024 : Shape := ⟨2, ![528, 1024]⟩
abbrev S16x1024 : Shape := ⟨2, ![16, 1024]⟩
abbrev S1x512x1024 : Shape := ⟨3, ![1, 512, 1024]⟩
abbrev S1x512x256 : Shape := ⟨3, ![1, 512, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩
abbrev S256 : Shape := ⟨1, ![256]⟩

abbrev nBuf : Space → Nat
  | .hbm => 28
  | .vmem => 15
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4x256x256, .f32⟩
  | .hbm, ⟨3, _⟩ => ⟨S4x256, .f32⟩
  | .hbm, ⟨4, _⟩ => ⟨S1024, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S_, .f32⟩
  | .hbm, ⟨9, _⟩ => ⟨S6x1024, .f32⟩
  | .hbm, ⟨10, _⟩ => ⟨S8x1024, .f32⟩
  | .hbm, ⟨11, _⟩ => ⟨S_, .f32⟩
  | .hbm, ⟨12, _⟩ => ⟨S4096x1024, .f32⟩
  | .hbm, ⟨13, _⟩ => ⟨S4096x1024, .f32⟩
  | .hbm, ⟨14, _⟩ => ⟨S4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S1x4096x1024, .f32⟩
  | .hbm, ⟨19, _⟩ => ⟨S4x4096x1024, .f32⟩
  | .hbm, ⟨20, _⟩ => ⟨S4096x1024, .f32⟩
  | .hbm, ⟨21, _⟩ => ⟨S4096x2048, .f32⟩
  | .hbm, ⟨22, _⟩ => ⟨S_, .bf16⟩
  | .hbm, ⟨23, _⟩ => ⟨S4x4096x1024, .bf16⟩
  | .hbm, ⟨24, _⟩ => ⟨S4x256x256, .bf16⟩
  | .hbm, ⟨25, _⟩ => ⟨S4x4096x1024, .bf16⟩
  | .hbm, ⟨26, _⟩ => ⟨S4x256x256, .bf16⟩
  | .hbm, ⟨27, _⟩ => ⟨S8x1024, .f32⟩
  | .local _ .vmem, ⟨0, _⟩ => ⟨S2x512x1024, .f32⟩
  | .local _ .vmem, ⟨1, _⟩ => ⟨S2x512x1024, .f32⟩
  | .local _ .vmem, ⟨2, _⟩ => ⟨S1x16x1024, .f32⟩
  | .local _ .vmem, ⟨3, _⟩ => ⟨S1x16x1024, .f32⟩
  | .local _ .vmem, ⟨4, _⟩ => ⟨S512x1024, .f32⟩
  | .local _ .vmem, ⟨5, _⟩ => ⟨S512x1024, .f32⟩
  | .local _ .vmem, ⟨6, _⟩ => ⟨S4x256x256, .bf16⟩
  | .local _ .vmem, ⟨7, _⟩ => ⟨S8x1024, .f32⟩
  | .local _ .vmem, ⟨8, _⟩ => ⟨S2x512x1024, .bf16⟩
  | .local _ .vmem, ⟨9, _⟩ => ⟨S2x512x1024, .bf16⟩
  | .local _ .vmem, ⟨10, _⟩ => ⟨S4x256x256, .bf16⟩
  | .local _ .vmem, ⟨11, _⟩ => ⟨S8x1024, .f32⟩
  | .local _ .vmem, ⟨12, _⟩ => ⟨S528x1024, .f32⟩
  | .local _ .vmem, ⟨13, _⟩ => ⟨S528x1024, .f32⟩
  | .local _ .vmem, ⟨14, _⟩ => ⟨S4x256x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_cst : Ref sig .tc := ⟨.hbm, 8, rfl⟩
abbrev main_v2 : Ref sig .tc := ⟨.hbm, 9, rfl⟩
abbrev main_v3 : Ref sig .tc := ⟨.hbm, 10, rfl⟩
abbrev main_cst_0 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_1 : Ref sig .tc := ⟨.hbm, 22, rfl⟩
abbrev main_v14 : Ref sig .tc := ⟨.hbm, 23, rfl⟩
abbrev main_v15 : Ref sig .tc := ⟨.hbm, 24, rfl⟩
abbrev main_v16_0 : Ref sig .tc := ⟨.hbm, 25, rfl⟩
abbrev main_v16_1 : Ref sig .tc := ⟨.hbm, 26, rfl⟩
abbrev main_v16_2 : Ref sig .tc := ⟨.hbm, 27, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_scratch1 : Ref sig .tc := ⟨.vmem, 13, rfl⟩
abbrev cc0_scratch2 : Ref sig .tc := ⟨.vmem, 14, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32_250 : BitVec 32 := 7#32
  let v425 : BitVec 1 := Scalar.cmpi .eq arg0 c7_i32_250
  let v426 : BitVec 32 := Scalar.extui v425
  let c0_i32_251 : BitVec 32 := 0#32
  let v427 : BitVec 1 := Scalar.cmpi .ne v426 c0_i32_251
  v427

def cc0_transform_0 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  let c0_i32_0 : BitVec 32 := 0#32
  ![c1_i32.toNat, v0.toNat, c0_i32.toNat]

def cc0_transform_1 (i : grid0.Coords) : Fin 3 → Nat :=
  let arg0 : BitVec 32 := BitVec.ofNat 32 (i 0).val
  let c7_i32 : BitVec 32 := 7#32
  let v0 : BitVec 32 := Scalar.subi c7_i32 arg0
  let c32_i32 : BitVec 32 := 32#32
  let v1 : BitVec 32 := Scalar.muli v0 c32_i32
  let c1_i32 : BitVec 32 := 1#32
  let v2 : BitVec 32 := Scalar.subi v1 c1_i32
  let c0_i32 : BitVec 32 := 0#32
  let v3 : BitVec 32 := Scalar.maxsi v2 c0_i32
  let c2_i32 : BitVec 32 := 2#32
  let c0_i32_0 : BitVec 32 := 0#32
  let c0_i32_1 : BitVec 32 := 0#32
  ![c2_i32.toNat, v3.toNat, c0_i32_0.toNat]

def cc0_transform_2 (i : grid0.Coords) : Fin 2 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  ![v0.toNat, c1_i32.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 3 → Nat :=
  let arg0 : BitVec 32 := BitVec.ofNat 32 (i 0).val
  let c7_i32 : BitVec 32 := 7#32
  let v0 : BitVec 32 := Scalar.subi c7_i32 arg0
  let c1_i32 : BitVec 32 := 1#32
  let c0_i32 : BitVec 32 := 0#32
  let c0_i32_0 : BitVec 32 := 0#32
  ![c1_i32.toNat, v0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x16x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x256x256 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S2x512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x256x256 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference2Ideal.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x1x4x256 : Shape := ⟨4, ![1, 1, 4, 256]⟩
abbrev S1x1x1024 : Shape := ⟨3, ![1, 1, 1024]⟩
abbrev S1x1024 : Shape := ⟨2, ![1, 1024]⟩
abbrev S4x1x4096x256 : Shape := ⟨4, ![4, 1, 4096, 256]⟩
abbrev S4096x1024 : Shape := ⟨2, ![4096, 1024]⟩
abbrev S4x4096x1024 : Shape := ⟨3, ![4, 4096, 1024]⟩
abbrev S6x1024 : Shape := ⟨2, ![6, 1024]⟩
abbrev S8x1024 : Shape := ⟨2, ![8, 1024]⟩

abbrev nBuf : Space → Nat
  | .hbm => 218
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S4x256x256, .f32⟩
  | 3 => ⟨S4x256, .f32⟩
  | 4 => ⟨S1024, .f32⟩
  | 5 => ⟨S1x4096x1024, .f32⟩
  | 6 => ⟨S1x4096x4x256, .f32⟩
  | 7 => ⟨S_, .f32⟩
  | 8 => ⟨S_, .f32⟩
  | 9 => ⟨S1x4096x4x256, .f32⟩
  | 10 => ⟨S4096, .i32⟩
  | 11 => ⟨S1x4096x1x256, .f32⟩
  | 12 => ⟨S1x4096x256, .f32⟩
  | 13 => ⟨S_, .f32⟩
  | 14 => ⟨S1x2x256, .f32⟩
  | 15 => ⟨S1x4094x256, .f32⟩
  | 16 => ⟨S1x4096x256, .f32⟩
  | 17 => ⟨S_, .f32⟩
  | 18 => ⟨S1x2x256, .f32⟩
  | 19 => ⟨S_, .i32⟩
  | 20 => ⟨S4096, .i32⟩
  | 21 => ⟨S4096, .i32⟩
  | 22 => ⟨S_, .i32⟩
  | 23 => ⟨S4096, .i32⟩
  | 24 => ⟨S4096, .i32⟩
  | 25 => ⟨S4096, .f32⟩
  | 26 => ⟨S1x4096x1, .f32⟩
  | 27 => ⟨S1x4096x256, .f32⟩
  | 28 => ⟨S1x4096x256, .f32⟩
  | 29 => ⟨S1x4096x256, .f32⟩
  | 30 => ⟨S1x4096x1x256, .f32⟩
  | 31 => ⟨S1x4096x256, .f32⟩
  | 32 => ⟨S_, .f32⟩
  | 33 => ⟨S1x4x256, .f32⟩
  | 34 => ⟨S1x4092x256, .f32⟩
  | 35 => ⟨S1x4096x256, .f32⟩
  | 36 => ⟨S_, .f32⟩
  | 37 => ⟨S1x4x256, .f32⟩
  | 38 => ⟨S_, .i32⟩
  | 39 => ⟨S4096, .i32⟩
  | 40 => ⟨S4096, .i32⟩
  | 41 => ⟨S_, .i32⟩
  | 42 => ⟨S4096, .i32⟩
  | 43 => ⟨S4096, .i32⟩
  | 44 => ⟨S4096, .f32⟩
  | 45 => ⟨S1x4096x1, .f32⟩
  | 46 => ⟨S1x4096x256, .f32⟩
  | 47 => ⟨S1x4096x256, .f32⟩
  | 48 => ⟨S1x4096x256, .f32⟩
  | 49 => ⟨S1x4096x1x256, .f32⟩
  | 50 => ⟨S1x4096x256, .f32⟩
  | 51 => ⟨S_, .f32⟩
  | 52 => ⟨S1x8x256, .f32⟩
  | 53 => ⟨S1x4088x256, .f32⟩
  | 54 => ⟨S1x4096x256, .f32⟩
  | 55 => ⟨S_, .f32⟩
  | 56 => ⟨S1x8x256, .f32⟩
  | 57 => ⟨S_, .i32⟩
  | 58 => ⟨S4096, .i32⟩
  | 59 => ⟨S4096, .i32⟩
  | 60 => ⟨S_, .i32⟩
  | 61 => ⟨S4096, .i32⟩
  | 62 => ⟨S4096, .i32⟩
  | 63 => ⟨S4096, .f32⟩
  | 64 => ⟨S1x4096x1, .f32⟩
  | 65 => ⟨S1x4096x256, .f32⟩
  | 66 => ⟨S1x4096x256, .f32⟩
  | 67 => ⟨S1x4096x256, .f32⟩
  | 68 => ⟨S1x4096x1x256, .f32⟩
  | 69 => ⟨S1x4096x256, .f32⟩
  | 70 => ⟨S_, .f32⟩
  | 71 => ⟨S1x16x256, .f32⟩
  | 72 => ⟨S1x4080x256, .f32⟩
  | 73 => ⟨S1x4096x256, .f32⟩
  | 74 => ⟨S_, .f32⟩
  | 75 => ⟨S1x16x256, .f32⟩
  | 76 => ⟨S_, .i32⟩
  | 77 => ⟨S4096, .i32⟩
  | 78 => ⟨S4096, .i32⟩
  | 79 => ⟨S_, .i32⟩
  | 80 => ⟨S4096, .i32⟩
  | 81 => ⟨S4096, .i32⟩
  | 82 => ⟨S4096, .f32⟩
  | 83 => ⟨S1x4096x1, .f32⟩
  | 84 => ⟨S1x4096x256, .f32⟩
  | 85 => ⟨S1x4096x256, .f32⟩
  | 86 => ⟨S1x4096x256, .f32⟩
  | 87 => ⟨S1x4096x1x256, .f32⟩
  | 88 => ⟨S1x4096x1x256, .f32⟩
  | 89 => ⟨S1x4096x1x256, .f32⟩
  | 90 => ⟨S1x4096x1x256, .f32⟩
  | 91 => ⟨S1x4096x4x256, .f32⟩
  | 92 => ⟨S1x4096x4x256, .f32⟩
  | 93 => ⟨S4x256x1x4096, .f32⟩
  | 94 => ⟨S1x4096x4x256, .f32⟩
  | 95 => ⟨S1x1x4x256, .f32⟩
  | 96 => ⟨S1x4096x4x256, .f32⟩
  | 97 => ⟨S1x4096x4x256, .f32⟩
  | 98 => ⟨S1x4096x1024, .f32⟩
  | 99 => ⟨S1x1x1024, .f32⟩
  | 100 => ⟨S1x4096x1024, .f32⟩
  | 101 => ⟨S1x4096x1024, .f32⟩
  | 102 => ⟨S1x4096x1024, .f32⟩
  | 103 => ⟨S1x4096x1024, .f32⟩
  | 104 => ⟨S_, .f32⟩
  | 105 => ⟨S1x4096x1024, .f32⟩
  | 106 => ⟨S1x4096x1024, .f32⟩
  | 107 => ⟨S_, .f32⟩
  | 108 => ⟨S1x4096x1024, .f32⟩
  | 109 => ⟨S1x4096x1024, .f32⟩
  | 110 => ⟨S_, .f32⟩
  | 111 => ⟨S1x4096x1024, .f32⟩
  | 112 => ⟨S1x4096x1024, .f32⟩
  | 113 => ⟨S1x4096x1024, .f32⟩
  | 114 => ⟨S1x4096x1024, .f32⟩
  | 115 => ⟨S1x4096x1024, .f32⟩
  | 116 => ⟨S1x4096x1024, .f32⟩
  | 117 => ⟨S1x4096x1024, .f32⟩
  | 118 => ⟨S1x4096x1024, .f32⟩
  | 119 => ⟨S1x4096x1024, .f32⟩
  | 120 => ⟨S1x4096x1024, .f32⟩
  | 121 => ⟨S1x4096x1024, .f32⟩
  | 122 => ⟨S1x4096x1024, .f32⟩
  | 123 => ⟨S_, .f32⟩
  | 124 => ⟨S1x1024, .f32⟩
  | 125 => ⟨S1x1x1024, .f32⟩
  | 126 => ⟨S1x4096x1024, .f32⟩
  | 127 => ⟨S1x4096x1024, .f32⟩
  | _ => ⟨S1x4096x1024, .f32⟩

abbrev hbmTy0_1 (i : Nat) : BufTy := match i % 128 with
  | 0 => ⟨S_, .f32⟩
  | 1 => ⟨S1024, .f32⟩
  | 2 => ⟨S1x4096x4x256, .f32⟩
  | 3 => ⟨S_, .f32⟩
  | 4 => ⟨S1x4x256, .f32⟩
  | 5 => ⟨S1x1x4x256, .f32⟩
  | 6 => ⟨S_, .f32⟩
  | 7 => ⟨S4x256, .f32⟩
  | 8 => ⟨S4x256x1x4096, .f32⟩
  | 9 => ⟨S4x1x4096x256, .f32⟩
  | 10 => ⟨S1x4096x4x256, .f32⟩
  | 11 => ⟨S4x256x256, .f32⟩
  | 12 => ⟨S4x256x256, .f32⟩
  | 13 => ⟨S1x4096x4x256, .f32⟩
  | 14 => ⟨S1x4096x1x256, .f32⟩
  | 15 => ⟨S1x4096x256, .f32⟩
  | 16 => ⟨S1x4096x1x256, .f32⟩
  | 17 => ⟨S1x4096x256, .f32⟩
  | 18 => ⟨S1x4096x1x256, .f32⟩
  | 19 => ⟨S1x4096x256, .f32⟩
  | 20 => ⟨S1x4096x1x256, .f32⟩
  | 21 => ⟨S1x4096x256, .f32⟩
  | 22 => ⟨S1x4096x256, .f32⟩
  | 23 => ⟨S1x4096x256, .f32⟩
  | 24 => ⟨S1x4096x256, .f32⟩
  | 25 => ⟨S1x16x256, .f32⟩
  | 26 => ⟨S1x4080x256, .f32⟩
  | 27 => ⟨S_, .f32⟩
  | 28 => ⟨S1x4096x256, .f32⟩
  | 29 => ⟨S1x4096x256, .f32⟩
  | 30 => ⟨S1x4096x1x256, .f32⟩
  | 31 => ⟨S_, .f32⟩
  | 32 => ⟨S1x4096x4x256, .f32⟩
  | 33 => ⟨S1x4096x256, .f32⟩
  | 34 => ⟨S1x4096x256, .f32⟩
  | 35 => ⟨S1x4096x256, .f32⟩
  | 36 => ⟨S1x8x256, .f32⟩
  | 37 => ⟨S1x4088x256, .f32⟩
  | 38 => ⟨S_, .f32⟩
  | 39 => ⟨S1x4096x256, .f32⟩
  | 40 => ⟨S1x4096x256, .f32⟩
  | 41 => ⟨S1x4096x1x256, .f32⟩
  | 42 => ⟨S_, .f32⟩
  | 43 => ⟨S1x4096x4x256, .f32⟩
  | 44 => ⟨S1x4096x4x256, .f32⟩
  | 45 => ⟨S1x4096x256, .f32⟩
  | 46 => ⟨S1x4096x256, .f32⟩
  | 47 => ⟨S1x4096x256, .f32⟩
  | 48 => ⟨S1x4x256, .f32⟩
  | 49 => ⟨S1x4092x256, .f32⟩
  | 50 => ⟨S_, .f32⟩
  | 51 => ⟨S1x4096x256, .f32⟩
  | 52 => ⟨S1x4096x256, .f32⟩
  | 53 => ⟨S1x4096x1x256, .f32⟩
  | 54 => ⟨S_, .f32⟩
  | 55 => ⟨S1x4096x4x256, .f32⟩
  | 56 => ⟨S1x4096x4x256, .f32⟩
  | 57 => ⟨S1x4096x256, .f32⟩
  | 58 => ⟨S1x4096x256, .f32⟩
  | 59 => ⟨S1x4096x256, .f32⟩
  | 60 => ⟨S1x2x256, .f32⟩
  | 61 => ⟨S1x4094x256, .f32⟩
  | 62 => ⟨S_, .f32⟩
  | 63 => ⟨S1x4096x256, .f32⟩
  | 64 => ⟨S1x4096x256, .f32⟩
  | 65 => ⟨S1x4096x1x256, .f32⟩
  | 66 => ⟨S_, .f32⟩
  | 67 => ⟨S1x4096x4x256, .f32⟩
  | 68 => ⟨S1x4096x4x256, .f32⟩
  | 69 => ⟨S_, .f32⟩
  | 70 => ⟨S_, .f32⟩
  | 71 => ⟨S1x4096x4x256, .f32⟩
  | 72 => ⟨S1x4096x4x256, .f32⟩
  | 73 => ⟨S1x4096x1024, .f32⟩
  | 74 => ⟨S_, .f32⟩
  | 75 => ⟨S4096x1024, .f32⟩
  | 76 => ⟨S4096x1024, .f32⟩
  | 77 => ⟨S4096x1024, .f32⟩
  | 78 => ⟨S1x4096x1024, .f32⟩
  | 79 => ⟨S1x4096x1024, .f32⟩
  | 80 => ⟨S1x4096x1024, .f32⟩
  | 81 => ⟨S1x4096x1024, .f32⟩
  | 82 => ⟨S4x4096x1024, .f32⟩
  | 83 => ⟨S4x4096x1024, .bf16⟩
  | 84 => ⟨S4x256x256, .bf16⟩
  | 85 => ⟨S1x1024, .f32⟩
  | 86 => ⟨S1x1024, .f32⟩
  | 87 => ⟨S_, .f32⟩
  | 88 => ⟨S6x1024, .f32⟩
  | 89 => ⟨S8x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_call0_call0_cst : Ref sig .tc := ⟨.hbm, 7, rfl⟩
abbrev main_call0_call0_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_cst : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_cst_0 : Ref sig .tc := ⟨.hbm, 17, rfl⟩
abbrev main_v8 : Ref sig .tc := ⟨.hbm, 18, rfl⟩
abbrev main_c : Ref sig .tc := ⟨.hbm, 19, rfl⟩
abbrev main_v9 : Ref sig .tc := ⟨.hbm, 20, rfl⟩
abbrev main_v10 : Ref sig .tc := ⟨.hbm, 21, rfl⟩
abbrev main_c_1 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_cst_2 : Ref sig .tc := ⟨.hbm, 32, rfl⟩
abbrev main_v20 : Ref sig .tc := ⟨.hbm, 33, rfl⟩
abbrev main_v21 : Ref sig .tc := ⟨.hbm, 34, rfl⟩
abbrev main_v22 : Ref sig .tc := ⟨.hbm, 35, rfl⟩
abbrev main_cst_3 : Ref sig .tc := ⟨.hbm, 36, rfl⟩
abbrev main_v23 : Ref sig .tc := ⟨.hbm, 37, rfl⟩
abbrev main_c_4 : Ref sig .tc := ⟨.hbm, 38, rfl⟩
abbrev main_v24 : Ref sig .tc := ⟨.hbm, 39, rfl⟩
abbrev main_v25 : Ref sig .tc := ⟨.hbm, 40, rfl⟩
abbrev main_c_5 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_cst_6 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_cst_7 : Ref sig .tc := ⟨.hbm, 55, rfl⟩
abbrev main_v38 : Ref sig .tc := ⟨.hbm, 56, rfl⟩
abbrev main_c_8 : Ref sig .tc := ⟨.hbm, 57, rfl⟩
abbrev main_v39 : Ref sig .tc := ⟨.hbm, 58, rfl⟩
abbrev main_v40 : Ref sig .tc := ⟨.hbm, 59, rfl⟩
abbrev main_c_9 : Ref sig .tc := ⟨.hbm, 60, rfl⟩
abbrev main_v41 : Ref sig .tc := ⟨.hbm, 61, rfl⟩
abbrev main_v42 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_v49 : Ref sig .tc := ⟨.hbm, 69, rfl⟩
abbrev main_cst_10 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_cst_11 : Ref sig .tc := ⟨.hbm, 74, rfl⟩
abbrev main_v53 : Ref sig .tc := ⟨.hbm, 75, rfl⟩
abbrev main_c_12 : Ref sig .tc := ⟨.hbm, 76, rfl⟩
abbrev main_v54 : Ref sig .tc := ⟨.hbm, 77, rfl⟩
abbrev main_v55 : Ref sig .tc := ⟨.hbm, 78, rfl⟩
abbrev main_c_13 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_v61 : Ref sig .tc := ⟨.hbm, 85, rfl⟩
abbrev main_v62 : Ref sig .tc := ⟨.hbm, 86, rfl⟩
abbrev main_v63 : Ref sig .tc := ⟨.hbm, 87, rfl⟩
abbrev main_v64 : Ref sig .tc := ⟨.hbm, 88, rfl⟩
abbrev main_v65 : Ref sig .tc := ⟨.hbm, 89, rfl⟩
abbrev main_v66 : Ref sig .tc := ⟨.hbm, 90, rfl⟩
abbrev main_v67 : Ref sig .tc := ⟨.hbm, 91, rfl⟩
abbrev main_v68 : Ref sig .tc := ⟨.hbm, 92, rfl⟩
abbrev main_v69 : Ref sig .tc := ⟨.hbm, 93, rfl⟩
abbrev main_v70 : Ref sig .tc := ⟨.hbm, 94, rfl⟩
abbrev main_v71 : Ref sig .tc := ⟨.hbm, 95, rfl⟩
abbrev main_v72 : Ref sig .tc := ⟨.hbm, 96, rfl⟩
abbrev main_v73 : Ref sig .tc := ⟨.hbm, 97, rfl⟩
abbrev main_v74 : Ref sig .tc := ⟨.hbm, 98, rfl⟩
abbrev main_v75 : Ref sig .tc := ⟨.hbm, 99, rfl⟩
abbrev main_v76 : Ref sig .tc := ⟨.hbm, 100, rfl⟩
abbrev main_v77 : Ref sig .tc := ⟨.hbm, 101, rfl⟩
abbrev main_call1_v0 : Ref sig .tc := ⟨.hbm, 102, rfl⟩
abbrev main_call1_v1 : Ref sig .tc := ⟨.hbm, 103, rfl⟩
abbrev main_call1_cst : Ref sig .tc := ⟨.hbm, 104, rfl⟩
abbrev main_call1_v2 : Ref sig .tc := ⟨.hbm, 105, rfl⟩
abbrev main_call1_v3 : Ref sig .tc := ⟨.hbm, 106, rfl⟩
abbrev main_call1_cst_0 : Ref sig .tc := ⟨.hbm, 107, rfl⟩
abbrev main_call1_v4 : Ref sig .tc := ⟨.hbm, 108, rfl⟩
abbrev main_v78_2 : Ref sig .tc := ⟨.hbm, 109, rfl⟩
abbrev main_call1_cst_1 : Ref sig .tc := ⟨.hbm, 110, rfl⟩
abbrev main_call1_v6 : Ref sig .tc := ⟨.hbm, 111, rfl⟩
abbrev main_call1_v7 : Ref sig .tc := ⟨.hbm, 112, rfl⟩
abbrev main_v78_1 : Ref sig .tc := ⟨.hbm, 113, rfl⟩
abbrev main_v78_0 : Ref sig .tc := ⟨.hbm, 114, rfl⟩
abbrev main_v79 : Ref sig .tc := ⟨.hbm, 115, rfl⟩
abbrev main_v80 : Ref sig .tc := ⟨.hbm, 116, rfl⟩
abbrev main_v81 : Ref sig .tc := ⟨.hbm, 117, rfl⟩
abbrev main_call2_v0 : Ref sig .tc := ⟨.hbm, 118, rfl⟩
abbrev main_call2_v1 : Ref sig .tc := ⟨.hbm, 119, rfl⟩
abbrev main_call2_v2 : Ref sig .tc := ⟨.hbm, 120, rfl⟩
abbrev main_v82 : Ref sig .tc := ⟨.hbm, 121, rfl⟩
abbrev main_v83 : Ref sig .tc := ⟨.hbm, 122, rfl⟩
abbrev main_cst_14 : Ref sig .tc := ⟨.hbm, 123, rfl⟩
abbrev main_v84 : Ref sig .tc := ⟨.hbm, 124, rfl⟩
abbrev main_v85 : Ref sig .tc := ⟨.hbm, 125, rfl⟩
abbrev main_v86 : Ref sig .tc := ⟨.hbm, 126, rfl⟩
abbrev main_v87 : Ref sig .tc := ⟨.hbm, 127, rfl⟩
abbrev main_cst_15 : Ref sig .tc := ⟨.hbm, 128, rfl⟩
abbrev main_v88 : Ref sig .tc := ⟨.hbm, 129, rfl⟩
abbrev main_v89 : Ref sig .tc := ⟨.hbm, 130, rfl⟩
abbrev main_cst_16 : Ref sig .tc := ⟨.hbm, 131, rfl⟩
abbrev main_v90 : Ref sig .tc := ⟨.hbm, 132, rfl⟩
abbrev main_v91 : Ref sig .tc := ⟨.hbm, 133, rfl⟩
abbrev main_cst_17 : Ref sig .tc := ⟨.hbm, 134, rfl⟩
abbrev main_v92 : Ref sig .tc := ⟨.hbm, 135, rfl⟩
abbrev main_v93 : Ref sig .tc := ⟨.hbm, 136, rfl⟩
abbrev main_v94 : Ref sig .tc := ⟨.hbm, 137, rfl⟩
abbrev main_v95 : Ref sig .tc := ⟨.hbm, 138, rfl⟩
abbrev main_v96 : Ref sig .tc := ⟨.hbm, 139, rfl⟩
abbrev main_v97 : Ref sig .tc := ⟨.hbm, 140, rfl⟩
abbrev main_v98 : Ref sig .tc := ⟨.hbm, 141, rfl⟩
abbrev main_v99 : Ref sig .tc := ⟨.hbm, 142, rfl⟩
abbrev main_v100 : Ref sig .tc := ⟨.hbm, 143, rfl⟩
abbrev main_v101 : Ref sig .tc := ⟨.hbm, 144, rfl⟩
abbrev main_v102 : Ref sig .tc := ⟨.hbm, 145, rfl⟩
abbrev main_v103 : Ref sig .tc := ⟨.hbm, 146, rfl⟩
abbrev main_v104 : Ref sig .tc := ⟨.hbm, 147, rfl⟩
abbrev main_v105 : Ref sig .tc := ⟨.hbm, 148, rfl⟩
abbrev main_v106 : Ref sig .tc := ⟨.hbm, 149, rfl⟩
abbrev main_v107 : Ref sig .tc := ⟨.hbm, 150, rfl⟩
abbrev main_v108 : Ref sig .tc := ⟨.hbm, 151, rfl⟩
abbrev main_v109 : Ref sig .tc := ⟨.hbm, 152, rfl⟩
abbrev main_v110 : Ref sig .tc := ⟨.hbm, 153, rfl⟩
abbrev main_v111 : Ref sig .tc := ⟨.hbm, 154, rfl⟩
abbrev main_cst_18 : Ref sig .tc := ⟨.hbm, 155, rfl⟩
abbrev main_v112 : Ref sig .tc := ⟨.hbm, 156, rfl⟩
abbrev main_v113 : Ref sig .tc := ⟨.hbm, 157, rfl⟩
abbrev main_v114 : Ref sig .tc := ⟨.hbm, 158, rfl⟩
abbrev main_cst_19 : Ref sig .tc := ⟨.hbm, 159, rfl⟩
abbrev main_v115 : Ref sig .tc := ⟨.hbm, 160, rfl⟩
abbrev main_v116 : Ref sig .tc := ⟨.hbm, 161, rfl⟩
abbrev main_v117 : Ref sig .tc := ⟨.hbm, 162, rfl⟩
abbrev main_v118 : Ref sig .tc := ⟨.hbm, 163, rfl⟩
abbrev main_v119 : Ref sig .tc := ⟨.hbm, 164, rfl⟩
abbrev main_v120 : Ref sig .tc := ⟨.hbm, 165, rfl⟩
abbrev main_cst_20 : Ref sig .tc := ⟨.hbm, 166, rfl⟩
abbrev main_v121 : Ref sig .tc := ⟨.hbm, 167, rfl⟩
abbrev main_v122 : Ref sig .tc := ⟨.hbm, 168, rfl⟩
abbrev main_v123 : Ref sig .tc := ⟨.hbm, 169, rfl⟩
abbrev main_cst_21 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_cst_22 : Ref sig .tc := ⟨.hbm, 178, rfl⟩
abbrev main_v131 : Ref sig .tc := ⟨.hbm, 179, rfl⟩
abbrev main_v132 : Ref sig .tc := ⟨.hbm, 180, rfl⟩
abbrev main_v133 : Ref sig .tc := ⟨.hbm, 181, rfl⟩
abbrev main_cst_23 : Ref sig .tc := ⟨.hbm, 182, rfl⟩
abbrev main_v134 : Ref sig .tc := ⟨.hbm, 183, rfl⟩
abbrev main_v135 : Ref sig .tc := ⟨.hbm, 184, rfl⟩
abbrev main_v136 : Ref sig .tc := ⟨.hbm, 185, rfl⟩
abbrev main_v137 : Ref sig .tc := ⟨.hbm, 186, rfl⟩
abbrev main_v138 : Ref sig .tc := ⟨.hbm, 187, rfl⟩
abbrev main_v139 : Ref sig .tc := ⟨.hbm, 188, rfl⟩
abbrev main_v140 : Ref sig .tc := ⟨.hbm, 189, rfl⟩
abbrev main_cst_24 : Ref sig .tc := ⟨.hbm, 190, rfl⟩
abbrev main_v141 : Ref sig .tc := ⟨.hbm, 191, rfl⟩
abbrev main_v142 : Ref sig .tc := ⟨.hbm, 192, rfl⟩
abbrev main_v143 : Ref sig .tc := ⟨.hbm, 193, rfl⟩
abbrev main_cst_25 : Ref sig .tc := ⟨.hbm, 194, rfl⟩
abbrev main_v144 : Ref sig .tc := ⟨.hbm, 195, rfl⟩
abbrev main_v145 : Ref sig .tc := ⟨.hbm, 196, rfl⟩
abbrev main_call3_call0_cst : Ref sig .tc := ⟨.hbm, 197, rfl⟩
abbrev main_call3_call0_v0 : Ref sig .tc := ⟨.hbm, 198, rfl⟩
abbrev main_v146 : Ref sig .tc := ⟨.hbm, 199, rfl⟩
abbrev main_v147 : Ref sig .tc := ⟨.hbm, 200, rfl⟩
abbrev main_v148 : Ref sig .tc := ⟨.hbm, 201, rfl⟩
abbrev main_cst_26 : Ref sig .tc := ⟨.hbm, 202, rfl⟩
abbrev main_v149 : Ref sig .tc := ⟨.hbm, 203, rfl⟩
abbrev main_v150 : Ref sig .tc := ⟨.hbm, 204, rfl⟩
abbrev main_v151 : Ref sig .tc := ⟨.hbm, 205, rfl⟩
abbrev main_v152 : Ref sig .tc := ⟨.hbm, 206, rfl⟩
abbrev main_v153 : Ref sig .tc := ⟨.hbm, 207, rfl⟩
abbrev main_v154 : Ref sig .tc := ⟨.hbm, 208, rfl⟩
abbrev main_v155 : Ref sig .tc := ⟨.hbm, 209, rfl⟩
abbrev main_v156 : Ref sig .tc := ⟨.hbm, 210, rfl⟩
abbrev main_v157 : Ref sig .tc := ⟨.hbm, 211, rfl⟩
abbrev main_v158 : Ref sig .tc := ⟨.hbm, 212, rfl⟩
abbrev main_v159 : Ref sig .tc := ⟨.hbm, 213, rfl⟩
abbrev main_v160 : Ref sig .tc := ⟨.hbm, 214, rfl⟩
abbrev main_cst_27 : Ref sig .tc := ⟨.hbm, 215, rfl⟩
abbrev main_v161 : Ref sig .tc := ⟨.hbm, 216, rfl⟩
abbrev main_v162 : Ref sig .tc := ⟨.hbm, 217, rfl⟩

abbrev nD : Nat := 1
abbrev τ : Topo := Topo.v7x

variable {F : FTy → Type} [FloatOps F]
-- ==== Kernel3.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S3x1024 : Shape := ⟨2, ![3, 1024]⟩
abbrev S_ : Shape := ⟨0, ![]⟩
abbrev S1x1024 : Shape := ⟨2, ![1, 1024]⟩
abbrev S8x1024 : Shape := ⟨2, ![8, 1024]⟩
abbrev S4096x1024 : Shape := ⟨2, ![4096, 1024]⟩
abbrev S4096x2048 : Shape := ⟨2, ![4096, 2048]⟩
abbrev S4x512x1024 : Shape := ⟨3, ![4, 512, 1024]⟩
abbrev S8x128 : Shape := ⟨2, ![8, 128]⟩
abbrev S512x1024 : Shape := ⟨2, ![512, 1024]⟩
abbrev S512x2048 : Shape := ⟨2, ![512, 2048]⟩
abbrev S512 : Shape := ⟨1, ![512]⟩
abbrev S512x1 : Shape := ⟨2, ![512, 1]⟩
abbrev S1x512x1024 : Shape := ⟨3, ![1, 512, 1024]⟩
abbrev S512x512 : Shape := ⟨2, ![512, 512]⟩

abbrev nBuf : Space → Nat
  | .hbm => 26
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S1x4096x1024, .f32⟩
  | .hbm, ⟨6, _⟩ => ⟨S3x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S3x1024, .f32⟩
  | .hbm, ⟨12, _⟩ => ⟨S8x1024, .f32⟩
  | .hbm, ⟨13, _⟩ => ⟨S1x4096x1024, .f32⟩
  | .hbm, ⟨14, _⟩ => ⟨S4096x1024, .f32⟩
  | .hbm, ⟨15, _⟩ => ⟨S4096x1024, .bf16⟩
  | .hbm, ⟨16, _⟩ => ⟨S4096x1024, .f32⟩
  | .hbm, ⟨17, _⟩ => ⟨S4096x2048, .f32⟩
  | .hbm, ⟨18, _⟩ => ⟨S4096x2048, .bf16⟩
  | .hbm, ⟨19, _⟩ => ⟨S4x512x1024, .f32⟩
  | .hbm, ⟨20, _⟩ => ⟨S4x512x1024, .bf16⟩
  | .hbm, ⟨21, _⟩ => ⟨S_, .f32⟩
  | .hbm, ⟨22, _⟩ => ⟨S8x128, .f32⟩
  | .hbm, ⟨23, _⟩ => ⟨S4096x2048, .f32⟩
  | .hbm, ⟨24, _⟩ => ⟨S4x512x1024, .bf16⟩
  | .hbm, ⟨25, _⟩ => ⟨S8x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .bf16⟩
  | .local _ .vmem, ⟨3, _⟩ => ⟨S512x1024, .bf16⟩
  | .local _ .vmem, ⟨4, _⟩ => ⟨S512x2048, .bf16⟩
  | .local _ .vmem, ⟨5, _⟩ => ⟨S512x2048, .bf16⟩
  | .local _ .vmem, ⟨6, _⟩ => ⟨S4x512x1024, .bf16⟩
  | .local _ .vmem, ⟨7, _⟩ => ⟨S8x1024, .f32⟩
  | .local _ .vmem, ⟨8, _⟩ => ⟨S512x2048, .f32⟩
  | .local _ .vmem, ⟨9, _⟩ => ⟨S512x2048, .f32⟩
  | .local _ .vmem, ⟨10, _⟩ => ⟨S4x512x1024, .bf16⟩
  | .local _ .vmem, ⟨11, _⟩ => ⟨S8x1024, .f32⟩
  | .local _ .vmem, ⟨12, _⟩ => ⟨S4x512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_1 : Ref sig .tc := ⟨.hbm, 21, rfl⟩
abbrev main_v13 : Ref sig .tc := ⟨.hbm, 22, rfl⟩
abbrev main_v14_0 : Ref sig .tc := ⟨.hbm, 23, rfl⟩
abbrev main_v14_1 : Ref sig .tc := ⟨.hbm, 24, rfl⟩
abbrev main_v14_2 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg7_0 : Ref sig .tc := ⟨.vmem, 11, rfl⟩
abbrev cc0_scratch0 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem5_1 : DmaSem sig := 9
abbrev cc0_sem6_0 : DmaSem sig := 10
abbrev cc0_sem7_0 : DmaSem sig := 11

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v105 : BitVec 1 := Scalar.cmpi .eq arg0 c7_i32
  let v106 : BitVec 32 := Scalar.extui v105
  let c0_i32_75 : BitVec 32 := 0#32
  let v107 : BitVec 1 := Scalar.cmpi .ne v106 c0_i32_75
  v107

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S4x512x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S8x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S512x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 1 → Memref sig .tc .vmem S4x512x1024 .bf16 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S8x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference3Ideal.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096 : Shape := ⟨1, ![4096]⟩
abbrev S1024x2048 : Shape := ⟨2, ![1024, 2048]⟩
abbrev S4096x2048 : Shape := ⟨2, ![4096, 2048]⟩
abbrev S4x512x1024 : Shape := ⟨3, ![4, 512, 1024]⟩
abbrev S6x1024 : Shape := ⟨2, ![6, 1024]⟩
abbrev S8x1024 : Shape := ⟨2, ![8, 1024]⟩

abbrev nBuf : Space → Nat
  | .hbm => 79
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x1x1024, .f32⟩
  | .hbm, ⟨10, _⟩ => ⟨S1x4096x1024, .f32⟩
  | .hbm, ⟨11, _⟩ => ⟨S1x4096x1024, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S1x4096x1, .f32⟩
  | .hbm, ⟨23, _⟩ => ⟨S_, .f32⟩
  | .hbm, ⟨24, _⟩ => ⟨S1x4096x1, .f32⟩
  | .hbm, ⟨25, _⟩ => ⟨S1x4096x1, .f32⟩
  | .hbm, ⟨26, _⟩ => ⟨S1x4096x1024, .f32⟩
  | .hbm, ⟨27, _⟩ => ⟨S1x4096x1024, .f32⟩
  | .hbm, ⟨28, _⟩ => ⟨S1x1x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S1x4096x1024, .f32⟩
  | .hbm, ⟨33, _⟩ => ⟨S1x4096x1024, .f32⟩
  | .hbm, ⟨34, _⟩ => ⟨S1x4096x1024, .f32⟩
  | .hbm, ⟨35, _⟩ => ⟨S1x4096x1024, .f32⟩
  | .hbm, ⟨36, _⟩ => ⟨S1x4096x1024, .f32⟩
  | .hbm, ⟨37, _⟩ => ⟨S_, .f32⟩
  | .hbm, ⟨38, _⟩ => ⟨S1x1024, .f32⟩
  | .hbm, ⟨39, _⟩ => ⟨S1x1x1024, .f32⟩
  | .hbm, ⟨40, _⟩ => ⟨S1x4096x1024, .f32⟩
  | .hbm, ⟨41, _⟩ => ⟨S_, .f32⟩
  | .hbm, ⟨42, _⟩ => ⟨S1x1024, .f32⟩
  | .hbm, ⟨43, _⟩ => ⟨S1x1x1024, .f32⟩
  | .hbm, ⟨44, _⟩ => ⟨S1x4096x1024, .f32⟩
  | .hbm, ⟨45, _⟩ => ⟨S1x4096x1024, .f32⟩
  | .hbm, ⟨46, _⟩ => ⟨S_, .f32⟩
  | .hbm, ⟨47, _⟩ => ⟨S1024, .f32⟩
  | .hbm, ⟨48, _⟩ => ⟨S1x4096x1024, .f32⟩
  | .hbm, ⟨49, _⟩ => ⟨S_, .f32⟩
  | .hbm, ⟨50, _⟩ => ⟨S1x4096, .f32⟩
  | .hbm, ⟨51, _⟩ => ⟨S1x4096x1, .f32⟩
  | .hbm, ⟨52, _⟩ => ⟨S1x4096x1024, .f32⟩
  | .hbm, ⟨53, _⟩ => ⟨S1x4096x1024, .f32⟩
  | .hbm, ⟨54, _⟩ => ⟨S1x4096x1, .f32⟩
  | .hbm, ⟨55, _⟩ => ⟨S_, .f32⟩
  | .hbm, ⟨56, _⟩ => ⟨S1x4096x1, .f32⟩
  | .hbm, ⟨57, _⟩ => ⟨S1x4096x1, .f32⟩
  | .hbm, ⟨58, _⟩ => ⟨S_, .f32⟩
  | .hbm, ⟨59, _⟩ => ⟨S4096, .f32⟩
  | .hbm, ⟨60, _⟩ => ⟨S1x4096, .f32⟩
  | .hbm, ⟨61, _⟩ => ⟨S1x4096x1024, .f32⟩
  | .hbm, ⟨62, _⟩ => ⟨S1x4096x1024, .f32⟩
  | .hbm, ⟨63, _⟩ => ⟨S1x4096x1024, .f32⟩
  | .hbm, ⟨64, _⟩ => ⟨S1x4096x1024, .f32⟩
  | .hbm, ⟨65, _⟩ => ⟨S1x4096x1024, .f32⟩
  | .hbm, ⟨66, _⟩ => ⟨S1024x2048, .f32⟩
  | .hbm, ⟨67, _⟩ => ⟨S2048x1024, .f32⟩
  | .hbm, ⟨68, _⟩ => ⟨S1x4096x2048, .f32⟩
  | .hbm, ⟨69, _⟩ => ⟨S_, .f32⟩
  | .hbm, ⟨70, _⟩ => ⟨S1024, .f32⟩
  | .hbm, ⟨71, _⟩ => ⟨S1x1024, .f32⟩
  | .hbm, ⟨72, _⟩ => ⟨S4096x2048, .f32⟩
  | .hbm, ⟨73, _⟩ => ⟨S4x512x1024, .f32⟩
  | .hbm, ⟨74, _⟩ => ⟨S4x512x1024, .bf16⟩
  | .hbm, ⟨75, _⟩ => ⟨S1x1024, .f32⟩
  | .hbm, ⟨76, _⟩ => ⟨S_, .f32⟩
  | .hbm, ⟨77, _⟩ => ⟨S6x1024, .f32⟩
  | .hbm, ⟨78, _⟩ => ⟨S8x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_cst_2 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_3 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_4 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_cst_5 : Ref sig .tc := ⟨.hbm, 46, rfl⟩
abbrev main_v34 : Ref sig .tc := ⟨.hbm, 47, rfl⟩
abbrev main_v35 : Ref sig .tc := ⟨.hbm, 48, rfl⟩
abbrev main_cst_6 : Ref sig .tc := ⟨.hbm, 49, rfl⟩
abbrev main_v36 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_cst_7 : Ref sig .tc := ⟨.hbm, 55, rfl⟩
abbrev main_v41 : Ref sig .tc := ⟨.hbm, 56, rfl⟩
abbrev main_v42 : Ref sig .tc := ⟨.hbm, 57, rfl⟩
abbrev main_cst_8 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_cst_9 : Ref sig .tc := ⟨.hbm, 69, rfl⟩
abbrev main_v53 : Ref sig .tc := ⟨.hbm, 70, rfl⟩
abbrev main_v54 : Ref sig .tc := ⟨.hbm, 71, rfl⟩
abbrev main_v55 : Ref sig .tc := ⟨.hbm, 72, rfl⟩
abbrev main_v56 : Ref sig .tc := ⟨.hbm, 73, rfl⟩
abbrev main_v57 : Ref sig .tc := ⟨.hbm, 74, rfl⟩
abbrev main_v58 : Ref sig .tc := ⟨.hbm, 75, rfl⟩
abbrev main_cst_10 : Ref sig .tc := ⟨.hbm, 76, rfl⟩
abbrev main_v59 : Ref sig .tc := ⟨.hbm, 77, rfl⟩
abbrev main_v60 : Ref sig .tc := ⟨.hbm, 78, rfl⟩

abbrev nD : Nat := 1
abbrev τ : Topo := Topo.v7x

variable {F : FTy → Type} [FloatOps F]
-- ==== Kernel4.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x4096x4096 : Shape := ⟨3, ![1, 4096, 4096]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S4096x4x1024 : Shape := ⟨3, ![4096, 4, 1024]⟩
abbrev S4x4096x1024 : Shape := ⟨3, ![4, 4096, 1024]⟩
abbrev S4096x1024 : Shape := ⟨2, ![4096, 1024]⟩
abbrev S8x128 : Shape := ⟨2, ![8, 128]⟩
abbrev S4x1024x1024 : Shape := ⟨3, ![4, 1024, 1024]⟩
abbrev S4x512x1024 : Shape := ⟨3, ![4, 512, 1024]⟩
abbrev S512x1024 : Shape := ⟨2, ![512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 17
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S1x4096x4096, .f32⟩
  | .hbm, ⟨5, _⟩ => ⟨S3x1024, .f32⟩
  | .hbm, ⟨6, _⟩ => ⟨S1x1024, .f32⟩
  | .hbm, ⟨7, _⟩ => ⟨S_, .f32⟩
  | .hbm, ⟨8, _⟩ => ⟨S4x1024, .f32⟩
  | .hbm, ⟨9, _⟩ => ⟨S8x1024, .f32⟩
  | .hbm, ⟨10, _⟩ => ⟨S4096x4x1024, .f32⟩
  | .hbm, ⟨11, _⟩ => ⟨S4x4096x1024, .f32⟩
  | .hbm, ⟨12, _⟩ => ⟨S4x4096x1024, .bf16⟩
  | .hbm, ⟨13, _⟩ => ⟨S4096x1024, .f32⟩
  | .hbm, ⟨14, _⟩ => ⟨S_, .f32⟩
  | .hbm, ⟨15, _⟩ => ⟨S8x128, .f32⟩
  | .hbm, ⟨16, _⟩ => ⟨S4x1024x1024, .bf16⟩
  | .local _ .vmem, ⟨0, _⟩ => ⟨S4x512x1024, .bf16⟩
  | .local _ .vmem, ⟨1, _⟩ => ⟨S4x512x1024, .bf16⟩
  | .local _ .vmem, ⟨2, _⟩ => ⟨S512x1024, .f32⟩
  | .local _ .vmem, ⟨3, _⟩ => ⟨S512x1024, .f32⟩
  | .local _ .vmem, ⟨4, _⟩ => ⟨S8x1024, .f32⟩
  | .local _ .vmem, ⟨5, _⟩ => ⟨S4x1024x1024, .bf16⟩
  | .local _ .vmem, ⟨6, _⟩ => ⟨S4x1024x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5

abbrev nD : Nat := 1
abbrev τ : Topo := Topo.v7x

variable {F : FTy → Type} [FloatOps F]

abbrev grid0 : Pipeline.Grid := ⟨1, ![8], ![false]⟩

def k0_cond2 (i : grid0.Coords) : BitVec 1 :=
  let arg0 : BitVec 32 := BitVec.ofNat 32 (i 0).val
  let c7_i32 : BitVec 32 := 7#32
  let v66 : BitVec 1 := Scalar.cmpi .eq arg0 c7_i32
  let v67 : BitVec 32 := Scalar.extui v66
  let c0_i32_48 : BitVec 32 := 0#32
  let v68 : BitVec 1 := Scalar.cmpi .ne v67 c0_i32_48
  v68

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S4x512x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S4x1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]
-- ==== Reference4Ideal.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x4096x4096 : Shape := ⟨3, ![1, 4096, 4096]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S4096x1024 : Shape := ⟨2, ![4096, 1024]⟩
abbrev S1024x4x1024 : Shape := ⟨3, ![1024, 4, 1024]⟩
abbrev S4x1024x1024 : Shape := ⟨3, ![4, 1024, 1024]⟩

abbrev nBuf : Space → Nat
  | .hbm => 39
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S1x4096x4096, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x4096x1024, .f32⟩
  | .hbm, ⟨9, _⟩ => ⟨S_, .f32⟩
  | .hbm, ⟨10, _⟩ => ⟨S1x4096, .f32⟩
  | .hbm, ⟨11, _⟩ => ⟨S1x4096x1, .f32⟩
  | .hbm, ⟨12, _⟩ => ⟨S_, .f32⟩
  | .hbm, ⟨13, _⟩ => ⟨S1x4096x1, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S1x4096x1, .f32⟩
  | .hbm, ⟨19, _⟩ => ⟨S1x4096x1024, .f32⟩
  | .hbm, ⟨20, _⟩ => ⟨S1x4096x1024, .f32⟩
  | .hbm, ⟨21, _⟩ => ⟨S1x1x1024, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S_, .f32⟩
  | .hbm, ⟨26, _⟩ => ⟨S1x1x1024, .f32⟩
  | .hbm, ⟨27, _⟩ => ⟨S1x1x1024, .f32⟩
  | .hbm, ⟨28, _⟩ => ⟨S1x4096x1024, .f32⟩
  | .hbm, ⟨29, _⟩ => ⟨S1x4096x1024, .f32⟩
  | .hbm, ⟨30, _⟩ => ⟨S1x1x1024, .f32⟩
  | .hbm, ⟨31, _⟩ => ⟨S1x4096x1024, .f32⟩
  | .hbm, ⟨32, _⟩ => ⟨S1x4096x1024, .f32⟩
  | .hbm, ⟨33, _⟩ => ⟨S1x4096x4096, .f32⟩
  | .hbm, ⟨34, _⟩ => ⟨S4096x1024, .f32⟩
  | .hbm, ⟨35, _⟩ => ⟨S1024x4096, .f32⟩
  | .hbm, ⟨36, _⟩ => ⟨S1024x4x1024, .f32⟩
  | .hbm, ⟨37, _⟩ => ⟨S4x1024x1024, .f32⟩
  | .hbm, ⟨38, _⟩ => ⟨S4x1024x1024, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_cst : Ref sig .tc := ⟨.hbm, 9, rfl⟩
abbrev main_v4 : Ref sig .tc := ⟨.hbm, 10, rfl⟩
abbrev main_v5 : Ref sig .tc := ⟨.hbm, 11, rfl⟩
abbrev main_cst_0 : Ref sig .tc := ⟨.hbm, 12, rfl⟩
abbrev main_v6 : Ref sig .tc := ⟨.hbm, 13, rfl⟩
abbrev main_v7 : Ref sig .tc := ⟨.hbm, 14, rfl⟩
abbrev main_cst_1 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_cst_2 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_v27 : Ref sig .tc := ⟨.hbm, 36, rfl⟩
abbrev main_v28 : Ref sig .tc := ⟨.hbm, 37, rfl⟩
abbrev main_v29 : Ref sig .tc := ⟨.hbm, 38, rfl⟩

abbrev nD : Nat := 1
abbrev τ : Topo := Topo.v7x

variable {F : FTy → Type} [FloatOps F]
-- ==== Kernel5.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S3x1024 : Shape := ⟨2, ![3, 1024]⟩
abbrev S_ : Shape := ⟨0, ![]⟩
abbrev S1x1024 : Shape := ⟨2, ![1, 1024]⟩
abbrev S8x1024 : Shape := ⟨2, ![8, 1024]⟩
abbrev S4096x2048 : Shape := ⟨2, ![4096, 2048]⟩
abbrev S4x512x1024 : Shape := ⟨3, ![4, 512, 1024]⟩
abbrev S4096x1024 : Shape := ⟨2, ![4096, 1024]⟩
abbrev S8x128 : Shape := ⟨2, ![8, 128]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩
abbrev S1 : Shape := ⟨1, ![1]⟩
abbrev S1x1x1 : Shape := ⟨3, ![1, 1, 1]⟩

abbrev nBuf : Space → Nat
  | .hbm => 22
  | .vmem => 13
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S1x4096x1024, .f32⟩
  | .hbm, ⟨6, _⟩ => ⟨S3x1024, .f32⟩
  | .hbm, ⟨7, _⟩ => ⟨S_, .f32⟩
  | .hbm, ⟨8, _⟩ => ⟨S1x1024, .f32⟩
  | .hbm, ⟨9, _⟩ => ⟨S1x1024, .f32⟩
  | .hbm, ⟨10, _⟩ => ⟨S_, .f32⟩
  | .hbm, ⟨11, _⟩ => ⟨S3x1024, .f32⟩
  | .hbm, ⟨12, _⟩ => ⟨S8x1024, .f32⟩
  | .hbm, ⟨13, _⟩ => ⟨S4096x2048, .f32⟩
  | .hbm, ⟨14, _⟩ => ⟨S4096x2048, .bf16⟩
  | .hbm, ⟨15, _⟩ => ⟨S4x512x1024, .f32⟩
  | .hbm, ⟨16, _⟩ => ⟨S4x512x1024, .bf16⟩
  | .hbm, ⟨17, _⟩ => ⟨S4096x1024, .f32⟩
  | .hbm, ⟨18, _⟩ => ⟨S4096x1024, .f32⟩
  | .hbm, ⟨19, _⟩ => ⟨S4096x1024, .bf16⟩
  | .hbm, ⟨20, _⟩ => ⟨S4096x1024, .f32⟩
  | .hbm, ⟨21, _⟩ => ⟨S8x128, .f32⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .f32⟩
  | .local _ .vmem, ⟨7, _⟩ => ⟨S512x1024, .f32⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S8x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_cst : Ref sig .tc := ⟨.hbm, 7, rfl⟩
abbrev main_v1 : Ref sig .tc := ⟨.hbm, 8, rfl⟩
abbrev main_v2 : Ref sig .tc := ⟨.hbm, 9, rfl⟩
abbrev main_cst_0 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11_0 : Ref sig .tc := ⟨.hbm, 19, rfl⟩
abbrev main_v11_1 : Ref sig .tc := ⟨.hbm, 20, rfl⟩
abbrev main_v11_2 : Ref sig .tc := ⟨.hbm, 21, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_stg7_0 : Ref sig .tc := ⟨.vmem, 12, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S8x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]
-- ==== Reference5Ideal.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096x1024 : Shape := ⟨2, ![4096, 1024]⟩
abbrev S8x128 : Shape := ⟨2, ![8, 128]⟩

abbrev nBuf : Space → Nat
  | .hbm => 59
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S1x4096x1024, .f32⟩
  | .hbm, ⟨6, _⟩ => ⟨S1x1024, .f32⟩
  | .hbm, ⟨7, _⟩ => ⟨S1x1024, .f32⟩
  | .hbm, ⟨8, _⟩ => ⟨S1x1024, .f32⟩
  | .hbm, ⟨9, _⟩ => ⟨S1x4096x1024, .f32⟩
  | .hbm, ⟨10, _⟩ => ⟨S1x1x1024, .f32⟩
  | .hbm, ⟨11, _⟩ => ⟨S1x4096x1024, .f32⟩
  | .hbm, ⟨12, _⟩ => ⟨S_, .f32⟩
  | .hbm, ⟨13, _⟩ => ⟨S1x4096, .f32⟩
  | .hbm, ⟨14, _⟩ => ⟨S1x4096x1, .f32⟩
  | .hbm, ⟨15, _⟩ => ⟨S_, .f32⟩
  | .hbm, ⟨16, _⟩ => ⟨S1x4096x1, .f32⟩
  | .hbm, ⟨17, _⟩ => ⟨S1x4096x1, .f32⟩
  | .hbm, ⟨18, _⟩ => ⟨S_, .f32⟩
  | .hbm, ⟨19, _⟩ => ⟨S1x4096x1, .f32⟩
  | .hbm, ⟨20, _⟩ => ⟨S1x4096x1, .f32⟩
  | .hbm, ⟨21, _⟩ => ⟨S1x4096x1, .f32⟩
  | .hbm, ⟨22, _⟩ => ⟨S1x4096x1024, .f32⟩
  | .hbm, ⟨23, _⟩ => ⟨S1x4096x1024, .f32⟩
  | .hbm, ⟨24, _⟩ => ⟨S1x1x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S1x4096x1024, .f32⟩
  | .hbm, ⟨30, _⟩ => ⟨S1x4096x1024, .f32⟩
  | .hbm, ⟨31, _⟩ => ⟨S1x4096x1024, .f32⟩
  | .hbm, ⟨32, _⟩ => ⟨S_, .f32⟩
  | .hbm, ⟨33, _⟩ => ⟨S1x4096x1024, .f32⟩
  | .hbm, ⟨34, _⟩ => ⟨S1x4096x1024, .f32⟩
  | .hbm, ⟨35, _⟩ => ⟨S_, .f32⟩
  | .hbm, ⟨36, _⟩ => ⟨S1x4096, .f32⟩
  | .hbm, ⟨37, _⟩ => ⟨S_, .f32⟩
  | .hbm, ⟨38, _⟩ => ⟨S1x4096, .f32⟩
  | .hbm, ⟨39, _⟩ => ⟨S1x4096, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S1x4096, .f32⟩
  | .hbm, ⟨48, _⟩ => ⟨S_, .f32⟩
  | .hbm, ⟨49, _⟩ => ⟨S1x4096, .f32⟩
  | .hbm, ⟨50, _⟩ => ⟨S1x4096, .f32⟩
  | .hbm, ⟨51, _⟩ => ⟨S1x4096x1024, .f32⟩
  | .hbm, ⟨52, _⟩ => ⟨S1x4096x1024, .f32⟩
  | .hbm, ⟨53, _⟩ => ⟨S4096x1024, .f32⟩
  | .hbm, ⟨54, _⟩ => ⟨S4096x1024, .bf16⟩
  | .hbm, ⟨55, _⟩ => ⟨S4096x1024, .f32⟩
  | .hbm, ⟨56, _⟩ => ⟨S_, .f32⟩
  | .hbm, ⟨57, _⟩ => ⟨S_, .f32⟩
  | .hbm, ⟨58, _⟩ => ⟨S8x128, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst : Ref sig .tc := ⟨.hbm, 12, rfl⟩
abbrev main_v6 : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_cst_1 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_cst_2 : Ref sig .tc := ⟨.hbm, 32, rfl⟩
abbrev main_v23 : Ref sig .tc := ⟨.hbm, 33, rfl⟩
abbrev main_v24 : Ref sig .tc := ⟨.hbm, 34, rfl⟩
abbrev main_cst_3 : Ref sig .tc := ⟨.hbm, 35, rfl⟩
abbrev main_v25 : Ref sig .tc := ⟨.hbm, 36, rfl⟩
abbrev main_cst_4 : Ref sig .tc := ⟨.hbm, 37, rfl⟩
abbrev main_v26 : Ref sig .tc := ⟨.hbm, 38, rfl⟩
abbrev main_v27 : Ref sig .tc := ⟨.hbm, 39, rfl⟩
abbrev main_cst_5 : Ref sig .tc := ⟨.hbm, 40, rfl⟩
abbrev main_v28 : Ref sig .tc := ⟨.hbm, 41, rfl⟩
abbrev main_cst_6 : Ref sig .tc := ⟨.hbm, 42, rfl⟩
abbrev main_v29 : Ref sig .tc := ⟨.hbm, 43, rfl⟩
abbrev main_cst_7 : Ref sig .tc := ⟨.hbm, 44, rfl⟩
abbrev main_cst_8 : Ref sig .tc := ⟨.hbm, 45, rfl⟩
abbrev main_v30 : Ref sig .tc := ⟨.hbm, 46, rfl⟩
abbrev main_v31 : Ref sig .tc := ⟨.hbm, 47, rfl⟩
abbrev main_cst_9 : Ref sig .tc := ⟨.hbm, 48, rfl⟩
abbrev main_v32 : Ref sig .tc := ⟨.hbm, 49, rfl⟩
abbrev main_v33 : Ref sig .tc := ⟨.hbm, 50, rfl⟩
abbrev main_v34 : Ref sig .tc := ⟨.hbm, 51, rfl⟩
abbrev main_v35 : Ref sig .tc := ⟨.hbm, 52, rfl⟩
abbrev main_v36 : Ref sig .tc := ⟨.hbm, 53, rfl⟩
abbrev main_v37 : Ref sig .tc := ⟨.hbm, 54, rfl⟩
abbrev main_v38 : Ref sig .tc := ⟨.hbm, 55, rfl⟩
abbrev main_cst_10 : Ref sig .tc := ⟨.hbm, 56, rfl⟩
abbrev main_v39 : Ref sig .tc := ⟨.hbm, 57, rfl⟩
abbrev main_v40 : Ref sig .tc := ⟨.hbm, 58, rfl⟩

abbrev nD : Nat := 1
abbrev τ : Topo := Topo.v7x

variable {F : FTy → Type} [FloatOps F]
-- ==== Kernel6.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S8x1024 : Shape := ⟨2, ![8, 1024]⟩
abbrev S4096x1024 : Shape := ⟨2, ![4096, 1024]⟩
abbrev S4x4096x1024 : Shape := ⟨3, ![4, 4096, 1024]⟩
abbrev S4096x2048 : Shape := ⟨2, ![4096, 2048]⟩
abbrev S2x512x256 : Shape := ⟨3, ![2, 512, 256]⟩
abbrev S4x256 : Shape := ⟨2, ![4, 256]⟩
abbrev S8x256 : Shape := ⟨2, ![8, 256]⟩
abbrev S2x128x128 : Shape := ⟨3, ![2, 128, 128]⟩
abbrev S512x256 : Shape := ⟨2, ![512, 256]⟩
abbrev S528x256 : Shape := ⟨2, ![528, 256]⟩
abbrev S16x256 : Shape := ⟨2, ![16, 256]⟩
abbrev S1x512x256 : Shape := ⟨3, ![1, 512, 256]⟩
abbrev S1x128 : Shape := ⟨2, ![1, 128]⟩
abbrev S512x128 : Shape := ⟨2, ![512, 128]⟩
abbrev S1x128x128 : Shape := ⟨3, ![1, 128, 128]⟩
abbrev S128x128 : Shape := ⟨2, ![128, 128]⟩
abbrev S504x128 : Shape := ⟨2, ![504, 128]⟩
abbrev S16x128 : Shape := ⟨2, ![16, 128]⟩
abbrev S496x128 : Shape := ⟨2, ![496, 128]⟩
abbrev S32x128 : Shape := ⟨2, ![32, 128]⟩
abbrev S480x128 : Shape := ⟨2, ![480, 128]⟩
abbrev S64x128 : Shape := ⟨2, ![64, 128]⟩
abbrev S448x128 : Shape := ⟨2, ![448, 128]⟩
abbrev S384x128 : Shape := ⟨2, ![384, 128]⟩
abbrev S256x128 : Shape := ⟨2, ![256, 128]⟩
abbrev S1x512x128 : Shape := ⟨3, ![1, 512, 128]⟩

abbrev nBuf : Space → Nat
  | .hbm => 29
  | .vmem => 16
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S8x128x128, .f32⟩
  | .hbm, ⟨7, _⟩ => ⟨S8x128, .f32⟩
  | .hbm, ⟨8, _⟩ => ⟨S1024, .f32⟩
  | .hbm, ⟨9, _⟩ => ⟨S1x1024, .f32⟩
  | .hbm, ⟨10, _⟩ => ⟨S1x1024, .f32⟩
  | .hbm, ⟨11, _⟩ => ⟨S1x1024, .f32⟩
  | .hbm, ⟨12, _⟩ => ⟨S1x1024, .f32⟩
  | .hbm, ⟨13, _⟩ => ⟨S_, .f32⟩
  | .hbm, ⟨14, _⟩ => ⟨S4x1024, .f32⟩
  | .hbm, ⟨15, _⟩ => ⟨S8x1024, .f32⟩
  | .hbm, ⟨16, _⟩ => ⟨S_, .f32⟩
  | .hbm, ⟨17, _⟩ => ⟨S4096x1024, .f32⟩
  | .hbm, ⟨18, _⟩ => ⟨S4096x1024, .f32⟩
  | .hbm, ⟨19, _⟩ => ⟨S4096x1024, .f32⟩
  | .hbm, ⟨20, _⟩ => ⟨S1x4096x1024, .f32⟩
  | .hbm, ⟨21, _⟩ => ⟨S1x4096x1024, .f32⟩
  | .hbm, ⟨22, _⟩ => ⟨S1x4096x1024, .f32⟩
  | .hbm, ⟨23, _⟩ => ⟨S1x4096x1024, .f32⟩
  | .hbm, ⟨24, _⟩ => ⟨S4x4096x1024, .f32⟩
  | .hbm, ⟨25, _⟩ => ⟨S8x128x128, .bf16⟩
  | .hbm, ⟨26, _⟩ => ⟨S8x128x128, .bf16⟩
  | .hbm, ⟨27, _⟩ => ⟨S4096x2048, .bf16⟩
  | .hbm, ⟨28, _⟩ => ⟨S4096x1024, .f32⟩
  | .local _ .vmem, ⟨0, _⟩ => ⟨S2x512x256, .f32⟩
  | .local _ .vmem, ⟨1, _⟩ => ⟨S2x512x256, .f32⟩
  | .local _ .vmem, ⟨2, _⟩ => ⟨S4x256, .f32⟩
  | .local _ .vmem, ⟨3, _⟩ => ⟨S4x256, .f32⟩
  | .local _ .vmem, ⟨4, _⟩ => ⟨S8x256, .f32⟩
  | .local _ .vmem, ⟨5, _⟩ => ⟨S8x256, .f32⟩
  | .local _ .vmem, ⟨6, _⟩ => ⟨S2x128x128, .bf16⟩
  | .local _ .vmem, ⟨7, _⟩ => ⟨S2x128x128, .bf16⟩
  | .local _ .vmem, ⟨8, _⟩ => ⟨S2x128x128, .bf16⟩
  | .local _ .vmem, ⟨9, _⟩ => ⟨S2x128x128, .bf16⟩
  | .local _ .vmem, ⟨10, _⟩ => ⟨S512x256, .bf16⟩
  | .local _ .vmem, ⟨11, _⟩ => ⟨S512x256, .bf16⟩
  | .local _ .vmem, ⟨12, _⟩ => ⟨S512x256, .f32⟩
  | .local _ .vmem, ⟨13, _⟩ => ⟨S512x256, .f32⟩
  | .local _ .vmem, ⟨14, _⟩ => ⟨S528x256, .f32⟩
  | .local _ .vmem, ⟨15, _⟩ => ⟨S8x256, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_cst_0 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16_0 : Ref sig .tc := ⟨.hbm, 27, rfl⟩
abbrev main_v16_1 : Ref sig .tc := ⟨.hbm, 28, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_scratch0 : Ref sig .tc := ⟨.vmem, 14, rfl⟩
abbrev cc0_scratch1 : Ref sig .tc := ⟨.vmem, 15, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![4, 8], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_4 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S2x512x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S4x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S8x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 2 → Memref sig .tc .vmem S2x128x128 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S2x128x128 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x256 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S512x256 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩
abbrev S1x4096x8x128 : Shape := ⟨4, ![1, 4096, 8, 128]⟩
abbrev S8x128x1x4096 : Shape := ⟨4, ![8, 128, 1, 4096]⟩
abbrev S1x1x8x128 : Shape := ⟨4, ![1, 1, 8, 128]⟩
abbrev S4096x1x1024 : Shape := ⟨3, ![4096, 1, 1024]⟩
abbrev S4096x1024 : Shape := ⟨2, ![4096, 1024]⟩
abbrev S4096x2048 : Shape := ⟨2, ![4096, 2048]⟩

abbrev nBuf : Space → Nat
  | .hbm => 148
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S4x1024, .f32⟩
  | 3 => ⟨S1024, .f32⟩
  | 4 => ⟨S8x128x128, .f32⟩
  | 5 => ⟨S8x128, .f32⟩
  | 6 => ⟨S8x128x128, .f32⟩
  | 7 => ⟨S8x128, .f32⟩
  | 8 => ⟨S1024, .f32⟩
  | 9 => ⟨S_, .f32⟩
  | 10 => ⟨S1x3x1024, .f32⟩
  | 11 => ⟨S1x4099x1024, .f32⟩
  | 12 => ⟨S1x1024, .f32⟩
  | 13 => ⟨S1024, .f32⟩
  | 14 => ⟨S1x4096x1024, .f32⟩
  | 15 => ⟨S1x1x1024, .f32⟩
  | 16 => ⟨S1x4096x1024, .f32⟩
  | 17 => ⟨S1x4096x1024, .f32⟩
  | 18 => ⟨S1x1024, .f32⟩
  | 19 => ⟨S1024, .f32⟩
  | 20 => ⟨S1x4096x1024, .f32⟩
  | 21 => ⟨S1x1x1024, .f32⟩
  | 22 => ⟨S1x4096x1024, .f32⟩
  | 23 => ⟨S1x4096x1024, .f32⟩
  | 24 => ⟨S1x4096x1024, .f32⟩
  | 25 => ⟨S1x1024, .f32⟩
  | 26 => ⟨S1024, .f32⟩
  | 27 => ⟨S1x4096x1024, .f32⟩
  | 28 => ⟨S1x1x1024, .f32⟩
  | 29 => ⟨S1x4096x1024, .f32⟩
  | 30 => ⟨S1x4096x1024, .f32⟩
  | 31 => ⟨S1x4096x1024, .f32⟩
  | 32 => ⟨S1x1024, .f32⟩
  | 33 => ⟨S1024, .f32⟩
  | 34 => ⟨S1x4096x1024, .f32⟩
  | 35 => ⟨S1x1x1024, .f32⟩
  | 36 => ⟨S1x4096x1024, .f32⟩
  | 37 => ⟨S1x4096x1024, .f32⟩
  | 38 => ⟨S1x4096x1024, .f32⟩
  | 39 => ⟨S1x1x1024, .f32⟩
  | 40 => ⟨S1x4096x1024, .f32⟩
  | 41 => ⟨S1x4096x1024, .f32⟩
  | 42 => ⟨S1x4096x8x128, .f32⟩
  | 43 => ⟨S8x128x1x4096, .f32⟩
  | 44 => ⟨S1x4096x8x128, .f32⟩
  | 45 => ⟨S1x1x8x128, .f32⟩
  | 46 => ⟨S1x4096x8x128, .f32⟩
  | 47 => ⟨S1x4096x8x128, .f32⟩
  | 48 => ⟨S1x4096x8x128, .f32⟩
  | 49 => ⟨S1x4096x8x128, .f32⟩
  | 50 => ⟨S_, .f32⟩
  | 51 => ⟨S1x4096x8x128, .f32⟩
  | 52 => ⟨S1x4096x8x128, .f32⟩
  | 53 => ⟨S_, .f32⟩
  | 54 => ⟨S1x4096x8x128, .f32⟩
  | 55 => ⟨S1x4096x8x128, .f32⟩
  | 56 => ⟨S1x4096x1024, .f32⟩
  | 57 => ⟨S8x128x1x4096, .f32⟩
  | 58 => ⟨S1x4096x8x128, .f32⟩
  | 59 => ⟨S1x1x8x128, .f32⟩
  | 60 => ⟨S1x4096x8x128, .f32⟩
  | 61 => ⟨S1x4096x8x128, .f32⟩
  | 62 => ⟨S1x4096x8x128, .f32⟩
  | 63 => ⟨S1x4096x8x128, .f32⟩
  | 64 => ⟨S_, .f32⟩
  | 65 => ⟨S1x4096x8x128, .f32⟩
  | 66 => ⟨S1x4096x8x128, .f32⟩
  | 67 => ⟨S_, .f32⟩
  | 68 => ⟨S1x4096x8x128, .f32⟩
  | 69 => ⟨S1x4096x8x128, .f32⟩
  | 70 => ⟨S1x4096x1024, .f32⟩
  | 71 => ⟨S_, .f32⟩
  | 72 => ⟨S1x4096x1024, .f32⟩
  | 73 => ⟨S1x4096x1024, .f32⟩
  | 74 => ⟨S1024, .f32⟩
  | 75 => ⟨S_, .f32⟩
  | 76 => ⟨S1024, .f32⟩
  | 77 => ⟨S1024, .f32⟩
  | 78 => ⟨S1024, .f32⟩
  | 79 => ⟨S1024, .f32⟩
  | 80 => ⟨S1024, .i1⟩
  | 81 => ⟨S1024, .f32⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1x1x1024, .f32⟩
  | 90 => ⟨S1x4096x1024, .f32⟩
  | 91 => ⟨S1x4096x1024, .f32⟩
  | 92 => ⟨S1x4096x1024, .f32⟩
  | 93 => ⟨S_, .f32⟩
  | 94 => ⟨S1x4096x1024, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S_, .f32⟩
  | 102 => ⟨S1x1024, .f32⟩
  | 103 => ⟨S4096x1x1024, .f32⟩
  | 104 => ⟨S4096x1x1024, .f32⟩
  | 105 => ⟨S_, .f32⟩
  | 106 => ⟨S4096x1x1024, .f32⟩
  | 107 => ⟨S_, .i32⟩
  | 108 => ⟨S4096x1x1024, .f32⟩
  | 109 => ⟨S4096x1x1024, .f32⟩
  | 110 => ⟨S_, .i32⟩
  | 111 => ⟨S1x1024, .f32⟩
  | 112 => ⟨S4096x1x1024, .f32⟩
  | 113 => ⟨S_, .i32⟩
  | 114 => ⟨S_, .i1⟩
  | 115 => ⟨S_, .i32⟩
  | 116 => ⟨S_, .i32⟩
  | 117 => ⟨S1x1x1024, .f32⟩
  | 118 => ⟨S1x1024, .f32⟩
  | 119 => ⟨S_, .i32⟩
  | 120 => ⟨S_, .i32⟩
  | 121 => ⟨S1x1x1024, .f32⟩
  | 122 => ⟨S1x1024, .f32⟩
  | 123 => ⟨S1x1024, .f32⟩
  | 124 => ⟨S1x1024, .f32⟩
  | 125 => ⟨S1x1x1024, .f32⟩
  | 126 => ⟨S_, .i32⟩
  | 127 => ⟨S_, .i32⟩
  | _ => ⟨S1x4096x1024, .f32⟩

abbrev hbmTy0_1 (i : Nat) : BufTy := match i % 128 with
  | 0 => ⟨S4096x1x1024, .f32⟩
  | 1 => ⟨S_, .i32⟩
  | 2 => ⟨S_, .i32⟩
  | 3 => ⟨S1x4096x1024, .f32⟩
  | 4 => ⟨S1x4096x1024, .f32⟩
  | 5 => ⟨S1x4096x1024, .f32⟩
  | 6 => ⟨S_, .f32⟩
  | 7 => ⟨S1x4096x1024, .f32⟩
  | 8 => ⟨S1x4096x1024, .f32⟩
  | 9 => ⟨S_, .f32⟩
  | 10 => ⟨S1x4096x1024, .f32⟩
  | 11 => ⟨S1x4096x1024, .f32⟩
  | 12 => ⟨S1x4096x1024, .f32⟩
  | 13 => ⟨S1x4096x1024, .f32⟩
  | 14 => ⟨S4096x1024, .f32⟩
  | 15 => ⟨S_, .f32⟩
  | 16 => ⟨S4096x1024, .f32⟩
  | 17 => ⟨S4096x2048, .f32⟩
  | 18 => ⟨S4096x2048, .bf16⟩
  | 19 => ⟨S4096x1024, .f32⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_cst : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_cst_0 : Ref sig .tc := ⟨.hbm, 50, rfl⟩
abbrev main_v40 : Ref sig .tc := ⟨.hbm, 51, rfl⟩
abbrev main_v41 : Ref sig .tc := ⟨.hbm, 52, rfl⟩
abbrev main_cst_1 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_v45 : Ref sig .tc := ⟨.hbm, 57, rfl⟩
abbrev main_v46 : Ref sig .tc := ⟨.hbm, 58, rfl⟩
abbrev main_v47 : Ref sig .tc := ⟨.hbm, 59, rfl⟩
abbrev main_v48 : Ref sig .tc := ⟨.hbm, 60, rfl⟩
abbrev main_v49 : Ref sig .tc := ⟨.hbm, 61, rfl⟩
abbrev main_v50 : Ref sig .tc := ⟨.hbm, 62, rfl⟩
abbrev main_v51 : Ref sig .tc := ⟨.hbm, 63, rfl⟩
abbrev main_cst_2 : Ref sig .tc := ⟨.hbm, 64, rfl⟩
abbrev main_v52 : Ref sig .tc := ⟨.hbm, 65, rfl⟩
abbrev main_v53 : Ref sig .tc := ⟨.hbm, 66, rfl⟩
abbrev main_cst_3 : Ref sig .tc := ⟨.hbm, 67, rfl⟩
abbrev main_v54 : Ref sig .tc := ⟨.hbm, 68, rfl⟩
abbrev main_v55 : Ref sig .tc := ⟨.hbm, 69, rfl⟩
abbrev main_v56 : Ref sig .tc := ⟨.hbm, 70, rfl⟩
abbrev main_cst_4 : Ref sig .tc := ⟨.hbm, 71, rfl⟩
abbrev main_v57 : Ref sig .tc := ⟨.hbm, 72, rfl⟩
abbrev main_v58 : Ref sig .tc := ⟨.hbm, 73, rfl⟩
abbrev main_v59 : Ref sig .tc := ⟨.hbm, 74, rfl⟩
abbrev main_call0_cst : Ref sig .tc := ⟨.hbm, 75, rfl⟩
abbrev main_call0_v0 : Ref sig .tc := ⟨.hbm, 76, rfl⟩
abbrev main_call0_v1 : Ref sig .tc := ⟨.hbm, 77, rfl⟩
abbrev main_call0_v2 : Ref sig .tc := ⟨.hbm, 78, rfl⟩
abbrev main_call0_v3 : Ref sig .tc := ⟨.hbm, 79, rfl⟩
abbrev main_call0_v4 : Ref sig .tc := ⟨.hbm, 80, rfl⟩
abbrev main_call0_v5 : Ref sig .tc := ⟨.hbm, 81, rfl⟩
abbrev main_call0_v6 : Ref sig .tc := ⟨.hbm, 82, rfl⟩
abbrev main_call0_v7 : Ref sig .tc := ⟨.hbm, 83, rfl⟩
abbrev main_call0_v8 : Ref sig .tc := ⟨.hbm, 84, rfl⟩
abbrev main_call0_v9 : Ref sig .tc := ⟨.hbm, 85, rfl⟩
abbrev main_call0_v10 : Ref sig .tc := ⟨.hbm, 86, rfl⟩
abbrev main_call0_v11 : Ref sig .tc := ⟨.hbm, 87, rfl⟩
abbrev main_v60 : Ref sig .tc := ⟨.hbm, 88, rfl⟩
abbrev main_v61 : Ref sig .tc := ⟨.hbm, 89, rfl⟩
abbrev main_v62 : Ref sig .tc := ⟨.hbm, 90, rfl⟩
abbrev main_v63 : Ref sig .tc := ⟨.hbm, 91, rfl⟩
abbrev main_v64 : Ref sig .tc := ⟨.hbm, 92, rfl⟩
abbrev main_cst_5 : Ref sig .tc := ⟨.hbm, 93, rfl⟩
abbrev main_v65 : Ref sig .tc := ⟨.hbm, 94, rfl⟩
abbrev main_v66 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩
abbrev main_cst_6 : Ref sig .tc := ⟨.hbm, 101, rfl⟩
abbrev main_v72 : Ref sig .tc := ⟨.hbm, 102, rfl⟩
abbrev main_v73 : Ref sig .tc := ⟨.hbm, 103, rfl⟩
abbrev main_v74 : Ref sig .tc := ⟨.hbm, 104, rfl⟩
abbrev main_cst_7 : Ref sig .tc := ⟨.hbm, 105, rfl⟩
abbrev main_v75 : Ref sig .tc := ⟨.hbm, 106, rfl⟩
abbrev main_c : Ref sig .tc := ⟨.hbm, 107, rfl⟩
abbrev main_v76_0 : Ref sig .tc := ⟨.hbm, 108, rfl⟩
abbrev main_v76_1 : Ref sig .tc := ⟨.hbm, 109, rfl⟩
abbrev main_v76_2 : Ref sig .tc := ⟨.hbm, 110, rfl⟩
abbrev main_v76_3 : Ref sig .tc := ⟨.hbm, 111, rfl⟩
abbrev main_v76_4 : Ref sig .tc := ⟨.hbm, 112, rfl⟩
abbrev main_while0c_c_13 : Ref sig .tc := ⟨.hbm, 113, rfl⟩
abbrev main_while0c_v85 : Ref sig .tc := ⟨.hbm, 114, rfl⟩
abbrev main_while0b_call1_c : Ref sig .tc := ⟨.hbm, 115, rfl⟩
abbrev main_while0b_call1_c_0 : Ref sig .tc := ⟨.hbm, 116, rfl⟩
abbrev main_while0b_call1_v0 : Ref sig .tc := ⟨.hbm, 117, rfl⟩
abbrev main_while0b_v85 : Ref sig .tc := ⟨.hbm, 118, rfl⟩
abbrev main_while0b_call2_c : Ref sig .tc := ⟨.hbm, 119, rfl⟩
abbrev main_while0b_call2_c_0 : Ref sig .tc := ⟨.hbm, 120, rfl⟩
abbrev main_while0b_call2_v0 : Ref sig .tc := ⟨.hbm, 121, rfl⟩
abbrev main_while0b_v86 : Ref sig .tc := ⟨.hbm, 122, rfl⟩
abbrev main_while0b_v87 : Ref sig .tc := ⟨.hbm, 123, rfl⟩
abbrev main_while0b_v88 : Ref sig .tc := ⟨.hbm, 124, rfl⟩
abbrev main_while0b_call3_v0 : Ref sig .tc := ⟨.hbm, 125, rfl⟩
abbrev main_while0b_call3_c : Ref sig .tc := ⟨.hbm, 126, rfl⟩
abbrev main_while0b_call3_c_0 : Ref sig .tc := ⟨.hbm, 127, rfl⟩
abbrev main_while0b_v89 : Ref sig .tc := ⟨.hbm, 128, rfl⟩
abbrev main_while0b_c_13 : Ref sig .tc := ⟨.hbm, 129, rfl⟩
abbrev main_while0b_v90 : Ref sig .tc := ⟨.hbm, 130, rfl⟩
abbrev main_v77 : Ref sig .tc := ⟨.hbm, 131, rfl⟩
abbrev main_call4_v0 : Ref sig .tc := ⟨.hbm, 132, rfl⟩
abbrev main_call4_v1 : Ref sig .tc := ⟨.hbm, 133, rfl⟩
abbrev main_call4_cst : Ref sig .tc := ⟨.hbm, 134, rfl⟩
abbrev main_call4_v2 : Ref sig .tc := ⟨.hbm, 135, rfl⟩
abbrev main_call4_v3 : Ref sig .tc := ⟨.hbm, 136, rfl⟩
abbrev main_call4_cst_0 : Ref sig .tc := ⟨.hbm, 137, rfl⟩
abbrev main_call4_v4 : Ref sig .tc := ⟨.hbm, 138, rfl⟩
abbrev main_call4_v5 : Ref sig .tc := ⟨.hbm, 139, rfl⟩
abbrev main_v78 : Ref sig .tc := ⟨.hbm, 140, rfl⟩
abbrev main_v79 : Ref sig .tc := ⟨.hbm, 141, rfl⟩
abbrev main_v80 : Ref sig .tc := ⟨.hbm, 142, rfl⟩
abbrev main_cst_8 : Ref sig .tc := ⟨.hbm, 143, rfl⟩
abbrev main_v81 : Ref sig .tc := ⟨.hbm, 144, rfl⟩
abbrev main_v82 : Ref sig .tc := ⟨.hbm, 145, rfl⟩
abbrev main_v83 : Ref sig .tc := ⟨.hbm, 146, rfl⟩
abbrev main_v84 : Ref sig .tc := ⟨.hbm, 147, rfl⟩

abbrev nD : Nat := 1
abbrev τ : Topo := Topo.v7x

variable {F : FTy → Type} [FloatOps F]

abbrev main_while0_count : Scf.Loop 32 := ⟨0#32, 4096#32, 1#32⟩
-- ==== Kernel7.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S3x1024 : Shape := ⟨2, ![3, 1024]⟩
abbrev S1x1024 : Shape := ⟨2, ![1, 1024]⟩
abbrev S_ : Shape := ⟨0, ![]⟩
abbrev S4x1024 : Shape := ⟨2, ![4, 1024]⟩
abbrev S8x1024 : Shape := ⟨2, ![8, 1024]⟩
abbrev S4096x1024 : Shape := ⟨2, ![4096, 1024]⟩
abbrev S1024x4x1024 : Shape := ⟨3, ![1024, 4, 1024]⟩
abbrev S4x1024x1024 : Shape := ⟨3, ![4, 1024, 1024]⟩
abbrev S4x4096x1024 : Shape := ⟨3, ![4, 4096, 1024]⟩
abbrev S512x1024 : Shape := ⟨2, ![512, 1024]⟩
abbrev S4x512x1024 : Shape := ⟨3, ![4, 512, 1024]⟩
abbrev S512 : Shape := ⟨1, ![512]⟩
abbrev S512x1 : Shape := ⟨2, ![512, 1]⟩
abbrev S1x1024x1024 : Shape := ⟨3, ![1, 1024, 1024]⟩
abbrev S1024x1024 : Shape := ⟨2, ![1024, 1024]⟩
abbrev S1x512x1024 : Shape := ⟨3, ![1, 512, 1024]⟩

abbrev nBuf : Space → Nat
  | .hbm => 14
  | .vmem => 6
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S3x1024, .f32⟩
  | .hbm, ⟨5, _⟩ => ⟨S1x1024, .f32⟩
  | .hbm, ⟨6, _⟩ => ⟨S_, .f32⟩
  | .hbm, ⟨7, _⟩ => ⟨S4x1024, .f32⟩
  | .hbm, ⟨8, _⟩ => ⟨S8x1024, .f32⟩
  | .hbm, ⟨9, _⟩ => ⟨S4096x1024, .f32⟩
  | .hbm, ⟨10, _⟩ => ⟨S1024x4x1024, .f32⟩
  | .hbm, ⟨11, _⟩ => ⟨S4x1024x1024, .f32⟩
  | .hbm, ⟨12, _⟩ => ⟨S4x1024x1024, .bf16⟩
  | .hbm, ⟨13, _⟩ => ⟨S4x4096x1024, .f32⟩
  | .local _ .vmem, ⟨0, _⟩ => ⟨S512x1024, .f32⟩
  | .local _ .vmem, ⟨1, _⟩ => ⟨S512x1024, .f32⟩
  | .local _ .vmem, ⟨2, _⟩ => ⟨S8x1024, .f32⟩
  | .local _ .vmem, ⟨3, _⟩ => ⟨S4x1024x1024, .bf16⟩
  | .local _ .vmem, ⟨4, _⟩ => ⟨S4x512x1024, .f32⟩
  | .local _ .vmem, ⟨5, _⟩ => ⟨S4x512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S8x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S4x1024x1024 .bf16 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S4x512x1024 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference7Ideal.lean ====
abbrev S1x4096x1024 : Shape := ⟨3, ![1, 4096, 1024]⟩
abbrev S1x3072 : Shape := ⟨2, ![1, 3072]⟩
abbrev S1024 : Shape := ⟨1, ![1024]⟩
abbrev S1024x4096 : Shape := ⟨2, ![1024, 4096]⟩
abbrev S1x1024 : Shape := ⟨2, ![1, 1024]⟩
abbrev S_ : Shape := ⟨0, ![]⟩
abbrev S1x4096 : Shape := ⟨2, ![1, 4096]⟩
abbrev S1x4096x1 : Shape := ⟨3, ![1, 4096, 1]⟩
abbrev S1x1x1024 : Shape := ⟨3, ![1, 1, 1024]⟩
abbrev S1x4096x4096 : Shape := ⟨3, ![1, 4096, 4096]⟩
abbrev S4096x4x1024 : Shape := ⟨3, ![4096, 4, 1024]⟩
abbrev S4x4096x1024 : Shape := ⟨3, ![4, 4096, 1024]⟩

abbrev nBuf : Space → Nat
  | .hbm => 35
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x3072, .f32⟩
  | .hbm, ⟨2, _⟩ => ⟨S1024, .f32⟩
  | .hbm, ⟨3, _⟩ => ⟨S1024x4096, .f32⟩
  | .hbm, ⟨4, _⟩ => ⟨S1x1024, .f32⟩
  | .hbm, ⟨5, _⟩ => ⟨S1x1024, .f32⟩
  | .hbm, ⟨6, _⟩ => ⟨S1x1024, .f32⟩
  | .hbm, ⟨7, _⟩ => ⟨S1x4096x1024, .f32⟩
  | .hbm, ⟨8, _⟩ => ⟨S_, .f32⟩
  | .hbm, ⟨9, _⟩ => ⟨S1x4096, .f32⟩
  | .hbm, ⟨10, _⟩ => ⟨S1x4096x1, .f32⟩
  | .hbm, ⟨11, _⟩ => ⟨S_, .f32⟩
  | .hbm, ⟨12, _⟩ => ⟨S1x4096x1, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S1x4096x1, .f32⟩
  | .hbm, ⟨18, _⟩ => ⟨S1x4096x1024, .f32⟩
  | .hbm, ⟨19, _⟩ => ⟨S1x4096x1024, .f32⟩
  | .hbm, ⟨20, _⟩ => ⟨S1x1x1024, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S_, .f32⟩
  | .hbm, ⟨25, _⟩ => ⟨S1x1x1024, .f32⟩
  | .hbm, ⟨26, _⟩ => ⟨S1x1x1024, .f32⟩
  | .hbm, ⟨27, _⟩ => ⟨S1x4096x1024, .f32⟩
  | .hbm, ⟨28, _⟩ => ⟨S1x4096x1024, .f32⟩
  | .hbm, ⟨29, _⟩ => ⟨S1x1x1024, .f32⟩
  | .hbm, ⟨30, _⟩ => ⟨S1x4096x1024, .f32⟩
  | .hbm, ⟨31, _⟩ => ⟨S1x4096x1024, .f32⟩
  | .hbm, ⟨32, _⟩ => ⟨S1x4096x4096, .f32⟩
  | .hbm, ⟨33, _⟩ => ⟨S4096x4x1024, .f32⟩
  | .hbm, ⟨34, _⟩ => ⟨S4x4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_cst : Ref sig .tc := ⟨.hbm, 8, rfl⟩
abbrev main_v4 : Ref sig .tc := ⟨.hbm, 9, rfl⟩
abbrev main_v5 : Ref sig .tc := ⟨.hbm, 10, rfl⟩
abbrev main_cst_0 : Ref sig .tc := ⟨.hbm, 11, rfl⟩
abbrev main_v6 : Ref sig .tc := ⟨.hbm, 12, rfl⟩
abbrev main_v7 : Ref sig .tc := ⟨.hbm, 13, rfl⟩
abbrev main_cst_1 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_cst_2 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel8.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S1x1024 : Shape := ⟨2, ![1, 1024]⟩
abbrev S_ : Shape := ⟨0, ![]⟩
abbrev S6x1024 : Shape := ⟨2, ![6, 1024]⟩
abbrev S8x1024 : Shape := ⟨2, ![8, 1024]⟩
abbrev S4096x1024 : Shape := ⟨2, ![4096, 1024]⟩
abbrev S4x4096x1024 : Shape := ⟨3, ![4, 4096, 1024]⟩
abbrev S4096x2048 : Shape := ⟨2, ![4096, 2048]⟩
abbrev S2x512x1024 : Shape := ⟨3, ![2, 512, 1024]⟩
abbrev S512x1024 : Shape := ⟨2, ![512, 1024]⟩
abbrev S528x1024 : Shape := ⟨2, ![528, 1024]⟩
abbrev S16x1024 : Shape := ⟨2, ![16, 1024]⟩
abbrev S1x512x1024 : Shape := ⟨3, ![1, 512, 1024]⟩
abbrev S1x512x256 : Shape := ⟨3, ![1, 512, 256]⟩
abbrev S512x256 : Shape := ⟨2, ![512, 256]⟩
abbrev S528x256 : Shape := ⟨2, ![528, 256]⟩
abbrev S1x256x256 : Shape := ⟨3, ![1, 256, 256]⟩
abbrev S256x256 : Shape := ⟨2, ![256, 256]⟩
abbrev S1x256 : Shape := ⟨2, ![1, 256]⟩

abbrev nBuf : Space → Nat
  | .hbm => 23
  | .vmem => 7
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4x256x256, .f32⟩
  | .hbm, ⟨3, _⟩ => ⟨S4x256, .f32⟩
  | .hbm, ⟨4, _⟩ => ⟨S1024, .f32⟩
  | .hbm, ⟨5, _⟩ => ⟨S1x1024, .f32⟩
  | .hbm, ⟨6, _⟩ => ⟨S1x1024, .f32⟩
  | .hbm, ⟨7, _⟩ => ⟨S_, .f32⟩
  | .hbm, ⟨8, _⟩ => ⟨S6x1024, .f32⟩
  | .hbm, ⟨9, _⟩ => ⟨S8x1024, .f32⟩
  | .hbm, ⟨10, _⟩ => ⟨S_, .f32⟩
  | .hbm, ⟨11, _⟩ => ⟨S4096x1024, .f32⟩
  | .hbm, ⟨12, _⟩ => ⟨S4096x1024, .f32⟩
  | .hbm, ⟨13, _⟩ => ⟨S4096x1024, .f32⟩
  | .hbm, ⟨14, _⟩ => ⟨S1x4096x1024, .f32⟩
  | .hbm, ⟨15, _⟩ => ⟨S1x4096x1024, .f32⟩
  | .hbm, ⟨16, _⟩ => ⟨S1x4096x1024, .f32⟩
  | .hbm, ⟨17, _⟩ => ⟨S1x4096x1024, .f32⟩
  | .hbm, ⟨18, _⟩ => ⟨S4x4096x1024, .f32⟩
  | .hbm, ⟨19, _⟩ => ⟨S_, .bf16⟩
  | .hbm, ⟨20, _⟩ => ⟨S4096x2048, .bf16⟩
  | .hbm, ⟨21, _⟩ => ⟨S4x256x256, .bf16⟩
  | .hbm, ⟨22, _⟩ => ⟨S4096x2048, .bf16⟩
  | .local _ .vmem, ⟨0, _⟩ => ⟨S2x512x1024, .f32⟩
  | .local _ .vmem, ⟨1, _⟩ => ⟨S2x512x1024, .f32⟩
  | .local _ .vmem, ⟨2, _⟩ => ⟨S4x256x256, .bf16⟩
  | .local _ .vmem, ⟨3, _⟩ => ⟨S8x1024, .f32⟩
  | .local _ .vmem, ⟨4, _⟩ => ⟨S512x1024, .bf16⟩
  | .local _ .vmem, ⟨5, _⟩ => ⟨S512x1024, .bf16⟩
  | .local _ .vmem, ⟨6, _⟩ => ⟨S528x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_cst : Ref sig .tc := ⟨.hbm, 7, rfl⟩
abbrev main_v2 : Ref sig .tc := ⟨.hbm, 8, rfl⟩
abbrev main_v3 : Ref sig .tc := ⟨.hbm, 9, rfl⟩
abbrev main_cst_0 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg3_1 : Ref sig .tc := ⟨.vmem, 5, rfl⟩
abbrev cc0_scratch0 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem3_1 : DmaSem sig := 5

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c1_i32 : BitVec 32 := 1#32
  let c0_i32 : BitVec 32 := 0#32
  let c0_i32_0 : BitVec 32 := 0#32
  ![c1_i32.toNat, arg0.toNat, c0_i32.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

abbrev stage0_0 : Fin 2 → Memref sig .tc .vmem S2x512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x256x256 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S8x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== Reference8Ideal.lean ====
abbrev S1x4096x1024 : Shape := ⟨3, ![1, 4096, 1024]⟩
abbrev S4x256x256 : Shape := ⟨3, ![4, 256, 256]⟩
abbrev S4x256 : Shape := ⟨2, ![4, 256]⟩
abbrev S1024 : Shape := ⟨1, ![1024]⟩
abbrev S1x4096x4x256 : Shape := ⟨4, ![1, 4096, 4, 256]⟩
abbrev S_ : Shape := ⟨0, ![]⟩
abbrev S4096 : Shape := ⟨1, ![4096]⟩
abbrev S1x4096x1x256 : Shape := ⟨4, ![1, 4096, 1, 256]⟩
abbrev S1x4096x256 : Shape := ⟨3, ![1, 4096, 256]⟩
abbrev S1x2x256 : Shape := ⟨3, ![1, 2, 256]⟩
abbrev S1x4094x256 : Shape := ⟨3, ![1, 4094, 256]⟩
abbrev S1x4096x1 : Shape := ⟨3, ![1, 4096, 1]⟩
abbrev S1x4x256 : Shape := ⟨3, ![1, 4, 256]⟩
abbrev S1x4092x256 : Shape := ⟨3, ![1, 4092, 256]⟩
abbrev S1x8x256 : Shape := ⟨3, ![1, 8, 256]⟩
abbrev S1x4088x256 : Shape := ⟨3, ![1, 4088, 256]⟩
abbrev S1x16x256 : Shape := ⟨3, ![1, 16, 256]⟩
abbrev S1x4080x256 : Shape := ⟨3, ![1, 4080, 256]⟩
abbrev S4x256x1x4096 : Shape := ⟨4, ![4, 256, 1, 4096]⟩
abbrev S1x1x4x256 : Shape := ⟨4, ![1, 1, 4, 256]⟩
abbrev S1x1x1024 : Shape := ⟨3, ![1, 1, 1024]⟩
abbrev S4096x1024 : Shape := ⟨2, ![4096, 1024]⟩
abbrev S4096x2048 : Shape := ⟨2, ![4096, 2048]⟩

abbrev nBuf : Space → Nat
  | .hbm => 108
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4x256x256, .f32⟩
  | .hbm, ⟨3, _⟩ => ⟨S4x256, .f32⟩
  | .hbm, ⟨4, _⟩ => ⟨S1024, .f32⟩
  | .hbm, ⟨5, _⟩ => ⟨S1x4096x4x256, .f32⟩
  | .hbm, ⟨6, _⟩ => ⟨S_, .f32⟩
  | .hbm, ⟨7, _⟩ => ⟨S_, .f32⟩
  | .hbm, ⟨8, _⟩ => ⟨S1x4096x4x256, .f32⟩
  | .hbm, ⟨9, _⟩ => ⟨S4096, .i32⟩
  | .hbm, ⟨10, _⟩ => ⟨S1x4096x1x256, .f32⟩
  | .hbm, ⟨11, _⟩ => ⟨S1x4096x256, .f32⟩
  | .hbm, ⟨12, _⟩ => ⟨S_, .f32⟩
  | .hbm, ⟨13, _⟩ => ⟨S1x2x256, .f32⟩
  | .hbm, ⟨14, _⟩ => ⟨S1x4094x256, .f32⟩
  | .hbm, ⟨15, _⟩ => ⟨S1x4096x256, .f32⟩
  | .hbm, ⟨16, _⟩ => ⟨S_, .i32⟩
  | .hbm, ⟨17, _⟩ => ⟨S4096, .i32⟩
  | .hbm, ⟨18, _⟩ => ⟨S4096, .i32⟩
  | .hbm, ⟨19, _⟩ => ⟨S_, .i32⟩
  | .hbm, ⟨20, _⟩ => ⟨S4096, .i32⟩
  | .hbm, ⟨21, _⟩ => ⟨S4096, .i32⟩
  | .hbm, ⟨22, _⟩ => ⟨S4096, .f32⟩
  | .hbm, ⟨23, _⟩ => ⟨S1x4096x1, .f32⟩
  | .hbm, ⟨24, _⟩ => ⟨S1x4096x256, .f32⟩
  | .hbm, ⟨25, _⟩ => ⟨S1x4096x256, .f32⟩
  | .hbm, ⟨26, _⟩ => ⟨S1x4096x256, .f32⟩
  | .hbm, ⟨27, _⟩ => ⟨S1x4096x1x256, .f32⟩
  | .hbm, ⟨28, _⟩ => ⟨S1x4096x256, .f32⟩
  | .hbm, ⟨29, _⟩ => ⟨S_, .f32⟩
  | .hbm, ⟨30, _⟩ => ⟨S1x4x256, .f32⟩
  | .hbm, ⟨31, _⟩ => ⟨S1x4092x256, .f32⟩
  | .hbm, ⟨32, _⟩ => ⟨S1x4096x256, .f32⟩
  | .hbm, ⟨33, _⟩ => ⟨S_, .i32⟩
  | .hbm, ⟨34, _⟩ => ⟨S4096, .i32⟩
  | .hbm, ⟨35, _⟩ => ⟨S4096, .i32⟩
  | .hbm, ⟨36, _⟩ => ⟨S_, .i32⟩
  | .hbm, ⟨37, _⟩ => ⟨S4096, .i32⟩
  | .hbm, ⟨38, _⟩ => ⟨S4096, .i32⟩
  | .hbm, ⟨39, _⟩ => ⟨S4096, .f32⟩
  | .hbm, ⟨40, _⟩ => ⟨S1x4096x1, .f32⟩
  | .hbm, ⟨41, _⟩ => ⟨S1x4096x256, .f32⟩
  | .hbm, ⟨42, _⟩ => ⟨S1x4096x256, .f32⟩
  | .hbm, ⟨43, _⟩ => ⟨S1x4096x256, .f32⟩
  | .hbm, ⟨44, _⟩ => ⟨S1x4096x1x256, .f32⟩
  | .hbm, ⟨45, _⟩ => ⟨S1x4096x256, .f32⟩
  | .hbm, ⟨46, _⟩ => ⟨S_, .f32⟩
  | .hbm, ⟨47, _⟩ => ⟨S1x8x256, .f32⟩
  | .hbm, ⟨48, _⟩ => ⟨S1x4088x256, .f32⟩
  | .hbm, ⟨49, _⟩ => ⟨S1x4096x256, .f32⟩
  | .hbm, ⟨50, _⟩ => ⟨S_, .i32⟩
  | .hbm, ⟨51, _⟩ => ⟨S4096, .i32⟩
  | .hbm, ⟨52, _⟩ => ⟨S4096, .i32⟩
  | .hbm, ⟨53, _⟩ => ⟨S_, .i32⟩
  | .hbm, ⟨54, _⟩ => ⟨S4096, .i32⟩
  | .hbm, ⟨55, _⟩ => ⟨S4096, .i32⟩
  | .hbm, ⟨56, _⟩ => ⟨S4096, .f32⟩
  | .hbm, ⟨57, _⟩ => ⟨S1x4096x1, .f32⟩
  | .hbm, ⟨58, _⟩ => ⟨S1x4096x256, .f32⟩
  | .hbm, ⟨59, _⟩ => ⟨S1x4096x256, .f32⟩
  | .hbm, ⟨60, _⟩ => ⟨S1x4096x256, .f32⟩
  | .hbm, ⟨61, _⟩ => ⟨S1x4096x1x256, .f32⟩
  | .hbm, ⟨62, _⟩ => ⟨S1x4096x256, .f32⟩
  | .hbm, ⟨63, _⟩ => ⟨S_, .f32⟩
  | .hbm, ⟨64, _⟩ => ⟨S1x16x256, .f32⟩
  | .hbm, ⟨65, _⟩ => ⟨S1x4080x256, .f32⟩
  | .hbm, ⟨66, _⟩ => ⟨S1x4096x256, .f32⟩
  | .hbm, ⟨67, _⟩ => ⟨S_, .i32⟩
  | .hbm, ⟨68, _⟩ => ⟨S4096, .i32⟩
  | .hbm, ⟨69, _⟩ => ⟨S4096, .i32⟩
  | .hbm, ⟨70, _⟩ => ⟨S_, .i32⟩
  | .hbm, ⟨71, _⟩ => ⟨S4096, .i32⟩
  | .hbm, ⟨72, _⟩ => ⟨S4096, .i32⟩
  | .hbm, ⟨73, _⟩ => ⟨S4096, .f32⟩
  | .hbm, ⟨74, _⟩ => ⟨S1x4096x1, .f32⟩
  | .hbm, ⟨75, _⟩ => ⟨S1x4096x256, .f32⟩
  | .hbm, ⟨76, _⟩ => ⟨S1x4096x256, .f32⟩
  | .hbm, ⟨77, _⟩ => ⟨S1x4096x256, .f32⟩
  | .hbm, ⟨78, _⟩ => ⟨S1x4096x1x256, .f32⟩
  | .hbm, ⟨79, _⟩ => ⟨S1x4096x1x256, .f32⟩
  | .hbm, ⟨80, _⟩ => ⟨S1x4096x1x256, .f32⟩
  | .hbm, ⟨81, _⟩ => ⟨S1x4096x1x256, .f32⟩
  | .hbm, ⟨82, _⟩ => ⟨S1x4096x4x256, .f32⟩
  | .hbm, ⟨83, _⟩ => ⟨S1x4096x4x256, .f32⟩
  | .hbm, ⟨84, _⟩ => ⟨S4x256x1x4096, .f32⟩
  | .hbm, ⟨85, _⟩ => ⟨S1x4096x4x256, .f32⟩
  | .hbm, ⟨86, _⟩ => ⟨S1x1x4x256, .f32⟩
  | .hbm, ⟨87, _⟩ => ⟨S1x4096x4x256, .f32⟩
  | .hbm, ⟨88, _⟩ => ⟨S1x4096x4x256, .f32⟩
  | .hbm, ⟨89, _⟩ => ⟨S1x4096x1024, .f32⟩
  | .hbm, ⟨90, _⟩ => ⟨S1x1x1024, .f32⟩
  | .hbm, ⟨91, _⟩ => ⟨S1x4096x1024, .f32⟩
  | .hbm, ⟨92, _⟩ => ⟨S1x4096x1024, .f32⟩
  | .hbm, ⟨93, _⟩ => ⟨S1x4096x1024, .f32⟩
  | .hbm, ⟨94, _⟩ => ⟨S1x4096x1024, .f32⟩
  | .hbm, ⟨95, _⟩ => ⟨S_, .f32⟩
  | .hbm, ⟨96, _⟩ => ⟨S1x4096x1024, .f32⟩
  | .hbm, ⟨97, _⟩ => ⟨S1x4096x1024, .f32⟩
  | .hbm, ⟨98, _⟩ => ⟨S_, .f32⟩
  | .hbm, ⟨99, _⟩ => ⟨S1x4096x1024, .f32⟩
  | .hbm, ⟨100, _⟩ => ⟨S1x4096x1024, .f32⟩
  | .hbm, ⟨101, _⟩ => ⟨S1x4096x1024, .f32⟩
  | .hbm, ⟨102, _⟩ => ⟨S1x4096x1024, .f32⟩
  | .hbm, ⟨103, _⟩ => ⟨S4096x1024, .f32⟩
  | .hbm, ⟨104, _⟩ => ⟨S_, .f32⟩
  | .hbm, ⟨105, _⟩ => ⟨S4096x1024, .f32⟩
  | .hbm, ⟨106, _⟩ => ⟨S4096x2048, .f32⟩
  | .hbm, ⟨107, _⟩ => ⟨S4096x2048, .bf16⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_call0_call0_cst : Ref sig .tc := ⟨.hbm, 6, rfl⟩
abbrev main_call0_call0_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_cst : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_c : Ref sig .tc := ⟨.hbm, 16, rfl⟩
abbrev main_v8 : Ref sig .tc := ⟨.hbm, 17, rfl⟩
abbrev main_v9 : Ref sig .tc := ⟨.hbm, 18, rfl⟩
abbrev main_c_0 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_cst_1 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_c_2 : Ref sig .tc := ⟨.hbm, 33, rfl⟩
abbrev main_v22 : Ref sig .tc := ⟨.hbm, 34, rfl⟩
abbrev main_v23 : Ref sig .tc := ⟨.hbm, 35, rfl⟩
abbrev main_c_3 : Ref sig .tc := ⟨.hbm, 36, rfl⟩
abbrev main_v24 : Ref sig .tc := ⟨.hbm, 37, rfl⟩
abbrev main_v25 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_v29 : Ref sig .tc := ⟨.hbm, 42, rfl⟩
abbrev main_v30 : Ref sig .tc := ⟨.hbm, 43, rfl⟩
abbrev main_v31 : Ref sig .tc := ⟨.hbm, 44, rfl⟩
abbrev main_v32 : Ref sig .tc := ⟨.hbm, 45, rfl⟩
abbrev main_cst_4 : Ref sig .tc := ⟨.hbm, 46, rfl⟩
abbrev main_v33 : Ref sig .tc := ⟨.hbm, 47, rfl⟩
abbrev main_v34 : Ref sig .tc := ⟨.hbm, 48, rfl⟩
abbrev main_v35 : Ref sig .tc := ⟨.hbm, 49, rfl⟩
abbrev main_c_5 : Ref sig .tc := ⟨.hbm, 50, rfl⟩
abbrev main_v36 : Ref sig .tc := ⟨.hbm, 51, rfl⟩
abbrev main_v37 : Ref sig .tc := ⟨.hbm, 52, rfl⟩
abbrev main_c_6 : Ref sig .tc := ⟨.hbm, 53, rfl⟩
abbrev main_v38 : Ref sig .tc := ⟨.hbm, 54, rfl⟩
abbrev main_v39 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_v45 : Ref sig .tc := ⟨.hbm, 61, rfl⟩
abbrev main_v46 : Ref sig .tc := ⟨.hbm, 62, rfl⟩
abbrev main_cst_7 : Ref sig .tc := ⟨.hbm, 63, rfl⟩
abbrev main_v47 : Ref sig .tc := ⟨.hbm, 64, rfl⟩
abbrev main_v48 : Ref sig .tc := ⟨.hbm, 65, rfl⟩
abbrev main_v49 : Ref sig .tc := ⟨.hbm, 66, rfl⟩
abbrev main_c_8 : Ref sig .tc := ⟨.hbm, 67, rfl⟩
abbrev main_v50 : Ref sig .tc := ⟨.hbm, 68, rfl⟩
abbrev main_v51 : Ref sig .tc := ⟨.hbm, 69, rfl⟩
abbrev main_c_9 : Ref sig .tc := ⟨.hbm, 70, rfl⟩
abbrev main_v52 : Ref sig .tc := ⟨.hbm, 71, rfl⟩
abbrev main_v53 : Ref sig .tc := ⟨.hbm, 72, rfl⟩
abbrev main_v54 : Ref sig .tc := ⟨.hbm, 73, rfl⟩
abbrev main_v55 : Ref sig .tc := ⟨.hbm, 74, rfl⟩
abbrev main_v56 : Ref sig .tc := ⟨.hbm, 75, rfl⟩
abbrev main_v57 : Ref sig .tc := ⟨.hbm, 76, rfl⟩
abbrev main_v58 : Ref sig .tc := ⟨.hbm, 77, rfl⟩
abbrev main_v59 : Ref sig .tc := ⟨.hbm, 78, rfl⟩
abbrev main_v60 : Ref sig .tc := ⟨.hbm, 79, rfl⟩
abbrev main_v61 : Ref sig .tc := ⟨.hbm, 80, rfl⟩
abbrev main_v62 : Ref sig .tc := ⟨.hbm, 81, rfl⟩
abbrev main_v63 : Ref sig .tc := ⟨.hbm, 82, rfl⟩
abbrev main_v64 : Ref sig .tc := ⟨.hbm, 83, rfl⟩
abbrev main_v65 : Ref sig .tc := ⟨.hbm, 84, rfl⟩
abbrev main_v66 : Ref sig .tc := ⟨.hbm, 85, rfl⟩
abbrev main_v67 : Ref sig .tc := ⟨.hbm, 86, rfl⟩
abbrev main_v68 : Ref sig .tc := ⟨.hbm, 87, rfl⟩
abbrev main_v69 : Ref sig .tc := ⟨.hbm, 88, rfl⟩
abbrev main_v70 : Ref sig .tc := ⟨.hbm, 89, rfl⟩
abbrev main_v71 : Ref sig .tc := ⟨.hbm, 90, rfl⟩
abbrev main_v72 : Ref sig .tc := ⟨.hbm, 91, rfl⟩
abbrev main_v73 : Ref sig .tc := ⟨.hbm, 92, rfl⟩
abbrev main_call1_v0 : Ref sig .tc := ⟨.hbm, 93, rfl⟩
abbrev main_call1_v1 : Ref sig .tc := ⟨.hbm, 94, rfl⟩
abbrev main_call1_cst : Ref sig .tc := ⟨.hbm, 95, rfl⟩
abbrev main_call1_v2 : Ref sig .tc := ⟨.hbm, 96, rfl⟩
abbrev main_call1_v3 : Ref sig .tc := ⟨.hbm, 97, rfl⟩
abbrev main_call1_cst_0 : Ref sig .tc := ⟨.hbm, 98, rfl⟩
abbrev main_call1_v4 : Ref sig .tc := ⟨.hbm, 99, rfl⟩
abbrev main_call1_v5 : Ref sig .tc := ⟨.hbm, 100, rfl⟩
abbrev main_v74 : Ref sig .tc := ⟨.hbm, 101, rfl⟩
abbrev main_v75 : Ref sig .tc := ⟨.hbm, 102, rfl⟩
abbrev main_v76 : Ref sig .tc := ⟨.hbm, 103, rfl⟩
abbrev main_cst_10 : Ref sig .tc := ⟨.hbm, 104, rfl⟩
abbrev main_v77 : Ref sig .tc := ⟨.hbm, 105, rfl⟩
abbrev main_v78 : Ref sig .tc := ⟨.hbm, 106, rfl⟩
abbrev main_v79 : Ref sig .tc := ⟨.hbm, 107, rfl⟩

abbrev nD : Nat := 1
abbrev τ : Topo := Topo.v7x

variable {F : FTy → Type} [FloatOps F]
-- ==== Kernel9.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S3x1024 : Shape := ⟨2, ![3, 1024]⟩
abbrev S_ : Shape := ⟨0, ![]⟩
abbrev S1x1024 : Shape := ⟨2, ![1, 1024]⟩
abbrev S8x1024 : Shape := ⟨2, ![8, 1024]⟩
abbrev S4096x2048 : Shape := ⟨2, ![4096, 2048]⟩
abbrev S4x512x1024 : Shape := ⟨3, ![4, 512, 1024]⟩
abbrev S4096x1024 : Shape := ⟨2, ![4096, 1024]⟩
abbrev S512x2048 : Shape := ⟨2, ![512, 2048]⟩
abbrev S512x1024 : Shape := ⟨2, ![512, 1024]⟩
abbrev S512x512 : Shape := ⟨2, ![512, 512]⟩
abbrev S1x512x1024 : Shape := ⟨3, ![1, 512, 1024]⟩
abbrev S512 : Shape := ⟨1, ![512]⟩
abbrev S512x1 : Shape := ⟨2, ![512, 1]⟩

abbrev nBuf : Space → Nat
  | .hbm => 19
  | .vmem => 10
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S3x1024, .f32⟩
  | .hbm, ⟨6, _⟩ => ⟨S_, .f32⟩
  | .hbm, ⟨7, _⟩ => ⟨S1x1024, .f32⟩
  | .hbm, ⟨8, _⟩ => ⟨S1x1024, .f32⟩
  | .hbm, ⟨9, _⟩ => ⟨S_, .f32⟩
  | .hbm, ⟨10, _⟩ => ⟨S3x1024, .f32⟩
  | .hbm, ⟨11, _⟩ => ⟨S8x1024, .f32⟩
  | .hbm, ⟨12, _⟩ => ⟨S4096x2048, .f32⟩
  | .hbm, ⟨13, _⟩ => ⟨S4096x2048, .bf16⟩
  | .hbm, ⟨14, _⟩ => ⟨S4x512x1024, .f32⟩
  | .hbm, ⟨15, _⟩ => ⟨S4x512x1024, .bf16⟩
  | .hbm, ⟨16, _⟩ => ⟨S4096x1024, .f32⟩
  | .hbm, ⟨17, _⟩ => ⟨S4096x1024, .bf16⟩
  | .hbm, ⟨18, _⟩ => ⟨S4096x1024, .f32⟩
  | .local _ .vmem, ⟨0, _⟩ => ⟨S512x2048, .bf16⟩
  | .local _ .vmem, ⟨1, _⟩ => ⟨S512x2048, .bf16⟩
  | .local _ .vmem, ⟨2, _⟩ => ⟨S4x512x1024, .bf16⟩
  | .local _ .vmem, ⟨3, _⟩ => ⟨S512x1024, .f32⟩
  | .local _ .vmem, ⟨4, _⟩ => ⟨S512x1024, .f32⟩
  | .local _ .vmem, ⟨5, _⟩ => ⟨S8x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .f32⟩
  | .local _ .vmem, ⟨9, _⟩ => ⟨S512x1024, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10_0 : Ref sig .tc := ⟨.hbm, 17, rfl⟩
abbrev main_v10_1 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem4_1 : DmaSem sig := 7
abbrev cc0_sem5_0 : DmaSem sig := 8
abbrev cc0_sem5_1 : DmaSem sig := 9

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4x512x1024 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S8x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== Reference9Ideal.lean ====
abbrev S1x4096x1024 : Shape := ⟨3, ![1, 4096, 1024]⟩
abbrev S1x4096x2048 : Shape := ⟨3, ![1, 4096, 2048]⟩
abbrev S1x3072 : Shape := ⟨2, ![1, 3072]⟩
abbrev S1024 : Shape := ⟨1, ![1024]⟩
abbrev S2048x1024 : Shape := ⟨2, ![2048, 1024]⟩
abbrev S1x1024 : Shape := ⟨2, ![1, 1024]⟩
abbrev S1x1x1024 : Shape := ⟨3, ![1, 1, 1024]⟩
abbrev S_ : Shape := ⟨0, ![]⟩
abbrev S1x4096 : Shape := ⟨2, ![1, 4096]⟩
abbrev S1x4096x1 : Shape := ⟨3, ![1, 4096, 1]⟩
abbrev S4096x1024 : Shape := ⟨2, ![4096, 1024]⟩

abbrev nBuf : Space → Nat
  | .hbm => 32
  | .vmem => 0
  | .smem => 0
  | _ => 0

abbrev bufTy : (tb : Table) → Fin (tcTables nBuf tb) → BufTy
  | .hbm, ⟨0, _⟩ => ⟨S1x4096x1024, .f32⟩
  | .hbm, ⟨1, _⟩ => ⟨S1x4096x2048, .f32⟩
  | .hbm, ⟨2, _⟩ => ⟨S1x3072, .f32⟩
  | .hbm, ⟨3, _⟩ => ⟨S1024, .f32⟩
  | .hbm, ⟨4, _⟩ => ⟨S2048x1024, .f32⟩
  | .hbm, ⟨5, _⟩ => ⟨S1x1024, .f32⟩
  | .hbm, ⟨6, _⟩ => ⟨S1x1024, .f32⟩
  | .hbm, ⟨7, _⟩ => ⟨S1x1024, .f32⟩
  | .hbm, ⟨8, _⟩ => ⟨S1x4096x1024, .f32⟩
  | .hbm, ⟨9, _⟩ => ⟨S1x1x1024, .f32⟩
  | .hbm, ⟨10, _⟩ => ⟨S1x4096x1024, .f32⟩
  | .hbm, ⟨11, _⟩ => ⟨S_, .f32⟩
  | .hbm, ⟨12, _⟩ => ⟨S1x4096, .f32⟩
  | .hbm, ⟨13, _⟩ => ⟨S1x4096x1, .f32⟩
  | .hbm, ⟨14, _⟩ => ⟨S_, .f32⟩
  | .hbm, ⟨15, _⟩ => ⟨S1x4096x1, .f32⟩
  | .hbm, ⟨16, _⟩ => ⟨S1x4096x1, .f32⟩
  | .hbm, ⟨17, _⟩ => ⟨S_, .f32⟩
  | .hbm, ⟨18, _⟩ => ⟨S1x4096x1, .f32⟩
  | .hbm, ⟨19, _⟩ => ⟨S1x4096x1, .f32⟩
  | .hbm, ⟨20, _⟩ => ⟨S1x4096x1, .f32⟩
  | .hbm, ⟨21, _⟩ => ⟨S1x4096x1024, .f32⟩
  | .hbm, ⟨22, _⟩ => ⟨S1x4096x1024, .f32⟩
  | .hbm, ⟨23, _⟩ => ⟨S1x1x1024, .f32⟩
  | .hbm, ⟨24, _⟩ => ⟨S1x4096x1024, .f32⟩
  | .hbm, ⟨25, _⟩ => ⟨S1x4096x1024, .f32⟩
  | .hbm, ⟨26, _⟩ => ⟨S1x4096x1024, .f32⟩
  | .hbm, ⟨27, _⟩ => ⟨S1x4096x1024, .f32⟩
  | .hbm, ⟨28, _⟩ => ⟨S1x4096x1024, .f32⟩
  | .hbm, ⟨29, _⟩ => ⟨S4096x1024, .f32⟩
  | .hbm, ⟨30, _⟩ => ⟨S4096x1024, .bf16⟩
  | .hbm, ⟨31, _⟩ => ⟨S4096x1024, .f32⟩
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_cst_0 : Ref sig .tc := ⟨.hbm, 14, rfl⟩
abbrev main_v8 : Ref sig .tc := ⟨.hbm, 15, rfl⟩
abbrev main_v9 : Ref sig .tc := ⟨.hbm, 16, rfl⟩
abbrev main_cst_1 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩

abbrev nD : Nat := 1
abbrev τ : Topo := Topo.v7x

variable {F : FTy → Type} [FloatOps F]
-- ==== Kernel10.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S1x1024 : Shape := ⟨2, ![1, 1024]⟩
abbrev S_ : Shape := ⟨0, ![]⟩
abbrev S8x1024 : Shape := ⟨2, ![8, 1024]⟩
abbrev S4096x1024 : Shape := ⟨2, ![4096, 1024]⟩
abbrev S4x4096x1024 : Shape := ⟨3, ![4, 4096, 1024]⟩
abbrev S4096x2048 : Shape := ⟨2, ![4096, 2048]⟩
abbrev S2x8x128x128 : Shape := ⟨4, ![2, 8, 128, 128]⟩
abbrev S16x1024 : Shape := ⟨2, ![16, 1024]⟩
abbrev S2x1024x128 : Shape := ⟨3, ![2, 1024, 128]⟩
abbrev S1x16x128 : Shape := ⟨3, ![1, 16, 128]⟩
abbrev S1024x128 : Shape := ⟨2, ![1024, 128]⟩
abbrev S16x128 : Shape := ⟨2, ![16, 128]⟩
abbrev S4x128 : Shape := ⟨2, ![4, 128]⟩
abbrev S1x128x128 : Shape := ⟨3, ![1, 128, 128]⟩
abbrev S2x1x128x128 : Shape := ⟨4, ![2, 1, 128, 128]⟩
abbrev S1040x128 : Shape := ⟨2, ![1040, 128]⟩
abbrev S1x1024x128 : Shape := ⟨3, ![1, 1024, 128]⟩
abbrev S128x128 : Shape := ⟨2, ![128, 128]⟩
abbrev S1x128 : Shape := ⟨2, ![1, 128]⟩
abbrev S1016x128 : Shape := ⟨2, ![1016, 128]⟩
abbrev S1008x128 : Shape := ⟨2, ![1008, 128]⟩
abbrev S992x128 : Shape := ⟨2, ![992, 128]⟩
abbrev S32x128 : Shape := ⟨2, ![32, 128]⟩
abbrev S960x128 : Shape := ⟨2, ![960, 128]⟩
abbrev S64x128 : Shape := ⟨2, ![64, 128]⟩
abbrev S896x128 : Shape := ⟨2, ![896, 128]⟩
abbrev S768x128 : Shape := ⟨2, ![768, 128]⟩
abbrev S256x128 : Shape := ⟨2, ![256, 128]⟩
abbrev S512x128 : Shape := ⟨2, ![512, 128]⟩
abbrev S128 : Shape := ⟨1, ![128]⟩
abbrev S1x1x128x128 : Shape := ⟨4, ![1, 1, 128, 128]⟩

abbrev nBuf : Space → Nat
  | .hbm => 37
  | .vmem => 29
  | .smem => 0
  | _ => 0

abbrev bufTy : (tb : Table) → Fin (tcTables nBuf tb) → BufTy
  | .hbm, ⟨0, _⟩ => ⟨S1x4096x1024, .f32⟩
  | .hbm, ⟨1, _⟩ => ⟨S1x4096x1024, .f32⟩
  | .hbm, ⟨2, _⟩ => ⟨S4x1024, .f32⟩
  | .hbm, ⟨3, _⟩ => ⟨S1024, .f32⟩
  | .hbm, ⟨4, _⟩ => ⟨S8x128x128, .f32⟩
  | .hbm, ⟨5, _⟩ => ⟨S8x128, .f32⟩
  | .hbm, ⟨6, _⟩ => ⟨S8x128x128, .f32⟩
  | .hbm, ⟨7, _⟩ => ⟨S8x128, .f32⟩
  | .hbm, ⟨8, _⟩ => ⟨S1024, .f32⟩
  | .hbm, ⟨9, _⟩ => ⟨S1x4096x1024, .f32⟩
  | .hbm, ⟨10, _⟩ => ⟨S1x4096x1024, .f32⟩
  | .hbm, ⟨11, _⟩ => ⟨S1x1024, .f32⟩
  | .hbm, ⟨12, _⟩ => ⟨S1x1024, .f32⟩
  | .hbm, ⟨13, _⟩ => ⟨S1x1024, .f32⟩
  | .hbm, ⟨14, _⟩ => ⟨S1x1024, .f32⟩
  | .hbm, ⟨15, _⟩ => ⟨S_, .f32⟩
  | .hbm, ⟨16, _⟩ => ⟨S4x1024, .f32⟩
  | .hbm, ⟨17, _⟩ => ⟨S8x1024, .f32⟩
  | .hbm, ⟨18, _⟩ => ⟨S_, .f32⟩
  | .hbm, ⟨19, _⟩ => ⟨S4096x1024, .f32⟩
  | .hbm, ⟨20, _⟩ => ⟨S4096x1024, .f32⟩
  | .hbm, ⟨21, _⟩ => ⟨S4096x1024, .f32⟩
  | .hbm, ⟨22, _⟩ => ⟨S1x4096x1024, .f32⟩
  | .hbm, ⟨23, _⟩ => ⟨S1x4096x1024, .f32⟩
  | .hbm, ⟨24, _⟩ => ⟨S1x4096x1024, .f32⟩
  | .hbm, ⟨25, _⟩ => ⟨S1x4096x1024, .f32⟩
  | .hbm, ⟨26, _⟩ => ⟨S4x4096x1024, .f32⟩
  | .hbm, ⟨27, _⟩ => ⟨S4096x1024, .f32⟩
  | .hbm, ⟨28, _⟩ => ⟨S4096x2048, .f32⟩
  | .hbm, ⟨29, _⟩ => ⟨S4096x1024, .f32⟩
  | .hbm, ⟨30, _⟩ => ⟨S8x128x128, .bf16⟩
  | .hbm, ⟨31, _⟩ => ⟨S8x128x128, .bf16⟩
  | .hbm, ⟨32, _⟩ => ⟨S_, .f32⟩
  | .hbm, ⟨33, _⟩ => ⟨S8x128, .f32⟩
  | .hbm, ⟨34, _⟩ => ⟨S4x4096x1024, .bf16⟩
  | .hbm, ⟨35, _⟩ => ⟨S2x8x128x128, .bf16⟩
  | .hbm, ⟨36, _⟩ => ⟨S16x1024, .f32⟩
  | .local _ .vmem, ⟨0, _⟩ => ⟨S2x1024x128, .f32⟩
  | .local _ .vmem, ⟨1, _⟩ => ⟨S2x1024x128, .f32⟩
  | .local _ .vmem, ⟨2, _⟩ => ⟨S1x16x128, .f32⟩
  | .local _ .vmem, ⟨3, _⟩ => ⟨S1x16x128, .f32⟩
  | .local _ .vmem, ⟨4, _⟩ => ⟨S1024x128, .f32⟩
  | .local _ .vmem, ⟨5, _⟩ => ⟨S1024x128, .f32⟩
  | .local _ .vmem, ⟨6, _⟩ => ⟨S16x128, .f32⟩
  | .local _ .vmem, ⟨7, _⟩ => ⟨S16x128, .f32⟩
  | .local _ .vmem, ⟨8, _⟩ => ⟨S1024x128, .f32⟩
  | .local _ .vmem, ⟨9, _⟩ => ⟨S1024x128, .f32⟩
  | .local _ .vmem, ⟨10, _⟩ => ⟨S4x128, .f32⟩
  | .local _ .vmem, ⟨11, _⟩ => ⟨S4x128, .f32⟩
  | .local _ .vmem, ⟨12, _⟩ => ⟨S8x128, .f32⟩
  | .local _ .vmem, ⟨13, _⟩ => ⟨S8x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S2x1024x128, .bf16⟩
  | .local _ .vmem, ⟨19, _⟩ => ⟨S2x1024x128, .bf16⟩
  | .local _ .vmem, ⟨20, _⟩ => ⟨S2x1x128x128, .bf16⟩
  | .local _ .vmem, ⟨21, _⟩ => ⟨S2x1x128x128, .bf16⟩
  | .local _ .vmem, ⟨22, _⟩ => ⟨S16x128, .f32⟩
  | .local _ .vmem, ⟨23, _⟩ => ⟨S16x128, .f32⟩
  | .local _ .vmem, ⟨24, _⟩ => ⟨S1040x128, .f32⟩
  | .local _ .vmem, ⟨25, _⟩ => ⟨S1040x128, .f32⟩
  | .local _ .vmem, ⟨26, _⟩ => ⟨S1040x128, .f32⟩
  | .local _ .vmem, ⟨27, _⟩ => ⟨S8x128, .f32⟩
  | .local _ .vmem, ⟨28, _⟩ => ⟨S2x1x128x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_cst : Ref sig .tc := ⟨.hbm, 15, rfl⟩
abbrev main_v4 : Ref sig .tc := ⟨.hbm, 16, rfl⟩
abbrev main_v5 : Ref sig .tc := ⟨.hbm, 17, rfl⟩
abbrev main_cst_0 : Ref sig .tc := ⟨.hbm, 18, rfl⟩
abbrev main_v6 : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_cst_1 : Ref sig .tc := ⟨.hbm, 32, rfl⟩
abbrev main_v19 : Ref sig .tc := ⟨.hbm, 33, rfl⟩
abbrev main_v20_0 : Ref sig .tc := ⟨.hbm, 34, rfl⟩
abbrev main_v20_1 : Ref sig .tc := ⟨.hbm, 35, rfl⟩
abbrev main_v20_2 : Ref sig .tc := ⟨.hbm, 36, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v0 : BitVec 1 := Scalar.cmpi .eq arg1 c3_i32
  let v410 : BitVec 32 := Scalar.extui v0
  let c0_i32_210 : BitVec 32 := 0#32
  let v411 : BitVec 1 := Scalar.cmpi .ne v410 c0_i32_210
  v411

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Kernel11.lean ====
abbrev S2x1024x1024 : Shape := ⟨3, ![2, 1024, 1024]⟩
abbrev S1024x1024 : Shape := ⟨2, ![1024, 1024]⟩
abbrev S2048x1024 : Shape := ⟨2, ![2048, 1024]⟩
abbrev S512x1024 : Shape := ⟨2, ![512, 1024]⟩

abbrev nBuf : Space → Nat
  | .hbm => 14
  | .vmem => 18
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .bf16⟩
  | .hbm, ⟨6, _⟩ => ⟨S1024x1024, .bf16⟩
  | .hbm, ⟨7, _⟩ => ⟨S2048x1024, .f32⟩
  | .hbm, ⟨8, _⟩ => ⟨S2048x1024, .f32⟩
  | .hbm, ⟨9, _⟩ => ⟨S2048x1024, .f32⟩
  | .hbm, ⟨10, _⟩ => ⟨S2048x1024, .f32⟩
  | .hbm, ⟨11, _⟩ => ⟨S2048x1024, .f32⟩
  | .hbm, ⟨12, _⟩ => ⟨S2048x1024, .f32⟩
  | .hbm, ⟨13, _⟩ => ⟨S2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S512x1024, .bf16⟩
  | .local _ .vmem, ⟨7, _⟩ => ⟨S512x1024, .bf16⟩
  | .local _ .vmem, ⟨8, _⟩ => ⟨S512x1024, .bf16⟩
  | .local _ .vmem, ⟨9, _⟩ => ⟨S512x1024, .bf16⟩
  | .local _ .vmem, ⟨10, _⟩ => ⟨S512x1024, .f32⟩
  | .local _ .vmem, ⟨11, _⟩ => ⟨S512x1024, .f32⟩
  | .local _ .vmem, ⟨12, _⟩ => ⟨S512x1024, .f32⟩
  | .local _ .vmem, ⟨13, _⟩ => ⟨S512x1024, .f32⟩
  | .local _ .vmem, ⟨14, _⟩ => ⟨S512x1024, .f32⟩
  | .local _ .vmem, ⟨15, _⟩ => ⟨S512x1024, .f32⟩
  | .local _ .vmem, ⟨16, _⟩ => ⟨S512x1024, .f32⟩
  | .local _ .vmem, ⟨17, _⟩ => ⟨S512x1024, .f32⟩
  | _, _ => ⟨S2x1024x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5_0 : Ref sig .tc := ⟨.hbm, 10, rfl⟩
abbrev main_v5_1 : Ref sig .tc := ⟨.hbm, 11, rfl⟩
abbrev main_v5_2 : Ref sig .tc := ⟨.hbm, 12, rfl⟩
abbrev main_v5_3 : Ref sig .tc := ⟨.hbm, 13, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17

abbrev nD : Nat := 1
abbrev τ : Topo := Topo.v7x

variable {F : FTy → Type} [FloatOps F]

abbrev grid0 : Pipeline.Grid := ⟨1, ![2], ![false]⟩

def cc0_transform_0 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_2 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_3 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_4 (i : grid0.Coords) : Fin 2 → Nat :=
  let arg0 : BitVec 32 := BitVec.ofNat 32 (i 0).val
  let c0_i32 : BitVec 32 := 0#32
  let v0 : BitVec 32 := Scalar.addi c0_i32 arg0
  let c0_i32_0 : BitVec 32 := 0#32
  let c0_i32_1 : BitVec 32 := 0#32
  ![v0.toNat, c0_i32_0.toNat]

def cc0_transform_5 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_6 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_7 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

def cc0_transform_8 (i : grid0.Coords) : Fin 2 → Nat :=
  let arg0 : BitVec 32 := BitVec.ofNat 32 (i 0).val
  let c2_i32 : BitVec 32 := 2#32
  let v0 : BitVec 32 := Scalar.addi c2_i32 arg0
  let c0_i32 : BitVec 32 := 0#32
  let c0_i32_0 : BitVec 32 := 0#32
  ![v0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S512x1024 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S512x1024 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S512x1024 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S512x1024 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S512x1024 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]
-- ==== Reference11Ideal.lean ====
abbrev S2x1024x1024 : Shape := ⟨3, ![2, 1024, 1024]⟩
abbrev S1024x1024 : Shape := ⟨2, ![1024, 1024]⟩
abbrev S1x1024x1024 : Shape := ⟨3, ![1, 1024, 1024]⟩
abbrev S_ : Shape := ⟨0, ![]⟩
abbrev S2048x1024 : Shape := ⟨2, ![2048, 1024]⟩

abbrev nBuf : Space → Nat
  | .hbm => 51
  | .vmem => 0
  | .smem => 0
  | _ => 0

abbrev bufTy : (tb : Table) → Fin (tcTables nBuf tb) → BufTy
  | .hbm, ⟨0, _⟩ => ⟨S2x1024x1024, .f32⟩
  | .hbm, ⟨1, _⟩ => ⟨S2x1024x1024, .f32⟩
  | .hbm, ⟨2, _⟩ => ⟨S2x1024x1024, .f32⟩
  | .hbm, ⟨3, _⟩ => ⟨S1024x1024, .f32⟩
  | .hbm, ⟨4, _⟩ => ⟨S1024x1024, .f32⟩
  | .hbm, ⟨5, _⟩ => ⟨S1024x1024, .f32⟩
  | .hbm, ⟨6, _⟩ => ⟨S1x1024x1024, .f32⟩
  | .hbm, ⟨7, _⟩ => ⟨S1024x1024, .f32⟩
  | .hbm, ⟨8, _⟩ => ⟨S1x1024x1024, .f32⟩
  | .hbm, ⟨9, _⟩ => ⟨S1024x1024, .f32⟩
  | .hbm, ⟨10, _⟩ => ⟨S1x1024x1024, .f32⟩
  | .hbm, ⟨11, _⟩ => ⟨S1024x1024, .f32⟩
  | .hbm, ⟨12, _⟩ => ⟨S_, .f32⟩
  | .hbm, ⟨13, _⟩ => ⟨S1024x1024, .f32⟩
  | .hbm, ⟨14, _⟩ => ⟨S1024x1024, .f32⟩
  | .hbm, ⟨15, _⟩ => ⟨S_, .f32⟩
  | .hbm, ⟨16, _⟩ => ⟨S1024x1024, .f32⟩
  | .hbm, ⟨17, _⟩ => ⟨S1024x1024, .f32⟩
  | .hbm, ⟨18, _⟩ => ⟨S1024x1024, .f32⟩
  | .hbm, ⟨19, _⟩ => ⟨S_, .f32⟩
  | .hbm, ⟨20, _⟩ => ⟨S1024x1024, .f32⟩
  | .hbm, ⟨21, _⟩ => ⟨S1024x1024, .f32⟩
  | .hbm, ⟨22, _⟩ => ⟨S1024x1024, .f32⟩
  | .hbm, ⟨23, _⟩ => ⟨S_, .f32⟩
  | .hbm, ⟨24, _⟩ => ⟨S1024x1024, .f32⟩
  | .hbm, ⟨25, _⟩ => ⟨S1024x1024, .f32⟩
  | .hbm, ⟨26, _⟩ => ⟨S1024x1024, .f32⟩
  | .hbm, ⟨27, _⟩ => ⟨S_, .f32⟩
  | .hbm, ⟨28, _⟩ => ⟨S1024x1024, .f32⟩
  | .hbm, ⟨29, _⟩ => ⟨S1024x1024, .f32⟩
  | .hbm, ⟨30, _⟩ => ⟨S_, .f32⟩
  | .hbm, ⟨31, _⟩ => ⟨S1024x1024, .f32⟩
  | .hbm, ⟨32, _⟩ => ⟨S1024x1024, .f32⟩
  | .hbm, ⟨33, _⟩ => ⟨S1024x1024, .f32⟩
  | .hbm, ⟨34, _⟩ => ⟨S_, .f32⟩
  | .hbm, ⟨35, _⟩ => ⟨S1024x1024, .f32⟩
  | .hbm, ⟨36, _⟩ => ⟨S1024x1024, .f32⟩
  | .hbm, ⟨37, _⟩ => ⟨S1024x1024, .f32⟩
  | .hbm, ⟨38, _⟩ => ⟨S_, .f32⟩
  | .hbm, ⟨39, _⟩ => ⟨S1024x1024, .f32⟩
  | .hbm, ⟨40, _⟩ => ⟨S1024x1024, .f32⟩
  | .hbm, ⟨41, _⟩ => ⟨S1024x1024, .f32⟩
  | .hbm, ⟨42, _⟩ => ⟨S_, .f32⟩
  | .hbm, ⟨43, _⟩ => ⟨S1024x1024, .f32⟩
  | .hbm, ⟨44, _⟩ => ⟨S1024x1024, .f32⟩
  | .hbm, ⟨45, _⟩ => ⟨S_, .f32⟩
  | .hbm, ⟨46, _⟩ => ⟨S1024x1024, .f32⟩
  | .hbm, ⟨47, _⟩ => ⟨S2048x1024, .f32⟩
  | .hbm, ⟨48, _⟩ => ⟨S2048x1024, .f32⟩
  | .hbm, ⟨49, _⟩ => ⟨S2048x1024, .f32⟩
  | .hbm, ⟨50, _⟩ => ⟨S2048x1024, .f32⟩
  | _, _ => ⟨S2x1024x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_cst : Ref sig .tc := ⟨.hbm, 12, rfl⟩
abbrev main_v7 : Ref sig .tc := ⟨.hbm, 13, rfl⟩
abbrev main_v8 : Ref sig .tc := ⟨.hbm, 14, rfl⟩
abbrev main_cst_0 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_cst_1 : Ref sig .tc := ⟨.hbm, 19, rfl⟩
abbrev main_v12 : Ref sig .tc := ⟨.hbm, 20, rfl⟩
abbrev main_v13 : Ref sig .tc := ⟨.hbm, 21, rfl⟩
abbrev main_v14 : Ref sig .tc := ⟨.hbm, 22, rfl⟩
abbrev main_cst_2 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_cst_3 : Ref sig .tc := ⟨.hbm, 27, rfl⟩
abbrev main_v18 : Ref sig .tc := ⟨.hbm, 28, rfl⟩
abbrev main_v19 : Ref sig .tc := ⟨.hbm, 29, rfl⟩
abbrev main_cst_4 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_cst_5 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_cst_6 : Ref sig .tc := ⟨.hbm, 38, rfl⟩
abbrev main_v26 : Ref sig .tc := ⟨.hbm, 39, rfl⟩
abbrev main_v27 : Ref sig .tc := ⟨.hbm, 40, rfl⟩
abbrev main_v28 : Ref sig .tc := ⟨.hbm, 41, rfl⟩
abbrev main_cst_7 : Ref sig .tc := ⟨.hbm, 42, rfl⟩
abbrev main_v29 : Ref sig .tc := ⟨.hbm, 43, rfl⟩
abbrev main_v30 : Ref sig .tc := ⟨.hbm, 44, rfl⟩
abbrev main_cst_8 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩

abbrev nD : Nat := 1
abbrev τ : Topo := Topo.v7x

variable {F : FTy → Type} [FloatOps F]
-- ==== Kernel12.lean ====
abbrev S4x2048x128 : Shape := ⟨3, ![4, 2048, 128]⟩
abbrev S2048x128 : Shape := ⟨2, ![2048, 128]⟩
abbrev S4x512x128 : Shape := ⟨3, ![4, 512, 128]⟩
abbrev S512x128 : Shape := ⟨2, ![512, 128]⟩
abbrev S1x512x128 : Shape := ⟨3, ![1, 512, 128]⟩

abbrev nBuf : Space → Nat
  | .hbm => 3
  | .vmem => 4
  | .smem => 0
  | _ => 0

abbrev bufTy : (tb : Table) → Fin (tcTables nBuf tb) → BufTy
  | .hbm, ⟨0, _⟩ => ⟨S4x2048x128, .f32⟩
  | .hbm, ⟨1, _⟩ => ⟨S4x2048x128, .bf16⟩
  | .hbm, ⟨2, _⟩ => ⟨S2048x128, .bf16⟩
  | .local _ .vmem, ⟨0, _⟩ => ⟨S4x512x128, .bf16⟩
  | .local _ .vmem, ⟨1, _⟩ => ⟨S4x512x128, .bf16⟩
  | .local _ .vmem, ⟨2, _⟩ => ⟨S512x128, .bf16⟩
  | .local _ .vmem, ⟨3, _⟩ => ⟨S512x128, .bf16⟩
  | _, _ => ⟨S4x2048x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨1, ![4], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, arg0.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S4x512x128 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]
-- ==== Reference12Ideal.lean ====
abbrev S4x2048x128 : Shape := ⟨3, ![4, 2048, 128]⟩
abbrev S_ : Shape := ⟨0, ![]⟩
abbrev S2048x128 : Shape := ⟨2, ![2048, 128]⟩

abbrev nBuf : Space → Nat
  | .hbm => 4
  | .vmem => 0
  | .smem => 0
  | _ => 0

abbrev bufTy : (tb : Table) → Fin (tcTables nBuf tb) → BufTy
  | .hbm, ⟨0, _⟩ => ⟨S4x2048x128, .f32⟩
  | .hbm, ⟨1, _⟩ => ⟨S_, .f32⟩
  | .hbm, ⟨2, _⟩ => ⟨S2048x128, .f32⟩
  | .hbm, ⟨3, _⟩ => ⟨S2048x128, .bf16⟩
  | _, _ => ⟨S4x2048x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_cst : Ref sig .tc := ⟨.hbm, 1, rfl⟩
abbrev main_v0 : Ref sig .tc := ⟨.hbm, 2, rfl⟩
abbrev main_v1 : Ref sig .tc := ⟨.hbm, 3, rfl⟩

abbrev nD : Nat := 1
abbrev τ : Topo := Topo.v7x

variable {F : FTy → Type} [FloatOps F]
-- ==== Kernel13.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩
abbrev S1x4096x8x128 : Shape := ⟨4, ![1, 4096, 8, 128]⟩
abbrev S8x128x1x4096 : Shape := ⟨4, ![8, 128, 1, 4096]⟩
abbrev S1x1x8x128 : Shape := ⟨4, ![1, 1, 8, 128]⟩
abbrev S4096x1024 : Shape := ⟨2, ![4096, 1024]⟩
abbrev S4095x1024 : Shape := ⟨2, ![4095, 1024]⟩
abbrev S2x1024 : Shape := ⟨2, ![2, 1024]⟩
abbrev S4094x1024 : Shape := ⟨2, ![4094, 1024]⟩
abbrev S4092x1024 : Shape := ⟨2, ![4092, 1024]⟩
abbrev S8x1024 : Shape := ⟨2, ![8, 1024]⟩
abbrev S4088x1024 : Shape := ⟨2, ![4088, 1024]⟩
abbrev S16x1024 : Shape := ⟨2, ![16, 1024]⟩
abbrev S4080x1024 : Shape := ⟨2, ![4080, 1024]⟩
abbrev S32x1024 : Shape := ⟨2, ![32, 1024]⟩
abbrev S4064x1024 : Shape := ⟨2, ![4064, 1024]⟩
abbrev S64x1024 : Shape := ⟨2, ![64, 1024]⟩
abbrev S4032x1024 : Shape := ⟨2, ![4032, 1024]⟩
abbrev S128x1024 : Shape := ⟨2, ![128, 1024]⟩
abbrev S3968x1024 : Shape := ⟨2, ![3968, 1024]⟩
abbrev S256x1024 : Shape := ⟨2, ![256, 1024]⟩
abbrev S3840x1024 : Shape := ⟨2, ![3840, 1024]⟩
abbrev S512x1024 : Shape := ⟨2, ![512, 1024]⟩
abbrev S3584x1024 : Shape := ⟨2, ![3584, 1024]⟩
abbrev S1024x1024 : Shape := ⟨2, ![1024, 1024]⟩
abbrev S3072x1024 : Shape := ⟨2, ![3072, 1024]⟩
abbrev S2048x1024 : Shape := ⟨2, ![2048, 1024]⟩
abbrev S4x4096x1024 : Shape := ⟨3, ![4, 4096, 1024]⟩
abbrev S4096x2048 : Shape := ⟨2, ![4096, 2048]⟩
abbrev S2x8x128x128 : Shape := ⟨4, ![2, 8, 128, 128]⟩
abbrev S2x1024x128 : Shape := ⟨3, ![2, 1024, 128]⟩
abbrev S1x16x128 : Shape := ⟨3, ![1, 16, 128]⟩
abbrev S1024x128 : Shape := ⟨2, ![1024, 128]⟩
abbrev S16x128 : Shape := ⟨2, ![16, 128]⟩
abbrev S4x128 : Shape := ⟨2, ![4, 128]⟩
abbrev S1x128x128 : Shape := ⟨3, ![1, 128, 128]⟩
abbrev S2x1x128x128 : Shape := ⟨4, ![2, 1, 128, 128]⟩
abbrev S1040x128 : Shape := ⟨2, ![1040, 128]⟩
abbrev S1x1024x128 : Shape := ⟨3, ![1, 1024, 128]⟩
abbrev S128x128 : Shape := ⟨2, ![128, 128]⟩
abbrev S1x128 : Shape := ⟨2, ![1, 128]⟩
abbrev S1016x128 : Shape := ⟨2, ![1016, 128]⟩
abbrev S1008x128 : Shape := ⟨2, ![1008, 128]⟩
abbrev S992x128 : Shape := ⟨2, ![992, 128]⟩
abbrev S32x128 : Shape := ⟨2, ![32, 128]⟩
abbrev S960x128 : Shape := ⟨2, ![960, 128]⟩
abbrev S64x128 : Shape := ⟨2, ![64, 128]⟩
abbrev S896x128 : Shape := ⟨2, ![896, 128]⟩
abbrev S768x128 : Shape := ⟨2, ![768, 128]⟩
abbrev S256x128 : Shape := ⟨2, ![256, 128]⟩
abbrev S512x128 : Shape := ⟨2, ![512, 128]⟩
abbrev S128 : Shape := ⟨1, ![128]⟩
abbrev S1x1x128x128 : Shape := ⟨4, ![1, 1, 128, 128]⟩

abbrev nBuf : Space → Nat
  | .hbm => 266
  | .vmem => 29
  | .smem => 0
  | _ => 0

abbrev hbmTy0_0 (i : Nat) : BufTy := match i % 128 with
  | 0 => ⟨S1x4096x1024, .f32⟩
  | 1 => ⟨S1x4096x1024, .f32⟩
  | 2 => ⟨S4x1024, .f32⟩
  | 3 => ⟨S1024, .f32⟩
  | 4 => ⟨S8x128x128, .f32⟩
  | 5 => ⟨S8x128, .f32⟩
  | 6 => ⟨S8x128x128, .f32⟩
  | 7 => ⟨S8x128, .f32⟩
  | 8 => ⟨S1024, .f32⟩
  | 9 => ⟨S1x4096x1024, .f32⟩
  | 10 => ⟨S_, .f32⟩
  | 11 => ⟨S1x3x1024, .f32⟩
  | 12 => ⟨S1x4099x1024, .f32⟩
  | 13 => ⟨S1x1024, .f32⟩
  | 14 => ⟨S1024, .f32⟩
  | 15 => ⟨S1x4096x1024, .f32⟩
  | 16 => ⟨S1x1x1024, .f32⟩
  | 17 => ⟨S1x4096x1024, .f32⟩
  | 18 => ⟨S1x4096x1024, .f32⟩
  | 19 => ⟨S1x1024, .f32⟩
  | 20 => ⟨S1024, .f32⟩
  | 21 => ⟨S1x4096x1024, .f32⟩
  | 22 => ⟨S1x1x1024, .f32⟩
  | 23 => ⟨S1x4096x1024, .f32⟩
  | 24 => ⟨S1x4096x1024, .f32⟩
  | 25 => ⟨S1x4096x1024, .f32⟩
  | 26 => ⟨S1x1024, .f32⟩
  | 27 => ⟨S1024, .f32⟩
  | 28 => ⟨S1x4096x1024, .f32⟩
  | 29 => ⟨S1x1x1024, .f32⟩
  | 30 => ⟨S1x4096x1024, .f32⟩
  | 31 => ⟨S1x4096x1024, .f32⟩
  | 32 => ⟨S1x4096x1024, .f32⟩
  | 33 => ⟨S1x1024, .f32⟩
  | 34 => ⟨S1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x4096x1024, .f32⟩
  | 40 => ⟨S1x1x1024, .f32⟩
  | 41 => ⟨S1x4096x1024, .f32⟩
  | 42 => ⟨S1x4096x1024, .f32⟩
  | 43 => ⟨S1x4096x8x128, .f32⟩
  | 44 => ⟨S8x128x1x4096, .f32⟩
  | 45 => ⟨S1x4096x8x128, .f32⟩
  | 46 => ⟨S1x1x8x128, .f32⟩
  | 47 => ⟨S1x4096x8x128, .f32⟩
  | 48 => ⟨S1x4096x8x128, .f32⟩
  | 49 => ⟨S1x4096x8x128, .f32⟩
  | 50 => ⟨S1x4096x8x128, .f32⟩
  | 51 => ⟨S_, .f32⟩
  | 52 => ⟨S1x4096x8x128, .f32⟩
  | 53 => ⟨S1x4096x8x128, .f32⟩
  | 54 => ⟨S_, .f32⟩
  | 55 => ⟨S1x4096x8x128, .f32⟩
  | 56 => ⟨S1x4096x8x128, .f32⟩
  | 57 => ⟨S1x4096x1024, .f32⟩
  | 58 => ⟨S8x128x1x4096, .f32⟩
  | 59 => ⟨S1x4096x8x128, .f32⟩
  | 60 => ⟨S1x1x8x128, .f32⟩
  | 61 => ⟨S1x4096x8x128, .f32⟩
  | 62 => ⟨S1x4096x8x128, .f32⟩
  | 63 => ⟨S1x4096x8x128, .f32⟩
  | 64 => ⟨S1x4096x8x128, .f32⟩
  | 65 => ⟨S_, .f32⟩
  | 66 => ⟨S1x4096x8x128, .f32⟩
  | 67 => ⟨S1x4096x8x128, .f32⟩
  | 68 => ⟨S_, .f32⟩
  | 69 => ⟨S1x4096x8x128, .f32⟩
  | 70 => ⟨S1x4096x8x128, .f32⟩
  | 71 => ⟨S1x4096x1024, .f32⟩
  | 72 => ⟨S_, .f32⟩
  | 73 => ⟨S1x4096x1024, .f32⟩
  | 74 => ⟨S1x4096x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S4096x1024, .f32⟩
  | 103 => ⟨S4096x1024, .f32⟩
  | 104 => ⟨S_, .f32⟩
  | 105 => ⟨S1x1024, .f32⟩
  | 106 => ⟨S_, .f32⟩
  | 107 => ⟨S1x1024, .f32⟩
  | 108 => ⟨S4095x1024, .f32⟩
  | 109 => ⟨S4096x1024, .f32⟩
  | 110 => ⟨S4096x1024, .f32⟩
  | 111 => ⟨S4096x1024, .f32⟩
  | 112 => ⟨S_, .f32⟩
  | 113 => ⟨S1x1024, .f32⟩
  | 114 => ⟨S4095x1024, .f32⟩
  | 115 => ⟨S4096x1024, .f32⟩
  | 116 => ⟨S4096x1024, .f32⟩
  | 117 => ⟨S_, .f32⟩
  | 118 => ⟨S2x1024, .f32⟩
  | 119 => ⟨S4094x1024, .f32⟩
  | 120 => ⟨S4096x1024, .f32⟩
  | 121 => ⟨S4096x1024, .f32⟩
  | 122 => ⟨S4096x1024, .f32⟩
  | 123 => ⟨S_, .f32⟩
  | 124 => ⟨S2x1024, .f32⟩
  | 125 => ⟨S4094x1024, .f32⟩
  | 126 => ⟨S4096x1024, .f32⟩
  | 127 => ⟨S4096x1024, .f32⟩
  | _ => ⟨S1x4096x1024, .f32⟩

abbrev hbmTy0_1 (i : Nat) : BufTy := match i % 128 with
  | 0 => ⟨S_, .f32⟩
  | 1 => ⟨S4x1024, .f32⟩
  | 2 => ⟨S4092x1024, .f32⟩
  | 3 => ⟨S4096x1024, .f32⟩
  | 4 => ⟨S4096x1024, .f32⟩
  | 5 => ⟨S4096x1024, .f32⟩
  | 6 => ⟨S_, .f32⟩
  | 7 => ⟨S4x1024, .f32⟩
  | 8 => ⟨S4092x1024, .f32⟩
  | 9 => ⟨S4096x1024, .f32⟩
  | 10 => ⟨S4096x1024, .f32⟩
  | 11 => ⟨S_, .f32⟩
  | 12 => ⟨S8x1024, .f32⟩
  | 13 => ⟨S4088x1024, .f32⟩
  | 14 => ⟨S4096x1024, .f32⟩
  | 15 => ⟨S4096x1024, .f32⟩
  | 16 => ⟨S4096x1024, .f32⟩
  | 17 => ⟨S_, .f32⟩
  | 18 => ⟨S8x1024, .f32⟩
  | 19 => ⟨S4088x1024, .f32⟩
  | 20 => ⟨S4096x1024, .f32⟩
  | 21 => ⟨S4096x1024, .f32⟩
  | 22 => ⟨S_, .f32⟩
  | 23 => ⟨S16x1024, .f32⟩
  | 24 => ⟨S4080x1024, .f32⟩
  | 25 => ⟨S4096x1024, .f32⟩
  | 26 => ⟨S4096x1024, .f32⟩
  | 27 => ⟨S4096x1024, .f32⟩
  | 28 => ⟨S_, .f32⟩
  | 29 => ⟨S16x1024, .f32⟩
  | 30 => ⟨S4080x1024, .f32⟩
  | 31 => ⟨S4096x1024, .f32⟩
  | 32 => ⟨S4096x1024, .f32⟩
  | 33 => ⟨S_, .f32⟩
  | 34 => ⟨S32x1024, .f32⟩
  | 35 => ⟨S4064x1024, .f32⟩
  | 36 => ⟨S4096x1024, .f32⟩
  | 37 => ⟨S4096x1024, .f32⟩
  | 38 => ⟨S4096x1024, .f32⟩
  | 39 => ⟨S_, .f32⟩
  | 40 => ⟨S32x1024, .f32⟩
  | 41 => ⟨S4064x1024, .f32⟩
  | 42 => ⟨S4096x1024, .f32⟩
  | 43 => ⟨S4096x1024, .f32⟩
  | 44 => ⟨S_, .f32⟩
  | 45 => ⟨S64x1024, .f32⟩
  | 46 => ⟨S4032x1024, .f32⟩
  | 47 => ⟨S4096x1024, .f32⟩
  | 48 => ⟨S4096x1024, .f32⟩
  | 49 => ⟨S4096x1024, .f32⟩
  | 50 => ⟨S_, .f32⟩
  | 51 => ⟨S64x1024, .f32⟩
  | 52 => ⟨S4032x1024, .f32⟩
  | 53 => ⟨S4096x1024, .f32⟩
  | 54 => ⟨S4096x1024, .f32⟩
  | 55 => ⟨S_, .f32⟩
  | 56 => ⟨S128x1024, .f32⟩
  | 57 => ⟨S3968x1024, .f32⟩
  | 58 => ⟨S4096x1024, .f32⟩
  | 59 => ⟨S4096x1024, .f32⟩
  | 60 => ⟨S4096x1024, .f32⟩
  | 61 => ⟨S_, .f32⟩
  | 62 => ⟨S128x1024, .f32⟩
  | 63 => ⟨S3968x1024, .f32⟩
  | 64 => ⟨S4096x1024, .f32⟩
  | 65 => ⟨S4096x1024, .f32⟩
  | 66 => ⟨S_, .f32⟩
  | 67 => ⟨S256x1024, .f32⟩
  | 68 => ⟨S3840x1024, .f32⟩
  | 69 => ⟨S4096x1024, .f32⟩
  | 70 => ⟨S4096x1024, .f32⟩
  | 71 => ⟨S4096x1024, .f32⟩
  | 72 => ⟨S_, .f32⟩
  | 73 => ⟨S256x1024, .f32⟩
  | 74 => ⟨S3840x1024, .f32⟩
  | 75 => ⟨S4096x1024, .f32⟩
  | 76 => ⟨S4096x1024, .f32⟩
  | 77 => ⟨S_, .f32⟩
  | 78 => ⟨S512x1024, .f32⟩
  | 79 => ⟨S3584x1024, .f32⟩
  | 80 => ⟨S4096x1024, .f32⟩
  | 81 => ⟨S4096x1024, .f32⟩
  | 82 => ⟨S4096x1024, .f32⟩
  | 83 => ⟨S_, .f32⟩
  | 84 => ⟨S512x1024, .f32⟩
  | 85 => ⟨S3584x1024, .f32⟩
  | 86 => ⟨S4096x1024, .f32⟩
  | 87 => ⟨S4096x1024, .f32⟩
  | 88 => ⟨S_, .f32⟩
  | 89 => ⟨S1024x1024, .f32⟩
  | 90 => ⟨S3072x1024, .f32⟩
  | 91 => ⟨S4096x1024, .f32⟩
  | 92 => ⟨S4096x1024, .f32⟩
  | 93 => ⟨S4096x1024, .f32⟩
  | 94 => ⟨S_, .f32⟩
  | 95 => ⟨S1024x1024, .f32⟩
  | 96 => ⟨S3072x1024, .f32⟩
  | 97 => ⟨S4096x1024, .f32⟩
  | 98 => ⟨S4096x1024, .f32⟩
  | 99 => ⟨S_, .f32⟩
  | 100 => ⟨S2048x1024, .f32⟩
  | 101 => ⟨S2048x1024, .f32⟩
  | 102 => ⟨S4096x1024, .f32⟩
  | 103 => ⟨S4096x1024, .f32⟩
  | 104 => ⟨S4096x1024, .f32⟩
  | 105 => ⟨S_, .f32⟩
  | 106 => ⟨S2048x1024, .f32⟩
  | 107 => ⟨S2048x1024, .f32⟩
  | 108 => ⟨S4096x1024, .f32⟩
  | 109 => ⟨S4096x1024, .f32⟩
  | 110 => ⟨S4096x1024, .f32⟩
  | 111 => ⟨S4096x1024, .f32⟩
  | 112 => ⟨S4096x1024, .f32⟩
  | 113 => ⟨S1x1024, .f32⟩
  | 114 => ⟨S1x1024, .f32⟩
  | 115 => ⟨S1x1024, .f32⟩
  | 116 => ⟨S1x1024, .f32⟩
  | 117 => ⟨S_, .f32⟩
  | 118 => ⟨S4x1024, .f32⟩
  | 119 => ⟨S8x1024, .f32⟩
  | 120 => ⟨S_, .f32⟩
  | 121 => ⟨S4096x1024, .f32⟩
  | 122 => ⟨S4096x1024, .f32⟩
  | 123 => ⟨S4096x1024, .f32⟩
  | 124 => ⟨S1x4096x1024, .f32⟩
  | 125 => ⟨S1x4096x1024, .f32⟩
  | 126 => ⟨S1x4096x1024, .f32⟩
  | 127 => ⟨S1x4096x1024, .f32⟩
  | _ => ⟨S1x4096x1024, .f32⟩

abbrev hbmTy0_2 (i : Nat) : BufTy := match i % 128 with
  | 0 => ⟨S4x4096x1024, .f32⟩
  | 1 => ⟨S4096x1024, .f32⟩
  | 2 => ⟨S4096x2048, .f32⟩
  | 3 => ⟨S8x128x128, .bf16⟩
  | 4 => ⟨S8x128x128, .bf16⟩
  | 5 => ⟨S_, .f32⟩
  | 6 => ⟨S8x128, .f32⟩
  | 7 => ⟨S4x4096x1024, .bf16⟩
  | 8 => ⟨S2x8x128x128, .bf16⟩
  | 9 => ⟨S16x1024, .f32⟩
  | _ => ⟨S1x4096x1024, .f32⟩

abbrev hbmTy (i : Nat) : BufTy := match i / 128 with
  | 0 => hbmTy0_0 i
  | 1 => hbmTy0_1 i
  | 2 => hbmTy0_2 i
  | _ => ⟨S1x4096x1024, .f32⟩

abbrev bufTy : (tb : Table) → Fin (tcTables nBuf tb) → BufTy
  | .hbm, ⟨i, _⟩ => hbmTy i
  | .local _ .vmem, ⟨0, _⟩ => ⟨S2x1024x128, .f32⟩
  | .local _ .vmem, ⟨1, _⟩ => ⟨S2x1024x128, .f32⟩
  | .local _ .vmem, ⟨2, _⟩ => ⟨S1x16x128, .f32⟩
  | .local _ .vmem, ⟨3, _⟩ => ⟨S1x16x128, .f32⟩
  | .local _ .vmem, ⟨4, _⟩ => ⟨S1024x128, .f32⟩
  | .local _ .vmem, ⟨5, _⟩ => ⟨S1024x128, .f32⟩
  | .local _ .vmem, ⟨6, _⟩ => ⟨S16x128, .f32⟩
  | .local _ .vmem, ⟨7, _⟩ => ⟨S16x128, .f32⟩
  | .local _ .vmem, ⟨8, _⟩ => ⟨S1024x128, .f32⟩
  | .local _ .vmem, ⟨9, _⟩ => ⟨S1024x128, .f32⟩
  | .local _ .vmem, ⟨10, _⟩ => ⟨S4x128, .f32⟩
  | .local _ .vmem, ⟨11, _⟩ => ⟨S4x128, .f32⟩
  | .local _ .vmem, ⟨12, _⟩ => ⟨S8x128, .f32⟩
  | .local _ .vmem, ⟨13, _⟩ => ⟨S8x128, .f32⟩
  | .local _ .vmem, ⟨14, _⟩ => ⟨S1x128x128, .bf16⟩
  | .local _ .vmem, ⟨15, _⟩ => ⟨S1x128x128, .bf16⟩
  | .local _ .vmem, ⟨16, _⟩ => ⟨S1x128x128, .bf16⟩
  | .local _ .vmem, ⟨17, _⟩ => ⟨S1x128x128, .bf16⟩
  | .local _ .vmem, ⟨18, _⟩ => ⟨S2x1024x128, .bf16⟩
  | .local _ .vmem, ⟨19, _⟩ => ⟨S2x1024x128, .bf16⟩
  | .local _ .vmem, ⟨20, _⟩ => ⟨S2x1x128x128, .bf16⟩
  | .local _ .vmem, ⟨21, _⟩ => ⟨S2x1x128x128, .bf16⟩
  | .local _ .vmem, ⟨22, _⟩ => ⟨S16x128, .f32⟩
  | .local _ .vmem, ⟨23, _⟩ => ⟨S16x128, .f32⟩
  | .local _ .vmem, ⟨24, _⟩ => ⟨S1040x128, .f32⟩
  | .local _ .vmem, ⟨25, _⟩ => ⟨S1040x128, .f32⟩
  | .local _ .vmem, ⟨26, _⟩ => ⟨S1040x128, .f32⟩
  | .local _ .vmem, ⟨27, _⟩ => ⟨S8x128, .f32⟩
  | .local _ .vmem, ⟨28, _⟩ => ⟨S2x1x128x128, .f32⟩
  | _, _ => ⟨S1x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_v72 : Ref sig .tc := ⟨.hbm, 102, rfl⟩
abbrev main_v73 : Ref sig .tc := ⟨.hbm, 103, rfl⟩
abbrev main_cst_6 : Ref sig .tc := ⟨.hbm, 104, rfl⟩
abbrev main_v74 : Ref sig .tc := ⟨.hbm, 105, rfl⟩
abbrev main_cst_7 : Ref sig .tc := ⟨.hbm, 106, rfl⟩
abbrev main_v75 : Ref sig .tc := ⟨.hbm, 107, rfl⟩
abbrev main_v76 : Ref sig .tc := ⟨.hbm, 108, rfl⟩
abbrev main_v77 : Ref sig .tc := ⟨.hbm, 109, rfl⟩
abbrev main_v78 : Ref sig .tc := ⟨.hbm, 110, rfl⟩
abbrev main_v79 : Ref sig .tc := ⟨.hbm, 111, rfl⟩
abbrev main_cst_8 : Ref sig .tc := ⟨.hbm, 112, rfl⟩
abbrev main_v80 : Ref sig .tc := ⟨.hbm, 113, rfl⟩
abbrev main_v81 : Ref sig .tc := ⟨.hbm, 114, rfl⟩
abbrev main_v82 : Ref sig .tc := ⟨.hbm, 115, rfl⟩
abbrev main_v83 : Ref sig .tc := ⟨.hbm, 116, rfl⟩
abbrev main_cst_9 : Ref sig .tc := ⟨.hbm, 117, rfl⟩
abbrev main_v84 : Ref sig .tc := ⟨.hbm, 118, rfl⟩
abbrev main_v85 : Ref sig .tc := ⟨.hbm, 119, rfl⟩
abbrev main_v86 : Ref sig .tc := ⟨.hbm, 120, rfl⟩
abbrev main_v87 : Ref sig .tc := ⟨.hbm, 121, rfl⟩
abbrev main_v88 : Ref sig .tc := ⟨.hbm, 122, rfl⟩
abbrev main_cst_10 : Ref sig .tc := ⟨.hbm, 123, rfl⟩
abbrev main_v89 : Ref sig .tc := ⟨.hbm, 124, rfl⟩
abbrev main_v90 : Ref sig .tc := ⟨.hbm, 125, rfl⟩
abbrev main_v91 : Ref sig .tc := ⟨.hbm, 126, rfl⟩
abbrev main_v92 : Ref sig .tc := ⟨.hbm, 127, rfl⟩
abbrev main_cst_11 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_cst_12 : Ref sig .tc := ⟨.hbm, 134, rfl⟩
abbrev main_v98 : Ref sig .tc := ⟨.hbm, 135, rfl⟩
abbrev main_v99 : Ref sig .tc := ⟨.hbm, 136, rfl⟩
abbrev main_v100 : Ref sig .tc := ⟨.hbm, 137, rfl⟩
abbrev main_v101 : Ref sig .tc := ⟨.hbm, 138, rfl⟩
abbrev main_cst_13 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_cst_14 : Ref sig .tc := ⟨.hbm, 145, rfl⟩
abbrev main_v107 : Ref sig .tc := ⟨.hbm, 146, rfl⟩
abbrev main_v108 : Ref sig .tc := ⟨.hbm, 147, rfl⟩
abbrev main_v109 : Ref sig .tc := ⟨.hbm, 148, rfl⟩
abbrev main_v110 : Ref sig .tc := ⟨.hbm, 149, rfl⟩
abbrev main_cst_15 : Ref sig .tc := ⟨.hbm, 150, rfl⟩
abbrev main_v111 : Ref sig .tc := ⟨.hbm, 151, rfl⟩
abbrev main_v112 : Ref sig .tc := ⟨.hbm, 152, rfl⟩
abbrev main_v113 : Ref sig .tc := ⟨.hbm, 153, rfl⟩
abbrev main_v114 : Ref sig .tc := ⟨.hbm, 154, rfl⟩
abbrev main_v115 : Ref sig .tc := ⟨.hbm, 155, rfl⟩
abbrev main_cst_16 : Ref sig .tc := ⟨.hbm, 156, rfl⟩
abbrev main_v116 : Ref sig .tc := ⟨.hbm, 157, rfl⟩
abbrev main_v117 : Ref sig .tc := ⟨.hbm, 158, rfl⟩
abbrev main_v118 : Ref sig .tc := ⟨.hbm, 159, rfl⟩
abbrev main_v119 : Ref sig .tc := ⟨.hbm, 160, rfl⟩
abbrev main_cst_17 : Ref sig .tc := ⟨.hbm, 161, rfl⟩
abbrev main_v120 : Ref sig .tc := ⟨.hbm, 162, rfl⟩
abbrev main_v121 : Ref sig .tc := ⟨.hbm, 163, rfl⟩
abbrev main_v122 : Ref sig .tc := ⟨.hbm, 164, rfl⟩
abbrev main_v123 : Ref sig .tc := ⟨.hbm, 165, rfl⟩
abbrev main_v124 : Ref sig .tc := ⟨.hbm, 166, rfl⟩
abbrev main_cst_18 : Ref sig .tc := ⟨.hbm, 167, rfl⟩
abbrev main_v125 : Ref sig .tc := ⟨.hbm, 168, rfl⟩
abbrev main_v126 : Ref sig .tc := ⟨.hbm, 169, rfl⟩
abbrev main_v127 : Ref sig .tc := ⟨.hbm, 170, rfl⟩
abbrev main_v128 : Ref sig .tc := ⟨.hbm, 171, rfl⟩
abbrev main_cst_19 : Ref sig .tc := ⟨.hbm, 172, rfl⟩
abbrev main_v129 : Ref sig .tc := ⟨.hbm, 173, rfl⟩
abbrev main_v130 : Ref sig .tc := ⟨.hbm, 174, rfl⟩
abbrev main_v131 : Ref sig .tc := ⟨.hbm, 175, rfl⟩
abbrev main_v132 : Ref sig .tc := ⟨.hbm, 176, rfl⟩
abbrev main_v133 : Ref sig .tc := ⟨.hbm, 177, rfl⟩
abbrev main_cst_20 : Ref sig .tc := ⟨.hbm, 178, rfl⟩
abbrev main_v134 : Ref sig .tc := ⟨.hbm, 179, rfl⟩
abbrev main_v135 : Ref sig .tc := ⟨.hbm, 180, rfl⟩
abbrev main_v136 : Ref sig .tc := ⟨.hbm, 181, rfl⟩
abbrev main_v137 : Ref sig .tc := ⟨.hbm, 182, rfl⟩
abbrev main_cst_21 : Ref sig .tc := ⟨.hbm, 183, rfl⟩
abbrev main_v138 : Ref sig .tc := ⟨.hbm, 184, rfl⟩
abbrev main_v139 : Ref sig .tc := ⟨.hbm, 185, rfl⟩
abbrev main_v140 : Ref sig .tc := ⟨.hbm, 186, rfl⟩
abbrev main_v141 : Ref sig .tc := ⟨.hbm, 187, rfl⟩
abbrev main_v142 : Ref sig .tc := ⟨.hbm, 188, rfl⟩
abbrev main_cst_22 : Ref sig .tc := ⟨.hbm, 189, rfl⟩
abbrev main_v143 : Ref sig .tc := ⟨.hbm, 190, rfl⟩
abbrev main_v144 : Ref sig .tc := ⟨.hbm, 191, rfl⟩
abbrev main_v145 : Ref sig .tc := ⟨.hbm, 192, rfl⟩
abbrev main_v146 : Ref sig .tc := ⟨.hbm, 193, rfl⟩
abbrev main_cst_23 : Ref sig .tc := ⟨.hbm, 194, rfl⟩
abbrev main_v147 : Ref sig .tc := ⟨.hbm, 195, rfl⟩
abbrev main_v148 : Ref sig .tc := ⟨.hbm, 196, rfl⟩
abbrev main_v149 : Ref sig .tc := ⟨.hbm, 197, rfl⟩
abbrev main_v150 : Ref sig .tc := ⟨.hbm, 198, rfl⟩
abbrev main_v151 : Ref sig .tc := ⟨.hbm, 199, rfl⟩
abbrev main_cst_24 : Ref sig .tc := ⟨.hbm, 200, rfl⟩
abbrev main_v152 : Ref sig .tc := ⟨.hbm, 201, rfl⟩
abbrev main_v153 : Ref sig .tc := ⟨.hbm, 202, rfl⟩
abbrev main_v154 : Ref sig .tc := ⟨.hbm, 203, rfl⟩
abbrev main_v155 : Ref sig .tc := ⟨.hbm, 204, rfl⟩
abbrev main_cst_25 : Ref sig .tc := ⟨.hbm, 205, rfl⟩
abbrev main_v156 : Ref sig .tc := ⟨.hbm, 206, rfl⟩
abbrev main_v157 : Ref sig .tc := ⟨.hbm, 207, rfl⟩
abbrev main_v158 : Ref sig .tc := ⟨.hbm, 208, rfl⟩
abbrev main_v159 : Ref sig .tc := ⟨.hbm, 209, rfl⟩
abbrev main_v160 : Ref sig .tc := ⟨.hbm, 210, rfl⟩
abbrev main_cst_26 : Ref sig .tc := ⟨.hbm, 211, rfl⟩
abbrev main_v161 : Ref sig .tc := ⟨.hbm, 212, rfl⟩
abbrev main_v162 : Ref sig .tc := ⟨.hbm, 213, rfl⟩
abbrev main_v163 : Ref sig .tc := ⟨.hbm, 214, rfl⟩
abbrev main_v164 : Ref sig .tc := ⟨.hbm, 215, rfl⟩
abbrev main_cst_27 : Ref sig .tc := ⟨.hbm, 216, rfl⟩
abbrev main_v165 : Ref sig .tc := ⟨.hbm, 217, rfl⟩
abbrev main_v166 : Ref sig .tc := ⟨.hbm, 218, rfl⟩
abbrev main_v167 : Ref sig .tc := ⟨.hbm, 219, rfl⟩
abbrev main_v168 : Ref sig .tc := ⟨.hbm, 220, rfl⟩
abbrev main_v169 : Ref sig .tc := ⟨.hbm, 221, rfl⟩
abbrev main_cst_28 : Ref sig .tc := ⟨.hbm, 222, rfl⟩
abbrev main_v170 : Ref sig .tc := ⟨.hbm, 223, rfl⟩
abbrev main_v171 : Ref sig .tc := ⟨.hbm, 224, rfl⟩
abbrev main_v172 : Ref sig .tc := ⟨.hbm, 225, rfl⟩
abbrev main_v173 : Ref sig .tc := ⟨.hbm, 226, rfl⟩
abbrev main_cst_29 : Ref sig .tc := ⟨.hbm, 227, rfl⟩
abbrev main_v174 : Ref sig .tc := ⟨.hbm, 228, rfl⟩
abbrev main_v175 : Ref sig .tc := ⟨.hbm, 229, rfl⟩
abbrev main_v176 : Ref sig .tc := ⟨.hbm, 230, rfl⟩
abbrev main_v177 : Ref sig .tc := ⟨.hbm, 231, rfl⟩
abbrev main_v178 : Ref sig .tc := ⟨.hbm, 232, rfl⟩
abbrev main_cst_30 : Ref sig .tc := ⟨.hbm, 233, rfl⟩
abbrev main_v179 : Ref sig .tc := ⟨.hbm, 234, rfl⟩
abbrev main_v180 : Ref sig .tc := ⟨.hbm, 235, rfl⟩
abbrev main_v181 : Ref sig .tc := ⟨.hbm, 236, rfl⟩
abbrev main_v182 : Ref sig .tc := ⟨.hbm, 237, rfl⟩
abbrev main_v183 : Ref sig .tc := ⟨.hbm, 238, rfl⟩
abbrev main_v184 : Ref sig .tc := ⟨.hbm, 239, rfl⟩
abbrev main_v185 : Ref sig .tc := ⟨.hbm, 240, rfl⟩
abbrev main_v186 : Ref sig .tc := ⟨.hbm, 241, rfl⟩
abbrev main_v187 : Ref sig .tc := ⟨.hbm, 242, rfl⟩
abbrev main_v188 : Ref sig .tc := ⟨.hbm, 243, rfl⟩
abbrev main_v189 : Ref sig .tc := ⟨.hbm, 244, rfl⟩
abbrev main_cst_31 : Ref sig .tc := ⟨.hbm, 245, rfl⟩
abbrev main_v190 : Ref sig .tc := ⟨.hbm, 246, rfl⟩
abbrev main_v191 : Ref sig .tc := ⟨.hbm, 247, rfl⟩
abbrev main_cst_32 : Ref sig .tc := ⟨.hbm, 248, rfl⟩
abbrev main_v192 : Ref sig .tc := ⟨.hbm, 249, rfl⟩
abbrev main_v193 : Ref sig .tc := ⟨.hbm, 250, rfl⟩
abbrev main_v194 : Ref sig .tc := ⟨.hbm, 251, rfl⟩
abbrev main_v195 : Ref sig .tc := ⟨.hbm, 252, rfl⟩
abbrev main_v196 : Ref sig .tc := ⟨.hbm, 253, rfl⟩
abbrev main_v197 : Ref sig .tc := ⟨.hbm, 254, rfl⟩
abbrev main_v198 : Ref sig .tc := ⟨.hbm, 255, rfl⟩
abbrev main_v199 : Ref sig .tc := ⟨.hbm, 256, rfl⟩
abbrev main_v200 : Ref sig .tc := ⟨.hbm, 257, rfl⟩
abbrev main_v201 : Ref sig .tc := ⟨.hbm, 258, rfl⟩
abbrev main_v202 : Ref sig .tc := ⟨.hbm, 259, rfl⟩
abbrev main_v203 : Ref sig .tc := ⟨.hbm, 260, rfl⟩
abbrev main_cst_33 : Ref sig .tc := ⟨.hbm, 261, rfl⟩
abbrev main_v204 : Ref sig .tc := ⟨.hbm, 262, rfl⟩
abbrev main_v205_0 : Ref sig .tc := ⟨.hbm, 263, rfl⟩
abbrev main_v205_1 : Ref sig .tc := ⟨.hbm, 264, rfl⟩
abbrev main_v205_2 : Ref sig .tc := ⟨.hbm, 265, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg9_1 : Ref sig .tc := ⟨.vmem, 19, rfl⟩
abbrev cc0_stg10_0 : Ref sig .tc := ⟨.vmem, 20, rfl⟩
abbrev cc0_stg10_1 : Ref sig .tc := ⟨.vmem, 21, rfl⟩
abbrev cc0_stg11_0 : Ref sig .tc := ⟨.vmem, 22, rfl⟩
abbrev cc0_stg11_1 : Ref sig .tc := ⟨.vmem, 23, rfl⟩
abbrev cc0_scratch0 : Ref sig .tc := ⟨.vmem, 24, rfl⟩
abbrev cc0_scratch1 : Ref sig .tc := ⟨.vmem, 25, rfl⟩
abbrev cc0_scratch2 : Ref sig .tc := ⟨.vmem, 26, rfl⟩
abbrev cc0_scratch3 : Ref sig .tc := ⟨.vmem, 27, rfl⟩
abbrev cc0_scratch4 : Ref sig .tc := ⟨.vmem, 28, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem9_1 : DmaSem sig := 19
abbrev cc0_sem10_0 : DmaSem sig := 20
abbrev cc0_sem10_1 : DmaSem sig := 21
abbrev cc0_sem11_0 : DmaSem sig := 22
abbrev cc0_sem11_1 : DmaSem sig := 23

abbrev nD : Nat := 1
abbrev τ : Topo := Topo.v7x

variable {F : FTy → Type} [FloatOps F]

abbrev grid0 : Pipeline.Grid := ⟨2, ![8, 4], ![false, false]⟩

def k0_cond2 (i : grid0.Coords) : BitVec 1 :=
  let arg1 : BitVec 32 := BitVec.ofNat 32 (i 1).val
  let c3_i32 : BitVec 32 := 3#32
  let v0 : BitVec 1 := Scalar.cmpi .eq arg1 c3_i32
  let v410 : BitVec 32 := Scalar.extui v0
  let c0_i32_210 : BitVec 32 := 0#32
  let v411 : BitVec 1 := Scalar.cmpi .ne v410 c0_i32_210
  v411

def cc0_transform_0 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_1 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  let c0_i32_1 : BitVec 32 := 0#32
  ![c0_i32_0.toNat, v3.toNat, arg0.toNat]

def cc0_transform_2 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_3 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c64_i32 : BitVec 32 := 64#32
  let v1 : BitVec 32 := Scalar.muli v0 c64_i32
  let c1_i32 : BitVec 32 := 1#32
  let v2 : BitVec 32 := Scalar.subi v1 c1_i32
  let c0_i32 : BitVec 32 := 0#32
  let v3 : BitVec 32 := Scalar.maxsi v2 c0_i32
  let c0_i32_0 : BitVec 32 := 0#32
  ![v3.toNat, arg0.toNat]

def cc0_transform_4 (i : grid0.Coords) : Fin 2 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  ![v0.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_10 (i : grid0.Coords) : Fin 3 → Nat :=
  let arg0 : BitVec 32 := BitVec.ofNat 32 (i 0).val
  let arg1 : BitVec 32 := BitVec.ofNat 32 (i 1).val
  let c3_i32 : BitVec 32 := 3#32
  let v0 : BitVec 32 := Scalar.subi c3_i32 arg1
  let c0_i32 : BitVec 32 := 0#32
  let c0_i32_0 : BitVec 32 := 0#32
  ![c0_i32.toNat, v0.toNat, arg0.toNat]

def cc0_transform_11 (i : grid0.Coords) : Fin 4 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  let c0_i32_2 : BitVec 32 := 0#32
  ![c0_i32.toNat, arg0.toNat, c0_i32_0.toNat, c0_i32_1.toNat]

def cc0_transform_12 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg0.toNat]

abbrev stage0_0 : Fin 2 → Memref sig .tc .vmem S2x1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x16x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1024x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S16x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S1024x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S4x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

abbrev stage0_6 : Fin 2 → Memref sig .tc .vmem S8x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]

abbrev stage0_7 : Fin 2 → Memref sig .tc .vmem S1x128x128 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]

abbrev stage0_8 : Fin 2 → Memref sig .tc .vmem S1x128x128 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, false]

abbrev stage0_9 : Fin 2 → Memref sig .tc .vmem S2x1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x1x128x128 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, false]

abbrev stage0_11 : Fin 2 → Memref sig .tc .vmem S16x128 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, false]
-- ==== Reference13Ideal.lean ====
abbrev S1x4096x1024 : Shape := ⟨3, ![1, 4096, 1024]⟩
abbrev S4x1024 : Shape := ⟨2, ![4, 1024]⟩
abbrev S1024 : Shape := ⟨1, ![1024]⟩
abbrev S8x128x128 : Shape := ⟨3, ![8, 128, 128]⟩
abbrev S8x128 : Shape := ⟨2, ![8, 128]⟩
abbrev S_ : Shape := ⟨0, ![]⟩
abbrev S1x3x1024 : Shape := ⟨3, ![1, 3, 1024]⟩
abbrev S1x4099x1024 : Shape := ⟨3, ![1, 4099, 1024]⟩
abbrev S1x1024 : Shape := ⟨2, ![1, 1024]⟩
abbrev S1x1x1024 : Shape := ⟨3, ![1, 1, 1024]⟩
abbrev S1x4096x8x128 : Shape := ⟨4, ![1, 4096, 8, 128]⟩
abbrev S8x128x1x4096 : Shape := ⟨4, ![8, 128, 1, 4096]⟩
abbrev S1x1x8x128 : Shape := ⟨4, ![1, 1, 8, 128]⟩
abbrev S4096x1x1024 : Shape := ⟨3, ![4096, 1, 1024]⟩
abbrev S2x4096x1024 : Shape := ⟨3, ![2, 4096, 1024]⟩
abbrev S4x4096x1024 : Shape := ⟨3, ![4, 4096, 1024]⟩

abbrev nBuf : Space → Nat
  | .hbm => 158
  | .vmem => 0
  | .smem => 0
  | _ => 0

abbrev hbmTy0_0 (i : Nat) : BufTy := match i % 128 with
  | 0 => ⟨S1x4096x1024, .f32⟩
  | 1 => ⟨S1x4096x1024, .f32⟩
  | 2 => ⟨S4x1024, .f32⟩
  | 3 => ⟨S1024, .f32⟩
  | 4 => ⟨S8x128x128, .f32⟩
  | 5 => ⟨S8x128, .f32⟩
  | 6 => ⟨S8x128x128, .f32⟩
  | 7 => ⟨S8x128, .f32⟩
  | 8 => ⟨S1024, .f32⟩
  | 9 => ⟨S1x4096x1024, .f32⟩
  | 10 => ⟨S_, .f32⟩
  | 11 => ⟨S1x3x1024, .f32⟩
  | 12 => ⟨S1x4099x1024, .f32⟩
  | 13 => ⟨S1x1024, .f32⟩
  | 14 => ⟨S1024, .f32⟩
  | 15 => ⟨S1x4096x1024, .f32⟩
  | 16 => ⟨S1x1x1024, .f32⟩
  | 17 => ⟨S1x4096x1024, .f32⟩
  | 18 => ⟨S1x4096x1024, .f32⟩
  | 19 => ⟨S1x1024, .f32⟩
  | 20 => ⟨S1024, .f32⟩
  | 21 => ⟨S1x4096x1024, .f32⟩
  | 22 => ⟨S1x1x1024, .f32⟩
  | 23 => ⟨S1x4096x1024, .f32⟩
  | 24 => ⟨S1x4096x1024, .f32⟩
  | 25 => ⟨S1x4096x1024, .f32⟩
  | 26 => ⟨S1x1024, .f32⟩
  | 27 => ⟨S1024, .f32⟩
  | 28 => ⟨S1x4096x1024, .f32⟩
  | 29 => ⟨S1x1x1024, .f32⟩
  | 30 => ⟨S1x4096x1024, .f32⟩
  | 31 => ⟨S1x4096x1024, .f32⟩
  | 32 => ⟨S1x4096x1024, .f32⟩
  | 33 => ⟨S1x1024, .f32⟩
  | 34 => ⟨S1024, .f32⟩
  | 35 => ⟨S1x4096x1024, .f32⟩
  | 36 => ⟨S1x1x1024, .f32⟩
  | 37 => ⟨S1x4096x1024, .f32⟩
  | 38 => ⟨S1x4096x1024, .f32⟩
  | 39 => ⟨S1x4096x1024, .f32⟩
  | 40 => ⟨S1x1x1024, .f32⟩
  | 41 => ⟨S1x4096x1024, .f32⟩
  | 42 => ⟨S1x4096x1024, .f32⟩
  | 43 => ⟨S1x4096x8x128, .f32⟩
  | 44 => ⟨S8x128x1x4096, .f32⟩
  | 45 => ⟨S1x4096x8x128, .f32⟩
  | 46 => ⟨S1x1x8x128, .f32⟩
  | 47 => ⟨S1x4096x8x128, .f32⟩
  | 48 => ⟨S1x4096x8x128, .f32⟩
  | 49 => ⟨S1x4096x8x128, .f32⟩
  | 50 => ⟨S1x4096x8x128, .f32⟩
  | 51 => ⟨S_, .f32⟩
  | 52 => ⟨S1x4096x8x128, .f32⟩
  | 53 => ⟨S1x4096x8x128, .f32⟩
  | 54 => ⟨S_, .f32⟩
  | 55 => ⟨S1x4096x8x128, .f32⟩
  | 56 => ⟨S1x4096x8x128, .f32⟩
  | 57 => ⟨S1x4096x1024, .f32⟩
  | 58 => ⟨S8x128x1x4096, .f32⟩
  | 59 => ⟨S1x4096x8x128, .f32⟩
  | 60 => ⟨S1x1x8x128, .f32⟩
  | 61 => ⟨S1x4096x8x128, .f32⟩
  | 62 => ⟨S1x4096x8x128, .f32⟩
  | 63 => ⟨S1x4096x8x128, .f32⟩
  | 64 => ⟨S1x4096x8x128, .f32⟩
  | 65 => ⟨S_, .f32⟩
  | 66 => ⟨S1x4096x8x128, .f32⟩
  | 67 => ⟨S1x4096x8x128, .f32⟩
  | 68 => ⟨S_, .f32⟩
  | 69 => ⟨S1x4096x8x128, .f32⟩
  | 70 => ⟨S1x4096x8x128, .f32⟩
  | 71 => ⟨S1x4096x1024, .f32⟩
  | 72 => ⟨S_, .f32⟩
  | 73 => ⟨S1x4096x1024, .f32⟩
  | 74 => ⟨S1x4096x1024, .f32⟩
  | 75 => ⟨S1024, .f32⟩
  | 76 => ⟨S_, .f32⟩
  | 77 => ⟨S1024, .f32⟩
  | 78 => ⟨S1024, .f32⟩
  | 79 => ⟨S1024, .f32⟩
  | 80 => ⟨S1024, .f32⟩
  | 81 => ⟨S1024, .i1⟩
  | 82 => ⟨S1024, .f32⟩
  | 83 => ⟨S1024, .f32⟩
  | 84 => ⟨S1024, .f32⟩
  | 85 => ⟨S1024, .f32⟩
  | 86 => ⟨S1024, .f32⟩
  | 87 => ⟨S1024, .f32⟩
  | 88 => ⟨S1024, .f32⟩
  | 89 => ⟨S1024, .f32⟩
  | 90 => ⟨S1x1x1024, .f32⟩
  | 91 => ⟨S1x4096x1024, .f32⟩
  | 92 => ⟨S1x4096x1024, .f32⟩
  | 93 => ⟨S1x4096x1024, .f32⟩
  | 94 => ⟨S_, .f32⟩
  | 95 => ⟨S1x4096x1024, .f32⟩
  | 96 => ⟨S1x4096x1024, .f32⟩
  | 97 => ⟨S1x4096x1024, .f32⟩
  | 98 => ⟨S1x4096x1024, .f32⟩
  | 99 => ⟨S1x4096x1024, .f32⟩
  | 100 => ⟨S1x4096x1024, .f32⟩
  | 101 => ⟨S1x4096x1024, .f32⟩
  | 102 => ⟨S_, .f32⟩
  | 103 => ⟨S1x1024, .f32⟩
  | 104 => ⟨S4096x1x1024, .f32⟩
  | 105 => ⟨S4096x1x1024, .f32⟩
  | 106 => ⟨S_, .f32⟩
  | 107 => ⟨S4096x1x1024, .f32⟩
  | 108 => ⟨S_, .i32⟩
  | 109 => ⟨S4096x1x1024, .f32⟩
  | 110 => ⟨S4096x1x1024, .f32⟩
  | 111 => ⟨S_, .i32⟩
  | 112 => ⟨S1x1024, .f32⟩
  | 113 => ⟨S4096x1x1024, .f32⟩
  | 114 => ⟨S_, .i32⟩
  | 115 => ⟨S_, .i1⟩
  | 116 => ⟨S_, .i32⟩
  | 117 => ⟨S_, .i32⟩
  | 118 => ⟨S1x1x1024, .f32⟩
  | 119 => ⟨S1x1024, .f32⟩
  | 120 => ⟨S_, .i32⟩
  | 121 => ⟨S_, .i32⟩
  | 122 => ⟨S1x1x1024, .f32⟩
  | 123 => ⟨S1x1024, .f32⟩
  | 124 => ⟨S1x1024, .f32⟩
  | 125 => ⟨S1x1024, .f32⟩
  | 126 => ⟨S1x1x1024, .f32⟩
  | 127 => ⟨S_, .i32⟩
  | _ => ⟨S1x4096x1024, .f32⟩

abbrev hbmTy0_1 (i : Nat) : BufTy := match i % 128 with
  | 0 => ⟨S_, .i32⟩
  | 1 => ⟨S4096x1x1024, .f32⟩
  | 2 => ⟨S_, .i32⟩
  | 3 => ⟨S_, .i32⟩
  | 4 => ⟨S1x4096x1024, .f32⟩
  | 5 => ⟨S1x4096x1024, .f32⟩
  | 6 => ⟨S1x4096x1024, .f32⟩
  | 7 => ⟨S_, .f32⟩
  | 8 => ⟨S1x4096x1024, .f32⟩
  | 9 => ⟨S1x4096x1024, .f32⟩
  | 10 => ⟨S_, .f32⟩
  | 11 => ⟨S1x4096x1024, .f32⟩
  | 12 => ⟨S1x4096x1024, .f32⟩
  | 13 => ⟨S_, .f32⟩
  | 14 => ⟨S1x4096x1024, .f32⟩
  | 15 => ⟨S1x4096x1024, .f32⟩
  | 16 => ⟨S1x4096x1024, .f32⟩
  | 17 => ⟨S1x4096x1024, .f32⟩
  | 18 => ⟨S1x4096x1024, .f32⟩
  | 19 => ⟨S1x4096x1024, .f32⟩
  | 20 => ⟨S1x4096x1024, .f32⟩
  | 21 => ⟨S1x4096x1024, .f32⟩
  | 22 => ⟨S1x4096x1024, .f32⟩
  | 23 => ⟨S1x4096x1024, .f32⟩
  | 24 => ⟨S_, .f32⟩
  | 25 => ⟨S1x4096x1024, .f32⟩
  | 26 => ⟨S_, .f32⟩
  | 27 => ⟨S2x4096x1024, .f32⟩
  | 28 => ⟨S4x4096x1024, .f32⟩
  | 29 => ⟨S4x4096x1024, .bf16⟩
  | _ => ⟨S1x4096x1024, .f32⟩

abbrev hbmTy (i : Nat) : BufTy := match i / 128 with
  | 0 => hbmTy0_0 i
  | 1 => hbmTy0_1 i
  | _ => ⟨S1x4096x1024, .f32⟩

abbrev bufTy : (tb : Table) → Fin (tcTables nBuf tb) → BufTy
  | .hbm, ⟨i, _⟩ => hbmTy i
  | _, _ => ⟨S1x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_v1 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_v33 : Ref sig .tc := ⟨.hbm, 44, rfl⟩
abbrev main_v34 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_cst_0 : Ref sig .tc := ⟨.hbm, 51, rfl⟩
abbrev main_v40 : Ref sig .tc := ⟨.hbm, 52, rfl⟩
abbrev main_v41 : Ref sig .tc := ⟨.hbm, 53, rfl⟩
abbrev main_cst_1 : Ref sig .tc := ⟨.hbm, 54, rfl⟩
abbrev main_v42 : Ref sig .tc := ⟨.hbm, 55, rfl⟩
abbrev main_v43 : Ref sig .tc := ⟨.hbm, 56, rfl⟩
abbrev main_v44 : Ref sig .tc := ⟨.hbm, 57, rfl⟩
abbrev main_v45 : Ref sig .tc := ⟨.hbm, 58, rfl⟩
abbrev main_v46 : Ref sig .tc := ⟨.hbm, 59, rfl⟩
abbrev main_v47 : Ref sig .tc := ⟨.hbm, 60, rfl⟩
abbrev main_v48 : Ref sig .tc := ⟨.hbm, 61, rfl⟩
abbrev main_v49 : Ref sig .tc := ⟨.hbm, 62, rfl⟩
abbrev main_v50 : Ref sig .tc := ⟨.hbm, 63, rfl⟩
abbrev main_v51 : Ref sig .tc := ⟨.hbm, 64, rfl⟩
abbrev main_cst_2 : Ref sig .tc := ⟨.hbm, 65, rfl⟩
abbrev main_v52 : Ref sig .tc := ⟨.hbm, 66, rfl⟩
abbrev main_v53 : Ref sig .tc := ⟨.hbm, 67, rfl⟩
abbrev main_cst_3 : Ref sig .tc := ⟨.hbm, 68, rfl⟩
abbrev main_v54 : Ref sig .tc := ⟨.hbm, 69, rfl⟩
abbrev main_v55 : Ref sig .tc := ⟨.hbm, 70, rfl⟩
abbrev main_v56 : Ref sig .tc := ⟨.hbm, 71, rfl⟩
abbrev main_cst_4 : Ref sig .tc := ⟨.hbm, 72, rfl⟩
abbrev main_v57 : Ref sig .tc := ⟨.hbm, 73, rfl⟩
abbrev main_v58 : Ref sig .tc := ⟨.hbm, 74, rfl⟩
abbrev main_v59 : Ref sig .tc := ⟨.hbm, 75, rfl⟩
abbrev main_call0_cst : Ref sig .tc := ⟨.hbm, 76, rfl⟩
abbrev main_call0_v0 : Ref sig .tc := ⟨.hbm, 77, rfl⟩
abbrev main_call0_v1 : Ref sig .tc := ⟨.hbm, 78, rfl⟩
abbrev main_call0_v2 : Ref sig .tc := ⟨.hbm, 79, rfl⟩
abbrev main_call0_v3 : Ref sig .tc := ⟨.hbm, 80, rfl⟩
abbrev main_call0_v4 : Ref sig .tc := ⟨.hbm, 81, rfl⟩
abbrev main_call0_v5 : Ref sig .tc := ⟨.hbm, 82, rfl⟩
abbrev main_call0_v6 : Ref sig .tc := ⟨.hbm, 83, rfl⟩
abbrev main_call0_v7 : Ref sig .tc := ⟨.hbm, 84, rfl⟩
abbrev main_call0_v8 : Ref sig .tc := ⟨.hbm, 85, rfl⟩
abbrev main_call0_v9 : Ref sig .tc := ⟨.hbm, 86, rfl⟩
abbrev main_call0_v10 : Ref sig .tc := ⟨.hbm, 87, rfl⟩
abbrev main_call0_v11 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_cst_5 : Ref sig .tc := ⟨.hbm, 94, rfl⟩
abbrev main_v65 : Ref sig .tc := ⟨.hbm, 95, rfl⟩
abbrev main_v66 : Ref sig .tc := ⟨.hbm, 96, rfl⟩
abbrev main_v67 : Ref sig .tc := ⟨.hbm, 97, rfl⟩
abbrev main_v68 : Ref sig .tc := ⟨.hbm, 98, rfl⟩
abbrev main_v69 : Ref sig .tc := ⟨.hbm, 99, rfl⟩
abbrev main_v70 : Ref sig .tc := ⟨.hbm, 100, rfl⟩
abbrev main_v71 : Ref sig .tc := ⟨.hbm, 101, rfl⟩
abbrev main_cst_6 : Ref sig .tc := ⟨.hbm, 102, rfl⟩
abbrev main_v72 : Ref sig .tc := ⟨.hbm, 103, rfl⟩
abbrev main_v73 : Ref sig .tc := ⟨.hbm, 104, rfl⟩
abbrev main_v74 : Ref sig .tc := ⟨.hbm, 105, rfl⟩
abbrev main_cst_7 : Ref sig .tc := ⟨.hbm, 106, rfl⟩
abbrev main_v75 : Ref sig .tc := ⟨.hbm, 107, rfl⟩
abbrev main_c : Ref sig .tc := ⟨.hbm, 108, rfl⟩
abbrev main_v76_0 : Ref sig .tc := ⟨.hbm, 109, rfl⟩
abbrev main_v76_1 : Ref sig .tc := ⟨.hbm, 110, rfl⟩
abbrev main_v76_2 : Ref sig .tc := ⟨.hbm, 111, rfl⟩
abbrev main_v76_3 : Ref sig .tc := ⟨.hbm, 112, rfl⟩
abbrev main_v76_4 : Ref sig .tc := ⟨.hbm, 113, rfl⟩
abbrev main_while0c_c_14 : Ref sig .tc := ⟨.hbm, 114, rfl⟩
abbrev main_while0c_v86 : Ref sig .tc := ⟨.hbm, 115, rfl⟩
abbrev main_while0b_call1_c : Ref sig .tc := ⟨.hbm, 116, rfl⟩
abbrev main_while0b_call1_c_0 : Ref sig .tc := ⟨.hbm, 117, rfl⟩
abbrev main_while0b_call1_v0 : Ref sig .tc := ⟨.hbm, 118, rfl⟩
abbrev main_while0b_v86 : Ref sig .tc := ⟨.hbm, 119, rfl⟩
abbrev main_while0b_call2_c : Ref sig .tc := ⟨.hbm, 120, rfl⟩
abbrev main_while0b_call2_c_0 : Ref sig .tc := ⟨.hbm, 121, rfl⟩
abbrev main_while0b_call2_v0 : Ref sig .tc := ⟨.hbm, 122, rfl⟩
abbrev main_while0b_v87 : Ref sig .tc := ⟨.hbm, 123, rfl⟩
abbrev main_while0b_v88 : Ref sig .tc := ⟨.hbm, 124, rfl⟩
abbrev main_while0b_v89 : Ref sig .tc := ⟨.hbm, 125, rfl⟩
abbrev main_while0b_call3_v0 : Ref sig .tc := ⟨.hbm, 126, rfl⟩
abbrev main_while0b_call3_c : Ref sig .tc := ⟨.hbm, 127, rfl⟩
abbrev main_while0b_call3_c_0 : Ref sig .tc := ⟨.hbm, 128, rfl⟩
abbrev main_while0b_v90 : Ref sig .tc := ⟨.hbm, 129, rfl⟩
abbrev main_while0b_c_14 : Ref sig .tc := ⟨.hbm, 130, rfl⟩
abbrev main_while0b_v91 : Ref sig .tc := ⟨.hbm, 131, rfl⟩
abbrev main_v77 : Ref sig .tc := ⟨.hbm, 132, rfl⟩
abbrev main_call4_v0 : Ref sig .tc := ⟨.hbm, 133, rfl⟩
abbrev main_call4_v1 : Ref sig .tc := ⟨.hbm, 134, rfl⟩
abbrev main_call4_cst : Ref sig .tc := ⟨.hbm, 135, rfl⟩
abbrev main_call4_v2 : Ref sig .tc := ⟨.hbm, 136, rfl⟩
abbrev main_call4_v3 : Ref sig .tc := ⟨.hbm, 137, rfl⟩
abbrev main_call4_cst_0 : Ref sig .tc := ⟨.hbm, 138, rfl⟩
abbrev main_call4_v4 : Ref sig .tc := ⟨.hbm, 139, rfl⟩
abbrev main_v78_2 : Ref sig .tc := ⟨.hbm, 140, rfl⟩
abbrev main_call4_cst_1 : Ref sig .tc := ⟨.hbm, 141, rfl⟩
abbrev main_call4_v6 : Ref sig .tc := ⟨.hbm, 142, rfl⟩
abbrev main_call4_v7 : Ref sig .tc := ⟨.hbm, 143, rfl⟩
abbrev main_v78_1 : Ref sig .tc := ⟨.hbm, 144, rfl⟩
abbrev main_v78_0 : Ref sig .tc := ⟨.hbm, 145, rfl⟩
abbrev main_v79 : Ref sig .tc := ⟨.hbm, 146, rfl⟩
abbrev main_v80 : Ref sig .tc := ⟨.hbm, 147, rfl⟩
abbrev main_call5_v0 : Ref sig .tc := ⟨.hbm, 148, rfl⟩
abbrev main_call5_v1 : Ref sig .tc := ⟨.hbm, 149, rfl⟩
abbrev main_call5_v2 : Ref sig .tc := ⟨.hbm, 150, rfl⟩
abbrev main_v81 : Ref sig .tc := ⟨.hbm, 151, rfl⟩
abbrev main_cst_8 : Ref sig .tc := ⟨.hbm, 152, rfl⟩
abbrev main_v82 : Ref sig .tc := ⟨.hbm, 153, rfl⟩
abbrev main_cst_9 : Ref sig .tc := ⟨.hbm, 154, rfl⟩
abbrev main_v83 : Ref sig .tc := ⟨.hbm, 155, rfl⟩
abbrev main_v84 : Ref sig .tc := ⟨.hbm, 156, rfl⟩
abbrev main_v85 : Ref sig .tc := ⟨.hbm, 157, rfl⟩

abbrev nD : Nat := 1
abbrev τ : Topo := Topo.v7x

variable {F : FTy → Type} [FloatOps F]

abbrev main_while0_count : Scf.Loop 32 := ⟨0#32, 4096#32, 1#32⟩
-- ==== Kernel14.lean ====
abbrev S4x8x1536 : Shape := ⟨3, ![4, 8, 1536]⟩
abbrev S2x3072 : Shape := ⟨2, ![2, 3072]⟩
abbrev S2x1024 : Shape := ⟨2, ![2, 1024]⟩
abbrev S2x8x128 : Shape := ⟨3, ![2, 8, 128]⟩
abbrev S8x1024 : Shape := ⟨2, ![8, 1024]⟩
abbrev S1x1x768 : Shape := ⟨3, ![1, 1, 768]⟩
abbrev S1x768 : Shape := ⟨2, ![1, 768]⟩
abbrev S1x256 : Shape := ⟨2, ![1, 256]⟩
abbrev S1x512 : Shape := ⟨2, ![1, 512]⟩
abbrev S1x1024 : Shape := ⟨2, ![1, 1024]⟩
abbrev S1x1x128 : Shape := ⟨3, ![1, 1, 128]⟩
abbrev S1x128 : Shape := ⟨2, ![1, 128]⟩

abbrev nBuf : Space → Nat
  | .hbm => 12
  | .vmem => 12
  | .smem => 0
  | _ => 0

abbrev bufTy : (tb : Table) → Fin (tcTables nBuf tb) → BufTy
  | .hbm, ⟨0, _⟩ => ⟨S4x8x1536, .f32⟩
  | .hbm, ⟨1, _⟩ => ⟨S2x3072, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x8x128, .f32⟩
  | .hbm, ⟨6, _⟩ => ⟨S2x8x128, .f32⟩
  | .hbm, ⟨7, _⟩ => ⟨S2x1024, .f32⟩
  | .hbm, ⟨8, _⟩ => ⟨S8x1024, .f32⟩
  | .hbm, ⟨9, _⟩ => ⟨S8x1024, .f32⟩
  | .hbm, ⟨10, _⟩ => ⟨S8x1024, .f32⟩
  | .hbm, ⟨11, _⟩ => ⟨S8x1024, .f32⟩
  | .local _ .vmem, ⟨0, _⟩ => ⟨S4x8x1536, .f32⟩
  | .local _ .vmem, ⟨1, _⟩ => ⟨S2x3072, .f32⟩
  | .local _ .vmem, ⟨2, _⟩ => ⟨S2x1024, .f32⟩
  | .local _ .vmem, ⟨3, _⟩ => ⟨S2x1024, .f32⟩
  | .local _ .vmem, ⟨4, _⟩ => ⟨S2x1024, .f32⟩
  | .local _ .vmem, ⟨5, _⟩ => ⟨S2x8x128, .f32⟩
  | .local _ .vmem, ⟨6, _⟩ => ⟨S2x8x128, .f32⟩
  | .local _ .vmem, ⟨7, _⟩ => ⟨S2x1024, .f32⟩
  | .local _ .vmem, ⟨8, _⟩ => ⟨S8x1024, .f32⟩
  | .local _ .vmem, ⟨9, _⟩ => ⟨S8x1024, .f32⟩
  | .local _ .vmem, ⟨10, _⟩ => ⟨S8x1024, .f32⟩
  | .local _ .vmem, ⟨11, _⟩ => ⟨S8x1024, .f32⟩
  | _, _ => ⟨S4x8x1536, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0_0 : Ref sig .tc := ⟨.hbm, 8, rfl⟩
abbrev main_v0_1 : Ref sig .tc := ⟨.hbm, 9, rfl⟩
abbrev main_v0_2 : Ref sig .tc := ⟨.hbm, 10, rfl⟩
abbrev main_v0_3 : Ref sig .tc := ⟨.hbm, 11, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F]

abbrev grid0 : Pipeline.Grid := .none

abbrev stage0_0 : Fin 1 → Memref sig .tc .vmem S4x8x1536 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S2x3072 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S2x1024 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S2x1024 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S2x1024 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S2x8x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S2x8x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S2x1024 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S8x1024 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S8x1024 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S8x1024 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S8x1024 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Reference14Ideal.lean ====
abbrev S4x8x1536 : Shape := ⟨3, ![4, 8, 1536]⟩
abbrev S2x3072 : Shape := ⟨2, ![2, 3072]⟩
abbrev S2x1024 : Shape := ⟨2, ![2, 1024]⟩
abbrev S2x8x128 : Shape := ⟨3, ![2, 8, 128]⟩
abbrev S4x1x768 : Shape := ⟨3, ![4, 1, 768]⟩
abbrev S4x768 : Shape := ⟨2, ![4, 768]⟩
abbrev S3072 : Shape := ⟨1, ![3072]⟩
abbrev S1x3072 : Shape := ⟨2, ![1, 3072]⟩
abbrev S3x1024 : Shape := ⟨2, ![3, 1024]⟩
abbrev S1x1024 : Shape := ⟨2, ![1, 1024]⟩
abbrev S1024 : Shape := ⟨1, ![1024]⟩
abbrev S_ : Shape := ⟨0, ![]⟩
abbrev S8x1024 : Shape := ⟨2, ![8, 1024]⟩
abbrev S1x8x128 : Shape := ⟨3, ![1, 8, 128]⟩
abbrev S8x128 : Shape := ⟨2, ![8, 128]⟩
abbrev S4x1024 : Shape := ⟨2, ![4, 1024]⟩

abbrev nBuf : Space → Nat
  | .hbm => 70
  | .vmem => 0
  | .smem => 0
  | _ => 0

abbrev bufTy : (tb : Table) → Fin (tcTables nBuf tb) → BufTy
  | .hbm, ⟨0, _⟩ => ⟨S4x8x1536, .f32⟩
  | .hbm, ⟨1, _⟩ => ⟨S2x3072, .f32⟩
  | .hbm, ⟨2, _⟩ => ⟨S2x1024, .f32⟩
  | .hbm, ⟨3, _⟩ => ⟨S2x1024, .f32⟩
  | .hbm, ⟨4, _⟩ => ⟨S2x1024, .f32⟩
  | .hbm, ⟨5, _⟩ => ⟨S2x8x128, .f32⟩
  | .hbm, ⟨6, _⟩ => ⟨S2x8x128, .f32⟩
  | .hbm, ⟨7, _⟩ => ⟨S2x1024, .f32⟩
  | .hbm, ⟨8, _⟩ => ⟨S4x1x768, .f32⟩
  | .hbm, ⟨9, _⟩ => ⟨S4x768, .f32⟩
  | .hbm, ⟨10, _⟩ => ⟨S3072, .f32⟩
  | .hbm, ⟨11, _⟩ => ⟨S1x3072, .f32⟩
  | .hbm, ⟨12, _⟩ => ⟨S3072, .f32⟩
  | .hbm, ⟨13, _⟩ => ⟨S3072, .f32⟩
  | .hbm, ⟨14, _⟩ => ⟨S3x1024, .f32⟩
  | .hbm, ⟨15, _⟩ => ⟨S1x1024, .f32⟩
  | .hbm, ⟨16, _⟩ => ⟨S1024, .f32⟩
  | .hbm, ⟨17, _⟩ => ⟨S1x1024, .f32⟩
  | .hbm, ⟨18, _⟩ => ⟨S1x1024, .f32⟩
  | .hbm, ⟨19, _⟩ => ⟨S1024, .f32⟩
  | .hbm, ⟨20, _⟩ => ⟨S1x1024, .f32⟩
  | .hbm, ⟨21, _⟩ => ⟨S_, .f32⟩
  | .hbm, ⟨22, _⟩ => ⟨S3x1024, .f32⟩
  | .hbm, ⟨23, _⟩ => ⟨S8x1024, .f32⟩
  | .hbm, ⟨24, _⟩ => ⟨S1x1024, .f32⟩
  | .hbm, ⟨25, _⟩ => ⟨S1024, .f32⟩
  | .hbm, ⟨26, _⟩ => ⟨S1x1024, .f32⟩
  | .hbm, ⟨27, _⟩ => ⟨S1x8x128, .f32⟩
  | .hbm, ⟨28, _⟩ => ⟨S8x128, .f32⟩
  | .hbm, ⟨29, _⟩ => ⟨S1x1024, .f32⟩
  | .hbm, ⟨30, _⟩ => ⟨S1x8x128, .f32⟩
  | .hbm, ⟨31, _⟩ => ⟨S8x128, .f32⟩
  | .hbm, ⟨32, _⟩ => ⟨S1x1024, .f32⟩
  | .hbm, ⟨33, _⟩ => ⟨S1x1024, .f32⟩
  | .hbm, ⟨34, _⟩ => ⟨S1024, .f32⟩
  | .hbm, ⟨35, _⟩ => ⟨S1x1024, .f32⟩
  | .hbm, ⟨36, _⟩ => ⟨S_, .f32⟩
  | .hbm, ⟨37, _⟩ => ⟨S4x1024, .f32⟩
  | .hbm, ⟨38, _⟩ => ⟨S8x1024, .f32⟩
  | .hbm, ⟨39, _⟩ => ⟨S4x1x768, .f32⟩
  | .hbm, ⟨40, _⟩ => ⟨S4x768, .f32⟩
  | .hbm, ⟨41, _⟩ => ⟨S3072, .f32⟩
  | .hbm, ⟨42, _⟩ => ⟨S1x3072, .f32⟩
  | .hbm, ⟨43, _⟩ => ⟨S3072, .f32⟩
  | .hbm, ⟨44, _⟩ => ⟨S3072, .f32⟩
  | .hbm, ⟨45, _⟩ => ⟨S3x1024, .f32⟩
  | .hbm, ⟨46, _⟩ => ⟨S1x1024, .f32⟩
  | .hbm, ⟨47, _⟩ => ⟨S1024, .f32⟩
  | .hbm, ⟨48, _⟩ => ⟨S1x1024, .f32⟩
  | .hbm, ⟨49, _⟩ => ⟨S1x1024, .f32⟩
  | .hbm, ⟨50, _⟩ => ⟨S1024, .f32⟩
  | .hbm, ⟨51, _⟩ => ⟨S1x1024, .f32⟩
  | .hbm, ⟨52, _⟩ => ⟨S_, .f32⟩
  | .hbm, ⟨53, _⟩ => ⟨S3x1024, .f32⟩
  | .hbm, ⟨54, _⟩ => ⟨S8x1024, .f32⟩
  | .hbm, ⟨55, _⟩ => ⟨S1x1024, .f32⟩
  | .hbm, ⟨56, _⟩ => ⟨S1024, .f32⟩
  | .hbm, ⟨57, _⟩ => ⟨S1x1024, .f32⟩
  | .hbm, ⟨58, _⟩ => ⟨S1x8x128, .f32⟩
  | .hbm, ⟨59, _⟩ => ⟨S8x128, .f32⟩
  | .hbm, ⟨60, _⟩ => ⟨S1x1024, .f32⟩
  | .hbm, ⟨61, _⟩ => ⟨S1x8x128, .f32⟩
  | .hbm, ⟨62, _⟩ => ⟨S8x128, .f32⟩
  | .hbm, ⟨63, _⟩ => ⟨S1x1024, .f32⟩
  | .hbm, ⟨64, _⟩ => ⟨S1x1024, .f32⟩
  | .hbm, ⟨65, _⟩ => ⟨S1024, .f32⟩
  | .hbm, ⟨66, _⟩ => ⟨S1x1024, .f32⟩
  | .hbm, ⟨67, _⟩ => ⟨S_, .f32⟩
  | .hbm, ⟨68, _⟩ => ⟨S4x1024, .f32⟩
  | .hbm, ⟨69, _⟩ => ⟨S8x1024, .f32⟩
  | _, _ => ⟨S4x8x1536, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_v0 : Ref sig .tc := ⟨.hbm, 8, rfl⟩
abbrev main_v1 : Ref sig .tc := ⟨.hbm, 9, rfl⟩
abbrev main_v2 : Ref sig .tc := ⟨.hbm, 10, rfl⟩
abbrev main_v3 : Ref sig .tc := ⟨.hbm, 11, rfl⟩
abbrev main_v4 : Ref sig .tc := ⟨.hbm, 12, rfl⟩
abbrev main_v5 : Ref sig .tc := ⟨.hbm, 13, rfl⟩
abbrev main_v6 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst : Ref sig .tc := ⟨.hbm, 21, rfl⟩
abbrev main_v13 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩
abbrev main_v18 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_v25 : Ref sig .tc := ⟨.hbm, 34, rfl⟩
abbrev main_v26 : Ref sig .tc := ⟨.hbm, 35, rfl⟩
abbrev main_cst_0 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_v32 : Ref sig .tc := ⟨.hbm, 42, rfl⟩
abbrev main_v33 : Ref sig .tc := ⟨.hbm, 43, rfl⟩
abbrev main_v34 : Ref sig .tc := ⟨.hbm, 44, rfl⟩
abbrev main_v35 : Ref sig .tc := ⟨.hbm, 45, rfl⟩
abbrev main_v36 : Ref sig .tc := ⟨.hbm, 46, rfl⟩
abbrev main_v37 : Ref sig .tc := ⟨.hbm, 47, rfl⟩
abbrev main_v38 : Ref sig .tc := ⟨.hbm, 48, rfl⟩
abbrev main_v39 : Ref sig .tc := ⟨.hbm, 49, rfl⟩
abbrev main_v40 : Ref sig .tc := ⟨.hbm, 50, rfl⟩
abbrev main_v41 : Ref sig .tc := ⟨.hbm, 51, rfl⟩
abbrev main_cst_1 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev main_v51 : Ref sig .tc := ⟨.hbm, 62, rfl⟩
abbrev main_v52 : Ref sig .tc := ⟨.hbm, 63, rfl⟩
abbrev main_v53 : Ref sig .tc := ⟨.hbm, 64, rfl⟩
abbrev main_v54 : Ref sig .tc := ⟨.hbm, 65, rfl⟩
abbrev main_v55 : Ref sig .tc := ⟨.hbm, 66, rfl⟩
abbrev main_cst_2 : Ref sig .tc := ⟨.hbm, 67, rfl⟩
abbrev main_v56 : Ref sig .tc := ⟨.hbm, 68, rfl⟩
abbrev main_v57 : Ref sig .tc := ⟨.hbm, 69, rfl⟩

abbrev nD : Nat := 1
abbrev τ : Topo := Topo.v7x

variable {F : FTy → Type} [FloatOps F]
-- ==== Proof.Pack.Spec.lean ====
/- The packed parameter blocks of a layer, as functions of the arrays they are packed from. -/
module

public import Idealize.ShloMosaic.Lib.Pointwise
public import Idealize.ShloMosaic.PureOps

@[expose] public section

noncomputable section

namespace Cert.Pack

open Idealize.ShloMosaic

/-- The arrays the packing reads. -/
structure Args where
  mb : (⟨3, ![4, 8, 1536]⟩ : Shape).Idx → EReal
  ab : (⟨2, ![2, 3072]⟩ : Shape).Idx → EReal
  pre : (⟨2, ![2, 1024]⟩ : Shape).Idx → EReal
  post : (⟨2, ![2, 1024]⟩ : Shape).Idx → EReal
  cb : (⟨2, ![2, 1024]⟩ : Shape).Idx → EReal
  ga : (⟨3, ![2, 8, 128]⟩ : Shape).Idx → EReal
  gx : (⟨3, ![2, 8, 128]⟩ : Shape).Idx → EReal
  lam : (⟨2, ![2, 1024]⟩ : Shape).Idx → EReal

namespace Args

variable (A : Args) (l : Fin 2)

/-- Entry `p` of a layer's modulation: the slab `p` falls in, plus the bias. -/
def mod (p : Fin 3072) : EReal :=
  A.mb (ix3 ⟨p.val / 768, by omega⟩ 0 ⟨l.val * 768 + p.val % 768, by omega⟩) + A.ab (ix2 l p)

/-- A layer's block of modulation and norm weights. -/
def vec (r : Fin 8) (k : Fin 1024) : EReal :=
  if h : r.val < 3 then A.mod l ⟨r.val * 1024 + k.val, by omega⟩
  else if r.val = 3 then A.pre (ix2 l k) else if r.val = 4 then A.post (ix2 l k) else 0

/-- A layer's block of the recurrent layer's vectors. -/
def rvec (r : Fin 8) (k : Fin 1024) : EReal :=
  if r.val = 0 then A.cb (ix2 l k) else if r.val = 1 then A.ga (ix3 l ⟨k.val / 128, by omega⟩ ⟨k.val % 128, by omega⟩)
  else if r.val = 2 then A.gx (ix3 l ⟨k.val / 128, by omega⟩ ⟨k.val % 128, by omega⟩)
  else if r.val = 3 then A.lam (ix2 l k) else 0

theorem mod_slab {s : Fin 4} {x : Fin 1536} {p : Fin 3072} (hs : s.val = p.val / 768) (hx : x.val = l.val * 768 + p.val % 768) :
    A.mb (ix3 s 0 x) + A.ab (ix2 l p) = A.mod l p := by
  unfold mod
  rw [show s = ⟨p.val / 768, by omega⟩ from Fin.ext hs, show x = ⟨l.val * 768 + p.val % 768, by omega⟩ from Fin.ext hx]

/-- The entries of the first three rows, by slab and place in it. -/
theorem vec_slab {r : Fin 8} {k : Fin 1024} {s : Fin 4} {x : Fin 1536} {p : Fin 3072} (hr : r.val < 3)
    (hp : p.val = r.val * 1024 + k.val) (hs : s.val = p.val / 768) (hx : x.val = l.val * 768 + p.val % 768) :
    A.mb (ix3 s 0 x) + A.ab (ix2 l p) = A.vec l r k := by
  rw [A.mod_slab l hs hx]
  unfold vec
  rw [dif_pos hr, show p = ⟨r.val * 1024 + k.val, by omega⟩ from Fin.ext hp]

theorem vec_pre {r : Fin 8} {k j : Fin 1024} (hr : r.val = 3) (hk : k.val = 0 + j.val) : A.pre (ix2 l j) = A.vec l r k := by
  unfold vec
  rw [dif_neg (by omega), if_pos hr, show k = j from Fin.ext (by omega)]

theorem vec_post {r : Fin 8} {k j : Fin 1024} (hr : r.val = 4) (hk : k.val = 0 + j.val) : A.post (ix2 l j) = A.vec l r k := by
  unfold vec
  rw [dif_neg (by omega), if_neg (by omega), if_pos hr, show k = j from Fin.ext (by omega)]

theorem vec_rest {r : Fin 8} {k : Fin 1024} (hr : 4 < r.val) : 0 = A.vec l r k := by
  unfold vec
  rw [dif_neg (by omega), if_neg (by omega), if_neg (by omega)]

theorem rvec_cb {r : Fin 8} {k j : Fin 1024} (hr : r.val = 0) (hk : k.val = 0 + j.val) : A.cb (ix2 l j) = A.rvec l r k := by
  unfold rvec
  rw [if_pos hr, show k = j from Fin.ext (by omega)]

theorem rvec_lam {r : Fin 8} {k j : Fin 1024} (hr : r.val = 3) (hk : k.val = 0 + j.val) : A.lam (ix2 l j) = A.rvec l r k := by
  unfold rvec
  rw [if_neg (by omega), if_neg (by omega), if_neg (by omega), if_pos hr, show k = j from Fin.ext (by omega)]

theorem rvec_rest {r : Fin 8} {k : Fin 1024} (hr : 3 < r.val) : 0 = A.rvec l r k := by
  unfold rvec
  rw [if_neg (by omega), if_neg (by omega), if_neg (by omega), if_neg (by omega)]

theorem rvec_ga {r : Fin 8} {k : Fin 1024} {h : Fin 8} {o : Fin 128} (hr : r.val = 1) (hk : k.val = h.val * 128 + o.val) :
    A.ga (ix3 l h o) = A.rvec l r k := by
  unfold rvec
  rw [if_neg (by omega), if_pos hr]
  congr 2 <;> exact Fin.ext (by dsimp only; omega)

theorem rvec_gx {r : Fin 8} {k : Fin 1024} {h : Fin 8} {o : Fin 128} (hr : r.val = 2) (hk : k.val = h.val * 128 + o.val) :
    A.gx (ix3 l h o) = A.rvec l r k := by
  unfold rvec
  rw [if_neg (by omega), if_neg (by omega), if_pos hr]
  congr 2 <;> exact Fin.ext (by dsimp only; omega)

end Args

end Cert.Pack

end
-- ==== Proof.Pool.Spec.lean ====
/- What the pool's backward call computes, written once over the six argument arrays read as extended reals. The
   sequence is cut into four groups of 256 lanes; group `g` averages the last `2, 4, 8, 16` positions, subtracts the
   input, multiplies by its 256 by 256 weights, and is gated. Here stand the gradients of all five arguments. -/
module

public import Idealize.ShloMosaic.Lib.Pointwise
public import proofs.«01_k».proof.Kernel2Ideal

@[expose] public section

noncomputable section

namespace Cert.Pool

open Cert.Kernel2Ideal Idealize.ShloMosaic

/-- The six argument arrays: the pool's input, its gate, weights, bias and scale, and the cotangent of its result. -/
structure Args where
  x : FVec Ideal S1x4096x1024 .f32
  gate : FVec Ideal S1x4096x1024 .f32
  w : FVec Ideal S4x256x256 .f32
  b : FVec Ideal S4x256 .f32
  scale : FVec Ideal S1024 .f32
  dy : FVec Ideal S1x4096x1024 .f32

/-- Lane `l` of group `g`, among all 1024. -/
def lane (g : Fin 4) (l : Fin 256) : Fin 1024 := ⟨g.val * 256 + l.val, by omega⟩

/-- The length of group `g`'s window. -/
abbrev win (g : Fin 4) : ℕ := 2 ^ (g.val + 1)

/-- How many positions the window at `n` holds. -/
def count (g : Fin 4) (n : ℕ) : EReal := (((min (n + 1) (win g) : ℕ) : ℝ) : EReal)

/-- One over that number. -/
def inv (g : Fin 4) (n : ℕ) : EReal := Ideal.div 1 (count g n)

/-- The `d` values that end at `n`, added. -/
def back (f : ℕ → EReal) (d n : ℕ) : EReal := ∑ k ∈ Finset.range d, f (n - k)

/-- The `d` values that start at `n`, added. -/
def ahead (f : ℕ → EReal) (d n : ℕ) : EReal := ∑ k ∈ Finset.range d, f (n + k)

namespace Args

variable (A : Args)

/-- The input's lane `L` with sixteen zeros in front: entry `n` is position `n - 16`. -/
def xs (L : Fin 1024) (n : ℕ) : EReal :=
  if h : 16 ≤ n ∧ n < 4112 then A.x (ix3 0 ⟨n - 16, by omega⟩ L) else 0

/-- The window's mean minus the input. -/
def pooled (g : Fin 4) (s : Fin 4096) (l : Fin 256) : EReal :=
  back (A.xs (lane g l)) (win g) (s.val + 16) * inv g s - A.x (ix3 0 s (lane g l))

/-- The group's linear map of it, with its bias. -/
def z (g : Fin 4) (s : Fin 4096) (l : Fin 256) : EReal :=
  (∑ i : Fin 256, A.pooled g s i * A.w (ix3 g i l)) + A.b (ix2 g l)

/-- The logistic function of the gate. -/
def sg (s : Fin 4096) (L : Fin 1024) : EReal := Ideal.div 1 (1 + Ideal.exp (0 - A.gate (ix3 0 s L)))

/-- The cotangent of the ungated result. -/
def dyp (s : Fin 4096) (L : Fin 1024) : EReal := A.dy (ix3 0 s L) * (A.gate (ix3 0 s L) * A.sg s L)

/-- The gradient of the gate. -/
def dgate (g : Fin 4) (s : Fin 4096) (l : Fin 256) : EReal :=
  A.dy (ix3 0 s (lane g l)) * (A.z g s l * A.scale (ix1 (lane g l)))
    * (A.sg s (lane g l) * (1 + A.gate (ix3 0 s (lane g l)) * (1 - A.sg s (lane g l))))

/-- The cotangent of the linear map's result. -/
def dz (s : Fin 4096) (L : Fin 1024) : EReal := A.dyp s L * A.scale (ix1 L)

/-- The cotangent of the window's mean. -/
def dpooled (g : Fin 4) (s : Fin 4096) (l : Fin 256) : EReal :=
  ∑ j : Fin 256, A.dz s (lane g j) * A.w (ix3 g l j)

/-- That cotangent over the window's count, and zero behind the end of the sequence. -/
def q (g : Fin 4) (l : Fin 256) (n : ℕ) : EReal := if h : n < 4096 then A.dpooled g ⟨n, h⟩ l * inv g n else 0

/-- The gradient of the input. -/
def dx (g : Fin 4) (s : Fin 4096) (l : Fin 256) : EReal := ahead (A.q g l) (win g) s - A.dpooled g s l

/-- The gradient of the weights. -/
def dw (g : Fin 4) (i j : Fin 256) : EReal := ∑ s : Fin 4096, A.pooled g s i * A.dz s (lane g j)

/-- The gradient of the bias. -/
def db (g : Fin 4) (l : Fin 256) : EReal := ∑ s : Fin 4096, A.dz s (lane g l)

/-- The gradient of the scale. -/
def dscale (g : Fin 4) (l : Fin 256) : EReal := ∑ s : Fin 4096, A.dyp s (lane g l) * A.z g s l

end Args

end Cert.Pool

end
-- ==== Proof.Pool.Window.lean ====
/- Sums over windows of 2, 4, 8, 16 rows as the kernel takes them: each step adds to a block of 528 rows the same block
   turned by the number of rows summed so far, which doubles that number wherever no row came around the end. -/
module

public import proofs.«01_k».proof.Proof.Pool.Spec

@[expose] public section

noncomputable section

namespace Cert.Pool

open Cert.Kernel2Ideal Idealize.ShloMosaic

theorem back_one (f : ℕ → EReal) (n : ℕ) : back f 1 n = f n := by simp [back]

theorem ahead_one (f : ℕ → EReal) (n : ℕ) : ahead f 1 n = f n := by simp [ahead]

theorem back_double (f : ℕ → EReal) (d n : ℕ) : back f (d + d) n = back f d n + back f d (n - d) := by
  unfold back
  rw [Finset.sum_range_add]
  congr 1
  exact Finset.sum_congr rfl fun k _ => congrArg f (by omega)

theorem ahead_double (f : ℕ → EReal) (d n : ℕ) : ahead f (d + d) n = ahead f d n + ahead f d (n + d) := by
  unfold ahead
  rw [Finset.sum_range_add]
  congr 1
  exact Finset.sum_congr rfl fun k _ => congrArg f (by omega)

/-- A window of a sequence read from `a` on is a window of the sequence. -/
theorem back_shift (f : ℕ → EReal) (a d n : ℕ) (h : d ≤ n + 1) : back (fun k => f (a + k)) d n = back f d (a + n) := by
  unfold back
  exact Finset.sum_congr rfl fun k hk => congrArg f (by have := Finset.mem_range.mp hk; omega)

theorem ahead_shift (f : ℕ → EReal) (a d n : ℕ) : ahead (fun k => f (a + k)) d n = ahead f d (a + n) := by
  unfold ahead
  exact Finset.sum_congr rfl fun k _ => congrArg f (by omega)

/-- One step towards earlier rows. -/
theorem back_step (f : ℕ → EReal) (d : ℕ) (sb : BitVec 32) (hsb : sb.toNat = d) (hd : d < 528) (v : FVec Ideal S528x256 .f32)
    (h : S528x256.Rotates 0 none) (l : Fin 256) (hv : ∀ R : Fin 528, d ≤ R.val + 1 → v (ix2 R l) = back f d R) (R : Fin 528)
    (hR : d + d ≤ R.val + 1) : addf v (dynamicRotate 0 sb none v h) (ix2 R l) = back f (d + d) R := by
  pointwise
  rw [show (⟨(R.val + 528 - sb.toNat % 528) % 528, Nat.mod_lt _ (by decide)⟩ : Fin 528) = ⟨R.val - d, by omega⟩ from
    Fin.ext (by show (R.val + 528 - sb.toNat % 528) % 528 = R.val - d; omega), hv R (by omega),
    hv ⟨R.val - d, by omega⟩ (by show d ≤ R.val - d + 1; omega), back_double]

/-- One step towards later rows. -/
theorem ahead_step (f : ℕ → EReal) (d : ℕ) (sb : BitVec 32) (hsb : sb.toNat = 528 - d) (hd : d < 528) (v : FVec Ideal S528x256 .f32)
    (h : S528x256.Rotates 0 none) (l : Fin 256) (hv : ∀ R : Fin 528, R.val + d ≤ 528 → v (ix2 R l) = ahead f d R) (R : Fin 528)
    (hR : R.val + (d + d) ≤ 528) : addf v (dynamicRotate 0 sb none v h) (ix2 R l) = ahead f (d + d) R := by
  pointwise
  rw [show (⟨(R.val + 528 - sb.toNat % 528) % 528, Nat.mod_lt _ (by decide)⟩ : Fin 528) = ⟨R.val + d, by omega⟩ from
    Fin.ext (by show (R.val + 528 - sb.toNat % 528) % 528 = R.val + d; omega), hv R (by omega),
    hv ⟨R.val + d, by omega⟩ (by show R.val + d + d ≤ 528; omega), ahead_double]

/-- The window's count at position `n`, from the words of `n + 1` and the window's length. -/
theorem count_of_word (n : Fin 4096) (g : Fin 4) (w : BitVec 32) (hw : w.toNat = win g) :
    (FloatOps.sitofp (F := Ideal) FTy.f32 (IntOp.minsi (BitVec.ofNat 32 (n.val + 1)) w) : EReal) = count g n := by
  have hg : win g ≤ 16 := (by decide : ∀ g : Fin 4, win g ≤ 16) g
  have hw' : w = BitVec.ofNat 32 (win g) := BitVec.eq_of_toNat_eq (by rw [hw, BitVec.toNat_ofNat]; omega)
  have h2 : (IntOp.minsi (BitVec.ofNat 32 (n.val + 1)) w : BitVec 32) = BitVec.ofNat 32 (min (n.val + 1) (win g)) := by
    rw [hw']
    have hr := n.isLt
    have ht1 : (BitVec.ofNat 32 (n.val + 1)).toInt = (n.val + 1 : ℕ) := by
      rw [BitVec.toInt_eq_toNat_of_lt (by rw [BitVec.toNat_ofNat]; omega), BitVec.toNat_ofNat]; omega
    have ht2 : (BitVec.ofNat 32 (win g)).toInt = (win g : ℕ) := by
      rw [BitVec.toInt_eq_toNat_of_lt (by rw [BitVec.toNat_ofNat]; omega), BitVec.toNat_ofNat]; omega
    unfold IntOp.minsi
    simp only [BitVec.slt, BitVec.sle, ht1, ht2]
    have hc : decide (((n.val + 1 : ℕ) : ℤ) < (win g : ℕ)) = true ↔ n.val + 1 < win g := by
      rw [decide_eq_true_iff]; exact Int.ofNat_lt
    by_cases h : n.val + 1 < win g
    · rw [if_pos (hc.mpr h), Nat.min_eq_left h.le]
    · rw [if_neg fun h' => h (hc.mp h'), Nat.min_eq_right (by omega)]
  rw [h2]
  change (((BitVec.ofNat 32 (min (n.val + 1) (win g))).toInt : ℝ) : EReal) = _
  rw [BitVec.toInt_eq_toNat_of_lt (by rw [BitVec.toNat_ofNat]; omega), BitVec.toNat_ofNat, Nat.mod_eq_of_lt (by omega)]
  rfl

end Cert.Pool

end
-- ==== Proof.Pool.Blocks.lean ====
/- The blocks that a grid point of the pool's backward call reads, as entries of the argument arrays. Point `t` works on
   the rows of block `7 - t`: the grid walks the sequence from its end. -/
module

public import proofs.«01_k».proof.Proof.Gen.Kernel2Ideal.Value
public import proofs.«01_k».proof.Proof.Pool.Window
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-- The six argument arrays on device `c`. -/
abbrev args (c : Dev nD) : Args where
  x := m ((c : Thread nD τ).loc main_arg0)
  gate := m ((c : Thread nD τ).loc main_arg1)
  w := m ((c : Thread nD τ).loc main_arg2)
  b := m ((c : Thread nD τ).loc main_arg3)
  scale := m ((c : Thread nD τ).loc main_arg4)
  dy := m ((c : Thread nD τ).loc main_arg5)

theorem e0 : ∀ t : Fin cfg0.N, win0_0.index t = ![1, 7 - t.val, 0] := (by decide +kernel : ∀ t : Fin grid0.N, _)
theorem e1 : ∀ t : Fin cfg0.N, win0_1.index t = ![2, (7 - t.val) * 32 - 1, 0] := (by decide +kernel : ∀ t : Fin grid0.N, _)
theorem e2 : ∀ t : Fin cfg0.N, win0_2.index t = ![7 - t.val, 1] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![1, 7 - t.val, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)

theorem lt8 (t : Fin cfg0.N) : t.val < 8 := lt_of_lt_of_eq t.isLt (show cfg0.N = 8 from N_0)

/-- The block of rows point `t` works on. -/
abbrev blk (t : Fin cfg0.N) : ℕ := 7 - t.val

/-- Row `r` of that block, in the whole sequence. -/
def row (t : Fin cfg0.N) (r : Fin 512) : Fin 4096 := ⟨blk t * 512 + r.val, by have := lt8 t; unfold blk; omega⟩

theorem iblk0_x (c : Dev nD) (t : Fin cfg0.N) (r : Fin 512) (k : Fin 1024) :
    iblk m c 0 t (ix3 0 r k) = (args m c).x (ix3 0 (row t r) k) := by
  blk_simp [iblk, e0]
  rw [show (win0_0.blk t).view.emb (ix3 0 r k) = ix3 2 (row t r) k by blk_ext [e0, row, blk]]
  unfold_abbrev_sides
  after_reads_at
  refine (congrFun (unary_result' ..) _).trans ?_
  after_reads_at

theorem iblk0_gate (c : Dev nD) (t : Fin cfg0.N) (r : Fin 512) (k : Fin 1024) :
    iblk m c 0 t (ix3 1 r k) = (args m c).gate (ix3 0 (row t r) k) := by
  blk_simp [iblk, e0]
  rw [show (win0_0.blk t).view.emb (ix3 1 r k) = ix3 3 (row t r) k by blk_ext [e0, row, blk]]
  unfold_abbrev_sides
  after_reads_at
  refine (congrFun (unary_result' ..) _).trans ?_
  after_reads_at

theorem iblk1_apply (c : Dev nD) (t : Fin cfg0.N) (r : Fin 16) (k : Fin 1024) (ht : t.val < 7) :
    iblk m c 1 t (ix3 0 r k) = (args m c).x (ix3 0 ⟨blk t * 512 + r.val - 16, by unfold blk; omega⟩ k) := by
  blk_simp [iblk, e1]
  rw [show (win0_1.blk t).view.emb (ix3 0 r k) = ix3 2 ⟨blk t * 512 + r.val - 16, by unfold blk; omega⟩ k by
    blk_ext [e1, blk]]
  unfold_abbrev_sides
  after_reads_at
  refine (congrFun (unary_result' ..) _).trans ?_
  after_reads_at

theorem iblk2_apply (c : Dev nD) (t : Fin cfg0.N) (r : Fin 512) (k : Fin 1024) :
    iblk m c 2 t (ix2 r k) = (args m c).dy (ix3 0 (row t r) k) := by
  blk_simp [iblk, e2]
  rw [show (win0_2.blk t).view.emb (ix2 r k) = ix2 (row t r) ⟨1024 + k.val, by omega⟩ by blk_ext [e2, row, blk]]
  unfold_abbrev_sides
  after_reads_at

theorem iblk3_apply (c : Dev nD) (t : Fin cfg0.N) (g : Fin 4) (i j : Fin 256) :
    iblk m c 3 t (ix3 g i j) = (args m c).w (ix3 g i j) := by
  blk_simp [iblk, e3]
  rw [show (win0_3.blk t).view.emb (ix3 g i j) = ix3 g i j by blk_ext [e3]]
  unfold_abbrev_sides
  after_reads_at

theorem iblk4_b (c : Dev nD) (t : Fin cfg0.N) (g : Fin 4) (l : Fin 256) :
    iblk m c 4 t (ix2 0 (lane g l)) = (args m c).b (ix2 g l) := by
  unfold lane
  blk_simp [iblk, e4]
  rw [show (win0_4.blk t).view.emb (ix2 0 ⟨g.val * 256 + l.val, by omega⟩) = ix2 0 ⟨g.val * 256 + l.val, by omega⟩ by blk_ext [e4]]
  unfold_abbrev_sides
  after_reads_at
  refine (congrFun (reshape_result' ..) _).trans ?_
  after_reads_at

theorem iblk4_scale (c : Dev nD) (t : Fin cfg0.N) (k : Fin 1024) :
    iblk m c 4 t (ix2 1 k) = (args m c).scale (ix1 k) := by
  blk_simp [iblk, e4]
  rw [show (win0_4.blk t).view.emb (ix2 1 k) = ix2 1 k by blk_ext [e4]]
  unfold_abbrev_sides
  after_reads_at
  refine (congrFun (reshape_result' ..) _).trans ?_
  after_reads_at

end Cert.Pool

end
-- ==== Proof.Pool.Common.lean ====
/- What every group shares: the window's count as the kernel's words compute it, and the buffer of 528 rows that holds a
   block of the input with the sixteen rows before it. -/
module

public import proofs.«01_k».proof.Proof.Gen.Kernel2Ideal.Value
public import proofs.«01_k».proof.Proof.Pool.Blocks
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-- An index of a rectangle of a matrix, in the matrix. -/
theorem emb2 {A B p q : ℕ} (a b : ℕ) (inb : ∀ i, (![a, b] : Fin 2 → ℕ) i + (![p, q] : Fin 2 → ℕ) i ≤ (⟨2, ![A, B]⟩ : Shape).size i)
    (r : Fin p) (l : Fin q) :
    (Rect.unit (s := ⟨2, ![A, B]⟩) ![a, b] ![p, q] inb).emb (ix2 r l)
      = ix2 ⟨a + r.val, by have := inb 0; simp at this; omega⟩ ⟨b + l.val, by have := inb 1; simp at this; omega⟩ := by
  funext i
  refine Fin.ext ?_
  rw [Rect.emb_apply]
  match i with
  | 0 => show a + 1 * r.val = a + r.val; omega
  | 1 => show b + 1 * l.val = b + l.val; omega

/-- An index of a rectangle of a stack of matrices, in the stack. -/
theorem emb3 {C A B o p q : ℕ} (k a b : ℕ)
    (inb : ∀ i, (![k, a, b] : Fin 3 → ℕ) i + (![o, p, q] : Fin 3 → ℕ) i ≤ (⟨3, ![C, A, B]⟩ : Shape).size i)
    (j : Fin o) (r : Fin p) (l : Fin q) :
    (Rect.unit (s := ⟨3, ![C, A, B]⟩) ![k, a, b] ![o, p, q] inb).emb (ix3 j r l)
      = ix3 ⟨k + j.val, by have := inb 0; simp at this; omega⟩ ⟨a + r.val, by have := inb 1; simp at this; omega⟩
        ⟨b + l.val, by have := inb 2; simp at this; omega⟩ := by
  funext i
  refine Fin.ext ?_
  rw [Rect.emb_apply]
  match i with
  | 0 => show k + 1 * j.val = k + j.val; omega
  | 1 => show a + 1 * r.val = a + r.val; omega
  | 2 => show b + 1 * l.val = b + l.val; omega

/-- The word of the block's number. -/
abbrev v0 (t : Fin cfg0.N) : BitVec 32 := Scalar.subi (7#32) (BitVec.ofNat 32 (grid0.coords t 0))

theorem coord (t : Fin cfg0.N) : (grid0.coords t 0).val = t.val :=
  (by decide +kernel : ∀ t : Fin grid0.N, (grid0.coords t 0).val = t.val) t

/-- The window's count at row `r` of the block, from the kernel's words. -/
theorem count_word (t : Fin cfg0.N) (r : Fin 512) (g : Fin 4) (w : BitVec 32) (hw : w.toNat = win g) :
    (FloatOps.sitofp (F := Ideal) FTy.f32 (IntOp.minsi (IntOp.addi (IntOp.addi (Scalar.muli (v0 t) 512#32) (BitVec.ofNat 32 r.val)) 1#32) w) : EReal)
      = count g (row t r) := by
  have ht := lt8 t
  have hn : (IntOp.addi (IntOp.addi (Scalar.muli (v0 t) 512#32) (BitVec.ofNat 32 r.val)) 1#32 : BitVec 32)
      = BitVec.ofNat 32 ((row t r).val + 1) := by
    apply BitVec.eq_of_toNat_eq
    show ((((7#32 - BitVec.ofNat 32 (grid0.coords t 0).val) * 512#32) + BitVec.ofNat 32 r.val) + 1#32 : BitVec 32).toNat = _
    rw [coord]
    simp only [BitVec.toNat_add, BitVec.toNat_mul, BitVec.toNat_sub, BitVec.toNat_ofNat, row, blk]
    omega
  rw [hn]
  exact count_of_word (row t r) g w hw

/-- The stores into the buffer of input rows: the block, and the sixteen rows before it (zeros before the first block). -/
abbrev xPieces (c : Dev nD) (t : Fin cfg0.N) : List (View.Piece (Elt Ideal) S528x1024 .f32) :=
  [⟨Rect.unit ![16, 0] ![512, 1024] inb_S528x1024_S512x1024_16_0,
      k0_pay7 (View.ld (iblk m c 0 t) (Rect.unit ![0, 0, 0] ![1, 512, 1024] inb_S2x512x1024_S1x512x1024_0_0_0))⟩,
    ⟨Rect.unit ![0, 0] ![16, 1024] inb_S528x1024_S16x1024_0_0, k0_pay6 (grid0.coords t) (iblk m c 1 t)⟩]

theorem xbuf (c : Dev nD) (t : Fin cfg0.N) (R : Fin 528) (L : Fin 1024) :
    View.canon (xPieces m c t) (ix2 R L) = (args m c).xs L (blk t * 512 + R) := by
  have ht := lt8 t
  refine View.canon_apply_of_pieces (S := S528x1024) (Val := Elt Ideal) (e := .f32) (fun y => (args m c).xs ⟨(y 1).val, (y 1).isLt⟩ (blk t * 512 + (y 0).val)) _ ?_ (ix2 R L) ?_
  · simp only [List.forall_mem_cons]
    refine ⟨fun x => ?_, fun x => ?_, by simp⟩
    · obtain ⟨r, l, rfl⟩ : ∃ (r : Fin 512) (l : Fin 1024), x = (ix2 r l : S512x1024.Idx) := ⟨_, _, eq_ix2 x⟩
      have hG : (args m c).xs l (blk t * 512 + (16 + r.val)) = (args m c).x (ix3 0 (row t r) l) := by
        unfold Args.xs
        rw [dif_pos (by unfold blk; omega)]
        exact congrArg (fun s => (args m c).x (ix3 0 s l)) (Fin.ext (by show blk t * 512 + (16 + r.val) - 16 = blk t * 512 + r.val; omega))
      rw [emb2]
      pointwise [k0_pay7]
      rw [iblk0_x]
      exact hG.symm
    · obtain ⟨r, l, rfl⟩ : ∃ (r : Fin 16) (l : Fin 1024), x = (ix2 r l : S16x1024.Idx) := ⟨_, _, eq_ix2 x⟩
      rw [emb2]
      have hL : (⟨0 + l.val, by omega⟩ : Fin 1024) = l := Fin.ext (by show 0 + l.val = l.val; omega)
      show k0_pay6 (grid0.coords t) (iblk m c 1 t) (ix2 r l) = (args m c).xs ⟨0 + l.val, _⟩ (blk t * 512 + (0 + r.val))
      rw [hL]
      have hv : v0 t = BitVec.ofNat 32 (blk t) := by
        apply BitVec.eq_of_toNat_eq
        show (7#32 - BitVec.ofNat 32 (grid0.coords t 0).val : BitVec 32).toNat = _
        rw [coord]
        simp only [BitVec.toNat_sub, BitVec.toNat_ofNat, blk]
        omega
      pointwise [k0_pay6]
      change Scalar.select (Scalar.cmpi CmpIPredicate.eq (v0 t) 0#32) 0 _ = _
      rw [hv]
      by_cases h7 : t.val < 7
      · rw [iblk1_apply m c t r l h7]
        unfold Args.xs
        rw [dif_pos (by unfold blk; omega)]
        have hb : BitVec.ofNat 32 (blk t) ≠ 0#32 := by
          intro h
          have := congrArg BitVec.toNat h
          simp only [BitVec.toNat_ofNat, blk] at this
          omega
        refine if_neg ?_
        show ¬ BitVec.ofBool (BitVec.ofNat 32 (blk t) == 0#32) = 1#1
        rw [beq_false_of_ne hb]
        decide
      · unfold Args.xs
        rw [dif_neg (by unfold blk; omega), show blk t = 0 by unfold blk; omega]
        rfl
  · simp only [List.exists_mem_cons_iff, Rect.mem_set_unit]
    have hR := R.isLt
    have hL := L.isLt
    by_cases h : 16 ≤ R.val
    · exact .inl (Fin.forall_fin_two.mpr ⟨⟨h, by show R.val < 16 + 512; omega⟩, ⟨Nat.zero_le _, by show L.val < 0 + 1024; omega⟩⟩)
    · exact .inr (.inl (Fin.forall_fin_two.mpr ⟨⟨Nat.zero_le _, by show R.val < 0 + 16; omega⟩, ⟨Nat.zero_le _, by show L.val < 0 + 1024; omega⟩⟩))

end Cert.Pool

end
-- ==== Proof.Pool.Payloads.lean ====
/- The values one grid point computes for each of the four groups, at an entry: the printed payloads of the point's
   blocks are the sums and products of `Spec.lean`. The four groups print differently but state the same equations. -/
module

public import proofs.«01_k».proof.Proof.Gen.Kernel2Ideal.Value
public import proofs.«01_k».proof.Proof.Pool.Common
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

theorem lane0 (l : Fin 256) (h) : (⟨l.val, h⟩ : Fin 1024) = lane 0 l := Fin.ext (by simp [lane])
theorem lane1 (l : Fin 256) (h) : (⟨256 + l.val, h⟩ : Fin 1024) = lane 1 l := Fin.ext (by simp [lane])
theorem lane2 (l : Fin 256) (h) : (⟨512 + l.val, h⟩ : Fin 1024) = lane 2 l := Fin.ext (by simp [lane])
theorem lane3 (l : Fin 256) (h) : (⟨768 + l.val, h⟩ : Fin 1024) = lane 3 l := Fin.ext (by simp [lane])

/-- What the pointwise reading of a payload is rewritten with: the blocks' entries and the groups' lanes. -/
theorem lane_eq (g : Fin 4) (l : Fin 256) : lane g l = ⟨g.val * 256 + l.val, by omega⟩ := rfl

/-! ### Group 0: windows of 2 -/

abbrev lx0 (c : Dev nD) (t : Fin cfg0.N) := View.ld (iblk m c 0 t) (Rect.unit ![0, 0, 0] ![1, 512, 256] inb_S2x512x1024_S1x512x256_0_0_0)
abbrev lg0 (c : Dev nD) (t : Fin cfg0.N) := View.ld (iblk m c 0 t) (Rect.unit ![1, 0, 0] ![1, 512, 256] inb_S2x512x1024_S1x512x256_1_0_0)
abbrev ld0 (c : Dev nD) (t : Fin cfg0.N) := View.ld (iblk m c 2 t) (Rect.unit ![0, 0] ![512, 256] inb_S512x1024_S512x256_0_0)
abbrev lw0 (c : Dev nD) (t : Fin cfg0.N) := View.ld (iblk m c 3 t) (Rect.unit ![0, 0, 0] ![1, 256, 256] inb_S4x256x256_S1x256x256_0_0_0)
abbrev lb0 (c : Dev nD) (t : Fin cfg0.N) := View.ld (iblk m c 4 t) (Rect.unit ![0, 0] ![1, 256] inb_S8x1024_S1x256_0_0)
abbrev ls0 (c : Dev nD) (t : Fin cfg0.N) := View.ld (iblk m c 4 t) (Rect.unit ![1, 0] ![1, 256] inb_S8x1024_S1x256_1_0)
abbrev lxr0 (c : Dev nD) (t : Fin cfg0.N) : Vec Ideal S528x256 .f32 :=
  (View.whole cc0_scratch0).readCov (xPieces m c t) (Rect.unit (s := S528x1024) ![0, 0] ![528, 256] inb_S528x1024_S528x256_0_0).toLoadRect
abbrev po0 (c : Dev nD) (t : Fin cfg0.N) := k0_pay10 (k0_pay8 (lx0 m c t)) (k0_pay9 (grid0.coords t)) (lxr0 m c t) 1#32
abbrev z0 (c : Dev nD) (t : Fin cfg0.N) := k0_pay11 (k0_pay8 (lx0 m c t)) (k0_pay9 (grid0.coords t)) (lxr0 m c t) 1#32 (lw0 m c t) (lb0 m c t)
abbrev sc0 (c : Dev nD) (t : Fin cfg0.N) := k0_pay12 (ls0 m c t)
abbrev dyp0 (c : Dev nD) (t : Fin cfg0.N) := k0_pay16 (lg0 m c t) (ld0 m c t)
abbrev dz0 (c : Dev nD) (t : Fin cfg0.N) := k0_pay22 (sc0 m c t) (dyp0 m c t)
abbrev dpo0 (c : Dev nD) (t : Fin cfg0.N) := k0_pay24 (sc0 m c t) (dyp0 m c t) (lw0 m c t)
abbrev q0 (c : Dev nD) (t : Fin cfg0.N) := k0_pay25 (k0_pay9 (grid0.coords t)) (sc0 m c t) (dyp0 m c t) (lw0 m c t)

theorem inv0_apply (t : Fin cfg0.N) (r : Fin 512) (l : Fin 256) : k0_pay9 (F := Ideal) (grid0.coords t) (ix2 r l) = inv 0 (row t r) := by
  unfold inv
  pointwise [k0_pay9]
  exact congrArg (Ideal.div 1) (count_word t r 0 2#32 rfl)

theorem lxr0_apply (c : Dev nD) (t : Fin cfg0.N) (R : Fin 528) (l : Fin 256) :
    lxr0 m c t (ix2 R l) = (args m c).xs (lane 0 l) (blk t * 512 + R) := by
  unfold lxr0
  rw [View.readCov_eq_canon']
  pointwise
  rw [xbuf, lane0]

theorem po0_apply (c : Dev nD) (t : Fin cfg0.N) (r : Fin 512) (l : Fin 256) :
    po0 m c t (ix2 r l) = (args m c).pooled 0 (row t r) l := by
  have hv := fun R => lxr0_apply m c t R l
  unfold po0 Args.pooled
  generalize lxr0 m c t = v at hv ⊢
  let f : ℕ → EReal := fun n => (args m c).xs (lane 0 l) (blk t * 512 + n)
  have h1 := back_step f 1 1#32 rfl (by decide) v rotates_S528x256_d0 l (fun R _ => (hv R).trans (back_one f R).symm)
  have hw := (h1 ⟨16 + r.val, by omega⟩ (by show 2 ≤ 16 + r.val + 1; omega)).trans
    (back_shift ((args m c).xs (lane 0 l)) (blk t * 512) 2 (16 + r.val) (by omega))
  have hr : (row t r).val + 16 = blk t * 512 + (16 + r.val) := by show blk t * 512 + r.val + 16 = _; omega
  dsimp only [k0_pay10]
  generalize (addf _ (dynamicRotate (0 : Fin 2) 1#32 none _ rotates_S528x256_d0) : FVec Ideal S528x256 .f32) = U at hw ⊢
  pointwise [k0_pay8, lx0]
  rw [hr]
  simp only [iblk0_x, lane0]
  rw [inv0_apply]
  exact congrArg (fun u => u * inv 0 (row t r) - (args m c).x (ix3 0 (row t r) (lane 0 l))) hw

theorem z0_apply (c : Dev nD) (t : Fin cfg0.N) (r : Fin 512) (l : Fin 256) :
    z0 m c t (ix2 r l) = (args m c).z 0 (row t r) l := by
  unfold Args.z
  pointwise [k0_pay11, lw0, lb0]
  simp only [iblk3_apply, lane0, iblk4_b]
  refine congrArg (· + (args m c).b (ix2 0 l)) (Finset.sum_congr rfl fun k _ => ?_)
  exact congrArg (· * (args m c).w (ix3 0 k l)) (po0_apply m c t r k)

theorem sc0_apply (c : Dev nD) (t : Fin cfg0.N) (l : Fin 256) : sc0 m c t (ix2 0 l) = (args m c).scale (ix1 (lane 0 l)) := by
  pointwise [k0_pay12, ls0]
  rw [iblk4_scale, lane0]

theorem dyp0_apply (c : Dev nD) (t : Fin cfg0.N) (r : Fin 512) (l : Fin 256) :
    dyp0 m c t (ix2 r l) = (args m c).dyp (row t r) (lane 0 l) := by
  unfold Args.dyp Args.sg
  pointwise [k0_pay16, k0_pay15, k0_pay14, k0_pay13, lg0, ld0]
  simp only [iblk0_gate, iblk2_apply, lane0]

theorem dz0_apply (c : Dev nD) (t : Fin cfg0.N) (r : Fin 512) (l : Fin 256) :
    dz0 m c t (ix2 r l) = (args m c).dz (row t r) (lane 0 l) := by
  unfold Args.dz
  refine Eq.trans (b := dyp0 m c t (ix2 r l) * sc0 m c t (ix2 0 l)) ?_ (by rw [dyp0_apply, sc0_apply])
  unfold dz0
  pointwise [k0_pay22, k0_pay20]

theorem dpo0_apply (c : Dev nD) (t : Fin cfg0.N) (r : Fin 512) (l : Fin 256) :
    dpo0 m c t (ix2 r l) = (args m c).dpooled 0 (row t r) l := by
  unfold Args.dpooled
  refine Eq.trans (b := ∑ j : Fin 256, dz0 m c t (ix2 r j) * (args m c).w (ix3 0 l j)) ?_
    (Finset.sum_congr rfl fun j _ => by rw [dz0_apply])
  pointwise [k0_pay24, lw0]
  simp only [iblk3_apply]

theorem q0_apply (c : Dev nD) (t : Fin cfg0.N) (r : Fin 512) (l : Fin 256) :
    q0 m c t (ix2 r l) = (args m c).q 0 l (blk t * 512 + r) := by
  unfold Args.q
  rw [dif_pos (show blk t * 512 + r.val < 4096 from (row t r).isLt)]
  refine Eq.trans (b := dpo0 m c t (ix2 r l) * k0_pay9 (F := Ideal) (grid0.coords t) (ix2 r l)) ?_ (by rw [dpo0_apply, inv0_apply]; rfl)
  pointwise [k0_pay25]

theorem dgate0_apply (c : Dev nD) (t : Fin cfg0.N) (r : Fin 512) (l : Fin 256) :
    k0_pay18 (k0_pay17 (k0_pay8 (lx0 m c t)) (k0_pay9 (grid0.coords t)) (lxr0 m c t) 1#32 (lw0 m c t) (lb0 m c t) (ls0 m c t) (lg0 m c t) (ld0 m c t)) (ix3 0 r l)
      = (args m c).dgate 0 (row t r) l := by
  unfold Args.dgate Args.sg
  rw [← z0_apply]
  pointwise [k0_pay18, k0_pay17, k0_pay15, k0_pay14, k0_pay13, k0_pay12, lg0, ld0, ls0]
  simp only [iblk0_gate, iblk2_apply, iblk4_scale, lane0]

theorem dx0_apply (c : Dev nD) (t : Fin cfg0.N) (r : Fin 512) (l : Fin 256) (v : Vec Ideal S528x256 .f32)
    (hv : ∀ R : Fin 528, v (ix2 R l) = (args m c).q 0 l (blk t * 512 + R)) :
    k0_pay26 (dpo0 m c t) v (ix3 0 r l) = (args m c).dx 0 (row t r) l := by
  unfold Args.dx
  rw [← dpo0_apply]
  let f : ℕ → EReal := fun n => (args m c).q 0 l (blk t * 512 + n)
  have h1 := ahead_step f 1 527#32 rfl (by decide) v rotates_S528x256_d0 l (fun R _ => (hv R).trans (ahead_one f R).symm)
  have hw := (h1 ⟨r.val, by omega⟩ (by show r.val + 2 ≤ 528; omega)).trans
    (ahead_shift ((args m c).q 0 l) (blk t * 512) 2 r.val)
  dsimp only [k0_pay26]
  generalize (addf _ (dynamicRotate (0 : Fin 2) 527#32 none _ rotates_S528x256_d0) : FVec Ideal S528x256 .f32) = U at hw ⊢
  pointwise
  exact congrArg (· - dpo0 m c t (ix2 r l)) hw

theorem dscale0_apply (c : Dev nD) (t : Fin cfg0.N) (l : Fin 256) (v : Vec Ideal S1x256 .f32) :
    k0_pay19 (z0 m c t) (dyp0 m c t) v (ix2 0 l)
      = v (ix2 0 l) + ∑ r : Fin 512, (args m c).dyp (row t r) (lane 0 l) * (args m c).z 0 (row t r) l := by
  refine Eq.trans (b := v (ix2 0 l) + ∑ r : Fin 512, dyp0 m c t (ix2 r l) * z0 m c t (ix2 r l)) ?_
    (congrArg (v (ix2 0 l) + ·) (Finset.sum_congr rfl fun r _ => by rw [dyp0_apply, z0_apply]))
  pointwise [k0_pay19]

theorem db0_apply (c : Dev nD) (t : Fin cfg0.N) (l : Fin 256) (v : Vec Ideal S1x256 .f32) :
    k0_pay21 (sc0 m c t) (dyp0 m c t) v (ix2 0 l)
      = v (ix2 0 l) + ∑ r : Fin 512, (args m c).dz (row t r) (lane 0 l) := by
  refine Eq.trans (b := v (ix2 0 l) + ∑ r : Fin 512, dz0 m c t (ix2 r l)) ?_
    (congrArg (v (ix2 0 l) + ·) (Finset.sum_congr rfl fun r _ => by rw [dz0_apply]))
  pointwise [k0_pay21, k0_pay20, k0_pay22, k0_pay20]

theorem acc0_apply (c : Dev nD) (t : Fin cfg0.N) (i j : Fin 256) (v : Vec Ideal S1x256x256 .f32) :
    k0_pay23 (po0 m c t) (sc0 m c t) (dyp0 m c t) v (ix3 0 i j)
      = v (ix3 0 i j) + ∑ r : Fin 512, (args m c).pooled 0 (row t r) i * (args m c).dz (row t r) (lane 0 j) := by
  refine Eq.trans (b := v (ix3 0 i j) + ∑ r : Fin 512, po0 m c t (ix2 r i) * dz0 m c t (ix2 r j)) ?_
    (congrArg (v (ix3 0 i j) + ·) (Finset.sum_congr rfl fun r _ => by rw [po0_apply, dz0_apply]))
  pointwise [k0_pay23]

/-! ### Group 1: windows of 4 -/

abbrev lx1 (c : Dev nD) (t : Fin cfg0.N) := View.ld (iblk m c 0 t) (Rect.unit ![0, 0, 256] ![1, 512, 256] inb_S2x512x1024_S1x512x256_0_0_256)
abbrev lg1 (c : Dev nD) (t : Fin cfg0.N) := View.ld (iblk m c 0 t) (Rect.unit ![1, 0, 256] ![1, 512, 256] inb_S2x512x1024_S1x512x256_1_0_256)
abbrev ld1 (c : Dev nD) (t : Fin cfg0.N) := View.ld (iblk m c 2 t) (Rect.unit ![0, 256] ![512, 256] inb_S512x1024_S512x256_0_256)
abbrev lw1 (c : Dev nD) (t : Fin cfg0.N) := View.ld (iblk m c 3 t) (Rect.unit ![1, 0, 0] ![1, 256, 256] inb_S4x256x256_S1x256x256_1_0_0)
abbrev lb1 (c : Dev nD) (t : Fin cfg0.N) := View.ld (iblk m c 4 t) (Rect.unit ![0, 256] ![1, 256] inb_S8x1024_S1x256_0_256)
abbrev ls1 (c : Dev nD) (t : Fin cfg0.N) := View.ld (iblk m c 4 t) (Rect.unit ![1, 256] ![1, 256] inb_S8x1024_S1x256_1_256)
abbrev lxr1 (c : Dev nD) (t : Fin cfg0.N) : Vec Ideal S528x256 .f32 :=
  (View.whole cc0_scratch0).readCov (xPieces m c t) (Rect.unit (s := S528x1024) ![0, 256] ![528, 256] inb_S528x1024_S528x256_0_256).toLoadRect
abbrev po1 (c : Dev nD) (t : Fin cfg0.N) := k0_pay28 (v0 t) (lx1 m c t) (lxr1 m c t)
abbrev z1 (c : Dev nD) (t : Fin cfg0.N) := k0_pay30 (k0_pay29 (v0 t) (lx1 m c t) (lxr1 m c t) (lw1 m c t)) (lb1 m c t)
abbrev sc1 (c : Dev nD) (t : Fin cfg0.N) := k0_pay31 (ls1 m c t)
abbrev dyp1 (c : Dev nD) (t : Fin cfg0.N) := k0_pay35 (lg1 m c t) (ld1 m c t)
abbrev dz1 (c : Dev nD) (t : Fin cfg0.N) := k0_pay40 (sc1 m c t) (dyp1 m c t)
abbrev dpo1 (c : Dev nD) (t : Fin cfg0.N) := k0_pay42 (sc1 m c t) (dyp1 m c t) (lw1 m c t)
abbrev q1 (c : Dev nD) (t : Fin cfg0.N) := k0_pay43 (k0_pay27 (v0 t)) (sc1 m c t) (dyp1 m c t) (lw1 m c t)

theorem inv1_apply (t : Fin cfg0.N) (r : Fin 512) (l : Fin 256) : k0_pay27 (F := Ideal) (v0 t) (ix2 r l) = inv 1 (row t r) := by
  unfold inv
  pointwise [k0_pay27]
  exact congrArg (Ideal.div 1) (count_word t r 1 4#32 rfl)

theorem lxr1_apply (c : Dev nD) (t : Fin cfg0.N) (R : Fin 528) (l : Fin 256) :
    lxr1 m c t (ix2 R l) = (args m c).xs (lane 1 l) (blk t * 512 + R) := by
  unfold lxr1
  rw [View.readCov_eq_canon']
  pointwise
  rw [xbuf, lane1]

theorem po1_apply (c : Dev nD) (t : Fin cfg0.N) (r : Fin 512) (l : Fin 256) :
    po1 m c t (ix2 r l) = (args m c).pooled 1 (row t r) l := by
  have hv := fun R => lxr1_apply m c t R l
  unfold po1 Args.pooled
  generalize lxr1 m c t = v at hv ⊢
  let f : ℕ → EReal := fun n => (args m c).xs (lane 1 l) (blk t * 512 + n)
  have h1 := back_step f 1 1#32 rfl (by decide) v rotates_S528x256_d0 l (fun R _ => (hv R).trans (back_one f R).symm)
  have h2 := back_step f 2 2#32 rfl (by decide) _ rotates_S528x256_d0 l h1
  have hw := (h2 ⟨16 + r.val, by omega⟩ (by show 4 ≤ 16 + r.val + 1; omega)).trans
    (back_shift ((args m c).xs (lane 1 l)) (blk t * 512) 4 (16 + r.val) (by omega))
  have hr : (row t r).val + 16 = blk t * 512 + (16 + r.val) := by show blk t * 512 + r.val + 16 = _; omega
  dsimp only [k0_pay28]
  generalize (addf _ (dynamicRotate (0 : Fin 2) 2#32 none _ rotates_S528x256_d0) : FVec Ideal S528x256 .f32) = U at hw ⊢
  pointwise [k0_pay8, lx1]
  rw [hr]
  simp only [iblk0_x, lane1]
  rw [inv1_apply]
  exact congrArg (fun u => u * inv 1 (row t r) - (args m c).x (ix3 0 (row t r) (lane 1 l))) hw

theorem z1_apply (c : Dev nD) (t : Fin cfg0.N) (r : Fin 512) (l : Fin 256) :
    z1 m c t (ix2 r l) = (args m c).z 1 (row t r) l := by
  unfold Args.z
  pointwise [k0_pay30, k0_pay29, lw1, lb1]
  simp only [iblk3_apply, lane1, iblk4_b]
  refine congrArg (· + (args m c).b (ix2 1 l)) (Finset.sum_congr rfl fun k _ => ?_)
  exact congrArg (· * (args m c).w (ix3 1 k l)) (po1_apply m c t r k)

theorem sc1_apply (c : Dev nD) (t : Fin cfg0.N) (l : Fin 256) : sc1 m c t (ix2 0 l) = (args m c).scale (ix1 (lane 1 l)) := by
  pointwise [k0_pay31, ls1]
  rw [iblk4_scale, lane1]

theorem dyp1_apply (c : Dev nD) (t : Fin cfg0.N) (r : Fin 512) (l : Fin 256) :
    dyp1 m c t (ix2 r l) = (args m c).dyp (row t r) (lane 1 l) := by
  unfold Args.dyp Args.sg
  pointwise [k0_pay35, k0_pay34, k0_pay33, k0_pay32, lg1, ld1]
  simp only [iblk0_gate, iblk2_apply, lane1]

theorem dz1_apply (c : Dev nD) (t : Fin cfg0.N) (r : Fin 512) (l : Fin 256) :
    dz1 m c t (ix2 r l) = (args m c).dz (row t r) (lane 1 l) := by
  unfold Args.dz
  refine Eq.trans (b := dyp1 m c t (ix2 r l) * sc1 m c t (ix2 0 l)) ?_ (by rw [dyp1_apply, sc1_apply])
  unfold dz1
  pointwise [k0_pay40, k0_pay38]

theorem dpo1_apply (c : Dev nD) (t : Fin cfg0.N) (r : Fin 512) (l : Fin 256) :
    dpo1 m c t (ix2 r l) = (args m c).dpooled 1 (row t r) l := by
  unfold Args.dpooled
  refine Eq.trans (b := ∑ j : Fin 256, dz1 m c t (ix2 r j) * (args m c).w (ix3 1 l j)) ?_
    (Finset.sum_congr rfl fun j _ => by rw [dz1_apply])
  pointwise [k0_pay42, lw1]
  simp only [iblk3_apply]

theorem q1_apply (c : Dev nD) (t : Fin cfg0.N) (r : Fin 512) (l : Fin 256) :
    q1 m c t (ix2 r l) = (args m c).q 1 l (blk t * 512 + r) := by
  unfold Args.q
  rw [dif_pos (show blk t * 512 + r.val < 4096 from (row t r).isLt)]
  refine Eq.trans (b := dpo1 m c t (ix2 r l) * k0_pay27 (F := Ideal) (v0 t) (ix2 r l)) ?_ (by rw [dpo1_apply, inv1_apply]; rfl)
  pointwise [k0_pay43]

theorem dgate1_apply (c : Dev nD) (t : Fin cfg0.N) (r : Fin 512) (l : Fin 256) :
    k0_pay36 (k0_pay29 (v0 t) (lx1 m c t) (lxr1 m c t) (lw1 m c t)) (lb1 m c t) (ls1 m c t) (lg1 m c t) (ld1 m c t) (ix3 0 r l)
      = (args m c).dgate 1 (row t r) l := by
  unfold Args.dgate Args.sg
  rw [← z1_apply]
  pointwise [k0_pay36, k0_pay34, k0_pay33, k0_pay32, k0_pay31, lg1, ld1, ls1]
  simp only [iblk0_gate, iblk2_apply, iblk4_scale, lane1]

theorem dx1_apply (c : Dev nD) (t : Fin cfg0.N) (r : Fin 512) (l : Fin 256) (v : Vec Ideal S528x256 .f32)
    (hv : ∀ R : Fin 528, v (ix2 R l) = (args m c).q 1 l (blk t * 512 + R)) :
    k0_pay45 (k0_pay44 (sc1 m c t) (dyp1 m c t) (lw1 m c t) v) (ix3 0 r l) = (args m c).dx 1 (row t r) l := by
  unfold Args.dx
  rw [← dpo1_apply]
  let f : ℕ → EReal := fun n => (args m c).q 1 l (blk t * 512 + n)
  have h1 := ahead_step f 1 527#32 rfl (by decide) v rotates_S528x256_d0 l (fun R _ => (hv R).trans (ahead_one f R).symm)
  have h2 := ahead_step f 2 526#32 rfl (by decide) _ rotates_S528x256_d0 l h1
  have hw := (h2 ⟨r.val, by omega⟩ (by show r.val + 4 ≤ 528; omega)).trans
    (ahead_shift ((args m c).q 1 l) (blk t * 512) 4 r.val)
  dsimp only [k0_pay45, k0_pay44]
  generalize (addf _ (dynamicRotate (0 : Fin 2) 526#32 none _ rotates_S528x256_d0) : FVec Ideal S528x256 .f32) = U at hw ⊢
  pointwise
  exact congrArg (· - dpo1 m c t (ix2 r l)) hw

theorem dscale1_apply (c : Dev nD) (t : Fin cfg0.N) (l : Fin 256) (v : Vec Ideal S1x256 .f32) :
    k0_pay37 (k0_pay29 (v0 t) (lx1 m c t) (lxr1 m c t) (lw1 m c t)) (lb1 m c t) (lg1 m c t) (ld1 m c t) v (ix2 0 l)
      = v (ix2 0 l) + ∑ r : Fin 512, (args m c).dyp (row t r) (lane 1 l) * (args m c).z 1 (row t r) l := by
  refine Eq.trans (b := v (ix2 0 l) + ∑ r : Fin 512, dyp1 m c t (ix2 r l) * z1 m c t (ix2 r l)) ?_
    (congrArg (v (ix2 0 l) + ·) (Finset.sum_congr rfl fun r _ => by rw [dyp1_apply, z1_apply]))
  pointwise [k0_pay37]

theorem db1_apply (c : Dev nD) (t : Fin cfg0.N) (l : Fin 256) (v : Vec Ideal S1x256 .f32) :
    k0_pay39 (sc1 m c t) (dyp1 m c t) v (ix2 0 l)
      = v (ix2 0 l) + ∑ r : Fin 512, (args m c).dz (row t r) (lane 1 l) := by
  refine Eq.trans (b := v (ix2 0 l) + ∑ r : Fin 512, dz1 m c t (ix2 r l)) ?_
    (congrArg (v (ix2 0 l) + ·) (Finset.sum_congr rfl fun r _ => by rw [dz1_apply]))
  pointwise [k0_pay39, k0_pay38, k0_pay40, k0_pay38]

theorem acc1_apply (c : Dev nD) (t : Fin cfg0.N) (i j : Fin 256) (v : Vec Ideal S1x256x256 .f32) :
    k0_pay41 (po1 m c t) (sc1 m c t) (dyp1 m c t) v (ix3 0 i j)
      = v (ix3 0 i j) + ∑ r : Fin 512, (args m c).pooled 1 (row t r) i * (args m c).dz (row t r) (lane 1 j) := by
  refine Eq.trans (b := v (ix3 0 i j) + ∑ r : Fin 512, po1 m c t (ix2 r i) * dz1 m c t (ix2 r j)) ?_
    (congrArg (v (ix3 0 i j) + ·) (Finset.sum_congr rfl fun r _ => by rw [po1_apply, dz1_apply]))
  pointwise [k0_pay41]

/-! ### Group 2: windows of 8 -/

abbrev lx2 (c : Dev nD) (t : Fin cfg0.N) := View.ld (iblk m c 0 t) (Rect.unit ![0, 0, 512] ![1, 512, 256] inb_S2x512x1024_S1x512x256_0_0_512)
abbrev lg2 (c : Dev nD) (t : Fin cfg0.N) := View.ld (iblk m c 0 t) (Rect.unit ![1, 0, 512] ![1, 512, 256] inb_S2x512x1024_S1x512x256_1_0_512)
abbrev ld2 (c : Dev nD) (t : Fin cfg0.N) := View.ld (iblk m c 2 t) (Rect.unit ![0, 512] ![512, 256] inb_S512x1024_S512x256_0_512)
abbrev lw2 (c : Dev nD) (t : Fin cfg0.N) := View.ld (iblk m c 3 t) (Rect.unit ![2, 0, 0] ![1, 256, 256] inb_S4x256x256_S1x256x256_2_0_0)
abbrev lb2 (c : Dev nD) (t : Fin cfg0.N) := View.ld (iblk m c 4 t) (Rect.unit ![0, 512] ![1, 256] inb_S8x1024_S1x256_0_512)
abbrev ls2 (c : Dev nD) (t : Fin cfg0.N) := View.ld (iblk m c 4 t) (Rect.unit ![1, 512] ![1, 256] inb_S8x1024_S1x256_1_512)
abbrev lxr2 (c : Dev nD) (t : Fin cfg0.N) : Vec Ideal S528x256 .f32 :=
  (View.whole cc0_scratch0).readCov (xPieces m c t) (Rect.unit (s := S528x1024) ![0, 512] ![528, 256] inb_S528x1024_S528x256_0_512).toLoadRect
abbrev po2 (c : Dev nD) (t : Fin cfg0.N) := k0_pay47 (v0 t) (lx2 m c t) (lxr2 m c t)
abbrev z2 (c : Dev nD) (t : Fin cfg0.N) := k0_pay48 (v0 t) (lx2 m c t) (lxr2 m c t) (lw2 m c t) (lb2 m c t)
abbrev sc2 (c : Dev nD) (t : Fin cfg0.N) := k0_pay49 (ls2 m c t)
abbrev dyp2 (c : Dev nD) (t : Fin cfg0.N) := k0_pay53 (lg2 m c t) (ld2 m c t)
abbrev dz2 (c : Dev nD) (t : Fin cfg0.N) := k0_pay60 (k0_pay56 (sc2 m c t) (lg2 m c t) (ld2 m c t))
abbrev dpo2 (c : Dev nD) (t : Fin cfg0.N) := k0_pay62 (k0_pay56 (sc2 m c t) (lg2 m c t) (ld2 m c t)) (lw2 m c t)
abbrev q2 (c : Dev nD) (t : Fin cfg0.N) := k0_pay63 (k0_pay46 (v0 t)) (k0_pay56 (sc2 m c t) (lg2 m c t) (ld2 m c t)) (lw2 m c t)

theorem inv2_apply (t : Fin cfg0.N) (r : Fin 512) (l : Fin 256) : k0_pay46 (F := Ideal) (v0 t) (ix2 r l) = inv 2 (row t r) := by
  unfold inv
  pointwise [k0_pay46]
  exact congrArg (Ideal.div 1) (count_word t r 2 8#32 rfl)

theorem lxr2_apply (c : Dev nD) (t : Fin cfg0.N) (R : Fin 528) (l : Fin 256) :
    lxr2 m c t (ix2 R l) = (args m c).xs (lane 2 l) (blk t * 512 + R) := by
  unfold lxr2
  rw [View.readCov_eq_canon']
  pointwise
  rw [xbuf, lane2]

theorem po2_apply (c : Dev nD) (t : Fin cfg0.N) (r : Fin 512) (l : Fin 256) :
    po2 m c t (ix2 r l) = (args m c).pooled 2 (row t r) l := by
  have hv := fun R => lxr2_apply m c t R l
  unfold po2 Args.pooled
  generalize lxr2 m c t = v at hv ⊢
  let f : ℕ → EReal := fun n => (args m c).xs (lane 2 l) (blk t * 512 + n)
  have h1 := back_step f 1 1#32 rfl (by decide) v rotates_S528x256_d0 l (fun R _ => (hv R).trans (back_one f R).symm)
  have h2 := back_step f 2 2#32 rfl (by decide) _ rotates_S528x256_d0 l h1
  have h3 := back_step f 4 4#32 rfl (by decide) _ rotates_S528x256_d0 l h2
  have hw := (h3 ⟨16 + r.val, by omega⟩ (by show 8 ≤ 16 + r.val + 1; omega)).trans
    (back_shift ((args m c).xs (lane 2 l)) (blk t * 512) 8 (16 + r.val) (by omega))
  have hr : (row t r).val + 16 = blk t * 512 + (16 + r.val) := by show blk t * 512 + r.val + 16 = _; omega
  dsimp only [k0_pay47]
  generalize (addf _ (dynamicRotate (0 : Fin 2) 4#32 none _ rotates_S528x256_d0) : FVec Ideal S528x256 .f32) = U at hw ⊢
  pointwise [k0_pay8, lx2]
  rw [hr]
  simp only [iblk0_x, lane2]
  rw [inv2_apply]
  exact congrArg (fun u => u * inv 2 (row t r) - (args m c).x (ix3 0 (row t r) (lane 2 l))) hw

theorem z2_apply (c : Dev nD) (t : Fin cfg0.N) (r : Fin 512) (l : Fin 256) :
    z2 m c t (ix2 r l) = (args m c).z 2 (row t r) l := by
  unfold Args.z
  pointwise [k0_pay48, lw2, lb2]
  simp only [iblk3_apply, lane2, iblk4_b]
  refine congrArg (· + (args m c).b (ix2 2 l)) (Finset.sum_congr rfl fun k _ => ?_)
  exact congrArg (· * (args m c).w (ix3 2 k l)) (po2_apply m c t r k)

theorem sc2_apply (c : Dev nD) (t : Fin cfg0.N) (l : Fin 256) : sc2 m c t (ix2 0 l) = (args m c).scale (ix1 (lane 2 l)) := by
  pointwise [k0_pay49, ls2]
  rw [iblk4_scale, lane2]

theorem dyp2_apply (c : Dev nD) (t : Fin cfg0.N) (r : Fin 512) (l : Fin 256) :
    dyp2 m c t (ix2 r l) = (args m c).dyp (row t r) (lane 2 l) := by
  unfold Args.dyp Args.sg
  pointwise [k0_pay53, k0_pay52, k0_pay51, k0_pay50, lg2, ld2]
  simp only [iblk0_gate, iblk2_apply, lane2]

theorem dz2_apply (c : Dev nD) (t : Fin cfg0.N) (r : Fin 512) (l : Fin 256) :
    dz2 m c t (ix2 r l) = (args m c).dz (row t r) (lane 2 l) := by
  unfold Args.dz
  refine Eq.trans (b := dyp2 m c t (ix2 r l) * sc2 m c t (ix2 0 l)) ?_ (by rw [dyp2_apply, sc2_apply])
  unfold dz2
  pointwise [k0_pay60, k0_pay56]

theorem dpo2_apply (c : Dev nD) (t : Fin cfg0.N) (r : Fin 512) (l : Fin 256) :
    dpo2 m c t (ix2 r l) = (args m c).dpooled 2 (row t r) l := by
  unfold Args.dpooled
  refine Eq.trans (b := ∑ j : Fin 256, dz2 m c t (ix2 r j) * (args m c).w (ix3 2 l j)) ?_
    (Finset.sum_congr rfl fun j _ => by rw [dz2_apply])
  pointwise [k0_pay62, lw2]
  simp only [iblk3_apply]

theorem q2_apply (c : Dev nD) (t : Fin cfg0.N) (r : Fin 512) (l : Fin 256) :
    q2 m c t (ix2 r l) = (args m c).q 2 l (blk t * 512 + r) := by
  unfold Args.q
  rw [dif_pos (show blk t * 512 + r.val < 4096 from (row t r).isLt)]
  refine Eq.trans (b := dpo2 m c t (ix2 r l) * k0_pay46 (F := Ideal) (v0 t) (ix2 r l)) ?_ (by rw [dpo2_apply, inv2_apply]; rfl)
  pointwise [k0_pay63]

theorem dgate2_apply (c : Dev nD) (t : Fin cfg0.N) (r : Fin 512) (l : Fin 256) :
    k0_pay54 (z2 m c t) (sc2 m c t) (lg2 m c t) (ld2 m c t) (ix3 0 r l)
      = (args m c).dgate 2 (row t r) l := by
  unfold Args.dgate Args.sg
  rw [← z2_apply]
  pointwise [k0_pay54, k0_pay52, k0_pay51, k0_pay50, lg2, ld2, ls2]
  simp only [iblk0_gate, iblk2_apply, sc2_apply, lane2]

theorem dx2_apply (c : Dev nD) (t : Fin cfg0.N) (r : Fin 512) (l : Fin 256) (v : Vec Ideal S528x256 .f32)
    (hv : ∀ R : Fin 528, v (ix2 R l) = (args m c).q 2 l (blk t * 512 + R)) :
    k0_pay64 (k0_pay56 (sc2 m c t) (lg2 m c t) (ld2 m c t)) (lw2 m c t) v (ix3 0 r l) = (args m c).dx 2 (row t r) l := by
  unfold Args.dx
  rw [← dpo2_apply]
  let f : ℕ → EReal := fun n => (args m c).q 2 l (blk t * 512 + n)
  have h1 := ahead_step f 1 527#32 rfl (by decide) v rotates_S528x256_d0 l (fun R _ => (hv R).trans (ahead_one f R).symm)
  have h2 := ahead_step f 2 526#32 rfl (by decide) _ rotates_S528x256_d0 l h1
  have h3 := ahead_step f 4 524#32 rfl (by decide) _ rotates_S528x256_d0 l h2
  have hw := (h3 ⟨r.val, by omega⟩ (by show r.val + 8 ≤ 528; omega)).trans
    (ahead_shift ((args m c).q 2 l) (blk t * 512) 8 r.val)
  dsimp only [k0_pay64]
  generalize (addf _ (dynamicRotate (0 : Fin 2) 524#32 none _ rotates_S528x256_d0) : FVec Ideal S528x256 .f32) = U at hw ⊢
  pointwise
  exact congrArg (· - dpo2 m c t (ix2 r l)) hw

theorem dscale2_apply (c : Dev nD) (t : Fin cfg0.N) (l : Fin 256) (v : Vec Ideal S1x256 .f32) :
    k0_pay55 (z2 m c t) (lg2 m c t) (ld2 m c t) v (ix2 0 l)
      = v (ix2 0 l) + ∑ r : Fin 512, (args m c).dyp (row t r) (lane 2 l) * (args m c).z 2 (row t r) l := by
  refine Eq.trans (b := v (ix2 0 l) + ∑ r : Fin 512, dyp2 m c t (ix2 r l) * z2 m c t (ix2 r l)) ?_
    (congrArg (v (ix2 0 l) + ·) (Finset.sum_congr rfl fun r _ => by rw [dyp2_apply, z2_apply]))
  pointwise [k0_pay55]

theorem db2_apply (c : Dev nD) (t : Fin cfg0.N) (l : Fin 256) (v : Vec Ideal S1x256 .f32) :
    k0_pay59 (k0_pay57 v) (k0_pay58 (sc2 m c t) (lg2 m c t) (ld2 m c t)) (ix2 0 l)
      = v (ix2 0 l) + ∑ r : Fin 512, (args m c).dz (row t r) (lane 2 l) := by
  refine Eq.trans (b := v (ix2 0 l) + ∑ r : Fin 512, dz2 m c t (ix2 r l)) ?_
    (congrArg (v (ix2 0 l) + ·) (Finset.sum_congr rfl fun r _ => by rw [dz2_apply]))
  pointwise [k0_pay59, k0_pay58, k0_pay57, k0_pay56, k0_pay60, k0_pay56]

theorem acc2_apply (c : Dev nD) (t : Fin cfg0.N) (i j : Fin 256) (v : Vec Ideal S1x256x256 .f32) :
    k0_pay61 (po2 m c t) (k0_pay56 (sc2 m c t) (lg2 m c t) (ld2 m c t)) v (ix3 0 i j)
      = v (ix3 0 i j) + ∑ r : Fin 512, (args m c).pooled 2 (row t r) i * (args m c).dz (row t r) (lane 2 j) := by
  refine Eq.trans (b := v (ix3 0 i j) + ∑ r : Fin 512, po2 m c t (ix2 r i) * dz2 m c t (ix2 r j)) ?_
    (congrArg (v (ix3 0 i j) + ·) (Finset.sum_congr rfl fun r _ => by rw [po2_apply, dz2_apply]))
  pointwise [k0_pay61]

/-! ### Group 3: windows of 16 -/

abbrev lx3 (c : Dev nD) (t : Fin cfg0.N) := View.ld (iblk m c 0 t) (Rect.unit ![0, 0, 768] ![1, 512, 256] inb_S2x512x1024_S1x512x256_0_0_768)
abbrev lg3 (c : Dev nD) (t : Fin cfg0.N) := View.ld (iblk m c 0 t) (Rect.unit ![1, 0, 768] ![1, 512, 256] inb_S2x512x1024_S1x512x256_1_0_768)
abbrev ld3 (c : Dev nD) (t : Fin cfg0.N) := View.ld (iblk m c 2 t) (Rect.unit ![0, 768] ![512, 256] inb_S512x1024_S512x256_0_768)
abbrev lw3 (c : Dev nD) (t : Fin cfg0.N) := View.ld (iblk m c 3 t) (Rect.unit ![3, 0, 0] ![1, 256, 256] inb_S4x256x256_S1x256x256_3_0_0)
abbrev lb3 (c : Dev nD) (t : Fin cfg0.N) := View.ld (iblk m c 4 t) (Rect.unit ![0, 768] ![1, 256] inb_S8x1024_S1x256_0_768)
abbrev ls3 (c : Dev nD) (t : Fin cfg0.N) := View.ld (iblk m c 4 t) (Rect.unit ![1, 768] ![1, 256] inb_S8x1024_S1x256_1_768)
abbrev lxr3 (c : Dev nD) (t : Fin cfg0.N) : Vec Ideal S528x256 .f32 :=
  (View.whole cc0_scratch0).readCov (xPieces m c t) (Rect.unit (s := S528x1024) ![0, 768] ![528, 256] inb_S528x1024_S528x256_0_768).toLoadRect
abbrev po3 (c : Dev nD) (t : Fin cfg0.N) := k0_pay66 (v0 t) (lx3 m c t) (lxr3 m c t)
abbrev z3 (c : Dev nD) (t : Fin cfg0.N) := k0_pay67 (v0 t) (lx3 m c t) (lxr3 m c t) (lw3 m c t) (lb3 m c t)
abbrev sc3 (c : Dev nD) (t : Fin cfg0.N) := k0_pay68 (ls3 m c t)
abbrev dyp3 (c : Dev nD) (t : Fin cfg0.N) := k0_pay73 (k0_pay69 (lg3 m c t)) (k0_pay70 (F := Ideal)) (ld3 m c t)
abbrev dz3 (c : Dev nD) (t : Fin cfg0.N) := k0_pay78 (k0_pay76 (sc3 m c t) (k0_pay69 (lg3 m c t)) (k0_pay70 (F := Ideal)) (ld3 m c t))
abbrev dpo3 (c : Dev nD) (t : Fin cfg0.N) := k0_pay80 (k0_pay76 (sc3 m c t) (k0_pay69 (lg3 m c t)) (k0_pay70 (F := Ideal)) (ld3 m c t)) (lw3 m c t)
abbrev q3 (c : Dev nD) (t : Fin cfg0.N) := k0_pay81 (k0_pay65 (v0 t)) (k0_pay76 (sc3 m c t) (k0_pay69 (lg3 m c t)) (k0_pay70 (F := Ideal)) (ld3 m c t)) (lw3 m c t)

theorem inv3_apply (t : Fin cfg0.N) (r : Fin 512) (l : Fin 256) : k0_pay65 (F := Ideal) (v0 t) (ix2 r l) = inv 3 (row t r) := by
  unfold inv
  pointwise [k0_pay65]
  exact congrArg (Ideal.div 1) (count_word t r 3 16#32 rfl)

theorem lxr3_apply (c : Dev nD) (t : Fin cfg0.N) (R : Fin 528) (l : Fin 256) :
    lxr3 m c t (ix2 R l) = (args m c).xs (lane 3 l) (blk t * 512 + R) := by
  unfold lxr3
  rw [View.readCov_eq_canon']
  pointwise
  rw [xbuf, lane3]

theorem po3_apply (c : Dev nD) (t : Fin cfg0.N) (r : Fin 512) (l : Fin 256) :
    po3 m c t (ix2 r l) = (args m c).pooled 3 (row t r) l := by
  have hv := fun R => lxr3_apply m c t R l
  unfold po3 Args.pooled
  generalize lxr3 m c t = v at hv ⊢
  let f : ℕ → EReal := fun n => (args m c).xs (lane 3 l) (blk t * 512 + n)
  have h1 := back_step f 1 1#32 rfl (by decide) v rotates_S528x256_d0 l (fun R _ => (hv R).trans (back_one f R).symm)
  have h2 := back_step f 2 2#32 rfl (by decide) _ rotates_S528x256_d0 l h1
  have h3 := back_step f 4 4#32 rfl (by decide) _ rotates_S528x256_d0 l h2
  have h4 := back_step f 8 8#32 rfl (by decide) _ rotates_S528x256_d0 l h3
  have hw := (h4 ⟨16 + r.val, by omega⟩ (by show 16 ≤ 16 + r.val + 1; omega)).trans
    (back_shift ((args m c).xs (lane 3 l)) (blk t * 512) 16 (16 + r.val) (by omega))
  have hr : (row t r).val + 16 = blk t * 512 + (16 + r.val) := by show blk t * 512 + r.val + 16 = _; omega
  dsimp only [k0_pay66]
  generalize (addf _ (dynamicRotate (0 : Fin 2) 8#32 none _ rotates_S528x256_d0) : FVec Ideal S528x256 .f32) = U at hw ⊢
  pointwise [k0_pay8, lx3]
  rw [hr]
  simp only [iblk0_x, lane3]
  rw [inv3_apply]
  exact congrArg (fun u => u * inv 3 (row t r) - (args m c).x (ix3 0 (row t r) (lane 3 l))) hw

theorem z3_apply (c : Dev nD) (t : Fin cfg0.N) (r : Fin 512) (l : Fin 256) :
    z3 m c t (ix2 r l) = (args m c).z 3 (row t r) l := by
  unfold Args.z
  pointwise [k0_pay67, lw3, lb3]
  simp only [iblk3_apply, lane3, iblk4_b]
  refine congrArg (· + (args m c).b (ix2 3 l)) (Finset.sum_congr rfl fun k _ => ?_)
  exact congrArg (· * (args m c).w (ix3 3 k l)) (po3_apply m c t r k)

theorem sc3_apply (c : Dev nD) (t : Fin cfg0.N) (l : Fin 256) : sc3 m c t (ix2 0 l) = (args m c).scale (ix1 (lane 3 l)) := by
  pointwise [k0_pay68, ls3]
  rw [iblk4_scale, lane3]

theorem dyp3_apply (c : Dev nD) (t : Fin cfg0.N) (r : Fin 512) (l : Fin 256) :
    dyp3 m c t (ix2 r l) = (args m c).dyp (row t r) (lane 3 l) := by
  unfold Args.dyp Args.sg
  pointwise [k0_pay73, k0_pay72, k0_pay71, k0_pay70, k0_pay69, lg3, ld3]
  simp only [iblk0_gate, iblk2_apply, lane3]

theorem dz3_apply (c : Dev nD) (t : Fin cfg0.N) (r : Fin 512) (l : Fin 256) :
    dz3 m c t (ix2 r l) = (args m c).dz (row t r) (lane 3 l) := by
  unfold Args.dz
  refine Eq.trans (b := dyp3 m c t (ix2 r l) * sc3 m c t (ix2 0 l)) ?_ (by rw [dyp3_apply, sc3_apply])
  unfold dz3
  pointwise [k0_pay78, k0_pay76]

theorem dpo3_apply (c : Dev nD) (t : Fin cfg0.N) (r : Fin 512) (l : Fin 256) :
    dpo3 m c t (ix2 r l) = (args m c).dpooled 3 (row t r) l := by
  unfold Args.dpooled
  refine Eq.trans (b := ∑ j : Fin 256, dz3 m c t (ix2 r j) * (args m c).w (ix3 3 l j)) ?_
    (Finset.sum_congr rfl fun j _ => by rw [dz3_apply])
  pointwise [k0_pay80, lw3]
  simp only [iblk3_apply]

theorem q3_apply (c : Dev nD) (t : Fin cfg0.N) (r : Fin 512) (l : Fin 256) :
    q3 m c t (ix2 r l) = (args m c).q 3 l (blk t * 512 + r) := by
  unfold Args.q
  rw [dif_pos (show blk t * 512 + r.val < 4096 from (row t r).isLt)]
  refine Eq.trans (b := dpo3 m c t (ix2 r l) * k0_pay65 (F := Ideal) (v0 t) (ix2 r l)) ?_ (by rw [dpo3_apply, inv3_apply]; rfl)
  pointwise [k0_pay81]

theorem dgate3_apply (c : Dev nD) (t : Fin cfg0.N) (r : Fin 512) (l : Fin 256) :
    k0_pay74 (z3 m c t) (sc3 m c t) (k0_pay69 (lg3 m c t)) (k0_pay70 (F := Ideal)) (ld3 m c t) (ix3 0 r l)
      = (args m c).dgate 3 (row t r) l := by
  unfold Args.dgate Args.sg
  rw [← z3_apply]
  pointwise [k0_pay74, k0_pay72, k0_pay71, k0_pay70, k0_pay69, lg3, ld3, ls3]
  simp only [iblk0_gate, iblk2_apply, sc3_apply, lane3]

theorem dx3_apply (c : Dev nD) (t : Fin cfg0.N) (r : Fin 512) (l : Fin 256) (v : Vec Ideal S528x256 .f32)
    (hv : ∀ R : Fin 528, v (ix2 R l) = (args m c).q 3 l (blk t * 512 + R)) :
    k0_pay82 (k0_pay76 (sc3 m c t) (k0_pay69 (lg3 m c t)) (k0_pay70 (F := Ideal)) (ld3 m c t)) (lw3 m c t) v (ix3 0 r l) = (args m c).dx 3 (row t r) l := by
  unfold Args.dx
  rw [← dpo3_apply]
  let f : ℕ → EReal := fun n => (args m c).q 3 l (blk t * 512 + n)
  have h1 := ahead_step f 1 527#32 rfl (by decide) v rotates_S528x256_d0 l (fun R _ => (hv R).trans (ahead_one f R).symm)
  have h2 := ahead_step f 2 526#32 rfl (by decide) _ rotates_S528x256_d0 l h1
  have h3 := ahead_step f 4 524#32 rfl (by decide) _ rotates_S528x256_d0 l h2
  have h4 := ahead_step f 8 520#32 rfl (by decide) _ rotates_S528x256_d0 l h3
  have hw := (h4 ⟨r.val, by omega⟩ (by show r.val + 16 ≤ 528; omega)).trans
    (ahead_shift ((args m c).q 3 l) (blk t * 512) 16 r.val)
  dsimp only [k0_pay82]
  generalize (addf _ (dynamicRotate (0 : Fin 2) 520#32 none _ rotates_S528x256_d0) : FVec Ideal S528x256 .f32) = U at hw ⊢
  pointwise
  exact congrArg (· - dpo3 m c t (ix2 r l)) hw

theorem dscale3_apply (c : Dev nD) (t : Fin cfg0.N) (l : Fin 256) (v : Vec Ideal S1x256 .f32) :
    k0_pay75 (z3 m c t) (k0_pay69 (lg3 m c t)) (k0_pay70 (F := Ideal)) (ld3 m c t) v (ix2 0 l)
      = v (ix2 0 l) + ∑ r : Fin 512, (args m c).dyp (row t r) (lane 3 l) * (args m c).z 3 (row t r) l := by
  refine Eq.trans (b := v (ix2 0 l) + ∑ r : Fin 512, dyp3 m c t (ix2 r l) * z3 m c t (ix2 r l)) ?_
    (congrArg (v (ix2 0 l) + ·) (Finset.sum_congr rfl fun r _ => by rw [dyp3_apply, z3_apply]))
  pointwise [k0_pay75]

theorem db3_apply (c : Dev nD) (t : Fin cfg0.N) (l : Fin 256) (v : Vec Ideal S1x256 .f32) :
    k0_pay77 (sc3 m c t) (k0_pay69 (lg3 m c t)) (k0_pay70 (F := Ideal)) (ld3 m c t) v (ix2 0 l)
      = v (ix2 0 l) + ∑ r : Fin 512, (args m c).dz (row t r) (lane 3 l) := by
  refine Eq.trans (b := v (ix2 0 l) + ∑ r : Fin 512, dz3 m c t (ix2 r l)) ?_
    (congrArg (v (ix2 0 l) + ·) (Finset.sum_congr rfl fun r _ => by rw [dz3_apply]))
  pointwise [k0_pay77, k0_pay76, k0_pay78, k0_pay76]

theorem acc3_apply (c : Dev nD) (t : Fin cfg0.N) (i j : Fin 256) (v : Vec Ideal S1x256x256 .f32) :
    k0_pay79 (po3 m c t) (k0_pay76 (sc3 m c t) (k0_pay69 (lg3 m c t)) (k0_pay70 (F := Ideal)) (ld3 m c t)) v (ix3 0 i j)
      = v (ix3 0 i j) + ∑ r : Fin 512, (args m c).pooled 3 (row t r) i * (args m c).dz (row t r) (lane 3 j) := by
  refine Eq.trans (b := v (ix3 0 i j) + ∑ r : Fin 512, po3 m c t (ix2 r i) * dz3 m c t (ix2 r j)) ?_
    (congrArg (v (ix3 0 i j) + ·) (Finset.sum_congr rfl fun r _ => by rw [po3_apply, dz3_apply]))
  pointwise [k0_pay79]

end Cert.Pool

end
-- ==== Proof.Pool.Stores.lean ====
/- What one grid point leaves in its buffers, as lists of the stores it makes: the rows of the count-scaled cotangent that
   the next point's windows reach into, the two planes of the gradient block, and the two accumulators. -/
module

public import proofs.«01_k».proof.Proof.Gen.Kernel2Ideal.Value
public import proofs.«01_k».proof.Proof.Pool.Payloads
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-! ### Lists of stores, in general -/

/-- Where the newest stores of a list are blocks of one function, the list leaves that function, whatever came before. -/
theorem canon_newest {S : Shape} (G : S.Idx → EReal) (L L' : List (View.Piece (Elt Ideal) S .f32))
    (hG : ∀ p ∈ L, ∀ x : p.1.shape.Idx, p.2 x = G (p.1.emb x)) (y : S.Idx) (hy : ∃ p ∈ L, y ∈ p.1.set) :
    View.canon (L ++ L') y = G y := by
  induction L with
  | nil => obtain ⟨_, h, _⟩ := hy; simp at h
  | cons p L ih =>
    by_cases h : y ∈ p.1.set
    · obtain ⟨x, rfl⟩ := p.1.exists_idx_of_mem h
      rw [List.cons_append, show p.1.idx x = p.1.emb x from rfl, View.canon_cons_emb]
      exact hG p (by simp) x
    · rw [List.cons_append, View.canon_cons_of_not_mem _ _ h]
      refine ih (fun p' hp' => hG p' (List.mem_cons_of_mem _ hp')) ?_
      obtain ⟨p', hp', h'⟩ := hy
      rcases List.mem_cons.mp hp' with rfl | hp'
      · exact absurd h' h
      · exact ⟨p', hp', h'⟩

/-- Where none of the newest stores reaches, the list leaves what came before. -/
theorem canon_older {S : Shape} (L L' : List (View.Piece (Elt Ideal) S .f32)) (y : S.Idx) (hy : ∀ p ∈ L, y ∉ p.1.set) :
    View.canon (L ++ L') y = View.canon L' y := by
  induction L with
  | nil => rfl
  | cons p L ih =>
    rw [List.cons_append, View.canon_cons_of_not_mem _ _ (hy p (by simp))]
    exact ih fun p' hp' => hy p' (List.mem_cons_of_mem _ hp')

/-! ### Lanes -/

/-- The group of a lane. -/
def grp (L : Fin 1024) : Fin 4 := ⟨L.val / 256, by omega⟩

/-- A lane's place in its group. -/
def off (L : Fin 1024) : Fin 256 := ⟨L.val % 256, by omega⟩

theorem grp_lane (g : Fin 4) (l : Fin 256) : grp (lane g l) = g := Fin.ext (by show (g.val * 256 + l.val) / 256 = g.val; omega)

theorem off_lane (g : Fin 4) (l : Fin 256) : off (lane g l) = l := Fin.ext (by show (g.val * 256 + l.val) % 256 = l.val; omega)

theorem lane_grp (L : Fin 1024) : lane (grp L) (off L) = L := Fin.ext (by show L.val / 256 * 256 + L.val % 256 = L.val; omega)

/-- A number among the 1024 lanes from `256 g` on is one of group `g`. -/
theorem lane_add (g : Fin 4) (a : ℕ) (ha : a = 256 * g.val) (l : Fin 256) (h) : (⟨a + l.val, h⟩ : Fin 1024) = lane g l :=
  Fin.ext (by show a + l.val = g.val * 256 + l.val; omega)

/-! ### The lists of one point -/

/-- The count-scaled cotangents of the four groups, stored side by side. -/
abbrev qPieces (c : Dev nD) (t : Fin cfg0.N) : List (View.Piece (Elt Ideal) S528x1024 .f32) :=
  [⟨Rect.unit ![0, 768] ![512, 256] inb_S528x1024_S512x256_0_768, q3 m c t⟩,
    ⟨Rect.unit ![0, 512] ![512, 256] inb_S528x1024_S512x256_0_512, q2 m c t⟩,
    ⟨Rect.unit ![0, 256] ![512, 256] inb_S528x1024_S512x256_0_256, q1 m c t⟩,
    ⟨Rect.unit ![0, 0] ![512, 256] inb_S528x1024_S512x256_0_0, q0 m c t⟩]

/-- The input and gate planes of the gradient block, from the rows of scaled cotangent each group reads. -/
abbrev oPieces (c : Dev nD) (t : Fin cfg0.N) (v0 v1 v2 v3 : Vec Ideal S528x256 .f32) : List (View.Piece (Elt Ideal) S2x512x1024 .f32) :=
  [⟨Rect.unit ![0, 0, 768] ![1, 512, 256] inb_S2x512x1024_S1x512x256_0_0_768, k0_pay82 (k0_pay76 (sc3 m c t) (k0_pay69 (lg3 m c t)) (k0_pay70 (F := Ideal)) (ld3 m c t)) (lw3 m c t) v3⟩,
    ⟨Rect.unit ![1, 0, 768] ![1, 512, 256] inb_S2x512x1024_S1x512x256_1_0_768, k0_pay74 (z3 m c t) (sc3 m c t) (k0_pay69 (lg3 m c t)) (k0_pay70 (F := Ideal)) (ld3 m c t)⟩,
    ⟨Rect.unit ![0, 0, 512] ![1, 512, 256] inb_S2x512x1024_S1x512x256_0_0_512, k0_pay64 (k0_pay56 (sc2 m c t) (lg2 m c t) (ld2 m c t)) (lw2 m c t) v2⟩,
    ⟨Rect.unit ![1, 0, 512] ![1, 512, 256] inb_S2x512x1024_S1x512x256_1_0_512, k0_pay54 (z2 m c t) (sc2 m c t) (lg2 m c t) (ld2 m c t)⟩,
    ⟨Rect.unit ![0, 0, 256] ![1, 512, 256] inb_S2x512x1024_S1x512x256_0_0_256, k0_pay45 (k0_pay44 (sc1 m c t) (dyp1 m c t) (lw1 m c t) v1)⟩,
    ⟨Rect.unit ![1, 0, 256] ![1, 512, 256] inb_S2x512x1024_S1x512x256_1_0_256, k0_pay36 (k0_pay29 (Cert.Pool.v0 t) (lx1 m c t) (lxr1 m c t) (lw1 m c t)) (lb1 m c t) (ls1 m c t) (lg1 m c t) (ld1 m c t)⟩,
    ⟨Rect.unit ![0, 0, 0] ![1, 512, 256] inb_S2x512x1024_S1x512x256_0_0_0, k0_pay26 (dpo0 m c t) v0⟩,
    ⟨Rect.unit ![1, 0, 0] ![1, 512, 256] inb_S2x512x1024_S1x512x256_1_0_0, k0_pay18 (k0_pay17 (k0_pay8 (lx0 m c t)) (k0_pay9 (grid0.coords t)) (lxr0 m c t) 1#32 (lw0 m c t) (lb0 m c t) (ls0 m c t) (lg0 m c t) (ld0 m c t))⟩]

/-- The rows of the bias and scale gradients, added to what the buffer held. -/
abbrev vPieces (c : Dev nD) (t : Fin cfg0.N) (p : Vec Ideal S8x1024 .f32) : List (View.Piece (Elt Ideal) S8x1024 .f32) :=
  [⟨Rect.unit ![0, 768] ![1, 256] inb_S8x1024_S1x256_0_768, k0_pay77 (sc3 m c t) (k0_pay69 (lg3 m c t)) (k0_pay70 (F := Ideal)) (ld3 m c t) (View.ld p (Rect.unit ![0, 768] ![1, 256] inb_S8x1024_S1x256_0_768))⟩,
    ⟨Rect.unit ![1, 768] ![1, 256] inb_S8x1024_S1x256_1_768, k0_pay75 (z3 m c t) (k0_pay69 (lg3 m c t)) (k0_pay70 (F := Ideal)) (ld3 m c t) (View.ld p (Rect.unit ![1, 768] ![1, 256] inb_S8x1024_S1x256_1_768))⟩,
    ⟨Rect.unit ![0, 512] ![1, 256] inb_S8x1024_S1x256_0_512, k0_pay59 (k0_pay57 (View.ld p (Rect.unit ![0, 512] ![1, 256] inb_S8x1024_S1x256_0_512))) (k0_pay58 (sc2 m c t) (lg2 m c t) (ld2 m c t))⟩,
    ⟨Rect.unit ![1, 512] ![1, 256] inb_S8x1024_S1x256_1_512, k0_pay55 (z2 m c t) (lg2 m c t) (ld2 m c t) (View.ld p (Rect.unit ![1, 512] ![1, 256] inb_S8x1024_S1x256_1_512))⟩,
    ⟨Rect.unit ![0, 256] ![1, 256] inb_S8x1024_S1x256_0_256, k0_pay39 (sc1 m c t) (dyp1 m c t) (View.ld p (Rect.unit ![0, 256] ![1, 256] inb_S8x1024_S1x256_0_256))⟩,
    ⟨Rect.unit ![1, 256] ![1, 256] inb_S8x1024_S1x256_1_256, k0_pay37 (k0_pay29 (v0 t) (lx1 m c t) (lxr1 m c t) (lw1 m c t)) (lb1 m c t) (lg1 m c t) (ld1 m c t) (View.ld p (Rect.unit ![1, 256] ![1, 256] inb_S8x1024_S1x256_1_256))⟩,
    ⟨Rect.unit ![0, 0] ![1, 256] inb_S8x1024_S1x256_0_0, k0_pay21 (sc0 m c t) (dyp0 m c t) (View.ld p (Rect.unit ![0, 0] ![1, 256] inb_S8x1024_S1x256_0_0))⟩,
    ⟨Rect.unit ![1, 0] ![1, 256] inb_S8x1024_S1x256_1_0, k0_pay19 (z0 m c t) (dyp0 m c t) (View.ld p (Rect.unit ![1, 0] ![1, 256] inb_S8x1024_S1x256_1_0))⟩]

/-- The weights' gradients, added to what the buffer held. -/
abbrev aPieces (c : Dev nD) (t : Fin cfg0.N) (p : Vec Ideal S4x256x256 .f32) : List (View.Piece (Elt Ideal) S4x256x256 .f32) :=
  [⟨Rect.unit ![3, 0, 0] ![1, 256, 256] inb_S4x256x256_S1x256x256_3_0_0, k0_pay79 (po3 m c t) (k0_pay76 (sc3 m c t) (k0_pay69 (lg3 m c t)) (k0_pay70 (F := Ideal)) (ld3 m c t)) (View.ld p (Rect.unit ![3, 0, 0] ![1, 256, 256] inb_S4x256x256_S1x256x256_3_0_0))⟩,
    ⟨Rect.unit ![2, 0, 0] ![1, 256, 256] inb_S4x256x256_S1x256x256_2_0_0, k0_pay61 (po2 m c t) (k0_pay56 (sc2 m c t) (lg2 m c t) (ld2 m c t)) (View.ld p (Rect.unit ![2, 0, 0] ![1, 256, 256] inb_S4x256x256_S1x256x256_2_0_0))⟩,
    ⟨Rect.unit ![1, 0, 0] ![1, 256, 256] inb_S4x256x256_S1x256x256_1_0_0, k0_pay41 (po1 m c t) (sc1 m c t) (dyp1 m c t) (View.ld p (Rect.unit ![1, 0, 0] ![1, 256, 256] inb_S4x256x256_S1x256x256_1_0_0))⟩,
    ⟨Rect.unit ![0, 0, 0] ![1, 256, 256] inb_S4x256x256_S1x256x256_0_0_0, k0_pay23 (po0 m c t) (sc0 m c t) (dyp0 m c t) (View.ld p (Rect.unit ![0, 0, 0] ![1, 256, 256] inb_S4x256x256_S1x256x256_0_0_0))⟩]

/-! ### The points as those lists -/

/-- What the point before left. -/
abbrev prev (c : Dev nD) (t : Fin cfg0.N) := outsAt0 m c (t.val - 1) (Nat.lt_of_le_of_lt (Nat.sub_le _ _) t.isLt)

/-- The carried rows, after the point's stores `L`. -/
abbrev carry (L : List (View.Piece (Elt Ideal) S528x1024 .f32)) : View.Piece (Elt Ideal) S528x1024 .f32 :=
  ⟨Rect.unit ![512, 0] ![16, 1024] inb_S528x1024_S16x1024_512_0,
    k0_pay1 ((View.whole cc0_scratch1).readCov L (Rect.unit (s := S528x1024) ![0, 0] ![16, 1024] inb_S528x1024_S16x1024_0_0).toLoadRect)⟩

theorem carry_A (c : Dev nD) (t : Fin cfg0.N) (h0 : t.val % 8 = 0) (h1 : ¬ t.val % 8 = 7) :
    (outsAt0 m c t.val t.isLt).2.2.2.1 = View.canon (carry (qPieces m c t ++ [⟨Rect.unit ![512, 0] ![16, 1024] inb_S528x1024_S16x1024_512_0, k0_pay3 (F := Ideal)⟩]) :: (qPieces m c t ++ [⟨Rect.unit ![512, 0] ![16, 1024] inb_S528x1024_S16x1024_512_0, k0_pay3 (F := Ideal)⟩])) := by
  rw [outsAt0_A m c t h0 h1]
  frame_out <;> rfl

theorem vec_A (c : Dev nD) (t : Fin cfg0.N) (h0 : t.val % 8 = 0) (h1 : ¬ t.val % 8 = 7) :
    (outsAt0 m c t.val t.isLt).2.2.1 = View.canon (vPieces m c t (k0_pay5 (F := Ideal)) ++ [⟨Rect.unit ![0, 0] ![8, 1024] inb_S8x1024_S8x1024_0_0, k0_pay5 (F := Ideal)⟩]) := by
  rw [outsAt0_A m c t h0 h1]
  frame_open
  simp (disch := decide) only [↓ View.readCov_skip, ↓ View.readCov_fill]
  frame_out <;> rfl

theorem acc_A (c : Dev nD) (t : Fin cfg0.N) (h0 : t.val % 8 = 0) (h1 : ¬ t.val % 8 = 7) :
    (outsAt0 m c t.val t.isLt).2.2.2.2 = View.canon (aPieces m c t (k0_pay4 (F := Ideal)) ++ [⟨Rect.unit ![0, 0, 0] ![4, 256, 256] inb_S4x256x256_S4x256x256_0_0_0, k0_pay4 (F := Ideal)⟩]) := by
  rw [outsAt0_A m c t h0 h1]
  frame_open
  simp (disch := decide) only [↓ View.readCov_skip, ↓ View.readCov_fill]
  frame_out <;> rfl

theorem carry_B (c : Dev nD) (t : Fin cfg0.N) (h0 : ¬ t.val % 8 = 0) (h1 : ¬ t.val % 8 = 7) :
    (outsAt0 m c t.val t.isLt).2.2.2.1 = View.canon (carry (qPieces m c t) :: (qPieces m c t)) := by
  rw [outsAt0_B m c t h0 h1]
  frame_out <;> rfl

theorem vec_B (c : Dev nD) (t : Fin cfg0.N) (h0 : ¬ t.val % 8 = 0) (h1 : ¬ t.val % 8 = 7) :
    (outsAt0 m c t.val t.isLt).2.2.1 = View.read (Elt Ideal) (ms0_7 t).view ((ms0_7 t).view.writes (Elt Ideal)
      ((hs0_7 t).unread (prev m c t).2.2.1) (vPieces m c t (prev m c t).2.2.1)) := by
  rw [outsAt0_B m c t h0 h1]
  frame_out <;> rfl

theorem acc_B (c : Dev nD) (t : Fin cfg0.N) (h0 : ¬ t.val % 8 = 0) (h1 : ¬ t.val % 8 = 7) :
    (outsAt0 m c t.val t.isLt).2.2.2.2 = View.canon (aPieces m c t (prev m c t).2.2.2.2) := by
  rw [outsAt0_B m c t h0 h1]
  frame_out
  simp only [read_unread_whole]
  rfl

theorem carry_C (c : Dev nD) (t : Fin cfg0.N) (h0 : ¬ t.val % 8 = 0) (h1 : t.val % 8 = 7) :
    (outsAt0 m c t.val t.isLt).2.2.2.1 = View.canon (carry (qPieces m c t) :: (qPieces m c t)) := by
  rw [outsAt0_C m c t h0 h1]
  frame_out <;> rfl

theorem vec_C (c : Dev nD) (t : Fin cfg0.N) (h0 : ¬ t.val % 8 = 0) (h1 : t.val % 8 = 7) :
    (outsAt0 m c t.val t.isLt).2.2.1 = View.read (Elt Ideal) (ms0_7 t).view ((ms0_7 t).view.writes (Elt Ideal)
      ((hs0_7 t).unread (prev m c t).2.2.1) (vPieces m c t (prev m c t).2.2.1)) := by
  rw [outsAt0_C m c t h0 h1]
  frame_out <;> rfl

theorem acc_C (c : Dev nD) (t : Fin cfg0.N) (h0 : ¬ t.val % 8 = 0) (h1 : t.val % 8 = 7) :
    (outsAt0 m c t.val t.isLt).2.2.2.2 = View.canon (aPieces m c t (prev m c t).2.2.2.2) := by
  rw [outsAt0_C m c t h0 h1]
  frame_out
  simp only [read_unread_whole]
  rfl

theorem out_A (c : Dev nD) (t : Fin cfg0.N) (h0 : t.val % 8 = 0) (h1 : ¬ t.val % 8 = 7) :
    (outsAt0 m c t.val t.isLt).1 = View.canon (oPieces m c t
      ((View.whole cc0_scratch1).readCov ((qPieces m c t).drop 3 ++ [⟨Rect.unit ![512, 0] ![16, 1024] inb_S528x1024_S16x1024_512_0, k0_pay3 (F := Ideal)⟩]) (Rect.unit (s := S528x1024) ![0, 0] ![528, 256] inb_S528x1024_S528x256_0_0).toLoadRect)
      ((View.whole cc0_scratch1).readCov ((qPieces m c t).drop 2 ++ [⟨Rect.unit ![512, 0] ![16, 1024] inb_S528x1024_S16x1024_512_0, k0_pay3 (F := Ideal)⟩]) (Rect.unit (s := S528x1024) ![0, 256] ![528, 256] inb_S528x1024_S528x256_0_256).toLoadRect)
      ((View.whole cc0_scratch1).readCov ((qPieces m c t).drop 1 ++ [⟨Rect.unit ![512, 0] ![16, 1024] inb_S528x1024_S16x1024_512_0, k0_pay3 (F := Ideal)⟩]) (Rect.unit (s := S528x1024) ![0, 512] ![528, 256] inb_S528x1024_S528x256_0_512).toLoadRect)
      ((View.whole cc0_scratch1).readCov ((qPieces m c t).drop 0 ++ [⟨Rect.unit ![512, 0] ![16, 1024] inb_S528x1024_S16x1024_512_0, k0_pay3 (F := Ideal)⟩]) (Rect.unit (s := S528x1024) ![0, 768] ![528, 256] inb_S528x1024_S528x256_0_768).toLoadRect)) := by
  rw [outsAt0_A m c t h0 h1]
  frame_out <;> rfl

/-- The rows of scaled cotangent in the middle of a point: the point's stores over what the point before carried. -/
abbrev mid (c : Dev nD) (t : Fin cfg0.N) (L : List (View.Piece (Elt Ideal) S528x1024 .f32)) : Vec Ideal S528x1024 .f32 :=
  View.read (Elt Ideal) (View.whole cc0_scratch1) ((View.whole cc0_scratch1).writes (Elt Ideal)
    ((Memref.isWhole_whole cc0_scratch1).unread (prev m c t).2.2.2.1) L)

theorem out_B (c : Dev nD) (t : Fin cfg0.N) (h0 : ¬ t.val % 8 = 0) (h1 : ¬ t.val % 8 = 7) :
    (outsAt0 m c t.val t.isLt).1 = View.canon (oPieces m c t
      (View.ld (mid m c t ((qPieces m c t).drop 3)) (Rect.unit (s := S528x1024) ![0, 0] ![528, 256] inb_S528x1024_S528x256_0_0))
      (View.ld (mid m c t ((qPieces m c t).drop 2)) (Rect.unit (s := S528x1024) ![0, 256] ![528, 256] inb_S528x1024_S528x256_0_256))
      (View.ld (mid m c t ((qPieces m c t).drop 1)) (Rect.unit (s := S528x1024) ![0, 512] ![528, 256] inb_S528x1024_S528x256_0_512))
      (View.ld (mid m c t ((qPieces m c t).drop 0)) (Rect.unit (s := S528x1024) ![0, 768] ![528, 256] inb_S528x1024_S528x256_0_768))) := by
  rw [outsAt0_B m c t h0 h1]
  frame_out <;> rfl

theorem out_C (c : Dev nD) (t : Fin cfg0.N) (h0 : ¬ t.val % 8 = 0) (h1 : t.val % 8 = 7) :
    (outsAt0 m c t.val t.isLt).1 = View.canon (oPieces m c t
      (View.ld (mid m c t ((qPieces m c t).drop 3)) (Rect.unit (s := S528x1024) ![0, 0] ![528, 256] inb_S528x1024_S528x256_0_0))
      (View.ld (mid m c t ((qPieces m c t).drop 2)) (Rect.unit (s := S528x1024) ![0, 256] ![528, 256] inb_S528x1024_S528x256_0_256))
      (View.ld (mid m c t ((qPieces m c t).drop 1)) (Rect.unit (s := S528x1024) ![0, 512] ![528, 256] inb_S528x1024_S528x256_0_512))
      (View.ld (mid m c t ((qPieces m c t).drop 0)) (Rect.unit (s := S528x1024) ![0, 768] ![528, 256] inb_S528x1024_S528x256_0_768))) := by
  rw [outsAt0_C m c t h0 h1]
  frame_out <;> rfl

theorem weights_C (c : Dev nD) (t : Fin cfg0.N) (h0 : ¬ t.val % 8 = 0) (h1 : t.val % 8 = 7) :
    (outsAt0 m c t.val t.isLt).2.1 = k0_pay2 ((View.whole cc0_scratch2).readCov (aPieces m c t (prev m c t).2.2.2.2)
      (Rect.unit (s := S4x256x256) ![0, 0, 0] ![4, 256, 256] inb_S4x256x256_S4x256x256_0_0_0).toLoadRect) := by
  rw [outsAt0_C m c t h0 h1]
  frame_out
  simp only [read_unread_whole]
  rfl

end Cert.Pool

end
-- ==== Proof.Pack.Blocks.lean ====
/- What the packing call stores. -/
module

public import proofs.«01_k».proof.Proof.Gen.Kernel14Ideal.Value
public import proofs.«01_k».proof.Proof.Pack.Spec
public import proofs.«01_k».proof.Proof.Pool.Stores
public import Idealize.ShloMosaic.Lib.Pointwise
public import Idealize.ShloMosaic.Lib.StableHlo.ReadAt
public import Idealize.ShloMosaic.Lib.Pipeline.ValueKit
public import Idealize.ShloMosaic.Lib.Pipeline.ReadBack

@[expose] public section

noncomputable section

namespace Cert.Pack

open Cert.Kernel14Ideal Cert.Kernel14Ideal.Gen Idealize.ShloMosaic Idealize.ShloMosaic.TcCoe Idealize.SL.Sem Idealize.ShloMosaic.StableHlo

variable (m : (ℓ : Loc nD τ sig) → Buf (Elt Ideal) ℓ)

/-- The arrays the kernel program is given. -/
def args (c : Dev nD) : Args where
  mb := m ((c : Thread nD τ).loc main_arg0)
  ab := m ((c : Thread nD τ).loc main_arg1)
  pre := m ((c : Thread nD τ).loc main_arg2)
  post := m ((c : Thread nD τ).loc main_arg3)
  cb := m ((c : Thread nD τ).loc main_arg4)
  ga := m ((c : Thread nD τ).loc main_arg5)
  gx := m ((c : Thread nD τ).loc main_arg6)
  lam := m ((c : Thread nD τ).loc main_arg7)

theorem e0 : ∀ t : Fin cfg0.N, win0_0.index t = ![0, 0, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![0, 0, 0] := (by decide +kernel : ∀ t : Fin grid0.N, _)
theorem e6 : ∀ t : Fin cfg0.N, win0_6.index t = ![0, 0, 0] := (by decide +kernel : ∀ t : Fin grid0.N, _)
theorem e7 : ∀ t : Fin cfg0.N, win0_7.index t = ![0, 0] := (by decide +kernel : ∀ t : Fin grid0.N, _)
theorem e8 : ∀ t : Fin cfg0.N, win0_8.index t = ![0, 0] := (by decide +kernel : ∀ t : Fin grid0.N, _)
theorem e9 : ∀ t : Fin cfg0.N, win0_9.index t = ![0, 0] := (by decide +kernel : ∀ t : Fin grid0.N, _)
theorem e10 : ∀ t : Fin cfg0.N, win0_10.index t = ![0, 0] := (by decide +kernel : ∀ t : Fin grid0.N, _)
theorem e11 : ∀ t : Fin cfg0.N, win0_11.index t = ![0, 0] := (by decide +kernel : ∀ t : Fin grid0.N, _)

theorem b0 (c : Dev nD) (t : Fin cfg0.N) (i : Fin 4) (j : Fin 8) (k : Fin 1536) : iblk m c 0 t (ix3 i j k) = (args m c).mb (ix3 i j k) := by
  blk_simp [iblk, e0]
  rw [show (win0_0.blk t).view.emb (ix3 i j k) = ix3 i j k by blk_ext [e0]]
  rfl
theorem b1 (c : Dev nD) (t : Fin cfg0.N) (i : Fin 2) (j : Fin 3072) : iblk m c 1 t (ix2 i j) = (args m c).ab (ix2 i j) := by
  blk_simp [iblk, e1]
  rw [show (win0_1.blk t).view.emb (ix2 i j) = ix2 i j by blk_ext [e1]]
  rfl
theorem b2 (c : Dev nD) (t : Fin cfg0.N) (i : Fin 2) (j : Fin 1024) : iblk m c 2 t (ix2 i j) = (args m c).pre (ix2 i j) := by
  blk_simp [iblk, e2]
  rw [show (win0_2.blk t).view.emb (ix2 i j) = ix2 i j by blk_ext [e2]]
  rfl
theorem b3 (c : Dev nD) (t : Fin cfg0.N) (i : Fin 2) (j : Fin 1024) : iblk m c 3 t (ix2 i j) = (args m c).post (ix2 i j) := by
  blk_simp [iblk, e3]
  rw [show (win0_3.blk t).view.emb (ix2 i j) = ix2 i j by blk_ext [e3]]
  rfl
theorem b4 (c : Dev nD) (t : Fin cfg0.N) (i : Fin 2) (j : Fin 1024) : iblk m c 4 t (ix2 i j) = (args m c).cb (ix2 i j) := by
  blk_simp [iblk, e4]
  rw [show (win0_4.blk t).view.emb (ix2 i j) = ix2 i j by blk_ext [e4]]
  rfl
theorem b5 (c : Dev nD) (t : Fin cfg0.N) (i : Fin 2) (j : Fin 8) (k : Fin 128) : iblk m c 5 t (ix3 i j k) = (args m c).ga (ix3 i j k) := by
  blk_simp [iblk, e5]
  rw [show (win0_5.blk t).view.emb (ix3 i j k) = ix3 i j k by blk_ext [e5]]
  rfl
theorem b6 (c : Dev nD) (t : Fin cfg0.N) (i : Fin 2) (j : Fin 8) (k : Fin 128) : iblk m c 6 t (ix3 i j k) = (args m c).gx (ix3 i j k) := by
  blk_simp [iblk, e6]
  rw [show (win0_6.blk t).view.emb (ix3 i j k) = ix3 i j k by blk_ext [e6]]
  rfl
theorem b7 (c : Dev nD) (t : Fin cfg0.N) (i : Fin 2) (j : Fin 1024) : iblk m c 7 t (ix2 i j) = (args m c).lam (ix2 i j) := by
  blk_simp [iblk, e7]
  rw [show (win0_7.blk t).view.emb (ix2 i j) = ix2 i j by blk_ext [e7]]
  rfl

/-- A list of stores over one of a block of zeros leaves a function they are all blocks of, where that is zero outside them. -/
theorem canon_over (G : Fin 8 → Fin 1024 → EReal) (L : List (View.Piece (Elt Ideal) S8x1024 .f32)) (z : View.Piece (Elt Ideal) S8x1024 .f32)
    (hL : ∀ p ∈ L, ∀ x : p.1.shape.Idx, p.2 x = G (p.1.emb x 0) (p.1.emb x 1))
    (hz : ∀ r k, (∀ p ∈ L, (ix2 r k : S8x1024.Idx) ∉ p.1.set) → View.canon [z] (ix2 r k) = G r k) (r : Fin 8) (k : Fin 1024) :
    View.canon (L ++ [z]) (ix2 r k) = G r k := by
  by_cases h : ∃ p ∈ L, (ix2 r k : S8x1024.Idx) ∈ p.1.set
  · exact Cert.Pool.canon_newest (fun i => G (i 0) (i 1)) L [z] hL (ix2 r k) h
  · have h' : ∀ p ∈ L, (ix2 r k : S8x1024.Idx) ∉ p.1.set := fun p hp hm => h ⟨p, hp, hm⟩
    rw [Cert.Pool.canon_older L [z] _ h']
    exact hz r k h'

/-- A stored piece of a row, entry by entry. -/
theorem row_store (G : Fin 8 → Fin 1024 → EReal) (a b w : ℕ) (h) (v : FVec Ideal ⟨2, ![1, w]⟩ .f32)
    (hv : ∀ (j : Fin w) (r : Fin 8) (k : Fin 1024), r.val = a → k.val = b + j.val → v (ix2 0 j) = G r k)
    (x : (Rect.unit (s := S8x1024) ![a, b] ![1, w] h).shape.Idx) :
    v x = G ((Rect.unit (s := S8x1024) ![a, b] ![1, w] h).emb x 0) ((Rect.unit (s := S8x1024) ![a, b] ![1, w] h).emb x 1) := by
  obtain ⟨i, j, rfl⟩ : ∃ (i : Fin 1) (j : Fin w), x = (ix2 i j : (⟨2, ![1, w]⟩ : Shape).Idx) := ⟨_, _, eq_ix2 x⟩
  obtain rfl : i = 0 := Subsingleton.elim _ _
  refine hv j _ _ ?_ ?_
  · show a + 0 * 1 = a
    omega
  · show b + 1 * j.val = b + j.val
    omega

/-- The block of zeros under the other stores. -/
theorem canon_zero (z : FVec Ideal S8x1024 .f32) (h : ∀ i, z i = 0) (r : Fin 8) (k : Fin 1024) :
    View.canon [(⟨Rect.unit (s := S8x1024) ![0, 0] ![8, 1024] inb_S8x1024_S8x1024_0_0, z⟩ : View.Piece (Elt Ideal) S8x1024 .f32)] (ix2 r k) = 0 := by
  refine Cert.Pool.canon_newest (fun _ => 0) [⟨Rect.unit (s := S8x1024) ![0, 0] ![8, 1024] inb_S8x1024_S8x1024_0_0, z⟩] [] ?_ _ ?_
  · simp only [List.forall_mem_cons, List.not_mem_nil, false_imp_iff, implies_true, and_true]
    exact h
  · refine ⟨_, List.mem_singleton_self _, (Rect.mem_set_unit (inb := inb_S8x1024_S8x1024_0_0)).mpr fun d => ?_⟩
    fin_cases d
    · exact ⟨Nat.zero_le _, by show r.val < 0 + 8; omega⟩
    · exact ⟨Nat.zero_le _, by show k.val < 0 + 1024; omega⟩

/-- A place outside a stored piece of a row is in another row or beside it. -/
theorem not_row {r : Fin 8} {k : Fin 1024} {a b w : ℕ} {h} (hn : (ix2 r k : S8x1024.Idx) ∉ (Rect.unit (s := S8x1024) ![a, b] ![1, w] h).set) :
    ¬(r.val = a ∧ b ≤ k.val ∧ k.val < b + w) := fun ⟨h1, h2, h3⟩ => hn (Rect.mem_set_unit.mpr fun d => by
  fin_cases d
  · exact ⟨h1.ge, by show r.val < a + 1; omega⟩
  · exact ⟨h2, h3⟩)

/-- A place outside the eight pieces of a row is in another row. -/
theorem cover_row {r : Fin 8} {k : Fin 1024} {a : ℕ} (hn : ∀ i : Fin 8, ¬(r.val = a ∧ 128 * i.val ≤ k.val ∧ k.val < 128 * i.val + 128)) :
    r.val ≠ a := fun h => hn ⟨k.val / 128, by omega⟩ ⟨h, by dsimp only; omega, by dsimp only; omega⟩

theorem zero8 (i : S8x1024.Idx) : k0_pay2 (F := Ideal) i = 0 := by
  pointwise [k0_pay2]
theorem zero10 (i : S8x1024.Idx) : k0_pay3 (F := Ideal) i = 0 := by
  pointwise [k0_pay3]
theorem zero9 (i : S8x1024.Idx) : k0_pay28 (F := Ideal) i = 0 := by
  pointwise [k0_pay28]
theorem zero11 (i : S8x1024.Idx) : k0_pay29 (F := Ideal) i = 0 := by
  pointwise [k0_pay29]

set_option maxHeartbeats 1000000 in
theorem out8 (c : Dev nD) (t : Fin cfg0.N) (r : Fin 8) (k : Fin 1024) : (outsAt0 m c t).1 (ix2 r k) = (args m c).vec 0 r k := by
  have h : ∃ z, (outsAt0 m c t).1 = View.canon z ∧ View.canon z (ix2 r k) = (args m c).vec 0 r k := by
    refine ⟨_, by unfold outsAt0; dsimp only; frame_out; rfl, ?_⟩
    simp only [read_unread_whole]
    refine canon_over _ [_, _, _, _, _, _, _, _] _ ?_ ?_ r k
    · simp only [List.forall_mem_cons, List.not_mem_nil, false_imp_iff, implies_true, and_true]
      refine ⟨?_, ?_, ?_, ?_, ?_, ?_, ?_, ?_⟩ <;> refine row_store _ _ _ _ _ _ fun j r k hr hk => ?_
      · pointwise
        rw [b3]
        exact Args.vec_post _ _ hr hk
      · pointwise
        rw [b2]
        exact Args.vec_pre _ _ hr hk
      all_goals pointwise [k0_pay4, k0_pay5, k0_pay6, k0_pay7, k0_pay8, k0_pay9, k0_pay10, k0_pay11]
      all_goals rw [b0, b1]
      all_goals refine Args.vec_slab _ _ (by omega) ?_ ?_ ?_ <;> simp <;> omega
    · intro r k hrk
      simp only [List.forall_mem_cons, List.not_mem_nil, false_imp_iff, implies_true, and_true] at hrk
      rw [canon_zero _ zero8]
      obtain ⟨h0, h1, h2, h3, h4, h5, h6, h7⟩ := hrk
      have := not_row h0
      have := not_row h1
      have := not_row h2
      have := not_row h3
      have := not_row h4
      have := not_row h5
      have := not_row h6
      have := not_row h7
      exact Args.vec_rest _ _ (by omega)
  obtain ⟨z, hz, h⟩ := h
  rw [hz, h]

set_option maxHeartbeats 2000000 in
theorem out10 (c : Dev nD) (t : Fin cfg0.N) (r : Fin 8) (k : Fin 1024) : (outsAt0 m c t).2.2.1 (ix2 r k) = (args m c).rvec 0 r k := by
  have h : ∃ z, (outsAt0 m c t).2.2.1 = View.canon z ∧ View.canon z (ix2 r k) = (args m c).rvec 0 r k := by
    refine ⟨_, by unfold outsAt0; dsimp only; frame_out; rfl, ?_⟩
    simp only [read_unread_whole]
    refine canon_over _ [_, _, _, _, _, _, _, _, _, _, _, _, _, _, _, _, _, _] _ ?_ ?_ r k
    · simp only [List.forall_mem_cons, List.not_mem_nil, false_imp_iff, implies_true, and_true]
      refine ⟨?_, ?_, ?_, ?_, ?_, ?_, ?_, ?_, ?_, ?_, ?_, ?_, ?_, ?_, ?_, ?_, ?_, ?_⟩ <;> refine row_store _ _ _ _ _ _ fun j r k hr hk => ?_
      · pointwise
        rw [b7]
        exact Args.rvec_lam _ _ hr hk
      rotate_right
      · pointwise
        rw [b4]
        exact Args.rvec_cb _ _ hr hk
      all_goals pointwise [k0_pay12, k0_pay13, k0_pay14, k0_pay15, k0_pay16, k0_pay17, k0_pay18, k0_pay19, k0_pay20, k0_pay21, k0_pay22, k0_pay23, k0_pay24, k0_pay25, k0_pay26, k0_pay27]
      all_goals first | rw [b5] | rw [b6]
      all_goals first
        | exact Args.rvec_ga _ _ hr (by simp; omega)
        | exact Args.rvec_gx _ _ hr (by simp; omega)
    · intro r k hrk
      simp only [List.forall_mem_cons, List.not_mem_nil, false_imp_iff, implies_true, and_true] at hrk
      rw [canon_zero _ zero10]
      obtain ⟨h0, h1, h2, h3, h4, h5, h6, h7, h8, h9, h10, h11, h12, h13, h14, h15, h16, h17⟩ := hrk
      have r1 := cover_row (r := r) (k := k) (a := 1) (fun i => by fin_cases i; exacts [not_row h16, not_row h14, not_row h12, not_row h10, not_row h8, not_row h6, not_row h4, not_row h2])
      have r2 := cover_row (r := r) (k := k) (a := 2) (fun i => by fin_cases i; exacts [not_row h15, not_row h13, not_row h11, not_row h9, not_row h7, not_row h5, not_row h3, not_row h1])
      have r3 := not_row h0
      have r0 := not_row h17
      exact Args.rvec_rest _ _ (by omega)
  obtain ⟨z, hz, h⟩ := h
  rw [hz, h]

set_option maxHeartbeats 1000000 in
theorem out9 (c : Dev nD) (t : Fin cfg0.N) (r : Fin 8) (k : Fin 1024) : (outsAt0 m c t).2.1 (ix2 r k) = (args m c).vec 1 r k := by
  have h : ∃ z, (outsAt0 m c t).2.1 = View.canon z ∧ View.canon z (ix2 r k) = (args m c).vec 1 r k := by
    refine ⟨_, by unfold outsAt0; dsimp only; frame_out; rfl, ?_⟩
    simp only [read_unread_whole]
    refine canon_over _ [_, _, _, _, _, _, _, _] _ ?_ ?_ r k
    · simp only [List.forall_mem_cons, List.not_mem_nil, false_imp_iff, implies_true, and_true]
      refine ⟨?_, ?_, ?_, ?_, ?_, ?_, ?_, ?_⟩ <;> refine row_store _ _ _ _ _ _ fun j r k hr hk => ?_
      · pointwise
        rw [b3]
        exact Args.vec_post _ _ hr hk
      · pointwise
        rw [b2]
        exact Args.vec_pre _ _ hr hk
      all_goals pointwise [k0_pay30, k0_pay31, k0_pay32, k0_pay33, k0_pay34, k0_pay35, k0_pay36, k0_pay37, k0_pay38]
      all_goals rw [b0, b1]
      all_goals refine Args.vec_slab _ _ (by omega) ?_ ?_ ?_ <;> simp <;> omega
    · intro r k hrk
      simp only [List.forall_mem_cons, List.not_mem_nil, false_imp_iff, implies_true, and_true] at hrk
      rw [canon_zero _ zero9]
      obtain ⟨h0, h1, h2, h3, h4, h5, h6, h7⟩ := hrk
      have := not_row h0
      have := not_row h1
      have := not_row h2
      have := not_row h3
      have := not_row h4
      have := not_row h5
      have := not_row h6
      have := not_row h7
      exact Args.vec_rest _ _ (by omega)
  obtain ⟨z, hz, h⟩ := h
  rw [hz, h]

set_option maxHeartbeats 2000000 in
theorem out11 (c : Dev nD) (t : Fin cfg0.N) (r : Fin 8) (k : Fin 1024) : (outsAt0 m c t).2.2.2 (ix2 r k) = (args m c).rvec 1 r k := by
  have h : ∃ z, (outsAt0 m c t).2.2.2 = View.canon z ∧ View.canon z (ix2 r k) = (args m c).rvec 1 r k := by
    refine ⟨_, by unfold outsAt0; dsimp only; frame_out; rfl, ?_⟩
    simp only [read_unread_whole]
    refine canon_over _ [_, _, _, _, _, _, _, _, _, _, _, _, _, _, _, _, _, _] _ ?_ ?_ r k
    · simp only [List.forall_mem_cons, List.not_mem_nil, false_imp_iff, implies_true, and_true]
      refine ⟨?_, ?_, ?_, ?_, ?_, ?_, ?_, ?_, ?_, ?_, ?_, ?_, ?_, ?_, ?_, ?_, ?_, ?_⟩ <;> refine row_store _ _ _ _ _ _ fun j r k hr hk => ?_
      · pointwise
        rw [b7]
        exact Args.rvec_lam _ _ hr hk
      rotate_right
      · pointwise
        rw [b4]
        exact Args.rvec_cb _ _ hr hk
      all_goals pointwise [k0_pay1, k0_pay39, k0_pay40, k0_pay41, k0_pay42, k0_pay43, k0_pay44, k0_pay45, k0_pay46, k0_pay47, k0_pay48, k0_pay49, k0_pay50, k0_pay51, k0_pay52, k0_pay53]
      all_goals first | rw [b5] | rw [b6]
      all_goals first
        | exact Args.rvec_ga _ _ hr (by simp; omega)
        | exact Args.rvec_gx _ _ hr (by simp; omega)
    · intro r k hrk
      simp only [List.forall_mem_cons, List.not_mem_nil, false_imp_iff, implies_true, and_true] at hrk
      rw [canon_zero _ zero11]
      obtain ⟨h0, h1, h2, h3, h4, h5, h6, h7, h8, h9, h10, h11, h12, h13, h14, h15, h16, h17⟩ := hrk
      have r1 := cover_row (r := r) (k := k) (a := 1) (fun i => by fin_cases i; exacts [not_row h16, not_row h14, not_row h12, not_row h10, not_row h8, not_row h6, not_row h4, not_row h2])
      have r2 := cover_row (r := r) (k := k) (a := 2) (fun i => by fin_cases i; exacts [not_row h15, not_row h13, not_row h11, not_row h9, not_row h7, not_row h5, not_row h3, not_row h1])
      have r3 := not_row h0
      have r0 := not_row h17
      exact Args.rvec_rest _ _ (by omega)
  obtain ⟨z, hz, h⟩ := h
  rw [hz, h]

theorem arr8 (c : Dev nD) : (dats m 0 c).arrAt 8 cfg0.N = (fun i => (args m c).vec 0 (i 0) (i 1) : FVec Ideal S8x1024 .f32) := by
  refine (dats m 0 c).arrAt_eq_of_covers 8 _ (by decide +kernel) fun t hf y => ?_
  blk_simp
  rw [after0_8]
  obtain ⟨r, k, rfl⟩ : ∃ (r : Fin 8) (k : Fin 1024), y = (ix2 r k : S8x1024.Idx) := ⟨_, _, eq_ix2 y⟩
  rw [show (win0_8.blk t).view.emb (ix2 r k) = ix2 r k by blk_ext [e8]]
  exact out8 m c t r k

theorem arr9 (c : Dev nD) : (dats m 0 c).arrAt 9 cfg0.N = (fun i => (args m c).vec 1 (i 0) (i 1) : FVec Ideal S8x1024 .f32) := by
  refine (dats m 0 c).arrAt_eq_of_covers 9 _ (by decide +kernel) fun t hf y => ?_
  blk_simp
  rw [after0_9]
  obtain ⟨r, k, rfl⟩ : ∃ (r : Fin 8) (k : Fin 1024), y = (ix2 r k : S8x1024.Idx) := ⟨_, _, eq_ix2 y⟩
  rw [show (win0_9.blk t).view.emb (ix2 r k) = ix2 r k by blk_ext [e9]]
  exact out9 m c t r k

theorem arr10 (c : Dev nD) : (dats m 0 c).arrAt 10 cfg0.N = (fun i => (args m c).rvec 0 (i 0) (i 1) : FVec Ideal S8x1024 .f32) := by
  refine (dats m 0 c).arrAt_eq_of_covers 10 _ (by decide +kernel) fun t hf y => ?_
  blk_simp
  rw [after0_10]
  obtain ⟨r, k, rfl⟩ : ∃ (r : Fin 8) (k : Fin 1024), y = (ix2 r k : S8x1024.Idx) := ⟨_, _, eq_ix2 y⟩
  rw [show (win0_10.blk t).view.emb (ix2 r k) = ix2 r k by blk_ext [e10]]
  exact out10 m c t r k

theorem arr11 (c : Dev nD) : (dats m 0 c).arrAt 11 cfg0.N = (fun i => (args m c).rvec 1 (i 0) (i 1) : FVec Ideal S8x1024 .f32) := by
  refine (dats m 0 c).arrAt_eq_of_covers 11 _ (by decide +kernel) fun t hf y => ?_
  blk_simp
  rw [after0_11]
  obtain ⟨r, k, rfl⟩ : ∃ (r : Fin 8) (k : Fin 1024), y = (ix2 r k : S8x1024.Idx) := ⟨_, _, eq_ix2 y⟩
  rw [show (win0_11.blk t).view.emb (ix2 r k) = ix2 r k by blk_ext [e11]]
  exact out11 m c t r k

end Cert.Pack

end
-- ==== Proof.Pack.Value.lean ====
/- The packing call: what it leaves beside what the reference leaves. -/
module

public import proofs.«01_k».proof.Defs
public import proofs.«01_k».proof.Proof.Gen.Reference14Ideal.Run
public import proofs.«01_k».proof.Proof.Pack.Blocks

@[expose] public section

noncomputable section

namespace Cert.Pack

open Idealize.ShloMosaic Idealize.ShloMosaic.TcCoe Idealize.SL.Sem Idealize.ShloMosaic.StableHlo

section Reference

open Cert.Reference14Ideal Cert.Reference14Ideal.Gen

/-- The one row of a part. -/
theorem row_one (u : FVec Ideal S1x1024 .f32) (r : Fin 1) (k : Fin 1024) : u (ix2 r k) = u (ix2 0 k) := by
  rw [Subsingleton.elim r 0]

/-- The first four parts of a layer's block, row by row, are that block. -/
theorem cat_vec (A : Args) (l : Fin 2) (u0 : FVec Ideal S3x1024 .f32) (u1 u2 : FVec Ideal S1x1024 .f32)
    (h0 : ∀ (r : Fin 3) (k : Fin 1024), u0 (ix2 r k) = A.mod l ⟨r.val * 1024 + k.val, by omega⟩)
    (h1 : ∀ k, u1 (ix2 0 k) = A.pre (ix2 l k)) (h2 : ∀ k, u2 (ix2 0 k) = A.post (ix2 l k)) :
    (concatenate S8x1024 0 [⟨S3x1024, u0⟩, ⟨S1x1024, u1⟩, ⟨S1x1024, u2⟩,
      ⟨S3x1024, broadcastInDim S3x1024 ![] bcast_S_S3x1024 (constant S_ .f32 0x00000000#32)⟩]
      concatenates_S3x1024_S1x1024_S1x1024_S3x1024_S8x1024_d0 : FVec Ideal S8x1024 .f32) = fun i => A.vec l (i 0) (i 1) := by
  funext i
  obtain ⟨r, k, rfl⟩ : ∃ (r : Fin 8) (k : Fin 1024), i = (ix2 r k : S8x1024.Idx) := ⟨_, _, eq_ix2 i⟩
  pointwise
  show _ = A.vec l r k
  unfold Args.vec
  by_cases a : r.val < 3
  · rw [dif_pos a, dif_pos a, h0]
  rw [dif_neg a, dif_neg a]
  by_cases b : r.val = 3
  · rw [dif_pos (by omega), if_pos b]
    exact (row_one u1 _ k).trans (h1 k)
  rw [dif_neg (by omega), if_neg b]
  by_cases d : r.val = 4
  · rw [dif_pos (by omega), if_pos d]
    exact (row_one u2 _ k).trans (h2 k)
  rw [dif_neg (by omega), if_neg d]

/-- The same of the recurrent layer's vectors. -/
theorem cat_rvec (A : Args) (l : Fin 2) (u0 u1 u2 u3 : FVec Ideal S1x1024 .f32)
    (h0 : ∀ k, u0 (ix2 0 k) = A.cb (ix2 l k))
    (h1 : ∀ k : Fin 1024, u1 (ix2 0 k) = A.ga (ix3 l ⟨k.val / 128, by omega⟩ ⟨k.val % 128, by omega⟩))
    (h2 : ∀ k : Fin 1024, u2 (ix2 0 k) = A.gx (ix3 l ⟨k.val / 128, by omega⟩ ⟨k.val % 128, by omega⟩))
    (h3 : ∀ k, u3 (ix2 0 k) = A.lam (ix2 l k)) :
    (concatenate S8x1024 0 [⟨S1x1024, u0⟩, ⟨S1x1024, u1⟩, ⟨S1x1024, u2⟩, ⟨S1x1024, u3⟩,
      ⟨S4x1024, broadcastInDim S4x1024 ![] bcast_S_S4x1024 (constant S_ .f32 0x00000000#32)⟩]
      concatenates_S1x1024_S1x1024_S1x1024_S1x1024_S4x1024_S8x1024_d0 : FVec Ideal S8x1024 .f32) = fun i => A.rvec l (i 0) (i 1) := by
  funext i
  obtain ⟨r, k, rfl⟩ : ∃ (r : Fin 8) (k : Fin 1024), i = (ix2 r k : S8x1024.Idx) := ⟨_, _, eq_ix2 i⟩
  pointwise
  show _ = A.rvec l r k
  unfold Args.rvec
  by_cases a : r.val = 0
  · rw [dif_pos (by omega), if_pos a]
    exact (row_one u0 _ k).trans (h0 k)
  rw [dif_neg (by omega), if_neg a]
  by_cases b : r.val = 1
  · rw [dif_pos (by omega), if_pos b]
    exact (row_one u1 _ k).trans (h1 k)
  rw [dif_neg (by omega), if_neg b]
  by_cases d : r.val = 2
  · rw [dif_pos (by omega), if_pos d]
    exact (row_one u2 _ k).trans (h2 k)
  rw [dif_neg (by omega), if_neg d]
  by_cases e : r.val = 3
  · rw [dif_pos (by omega), if_pos e]
    exact (row_one u3 _ k).trans (h3 k)
  rw [dif_neg (by omega), if_neg e]

/-- The arrays the reference is given. -/
def rargs (m : (ℓ : Loc nD τ sig) → Buf (Elt Ideal) ℓ) (c : Dev nD) : Args where
  mb := m ((c : Thread nD τ).loc main_arg0)
  ab := m ((c : Thread nD τ).loc main_arg1)
  pre := m ((c : Thread nD τ).loc main_arg2)
  post := m ((c : Thread nD τ).loc main_arg3)
  cb := m ((c : Thread nD τ).loc main_arg4)
  ga := m ((c : Thread nD τ).loc main_arg5)
  gx := m ((c : Thread nD τ).loc main_arg6)
  lam := m ((c : Thread nD τ).loc main_arg7)

/-- The reference's four blocks. -/
theorem run_ref (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v14) = (fun i => (rargs m c).vec 0 (i 0) (i 1) : FVec Ideal S8x1024 .f32)
      ∧ r.2.mem ((c.tc : Thread nD τ).loc main_v43) = (fun i => (rargs m c).vec 1 (i 0) (i 1) : FVec Ideal S8x1024 .f32)
      ∧ r.2.mem ((c.tc : Thread nD τ).loc main_v28) = (fun i => (rargs m c).rvec 0 (i 0) (i 1) : FVec Ideal S8x1024 .f32)
      ∧ r.2.mem ((c.tc : Thread nD τ).loc main_v57) = (fun i => (rargs m c).rvec 1 (i 0) (i 1) : FVec Ideal S8x1024 .f32) := by
  refine (θ_run _ _ _).mono (fun r h c => ?_) (Cert.Reference14Ideal.Value.run m ρ)
  obtain ⟨h0, h1, h2, h3, -⟩ := h c
  refine ⟨h0.trans (cat_vec _ 0 _ _ _ (fun r k => ?_) (fun k => ?_) fun k => ?_),
    h1.trans (cat_vec _ 1 _ _ _ (fun r k => ?_) (fun k => ?_) fun k => ?_),
    h2.trans (cat_rvec _ 0 _ _ _ _ (fun k => ?_) (fun k => ?_) (fun k => ?_) fun k => ?_),
    h3.trans (cat_rvec _ 1 _ _ _ _ (fun k => ?_) (fun k => ?_) (fun k => ?_) fun k => ?_)⟩
  all_goals pointwise
  all_goals first
    | rfl
    | exact Args.mod_slab (rargs m c) _ rfl (by simp)

end Reference

/-- The reference's frame: it changes no argument, and its signature has no semaphore. -/
theorem frameR [Cert.Reference14Ideal.Facts] : Cert.quiescent_Reference14Ideal := fun m ρ _ =>
  (θ_run _ _ _).mono (fun r h => ⟨fun c => (h c).2.2.2.2, sem_eq_zero_of_no_sems (by decide) r.2⟩)
    (Cert.Reference14Ideal.Value.run m ρ)

/-- The value claim of the packing call. -/
theorem value [hK : Cert.Kernel14Ideal.Facts] [hR : Cert.Reference14Ideal.Facts] :
    Cert.algebraic_Kernel14Ideal_Reference14Ideal := by
  intro m ρ m' ρ' _ hargs
  refine ⟨fun c => (Cert.Kernel14Ideal.Gen.dats m 0 c).arrAt 8 Cert.Kernel14Ideal.cfg0.N,
    fun c => (Cert.Kernel14Ideal.Gen.dats m 0 c).arrAt 9 Cert.Kernel14Ideal.cfg0.N,
    fun c => (Cert.Kernel14Ideal.Gen.dats m 0 c).arrAt 10 Cert.Kernel14Ideal.cfg0.N,
    fun c => (Cert.Kernel14Ideal.Gen.dats m 0 c).arrAt 11 Cert.Kernel14Ideal.cfg0.N, ?_, ?_⟩
  · exact Cert.Kernel14Ideal.Value.run_blocks m ρ
  · refine (θ_run _ _ _).mono (fun r h c => ?_) (θ_run_and (run_ref m' ρ') (Cert.Reference14Ideal.Value.run m' ρ'))
    obtain ⟨a0, a1, a2, a3, a4, a5, a6, a7⟩ := hargs c
    have e : rargs m' c = args m c := by
      unfold rargs args
      rw [a0, a1, a2, a3, a4, a5, a6, a7]
    obtain ⟨h0, h1, h2, h3⟩ := h.1 c
    rw [e] at h0 h1 h2 h3
    exact ⟨h0.trans (arr8 m c).symm, h1.trans (arr9 m c).symm, h2.trans (arr10 m c).symm, h3.trans (arr11 m c).symm,
      (h.2 c).2.2.2.2⟩

end Cert.Pack

end
-- ==== Proof.Adam.Spec.lean ====
/- What the optimiser's step on the last layer's input projection computes, written once over the argument arrays read as
   extended reals: the summed gradient, the update, and the two moments. -/
module

public import proofs.«01_k».proof.Kernel11Ideal
public import Idealize.ShloMosaic.Lib.Pointwise

@[expose] public section

noncomputable section

namespace Cert.Adam

open Cert.Kernel11Ideal Idealize.ShloMosaic

/-- The arrays: the weights `w`, the moments `m` and `v` of both layers, and the gradient's two parts `p` and `s`. -/
structure Args where
  w : FVec Ideal S2x1024x1024 .f32
  m : FVec Ideal S2x1024x1024 .f32
  v : FVec Ideal S2x1024x1024 .f32
  p : FVec Ideal S1024x1024 .f32
  s : FVec Ideal S1024x1024 .f32

namespace Args

variable (a : Args)

/-- The summed gradient. -/
def g (r : Fin 1024) (l : Fin 1024) : EReal := a.p (ix2 r l) + a.s (ix2 r l)

/-- The first moment. -/
def m' (r : Fin 1024) (l : Fin 1024) : EReal :=
  Ideal.ofBits .f32 0x3F666666#32 * a.m (ix3 1 r l) + Ideal.ofBits .f32 0x3DCCCCCD#32 * a.g r l

/-- The second moment. -/
def v' (r : Fin 1024) (l : Fin 1024) : EReal :=
  Ideal.ofBits .f32 0x3F7FBE77#32 * a.v (ix3 1 r l) + Ideal.ofBits .f32 0x3A83126F#32 * (a.g r l * a.g r l)

/-- The update: the bias-corrected step and the weight decay, times the negated rate. -/
def d (r : Fin 1024) (l : Fin 1024) : EReal :=
  Ideal.ofBits .f32 0xBA83126F#32 * (Ideal.div (Ideal.div (a.m' r l) (Ideal.ofBits .f32 0x3F26BD02#32))
      (Ideal.sqrt (Ideal.div (a.v' r l) (Ideal.ofBits .f32 0x3C231ACC#32)) + Ideal.ofBits .f32 0x322BCC77#32)
    + Ideal.ofBits .f32 0x3C23D70A#32 * a.w (ix3 1 r l))

end Args

/-- A result of 2048 rows: `f` in the last layer's rows, from row 1024 on, and nothing in the first layer's. -/
def tail (f : Fin 1024 → Fin 1024 → EReal) : FVec Ideal S2048x1024 .f32 :=
  fun i => if h : 1024 ≤ (i 0).val then f ⟨(i 0).val - 1024, by have : (i 0).val < 2048 := (i 0).isLt; omega⟩ (i 1) else 0

theorem tail_at (f : Fin 1024 → Fin 1024 → EReal) (r l : Fin 1024) (h : 1024 + r.val < 2048) :
    tail f (ix2 ⟨1024 + r.val, h⟩ l) = f r l :=
  (dif_pos (show 1024 ≤ 1024 + r.val by omega)).trans
    (congrArg (f · l) (Fin.ext (show 1024 + r.val - 1024 = r.val by omega)))

end Cert.Adam

end
-- ==== Proof.Adam.Blocks.lean ====
/- What each grid point of the optimiser's step reads of the argument arrays, and the gradient, the update and the moments it
   computes from that, up to the last layer's rows of the four arrays after the run. -/
module

public import proofs.«01_k».proof.Proof.Gen.Kernel11Ideal.Value
public import proofs.«01_k».proof.Proof.Adam.Spec
public import Idealize.ShloMosaic.Lib.Pointwise
public import Idealize.ShloMosaic.Lib.StableHlo.ReadAt
public import Idealize.ShloMosaic.Lib.Pipeline.ValueKit

@[expose] public section

noncomputable section

namespace Cert.Adam

open Cert.Kernel11Ideal Cert.Kernel11Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![t.val + 2, 0] := (by decide +kernel : ∀ t : Fin grid0.N, _)
theorem e1 : ∀ t : Fin cfg0.N, win0_1.index t = ![t.val + 2, 0] := (by decide +kernel : ∀ t : Fin grid0.N, _)
theorem e2 : ∀ t : Fin cfg0.N, win0_2.index t = ![t.val + 2, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val + 2, 0] := (by decide +kernel : ∀ t : Fin grid0.N, _)
theorem e6 : ∀ t : Fin cfg0.N, win0_6.index t = ![t.val + 2, 0] := (by decide +kernel : ∀ t : Fin grid0.N, _)
theorem e7 : ∀ t : Fin cfg0.N, win0_7.index t = ![t.val + 2, 0] := (by decide +kernel : ∀ t : Fin grid0.N, _)
theorem e8 : ∀ t : Fin cfg0.N, win0_8.index t = ![t.val + 2, 0] := (by decide +kernel : ∀ t : Fin grid0.N, _)

/-- The arrays the kernel program is given. -/
def args (c : Dev nD) : Args where
  w := m ((c : Thread nD τ).loc main_arg0)
  m := m ((c : Thread nD τ).loc main_arg1)
  v := m ((c : Thread nD τ).loc main_arg2)
  p := m ((c : Thread nD τ).loc main_arg3)
  s := m ((c : Thread nD τ).loc main_arg4)

theorem lt2 (t : Fin cfg0.N) : t.val < 2 := lt_of_lt_of_eq t.isLt (show cfg0.N = 2 from N_0)

/-- Row `r` of block `t`, in the last layer's gradient. -/
def row (t : Fin cfg0.N) (r : Fin 512) : Fin 1024 := ⟨t.val * 512 + r.val, by have := lt2 t; omega⟩

/-- The same row, in the layers' stacked rows. -/
def srow (t : Fin cfg0.N) (r : Fin 512) : Fin 2048 := ⟨1024 + (row t r).val, by have := (row t r).isLt; omega⟩

/-- A stacked row of the last layer is that row of plane 1. -/
theorem srow_split (t : Fin cfg0.N) (r : Fin 512) (l : Fin 1024) (h : (srow t r).val / 1024 < 2) (h' : (srow t r).val % 1024 < 1024) :
    (ix3 ⟨(srow t r).val / 1024, h⟩ ⟨(srow t r).val % 1024, h'⟩ l : S2x1024x1024.Idx) = ix3 1 (row t r) l := by
  have e : (srow t r).val = 1024 + (row t r).val := rfl
  have lt := (row t r).isLt
  congr 1
  · exact Fin.ext (show (srow t r).val / 1024 = 1 by omega)
  · exact Fin.ext (show (srow t r).val % 1024 = (row t r).val by omega)

theorem iblk0_apply (c : Dev nD) (t : Fin cfg0.N) (r : Fin 512) (l : Fin 1024) :
    iblk m c 0 t (ix2 r l) = (args m c).w (ix3 1 (row t r) l) := by
  blk_simp [iblk, e0]
  rw [show (win0_0.blk t).view.emb (ix2 r l) = ix2 (srow t r) l by blk_ext [e0, row, srow]]
  unfold_abbrev_sides
  after_reads_at
  exact congrArg (m ((c : Thread nD τ).loc main_arg0)) (srow_split t r l _ _)

theorem iblk1_apply (c : Dev nD) (t : Fin cfg0.N) (r : Fin 512) (l : Fin 1024) :
    iblk m c 1 t (ix2 r l) = (args m c).m (ix3 1 (row t r) l) := by
  blk_simp [iblk, e1]
  rw [show (win0_1.blk t).view.emb (ix2 r l) = ix2 (srow t r) l by blk_ext [e1, row, srow]]
  unfold_abbrev_sides
  after_reads_at
  exact congrArg (m ((c : Thread nD τ).loc main_arg1)) (srow_split t r l _ _)

theorem iblk2_apply (c : Dev nD) (t : Fin cfg0.N) (r : Fin 512) (l : Fin 1024) :
    iblk m c 2 t (ix2 r l) = (args m c).v (ix3 1 (row t r) l) := by
  blk_simp [iblk, e2]
  rw [show (win0_2.blk t).view.emb (ix2 r l) = ix2 (srow t r) l by blk_ext [e2, row, srow]]
  unfold_abbrev_sides
  after_reads_at
  exact congrArg (m ((c : Thread nD τ).loc main_arg2)) (srow_split t r l _ _)

theorem iblk3_apply (c : Dev nD) (t : Fin cfg0.N) (r : Fin 512) (l : Fin 1024) :
    iblk m c 3 t (ix2 r l) = (args m c).p (ix2 (row t r) l) := by
  blk_simp [iblk, e3]
  rw [show (win0_3.blk t).view.emb (ix2 r l) = ix2 (row t r) l by blk_ext [e3, row]]
  unfold_abbrev_sides
  after_reads_at

theorem iblk4_apply (c : Dev nD) (t : Fin cfg0.N) (r : Fin 512) (l : Fin 1024) :
    iblk m c 4 t (ix2 r l) = (args m c).s (ix2 (row t r) l) := by
  blk_simp [iblk, e4]
  rw [show (win0_4.blk t).view.emb (ix2 r l) = ix2 (row t r) l by blk_ext [e4, row]]
  unfold_abbrev_sides
  after_reads_at

/-- The summed gradient of a point's rows. -/
def gB (c : Dev nD) (t : Fin cfg0.N) : FVec Ideal S512x1024 .f32 := k0_pay2 (iblk m c 3 t) (iblk m c 4 t)

theorem gB_apply (c : Dev nD) (t : Fin cfg0.N) (r : Fin 512) (l : Fin 1024) :
    gB m c t (ix2 r l) = (args m c).g (row t r) l := by
  unfold gB
  pointwise [k0_pay2]
  simp only [iblk3_apply, iblk4_apply]
  rfl

/-- The first moment of a point's rows. -/
def mB (c : Dev nD) (t : Fin cfg0.N) : FVec Ideal S512x1024 .f32 := k0_pay3 (iblk m c 3 t) (iblk m c 4 t) (iblk m c 1 t)

theorem mB_apply (c : Dev nD) (t : Fin cfg0.N) (r : Fin 512) (l : Fin 1024) :
    mB m c t (ix2 r l) = (args m c).m' (row t r) l := by
  unfold mB k0_pay3
  rw [← gB]
  pointwise
  simp only [iblk1_apply, gB_apply]
  rfl

/-- The second moment of a point's rows. -/
def vB (c : Dev nD) (t : Fin cfg0.N) : FVec Ideal S512x1024 .f32 := k0_pay4 (iblk m c 3 t) (iblk m c 4 t) (iblk m c 2 t)

theorem vB_apply (c : Dev nD) (t : Fin cfg0.N) (r : Fin 512) (l : Fin 1024) :
    vB m c t (ix2 r l) = (args m c).v' (row t r) l := by
  unfold vB k0_pay4
  rw [← gB]
  pointwise
  simp only [iblk2_apply, gB_apply]
  rfl

/-- The update of a point's rows. -/
def dB (c : Dev nD) (t : Fin cfg0.N) : FVec Ideal S512x1024 .f32 :=
  k0_pay1 (k0_pay5 (iblk m c 3 t) (iblk m c 4 t) (iblk m c 0 t) (iblk m c 1 t) (iblk m c 2 t)) (k0_pay6 (F := Ideal))

theorem dB_apply (c : Dev nD) (t : Fin cfg0.N) (r : Fin 512) (l : Fin 1024) :
    dB m c t (ix2 r l) = (args m c).d (row t r) l := by
  unfold dB k0_pay5
  rw [← mB, ← vB]
  pointwise [k0_pay1, k0_pay6]
  simp only [iblk0_apply, mB_apply, vB_apply]
  rfl

/-- The rows a point stores of the gradient, the update and the moments. -/
theorem g_eq (c : Dev nD) (t : Fin cfg0.N) :
    out0_5 (iblk m c 0 t) (iblk m c 1 t) (iblk m c 2 t) (iblk m c 3 t) (iblk m c 4 t) = gB m c t := by
  unfold out0_5
  frame_out <;> rfl
@[inherit_doc g_eq] theorem d_eq (c : Dev nD) (t : Fin cfg0.N) :
    out0_6 (iblk m c 0 t) (iblk m c 1 t) (iblk m c 2 t) (iblk m c 3 t) (iblk m c 4 t) = dB m c t := by
  unfold out0_6
  frame_out <;> rfl
@[inherit_doc g_eq] theorem m_eq (c : Dev nD) (t : Fin cfg0.N) :
    out0_7 (iblk m c 0 t) (iblk m c 1 t) (iblk m c 2 t) (iblk m c 3 t) (iblk m c 4 t) = mB m c t := by
  unfold out0_7
  frame_out <;> rfl
@[inherit_doc g_eq] theorem v_eq (c : Dev nD) (t : Fin cfg0.N) :
    out0_8 (iblk m c 0 t) (iblk m c 1 t) (iblk m c 2 t) (iblk m c 3 t) (iblk m c 4 t) = vB m c t := by
  unfold out0_8
  frame_out <;> rfl

/-- The last layer's rows of the gradient after the run. -/
theorem arr5 (c : Dev nD) (i : S2048x1024.Idx) (hi : 1024 ≤ (i 0).val) :
    (dats m 0 c).arrAt 5 cfg0.N i = tail (args m c).g i := by
  refine ((dats m 0 c).arrAt_apply_of_coversWhere 5 (tail (args m c).g) (P := fun i : S2048x1024.Idx => 2 ≤ (i 0).val / 512)
    (fun β => 2 ≤ β (0 : Fin 2)) (by decide +kernel) (fun t hf y => ?_) (fun j => Iff.rfl) i).trans (if_pos (by omega))
  blk_simp
  rw [after0_5, g_eq]
  obtain ⟨r, l, rfl⟩ : ∃ (r : Fin 512) (l : Fin 1024), y = (ix2 r l : S512x1024.Idx) := ⟨_, _, eq_ix2 y⟩
  rw [show (win0_5.blk t).view.emb (ix2 r l) = ix2 (srow t r) l by blk_ext [e5, row, srow]]
  exact (gB_apply m c t r l).trans (tail_at _ (row t r) l _).symm

/-- The last layer's rows of the update after the run. -/
theorem arr6 (c : Dev nD) (i : S2048x1024.Idx) (hi : 1024 ≤ (i 0).val) :
    (dats m 0 c).arrAt 6 cfg0.N i = tail (args m c).d i := by
  refine ((dats m 0 c).arrAt_apply_of_coversWhere 6 (tail (args m c).d) (P := fun i : S2048x1024.Idx => 2 ≤ (i 0).val / 512)
    (fun β => 2 ≤ β (0 : Fin 2)) (by decide +kernel) (fun t hf y => ?_) (fun j => Iff.rfl) i).trans (if_pos (by omega))
  blk_simp
  rw [after0_6, d_eq]
  obtain ⟨r, l, rfl⟩ : ∃ (r : Fin 512) (l : Fin 1024), y = (ix2 r l : S512x1024.Idx) := ⟨_, _, eq_ix2 y⟩
  rw [show (win0_6.blk t).view.emb (ix2 r l) = ix2 (srow t r) l by blk_ext [e6, row, srow]]
  exact (dB_apply m c t r l).trans (tail_at _ (row t r) l _).symm

/-- The last layer's rows of the first moment after the run. -/
theorem arr7 (c : Dev nD) (i : S2048x1024.Idx) (hi : 1024 ≤ (i 0).val) :
    (dats m 0 c).arrAt 7 cfg0.N i = tail (args m c).m' i := by
  refine ((dats m 0 c).arrAt_apply_of_coversWhere 7 (tail (args m c).m') (P := fun i : S2048x1024.Idx => 2 ≤ (i 0).val / 512)
    (fun β => 2 ≤ β (0 : Fin 2)) (by decide +kernel) (fun t hf y => ?_) (fun j => Iff.rfl) i).trans (if_pos (by omega))
  blk_simp
  rw [after0_7, m_eq]
  obtain ⟨r, l, rfl⟩ : ∃ (r : Fin 512) (l : Fin 1024), y = (ix2 r l : S512x1024.Idx) := ⟨_, _, eq_ix2 y⟩
  rw [show (win0_7.blk t).view.emb (ix2 r l) = ix2 (srow t r) l by blk_ext [e7, row, srow]]
  exact (mB_apply m c t r l).trans (tail_at _ (row t r) l _).symm

/-- The last layer's rows of the second moment after the run. -/
theorem arr8 (c : Dev nD) (i : S2048x1024.Idx) (hi : 1024 ≤ (i 0).val) :
    (dats m 0 c).arrAt 8 cfg0.N i = tail (args m c).v' i := by
  refine ((dats m 0 c).arrAt_apply_of_coversWhere 8 (tail (args m c).v') (P := fun i : S2048x1024.Idx => 2 ≤ (i 0).val / 512)
    (fun β => 2 ≤ β (0 : Fin 2)) (by decide +kernel) (fun t hf y => ?_) (fun j => Iff.rfl) i).trans (if_pos (by omega))
  blk_simp
  rw [after0_8, v_eq]
  obtain ⟨r, l, rfl⟩ : ∃ (r : Fin 512) (l : Fin 1024), y = (ix2 r l : S512x1024.Idx) := ⟨_, _, eq_ix2 y⟩
  rw [show (win0_8.blk t).view.emb (ix2 r l) = ix2 (srow t r) l by blk_ext [e8, row, srow]]
  exact (vB_apply m c t r l).trans (tail_at _ (row t r) l _).symm

end Cert.Adam

end
-- ==== Proof.Adam.Value.lean ====
/- The value claim of the optimiser's step on the last layer's input projection: both programs leave the summed gradient, the
   update and the two moments in the last layer's rows, whatever the arguments. -/
module

public import proofs.«01_k».proof.Defs
public import proofs.«01_k».proof.Proof.Adam.Blocks
public import proofs.«01_k».proof.Proof.Gen.Reference11Ideal.Run

@[expose] public section

noncomputable section

namespace Cert.Adam

open Cert.Reference11Ideal Cert.Reference11Ideal.Gen Idealize.ShloMosaic Idealize.ShloMosaic.TcCoe Idealize.SL.Sem

variable (m : (ℓ : Loc nD τ sig) → Buf (Elt Ideal) ℓ) (ρ : Dev nD → PrngReg)

/-- The arrays the reference is given. -/
def rargs (c : Dev nD) : Args where
  w := m ((c : Thread nD τ).loc main_arg0)
  m := m ((c : Thread nD τ).loc main_arg1)
  v := m ((c : Thread nD τ).loc main_arg2)
  p := m ((c : Thread nD τ).loc main_arg3)
  s := m ((c : Thread nD τ).loc main_arg4)

/-- Two arrays of 1024 rows stacked, at a row of the second. -/
theorem stacked_at (z x : FVec Ideal S1024x1024 .f32) (f : Fin 1024 → Fin 1024 → EReal) (hx : ∀ r l, x (ix2 r l) = f r l)
    (i : S2048x1024.Idx) (hi : 1024 ≤ (i 0).val) :
    concatenate S2048x1024 0 [⟨S1024x1024, z⟩, ⟨S1024x1024, x⟩] concatenates_S1024x1024_S1024x1024_S2048x1024_d0 i = tail f i := by
  obtain ⟨n, l, rfl⟩ : ∃ (n : Fin 2048) (l : Fin 1024), i = (ix2 n l : S2048x1024.Idx) := ⟨_, _, eq_ix2 i⟩
  have hn : 1024 ≤ n.val := hi
  obtain ⟨r, h, rfl⟩ : ∃ (r : Fin 1024) (h : 1024 + r.val < 2048), n = ⟨1024 + r.val, h⟩ :=
    ⟨⟨n.val - 1024, by omega⟩, show 1024 + (n.val - 1024) < 2048 by omega, Fin.ext (show n.val = 1024 + (n.val - 1024) by omega)⟩
  rw [tail_at]
  pointwise
  exact hx r l

/-- The reference run: the last layer's rows of the four results as functions of the arguments, the arguments kept. -/
theorem run : θ_run defs (onTc (τ := τ) (main (F := Ideal))) ⟨m, fun _ => 0, ρ⟩ fun r => ∀ c : Dev nD,
    (∀ i : S2048x1024.Idx, 1024 ≤ (i 0).val → (r.2.mem ((c.tc : Thread nD τ).loc main_v32) : FVec Ideal S2048x1024 .f32) i = tail (rargs m c).g i)
      ∧ (∀ i : S2048x1024.Idx, 1024 ≤ (i 0).val → (r.2.mem ((c.tc : Thread nD τ).loc main_v33) : FVec Ideal S2048x1024 .f32) i = tail (rargs m c).d i)
      ∧ (∀ i : S2048x1024.Idx, 1024 ≤ (i 0).val → (r.2.mem ((c.tc : Thread nD τ).loc main_v34) : FVec Ideal S2048x1024 .f32) i = tail (rargs m c).m' i)
      ∧ (∀ i : S2048x1024.Idx, 1024 ≤ (i 0).val → (r.2.mem ((c.tc : Thread nD τ).loc main_v35) : FVec Ideal S2048x1024 .f32) i = tail (rargs m c).v' i)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨fun i hi => ?_, fun i hi => ?_, fun i hi => ?_, fun i hi => ?_,
    (h c).2.2.2.2⟩) (Value.run m ρ)
  · refine (congrFun (h c).1 i).trans (stacked_at _ _ _ (fun r l => ?_) i hi)
    clear h
    pointwise
    rfl
  · refine (congrFun (h c).2.1 i).trans (stacked_at _ _ _ (fun r l => ?_) i hi)
    clear h
    pointwise
    rfl
  · refine (congrFun (h c).2.2.1 i).trans (stacked_at _ _ _ (fun r l => ?_) i hi)
    clear h
    pointwise
    rfl
  · refine (congrFun (h c).2.2.2.1 i).trans (stacked_at _ _ _ (fun r l => ?_) i hi)
    clear h
    pointwise
    rfl

end Cert.Adam

namespace Cert.Adam

open Idealize.ShloMosaic Idealize.SL.Sem

/-- The reference's frame: it changes no argument, and its signature has no semaphore. -/
theorem frameR [Cert.Reference11Ideal.Facts] : Cert.quiescent_Reference11Ideal := fun m ρ _ =>
  (θ_run _ _ _).mono (fun r h => ⟨fun c => (h c).2.2.2.2, sem_eq_zero_of_no_sems (by decide) r.2⟩)
    (Cert.Reference11Ideal.Value.run m ρ)

instance onFacts : Cert.On_last_layer.Facts where
  bcast_S_S2048x1024 := by decide

/-- The places the claim covers are the rows from 1024 on. -/
theorem covered_ge (i : Cert.On_last_layer.S2048x1024.Idx)
    (h : IntOp.cmpi .sge (BitVec.ofNat 32 (i 0).val) 1024#32 = 1#1) : 1024 ≤ (i 0).val :=
  (WordCmp.cmpi_sge_ofNat_eq_one_iff (w := 32) (a := (i 0).val) (b := 1024)
    (by have : (i 0).val < 2048 := (i 0).isLt; norm_num; omega) (by norm_num)).mp h

/-- The value claim of the optimiser's step. -/
theorem value [hK : Cert.Kernel11Ideal.Facts] [hR : Cert.Reference11Ideal.Facts] :
    Cert.algebraic_Kernel11Ideal_Reference11Ideal_on_last_layer := by
  intro m ρ m' ρ' _ hargs
  refine ⟨fun c => (tail (args m c).g : FVec Ideal _ .f32), fun c => (tail (args m c).d : FVec Ideal _ .f32),
    fun c => (tail (args m c).m' : FVec Ideal _ .f32), fun c => (tail (args m c).v' : FVec Ideal _ .f32), ?_, ?_⟩
  · refine (θ_run _ _ _).mono (fun r h c => ⟨fun i hi => ?_, fun i hi => ?_, fun i hi => ?_, fun i hi => ?_, (h c).2.2.2.2⟩)
      (Cert.Kernel11Ideal.Value.run_blocks m ρ)
    · exact (congrFun (h c).1 i).trans (arr5 m c i (covered_ge i hi))
    · exact (congrFun (h c).2.1 i).trans (arr6 m c i (covered_ge i hi))
    · exact (congrFun (h c).2.2.1 i).trans (arr7 m c i (covered_ge i hi))
    · exact (congrFun (h c).2.2.2.1 i).trans (arr8 m c i (covered_ge i hi))
  · have e : ∀ c, rargs m' c = args m c := fun c => by
      obtain ⟨a0, a1, a2, a3, a4⟩ := hargs c
      unfold rargs args
      rw [a0, a1, a2, a3, a4]
    refine (θ_run _ _ _).mono (fun r h c => ?_) (run m' ρ')
    have h := h c
    rw [e] at h
    exact ⟨fun i hi => h.1 i (covered_ge i hi), fun i hi => h.2.1 i (covered_ge i hi), fun i hi => h.2.2.1 i (covered_ge i hi),
      fun i hi => h.2.2.2.1 i (covered_ge i hi), h.2.2.2.2⟩

end Cert.Adam

end
-- ==== Proof.Slots.Blocks.lean ====
/- What each grid point of the sum over the devices' slots reads and adds, up to the sum after the run. -/
module

public import proofs.«01_k».proof.Proof.Gen.Kernel12Ideal.Value
public import Idealize.ShloMosaic.Lib.Pointwise
public import Idealize.ShloMosaic.Lib.StableHlo.ReadAt
public import Idealize.ShloMosaic.Lib.Pipeline.ValueKit

@[expose] public section

noncomputable section

namespace Cert.Slots

open Cert.Kernel12Ideal Cert.Kernel12Ideal.Gen Idealize.ShloMosaic Idealize.ShloMosaic.TcCoe Idealize.SL.Sem Idealize.ShloMosaic.StableHlo

/-- The sum over the four slots. -/
def total (a : FVec Ideal S4x2048x128 .f32) (n : Fin 2048) (l : Fin 128) : EReal := ∑ k : Fin 4, a (ix3 k n l)

variable (m : (ℓ : Loc nD τ sig) → Buf (Elt Ideal) ℓ)

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)

/-- The slots the kernel program is given. -/
def arg (c : Dev nD) : FVec Ideal S4x2048x128 .f32 := m ((c : Thread nD τ).loc main_arg0)

theorem lt4 (t : Fin cfg0.N) : t.val < 4 := lt_of_lt_of_eq t.isLt (show cfg0.N = 4 from N_0)

/-- Row `r` of block `t`. -/
def row (t : Fin cfg0.N) (r : Fin 512) : Fin 2048 := ⟨t.val * 512 + r.val, by have := lt4 t; omega⟩

theorem iblk0_apply (c : Dev nD) (t : Fin cfg0.N) (k : Fin 4) (r : Fin 512) (l : Fin 128) :
    iblk m c 0 t (ix3 k r l) = arg m c (ix3 k (row t r) l) := by
  blk_simp [iblk, e0]
  rw [show (win0_0.blk t).view.emb (ix3 k r l) = ix3 k (row t r) l by blk_ext [e0, row]]
  unfold_abbrev_sides
  after_reads_at
  rfl

/-- The sum at a point's rows. -/
def sB (c : Dev nD) (t : Fin cfg0.N) : FVec Ideal S512x128 .bf16 :=
  k0_pay1 (View.ld (iblk m c 0 t) r0_0) (View.ld (iblk m c 0 t) r0_1) (View.ld (iblk m c 0 t) r0_2) (View.ld (iblk m c 0 t) r0_3)

theorem sB_apply (c : Dev nD) (t : Fin cfg0.N) (r : Fin 512) (l : Fin 128) :
    sB m c t (ix2 r l) = total (arg m c) (row t r) l := by
  unfold sB total
  rw [Fin.sum_univ_four]
  pointwise [k0_pay1, r0_0, r0_1, r0_2, r0_3]
  simp only [iblk0_apply]

theorem s_eq (c : Dev nD) (t : Fin cfg0.N) : out0_1 (iblk m c 0 t) = sB m c t := by
  unfold out0_1
  frame_out <;> rfl

/-- The sum: every row block is flushed at its own point. -/
theorem arr1 (c : Dev nD) : (dats m 0 c).arrAt 1 cfg0.N = (fun i => total (arg m c) (i 0) (i 1) : FVec Ideal S2048x128 .bf16) := by
  refine (dats m 0 c).arrAt_eq_of_covers 1 _ (by decide +kernel) fun t hf y => ?_
  blk_simp
  rw [after0_1]
  obtain ⟨r, l, rfl⟩ : ∃ (r : Fin 512) (l : Fin 128), y = (ix2 r l : S512x128.Idx) := ⟨_, _, eq_ix2 y⟩
  rw [show (win0_1.blk t).view.emb (ix2 r l) = ix2 (row t r) l by blk_ext [e1, row], s_eq]
  exact sB_apply m c t r l

end Cert.Slots

end
-- ==== Proof.Slots.Value.lean ====
/- The value claim of the sum over the devices' slots: both programs leave the sum of the four, whatever they hold. -/
module

public import proofs.«01_k».proof.Defs
public import proofs.«01_k».proof.Proof.Slots.Blocks
public import proofs.«01_k».proof.Proof.Gen.Reference12Ideal.Run

@[expose] public section

noncomputable section

namespace Cert.Slots

open Cert.Reference12Ideal Cert.Reference12Ideal.Gen Idealize.ShloMosaic Idealize.ShloMosaic.TcCoe Idealize.SL.Sem

variable (m : (ℓ : Loc nD τ sig) → Buf (Elt Ideal) ℓ) (ρ : Dev nD → PrngReg)

/-- The reference's sum at a place. -/
theorem ref_at (a : FVec Ideal S4x2048x128 .f32) (n : Fin 2048) (l : Fin 128) :
    (truncf .bf16 (Host.reduceAdd a (constant S_ .f32 0x00000000#32) reducesTo_S4x2048x128_S2048x128_d0 h_S_) bitsLt_bf16_f32
      : FVec Ideal S2048x128 .bf16) (ix2 n l) = total a n l := by
  unfold total
  pointwise

end Cert.Slots

namespace Cert.Slots

open Idealize.ShloMosaic Idealize.SL.Sem

/-- The reference's frame: it changes no argument, and its signature has no semaphore. -/
theorem frameR [Cert.Reference12Ideal.Facts] : Cert.quiescent_Reference12Ideal := fun m ρ _ =>
  (θ_run _ _ _).mono (fun r h => ⟨fun c => (h c).2, sem_eq_zero_of_no_sems (by decide) r.2⟩)
    (Cert.Reference12Ideal.Value.run m ρ)

/-- The value claim. -/
theorem value [hK : Cert.Kernel12Ideal.Facts] [hR : Cert.Reference12Ideal.Facts] :
    Cert.algebraic_Kernel12Ideal_Reference12Ideal := by
  intro m ρ m' ρ' _ hargs
  refine ⟨fun c => (fun i => total (arg m c) (i 0) (i 1) : FVec Ideal _ .bf16), ?_, ?_⟩
  · exact (θ_run _ _ _).mono (fun r h c => ⟨(h c).1.trans (arr1 m c), (h c).2⟩) (Cert.Kernel12Ideal.Value.run_blocks m ρ)
  · refine (θ_run _ _ _).mono (fun r h c => ⟨(h c).1.trans (funext fun i => ?_), (h c).2⟩) (Cert.Reference12Ideal.Value.run m' ρ')
    rw [eq_ix2 i]
    refine (ref_at _ (i 0) (i 1)).trans ?_
    rw [hargs c]
    rfl

end Cert.Slots

end
-- ==== Proof.Rnn.Scan.lean ====
/- The first-order recurrence `h ↦ a h + u` run over a stretch of steps, and the doubling by which a block of rows gets
   all its stretches at once: a row keeps the composition of the last `d` steps as one factor and one addend, and takes the
   composition of the `d` steps before those from the row `d` above. -/
module

public import Idealize.ShloMosaic.Lib.Pointwise

@[expose] public section

noncomputable section

namespace Cert.Rnn

/-- `n` steps of the recurrence from step `s` on, from the state `h`. -/
def run (a u : ℕ → EReal) (s : ℕ) : ℕ → EReal → EReal
  | 0, h => h
  | n + 1, h => a (s + n) * run a u s n h + u (s + n)

theorem run_add (a u : ℕ → EReal) (s n : ℕ) (h : EReal) : ∀ k, run a u s (n + k) h = run a u (s + n) k (run a u s n h)
  | 0 => rfl
  | k + 1 => by
    show a (s + (n + k)) * run a u s (n + k) h + u (s + (n + k)) = a (s + n + k) * run a u (s + n) k _ + u (s + n + k)
    rw [run_add a u s n h k, Nat.add_assoc]

theorem run_shift (a u : ℕ → EReal) (b s : ℕ) (h : EReal) : ∀ k,
    run (fun n => a (b + n)) (fun n => u (b + n)) s k h = run a u (b + s) k h
  | 0 => rfl
  | k + 1 => by
    show a (b + (s + k)) * _ + u (b + (s + k)) = a (b + s + k) * _ + u (b + s + k)
    rw [run_shift a u b s h k, Nat.add_assoc]

/-- The value `d` rows above, `z` where the block has no such row. -/
def sh (d : ℕ) (z : EReal) (f : ℕ → EReal) (l : ℕ) : EReal := if d ≤ l then f (l - d) else z

/-- Factor `A` and addend `U` of each of the block's `N` rows compose the last `d` steps, or as many as the block has. -/
def Win (N : ℕ) (a u : ℕ → EReal) (d : ℕ) (A U : ℕ → EReal) : Prop :=
  ∀ l, l < N → 0 ≤ A l ∧ A l ≠ ⊤ ∧ ∀ h, A l * h + U l = run a u (l + 1 - d) (min d (l + 1)) h

theorem Win.congr {N : ℕ} {a u : ℕ → EReal} {d : ℕ} {A U A' U' : ℕ → EReal} (w : Win N a u d A U) (hA : ∀ l, l < N → A' l = A l)
    (hU : ∀ l, l < N → U' l = U l) : Win N a u d A' U' := fun l hl => by
  rw [hA l hl, hU l hl]; exact w l hl

theorem Win.one {N : ℕ} {a u : ℕ → EReal} (h : ∀ l, l < N → 0 ≤ a l ∧ a l ≠ ⊤) : Win N a u 1 a u := fun l hl => by
  refine ⟨(h l hl).1, (h l hl).2, fun x => ?_⟩
  rw [show l + 1 - 1 = l from rfl, Nat.min_eq_left (Nat.succ_le_succ (Nat.zero_le l))]
  rfl

theorem mul_ne_top {x y : EReal} (hx : 0 ≤ x) (hx' : x ≠ ⊤) (hy : 0 ≤ y) (hy' : y ≠ ⊤) : x * y ≠ ⊤ := by
  lift x to ℝ using ⟨hx', fun h => by simp [h] at hx⟩
  lift y to ℝ using ⟨hy', fun h => by simp [h] at hy⟩
  rw [← EReal.coe_mul]
  exact EReal.coe_ne_top _

theorem Win.double {N : ℕ} {a u : ℕ → EReal} {d : ℕ} {A U : ℕ → EReal} (w : Win N a u d A U) :
    Win N a u (2 * d) (fun l => A l * sh d 1 A l) (fun l => U l + A l * sh d 0 U l) := fun l hl => by
  obtain ⟨h0, h1, hw⟩ := w l hl
  by_cases hd : d ≤ l
  · obtain ⟨k0, k1, kw⟩ := w (l - d) (by omega)
    simp only [sh, if_pos hd]
    refine ⟨mul_nonneg h0 k0, mul_ne_top h0 h1 k0 k1, fun h => ?_⟩
    rw [add_comm (U l), ← add_assoc, mul_assoc, ← EReal.left_distrib_of_nonneg_of_ne_top h0 h1, kw h, hw,
      Nat.min_eq_left (show d ≤ l + 1 by omega)]
    rw [show l + 1 - d = l + 1 - 2 * d + min d (l - d + 1) by omega, show l - d + 1 - d = l + 1 - 2 * d by omega,
      ← run_add, show min d (l - d + 1) + d = min (2 * d) (l + 1) by omega]
  · simp only [sh, if_neg hd, mul_one, mul_zero, add_zero]
    refine ⟨h0, h1, fun h => ?_⟩
    rw [hw h, show l + 1 - d = l + 1 - 2 * d by omega, show min d (l + 1) = min (2 * d) (l + 1) by omega]

/-- A row that composes as many steps as the block has composes the block's steps up to its own. -/
theorem Win.all {N : ℕ} {a u : ℕ → EReal} {A U : ℕ → EReal} (w : Win N a u N A U) (l : ℕ) (hl : l < N) (h : EReal) :
    A l * h + U l = run a u 0 (l + 1) h := by
  rw [(w l hl).2.2 h, show l + 1 - N = 0 by omega, show min N (l + 1) = l + 1 by omega]

end Cert.Rnn

end
-- ==== Proof.Rnn.Shift.lean ====
/- Rows of a block taken from `d` rows above, the way the kernel writes them: a rotation with the wrapped rows masked out
   for the short distances, a concatenation for the long ones. -/
module

public import proofs.«01_k».proof.Proof.Rnn.Scan
public import proofs.«01_k».proof.Proof.Gen.Kernel6Ideal.Skeleton

@[expose] public section

noncomputable section

namespace Cert.Rnn

open Cert.Kernel6Ideal Cert.Kernel6Ideal.Gen

open Idealize.ShloMosaic

/-- Column `j` of a block of 512 rows. -/
def colf (v : FVec Ideal S512x128 .f32) (j : Fin 128) (l : ℕ) : EReal := if h : l < 512 then v (ix2 ⟨l, h⟩ j) else 0

theorem colf_at (v : FVec Ideal S512x128 .f32) (j : Fin 128) (l : Fin 512) : colf v j l.val = v (ix2 l j) := by
  unfold colf; rw [dif_pos l.isLt]

/-- The block whose rows stand `d` rows above, with `z` in the first `d` rows. -/
def shV (d : ℕ) (z : EReal) (v : FVec Ideal S512x128 .f32) : FVec Ideal S512x128 .f32 :=
  fun i => sh d z (colf v ⟨(i 1).val, (i 1).isLt⟩) (i 0).val

theorem shV_apply (d : ℕ) (z : EReal) (v : FVec Ideal S512x128 .f32) (l : Fin 512) (j : Fin 128) :
    shV d z v (ix2 l j) = sh d z (colf v j) l.val := rfl

theorem sge_word (l : Fin 512) (d : ℕ) (hd : d < 512) :
    (Scalar.cmpi .sge (BitVec.ofNat 32 l.val) (BitVec.ofNat 32 d) : BitVec 1) = if d ≤ l.val then 1#1 else 0#1 := by
  have hr := l.isLt
  have ht1 : (BitVec.ofNat 32 l.val).toInt = (l.val : ℤ) := by
    rw [BitVec.toInt_eq_toNat_of_lt (by rw [BitVec.toNat_ofNat]; omega), BitVec.toNat_ofNat]; omega
  have ht2 : (BitVec.ofNat 32 d).toInt = (d : ℤ) := by
    rw [BitVec.toInt_eq_toNat_of_lt (by rw [BitVec.toNat_ofNat]; omega), BitVec.toNat_ofNat]; omega
  unfold Scalar.cmpi IntOp.cmpi
  simp only [BitVec.sle, BitVec.slt, ht1, ht2]
  by_cases h : d ≤ l.val <;> simp [h]

theorem rot (d : ℕ) (hd : d < 512) (v : FVec Ideal S512x128 .f32) (z : Ideal .f32) (hi) (hr) :
    select (cmpi .sge (iota .tc S512x128 32 [0] hi) (broadcast S512x128 (BitVec.ofNat 32 d)))
      (dynamicRotate 0 (BitVec.ofNat 32 d) none v hr) (broadcast S512x128 z) = shV d z v := by
  funext i
  obtain ⟨l, j, rfl⟩ : ∃ (l : Fin 512) (j : Fin 128), i = (ix2 l j : S512x128.Idx) := ⟨_, _, eq_ix2 i⟩
  rw [shV_apply]
  pointwise
  have h := sge_word l d hd
  change IntOp.cmpi .sge (BitVec.ofNat 32 l.val) (BitVec.ofNat 32 d) = _ at h
  have hw : (BitVec.ofNat 32 d).toNat = d := by rw [BitVec.toNat_ofNat]; omega
  have hl := l.isLt
  rw [h]
  unfold sh
  by_cases hdl : d ≤ l.val
  · rw [if_pos hdl, if_pos hdl]
    unfold colf
    rw [dif_pos (by omega)]
    show v (ix2 _ j) = v (ix2 _ j)
    refine congrArg (fun q => v (ix2 q j)) (Fin.ext ?_)
    show (l.val + 512 - (BitVec.ofNat 32 d).toNat % 512) % 512 = l.val - d
    rw [hw]; omega
  · rw [if_neg hdl, if_neg hdl]
    rfl

theorem rot_1 (v : FVec Ideal S512x128 .f32) (z : Ideal .f32) (hi) (hr) :
    select (cmpi .sge (iota .tc S512x128 32 [0] hi) (broadcast S512x128 1#32))
      (dynamicRotate 0 1#32 none v hr) (broadcast S512x128 z) = shV 1 z v := rot 1 (by decide) v z hi hr
theorem rot_2 (v : FVec Ideal S512x128 .f32) (z : Ideal .f32) (hi) (hr) :
    select (cmpi .sge (iota .tc S512x128 32 [0] hi) (broadcast S512x128 2#32))
      (dynamicRotate 0 2#32 none v hr) (broadcast S512x128 z) = shV 2 z v := rot 2 (by decide) v z hi hr
theorem rot_4 (v : FVec Ideal S512x128 .f32) (z : Ideal .f32) (hi) (hr) :
    select (cmpi .sge (iota .tc S512x128 32 [0] hi) (broadcast S512x128 4#32))
      (dynamicRotate 0 4#32 none v hr) (broadcast S512x128 z) = shV 4 z v := rot 4 (by decide) v z hi hr

theorem sh_of_dite (d : ℕ) (v : FVec Ideal S512x128 .f32) (z : EReal) (l : Fin 512) (j : Fin 128)
    (h : ∀ h : ¬l.val < d, l.val - d < 512) :
    (if h' : l.val < d then z else v (ix2 ⟨l.val - d, h h'⟩ j)) = sh d z (colf v j) l.val := by
  unfold sh colf
  by_cases hd : l.val < d
  · rw [dif_pos hd, if_neg (by omega)]
  · rw [dif_neg hd, if_pos (by omega), dif_pos (h hd)]

theorem cat_8 (v : FVec Ideal S512x128 .f32) (z : Ideal .f32) (hs) (hc) :
    concatenate S512x128 0 [⟨S8x128, broadcast S8x128 z⟩, ⟨S504x128, extractStridedSlice S504x128 ![0, 0] v hs⟩] hc
      = shV 8 z v := by
  funext i
  obtain ⟨l, j, rfl⟩ : ∃ (l : Fin 512) (j : Fin 128), i = (ix2 l j : S512x128.Idx) := ⟨_, _, eq_ix2 i⟩
  rw [shV_apply]
  pointwise
  exact sh_of_dite 8 v z l j _

theorem cat_16 (v : FVec Ideal S512x128 .f32) (z : Ideal .f32) (hs) (hc) :
    concatenate S512x128 0 [⟨S16x128, broadcast S16x128 z⟩, ⟨S496x128, extractStridedSlice S496x128 ![0, 0] v hs⟩] hc
      = shV 16 z v := by
  funext i
  obtain ⟨l, j, rfl⟩ : ∃ (l : Fin 512) (j : Fin 128), i = (ix2 l j : S512x128.Idx) := ⟨_, _, eq_ix2 i⟩
  rw [shV_apply]
  pointwise
  exact sh_of_dite 16 v z l j _

theorem cat_32 (v : FVec Ideal S512x128 .f32) (z : Ideal .f32) (hs) (hc) :
    concatenate S512x128 0 [⟨S32x128, broadcast S32x128 z⟩, ⟨S480x128, extractStridedSlice S480x128 ![0, 0] v hs⟩] hc
      = shV 32 z v := by
  funext i
  obtain ⟨l, j, rfl⟩ : ∃ (l : Fin 512) (j : Fin 128), i = (ix2 l j : S512x128.Idx) := ⟨_, _, eq_ix2 i⟩
  rw [shV_apply]
  pointwise
  exact sh_of_dite 32 v z l j _

theorem cat_64 (v : FVec Ideal S512x128 .f32) (z : Ideal .f32) (hs) (hc) :
    concatenate S512x128 0 [⟨S64x128, broadcast S64x128 z⟩, ⟨S448x128, extractStridedSlice S448x128 ![0, 0] v hs⟩] hc
      = shV 64 z v := by
  funext i
  obtain ⟨l, j, rfl⟩ : ∃ (l : Fin 512) (j : Fin 128), i = (ix2 l j : S512x128.Idx) := ⟨_, _, eq_ix2 i⟩
  rw [shV_apply]
  pointwise
  exact sh_of_dite 64 v z l j _

theorem cat_128 (v : FVec Ideal S512x128 .f32) (z : Ideal .f32) (hs) (hc) :
    concatenate S512x128 0 [⟨S128x128, broadcast S128x128 z⟩, ⟨S384x128, extractStridedSlice S384x128 ![0, 0] v hs⟩] hc
      = shV 128 z v := by
  funext i
  obtain ⟨l, j, rfl⟩ : ∃ (l : Fin 512) (j : Fin 128), i = (ix2 l j : S512x128.Idx) := ⟨_, _, eq_ix2 i⟩
  rw [shV_apply]
  pointwise
  exact sh_of_dite 128 v z l j _

theorem cat_256 (v : FVec Ideal S512x128 .f32) (z : Ideal .f32) (hs) (hc) :
    concatenate S512x128 0 [⟨S256x128, broadcast S256x128 z⟩, ⟨S256x128, extractStridedSlice S256x128 ![0, 0] v hs⟩] hc
      = shV 256 z v := by
  funext i
  obtain ⟨l, j, rfl⟩ : ∃ (l : Fin 512) (j : Fin 128), i = (ix2 l j : S512x128.Idx) := ⟨_, _, eq_ix2 i⟩
  rw [shV_apply]
  pointwise
  exact sh_of_dite 256 v z l j _

/-- The step of the doubling: the factor and the addend of `2 d` steps from those of `d`. -/
def stA (d : ℕ) (A : FVec Ideal S512x128 .f32) : FVec Ideal S512x128 .f32 := mulf A (shV d 1 A)
@[inherit_doc stA] def stU (d : ℕ) (A U : FVec Ideal S512x128 .f32) : FVec Ideal S512x128 .f32 := addf U (mulf A (shV d 0 U))

/-- Factor and addend after `n` doublings. -/
def dbl (a u : FVec Ideal S512x128 .f32) : ℕ → FVec Ideal S512x128 .f32 × FVec Ideal S512x128 .f32
  | 0 => (a, u)
  | n + 1 => (stA (2 ^ n) (dbl a u n).1, stU (2 ^ n) (dbl a u n).1 (dbl a u n).2)

/-- The block of states, from the state `h` before the block. -/
def scanV (a u : FVec Ideal S512x128 .f32) (h : FVec Ideal S1x128 .f32) : FVec Ideal S512x128 .f32 :=
  addf (mulf (dbl a u 9).1 (broadcastTo S512x128 h broadcasts_S1x128_S512x128)) (dbl a u 9).2

theorem dbl_win (a u : FVec Ideal S512x128 .f32) (j : Fin 128) (h : ∀ l : Fin 512, 0 ≤ a (ix2 l j) ∧ a (ix2 l j) ≠ (⊤ : EReal)) :
    ∀ n, Win 512 (colf a j) (colf u j) (2 ^ n) (colf (dbl a u n).1 j) (colf (dbl a u n).2 j)
  | 0 => Win.one fun l hl => by
    rw [colf_at a j ⟨l, hl⟩]; exact h ⟨l, hl⟩
  | n + 1 => by
    rw [pow_succ, mul_comm (2 ^ n) 2]
    refine (dbl_win a u j h n).double.congr (fun l hl => ?_) (fun l hl => ?_)
    · rw [colf_at _ j ⟨l, hl⟩, colf_at (dbl a u n).1 j ⟨l, hl⟩]; rfl
    · rw [colf_at _ j ⟨l, hl⟩, colf_at (dbl a u n).1 j ⟨l, hl⟩, colf_at (dbl a u n).2 j ⟨l, hl⟩]; rfl

theorem scanV_apply (a u : FVec Ideal S512x128 .f32) (h : FVec Ideal S1x128 .f32) (j : Fin 128)
    (ha : ∀ l : Fin 512, 0 ≤ a (ix2 l j) ∧ a (ix2 l j) ≠ (⊤ : EReal)) (l : Fin 512) :
    scanV a u h (ix2 l j) = run (colf a j) (colf u j) 0 (l.val + 1) (h (ix2 0 j)) := by
  rw [← (dbl_win a u j ha 9).all l.val l.isLt, colf_at _ j l, colf_at _ j l]
  unfold scanV
  pointwise

end Cert.Rnn

end
-- ==== Proof.Rnn.Math.lean ====
/- Facts about extended reals used by the recurrence: the kernel's form of `-(exp (2 z) - 1)`, and the sign and size of a
   logistic gate, of a softplus and of the decay they make. -/
module

public import Idealize.ShloMosaic.Lib.Pointwise

@[expose] public section

noncomputable section

namespace Cert.Rnn

open Idealize.ShloMosaic

theorem two_word : Ideal.ofBits .f32 0x40000000#32 = ((2 : ℝ) : EReal) := by
  simp [Ideal.ofBits, Ideal.ieee, -EReal.coe_mul]; norm_num

theorem half_word : Ideal.ofBits .f32 0x3F000000#32 = ((1 / 2 : ℝ) : EReal) := by
  simp [Ideal.ofBits, Ideal.ieee, -EReal.coe_mul]; norm_num

theorem eight_word : Ideal.ofBits .f32 0xC1000000#32 = ((-8 : ℝ) : EReal) := by
  simp [Ideal.ofBits, Ideal.ieee, -EReal.coe_mul]; norm_num

theorem tanh_exp (z : ℝ) : -Real.tanh z * (Real.exp (2 * z) + 1) = -(Real.exp (2 * z) - 1) := by
  have h1 : Real.exp z ≠ 0 := (Real.exp_pos z).ne'
  have h2 : Real.exp z + (Real.exp z)⁻¹ ≠ 0 := by positivity
  have h3 : Real.exp z ^ 2 + 1 ≠ 0 := by positivity
  rw [Real.tanh_eq_sinh_div_cosh, Real.sinh_eq, Real.cosh_eq, show 2 * z = z + z by ring, Real.exp_add, Real.exp_neg]
  field_simp

/-- `-tanh z · (exp (2 z) + 1)` is `-(exp (2 z) - 1)`, at the infinities too. -/
theorem drop_eq (z : EReal) : (0 - Ideal.tanh (Ideal.ofBits .f32 0x3F000000#32 * (Ideal.ofBits .f32 0x40000000#32 * z)))
    * (Ideal.exp (Ideal.ofBits .f32 0x40000000#32 * z) + 1) = -Ideal.expm1 (Ideal.ofBits .f32 0x40000000#32 * z) := by
  rw [two_word, half_word, ← mul_assoc, ← EReal.coe_mul, show (1 / 2 * 2 : ℝ) = 1 by norm_num, EReal.coe_one, one_mul, zero_sub]
  unfold Ideal.expm1
  induction z with
  | bot =>
    rw [EReal.coe_mul_bot_of_pos (by norm_num)]
    show -(-1 : EReal) * (0 + 1) = -(0 - 1)
    simp
  | top =>
    rw [EReal.coe_mul_top_of_pos (by norm_num)]
    show -(1 : EReal) * (⊤ + 1) = -(⊤ - 1)
    have h1 : (⊤ : EReal) + 1 = ⊤ := EReal.top_add_of_ne_bot (by decide)
    have h2 : (⊤ : EReal) - 1 = ⊤ := by rw [sub_eq_add_neg]; exact EReal.top_add_of_ne_bot (by decide)
    rw [h1, h2, EReal.neg_mul, one_mul]
  | coe z =>
    rw [← EReal.coe_mul]
    show -((Real.tanh z : ℝ) : EReal) * (((Real.exp (2 * z) : ℝ) : EReal) + 1) = -(((Real.exp (2 * z) : ℝ) : EReal) - 1)
    rw [← EReal.coe_one, ← EReal.coe_add, ← EReal.coe_sub, ← EReal.coe_neg, ← EReal.coe_neg, ← EReal.coe_mul, tanh_exp]

theorem exp_nonneg (x : EReal) : 0 ≤ Ideal.exp x := by
  induction x with
  | bot => exact le_refl _
  | top => exact le_top
  | coe r => show (0 : EReal) ≤ ((Real.exp r : ℝ) : EReal); exact_mod_cast (Real.exp_pos r).le

/-- The exponential of something not above zero is no infinity. -/
theorem exp_ne_top {x : EReal} (h : x ≤ 0) : Ideal.exp x ≠ ⊤ := by
  induction x with
  | bot => exact EReal.zero_ne_top
  | top => simp at h
  | coe r => exact EReal.coe_ne_top _

/-- A logistic gate is not negative. -/
theorem gate_nonneg (y : EReal) : 0 ≤ Ideal.div 1 (1 + Ideal.exp y) := by
  have h : (0 : EReal) < 1 + Ideal.exp y := lt_of_lt_of_le zero_lt_one (le_add_of_nonneg_right (exp_nonneg y))
  unfold Ideal.div
  rw [if_neg h.ne', one_mul]
  exact EReal.inv_nonneg_of_nonneg h.le

theorem log_nonneg {x : EReal} (h : 1 ≤ x) : 0 ≤ Ideal.log x := by
  induction x with
  | bot => exact absurd h (by decide)
  | top => exact le_top
  | coe r =>
    have hr : (1 : ℝ) ≤ r := by exact_mod_cast h
    show (0 : EReal) ≤ if r ≤ 0 then ⊥ else ((Real.log r : ℝ) : EReal)
    rw [if_neg (by linarith)]
    exact_mod_cast Real.log_nonneg hr

/-- The softplus. -/
def softplus (z : EReal) : EReal := max z 0 + Ideal.log (1 + Ideal.exp (0 - max z (-z)))

theorem softplus_nonneg (z : EReal) : 0 ≤ softplus z :=
  add_nonneg (le_max_right _ _) (log_nonneg (le_add_of_nonneg_right (exp_nonneg _)))

theorem decay_le {g s : EReal} (hg : 0 ≤ g) (hs : 0 ≤ s) : Ideal.ofBits .f32 0xC1000000#32 * g * s ≤ 0 := by
  rw [eight_word, EReal.coe_neg, EReal.neg_mul, EReal.neg_mul]
  exact EReal.neg_le_zero.mpr (mul_nonneg (mul_nonneg (by norm_num) hg) hs)

end Cert.Rnn

end
-- ==== Proof.Rnn.Spec.lean ====
/- What the recurrent layer's forward call computes, in plain terms: a convolution of four taps over the rows of each
   column, two logistic gates, the decay they make, and the state that the decay carries from row to row. Columns are named
   by head and lane. -/
module

public import proofs.«01_k».proof.Proof.Rnn.Shift
public import proofs.«01_k».proof.Proof.Rnn.Math

@[expose] public section

noncomputable section

namespace Cert.Rnn

open Cert.Kernel6Ideal Idealize.ShloMosaic

/-- The nine argument arrays. -/
structure Args where
  x : FVec Ideal S1x4096x1024 .f32
  g : FVec Ideal S1x4096x1024 .f32
  cw : FVec Ideal S4x1024 .f32
  cb : FVec Ideal S1024 .f32
  aw : FVec Ideal S8x128x128 .f32
  ab : FVec Ideal S8x128 .f32
  xw : FVec Ideal S8x128x128 .f32
  xb : FVec Ideal S8x128 .f32
  lam : FVec Ideal S1024 .f32

/-- Lane `o` of head `h`, as a column. -/
def hcol (h : Fin 8) (o : Fin 128) : Fin 1024 := ⟨h.val * 128 + o.val, by omega⟩

variable (A : Args)

/-- The input at position `n`, counted from sixteen rows before the sequence's first, where it is zero. -/
def Args.xs (h : Fin 8) (o : Fin 128) (n : ℕ) : EReal :=
  if hn : 16 ≤ n ∧ n - 16 < 4096 then A.x (ix3 0 ⟨n - 16, hn.2⟩ (hcol h o)) else 0

/-- The convolution at row `n`. -/
def Args.xc (h : Fin 8) (o : Fin 128) (n : ℕ) : EReal :=
  A.cb (ix1 (hcol h o)) + A.cw (ix2 3 (hcol h o)) * A.xs h o (n + 16) + A.cw (ix2 0 (hcol h o)) * A.xs h o (n + 13)
    + A.cw (ix2 1 (hcol h o)) * A.xs h o (n + 14) + A.cw (ix2 2 (hcol h o)) * A.xs h o (n + 15)

/-- A gate at row `n`. -/
def Args.gate (w : FVec Ideal S8x128x128 .f32) (b : FVec Ideal S8x128 .f32) (h : Fin 8) (o : Fin 128) (n : ℕ) : EReal :=
  Ideal.div 1 (1 + Ideal.exp (0 - ((∑ k : Fin 128, A.xc h k n * w (ix3 h k o)) + b (ix2 h o))))

/-- The decay's logarithm. -/
def Args.loga (h : Fin 8) (o : Fin 128) (n : ℕ) : EReal :=
  Ideal.ofBits .f32 0xC1000000#32 * A.gate A.aw A.ab h o n * softplus (0 - A.lam (ix1 (hcol h o)))

/-- The decay. -/
def Args.a (h : Fin 8) (o : Fin 128) (n : ℕ) : EReal := Ideal.exp (A.loga h o n)

/-- What a row adds to the state. -/
def Args.u (h : Fin 8) (o : Fin 128) (n : ℕ) : EReal :=
  Ideal.sqrt (-Ideal.expm1 (Ideal.ofBits .f32 0x40000000#32 * A.loga h o n)) * (A.gate A.xw A.xb h o n * A.xc h o n)

/-- The state before row `n`. -/
def Args.st (h : Fin 8) (o : Fin 128) (n : ℕ) : EReal := run (A.a h o) (A.u h o) 0 n 0

/-- The gated output at row `n`, from the state after it. -/
def Args.y (h : Fin 8) (o : Fin 128) (n : Fin 4096) : EReal :=
  A.st h o (n.val + 1) * (A.g (ix3 0 n (hcol h o)) * Ideal.div 1 (1 + Ideal.exp (0 - A.g (ix3 0 n (hcol h o)))))

theorem Args.a_range (h : Fin 8) (o : Fin 128) (n : ℕ) : 0 ≤ A.a h o n ∧ A.a h o n ≠ ⊤ :=
  ⟨exp_nonneg _, exp_ne_top (decay_le (gate_nonneg _) (softplus_nonneg _))⟩

theorem Args.st_succ (h : Fin 8) (o : Fin 128) (n : ℕ) : A.st h o (n + 1) = A.a h o n * A.st h o n + A.u h o n := by
  show A.a h o (0 + n) * run (A.a h o) (A.u h o) 0 n 0 + A.u h o (0 + n) = _
  rw [Nat.zero_add]
  rfl

/-- The states of a block, from the state before it. -/
theorem Args.st_block (h : Fin 8) (o : Fin 128) (b k : ℕ) :
    run (fun n => A.a h o (b + n)) (fun n => A.u h o (b + n)) 0 k (A.st h o b) = A.st h o (b + k) := by
  rw [run_shift]
  unfold Args.st
  rw [run_add, Nat.zero_add, Nat.add_zero]

end Cert.Rnn

end
-- ==== Proof.Rnn.Ref.lean ====
/- What the recurrent layer's reference computes before its loop: the convolution, the two gates, the decay and what each row
   adds to the state, as whole arrays, and each at a position. -/
module

public import proofs.«01_k».proof.Defs
public import proofs.«01_k».proof.Proof.Rnn.Spec
public import proofs.«01_k».proof.Proof.Gen.Reference6Ideal.Run

@[expose] public section

noncomputable section

namespace Cert.Rnn

open Cert.Reference6Ideal Cert.Reference6Ideal.Gen Cert.Reference6Ideal.Value Idealize.ShloMosaic Idealize.ShloMosaic.TcCoe Idealize.SL.Sem Idealize.ShloMosaic.StableHlo

/-- A vector of one entry per column, repeated on every row. -/
def overRows (v : FVec Ideal S1024 .f32) : FVec Ideal S1x4096x1024 .f32 :=
  broadcastInDim S1x4096x1024 ![0, 1, 2] bcast_S1x1x1024_S1x4096x1024_0_1_2 (broadcastInDim S1x1x1024 ![2] bcast_S1024_S1x1x1024_2 v)

/-- The input with three rows of zeros before it. -/
def padded (x : FVec Ideal S1x4096x1024 .f32) : FVec Ideal S1x4099x1024 .f32 :=
  concatenate S1x4099x1024 1 [⟨S1x3x1024, broadcastInDim S1x3x1024 ![] bcast_S_S1x3x1024 (constant S_ .f32 0x00000000#32)⟩,
    ⟨S1x4096x1024, x⟩] concatenates_S1x3x1024_S1x4096x1024_S1x4099x1024_d1

/-- The convolution of every row. -/
def convR (x : FVec Ideal S1x4096x1024 .f32) (cw : FVec Ideal S4x1024 .f32) (cb : FVec Ideal S1024 .f32) :
    FVec Ideal S1x4096x1024 .f32 :=
  addf (addf (addf (addf
    (mulf (overRows (shapeCast S1024 (extractStridedSlice S1x1024 ![0, 0] cw slices_S4x1024_S1x1024_0_0) shapeCasts_S1x1024_S1024))
      (extractStridedSlice S1x4096x1024 ![0, 0, 0] (padded x) slices_S1x4099x1024_S1x4096x1024_0_0_0))
    (mulf (overRows (shapeCast S1024 (extractStridedSlice S1x1024 ![1, 0] cw slices_S4x1024_S1x1024_1_0) shapeCasts_S1x1024_S1024))
      (extractStridedSlice S1x4096x1024 ![0, 1, 0] (padded x) slices_S1x4099x1024_S1x4096x1024_0_1_0)))
    (mulf (overRows (shapeCast S1024 (extractStridedSlice S1x1024 ![2, 0] cw slices_S4x1024_S1x1024_2_0) shapeCasts_S1x1024_S1024))
      (extractStridedSlice S1x4096x1024 ![0, 2, 0] (padded x) slices_S1x4099x1024_S1x4096x1024_0_2_0)))
    (mulf (overRows (shapeCast S1024 (extractStridedSlice S1x1024 ![3, 0] cw slices_S4x1024_S1x1024_3_0) shapeCasts_S1x1024_S1024))
      (extractStridedSlice S1x4096x1024 ![0, 3, 0] (padded x) slices_S1x4099x1024_S1x4096x1024_0_3_0)))
    (overRows cb)

/-- A gate, of the convolution's rows. -/
def gateR (w : FVec Ideal S8x128x128 .f32) (b : FVec Ideal S8x128 .f32) (X : FVec Ideal S1x4096x1024 .f32) :
    FVec Ideal S1x4096x1024 .f32 :=
  shapeCast S1x4096x1024 (Host.divf (broadcastInDim S1x4096x8x128 ![] bcast_S_S1x4096x8x128 (constant S_ .f32 0x3F800000#32))
    (addf (broadcastInDim S1x4096x8x128 ![] bcast_S_S1x4096x8x128 (constant S_ .f32 0x3F800000#32))
      (Host.exp (Host.negf (addf
        (transpose S1x4096x8x128 [2, 3, 0, 1]
          (Host.dotGeneral dot_S8x128x128_S1x4096x8x128_S8x128x1x4096_1_3_2_01_0_2 none w
            (shapeCast S1x4096x8x128 X shapeCasts_S1x4096x1024_S1x4096x8x128))
          transposes_S8x128x1x4096_S1x4096x8x128_2_3_0_1)
        (broadcastInDim S1x4096x8x128 ![0, 1, 2, 3] bcast_S1x1x8x128_S1x4096x8x128_0_1_2_3
          (broadcastInDim S1x1x8x128 ![2, 3] bcast_S8x128_S1x1x8x128_2_3 b)))))))
    shapeCasts_S1x4096x8x128_S1x4096x1024

/-- A zero for every column. -/
def zeroCols : FVec Ideal S1024 .f32 := broadcastInDim S1024 ![] bcast_S_S1024 (constant S_ .f32 0x00000000#32)

/-- The softplus of the decay's parameter, negated. -/
def softR (l : FVec Ideal S1024 .f32) : FVec Ideal S1024 .f32 :=
  select (cmpf .une (subf (Host.negf l) zeroCols) (subf (Host.negf l) zeroCols)) (addf (Host.negf l) zeroCols)
    (addf (maximumf (Host.negf l) zeroCols)
      (Host.log1p (Host.exp (Host.negf (Host.absf (subf (Host.negf l) zeroCols))))))

/-- The decay's logarithm, from the gate. -/
def logR (G : FVec Ideal S1x4096x1024 .f32) (l : FVec Ideal S1024 .f32) : FVec Ideal S1x4096x1024 .f32 :=
  mulf (mulf (broadcastInDim S1x4096x1024 ![] bcast_S_S1x4096x1024 (constant S_ .f32 0xC1000000#32)) G) (overRows (softR l))

/-- What a row adds to the state, from the decay's logarithm, the gate and the convolution. -/
def addR (L G X : FVec Ideal S1x4096x1024 .f32) : FVec Ideal S1x4096x1024 .f32 :=
  mulf (Host.sqrt (Host.negf (Host.expm1 (mulf
    (broadcastInDim S1x4096x1024 ![] bcast_S_S1x4096x1024 (constant S_ .f32 0x40000000#32)) L)))) (mulf G X)

variable (m : (ℓ : Loc nD τ sig) → Buf (Elt Ideal) ℓ)

/-- The reference's arguments. -/
def rargs (c : Dev nD) : Args where
  x := m ((c : Thread nD τ).loc main_arg0)
  g := m ((c : Thread nD τ).loc main_arg1)
  cw := m ((c : Thread nD τ).loc main_arg2)
  cb := m ((c : Thread nD τ).loc main_arg3)
  aw := m ((c : Thread nD τ).loc main_arg4)
  ab := m ((c : Thread nD τ).loc main_arg5)
  xw := m ((c : Thread nD τ).loc main_arg6)
  xb := m ((c : Thread nD τ).loc main_arg7)
  lam := m ((c : Thread nD τ).loc main_arg8)

/-- The convolution of the reference's arguments. -/
def Args.X (A : Args) : FVec Ideal S1x4096x1024 .f32 := convR A.x A.cw A.cb

/-- The decay's logarithm of the reference's arguments. -/
def Args.L (A : Args) : FVec Ideal S1x4096x1024 .f32 := logR (gateR A.aw A.ab A.X) A.lam

theorem entry_a (c : Dev nD) :
    entryContents preI m c (Proc.devRef .tc main_v76_0)
      = (transpose S4096x1x1024 [1, 0, 2] (Host.exp (rargs m c).L) transposes_S1x4096x1024_S4096x1x1024_1_0_2
        : FVec Ideal S4096x1x1024 .f32) := by
  simp only [entryContents, afterL_cons, afterL_nil]
  after_reads_simp
  rfl

theorem entry_u (c : Dev nD) :
    entryContents preI m c (Proc.devRef .tc main_v76_1)
      = (transpose S4096x1x1024 [1, 0, 2] (addR (rargs m c).L (gateR (rargs m c).xw (rargs m c).xb (rargs m c).X) (rargs m c).X)
          transposes_S1x4096x1024_S4096x1x1024_1_0_2
        : FVec Ideal S4096x1x1024 .f32) := by
  simp only [entryContents, afterL_cons, afterL_nil]
  after_reads_simp
  rfl

theorem entry_h (c : Dev nD) (j : Fin 1024) :
    entryContents preI m c (Proc.devRef .tc main_v76_3) (ix2 0 j) = (0 : EReal) := by
  simp only [entryContents, afterL_cons, afterL_nil]
  after_reads_simp
  show Ideal.ofBits .f32 0#32 = 0
  simp [Ideal.ofBits, Ideal.ieee]

theorem overRows_apply (v : FVec Ideal S1024 .f32) (n : Fin 4096) (j : Fin 1024) : overRows v (ix3 0 n j) = v (ix1 j) := by
  pointwise [overRows]

theorem soft_apply (l : FVec Ideal S1024 .f32) (j : Fin 1024) : softR l (ix1 j) = softplus (0 - l (ix1 j)) := by
  pointwise [softR, zeroCols]
  rw [if_neg (by simp), zero_sub]
  show _ = max (-l (ix1 j)) 0 + Ideal.log (1 + Ideal.exp (0 - max (-l (ix1 j)) (-(-l (ix1 j)))))
  rw [zero_sub]
  rfl

theorem addR_apply (L G X : FVec Ideal S1x4096x1024 .f32) (i : S1x4096x1024.Idx) :
    addR L G X i = Ideal.sqrt (-Ideal.expm1 (Ideal.ofBits .f32 0x40000000#32 * L i)) * (G i * X i) := rfl

theorem logR_apply (G : FVec Ideal S1x4096x1024 .f32) (l : FVec Ideal S1024 .f32) (n : Fin 4096) (j : Fin 1024) :
    logR G l (ix3 0 n j) = Ideal.ofBits .f32 0xC1000000#32 * G (ix3 0 n j) * softplus (0 - l (ix1 j)) := by
  rw [← soft_apply, ← overRows_apply (softR l) n j]
  rfl

theorem gateR_apply (w : FVec Ideal S8x128x128 .f32) (b : FVec Ideal S8x128 .f32) (X : FVec Ideal S1x4096x1024 .f32)
    (n : Fin 4096) (h : Fin 8) (o : Fin 128) :
    gateR w b X (ix3 0 n (hcol h o))
      = Ideal.div 1 (1 + Ideal.exp (0 - ((∑ k : Fin 128, X (ix3 0 n (hcol h k)) * w (ix3 h k o)) + b (ix2 h o)))) := by
  have e1 : (hcol h o).val / 128 = h.val := by show (h.val * 128 + o.val) / 128 = _; omega
  have e2 : (hcol h o).val % 128 = o.val := by show (h.val * 128 + o.val) % 128 = _; omega
  pointwise [gateR]
  simp only [e1, e2, zero_sub]
  congr 5
  exact Finset.sum_congr rfl fun k _ => mul_comm _ _

theorem padded_apply (A : Args) (n : ℕ) (hn : n < 4099) (h : Fin 8) (o : Fin 128) :
    padded A.x (ix3 0 ⟨n, hn⟩ (hcol h o)) = A.xs h o (n + 13) := by
  pointwise [padded]
  unfold Args.xs
  by_cases hlt : n < 3
  · rw [dif_pos hlt, dif_neg (by omega)]
  · rw [dif_neg hlt, dif_pos ⟨by omega, by omega⟩]
    congr 2

theorem convR_apply (A : Args) (n : Fin 4096) (h : Fin 8) (o : Fin 128) :
    A.X (ix3 0 n (hcol h o)) = A.xc h o n.val := by
  pointwise [Args.X, convR, overRows]
  rw [padded_apply, padded_apply, padded_apply, padded_apply]
  unfold Args.xc
  rw [show 1 + n.val + 13 = n.val + 14 by omega, show 2 + n.val + 13 = n.val + 15 by omega,
    show 3 + n.val + 13 = n.val + 16 by omega]
  abel

theorem gate_at (A : Args) (w : FVec Ideal S8x128x128 .f32) (b : FVec Ideal S8x128 .f32) (n : Fin 4096) (h : Fin 8) (o : Fin 128) :
    gateR w b A.X (ix3 0 n (hcol h o)) = A.gate w b h o n.val := by
  rw [gateR_apply]
  unfold Args.gate
  congr 5
  exact Finset.sum_congr rfl fun k _ => by rw [convR_apply]

theorem log_at (A : Args) (n : Fin 4096) (h : Fin 8) (o : Fin 128) : A.L (ix3 0 n (hcol h o)) = A.loga h o n.val := by
  unfold Args.L
  rw [logR_apply, gate_at]
  rfl

/-- The decay the loop reads. -/
theorem entry_a_at (c : Dev nD) (n : Fin 4096) (h : Fin 8) (o : Fin 128) :
    entryContents preI m c (Proc.devRef .tc main_v76_0) (ix3 n 0 (hcol h o)) = (rargs m c).a h o n.val := by
  rw [entry_a]
  generalize rargs m c = A
  have e : (transpose S4096x1x1024 [1, 0, 2] (Host.exp A.L) transposes_S1x4096x1024_S4096x1x1024_1_0_2
      : FVec Ideal S4096x1x1024 .f32) (ix3 n 0 (hcol h o)) = Ideal.exp (A.L (ix3 0 n (hcol h o))) := by
    generalize A.L = L
    pointwise
  rw [e, log_at]
  rfl

/-- What each row adds to the state. -/
theorem entry_u_at (c : Dev nD) (n : Fin 4096) (h : Fin 8) (o : Fin 128) :
    entryContents preI m c (Proc.devRef .tc main_v76_1) (ix3 n 0 (hcol h o)) = (rargs m c).u h o n.val := by
  rw [entry_u]
  generalize rargs m c = A
  have e : (transpose S4096x1x1024 [1, 0, 2] (addR A.L (gateR A.xw A.xb A.X) A.X) transposes_S1x4096x1024_S4096x1x1024_1_0_2
      : FVec Ideal S4096x1x1024 .f32) (ix3 n 0 (hcol h o)) = addR A.L (gateR A.xw A.xb A.X) A.X (ix3 0 n (hcol h o)) := by
    generalize addR A.L (gateR A.xw A.xb A.X) A.X = L
    pointwise
  rw [e, addR_apply, log_at, gate_at, convR_apply]
  rfl

end Cert.Rnn

end
-- ==== Proof.Rnn.Loop.lean ====
/- The recurrent layer's reference, trip by trip: after `k` trips the carried state is the state before row `k`, and the rows
   of states below `k` are stored. -/
module

public import proofs.«01_k».proof.Proof.Rnn.Ref
public import Idealize.ShloMosaic.Lib.WordCmp

@[expose] public section

noncomputable section

namespace Cert.Rnn

open Cert.Reference6Ideal Cert.Reference6Ideal.Gen Cert.Reference6Ideal.Value Idealize.ShloMosaic Idealize.ShloMosaic.TcCoe Idealize.SL.Sem Idealize.ShloMosaic.StableHlo

/-- Where a trip reads and writes. -/
def startOf (ctr : IVec S_ 32) : Fin 3 → ℤ := fun k =>
  ((![ctr, constantI S_ 32 0#32, constantI S_ 32 0#32] : Fin 3 → IVec S_ 32) k (Shape.Idx.first h_S_)).toInt

theorem startOf_eq (k : ℕ) (hk : k < 4096) : ∀ a, startOf (fun _ => BitVec.ofNat 32 k) a = (((![k, 0, 0] : Fin 3 → ℕ) a : ℕ) : ℤ) := by
  intro a
  fin_cases a
  · show (BitVec.ofNat 32 k).toInt = _
    rw [WordCmp.toInt_ofNat_of_lt (by norm_num; omega)]
    rfl
  · rfl
  · rfl

theorem rowSlices (k : ℕ) (hk : k < 4096) : S4096x1x1024.Slices (![k, 0, 0] : Fin 3 → ℕ) S1x1x1024 := by
  refine ⟨rfl, fun a => ?_⟩
  fin_cases a
  · show k + 1 ≤ 4096; omega
  · show 0 + 1 ≤ 1; omega
  · show 0 + 1024 ≤ 1024; omega

/-- The row a trip reads. -/
def rowRead (X : FVec Ideal S4096x1x1024 .f32) (ctr : IVec S_ 32) : FVec Ideal S1x1024 .f32 :=
  shapeCast S1x1024 (Host.dynamicSlice S1x1x1024 X (startOf ctr) sliceFits_S4096x1x1024_S1x1x1024) shapeCasts_S1x1x1024_S1x1024

/-- The array with the row a trip writes. -/
def rowPut (X : FVec Ideal S4096x1x1024 .f32) (v : FVec Ideal S1x1024 .f32) (ctr : IVec S_ 32) : FVec Ideal S4096x1x1024 .f32 :=
  Host.dynamicUpdateSlice X (broadcastInDim S1x1x1024 ![1, 2] bcast_S1x1024_S1x1x1024_1_2 v) (startOf ctr)
    updateFits_S4096x1x1024_S1x1x1024

theorem slice_at (X : FVec Ideal S4096x1x1024 .f32) (k : ℕ) (hk : k < 4096) (j : Fin 1024) :
    rowRead X (fun _ => BitVec.ofNat 32 k) (ix2 0 j) = X (ix3 ⟨k, hk⟩ 0 j) := by
  unfold rowRead
  rw [WordCmp.dynamicSlice_eq_extract S1x1x1024 X _ _ ![k, 0, 0] (rowSlices k hk) (startOf_eq k hk)]
  pointwise

theorem update_at (X : FVec Ideal S4096x1x1024 .f32) (v : FVec Ideal S1x1024 .f32) (k : ℕ) (hk : k < 4096) (n : Fin 4096) (j : Fin 1024) :
    rowPut X v (fun _ => BitVec.ofNat 32 k) (ix3 n 0 j) = if n.val = k then v (ix2 0 j) else X (ix3 n 0 j) := by
  unfold rowPut
  rw [WordCmp.dynamicUpdateSlice_eq_update X _ _ _ ![k, 0, 0] (rowSlices k hk) (startOf_eq k hk)]
  unfold updateSlice
  by_cases hn : n.val = k
  · rw [if_pos hn, dif_pos]
    · show v _ = _
      refine congrArg v (funext fun a => ?_)
      fin_cases a
      · rfl
      · rfl
    · intro a
      fin_cases a
      · show k ≤ n.val ∧ n.val < k + 1; omega
      · show 0 ≤ 0 ∧ 0 < 0 + 1; omega
      · show 0 ≤ j.val ∧ j.val < 0 + 1024; omega
  · rw [if_neg hn, dif_neg]
    intro h
    have h0 : k ≤ n.val ∧ n.val < k + 1 := h 0
    omega

/-- What holds before trip `k`. -/
structure Before (A : Args) (V : Valuation τ sig (Elt Ideal)) (k : ℕ) : Prop where
  ctr : V (Proc.devRef .tc main_v76_2) = fun _ => BitVec.ofNat 32 k
  a : ∀ (n : Fin 4096) (h : Fin 8) (o : Fin 128), V (Proc.devRef .tc main_v76_0) (ix3 n 0 (hcol h o)) = A.a h o n.val
  u : ∀ (n : Fin 4096) (h : Fin 8) (o : Fin 128), V (Proc.devRef .tc main_v76_1) (ix3 n 0 (hcol h o)) = A.u h o n.val
  st : ∀ (h : Fin 8) (o : Fin 128), V (Proc.devRef .tc main_v76_3) (ix2 0 (hcol h o)) = A.st h o k
  hs : ∀ (n : Fin 4096) (h : Fin 8) (o : Fin 128), n.val < k →
    V (Proc.devRef .tc main_v76_4) (ix3 n 0 (hcol h o)) = A.st h o (n.val + 1)

/-- The state a trip makes. -/
theorem next_at (A : Args) (V : Valuation τ sig (Elt Ideal)) (k : ℕ) (hk : k < 4096) (B : Before A V k) (h : Fin 8) (o : Fin 128) :
    res_main_while0b_v88 V (ix2 0 (hcol h o)) = A.st h o (k + 1) := by
  have e : res_main_while0b_v88 V (ix2 0 (hcol h o))
      = rowRead (V (Proc.devRef .tc main_v76_0)) (V (Proc.devRef .tc main_v76_2)) (ix2 0 (hcol h o))
        * V (Proc.devRef .tc main_v76_3) (ix2 0 (hcol h o))
        + rowRead (V (Proc.devRef .tc main_v76_1)) (V (Proc.devRef .tc main_v76_2)) (ix2 0 (hcol h o)) := rfl
  rw [e, B.ctr, B.st]
  refine (congrArg₂ (fun p q : EReal => p * A.st h o k + q)
    ((slice_at (V (Proc.devRef .tc main_v76_0)) k hk (hcol h o)).trans (B.a ⟨k, hk⟩ h o))
    ((slice_at (V (Proc.devRef .tc main_v76_1)) k hk (hcol h o)).trans (B.u ⟨k, hk⟩ h o))).trans ?_
  exact (A.st_succ h o k).symm

theorem before_succ (A : Args) (V : Valuation τ sig (Elt Ideal)) (k : ℕ) (hk : k < 4096) (B : Before A V k) : Before A (STEP V) (k + 1) where
  ctr := by
    rw [STEP_main_v76_2]
    unfold step_main_v76_2
    rw [B.ctr]
    funext i
    exact WordCmp.addi_ofNat k 1
  a n h o := by rw [STEP_main_v76_0]; exact B.a n h o
  u n h o := by rw [STEP_main_v76_1]; exact B.u n h o
  st h o := by rw [STEP_main_v76_3]; exact next_at A V k hk B h o
  hs n h o hn := by
    rw [STEP_main_v76_4]
    have e : step_main_v76_4 V
        = rowPut (V (Proc.devRef .tc main_v76_4)) (res_main_while0b_v88 V) (V (Proc.devRef .tc main_v76_2)) := rfl
    rw [e, B.ctr]
    refine (update_at (V (Proc.devRef .tc main_v76_4)) (res_main_while0b_v88 V) k hk n (hcol h o)).trans ?_
    by_cases hnk : n.val = k
    · rw [if_pos hnk, hnk]
      exact next_at A V k hk B h o
    · rw [if_neg hnk]
      exact B.hs n h o (by omega)

variable (m : (ℓ : Loc nD τ sig) → Buf (Elt Ideal) ℓ)

theorem before_all (c : Dev nD) : ∀ k, k ≤ 4096 → Before (rargs m c) (STEP^[k] (entryContents preI m c)) k
  | 0, _ => {
      ctr := ctr_entry m c
      a := entry_a_at m c
      u := entry_u_at m c
      st := fun h o => entry_h m c (hcol h o)
      hs := fun _ _ _ h => absurd h (Nat.not_lt_zero _) }
  | k + 1, hk => by
    rw [Function.iterate_succ_apply']
    exact before_succ _ _ k (by omega) (before_all c k (by omega))

end Cert.Rnn

end
-- ==== Proof.RnnB.Loop.lean ====
/- The reference of the recurrent layer's gate gradient, trip by trip: its loop is the forward reference's. -/
module

public import proofs.«01_k».proof.Defs
public import proofs.«01_k».proof.Proof.Rnn.Loop
public import proofs.«01_k».proof.Proof.Gen.Reference13Ideal.Run

@[expose] public section

noncomputable section

namespace Cert.RnnB

open Cert.Reference13Ideal Cert.Reference13Ideal.Gen Cert.Reference13Ideal.Value Idealize.ShloMosaic Idealize.ShloMosaic.TcCoe Idealize.SL.Sem Idealize.ShloMosaic.StableHlo
open Cert.Rnn (Args hcol rowRead rowPut slice_at update_at addR gateR addR_apply log_at gate_at convR_apply)

variable (m : (ℓ : Loc nD τ sig) → Buf (Elt Ideal) ℓ)

/-- The reference's arguments of the forward call. -/
def rargs (c : Dev nD) : Args where
  x := m ((c : Thread nD τ).loc main_arg0)
  g := m ((c : Thread nD τ).loc main_arg1)
  cw := m ((c : Thread nD τ).loc main_arg2)
  cb := m ((c : Thread nD τ).loc main_arg3)
  aw := m ((c : Thread nD τ).loc main_arg4)
  ab := m ((c : Thread nD τ).loc main_arg5)
  xw := m ((c : Thread nD τ).loc main_arg6)
  xb := m ((c : Thread nD τ).loc main_arg7)
  lam := m ((c : Thread nD τ).loc main_arg8)

/-- An array with its rows first, as the loop takes it. -/
def rowsFirst (v : FVec Ideal S1x4096x1024 .f32) : FVec Ideal S4096x1x1024 .f32 :=
  transpose S4096x1x1024 [1, 0, 2] v transposes_S1x4096x1024_S4096x1x1024_1_0_2

theorem rowsFirst_at (v : FVec Ideal S1x4096x1024 .f32) (n : Fin 4096) (j : Fin 1024) : rowsFirst v (ix3 n 0 j) = v (ix3 0 n j) := by
  pointwise [rowsFirst]

theorem entry_a (c : Dev nD) : entryContents preI m c (Proc.devRef .tc main_v76_0) = rowsFirst (Host.exp (rargs m c).L) := by
  simp only [entryContents, afterL_cons, afterL_nil]
  after_reads_simp
  rfl

theorem entry_u (c : Dev nD) :
    entryContents preI m c (Proc.devRef .tc main_v76_1)
      = rowsFirst (addR (rargs m c).L (gateR (rargs m c).xw (rargs m c).xb (rargs m c).X) (rargs m c).X) := by
  simp only [entryContents, afterL_cons, afterL_nil]
  after_reads_simp
  rfl

theorem entry_h (c : Dev nD) (j : Fin 1024) : entryContents preI m c (Proc.devRef .tc main_v76_3) (ix2 0 j) = (0 : EReal) := by
  simp only [entryContents, afterL_cons, afterL_nil]
  after_reads_simp
  show Ideal.ofBits .f32 0#32 = 0
  simp [Ideal.ofBits, Ideal.ieee]

/-- What holds before trip `k`. -/
structure Before (A : Args) (V : Valuation τ sig (Elt Ideal)) (k : ℕ) : Prop where
  ctr : V (Proc.devRef .tc main_v76_2) = fun _ => BitVec.ofNat 32 k
  a : ∀ (n : Fin 4096) (h : Fin 8) (o : Fin 128), V (Proc.devRef .tc main_v76_0) (ix3 n 0 (hcol h o)) = A.a h o n.val
  u : ∀ (n : Fin 4096) (h : Fin 8) (o : Fin 128), V (Proc.devRef .tc main_v76_1) (ix3 n 0 (hcol h o)) = A.u h o n.val
  st : ∀ (h : Fin 8) (o : Fin 128), V (Proc.devRef .tc main_v76_3) (ix2 0 (hcol h o)) = A.st h o k
  hs : ∀ (n : Fin 4096) (h : Fin 8) (o : Fin 128), n.val < k →
    V (Proc.devRef .tc main_v76_4) (ix3 n 0 (hcol h o)) = A.st h o (n.val + 1)

theorem next_at {A : Args} {V : Valuation τ sig (Elt Ideal)} {k : ℕ} (hk : k < 4096) (B : Before A V k) (h : Fin 8) (o : Fin 128) :
    res_main_while0b_v89 V (ix2 0 (hcol h o)) = A.st h o (k + 1) := by
  have e : res_main_while0b_v89 V (ix2 0 (hcol h o))
      = rowRead (V (Proc.devRef .tc main_v76_0)) (V (Proc.devRef .tc main_v76_2)) (ix2 0 (hcol h o))
        * V (Proc.devRef .tc main_v76_3) (ix2 0 (hcol h o))
        + rowRead (V (Proc.devRef .tc main_v76_1)) (V (Proc.devRef .tc main_v76_2)) (ix2 0 (hcol h o)) := rfl
  rw [e, B.ctr, B.st]
  exact (congrArg₂ (fun p q : EReal => p * A.st h o k + q)
    ((slice_at (V (Proc.devRef .tc main_v76_0)) k hk (hcol h o)).trans (B.a ⟨k, hk⟩ h o))
    ((slice_at (V (Proc.devRef .tc main_v76_1)) k hk (hcol h o)).trans (B.u ⟨k, hk⟩ h o))).trans (A.st_succ h o k).symm

theorem Before.step {A : Args} {V : Valuation τ sig (Elt Ideal)} {k : ℕ} (hk : k < 4096) (B : Before A V k) : Before A (STEP V) (k + 1) where
  ctr := by
    rw [STEP_main_v76_2]
    unfold step_main_v76_2
    rw [B.ctr]
    exact funext fun i => WordCmp.addi_ofNat k 1
  a n h o := by rw [STEP_main_v76_0]; exact B.a n h o
  u n h o := by rw [STEP_main_v76_1]; exact B.u n h o
  st h o := by rw [STEP_main_v76_3]; exact next_at hk B h o
  hs n h o hn := by
    rw [STEP_main_v76_4]
    have e : step_main_v76_4 V
        = rowPut (V (Proc.devRef .tc main_v76_4)) (res_main_while0b_v89 V) (V (Proc.devRef .tc main_v76_2)) := rfl
    rw [e, B.ctr]
    refine (update_at (V (Proc.devRef .tc main_v76_4)) (res_main_while0b_v89 V) k hk n (hcol h o)).trans ?_
    split
    · next hnk => rw [hnk]; exact next_at hk B h o
    · exact B.hs n h o (by omega)

/-- Every state is stored after the loop. -/
theorem before_all (c : Dev nD) : ∀ k, k ≤ 4096 → Before (rargs m c) (STEP^[k] (entryContents preI m c)) k
  | 0, _ => {
      ctr := ctr_entry m c
      a := fun n h o => by
        have e := entry_a m c
        generalize rargs m c = A at e ⊢
        refine (congrFun e _).trans ((rowsFirst_at _ n (hcol h o)).trans ?_)
        exact congrArg Ideal.exp (log_at A n h o)
      u := fun n h o => by
        have e := entry_u m c
        generalize rargs m c = A at e ⊢
        refine (congrFun e _).trans ((rowsFirst_at _ n (hcol h o)).trans ?_)
        rw [addR_apply, log_at, gate_at, convR_apply]
        rfl
      st := fun h o => entry_h m c (hcol h o)
      hs := fun _ _ _ h => absurd h (Nat.not_lt_zero _) }
  | k + 1, hk => by
    rw [Function.iterate_succ_apply']
    exact (before_all c k (by omega)).step (by omega)

/-- The gradient of the gate at a state, a gradient of the output and a gate, by the product rule. -/
def rule (h d g : EReal) : EReal :=
  h * d * Ideal.div 1 (1 + Ideal.exp (0 - g))
    + g * (h * d) * (Ideal.div 1 (1 + Ideal.exp (0 - g)) * (1 - Ideal.div 1 (1 + Ideal.exp (0 - g))))

theorem out_at (V : Valuation τ sig (Elt Ideal)) (H : FVec Ideal S4096x1x1024 .f32) (d g : FVec Ideal S1x4096x1024 .f32)
    (hH : V (Proc.devRef .tc main_v76_4) = H) (hd : V (Proc.devRef .tc main_arg9) = d) (hg : V (Proc.devRef .tc main_arg1) = g)
    (n : Fin 4096) (j : Fin 1024) : out_main_v85 V (ix3 1 n j) = rule (H (ix3 n 0 j)) (d (ix3 0 n j)) (g (ix3 0 n j)) := by
  unfold out_main_v85
  rw [hH, hd, hg]
  unfold rule
  pointwise
  simp only [zero_sub]

end Cert.RnnB

end
-- ==== Proof.RnnB.Shift.lean ====
/- The doubling scan over all 4096 rows and 1024 columns at once, each shift a concatenation, as the host writes it. -/
module

public import proofs.«01_k».proof.Proof.Rnn.Scan
public import proofs.«01_k».proof.Kernel13Ideal

@[expose] public section

noncomputable section

namespace Cert.RnnB

open Cert.Kernel13Ideal Cert.Rnn

open Idealize.ShloMosaic

/-- Column `j` of all the rows. -/
def colf (v : FVec Ideal S4096x1024 .f32) (j : Fin 1024) (l : ℕ) : EReal := if h : l < 4096 then v (ix2 ⟨l, h⟩ j) else 0

theorem colf_at (v : FVec Ideal S4096x1024 .f32) (j : Fin 1024) (l : Fin 4096) : colf v j l.val = v (ix2 l j) := by
  unfold colf; rw [dif_pos l.isLt]

/-- The rows that stand `d` rows above, with `z` in the first `d` rows. -/
def shV (d : ℕ) (z : EReal) (v : FVec Ideal S4096x1024 .f32) : FVec Ideal S4096x1024 .f32 :=
  fun i => sh d z (colf v ⟨(i 1).val, (i 1).isLt⟩) (i 0).val

theorem shV_apply (d : ℕ) (z : EReal) (v : FVec Ideal S4096x1024 .f32) (l : Fin 4096) (j : Fin 1024) :
    shV d z v (ix2 l j) = sh d z (colf v j) l.val := rfl

theorem sh_of_dite (d : ℕ) (v : FVec Ideal S4096x1024 .f32) (z : EReal) (l : Fin 4096) (j : Fin 1024)
    (h : ∀ h : ¬l.val < d, l.val - d < 4096) :
    (if h' : l.val < d then z else v (ix2 ⟨l.val - d, h h'⟩ j)) = sh d z (colf v j) l.val := by
  unfold sh colf
  by_cases hd : l.val < d
  · rw [dif_pos hd, if_neg (by omega)]
  · rw [dif_neg hd, if_pos (by omega), dif_pos (h hd)]

theorem cat (d e : ℕ) (v : FVec Ideal S4096x1024 .f32) (z : BitVec 32) (hb) (hs) (hc) :
    concatenate S4096x1024 0 [⟨(⟨2, ![d, 1024]⟩ : Shape), broadcastInDim (⟨2, ![d, 1024]⟩ : Shape) ![] hb (constant (F := Ideal) S_ .f32 z)⟩,
      ⟨(⟨2, ![e, 1024]⟩ : Shape), extractStridedSlice (⟨2, ![e, 1024]⟩ : Shape) ![0, 0] v hs⟩] hc
      = shV d (Ideal.ofBits .f32 z) v := by
  funext i
  obtain ⟨l, j, rfl⟩ : ∃ (l : Fin 4096) (j : Fin 1024), i = (ix2 l j : S4096x1024.Idx) := ⟨_, _, eq_ix2 i⟩
  rw [shV_apply]
  pointwise
  exact sh_of_dite d v _ l j _

theorem zero_word : Ideal.ofBits .f32 0x00000000#32 = (0 : EReal) := by simp [Ideal.ofBits, Ideal.ieee]

theorem one_word : Ideal.ofBits .f32 0x3F800000#32 = (1 : EReal) := by
  simp [Ideal.ofBits, Ideal.ieee, -EReal.coe_mul]; norm_num

/-- The step of the doubling: the factor and the addend of `2 d` steps from those of `d`. -/
def stA (d : ℕ) (A : FVec Ideal S4096x1024 .f32) : FVec Ideal S4096x1024 .f32 := mulf A (shV d 1 A)
@[inherit_doc stA] def stU (d : ℕ) (A U : FVec Ideal S4096x1024 .f32) : FVec Ideal S4096x1024 .f32 := addf U (mulf A (shV d 0 U))

/-- Factor and addend after `n` doublings. -/
def dbl (a u : FVec Ideal S4096x1024 .f32) : ℕ → FVec Ideal S4096x1024 .f32 × FVec Ideal S4096x1024 .f32
  | 0 => (a, u)
  | n + 1 => (stA (2 ^ n) (dbl a u n).1, stU (2 ^ n) (dbl a u n).1 (dbl a u n).2)

theorem dbl_win (a u : FVec Ideal S4096x1024 .f32) (j : Fin 1024) (h : ∀ l : Fin 4096, 0 ≤ a (ix2 l j) ∧ a (ix2 l j) ≠ (⊤ : EReal)) :
    ∀ n, Win 4096 (colf a j) (colf u j) (2 ^ n) (colf (dbl a u n).1 j) (colf (dbl a u n).2 j)
  | 0 => Win.one fun l hl => by
    rw [colf_at a j ⟨l, hl⟩]; exact h ⟨l, hl⟩
  | n + 1 => by
    rw [pow_succ, mul_comm (2 ^ n) 2]
    refine (dbl_win a u j h n).double.congr (fun l hl => ?_) (fun l hl => ?_)
    · rw [colf_at _ j ⟨l, hl⟩, colf_at (dbl a u n).1 j ⟨l, hl⟩]; rfl
    · rw [colf_at _ j ⟨l, hl⟩, colf_at (dbl a u n).1 j ⟨l, hl⟩, colf_at (dbl a u n).2 j ⟨l, hl⟩]; rfl

/-- After twelve doublings every row has all its steps. -/
theorem dbl_all (a u : FVec Ideal S4096x1024 .f32) (j : Fin 1024) (ha : ∀ l : Fin 4096, 0 ≤ a (ix2 l j) ∧ a (ix2 l j) ≠ (⊤ : EReal))
    (l : Fin 4096) (h : EReal) :
    (dbl a u 12).1 (ix2 l j) * h + (dbl a u 12).2 (ix2 l j) = run (colf a j) (colf u j) 0 (l.val + 1) h := by
  rw [← colf_at (dbl a u 12).1 j l, ← colf_at (dbl a u 12).2 j l]
  exact (dbl_win a u j ha 12).all l.val l.isLt h

end Cert.RnnB

end
-- ==== Proof.RnnB.Host.lean ====
/- What the host leaves in the buffer of saved states: the decay and the addend of every row, doubled twelve times. -/
module

public import proofs.«01_k».proof.Proof.RnnB.Shift
public import proofs.«01_k».proof.Proof.Rnn.Spec
public import proofs.«01_k».proof.Proof.Gen.Kernel13Ideal.Frame.Runs
public import Idealize.ShloMosaic.Lib.StableHlo.ReadAt

@[expose] public section

noncomputable section

namespace Cert.RnnB

open Cert.Kernel13Ideal Cert.Kernel13Ideal.Gen Cert.Rnn Idealize.ShloMosaic Idealize.ShloMosaic.TcCoe Idealize.SL.Sem Idealize.ShloMosaic.StableHlo

variable (W : Valuation τ sig (Elt Ideal))

/-- The operations `i` to `i + 11` of the host's last stretch: one doubling. -/
abbrev part (i : ℕ) : List (HloOp τ sig (Elt Ideal)) := (hostOps0_2.drop i).take 11

/-- What the shapes of a shift by `d` rows have to fit. -/
def Fits (d e : ℕ) : Prop := S_.BroadcastsInDim (⟨2, ![d, 1024]⟩ : Shape) (![] : Fin 0 → Fin 2) ∧ S4096x1024.Slices ![0, 0] (⟨2, ![e, 1024]⟩ : Shape)
  ∧ Shape.Concatenates [(⟨2, ![d, 1024]⟩ : Shape), (⟨2, ![e, 1024]⟩ : Shape)] S4096x1024 0

/-- The shift by `d` rows with `z` above, as the operations write it. -/
def above {d e : ℕ} (f : Fits d e) (z : BitVec 32) (v : FVec Ideal S4096x1024 .f32) : FVec Ideal S4096x1024 .f32 :=
  concatenate S4096x1024 0 [⟨(⟨2, ![d, 1024]⟩ : Shape), broadcastInDim (⟨2, ![d, 1024]⟩ : Shape) ![] f.1 (constant (F := Ideal) S_ .f32 z)⟩,
    ⟨(⟨2, ![e, 1024]⟩ : Shape), extractStridedSlice (⟨2, ![e, 1024]⟩ : Shape) ![0, 0] v f.2.1⟩] f.2.2

/-- A doubling of the factor and the addend, from the two as the operations write them. -/
theorem doubled {d e : ℕ} (f : Fits d e) {A U A' U' : FVec Ideal S4096x1024 .f32}
    (hA : A' = mulf A (above f 0x3F800000#32 A)) (hU : U' = addf U (mulf A (above f 0x00000000#32 U))) :
    A' = stA d A ∧ U' = stU d A U := by
  have hc : ∀ z v, above f z v = shV d (Ideal.ofBits .f32 z) v := fun z v => cat d e v z _ _ _
  rw [hA, hU, hc, hc, zero_word, one_word]
  exact ⟨rfl, rfl⟩

variable {W} {A U : FVec Ideal S4096x1024 .f32}

theorem step0 (h : W (Proc.devRef .tc main_v72) = A ∧ W (Proc.devRef .tc main_v73) = U) :
    after (part 16) W (Proc.devRef .tc main_v83) = stA 1 A ∧ after (part 16) W (Proc.devRef .tc main_v79) = stU 1 A U := by
  rw [← h.1, ← h.2]
  simp only [part, hostOps0_2, List.drop_succ_cons, List.drop_zero, List.take_succ_cons, List.take_zero]
  exact doubled (d := 1) (e := 4095) ⟨bcast_S_S1x1024, slices_S4096x1024_S4095x1024_0_0, concatenates_S1x1024_S4095x1024_S4096x1024_d0⟩
    (by after_reads_simp; rfl) (by after_reads_simp; rfl)

theorem step1 (h : W (Proc.devRef .tc main_v83) = A ∧ W (Proc.devRef .tc main_v79) = U) :
    after (part 27) W (Proc.devRef .tc main_v92) = stA 2 A ∧ after (part 27) W (Proc.devRef .tc main_v88) = stU 2 A U := by
  rw [← h.1, ← h.2]
  simp only [part, hostOps0_2, List.drop_succ_cons, List.drop_zero, List.take_succ_cons, List.take_zero]
  exact doubled (d := 2) (e := 4094) ⟨bcast_S_S2x1024, slices_S4096x1024_S4094x1024_0_0, concatenates_S2x1024_S4094x1024_S4096x1024_d0⟩
    (by after_reads_simp; rfl) (by after_reads_simp; rfl)

theorem step2 (h : W (Proc.devRef .tc main_v92) = A ∧ W (Proc.devRef .tc main_v88) = U) :
    after (part 38) W (Proc.devRef .tc main_v101) = stA 4 A ∧ after (part 38) W (Proc.devRef .tc main_v97) = stU 4 A U := by
  rw [← h.1, ← h.2]
  simp only [part, hostOps0_2, List.drop_succ_cons, List.drop_zero, List.take_succ_cons, List.take_zero]
  exact doubled (d := 4) (e := 4092) ⟨bcast_S_S4x1024, slices_S4096x1024_S4092x1024_0_0, concatenates_S4x1024_S4092x1024_S4096x1024_d0⟩
    (by after_reads_simp; rfl) (by after_reads_simp; rfl)

theorem step3 (h : W (Proc.devRef .tc main_v101) = A ∧ W (Proc.devRef .tc main_v97) = U) :
    after (part 49) W (Proc.devRef .tc main_v110) = stA 8 A ∧ after (part 49) W (Proc.devRef .tc main_v106) = stU 8 A U := by
  rw [← h.1, ← h.2]
  simp only [part, hostOps0_2, List.drop_succ_cons, List.drop_zero, List.take_succ_cons, List.take_zero]
  exact doubled (d := 8) (e := 4088) ⟨bcast_S_S8x1024, slices_S4096x1024_S4088x1024_0_0, concatenates_S8x1024_S4088x1024_S4096x1024_d0⟩
    (by after_reads_simp; rfl) (by after_reads_simp; rfl)

theorem step4 (h : W (Proc.devRef .tc main_v110) = A ∧ W (Proc.devRef .tc main_v106) = U) :
    after (part 60) W (Proc.devRef .tc main_v119) = stA 16 A ∧ after (part 60) W (Proc.devRef .tc main_v115) = stU 16 A U := by
  rw [← h.1, ← h.2]
  simp only [part, hostOps0_2, List.drop_succ_cons, List.drop_zero, List.take_succ_cons, List.take_zero]
  exact doubled (d := 16) (e := 4080) ⟨bcast_S_S16x1024, slices_S4096x1024_S4080x1024_0_0, concatenates_S16x1024_S4080x1024_S4096x1024_d0⟩
    (by after_reads_simp; rfl) (by after_reads_simp; rfl)

theorem step5 (h : W (Proc.devRef .tc main_v119) = A ∧ W (Proc.devRef .tc main_v115) = U) :
    after (part 71) W (Proc.devRef .tc main_v128) = stA 32 A ∧ after (part 71) W (Proc.devRef .tc main_v124) = stU 32 A U := by
  rw [← h.1, ← h.2]
  simp only [part, hostOps0_2, List.drop_succ_cons, List.drop_zero, List.take_succ_cons, List.take_zero]
  exact doubled (d := 32) (e := 4064) ⟨bcast_S_S32x1024, slices_S4096x1024_S4064x1024_0_0, concatenates_S32x1024_S4064x1024_S4096x1024_d0⟩
    (by after_reads_simp; rfl) (by after_reads_simp; rfl)

theorem step6 (h : W (Proc.devRef .tc main_v128) = A ∧ W (Proc.devRef .tc main_v124) = U) :
    after (part 82) W (Proc.devRef .tc main_v137) = stA 64 A ∧ after (part 82) W (Proc.devRef .tc main_v133) = stU 64 A U := by
  rw [← h.1, ← h.2]
  simp only [part, hostOps0_2, List.drop_succ_cons, List.drop_zero, List.take_succ_cons, List.take_zero]
  exact doubled (d := 64) (e := 4032) ⟨bcast_S_S64x1024, slices_S4096x1024_S4032x1024_0_0, concatenates_S64x1024_S4032x1024_S4096x1024_d0⟩
    (by after_reads_simp; rfl) (by after_reads_simp; rfl)

theorem step7 (h : W (Proc.devRef .tc main_v137) = A ∧ W (Proc.devRef .tc main_v133) = U) :
    after (part 93) W (Proc.devRef .tc main_v146) = stA 128 A ∧ after (part 93) W (Proc.devRef .tc main_v142) = stU 128 A U := by
  rw [← h.1, ← h.2]
  simp only [part, hostOps0_2, List.drop_succ_cons, List.drop_zero, List.take_succ_cons, List.take_zero]
  exact doubled (d := 128) (e := 3968) ⟨bcast_S_S128x1024, slices_S4096x1024_S3968x1024_0_0, concatenates_S128x1024_S3968x1024_S4096x1024_d0⟩
    (by after_reads_simp; rfl) (by after_reads_simp; rfl)

theorem step8 (h : W (Proc.devRef .tc main_v146) = A ∧ W (Proc.devRef .tc main_v142) = U) :
    after (part 104) W (Proc.devRef .tc main_v155) = stA 256 A ∧ after (part 104) W (Proc.devRef .tc main_v151) = stU 256 A U := by
  rw [← h.1, ← h.2]
  simp only [part, hostOps0_2, List.drop_succ_cons, List.drop_zero, List.take_succ_cons, List.take_zero]
  exact doubled (d := 256) (e := 3840) ⟨bcast_S_S256x1024, slices_S4096x1024_S3840x1024_0_0, concatenates_S256x1024_S3840x1024_S4096x1024_d0⟩
    (by after_reads_simp; rfl) (by after_reads_simp; rfl)

theorem step9 (h : W (Proc.devRef .tc main_v155) = A ∧ W (Proc.devRef .tc main_v151) = U) :
    after (part 115) W (Proc.devRef .tc main_v164) = stA 512 A ∧ after (part 115) W (Proc.devRef .tc main_v160) = stU 512 A U := by
  rw [← h.1, ← h.2]
  simp only [part, hostOps0_2, List.drop_succ_cons, List.drop_zero, List.take_succ_cons, List.take_zero]
  exact doubled (d := 512) (e := 3584) ⟨bcast_S_S512x1024, slices_S4096x1024_S3584x1024_0_0, concatenates_S512x1024_S3584x1024_S4096x1024_d0⟩
    (by after_reads_simp; rfl) (by after_reads_simp; rfl)

theorem step10 (h : W (Proc.devRef .tc main_v164) = A ∧ W (Proc.devRef .tc main_v160) = U) :
    after (part 126) W (Proc.devRef .tc main_v173) = stA 1024 A ∧ after (part 126) W (Proc.devRef .tc main_v169) = stU 1024 A U := by
  rw [← h.1, ← h.2]
  simp only [part, hostOps0_2, List.drop_succ_cons, List.drop_zero, List.take_succ_cons, List.take_zero]
  exact doubled (d := 1024) (e := 3072) ⟨bcast_S_S1024x1024, slices_S4096x1024_S3072x1024_0_0, concatenates_S1024x1024_S3072x1024_S4096x1024_d0⟩
    (by after_reads_simp; rfl) (by after_reads_simp; rfl)

theorem step11 (h : W (Proc.devRef .tc main_v173) = A ∧ W (Proc.devRef .tc main_v169) = U) :
    after (part 137) W (Proc.devRef .tc main_v182) = stA 2048 A ∧ after (part 137) W (Proc.devRef .tc main_v178) = stU 2048 A U := by
  rw [← h.1, ← h.2]
  simp only [part, hostOps0_2, List.drop_succ_cons, List.drop_zero, List.take_succ_cons, List.take_zero]
  exact doubled (d := 2048) (e := 2048) ⟨bcast_S_S2048x1024, slices_S4096x1024_S2048x1024_0_0, concatenates_S2048x1024_S2048x1024_S4096x1024_d0⟩
    (by after_reads_simp; rfl) (by after_reads_simp; rfl)

variable (m : (ℓ : Loc nD τ sig) → Buf (Elt Ideal) ℓ)

/-- The arguments of the forward call on device `c`. -/
abbrev args (c : Dev nD) : Args where
  x := m ((c : Thread nD τ).loc main_arg0)
  g := m ((c : Thread nD τ).loc main_arg1)
  cw := m ((c : Thread nD τ).loc main_arg2)
  cb := m ((c : Thread nD τ).loc main_arg3)
  aw := m ((c : Thread nD τ).loc main_arg4)
  ab := m ((c : Thread nD τ).loc main_arg5)
  xw := m ((c : Thread nD τ).loc main_arg6)
  xb := m ((c : Thread nD τ).loc main_arg7)
  lam := m ((c : Thread nD τ).loc main_arg8)

/-- The buffers before the doublings. -/
def before (c : Dev nD) : Valuation τ sig (Elt Ideal) :=
  after (hostOps0_2.take 16) (after hostOps0_1 (after hostOps0 fun b => m (c, b)))

/-- The buffers after them. -/
def behind (c : Dev nD) : Valuation τ sig (Elt Ideal) :=
  after (part 137) (after (part 126) (after (part 115) (after (part 104) (after (part 93) (after (part 82) (after (part 71)
    (after (part 60) (after (part 49) (after (part 38) (after (part 27) (after (part 16) (before m c))))))))))))

theorem after_app {G : List (HloOp τ sig (Elt Ideal))} : ∀ (l : List (HloOp τ sig (Elt Ideal))) (V : Valuation τ sig (Elt Ideal)),
    after (l ++ G) V = after G (after l V)
  | [], _ => rfl
  | o :: l, V => after_app l _

theorem V_eq (c : Dev nD) (b : Ref sig .tc) : V m c b = after (hostOps0_2.drop 148) (behind m c) b := by
  show after (hostOps0 ++ (hostOps0_1 ++ (hostOps0_2 ++ []))) _ _ = _
  rw [after_app, after_app, List.append_nil]
  unfold behind before
  simp only [← after_app]
  rfl

theorem behind_eq (c : Dev nD) {A U : FVec Ideal S4096x1024 .f32}
    (h : before m c (Proc.devRef .tc main_v72) = A ∧ before m c (Proc.devRef .tc main_v73) = U) :
    behind m c (Proc.devRef .tc main_v182) = (dbl A U 12).1 ∧ behind m c (Proc.devRef .tc main_v178) = (dbl A U 12).2 :=
  step11 (step10 (step9 (step8 (step7 (step6 (step5 (step4 (step3 (step2 (step1 (step0 h)))))))))))

end Cert.RnnB

end
-- ==== Proof.RnnB.Entry.lean ====
/- The saved states that the host leaves, at a row and a column, and what the kernel's blocks read of them and of the
   arguments. -/
module

public import proofs.«01_k».proof.Proof.RnnB.Host
public import proofs.«01_k».proof.Proof.Rnn.Ref

@[expose] public section

noncomputable section

namespace Cert.RnnB

open Cert.Kernel13Ideal Cert.Kernel13Ideal.Gen Cert.Rnn Idealize.ShloMosaic Idealize.ShloMosaic.TcCoe Idealize.SL.Sem Idealize.ShloMosaic.StableHlo

variable (m : (ℓ : Loc nD τ sig) → Buf (Elt Ideal) ℓ)

/-- The decay of every row. -/
def decay (A : Args) : FVec Ideal S4096x1024 .f32 := shapeCast S4096x1024 (Host.exp A.L) shapeCasts_S1x4096x1024_S4096x1024

/-- What every row adds. -/
def added (A : Args) : FVec Ideal S4096x1024 .f32 :=
  shapeCast S4096x1024 (addR A.L (gateR A.xw A.xb A.X) A.X) shapeCasts_S1x4096x1024_S4096x1024

theorem before_eq (c : Dev nD) :
    before m c (Proc.devRef .tc main_v72) = decay (args m c) ∧ before m c (Proc.devRef .tc main_v73) = added (args m c) := by
  unfold before
  simp only [hostOps0_2, List.take_succ_cons, List.take_zero]
  constructor
  · after_reads_simp
    rfl
  · after_reads_simp
    rfl

theorem decay_at (A : Args) (n : Fin 4096) (h : Fin 8) (o : Fin 128) : decay A (ix2 n (hcol h o)) = A.a h o n.val := by
  have e : decay A (ix2 n (hcol h o)) = Ideal.exp (A.L (ix3 0 n (hcol h o))) := by
    unfold decay
    generalize A.L = L
    pointwise
  rw [e, log_at]
  rfl

theorem added_at (A : Args) (n : Fin 4096) (h : Fin 8) (o : Fin 128) : added A (ix2 n (hcol h o)) = A.u h o n.val := by
  have e : added A (ix2 n (hcol h o)) = addR A.L (gateR A.xw A.xb A.X) A.X (ix3 0 n (hcol h o)) := by
    unfold added
    generalize addR A.L (gateR A.xw A.xb A.X) A.X = L
    pointwise
  rw [e, addR_apply, log_at, gate_at, convR_apply]
  rfl

theorem run_congr {a a' u u' : ℕ → EReal} (h : EReal) : ∀ n, (∀ l, l < n → a l = a' l ∧ u l = u' l) → run a u 0 n h = run a' u' 0 n h
  | 0, _ => rfl
  | n + 1, e => by
    show a (0 + n) * run a u 0 n h + u (0 + n) = a' (0 + n) * run a' u' 0 n h + u' (0 + n)
    rw [run_congr h n fun l hl => e l (by omega), Nat.zero_add, (e n (by omega)).1, (e n (by omega)).2]

/-- The saved states. -/
theorem saved_at (c : Dev nD) (n : Fin 4096) (h : Fin 8) (o : Fin 128) :
    (V m c main_v185 : FVec Ideal S4096x1024 .f32) (ix2 n (hcol h o)) = (args m c).st h o (n.val + 1) := by
  have hb := behind_eq m c (before_eq m c)
  have h0 : behind m c (Proc.devRef .tc main_v74) = (broadcastInDim S1x1024 ![] bcast_S_S1x1024 (constant (F := Ideal) S_ .f32 0x00000000#32) : FVec Ideal S1x1024 .f32) := by
    unfold behind before
    simp only [part, hostOps0_2, List.drop_succ_cons, List.drop_zero, List.take_succ_cons, List.take_zero]
    after_reads_simp
  have e : (V m c main_v185 : FVec Ideal S4096x1024 .f32)
      = addf (mulf (dbl (decay (args m c)) (added (args m c)) 12).1 (broadcastInDim S4096x1024 ![0, 1] bcast_S1x1024_S4096x1024_0_1
          (broadcastInDim S1x1024 ![] bcast_S_S1x1024 (constant (F := Ideal) S_ .f32 0x00000000#32))))
        (dbl (decay (args m c)) (added (args m c)) 12).2 := by
    rw [← hb.1, ← hb.2, ← h0, V_eq]
    generalize behind m c = W
    simp only [hostOps0_2, List.drop_succ_cons, List.drop_zero]
    after_reads_simp
  rw [e]
  generalize args m c = A
  refine Eq.trans ?_ ((dbl_all (decay A) (added A) (hcol h o) (fun l => ?_) n 0).trans ?_)
  · generalize dbl (decay A) (added A) 12 = D
    pointwise
  · rw [decay_at]; exact A.a_range h o l.val
  · unfold Args.st
    refine run_congr 0 _ fun l hl => ?_
    have hl' : l < 4096 := by omega
    exact ⟨(colf_at _ _ ⟨l, hl'⟩).trans (decay_at A ⟨l, hl'⟩ h o), (colf_at _ _ ⟨l, hl'⟩).trans (added_at A ⟨l, hl'⟩ h o)⟩

end Cert.RnnB

end
-- ==== Proof.RnnB.Blocks.lean ====
/- The blocks of a grid point of the recurrent layer's backward call that the gate's gradient comes from, and the store that
   holds it. Point `t` works on head `t / 4` and, from the last to the first, on the rows of block `3 - t % 4`. -/
module

public import proofs.«01_k».proof.Proof.RnnB.Entry
public import proofs.«01_k».proof.Proof.Gen.Kernel13Ideal.Frame
public import Idealize.ShloMosaic.Lib.Pipeline.ValueKit
public import Idealize.ShloMosaic.Lib.Pipeline.ReadBack
public import proofs.«01_k».proof.Proof.Pool.Stores

@[expose] public section

noncomputable section

namespace Cert.RnnB

open Cert.Kernel13Ideal Cert.Kernel13Ideal.Gen Cert.Rnn Idealize.ShloMosaic Idealize.ShloMosaic.TcCoe Idealize.SL.Sem Idealize.ShloMosaic.StableHlo
open Cert.Pool (emb3)

variable (m : (ℓ : Loc nD τ sig) → Buf (Elt Ideal) ℓ)

/-- The gradient of the layer's output. -/
abbrev dout (c : Dev nD) : FVec Ideal S1x4096x1024 .f32 := m ((c : Thread nD τ).loc main_arg9)

theorem e0 : ∀ t : Fin cfg0.N, win0_0.index t = ![0, 3 - t.val % 4, t.val / 4] := (by decide +kernel : ∀ t : Fin grid0.N, _)
theorem e2 : ∀ t : Fin cfg0.N, win0_2.index t = ![3 - t.val % 4, t.val / 4] := (by decide +kernel : ∀ t : Fin grid0.N, _)
theorem e4 : ∀ t : Fin cfg0.N, win0_4.index t = ![3 - t.val % 4, t.val / 4] := (by decide +kernel : ∀ t : Fin grid0.N, _)
theorem e9 : ∀ t : Fin cfg0.N, win0_9.index t = ![0, 3 - t.val % 4, t.val / 4] := (by decide +kernel : ∀ t : Fin grid0.N, _)

theorem lt32 (t : Fin cfg0.N) : t.val < 32 := lt_of_lt_of_eq t.isLt (show cfg0.N = 32 from N_0)

/-- Row `r` of the point's block, in the whole sequence. -/
def row (t : Fin cfg0.N) (r : Fin 1024) : Fin 4096 := ⟨(3 - t.val % 4) * 1024 + r.val, by omega⟩

/-- The point's head. -/
def head (t : Fin cfg0.N) : Fin 8 := ⟨t.val / 4, by have := lt32 t; omega⟩

theorem behind_arg (c : Dev nD) : behind m c (Proc.devRef .tc main_arg1) = (args m c).g ∧ behind m c (Proc.devRef .tc main_arg9) = dout m c := by
  rw [show (args m c).g = V m c main_arg1 from (V_main_arg1 m c).symm, show dout m c = V m c main_arg9 from (V_main_arg9 m c).symm, V_eq, V_eq]
  generalize behind m c = W
  simp only [hostOps0_2, List.drop_succ_cons, List.drop_zero]
  constructor <;> after_reads_simp

/-- An array as a plane of the stack that the call takes. -/
def plane (v : FVec Ideal S1x4096x1024 .f32) : FVec Ideal S1x4096x1024 .f32 :=
  broadcastInDim S1x4096x1024 ![1, 2] bcast_S4096x1024_S1x4096x1024_1_2 (shapeCast S4096x1024 v shapeCasts_S1x4096x1024_S4096x1024)

/-- A plane of zeros. -/
def noPlane : FVec Ideal S1x4096x1024 .f32 :=
  broadcastInDim S1x4096x1024 ![1, 2] bcast_S4096x1024_S1x4096x1024_1_2 (broadcastInDim S4096x1024 ![] bcast_S_S4096x1024 (constant S_ .f32 0x00000000#32))

theorem stack_g (c : Dev nD) (n : Fin 4096) (j : Fin 1024) :
    (V m c main_v199 : FVec Ideal S4x4096x1024 .f32) (ix3 1 n j) = (args m c).g (ix3 0 n j) := by
  rw [← (behind_arg m c).1, V_eq]
  generalize behind m c = W
  have e : after (hostOps0_2.drop 148) W (Proc.devRef .tc main_v199)
      = concatenate S4x4096x1024 0 [⟨S1x4096x1024, plane (W (Proc.devRef .tc main_arg0))⟩, ⟨S1x4096x1024, plane (W (Proc.devRef .tc main_arg1))⟩,
          ⟨S1x4096x1024, noPlane⟩, ⟨S1x4096x1024, noPlane⟩] concatenates_S1x4096x1024_S1x4096x1024_S1x4096x1024_S1x4096x1024_S4x4096x1024_d0 := by
    simp only [hostOps0_2, List.drop_succ_cons, List.drop_zero]
    after_reads_simp
    rfl
  rw [e]
  pointwise [plane, noPlane]

theorem cat_dy (c : Dev nD) (n : Fin 4096) (j : Fin 1024) (hj : j.val < 2048) :
    (V m c main_v201 : FVec Ideal S4096x2048 .f32) (ix2 n ⟨j.val, hj⟩) = dout m c (ix3 0 n j) := by
  have hl : j.val < 1024 := j.isLt
  rw [← (behind_arg m c).2, V_eq]
  generalize behind m c = W
  simp only [hostOps0_2, List.drop_succ_cons, List.drop_zero]
  after_reads_simp
  pointwise

theorem iblk_g (c : Dev nD) (t : Fin cfg0.N) (r : Fin 1024) (o : Fin 128) :
    iblk m c 0 t (ix3 1 r o) = (args m c).g (ix3 0 (row t r) (hcol (head t) o)) := by
  blk_simp [iblk, e0]
  rw [show (win0_0.blk t).view.emb (ix3 1 r o) = ix3 1 (row t r) (hcol (head t) o) by blk_ext [e0, row, hcol, head]]
  exact stack_g m c _ _

theorem iblk_dy (c : Dev nD) (t : Fin cfg0.N) (r : Fin 1024) (o : Fin 128) :
    iblk m c 4 t (ix2 r o) = dout m c (ix3 0 (row t r) (hcol (head t) o)) := by
  blk_simp [iblk, e4]
  rw [show (win0_4.blk t).view.emb (ix2 r o) = ix2 (row t r) ⟨(hcol (head t) o).val, by omega⟩ by blk_ext [e4, row, hcol, head]]
  exact cat_dy m c _ _ _

theorem iblk_h (c : Dev nD) (t : Fin cfg0.N) (r : Fin 1024) (o : Fin 128) :
    iblk m c 2 t (ix2 r o) = (args m c).st (head t) o ((row t r).val + 1) := by
  blk_simp [iblk, e2]
  rw [show (win0_2.blk t).view.emb (ix2 r o) = ix2 (row t r) (hcol (head t) o) by blk_ext [e2, row, hcol, head]]
  exact saved_at m c (row t r) (head t) o

/-- The store of the gate's gradient. -/
abbrev gPiece (c : Dev nD) (t : Fin cfg0.N) : View.Piece (Elt Ideal) S2x1024x128 .bf16 :=
  ⟨Rect.unit ![1, 0, 0] ![1, 1024, 128] inb_S2x1024x128_S1x1024x128_1_0_0,
    k0_pay29 (k0_pay12 (iblk m c 2 t)) (View.ld (iblk m c 0 t) (Rect.unit ![1, 0, 0] ![1, 1024, 128] inb_S2x1024x128_S1x1024x128_1_0_0)) (iblk m c 4 t)⟩

/-- The store beside it. -/
abbrev xPiece (z : FVec Ideal S1x1024x128 .bf16) : View.Piece (Elt Ideal) S2x1024x128 .bf16 :=
  ⟨Rect.unit ![0, 0, 0] ![1, 1024, 128] inb_S2x1024x128_S1x1024x128_0_0_0, z⟩

theorem out_A (c : Dev nD) (t : Fin cfg0.N) (h0 : t.val % 4 = 0) (h1 : ¬t.val % 4 = 3) :
    ∃ z, (outsAt0 m c t.val t.isLt).1 = View.canon [xPiece z, gPiece m c t] := by
  rw [outsAt0_A m c t h0 h1]
  refine ⟨?z, ?_⟩
  rotate_left
  · frame_out
    rfl

theorem out_B (c : Dev nD) (t : Fin cfg0.N) (h0 : ¬t.val % 4 = 0) (h1 : ¬t.val % 4 = 3) :
    ∃ z, (outsAt0 m c t.val t.isLt).1 = View.canon [xPiece z, gPiece m c t] := by
  rw [outsAt0_B m c t h0 h1]
  refine ⟨?z, ?_⟩
  rotate_left
  · frame_out
    rfl

theorem out_C (c : Dev nD) (t : Fin cfg0.N) (h0 : ¬t.val % 4 = 0) (h1 : t.val % 4 = 3) :
    ∃ z, (outsAt0 m c t.val t.isLt).1 = View.canon [xPiece z, gPiece m c t] := by
  rw [outsAt0_C m c t h0 h1]
  refine ⟨?z, ?_⟩
  rotate_left
  · frame_out
    rfl

end Cert.RnnB

end
-- ==== Proof.RnnB.Out.lean ====
/- The gate's gradient in the first result of the recurrent layer's backward call. -/
module

public import proofs.«01_k».proof.Proof.RnnB.Blocks
public import Idealize.ShloMosaic.Lib.Pipeline.Value

@[expose] public section

noncomputable section

namespace Cert.RnnB

open Cert.Kernel13Ideal Cert.Kernel13Ideal.Gen Cert.Rnn Idealize.ShloMosaic Idealize.ShloMosaic.TcCoe Idealize.SL.Sem Idealize.ShloMosaic.StableHlo
open Cert.Pool (emb3)

variable (m : (ℓ : Loc nD τ sig) → Buf (Elt Ideal) ℓ)

/-- The gradient of the gate at a state, a gradient of the output and a gate, as the kernel writes it. -/
def grad (h d g : EReal) : EReal :=
  d * h * (Ideal.div 1 (1 + Ideal.exp (0 - g)) * (1 + g * (1 - Ideal.div 1 (1 + Ideal.exp (0 - g)))))

theorem pay_at (h d : FVec Ideal S1024x128 .f32) (g : FVec Ideal S1x1024x128 .f32) (r : Fin 1024) (o : Fin 128) :
    k0_pay29 (F := Ideal) (k0_pay12 h) g d (ix3 0 r o) = grad (h (ix2 r o)) (d (ix2 r o)) (g (ix3 0 r o)) := by
  unfold grad
  pointwise [k0_pay29, k0_pay12, k0_pay26, k0_pay27, k0_pay28]

theorem in_piece (r : Fin 1024) (o : Fin 128) : (ix3 1 r o : S2x1024x128.Idx)
    = (Rect.unit (s := S2x1024x128) ![1, 0, 0] ![1, 1024, 128] inb_S2x1024x128_S1x1024x128_1_0_0).emb (ix3 0 r o) := by
  rw [emb3]
  exact congrArg₂ (ix3 _) (Fin.ext (Nat.zero_add _).symm) (Fin.ext (Nat.zero_add _).symm)

theorem canon_at (c : Dev nD) (t : Fin cfg0.N) (z : FVec Ideal S1x1024x128 .bf16) (r : Fin 1024) (o : Fin 128) :
    View.canon [xPiece z, gPiece m c t] (ix3 1 r o)
      = grad ((args m c).st (head t) o ((row t r).val + 1)) (dout m c (ix3 0 (row t r) (hcol (head t) o)))
          ((args m c).g (ix3 0 (row t r) (hcol (head t) o))) := by
  have hn : (ix3 1 r o : S2x1024x128.Idx) ∉ (xPiece z).1.set := by
    rw [Rect.mem_set_unit]
    intro h
    have h1 := (h 0).2
    change 1 < 0 + 1 at h1
    omega
  rw [View.canon_cons_of_not_mem _ _ hn, in_piece, View.canon_cons_emb]
  refine (pay_at _ _ _ r o).trans ?_
  rw [iblk_h, iblk_dy]
  refine congrArg (grad _ _) ?_
  show iblk m c 0 t ((Rect.unit (s := S2x1024x128) ![1, 0, 0] ![1, 1024, 128] inb_S2x1024x128_S1x1024x128_1_0_0).emb (ix3 0 r o)) = _
  rw [← in_piece]
  exact iblk_g m c t r o

theorem written_at (c : Dev nD) (t : Fin cfg0.N) (r : Fin 1024) (o : Fin 128) :
    (outsAt0 m c t.val t.isLt).1 (ix3 1 r o)
      = grad ((args m c).st (head t) o ((row t r).val + 1)) (dout m c (ix3 0 (row t r) (hcol (head t) o)))
          ((args m c).g (ix3 0 (row t r) (hcol (head t) o))) := by
  have h : ∃ z, (outsAt0 m c t.val t.isLt).1 = View.canon [xPiece z, gPiece m c t] := by
    by_cases h0 : t.val % 4 = 0
    · exact out_A m c t h0 (by omega)
    · by_cases h1 : t.val % 4 = 3
      · exact out_C m c t h0 h1
      · exact out_B m c t h0 h1
  obtain ⟨z, hz⟩ := h
  rw [hz]
  exact canon_at m c t z r o

theorem apart : ∀ t t' : Fin cfg0.N, (cfg0.win 9).flush t = true → (cfg0.win 9).flush t' = true → t ≠ t' →
    Disjoint ((cfg0.win 9).blk t).view.set ((cfg0.win 9).blk t').view.set :=
  fun t t' _ _ hne => (cfg0.win 9).disjoint_blk fun h => hne
    ((by decide +kernel : ∀ t t' : Fin grid0.N, win0_9.index t = win0_9.index t' → t = t') t t' h)

/-- The plane of the gate's gradient. -/
theorem arr9 (c : Dev nD) (n : Fin 4096) (h : Fin 8) (o : Fin 128) :
    (dats m 0 c).arrAt 9 cfg0.N (ix3 1 n (hcol h o) : S4x4096x1024.Idx)
      = grad ((args m c).st h o (n.val + 1)) (dout m c (ix3 0 n (hcol h o))) ((args m c).g (ix3 0 n (hcol h o))) := by
  obtain ⟨t, r, rfl, rfl⟩ : ∃ (t : Fin cfg0.N) (r : Fin 1024), n = row t r ∧ h = head t := by
    have hN : cfg0.N = 32 := N_0
    refine ⟨⟨h.val * 4 + (3 - n.val / 1024), by omega⟩, ⟨n.val % 1024, by omega⟩, Fin.ext ?_, Fin.ext ?_⟩
    · show n.val = (3 - (h.val * 4 + (3 - n.val / 1024)) % 4) * 1024 + n.val % 1024
      omega
    · show h.val = (h.val * 4 + (3 - n.val / 1024)) / 4
      omega
  have hf : (cfg0.win 9).flush t = true := (by decide +kernel : ∀ t : Fin grid0.N, win0_9.flush t = true) t
  have e := congrFun ((dats m 0 c).read_blk_arrAt_eq_flushed 9 apart cfg0.N t t.isLt hf) (ix3 1 r o)
  have e' : (dats m 0 c).flushed 9 t = (cfg0.win 9).cut (grid0.coords t) ((outsAt0 m c t.val t.isLt).1) := by
    show (cfg0.win 9).cut (grid0.coords t) ((dats m 0 c).after 9 t) = _
    rw [after0_9]
  have key : ∀ G : FVec Ideal S4x4096x1024 .bf16,
      (win0_9.blk t).view.read (Elt Ideal) G (ix3 1 r o) = G (ix3 1 (row t r) (hcol (head t) o)) := fun G =>
    congrArg G (show (win0_9.blk t).view.emb (ix3 1 r o) = ix3 1 (row t r) (hcol (head t) o) by blk_ext [e9, row, hcol, head])
  have w := written_at m c t r o
  generalize (outsAt0 m c t.val t.isLt).1 = X at e' w
  rw [e'] at e
  have lhs := key ((dats m 0 c).arrAt 9 cfg0.N)
  exact lhs.symm.trans (e.trans ((show win0_9.cut (grid0.coords t) X (ix3 1 r o) = X (ix3 1 r o) from rfl).trans w))

end Cert.RnnB

end
-- ==== Proof.Shared.Rms.lean ====
/- Over real values, the two ways of writing the gradient of a root-mean-square norm agree: the kernel's closed form
   and the reference's chain of derivatives. -/
module

public import Idealize.ShloMosaic.Lib.Pointwise

@[expose] public section

noncomputable section

namespace Cert.Shared

open Idealize.ShloMosaic

/-- The f32 pattern of 1024. -/
theorem width_eq : Ideal.ofBits .f32 0x44800000#32 = ((1024 : ℝ) : EReal) := by
  simp [Ideal.ofBits, Ideal.ieee, -EReal.coe_mul]; norm_num

/-- The f32 pattern of minus one half. -/
theorem minus_half_eq : Ideal.ofBits .f32 0xBF000000#32 = ((-(1 / 2) : ℝ) : EReal) := by
  simp [Ideal.ofBits, Ideal.ieee, -EReal.coe_mul]; norm_num

/-- The norm's epsilon is a positive real. -/
theorem eps_eq : ∃ e : ℝ, 0 < e ∧ Ideal.ofBits .f32 0x358637BD#32 = (e : EReal) := by
  refine ⟨_, ?_, by simp [Ideal.ofBits, Ideal.ieee, -EReal.coe_mul]; rfl⟩
  norm_num

/-- A finite sum of reals, read in the extended reals. -/
theorem coe_sum {ι : Type*} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- A quotient of reals by a nonzero real. -/
theorem coe_div (a : ℝ) {b : ℝ} (hb : b ≠ 0) : Ideal.div (a : EReal) (b : EReal) = ((a / b : ℝ) : EReal) := by
  rw [Ideal.div_coe hb, ← EReal.coe_mul, mul_one_div]

/-- One over the root of a positive real. -/
theorem coe_rsqrt {a : ℝ} (ha : 0 < a) : Ideal.rsqrt (a : EReal) = (((Real.sqrt a)⁻¹ : ℝ) : EReal) := by
  rw [Ideal.rsqrt_coe, if_neg ha.le.not_gt, if_neg ha.ne']

/-- The mean of squares plus epsilon, of a row of reals: a positive real. -/
theorem mean_sq {n : ℕ} (x : Fin n → ℝ) {e : ℝ} (he : Ideal.ofBits .f32 0x358637BD#32 = (e : EReal)) :
    Ideal.div (∑ k, (x k : EReal) * (x k : EReal)) (Ideal.ofBits .f32 0x44800000#32) + Ideal.ofBits .f32 0x358637BD#32
      = (((∑ k, x k * x k) / 1024 + e : ℝ) : EReal) := by
  simp only [← EReal.coe_mul, ← coe_sum, width_eq, he]
  rw [coe_div _ (by norm_num), ← EReal.coe_add]

/-- The gradient of the norm at lane `l`, by the chain rule (left) and in closed form (right). -/
theorem rms_grad {n : ℕ} (x G : Fin n → ℝ) (o : EReal) (l : Fin n) (ms r u : EReal)
    (hms : ms = Ideal.div (∑ k, (x k : EReal) * (x k : EReal)) (Ideal.ofBits .f32 0x44800000#32) + Ideal.ofBits .f32 0x358637BD#32)
    (hr : r = Ideal.rsqrt ms)
    (hu : u = Ideal.div ((∑ k, (x k : EReal) * (G k : EReal)) * (Ideal.ofBits .f32 0xBF000000#32 * Ideal.div r ms))
      (Ideal.ofBits .f32 0x44800000#32)) :
    o + (G l : EReal) * r + (x l : EReal) * u + u * (x l : EReal)
      = o + r * ((G l : EReal) - (x l : EReal) * r
          * Ideal.div (∑ k, (G k : EReal) * ((x k : EReal) * r)) (Ideal.ofBits .f32 0x44800000#32)) := by
  obtain ⟨e, e0, he⟩ := eps_eq
  have hp : 0 < (∑ k, x k * x k) / 1024 + e := by
    have : 0 ≤ ∑ k, x k * x k := Finset.sum_nonneg fun k _ => mul_self_nonneg (x k)
    positivity
  rw [mean_sq x he] at hms
  generalize (∑ k, x k * x k) / 1024 + e = M at hms hp
  subst hms
  rw [coe_rsqrt hp] at hr
  have hsq : (Real.sqrt M)⁻¹ * (Real.sqrt M)⁻¹ = M⁻¹ := by rw [← mul_inv, Real.mul_self_sqrt hp.le]
  generalize (Real.sqrt M)⁻¹ = R at hr hsq
  subst hr
  rw [coe_div _ hp.ne', minus_half_eq, width_eq] at hu
  simp only [← EReal.coe_mul, ← coe_sum] at hu
  rw [coe_div _ (by norm_num)] at hu
  subst hu
  simp only [width_eq, ← EReal.coe_mul, ← coe_sum]
  rw [coe_div _ (by norm_num)]
  simp only [← EReal.coe_mul, ← EReal.coe_sub, add_assoc, ← EReal.coe_add]
  congr 2
  have hS : ∑ k, G k * (x k * R) = (∑ k, x k * G k) * R := by
    rw [Finset.sum_mul]; exact Finset.sum_congr rfl fun k _ => by ring
  rw [hS, div_eq_mul_inv R M, ← hsq]
  ring

end Cert.Shared
-- ==== Proof.Pool.Reals.lean ====
/- At real arguments: a difference of two running sums is a window's sum, and the running sum, taken backward, of a sequence
   minus the sequence moved up is a window's sum ahead. -/
module

public import proofs.«01_k».proof.Proof.Pool.Spec
public import proofs.«01_k».proof.Proof.Shared.Rms

@[expose] public section

noncomputable section

namespace Cert.Pool

open Cert.Kernel2Ideal Idealize.ShloMosaic

/-- The last `d` values of a running sum, as far as they exist. -/
theorem prefix_sub (F : ℕ → ℝ) (d s : ℕ) :
    (∑ k ∈ Finset.range (s + 1), F k) - (if s < d then 0 else ∑ k ∈ Finset.range (s - d + 1), F k)
      = ∑ k ∈ Finset.range d, if k ≤ s then F (s - k) else 0 := by
  by_cases h : s < d
  · rw [if_pos h, sub_zero, show Finset.range d = Finset.range ((s + 1) + (d - (s + 1))) from congrArg _ (by omega),
      Finset.sum_range_add (fun k => if k ≤ s then F (s - k) else 0), Finset.sum_eq_zero (s := Finset.range (d - (s + 1))), add_zero, ← Finset.sum_range_reflect]
    · refine Finset.sum_congr rfl fun k hk => ?_
      have := Finset.mem_range.mp hk
      rw [if_pos (by omega)]
      exact congrArg F (by omega)
    · exact fun k _ => if_neg (by omega)
  · rw [if_neg h, show Finset.range (s + 1) = Finset.range ((s - d + 1) + d) from congrArg _ (by omega), Finset.sum_range_add,
      add_sub_cancel_left, ← Finset.sum_range_reflect]
    refine Finset.sum_congr rfl fun k hk => ?_
    have := Finset.mem_range.mp hk
    rw [if_pos (by omega)]
    exact congrArg F (by omega)

/-- The first `d` values from `s` on, of a sequence that is zero from `N` on. -/
theorem suffix_sub (F : ℕ → ℝ) (N d s : ℕ) (hs : s ≤ N) (hF : ∀ n, N ≤ n → F n = 0) :
    (∑ k ∈ Finset.range (N - s), (F (s + k) + -F (s + k + d))) = ∑ k ∈ Finset.range d, F (s + k) := by
  rw [Finset.sum_add_distrib, Finset.sum_neg_distrib]
  have e1 := Finset.sum_range_add (fun k => F (s + k)) d (N - s)
  have e2 := Finset.sum_range_add (fun k => F (s + k)) (N - s) d
  rw [Finset.sum_eq_zero (s := Finset.range d) fun k _ => hF _ (by omega), add_zero, add_comm (N - s) d, e1] at e2
  rw [← e2, Finset.sum_congr rfl fun k _ => congrArg F (show s + (d + k) = s + k + d by omega)]
  ring

/-- The argument arrays hold real numbers. -/
structure Args.Real (A : Args) : Prop where
  x : ∀ s L, ∃ r : ℝ, A.x (ix3 0 s L) = (r : EReal)
  gate : ∀ s L, ∃ r : ℝ, A.gate (ix3 0 s L) = (r : EReal)
  w : ∀ g i j, ∃ r : ℝ, A.w (ix3 g i j) = (r : EReal)
  b : ∀ g l, ∃ r : ℝ, A.b (ix2 g l) = (r : EReal)
  scale : ∀ L, ∃ r : ℝ, A.scale (ix1 L) = (r : EReal)
  dy : ∀ s L, ∃ r : ℝ, A.dy (ix3 0 s L) = (r : EReal)

/-- A value that is a real number. -/
def IsReal (x : EReal) : Prop := ∃ r : ℝ, x = (r : EReal)

namespace IsReal

theorem add {x y : EReal} : IsReal x → IsReal y → IsReal (x + y) := fun ⟨a, ha⟩ ⟨b, hb⟩ => ⟨a + b, by rw [ha, hb, EReal.coe_add]⟩
theorem sub {x y : EReal} : IsReal x → IsReal y → IsReal (x - y) := fun ⟨a, ha⟩ ⟨b, hb⟩ => ⟨a - b, by rw [ha, hb, EReal.coe_sub]⟩
theorem mul {x y : EReal} : IsReal x → IsReal y → IsReal (x * y) := fun ⟨a, ha⟩ ⟨b, hb⟩ => ⟨a * b, by rw [ha, hb, EReal.coe_mul]⟩
theorem sum {ι : Type} (s : Finset ι) {f : ι → EReal} (h : ∀ i, IsReal (f i)) : IsReal (∑ i ∈ s, f i) := by
  choose F hF using h
  exact ⟨∑ i ∈ s, F i, by rw [Shared.coe_sum]; exact Finset.sum_congr rfl fun i _ => hF i⟩

end IsReal

theorem count_ne (g : Fin 4) (n : ℕ) : ((min (n + 1) (win g) : ℕ) : ℝ) ≠ 0 := by
  have : 0 < win g := Nat.two_pow_pos _
  exact Nat.cast_ne_zero.mpr (by omega)

/-- Dividing by the count is multiplying by one over it. -/
theorem div_count (g : Fin 4) (n : ℕ) {x : EReal} (hx : IsReal x) : Ideal.div x (count g n) = x * inv g n := by
  obtain ⟨r, rfl⟩ := hx
  unfold inv count
  rw [Shared.coe_div _ (count_ne g n), ← EReal.coe_one, Shared.coe_div _ (count_ne g n), ← EReal.coe_mul, mul_one_div]

theorem inv_real (g : Fin 4) (n : ℕ) : IsReal (inv g n) := by
  unfold inv count
  exact ⟨_, by rw [← EReal.coe_one, Shared.coe_div _ (count_ne g n)]⟩

namespace Args

variable {A : Args} (hA : A.Real)

/-- The input's lane, zero behind the end. -/
def xf (A : Args) (L : Fin 1024) (n : ℕ) : EReal := if h : n < 4096 then A.x (ix3 0 ⟨n, h⟩ L) else 0

include hA

theorem xf_real (L : Fin 1024) (n : ℕ) : IsReal (A.xf L n) := by
  unfold xf
  split_ifs with h
  · exact hA.x _ _
  · exact ⟨0, rfl⟩

/-- The difference of two running sums of the input is the window's sum. -/
theorem run_sub (g : Fin 4) (s : Fin 4096) (L : Fin 1024) :
    (∑ k ∈ Finset.range (s.val + 1), A.xf L k) - (if s.val < win g then 0 else ∑ k ∈ Finset.range (s.val - win g + 1), A.xf L k)
      = back (A.xs L) (win g) (s.val + 16) := by
  have hw : win g ≤ 16 := Nat.pow_le_pow_right (by decide) (show g.val + 1 ≤ 4 by omega)
  choose F hF using xf_real hA L
  have e := congrArg (fun r : ℝ => (r : EReal)) (prefix_sub F (win g) s.val)
  have e' : ((if s.val < win g then (0 : ℝ) else ∑ k ∈ Finset.range (s.val - win g + 1), F k : ℝ) : EReal)
      = if s.val < win g then 0 else ∑ k ∈ Finset.range (s.val - win g + 1), (F k : EReal) := by
    split_ifs
    · rfl
    · exact Shared.coe_sum _ _
  simp only [EReal.coe_sub, Shared.coe_sum, e'] at e
  simp only [hF]
  refine e.trans (Finset.sum_congr rfl fun k hk => ?_)
  have := Finset.mem_range.mp hk
  unfold xs
  by_cases h : k ≤ s.val
  · rw [if_pos h, dif_pos (by omega), ← hF]
    unfold xf
    rw [dif_pos (by omega)]
    exact congrArg (fun q => A.x (ix3 0 q L)) (Fin.ext (show s.val - k = s.val + 16 - k - 16 by omega))
  · rw [if_neg h, dif_neg (by omega)]
    rfl

theorem back_real (g : Fin 4) (s : Fin 4096) (L : Fin 1024) : IsReal (back (A.xs L) (win g) (s.val + 16)) := by
  unfold back
  refine IsReal.sum _ fun k => ?_
  unfold xs
  split_ifs
  · exact hA.x _ _
  · exact ⟨0, rfl⟩

theorem pooled_real (g : Fin 4) (s : Fin 4096) (l : Fin 256) : IsReal (A.pooled g s l) :=
  ((back_real hA g s _).mul (inv_real g s)).sub (hA.x _ _)

/-- The reference's mean, by a division. -/
theorem pooled_eq (g : Fin 4) (s : Fin 4096) (l : Fin 256) : Ideal.div ((∑ k ∈ Finset.range (s.val + 1), A.xf (lane g l) k)
    - (if s.val < win g then 0 else ∑ k ∈ Finset.range (s.val - win g + 1), A.xf (lane g l) k)) (count g s) - A.x (ix3 0 s (lane g l))
      = A.pooled g s l := by
  rw [run_sub hA, div_count _ _ (back_real hA g s _)]
  rfl

theorem z_real (g : Fin 4) (s : Fin 4096) (l : Fin 256) : IsReal (A.z g s l) :=
  (IsReal.sum _ fun i => (pooled_real hA g s i).mul (hA.w g i l)).add (hA.b g l)

theorem sg_real (s : Fin 4096) (L : Fin 1024) : IsReal (A.sg s L) := by
  obtain ⟨r, h⟩ := hA.gate s L
  unfold sg
  rw [h, ← EReal.coe_zero, ← EReal.coe_sub, Ideal.exp_coe, ← EReal.coe_one, ← EReal.coe_add]
  exact ⟨_, Shared.coe_div _ (by have := Real.exp_pos (0 - r); linarith)⟩

theorem dyp_real (s : Fin 4096) (L : Fin 1024) : IsReal (A.dyp s L) :=
  IsReal.mul (hA.dy s L) (IsReal.mul (hA.gate s L) (sg_real hA s L))

theorem dz_real (s : Fin 4096) (L : Fin 1024) : IsReal (A.dz s L) := (dyp_real hA s L).mul (hA.scale L)

theorem dpooled_real (g : Fin 4) (s : Fin 4096) (l : Fin 256) : IsReal (A.dpooled g s l) :=
  IsReal.sum _ fun j => (dz_real hA s _).mul (hA.w g l j)

theorem q_real (g : Fin 4) (l : Fin 256) (n : ℕ) : IsReal (A.q g l n) := by
  unfold q
  split_ifs with h
  · exact (dpooled_real hA g _ l).mul (inv_real g n)
  · exact ⟨0, rfl⟩

/-- A mean's cotangent over its count, less the one `d` positions ahead where there is one. -/
theorem q_eq (g : Fin 4) (s : Fin 4096) (l : Fin 256) (d e : ℕ) (hd : d = win g) (he : e + d = 4096) :
    (Ideal.div (A.dpooled g s l) (count g s)
      + if h : s.val < e then -Ideal.div (A.dpooled g ⟨d + s.val, by omega⟩ l) (count g (d + s.val)) else 0)
      = A.q g l s.val + -A.q g l (s.val + win g) := by
  subst hd
  unfold q
  rw [dif_pos s.isLt, div_count _ _ (dpooled_real hA g s l)]
  by_cases h : s.val < e
  · rw [dif_pos h, dif_pos (by omega), div_count _ _ (dpooled_real hA g _ l)]
    simp only [Nat.add_comm (win g) s.val]
  · rw [dif_neg h, dif_neg (by omega), neg_zero]

/-- The reference's gradient of the input: the means' cotangents, each counted at its position and taken away where the window
    has passed, added from the end. -/
theorem dx_eq (g : Fin 4) (s : Fin 4096) (l : Fin 256) :
    -A.dpooled g s l + ∑ k ∈ Finset.range (4096 - s.val), (A.q g l (s.val + k) + -A.q g l (s.val + k + win g)) = A.dx g s l := by
  choose F hF using q_real hA g l
  have h0 : ∀ n, 4096 ≤ n → F n = 0 := fun n hn => by
    have e := hF n
    unfold q at e
    rw [dif_neg (by omega)] at e
    exact (EReal.coe_eq_zero.mp e.symm)
  have e := congrArg (fun r : ℝ => (r : EReal)) (suffix_sub F 4096 (win g) s.val (by omega) h0)
  simp only [Shared.coe_sum, EReal.coe_add, EReal.coe_neg] at e
  unfold dx ahead
  simp only [hF]
  rw [e, add_comm, ← sub_eq_add_neg]

/-- The reference's gradient of the gate, by the product rule. -/
theorem dgate_eq (g : Fin 4) (s : Fin 4096) (l : Fin 256) :
    A.z g s l * A.scale (ix1 (lane g l)) * A.dy (ix3 0 s (lane g l)) * A.sg s (lane g l)
      + A.gate (ix3 0 s (lane g l)) * (A.z g s l * A.scale (ix1 (lane g l)) * A.dy (ix3 0 s (lane g l)))
        * (A.sg s (lane g l) * (1 - A.sg s (lane g l))) = A.dgate g s l := by
  unfold dgate
  obtain ⟨z, hz⟩ := z_real hA g s l
  obtain ⟨c, hc⟩ := hA.scale (lane g l)
  obtain ⟨y, hy⟩ := hA.dy s (lane g l)
  obtain ⟨t, ht⟩ := hA.gate s (lane g l)
  obtain ⟨r, hr⟩ := sg_real hA s (lane g l)
  rw [hz, hc, hy, ht, hr, ← EReal.coe_one]
  simp only [← EReal.coe_mul, ← EReal.coe_add, ← EReal.coe_sub]
  exact congrArg _ (by ring)

end Args

end Cert.Pool

end
-- ==== Proof.RnnB.Reals.lean ====
/- The states are real numbers wherever the convolution is, and then the two ways of writing the gate's gradient agree. -/
module

public import proofs.«01_k».proof.Proof.Rnn.Spec
public import proofs.«01_k».proof.Proof.Pool.Reals

@[expose] public section

noncomputable section

namespace Cert.RnnB

open Cert.Rnn Idealize.ShloMosaic
open Cert.Pool (IsReal)

theorem real_of_ne {x : EReal} (h0 : 0 ≤ x) (h1 : x ≠ ⊤) : IsReal x :=
  ⟨x.toReal, (EReal.coe_toReal h1 (fun e => by rw [e] at h0; exact absurd h0 (by decide))).symm⟩

/-- A logistic gate is a real number, at the infinities too. -/
theorem gate_real (y : EReal) : IsReal (Ideal.div 1 (1 + Ideal.exp y)) := by
  have h1 : (1 : EReal) ≤ 1 + Ideal.exp y := le_add_of_nonneg_right (exp_nonneg y)
  refine real_of_ne (gate_nonneg y) (ne_of_lt (lt_of_le_of_lt (b := 1) ?_ (EReal.coe_lt_top 1)))
  unfold Ideal.div
  rw [if_neg (zero_lt_one.trans_le h1).ne', one_mul]
  generalize 1 + Ideal.exp y = z at h1
  induction z with
  | bot => exact absurd h1 (by decide)
  | top => rw [EReal.inv_top]; exact zero_le_one
  | coe r =>
    rw [← EReal.coe_inv]
    exact_mod_cast inv_le_one_of_one_le₀ (by exact_mod_cast h1)

/-- The square root of one less an exponential of something not above zero is a real number. -/
theorem drop_real {x : EReal} (h : x ≤ 0) : IsReal (Ideal.sqrt (-Ideal.expm1 x)) := by
  unfold Ideal.expm1
  induction x with
  | bot =>
    show IsReal (Ideal.sqrt (-((0 : EReal) - 1)))
    refine ⟨Real.sqrt 1, ?_⟩
    rw [zero_sub, neg_neg, ← EReal.coe_one]
    show (if (1 : ℝ) < 0 then (⊥ : EReal) else _) = _
    rw [if_neg (by norm_num)]
  | top => exact absurd h (by decide)
  | coe r =>
    have hr : r ≤ 0 := by exact_mod_cast h
    refine ⟨Real.sqrt (-(Real.exp r - 1)), ?_⟩
    show Ideal.sqrt (-(((Real.exp r : ℝ) : EReal) - 1)) = _
    rw [← EReal.coe_one, ← EReal.coe_sub, ← EReal.coe_neg]
    show (if -(Real.exp r - 1) < 0 then (⊥ : EReal) else _) = _
    rw [if_neg (by have := Real.exp_le_one_iff.mpr hr; linarith)]

/-- The arrays the convolution reads are real. -/
structure Finite (A : Args) : Prop where
  x : ∀ n j, IsReal (A.x (ix3 0 n j))
  cw : ∀ k j, IsReal (A.cw (ix2 k j))
  cb : ∀ j, IsReal (A.cb (ix1 j))

variable {A : Args} (hA : Finite A)
include hA

theorem xs_real (h : Fin 8) (o : Fin 128) (n : ℕ) : IsReal (A.xs h o n) := by
  unfold Args.xs
  split
  · exact hA.x _ _
  · exact ⟨0, rfl⟩

theorem xc_real (h : Fin 8) (o : Fin 128) (n : ℕ) : IsReal (A.xc h o n) := by
  have t : ∀ k i, IsReal (A.cw (ix2 k (hcol h o)) * A.xs h o i) := fun k i => (hA.cw k _).mul (xs_real hA h o i)
  exact ((((hA.cb _).add (t 3 _)).add (t 0 _)).add (t 1 _)).add (t 2 _)

theorem u_real (h : Fin 8) (o : Fin 128) (n : ℕ) : IsReal (A.u h o n) := by
  refine (drop_real ?_).mul ((gate_real _).mul (xc_real hA h o n))
  have hl : A.loga h o n ≤ 0 := decay_le (gate_nonneg _) (softplus_nonneg _)
  rw [two_word, ← neg_neg (A.loga h o n), mul_comm, EReal.neg_mul]
  exact EReal.neg_le_zero.mpr (mul_nonneg (by rw [← neg_zero]; exact EReal.neg_le_neg_iff.mpr hl) (by norm_num))

theorem st_real (h : Fin 8) (o : Fin 128) : ∀ n, IsReal (A.st h o n)
  | 0 => ⟨0, rfl⟩
  | n + 1 => by
    rw [A.st_succ]
    exact ((real_of_ne (A.a_range h o n).1 (A.a_range h o n).2).mul (st_real h o n)).add (u_real hA h o n)

omit hA

/-- The product rule, and the same gradient with the common factors taken out. -/
theorem rule_eq {h d g : EReal} (hh : IsReal h) (hd : IsReal d) (hg : IsReal g) (s : EReal) (hs : IsReal s) :
    h * d * s + g * (h * d) * (s * (1 - s)) = d * h * (s * (1 + g * (1 - s))) := by
  obtain ⟨a, rfl⟩ := hh
  obtain ⟨b, rfl⟩ := hd
  obtain ⟨c, rfl⟩ := hg
  obtain ⟨s, rfl⟩ := hs
  rw [← EReal.coe_one]
  simp only [← EReal.coe_mul, ← EReal.coe_add, ← EReal.coe_sub]
  exact congrArg _ (by ring)

end Cert.RnnB

end
-- ==== Proof.Rnn.Blocks.lean ====
/- The blocks that a grid point of the recurrent layer's forward call reads, as entries of the argument arrays. Point `t`
   works on the pair of heads `t / 8` and the rows of block `t % 8`. -/
module

public import proofs.«01_k».proof.Proof.Gen.Kernel6Ideal.Value
public import proofs.«01_k».proof.Proof.Rnn.Spec
public import Idealize.ShloMosaic.Lib.StableHlo.ReadAt
public import Idealize.ShloMosaic.Lib.Pipeline.ValueKit
public import Idealize.ShloMosaic.Lib.Pipeline.ReadBack

@[expose] public section

noncomputable section

namespace Cert.Rnn

open Cert.Kernel6Ideal Cert.Kernel6Ideal.Gen Idealize.ShloMosaic Idealize.ShloMosaic.TcCoe Idealize.SL.Sem Idealize.ShloMosaic.StableHlo

variable (m : (ℓ : Loc nD τ sig) → Buf (Elt Ideal) ℓ)

/-- The nine argument arrays on device `c`. -/
abbrev args (c : Dev nD) : Args where
  x := m ((c : Thread nD τ).loc main_arg0)
  g := m ((c : Thread nD τ).loc main_arg1)
  cw := m ((c : Thread nD τ).loc main_arg2)
  cb := m ((c : Thread nD τ).loc main_arg3)
  aw := m ((c : Thread nD τ).loc main_arg4)
  ab := m ((c : Thread nD τ).loc main_arg5)
  xw := m ((c : Thread nD τ).loc main_arg6)
  xb := m ((c : Thread nD τ).loc main_arg7)
  lam := m ((c : Thread nD τ).loc main_arg8)

theorem e0 : ∀ t : Fin cfg0.N, win0_0.index t = ![0, t.val % 8, t.val / 8] := (by decide +kernel : ∀ t : Fin grid0.N, _)
theorem e1 : ∀ t : Fin cfg0.N, win0_1.index t = ![0, t.val / 8] := (by decide +kernel : ∀ t : Fin grid0.N, _)
theorem e2 : ∀ t : Fin cfg0.N, win0_2.index t = ![0, t.val / 8] := (by decide +kernel : ∀ t : Fin grid0.N, _)
theorem e3 : ∀ t : Fin cfg0.N, win0_3.index t = ![t.val / 8, 0, 0] := (by decide +kernel : ∀ t : Fin grid0.N, _)
theorem e4 : ∀ t : Fin cfg0.N, win0_4.index t = ![t.val / 8, 0, 0] := (by decide +kernel : ∀ t : Fin grid0.N, _)
theorem e5 : ∀ t : Fin cfg0.N, win0_5.index t = ![t.val % 8, t.val / 8] := (by decide +kernel : ∀ t : Fin grid0.N, _)
theorem e6 : ∀ t : Fin cfg0.N, win0_6.index t = ![t.val % 8, t.val / 8] := (by decide +kernel : ∀ t : Fin grid0.N, _)

theorem lt32 (t : Fin cfg0.N) : t.val < 32 := lt_of_lt_of_eq t.isLt (show cfg0.N = 32 from N_0)

theorem head_hcol (h : Fin 8) (o : Fin 128) (hb : (hcol h o).val / 128 < 8) : (⟨(hcol h o).val / 128, hb⟩ : Fin 8) = h :=
  Fin.ext (by show (h.val * 128 + o.val) / 128 = h.val; omega)

theorem lane_hcol (h : Fin 8) (o : Fin 128) (hb : (hcol h o).val % 128 < 128) : (⟨(hcol h o).val % 128, hb⟩ : Fin 128) = o :=
  Fin.ext (by show (h.val * 128 + o.val) % 128 = o.val; omega)

/-- The block of rows point `t` works on. -/
abbrev blk (t : Fin cfg0.N) : ℕ := t.val % 8

/-- Row `r` of that block, in the whole sequence. -/
def row (t : Fin cfg0.N) (r : Fin 512) : Fin 4096 := ⟨blk t * 512 + r.val, by unfold blk; omega⟩

/-- Head `q` of the point's pair. -/
def head (t : Fin cfg0.N) (q : Fin 2) : Fin 8 := ⟨t.val / 8 * 2 + q.val, by have := lt32 t; omega⟩

/-- Lane `o` of head `q`, among the pair's columns. -/
def lane (q : Fin 2) (o : Fin 128) : Fin 256 := ⟨q.val * 128 + o.val, by omega⟩

theorem iblk0_x (c : Dev nD) (t : Fin cfg0.N) (r : Fin 512) (q : Fin 2) (o : Fin 128) :
    iblk m c 0 t (ix3 0 r (lane q o)) = (args m c).x (ix3 0 (row t r) (hcol (head t q) o)) := by
  blk_simp [iblk, e0]
  rw [show (win0_0.blk t).view.emb (ix3 0 r (lane q o)) = ix3 0 (row t r) (hcol (head t q) o) by blk_ext [e0, row, blk, hcol, head, lane]]
  unfold_abbrev_sides
  after_reads_at
  refine (congrFun (unary_result' ..) _).trans ?_
  after_reads_at

theorem iblk0_g (c : Dev nD) (t : Fin cfg0.N) (r : Fin 512) (q : Fin 2) (o : Fin 128) :
    iblk m c 0 t (ix3 1 r (lane q o)) = (args m c).g (ix3 0 (row t r) (hcol (head t q) o)) := by
  blk_simp [iblk, e0]
  rw [show (win0_0.blk t).view.emb (ix3 1 r (lane q o)) = ix3 1 (row t r) (hcol (head t q) o) by blk_ext [e0, row, blk, hcol, head, lane]]
  unfold_abbrev_sides
  after_reads_at
  refine (congrFun (unary_result' ..) _).trans ?_
  after_reads_at

theorem iblk1_apply (c : Dev nD) (t : Fin cfg0.N) (k : Fin 4) (q : Fin 2) (o : Fin 128) :
    iblk m c 1 t (ix2 k (lane q o)) = (args m c).cw (ix2 k (hcol (head t q) o)) := by
  blk_simp [iblk, e1]
  rw [show (win0_1.blk t).view.emb (ix2 k (lane q o)) = ix2 k (hcol (head t q) o) by blk_ext [e1, hcol, head, lane]]
  unfold_abbrev_sides
  after_reads_at

theorem iblk2_cb (c : Dev nD) (t : Fin cfg0.N) (q : Fin 2) (o : Fin 128) :
    iblk m c 2 t (ix2 0 (lane q o)) = (args m c).cb (ix1 (hcol (head t q) o)) := by
  blk_simp [iblk, e2]
  rw [show (win0_2.blk t).view.emb (ix2 0 (lane q o)) = ix2 0 (hcol (head t q) o) by blk_ext [e2, hcol, head, lane]]
  unfold_abbrev_sides
  after_reads_at
  refine (congrFun (reshape_result' ..) _).trans ?_
  after_reads_at

theorem iblk2_ab (c : Dev nD) (t : Fin cfg0.N) (q : Fin 2) (o : Fin 128) :
    iblk m c 2 t (ix2 1 (lane q o)) = (args m c).ab (ix2 (head t q) o) := by
  blk_simp [iblk, e2]
  rw [show (win0_2.blk t).view.emb (ix2 1 (lane q o)) = ix2 1 (hcol (head t q) o) by blk_ext [e2, hcol, head, lane]]
  unfold_abbrev_sides
  after_reads_at
  refine (congrFun (reshape_result' ..) _).trans ?_
  after_reads_at
  exact congrArg₂ (fun h o => (args m c).ab (ix2 h o)) (head_hcol _ _ _) (lane_hcol _ _ _)

theorem iblk2_xb (c : Dev nD) (t : Fin cfg0.N) (q : Fin 2) (o : Fin 128) :
    iblk m c 2 t (ix2 2 (lane q o)) = (args m c).xb (ix2 (head t q) o) := by
  blk_simp [iblk, e2]
  rw [show (win0_2.blk t).view.emb (ix2 2 (lane q o)) = ix2 2 (hcol (head t q) o) by blk_ext [e2, hcol, head, lane]]
  unfold_abbrev_sides
  after_reads_at
  refine (congrFun (reshape_result' ..) _).trans ?_
  after_reads_at
  exact congrArg₂ (fun h o => (args m c).xb (ix2 h o)) (head_hcol _ _ _) (lane_hcol _ _ _)

theorem iblk2_lam (c : Dev nD) (t : Fin cfg0.N) (q : Fin 2) (o : Fin 128) :
    iblk m c 2 t (ix2 3 (lane q o)) = (args m c).lam (ix1 (hcol (head t q) o)) := by
  blk_simp [iblk, e2]
  rw [show (win0_2.blk t).view.emb (ix2 3 (lane q o)) = ix2 3 (hcol (head t q) o) by blk_ext [e2, hcol, head, lane]]
  unfold_abbrev_sides
  after_reads_at
  refine (congrFun (reshape_result' ..) _).trans ?_
  after_reads_at

theorem iblk3_apply (c : Dev nD) (t : Fin cfg0.N) (q : Fin 2) (k o : Fin 128) :
    iblk m c 3 t (ix3 q k o) = (args m c).aw (ix3 (head t q) k o) := by
  blk_simp [iblk, e3]
  rw [show (win0_3.blk t).view.emb (ix3 q k o) = ix3 (head t q) k o by blk_ext [e3, head]]
  unfold_abbrev_sides
  after_reads_at

theorem iblk4_apply (c : Dev nD) (t : Fin cfg0.N) (q : Fin 2) (k o : Fin 128) :
    iblk m c 4 t (ix3 q k o) = (args m c).xw (ix3 (head t q) k o) := by
  blk_simp [iblk, e4]
  rw [show (win0_4.blk t).view.emb (ix3 q k o) = ix3 (head t q) k o by blk_ext [e4, head]]
  unfold_abbrev_sides
  after_reads_at

end Cert.Rnn

end
-- ==== Proof.Rnn.Pay.lean ====
/- The kernel's two nine-step scans, one per head of a pair, as the doubling of `Shift`. -/
module

public import proofs.«01_k».proof.Proof.Rnn.Shift

@[expose] public section

noncomputable section

namespace Cert.Rnn

open Cert.Kernel6Ideal Cert.Kernel6Ideal.Gen

open Idealize.ShloMosaic

theorem zero_word : (Scalar.ofBits .f32 0x00000000#32 : Ideal .f32) = (0 : EReal) := by
  show Ideal.ofBits .f32 0#32 = 0
  simp [Ideal.ofBits, Ideal.ieee]

theorem one_word : (Scalar.ofBits .f32 0x3F800000#32 : Ideal .f32) = (1 : EReal) := by
  show Ideal.ofBits .f32 0x3F800000#32 = 1
  simp [Ideal.ofBits, Ideal.ieee, -EReal.coe_mul]; norm_num

theorem p20 (A : FVec Ideal S512x128 .f32) : k0_pay20 A = stA 2 A := by
  unfold k0_pay20; dsimp only; rw [rot_2]; simp only [one_word]; rfl
theorem p21 (A : FVec Ideal S512x128 .f32) : k0_pay21 A = stA 4 (stA 2 A) := by
  unfold k0_pay21; dsimp only; rw [rot_4]; simp only [one_word, p20]; rfl
theorem p22 (A : FVec Ideal S512x128 .f32) : k0_pay22 A = stA 8 (stA 4 (stA 2 A)) := by
  unfold k0_pay22; simp only [cat_8, one_word, p21]; rfl
theorem p24 (A : FVec Ideal S512x128 .f32) : k0_pay24 A = stA 16 (stA 8 (stA 4 (stA 2 A))) := by
  unfold k0_pay24; simp only [cat_16, one_word, p22]; rfl
theorem p23 (U A : FVec Ideal S512x128 .f32) : k0_pay23 U A k0_pay19 2#32
    = stU 16 (stA 8 (stA 4 (stA 2 A))) (stU 8 (stA 4 (stA 2 A)) (stU 4 (stA 2 A) (stU 2 A U))) := by
  unfold k0_pay23 k0_pay19; dsimp only; rw [rot_2, rot_4]; simp only [cat_8, cat_16, zero_word, p20, p21, p22]; rfl
theorem p25 (h : FVec Ideal S1x128 .f32) (U A : FVec Ideal S512x128 .f32) :
    k0_pay25 h U A (Scalar.ofBits .f32 0x00000000#32)
      = addf (mulf (stA 256 (stA 128 (stA 64 (stA 32 A)))) (broadcastTo S512x128 h broadcasts_S1x128_S512x128))
          (stU 256 (stA 128 (stA 64 (stA 32 A))) (stU 128 (stA 64 (stA 32 A)) (stU 64 (stA 32 A) (stU 32 A U)))) := by
  unfold k0_pay25; simp only [cat_32, cat_64, cat_128, cat_256, zero_word, one_word]; rfl

theorem p39 (A : FVec Ideal S512x128 .f32) : k0_pay39 A = stA 2 A := by
  unfold k0_pay39; dsimp only; rw [rot_2]; simp only [one_word]; rfl
theorem p40 (A : FVec Ideal S512x128 .f32) : k0_pay40 A = stA 4 (stA 2 A) := by
  unfold k0_pay40; dsimp only; rw [rot_4]; simp only [one_word, p39]; rfl
theorem p41 (A : FVec Ideal S512x128 .f32) : k0_pay41 A = stA 8 (stA 4 (stA 2 A)) := by
  unfold k0_pay41; simp only [cat_8, one_word, p40]; rfl
theorem p42 (U A : FVec Ideal S512x128 .f32) (hi) : k0_pay42 U A (iota .tc S512x128 32 [0] hi) 2#32
    = stU 16 (stA 8 (stA 4 (stA 2 A))) (stU 8 (stA 4 (stA 2 A)) (stU 4 (stA 2 A) (stU 2 A U))) := by
  unfold k0_pay42; dsimp only; rw [rot_2, rot_4]; simp only [cat_8, cat_16, zero_word, p39, p40, p41]; rfl
theorem p45 (h : FVec Ideal S1x128 .f32) (U A A' : FVec Ideal S512x128 .f32) (hA : A' = stA 8 (stA 4 (stA 2 A))) :
    k0_pay45 h A' U k0_pay43 (k0_pay44 A)
      = addf (mulf (stA 256 (stA 128 (stA 64 (stA 32 (stA 16 A'))))) (broadcastTo S512x128 h broadcasts_S1x128_S512x128))
          (stU 256 (stA 128 (stA 64 (stA 32 (stA 16 A')))) (stU 128 (stA 64 (stA 32 (stA 16 A'))) (stU 64 (stA 32 (stA 16 A')) (stU 32 (stA 16 A') U)))) := by
  subst hA
  unfold k0_pay45 k0_pay43 k0_pay44; simp only [cat_16, cat_32, cat_64, cat_128, cat_256, zero_word, one_word, p41]; rfl

theorem scan_left (a u U A : FVec Ideal S512x128 .f32) (h : FVec Ideal S1x128 .f32) (hA : A = stA 1 a) (hU : U = stU 1 a u) :
    k0_pay25 h (k0_pay23 U A k0_pay19 2#32) (k0_pay24 A) (Scalar.ofBits .f32 0x00000000#32) = scanV a u h := by
  subst hA hU
  rw [p25, p23, p24]
  rfl

theorem scan_right (a u U A : FVec Ideal S512x128 .f32) (h : FVec Ideal S1x128 .f32) (hi) (hA : A = stA 1 a) (hU : U = stU 1 a u) :
    k0_pay45 h (k0_pay41 A) (k0_pay42 U A (iota .tc S512x128 32 [0] hi) 2#32) k0_pay43 (k0_pay44 A) = scanV a u h := by
  subst hA hU
  rw [p45 _ _ _ _ (p41 _), p42, p41]
  rfl

end Cert.Rnn

end
-- ==== Proof.Rnn.Stores.lean ====
/- The stores of one grid point of the recurrent layer's forward call: the buffer of input rows, the states of the two
   heads, the state carried to the next block and the gated output. -/
module

public import proofs.«01_k».proof.Proof.Rnn.Blocks
public import proofs.«01_k».proof.Proof.Rnn.Pay

@[expose] public section

noncomputable section

namespace Cert.Rnn

open Cert.Kernel6Ideal Cert.Kernel6Ideal.Gen Idealize.ShloMosaic Idealize.ShloMosaic.TcCoe Idealize.SL.Sem Idealize.ShloMosaic.StableHlo

variable (m : (ℓ : Loc nD τ sig) → Buf (Elt Ideal) ℓ)

/-- A row of the point's parameter block, for each head. -/
abbrev vecL (c : Dev nD) (t : Fin cfg0.N) (k : ℕ) (inb : ∀ a, (![k, 0] : Fin 2 → ℕ) a + (![1, 128] : Fin 2 → ℕ) a ≤ S8x256.size a) : Vec Ideal S1x128 .f32 := View.ld (iblk m c 2 t) (Rect.unit (s := S8x256) ![k, 0] ![1, 128] inb)
@[inherit_doc vecL] abbrev vecR (c : Dev nD) (t : Fin cfg0.N) (k : ℕ) (inb : ∀ a, (![k, 128] : Fin 2 → ℕ) a + (![1, 128] : Fin 2 → ℕ) a ≤ S8x256.size a) : Vec Ideal S1x128 .f32 := View.ld (iblk m c 2 t) (Rect.unit (s := S8x256) ![k, 128] ![1, 128] inb)

/-- A tap of the convolution, for each head. -/
abbrev tapL (c : Dev nD) (t : Fin cfg0.N) (k : ℕ) (inb : ∀ a, (![k, 0] : Fin 2 → ℕ) a + (![1, 128] : Fin 2 → ℕ) a ≤ S4x256.size a) : Vec Ideal S1x128 .f32 := View.ld (iblk m c 1 t) (Rect.unit (s := S4x256) ![k, 0] ![1, 128] inb)
@[inherit_doc tapL] abbrev tapR (c : Dev nD) (t : Fin cfg0.N) (k : ℕ) (inb : ∀ a, (![k, 128] : Fin 2 → ℕ) a + (![1, 128] : Fin 2 → ℕ) a ≤ S4x256.size a) : Vec Ideal S1x128 .f32 := View.ld (iblk m c 1 t) (Rect.unit (s := S4x256) ![k, 128] ![1, 128] inb)

/-- The convolution of the left head, from the four reads of the rows' buffer. -/
abbrev xcL (c : Dev nD) (t : Fin cfg0.N) (x16 x13 x14 x15 : Vec Ideal S512x128 .f32) : FVec Ideal S512x128 .f32 :=
  k0_pay7 (vecL m c t 0 inb_S8x256_S1x128_0_0) (tapL m c t 3 inb_S4x256_S1x128_3_0) x16 (tapL m c t 0 inb_S4x256_S1x128_0_0) x13
    (tapL m c t 1 inb_S4x256_S1x128_1_0) x14 (tapL m c t 2 inb_S4x256_S1x128_2_0) x15
/-- The convolution of the right head. -/
abbrev xcR (c : Dev nD) (t : Fin cfg0.N) (x16 x13 x14 x15 : Vec Ideal S512x128 .f32) : FVec Ideal S512x128 .f32 :=
  k0_pay29 (k0_pay28 (vecR m c t 0 inb_S8x256_S1x128_0_128) (tapR m c t 3 inb_S4x256_S1x128_3_128) x16 (tapR m c t 0 inb_S4x256_S1x128_0_128) x13
    (tapR m c t 1 inb_S4x256_S1x128_1_128) x14) (tapR m c t 2 inb_S4x256_S1x128_2_128) x15

/-- The left head's gate of the decay. -/
abbrev gaL (c : Dev nD) (t : Fin cfg0.N) (xc : FVec Ideal S512x128 .f32) : FVec Ideal S512x128 .f32 :=
  k0_pay9 xc (View.ld (iblk m c 3 t) (Rect.unit ![0, 0, 0] ![1, 128, 128] inb_S2x128x128_S1x128x128_0_0_0)) (vecL m c t 1 inb_S8x256_S1x128_1_0)
/-- The left head's gate of the input. -/
abbrev gxL (c : Dev nD) (t : Fin cfg0.N) (xc : FVec Ideal S512x128 .f32) : FVec Ideal S512x128 .f32 :=
  k0_pay10 xc (View.ld (iblk m c 4 t) (Rect.unit ![0, 0, 0] ![1, 128, 128] inb_S2x128x128_S1x128x128_0_0_0)) (vecL m c t 2 inb_S8x256_S1x128_2_0)

/-- The left head's states, from the convolution and the state before the block. -/
abbrev hsL (c : Dev nD) (t : Fin cfg0.N) (xc : FVec Ideal S512x128 .f32) (h : Vec Ideal S1x128 .f32) : FVec Ideal S512x128 .f32 :=
  k0_pay25 h
    (k0_pay23 (k0_pay17 xc (gaL m c t xc) (gxL m c t xc) (k0_pay12 (vecL m c t 3 inb_S8x256_S1x128_3_0)) (k0_pay13 (vecL m c t 3 inb_S8x256_S1x128_3_0)) k0_pay14)
      (k0_pay18 (gaL m c t xc) (k0_pay12 (vecL m c t 3 inb_S8x256_S1x128_3_0)) (k0_pay13 (vecL m c t 3 inb_S8x256_S1x128_3_0)) k0_pay14) k0_pay19 2#32)
    (k0_pay24 (k0_pay18 (gaL m c t xc) (k0_pay12 (vecL m c t 3 inb_S8x256_S1x128_3_0)) (k0_pay13 (vecL m c t 3 inb_S8x256_S1x128_3_0)) k0_pay14))
    (Scalar.ofBits .f32 0x00000000#32)

/-- The right head's convolution before its last tap. -/
abbrev xcR' (c : Dev nD) (t : Fin cfg0.N) (x16 x13 x14 : Vec Ideal S512x128 .f32) : FVec Ideal S512x128 .f32 :=
  k0_pay28 (vecR m c t 0 inb_S8x256_S1x128_0_128) (tapR m c t 3 inb_S4x256_S1x128_3_128) x16 (tapR m c t 0 inb_S4x256_S1x128_0_128) x13
    (tapR m c t 1 inb_S4x256_S1x128_1_128) x14

/-- The right head's two gates. -/
abbrev gaR (c : Dev nD) (t : Fin cfg0.N) (xc' x15 : FVec Ideal S512x128 .f32) : FVec Ideal S512x128 .f32 :=
  k0_pay31 xc' (tapR m c t 2 inb_S4x256_S1x128_2_128) x15
    (View.ld (iblk m c 3 t) (Rect.unit ![1, 0, 0] ![1, 128, 128] inb_S2x128x128_S1x128x128_1_0_0)) (vecR m c t 1 inb_S8x256_S1x128_1_128)
@[inherit_doc gaR] abbrev gxR (c : Dev nD) (t : Fin cfg0.N) (xc' x15 : FVec Ideal S512x128 .f32) : FVec Ideal S512x128 .f32 :=
  k0_pay32 xc' (tapR m c t 2 inb_S4x256_S1x128_2_128) x15
    (View.ld (iblk m c 4 t) (Rect.unit ![1, 0, 0] ![1, 128, 128] inb_S2x128x128_S1x128x128_1_0_0)) (vecR m c t 2 inb_S8x256_S1x128_2_128)

/-- The right head's decay after the first doubling. -/
abbrev daR (c : Dev nD) (t : Fin cfg0.N) (xc' x15 : FVec Ideal S512x128 .f32) : FVec Ideal S512x128 .f32 :=
  k0_pay38 (gaR m c t xc' x15) (k0_pay33 (vecR m c t 3 inb_S8x256_S1x128_3_128)) (k0_pay34 (vecR m c t 3 inb_S8x256_S1x128_3_128))

/-- The right head's states. -/
abbrev hsR (c : Dev nD) (t : Fin cfg0.N) (xc' x15 : FVec Ideal S512x128 .f32) (h : Vec Ideal S1x128 .f32) : FVec Ideal S512x128 .f32 :=
  k0_pay45 h (k0_pay41 (daR m c t xc' x15))
    (k0_pay42 (k0_pay37 (k0_pay29 xc' (tapR m c t 2 inb_S4x256_S1x128_2_128) x15) (gaR m c t xc' x15) (gxR m c t xc' x15)
        (k0_pay33 (vecR m c t 3 inb_S8x256_S1x128_3_128)) (k0_pay34 (vecR m c t 3 inb_S8x256_S1x128_3_128)))
      (daR m c t xc' x15) (iota .tc S512x128 32 [0] iota_S512x128_d0_w32) 2#32)
    k0_pay43 (k0_pay44 (daR m c t xc' x15))

/-- The stores into the buffer of input rows: the block, above the sixteen rows before it. -/
abbrev xPiece (c : Dev nD) (t : Fin cfg0.N) : View.Piece (Elt Ideal) S528x256 .f32 :=
  ⟨Rect.unit ![16, 0] ![512, 256] inb_S528x256_S512x256_16_0,
    k0_pay6 (View.ld (iblk m c 0 t) (Rect.unit ![0, 0, 0] ![1, 512, 256] inb_S2x512x256_S1x512x256_0_0_0))⟩
/-- The zeros before the first block. -/
abbrev xZero : View.Piece (Elt Ideal) S528x256 .f32 := ⟨Rect.unit ![0, 0] ![16, 256] inb_S528x256_S16x256_0_0, k0_pay4 (F := Ideal)⟩

/-- A read of 512 rows of that buffer, at the first block. -/
abbrev readA (c : Dev nD) (t : Fin cfg0.N) (k o : ℕ) (inb : ∀ a, (![k, o] : Fin 2 → ℕ) a + (![512, 128] : Fin 2 → ℕ) a ≤ S528x256.size a) : Vec Ideal S512x128 .f32 :=
  (View.whole cc0_scratch0).readCov [xPiece m c t, xZero] (Rect.unit (s := S528x256) ![k, o] ![512, 128] inb).toLoadRect

/-- What the point before left. -/
abbrev prev (c : Dev nD) (t : Fin cfg0.N) := outsAt0 m c (t.val - 1) (Nat.lt_of_le_of_lt (Nat.sub_le _ _) t.isLt)

/-- The buffer after the block is stored, over what the point before left. -/
abbrev mid (c : Dev nD) (t : Fin cfg0.N) : Vec Ideal S528x256 .f32 :=
  View.read (Elt Ideal) (View.whole cc0_scratch0)
    ((View.whole cc0_scratch0).writes (Elt Ideal) ((Memref.isWhole_whole cc0_scratch0).unread (prev m c t).2.2.1) [xPiece m c t])

/-- A read of 512 rows of it; the block alone holds the last 512. -/
abbrev readB (c : Dev nD) (t : Fin cfg0.N) (k o : ℕ) (inb : ∀ a, (![k, o] : Fin 2 → ℕ) a + (![512, 128] : Fin 2 → ℕ) a ≤ S528x256.size a) : Vec Ideal S512x128 .f32 :=
  View.ld (mid m c t) (Rect.unit (s := S528x256) ![k, o] ![512, 128] inb)
@[inherit_doc readB] abbrev readB' (c : Dev nD) (t : Fin cfg0.N) (k o : ℕ) (inb : ∀ a, (![k, o] : Fin 2 → ℕ) a + (![512, 128] : Fin 2 → ℕ) a ≤ S528x256.size a) : Vec Ideal S512x128 .f32 :=
  (View.whole cc0_scratch0).readCov [xPiece m c t] (Rect.unit (s := S528x256) ![k, o] ![512, 128] inb).toLoadRect

/-- The stored states. -/
abbrev pL (H : FVec Ideal S512x128 .f32) : View.Piece (Elt Ideal) S512x256 .f32 := ⟨Rect.unit ![0, 0] ![512, 128] inb_S512x256_S512x128_0_0, H⟩
@[inherit_doc pL] abbrev pR (H : FVec Ideal S512x128 .f32) : View.Piece (Elt Ideal) S512x256 .f32 := ⟨Rect.unit ![0, 128] ![512, 128] inb_S512x256_S512x128_0_128, H⟩

/-- The carried state: the last row of the stored states. -/
abbrev cL (t : Fin cfg0.N) (H : FVec Ideal S512x128 .f32) : View.Piece (Elt Ideal) S8x256 .f32 :=
  ⟨Rect.unit ![0, 0] ![1, 128] inb_S8x256_S1x128_0_0,
    k0_pay26 ((ms0_6 t).view.readCov [pL H] (Rect.unit ![511, 0] ![1, 128] inb_S512x256_S1x128_511_0).toLoadRect)⟩
@[inherit_doc cL] abbrev cR (t : Fin cfg0.N) (H H' : FVec Ideal S512x128 .f32) : View.Piece (Elt Ideal) S8x256 .f32 :=
  ⟨Rect.unit ![0, 128] ![1, 128] inb_S8x256_S1x128_0_128,
    k0_pay1 (k0_pay46 ((ms0_6 t).view.readCov [pR H', pL H] (Rect.unit ![511, 128] ![1, 128] inb_S512x256_S1x128_511_128).toLoadRect))⟩
/-- No state before the first block. -/
abbrev cZero : View.Piece (Elt Ideal) S8x256 .f32 := ⟨Rect.unit ![0, 0] ![8, 256] inb_S8x256_S8x256_0_0, k0_pay5 (F := Ideal)⟩

/-- The states at the first block. -/
abbrev HLA (c : Dev nD) (t : Fin cfg0.N) : FVec Ideal S512x128 .f32 :=
  hsL m c t (xcL m c t (readA m c t 16 0 inb_S528x256_S512x128_16_0) (readA m c t 13 0 inb_S528x256_S512x128_13_0)
      (readA m c t 14 0 inb_S528x256_S512x128_14_0) (readA m c t 15 0 inb_S528x256_S512x128_15_0))
    ((View.whole cc0_scratch1).readCov [cZero] (Rect.unit (s := S8x256) ![0, 0] ![1, 128] inb_S8x256_S1x128_0_0).toLoadRect)
@[inherit_doc HLA] abbrev HRA (c : Dev nD) (t : Fin cfg0.N) : FVec Ideal S512x128 .f32 :=
  hsR m c t (xcR' m c t (readA m c t 16 128 inb_S528x256_S512x128_16_128) (readA m c t 13 128 inb_S528x256_S512x128_13_128)
      (readA m c t 14 128 inb_S528x256_S512x128_14_128)) (readA m c t 15 128 inb_S528x256_S512x128_15_128)
    ((View.whole cc0_scratch1).readCov [cL t (HLA m c t), cZero] (Rect.unit (s := S8x256) ![0, 128] ![1, 128] inb_S8x256_S1x128_0_128).toLoadRect)

/-- The states at a later block. -/
abbrev HLB (c : Dev nD) (t : Fin cfg0.N) : FVec Ideal S512x128 .f32 :=
  hsL m c t (xcL m c t (readB' m c t 16 0 inb_S528x256_S512x128_16_0) (readB m c t 13 0 inb_S528x256_S512x128_13_0)
      (readB m c t 14 0 inb_S528x256_S512x128_14_0) (readB m c t 15 0 inb_S528x256_S512x128_15_0))
    (View.ld (prev m c t).2.2.2 (Rect.unit ![0, 0] ![1, 128] inb_S8x256_S1x128_0_0))
@[inherit_doc HLB] abbrev HRB (c : Dev nD) (t : Fin cfg0.N) : FVec Ideal S512x128 .f32 :=
  hsR m c t (xcR' m c t (readB' m c t 16 128 inb_S528x256_S512x128_16_128) (readB m c t 13 128 inb_S528x256_S512x128_13_128)
      (readB m c t 14 128 inb_S528x256_S512x128_14_128)) (readB m c t 15 128 inb_S528x256_S512x128_15_128)
    (View.ld (prev m c t).2.2.2 (Rect.unit ![0, 128] ![1, 128] inb_S8x256_S1x128_0_128))

/-- The gated output of each head. -/
abbrev yL (c : Dev nD) (t : Fin cfg0.N) (H : FVec Ideal S512x128 .f32) : View.Piece (Elt Ideal) S512x256 .bf16 :=
  ⟨Rect.unit ![0, 0] ![512, 128] inb_S512x256_S512x128_0_0,
    k0_pay27 H (View.ld (iblk m c 0 t) (Rect.unit ![1, 0, 0] ![1, 512, 128] inb_S2x512x256_S1x512x128_1_0_0))⟩
@[inherit_doc yL] abbrev yR (c : Dev nD) (t : Fin cfg0.N) (H : FVec Ideal S512x128 .f32) : View.Piece (Elt Ideal) S512x256 .bf16 :=
  ⟨Rect.unit ![0, 128] ![512, 128] inb_S512x256_S512x128_0_128,
    k0_pay2 H (View.ld (iblk m c 0 t) (Rect.unit ![1, 0, 128] ![1, 512, 128] inb_S2x512x256_S1x512x128_1_0_128))⟩

/-! ### The outputs and the carried scratch of a point -/

theorem hs_A (c : Dev nD) (t : Fin cfg0.N) (h0 : t.val % 8 = 0) :
    (outsAt0 m c t.val t.isLt).2.1 = View.canon [pR (HRA m c t), pL (HLA m c t)] := by
  rw [outsAt0_A m c t h0]
  frame_out <;> rfl

theorem hs_B (c : Dev nD) (t : Fin cfg0.N) (h0 : ¬t.val % 8 = 0) :
    (outsAt0 m c t.val t.isLt).2.1 = View.canon [pR (HRB m c t), pL (HLB m c t)] := by
  rw [outsAt0_B m c t h0]
  frame_out
  simp only [read_unread_whole]
  rfl

theorem y_A (c : Dev nD) (t : Fin cfg0.N) (h0 : t.val % 8 = 0) :
    (outsAt0 m c t.val t.isLt).1 = View.canon [yR m c t (HRA m c t), yL m c t (HLA m c t)] := by
  rw [outsAt0_A m c t h0]
  frame_out <;> rfl

theorem y_B (c : Dev nD) (t : Fin cfg0.N) (h0 : ¬t.val % 8 = 0) :
    (outsAt0 m c t.val t.isLt).1 = View.canon [yR m c t (HRB m c t), yL m c t (HLB m c t)] := by
  rw [outsAt0_B m c t h0]
  frame_out
  simp only [read_unread_whole]
  rfl

theorem c_A (c : Dev nD) (t : Fin cfg0.N) (h0 : t.val % 8 = 0) :
    (outsAt0 m c t.val t.isLt).2.2.2 = View.canon [cR t (HLA m c t) (HRA m c t), cL t (HLA m c t), cZero] := by
  rw [outsAt0_A m c t h0]
  frame_out <;> rfl

theorem c_B (c : Dev nD) (t : Fin cfg0.N) (h0 : ¬t.val % 8 = 0) :
    (outsAt0 m c t.val t.isLt).2.2.2 = View.read (Elt Ideal) (View.whole cc0_scratch1)
      ((View.whole cc0_scratch1).writes (Elt Ideal) ((Memref.isWhole_whole cc0_scratch1).unread (prev m c t).2.2.2)
        [cR t (HLB m c t) (HRB m c t), cL t (HLB m c t)]) := by
  rw [outsAt0_B m c t h0]
  frame_out
  simp only [read_unread_whole]
  rfl

/-- The sixteen rows carried to the next block. -/
abbrev xCarry (L : List (View.Piece (Elt Ideal) S528x256 .f32)) : View.Piece (Elt Ideal) S528x256 .f32 :=
  ⟨Rect.unit ![0, 0] ![16, 256] inb_S528x256_S16x256_0_0,
    k0_pay3 ((View.whole cc0_scratch0).readCov L (Rect.unit ![512, 0] ![16, 256] inb_S528x256_S16x256_512_0).toLoadRect)⟩

theorem x_A (c : Dev nD) (t : Fin cfg0.N) (h0 : t.val % 8 = 0) :
    (outsAt0 m c t.val t.isLt).2.2.1 = View.canon [xCarry [xPiece m c t, xZero], xPiece m c t, xZero] := by
  rw [outsAt0_A m c t h0]
  frame_out <;> rfl

theorem x_B (c : Dev nD) (t : Fin cfg0.N) (h0 : ¬t.val % 8 = 0) :
    (outsAt0 m c t.val t.isLt).2.2.1 = View.canon [xCarry [xPiece m c t], xPiece m c t] := by
  rw [outsAt0_B m c t h0]
  frame_out <;> rfl

end Cert.Rnn

end
-- ==== Proof.Rnn.Rows.lean ====
/- The buffer of input rows of the recurrent layer's forward call: at every point its 528 rows are the sequence from sixteen
   rows before the block on, the first sixteen being carried from the block before, or zeros at the first. -/
module

public import proofs.«01_k».proof.Proof.Rnn.Stores
public import proofs.«01_k».proof.Proof.Pool.Common

@[expose] public section

noncomputable section

namespace Cert.Rnn

open Cert.Kernel6Ideal Cert.Kernel6Ideal.Gen Idealize.ShloMosaic Idealize.ShloMosaic.TcCoe Idealize.SL.Sem Idealize.ShloMosaic.StableHlo
open Cert.Pool (emb2)

variable (m : (ℓ : Loc nD τ sig) → Buf (Elt Ideal) ℓ)

/-- Column `j` of the point's pair of heads, at position `n`. -/
def xsC (c : Dev nD) (t : Fin cfg0.N) (j : Fin 256) (n : ℕ) : EReal :=
  (args m c).xs (head t ⟨j.val / 128, by omega⟩) ⟨j.val % 128, by omega⟩ n

theorem lane_split (j : Fin 256) : lane ⟨j.val / 128, by omega⟩ ⟨j.val % 128, by omega⟩ = j :=
  Fin.ext (by show j.val / 128 * 128 + j.val % 128 = j.val; omega)

theorem lane_head (q : Fin 2) (o : Fin 128) (h : (lane q o).val / 128 < 2) : (⟨(lane q o).val / 128, h⟩ : Fin 2) = q :=
  Fin.ext (by show (q.val * 128 + o.val) / 128 = q.val; omega)

theorem lane_off (q : Fin 2) (o : Fin 128) (h : (lane q o).val % 128 < 128) : (⟨(lane q o).val % 128, h⟩ : Fin 128) = o :=
  Fin.ext (by show (q.val * 128 + o.val) % 128 = o.val; omega)

theorem xsC_lane (c : Dev nD) (t : Fin cfg0.N) (q : Fin 2) (o : Fin 128) (n : ℕ) :
    xsC m c t (lane q o) n = (args m c).xs (head t q) o n := by
  unfold xsC
  rw [lane_head, lane_off]

theorem xPiece_apply (c : Dev nD) (t : Fin cfg0.N) (r : Fin 512) (j : Fin 256) :
    (xPiece m c t).2 (ix2 r j) = xsC m c t j (blk t * 512 + (16 + r.val)) := by
  have ht := lt32 t
  obtain ⟨q, o, rfl⟩ : ∃ q o, j = lane q o := ⟨_, _, (lane_split j).symm⟩
  rw [xsC_lane]
  have hG : (args m c).xs (head t q) o (blk t * 512 + (16 + r.val)) = (args m c).x (ix3 0 (row t r) (hcol (head t q) o)) := by
    unfold Args.xs
    rw [dif_pos (by unfold blk; omega)]
    exact congrArg (fun s => (args m c).x (ix3 0 s (hcol (head t q) o))) (Fin.ext (by show blk t * 512 + (16 + r.val) - 16 = blk t * 512 + r.val; omega))
  rw [hG]
  show k0_pay6 (View.ld (iblk m c 0 t) (Rect.unit ![0, 0, 0] ![1, 512, 256] inb_S2x512x256_S1x512x256_0_0_0)) (ix2 r (lane q o)) = _
  pointwise [k0_pay6]
  exact iblk0_x m c t r q o

theorem x_emb (R : Fin 528) (hR : 16 ≤ R.val) (j : Fin 256) : (ix2 R j : S528x256.Idx)
    = (Rect.unit (s := S528x256) ![16, 0] ![512, 256] inb_S528x256_S512x256_16_0).emb (ix2 ⟨R.val - 16, by omega⟩ j) := by
  rw [emb2]
  refine congrArg₂ ix2 (Fin.ext ?_) (Fin.ext ?_)
  · show R.val = 16 + (R.val - 16); omega
  · show j.val = 0 + j.val; omega

theorem low_emb (R : Fin 528) (hR : R.val < 16) (j : Fin 256) : (ix2 R j : S528x256.Idx)
    = (Rect.unit (s := S528x256) ![0, 0] ![16, 256] inb_S528x256_S16x256_0_0).emb (ix2 ⟨R.val, hR⟩ j) := by
  rw [emb2]
  refine congrArg₂ ix2 (Fin.ext ?_) (Fin.ext ?_)
  · show R.val = 0 + R.val; omega
  · show j.val = 0 + j.val; omega

theorem x_not_mem (R : Fin 528) (hR : R.val < 16) (j : Fin 256) :
    (ix2 R j : S528x256.Idx) ∉ (Rect.unit (s := S528x256) ![16, 0] ![512, 256] inb_S528x256_S512x256_16_0).set := by
  rw [Rect.mem_set_unit]
  intro h
  have := (h 0).1
  change 16 ≤ R.val at this
  omega

theorem x_hi (c : Dev nD) (t : Fin cfg0.N) (L : List (View.Piece (Elt Ideal) S528x256 .f32)) (R : Fin 528) (hR : 16 ≤ R.val) (j : Fin 256) :
    View.canon (xPiece m c t :: L) (ix2 R j) = xsC m c t j (blk t * 512 + R) := by
  rw [x_emb R hR j, View.canon_cons_emb]
  refine (xPiece_apply m c t ⟨R.val - 16, by omega⟩ j).trans ?_
  rw [show 16 + (⟨R.val - 16, by omega⟩ : Fin 512).val = R.val by show 16 + (R.val - 16) = R.val; omega]

theorem rowsA (c : Dev nD) (t : Fin cfg0.N) (h0 : t.val % 8 = 0) (R : Fin 528) (j : Fin 256) :
    View.canon [xPiece m c t, xZero] (ix2 R j) = xsC m c t j (blk t * 512 + R) := by
  by_cases hR : 16 ≤ R.val
  · exact x_hi m c t _ R hR j
  · have hR' : R.val < 16 := Nat.lt_of_not_le hR
    have hn : (ix2 R j : S528x256.Idx) ∉ (xPiece m c t).1.set := x_not_mem R hR' j
    rw [View.canon_cons_of_not_mem _ _ hn, low_emb R hR' j, View.canon_cons_emb]
    unfold xsC Args.xs
    rw [dif_neg (by unfold blk; omega)]
    pointwise [k0_pay4]

theorem rowsB (c : Dev nD) (t : Fin cfg0.N)
    (hp : ∀ (r : Fin 16) (j : Fin 256), (prev m c t).2.2.1 (ix2 ⟨r.val, by omega⟩ j) = xsC m c t j (blk t * 512 + r.val))
    (R : Fin 528) (j : Fin 256) : mid m c t (ix2 R j) = xsC m c t j (blk t * 512 + R) := by
  by_cases hR : 16 ≤ R.val
  · refine (View.read_writes_apply_of_pieces _ _ (fun y => xsC m c t ⟨(y 1).val, (y 1).isLt⟩ (blk t * 512 + (y 0).val)) _ ?_ _ ?_).trans rfl
    · simp only [List.forall_mem_cons]
      refine ⟨fun x => ?_, by simp⟩
      obtain ⟨r, l, rfl⟩ : ∃ (r : Fin 512) (l : Fin 256), x = (ix2 r l : S512x256.Idx) := ⟨_, _, eq_ix2 x⟩
      refine (xPiece_apply m c t r l).trans ?_
      rw [emb2]
      show _ = xsC m c t ⟨0 + l.val, _⟩ (blk t * 512 + (16 + r.val))
      exact congrArg (fun l => xsC m c t l (blk t * 512 + (16 + r.val))) (Fin.ext (Nat.zero_add l.val).symm)
    · refine ⟨xPiece m c t, by simp, ?_⟩
      rw [Rect.mem_set_unit]
      intro a
      fin_cases a
      · exact ⟨hR, R.isLt⟩
      · exact ⟨Nat.zero_le _, by show j.val < 0 + 256; omega⟩
  · refine (View.read_writes_apply_of_forall_not_mem _ _ _ _ fun p hp => ?_).trans ?_
    · obtain rfl : p = xPiece m c t := by simpa using hp
      exact x_not_mem R (by omega) j
    · rw [read_unread_whole]
      exact hp ⟨R.val, by omega⟩ j

theorem readA_apply (c : Dev nD) (t : Fin cfg0.N) (h0 : t.val % 8 = 0) (q : Fin 2) (k : ℕ) (hk : k ≤ 16) (inb) (r : Fin 512) (o : Fin 128) :
    readA m c t k (q.val * 128) inb (ix2 r o) = (args m c).xs (head t q) o (blk t * 512 + (k + r.val)) := by
  unfold readA
  rw [View.readCov_eq_canon']
  show View.canon _ ((Rect.unit (s := S528x256) ![k, q.val * 128] ![512, 128] inb).emb (ix2 r o)) = _
  rw [emb2, rowsA m c t h0]
  exact xsC_lane m c t q o _

theorem readB_apply (c : Dev nD) (t : Fin cfg0.N)
    (hp : ∀ (r : Fin 16) (j : Fin 256), (prev m c t).2.2.1 (ix2 ⟨r.val, by omega⟩ j) = xsC m c t j (blk t * 512 + r.val))
    (q : Fin 2) (k : ℕ) (hk : k ≤ 16) (inb) (r : Fin 512) (o : Fin 128) :
    readB m c t k (q.val * 128) inb (ix2 r o) = (args m c).xs (head t q) o (blk t * 512 + (k + r.val)) := by
  unfold readB
  show mid m c t ((Rect.unit (s := S528x256) ![k, q.val * 128] ![512, 128] inb).emb (ix2 r o)) = _
  rw [emb2, rowsB m c t hp]
  exact xsC_lane m c t q o _

theorem readB'_apply (c : Dev nD) (t : Fin cfg0.N) (q : Fin 2) (inb) (r : Fin 512) (o : Fin 128) :
    readB' m c t 16 (q.val * 128) inb (ix2 r o) = (args m c).xs (head t q) o (blk t * 512 + (16 + r.val)) := by
  unfold readB'
  rw [View.readCov_eq_canon']
  show View.canon _ ((Rect.unit (s := S528x256) ![16, q.val * 128] ![512, 128] inb).emb (ix2 r o)) = _
  rw [emb2, x_hi m c t _ _ (by show 16 ≤ 16 + r.val; omega)]
  exact xsC_lane m c t q o _

theorem copy_apply (V : Vec Ideal S16x256 .f32) (r : Fin 16) (j : Fin 256) : k0_pay3 V (ix2 r j) = V (ix2 r j) := by
  pointwise [k0_pay3]

theorem tail_apply (c : Dev nD) (t : Fin cfg0.N) (L : List (View.Piece (Elt Ideal) S528x256 .f32)) (r : Fin 16) (j : Fin 256) :
    (View.whole cc0_scratch0).readCov (xPiece m c t :: L) (Rect.unit (s := S528x256) ![512, 0] ![16, 256] inb_S528x256_S16x256_512_0).toLoadRect (ix2 r j)
      = xsC m c t j (blk t * 512 + (512 + r.val)) := by
  rw [View.readCov_eq_canon']
  show View.canon (xPiece m c t :: L) ((Rect.unit (s := S528x256) ![512, 0] ![16, 256] inb_S528x256_S16x256_512_0).emb (ix2 r j)) = _
  rw [emb2, x_hi m c t _ _ (by show 16 ≤ 512 + r.val; omega)]
  exact congrArg (fun l => xsC m c t l (blk t * 512 + (512 + r.val))) (Fin.ext (Nat.zero_add j.val))

theorem carry_rows (c : Dev nD) (t : Fin cfg0.N) (L L' : List (View.Piece (Elt Ideal) S528x256 .f32)) (r : Fin 16) (j : Fin 256) :
    View.canon (xCarry (xPiece m c t :: L) :: L') (ix2 ⟨r.val, by omega⟩ j) = xsC m c t j (blk t * 512 + (512 + r.val)) := by
  rw [low_emb _ (by exact r.isLt) j, View.canon_cons_emb]
  refine (copy_apply _ _ _).trans ?_
  exact tail_apply m c t L ⟨r.val, r.isLt⟩ j

theorem carried (c : Dev nD) (t : Fin cfg0.N) (r : Fin 16) (j : Fin 256) :
    (outsAt0 m c t.val t.isLt).2.2.1 (ix2 ⟨r.val, by omega⟩ j) = xsC m c t j (blk t * 512 + (512 + r.val)) := by
  by_cases h0 : t.val % 8 = 0
  · rw [x_A m c t h0]; exact carry_rows m c t _ _ r j
  · rw [x_B m c t h0]; exact carry_rows m c t _ _ r j

/-- The point before, inside a pair of heads. -/
def before (t : Fin cfg0.N) : Fin cfg0.N := ⟨t.val - 1, Nat.lt_of_le_of_lt (Nat.sub_le _ _) t.isLt⟩

theorem blk_before (t : Fin cfg0.N) (h0 : ¬t.val % 8 = 0) : blk t = blk (before t) + 1 := by
  show t.val % 8 = (t.val - 1) % 8 + 1; omega

theorem head_before (t : Fin cfg0.N) (h0 : ¬t.val % 8 = 0) (q : Fin 2) : head (before t) q = head t q :=
  Fin.ext (by show (t.val - 1) / 8 * 2 + q.val = t.val / 8 * 2 + q.val; omega)

theorem carried_prev (c : Dev nD) (t : Fin cfg0.N) (h0 : ¬t.val % 8 = 0) (r : Fin 16) (j : Fin 256) :
    (prev m c t).2.2.1 (ix2 ⟨r.val, by omega⟩ j) = xsC m c t j (blk t * 512 + r.val) := by
  refine (carried m c (before t) r j).trans ?_
  unfold xsC
  rw [head_before t h0, blk_before t h0, show blk (before t) * 512 + (512 + r.val) = (blk (before t) + 1) * 512 + r.val by omega]

end Cert.Rnn

end
-- ==== Proof.Rnn.Values.lean ====
/- The payloads of the recurrent layer's forward call, point by point, on any vectors. -/
module

public import proofs.«01_k».proof.Proof.Rnn.Stores

@[expose] public section

noncomputable section

namespace Cert.Rnn

open Cert.Kernel6Ideal Cert.Kernel6Ideal.Gen Idealize.ShloMosaic Idealize.ShloMosaic.TcCoe Idealize.SL.Sem Idealize.ShloMosaic.StableHlo

theorem conv_left (b w3 w0 w1 w2 : Vec Ideal S1x128 .f32) (x16 x13 x14 x15 : Vec Ideal S512x128 .f32) (r : Fin 512) (o : Fin 128) :
    k0_pay7 b w3 x16 w0 x13 w1 x14 w2 x15 (ix2 r o)
      = b (ix2 0 o) + w3 (ix2 0 o) * x16 (ix2 r o) + w0 (ix2 0 o) * x13 (ix2 r o) + w1 (ix2 0 o) * x14 (ix2 r o) + w2 (ix2 0 o) * x15 (ix2 r o) := by
  pointwise [k0_pay7]

theorem conv_right (b w3 w0 w1 w2 : Vec Ideal S1x128 .f32) (x16 x13 x14 x15 : Vec Ideal S512x128 .f32) (r : Fin 512) (o : Fin 128) :
    k0_pay29 (k0_pay28 b w3 x16 w0 x13 w1 x14) w2 x15 (ix2 r o)
      = b (ix2 0 o) + w3 (ix2 0 o) * x16 (ix2 r o) + w0 (ix2 0 o) * x13 (ix2 r o) + w1 (ix2 0 o) * x14 (ix2 r o) + w2 (ix2 0 o) * x15 (ix2 r o) := by
  pointwise [k0_pay29, k0_pay28]

/-- The logistic function of a product of the rows with a matrix, plus a bias. -/
def gateV (X : Vec Ideal S512x128 .f32) (w : Vec Ideal S1x128x128 .bf16) (b : Vec Ideal S1x128 .f32) (r : Fin 512) (o : Fin 128) : EReal :=
  Ideal.div 1 (1 + Ideal.exp (0 - ((∑ k : Fin 128, X (ix2 r k) * w (ix3 0 k o)) + b (ix2 0 o))))

theorem gate_a_left (X : FVec Ideal S512x128 .f32) (w : Vec Ideal S1x128x128 .bf16) (b : Vec Ideal S1x128 .f32) (r : Fin 512) (o : Fin 128) :
    k0_pay9 X w b (ix2 r o) = gateV X w b r o := by
  unfold gateV
  pointwise [k0_pay9, k0_pay8]

theorem gate_x_left (X : FVec Ideal S512x128 .f32) (w : Vec Ideal S1x128x128 .bf16) (b : Vec Ideal S1x128 .f32) (r : Fin 512) (o : Fin 128) :
    k0_pay10 X w b (ix2 r o) = gateV X w b r o := by
  unfold gateV
  pointwise [k0_pay10, k0_pay8]

theorem gate_a_right (X' : FVec Ideal S512x128 .f32) (w2 : Vec Ideal S1x128 .f32) (x15 : FVec Ideal S512x128 .f32) (w : Vec Ideal S1x128x128 .bf16)
    (b : Vec Ideal S1x128 .f32) (r : Fin 512) (o : Fin 128) :
    k0_pay31 X' w2 x15 w b (ix2 r o) = gateV (k0_pay29 X' w2 x15) w b r o := by
  unfold gateV k0_pay31 k0_pay30
  generalize k0_pay29 X' w2 x15 = X
  pointwise []

theorem gate_x_right (X' : FVec Ideal S512x128 .f32) (w2 : Vec Ideal S1x128 .f32) (x15 : FVec Ideal S512x128 .f32) (w : Vec Ideal S1x128x128 .bf16)
    (b : Vec Ideal S1x128 .f32) (r : Fin 512) (o : Fin 128) :
    k0_pay32 X' w2 x15 w b (ix2 r o) = gateV (k0_pay29 X' w2 x15) w b r o := by
  unfold gateV k0_pay32 k0_pay30
  generalize k0_pay29 X' w2 x15 = X
  pointwise []

/-- The decay's logarithm, from the gate and the layer's parameter. -/
def logV (G : FVec Ideal S512x128 .f32) (l : Vec Ideal S1x128 .f32) (r : Fin 512) (o : Fin 128) : EReal :=
  Ideal.ofBits .f32 0xC1000000#32 * G (ix2 r o) * softplus (0 - l (ix2 0 o))

theorem log_left (G : FVec Ideal S512x128 .f32) (l : Vec Ideal S1x128 .f32) (r : Fin 512) (o : Fin 128) :
    k0_pay15 G (k0_pay12 l) (k0_pay13 l) k0_pay14 (ix2 r o) = logV G l r o := by
  unfold logV softplus
  pointwise [k0_pay15, k0_pay14, k0_pay13, k0_pay12, k0_pay11]
  rfl

theorem log_right (G : FVec Ideal S512x128 .f32) (l : Vec Ideal S1x128 .f32) (r : Fin 512) (o : Fin 128) :
    k0_pay35 G (k0_pay33 l) (k0_pay34 l) (ix2 r o) = logV G l r o := by
  unfold logV softplus
  pointwise [k0_pay35, k0_pay34, k0_pay33]
  rfl

/-- The decay of the left head, and what each row adds to the state: the doubling's first step is made of these two. -/
theorem pair_left (X ga gx : FVec Ideal S512x128 .f32) (l : Vec Ideal S1x128 .f32) :
    ∃ a u : FVec Ideal S512x128 .f32, k0_pay18 ga (k0_pay12 l) (k0_pay13 l) k0_pay14 = stA 1 a
      ∧ k0_pay17 X ga gx (k0_pay12 l) (k0_pay13 l) k0_pay14 = stU 1 a u
      ∧ (∀ r o, a (ix2 r o) = Ideal.exp (logV ga l r o))
      ∧ ∀ r o, u (ix2 r o) = Ideal.sqrt (-Ideal.expm1 (Ideal.ofBits .f32 0x40000000#32 * logV ga l r o)) * (gx (ix2 r o) * X (ix2 r o)) := by
  refine ⟨k0_pay16 ga (k0_pay12 l) (k0_pay13 l) k0_pay14, ?u, ?_, ?e, fun r o => ?_, fun r o => ?v⟩
  case e =>
    unfold k0_pay17; dsimp only; rw [rot_1]; simp only [zero_word]; rfl
  case v =>
    generalize hV : k0_pay15 ga (k0_pay12 l) (k0_pay13 l) k0_pay14 = V
    have hV' : V (ix2 r o) = logV ga l r o := by rw [← hV]; exact log_left ga l r o
    rw [← hV', ← drop_eq]
    pointwise []
  · unfold k0_pay18; dsimp only; rw [rot_1]; simp only [one_word]; rfl
  · rw [← log_left ga l r o]
    unfold k0_pay16
    generalize k0_pay15 ga (k0_pay12 l) (k0_pay13 l) k0_pay14 = V
    pointwise []

theorem pair_right (X ga gx : FVec Ideal S512x128 .f32) (l : Vec Ideal S1x128 .f32) :
    ∃ a u : FVec Ideal S512x128 .f32, k0_pay38 ga (k0_pay33 l) (k0_pay34 l) = stA 1 a
      ∧ k0_pay37 X ga gx (k0_pay33 l) (k0_pay34 l) = stU 1 a u
      ∧ (∀ r o, a (ix2 r o) = Ideal.exp (logV ga l r o))
      ∧ ∀ r o, u (ix2 r o) = Ideal.sqrt (-Ideal.expm1 (Ideal.ofBits .f32 0x40000000#32 * logV ga l r o)) * (gx (ix2 r o) * X (ix2 r o)) := by
  refine ⟨k0_pay36 ga (k0_pay33 l) (k0_pay34 l), ?u, ?_, ?e, fun r o => ?_, fun r o => ?v⟩
  case e =>
    unfold k0_pay37; dsimp only; rw [rot_1]; simp only [zero_word]; rfl
  case v =>
    generalize hV : k0_pay35 ga (k0_pay33 l) (k0_pay34 l) = V
    have hV' : V (ix2 r o) = logV ga l r o := by rw [← hV]; exact log_right ga l r o
    rw [← hV', ← drop_eq]
    pointwise []
  · unfold k0_pay38; dsimp only; rw [rot_1]; simp only [one_word]; rfl
  · rw [← log_right ga l r o]
    unfold k0_pay36
    generalize k0_pay35 ga (k0_pay33 l) (k0_pay34 l) = V
    pointwise []

/-- The gated output, from the states and the branch's gate. -/
theorem out_left (H : FVec Ideal S512x128 .f32) (G : Vec Ideal S1x512x128 .f32) (r : Fin 512) (o : Fin 128) :
    k0_pay27 H G (ix2 r o) = H (ix2 r o) * (G (ix3 0 r o) * Ideal.div 1 (1 + Ideal.exp (0 - G (ix3 0 r o)))) := by
  pointwise [k0_pay27]

theorem out_right (H : FVec Ideal S512x128 .f32) (G : Vec Ideal S1x512x128 .f32) (r : Fin 512) (o : Fin 128) :
    k0_pay2 H G (ix2 r o) = H (ix2 r o) * (G (ix3 0 r o) * Ideal.div 1 (1 + Ideal.exp (0 - G (ix3 0 r o)))) := by
  pointwise [k0_pay2]

end Cert.Rnn

end
-- ==== Proof.Rnn.States.lean ====
/- The states of a head at a point of the recurrent layer's forward call, from the rows read and the state before the block. -/
module

public import proofs.«01_k».proof.Proof.Rnn.Rows
public import proofs.«01_k».proof.Proof.Rnn.Values

@[expose] public section

noncomputable section

namespace Cert.Rnn

open Cert.Kernel6Ideal Cert.Kernel6Ideal.Gen Idealize.ShloMosaic Idealize.ShloMosaic.TcCoe Idealize.SL.Sem Idealize.ShloMosaic.StableHlo
open Cert.Pool (emb2 emb3)

variable (m : (ℓ : Loc nD τ sig) → Buf (Elt Ideal) ℓ)

/-- The recurrence over `k` rows looks at those rows alone. -/
theorem run_congr {a u a' u' : ℕ → EReal} (h : EReal) : ∀ k, (∀ n, n < k → a n = a' n ∧ u n = u' n) → run a u 0 k h = run a' u' 0 k h
  | 0, _ => rfl
  | k + 1, e => by
    show a (0 + k) * run a u 0 k h + u (0 + k) = a' (0 + k) * run a' u' 0 k h + u' (0 + k)
    rw [run_congr h k fun n hn => e n (by omega), Nat.zero_add, (e k (by omega)).1, (e k (by omega)).2]

/-- The doubled block holds the states, where its factors, its addends and the state before it are the layer's. -/
theorem scan_states (A : Args) (a u : FVec Ideal S512x128 .f32) (h : FVec Ideal S1x128 .f32) (hd : Fin 8) (b : ℕ)
    (ha : ∀ (r : Fin 512) (o : Fin 128), a (ix2 r o) = A.a hd o (b + r.val)) (hu : ∀ (r : Fin 512) (o : Fin 128), u (ix2 r o) = A.u hd o (b + r.val))
    (hh : ∀ o : Fin 128, h (ix2 0 o) = A.st hd o b) (r : Fin 512) (o : Fin 128) : scanV a u h (ix2 r o) = A.st hd o (b + (r.val + 1)) := by
  rw [scanV_apply a u h o (fun l => by rw [ha]; exact A.a_range hd o _) r, hh, ← A.st_block hd o b (r.val + 1)]
  refine run_congr _ _ fun n hn => ?_
  rw [show n = (⟨n, by omega⟩ : Fin 512).val from rfl, colf_at, colf_at, ha, hu]
  exact ⟨rfl, rfl⟩

theorem vec_apply (c : Dev nD) (t : Fin cfg0.N) (k : ℕ) (q : Fin 2) (hk : k < 8) (inb) (o : Fin 128) :
    View.ld (iblk m c 2 t) (Rect.unit (s := S8x256) ![k, q.val * 128] ![1, 128] inb) (ix2 0 o) = iblk m c 2 t (ix2 ⟨k, hk⟩ (lane q o)) := by
  show iblk m c 2 t ((Rect.unit (s := S8x256) ![k, q.val * 128] ![1, 128] inb).emb (ix2 0 o)) = _
  rw [emb2]
  rfl

theorem tap_apply (c : Dev nD) (t : Fin cfg0.N) (k : ℕ) (q : Fin 2) (hk : k < 4) (inb) (o : Fin 128) :
    View.ld (iblk m c 1 t) (Rect.unit (s := S4x256) ![k, q.val * 128] ![1, 128] inb) (ix2 0 o) = (args m c).cw (ix2 ⟨k, hk⟩ (hcol (head t q) o)) := by
  show iblk m c 1 t ((Rect.unit (s := S4x256) ![k, q.val * 128] ![1, 128] inb).emb (ix2 0 o)) = _
  rw [emb2]
  exact iblk1_apply m c t ⟨k, hk⟩ q o

theorem wa_apply (c : Dev nD) (t : Fin cfg0.N) (q : Fin 2) (inb) (k o : Fin 128) :
    View.ld (iblk m c 3 t) (Rect.unit (s := S2x128x128) ![q.val, 0, 0] ![1, 128, 128] inb) (ix3 0 k o) = (args m c).aw (ix3 (head t q) k o) := by
  show iblk m c 3 t ((Rect.unit (s := S2x128x128) ![q.val, 0, 0] ![1, 128, 128] inb).emb (ix3 0 k o)) = _
  rw [emb3, ← iblk3_apply m c t q k o]
  exact congrArg (iblk m c 3 t) (congr (congrArg₂ ix3 (Fin.ext (Nat.add_zero _)) (Fin.ext (Nat.zero_add _))) (Fin.ext (Nat.zero_add _)))

theorem wx_apply (c : Dev nD) (t : Fin cfg0.N) (q : Fin 2) (inb) (k o : Fin 128) :
    View.ld (iblk m c 4 t) (Rect.unit (s := S2x128x128) ![q.val, 0, 0] ![1, 128, 128] inb) (ix3 0 k o) = (args m c).xw (ix3 (head t q) k o) := by
  show iblk m c 4 t ((Rect.unit (s := S2x128x128) ![q.val, 0, 0] ![1, 128, 128] inb).emb (ix3 0 k o)) = _
  rw [emb3, ← iblk4_apply m c t q k o]
  exact congrArg (iblk m c 4 t) (congr (congrArg₂ ix3 (Fin.ext (Nat.add_zero _)) (Fin.ext (Nat.zero_add _))) (Fin.ext (Nat.zero_add _)))

theorem g_apply (c : Dev nD) (t : Fin cfg0.N) (q : Fin 2) (inb) (r : Fin 512) (o : Fin 128) :
    View.ld (iblk m c 0 t) (Rect.unit (s := S2x512x256) ![1, 0, q.val * 128] ![1, 512, 128] inb) (ix3 0 r o)
      = (args m c).g (ix3 0 (row t r) (hcol (head t q) o)) := by
  show iblk m c 0 t ((Rect.unit (s := S2x512x256) ![1, 0, q.val * 128] ![1, 512, 128] inb).emb (ix3 0 r o)) = _
  rw [emb3, ← iblk0_g m c t r q o]
  exact congrArg (iblk m c 0 t) (congr (congrArg₂ ix3 (Fin.ext rfl) (Fin.ext (Nat.zero_add _))) (Fin.ext rfl))

theorem gateV_eq (A : Args) (X : Vec Ideal S512x128 .f32) (w : Vec Ideal S1x128x128 .bf16) (b : Vec Ideal S1x128 .f32) (hd : Fin 8) (n : ℕ)
    (W : FVec Ideal S8x128x128 .f32) (B : FVec Ideal S8x128 .f32)
    (r : Fin 512) (o : Fin 128) (hX : ∀ k : Fin 128, X (ix2 r k) = A.xc hd k n) (hw : ∀ k o : Fin 128, w (ix3 0 k o) = W (ix3 hd k o))
    (hb : b (ix2 0 o) = B (ix2 hd o)) : gateV X w b r o = A.gate W B hd o n := by
  unfold gateV Args.gate
  rw [hb, Finset.sum_congr rfl fun k _ => by rw [hX k, hw k o]]

/-- The four reads of a head's rows. -/
structure Reads (c : Dev nD) (t : Fin cfg0.N) (q : Fin 2) (x16 x13 x14 x15 : Vec Ideal S512x128 .f32) : Prop where
  h16 : ∀ r o, x16 (ix2 r o) = (args m c).xs (head t q) o (blk t * 512 + (16 + r.val))
  h13 : ∀ r o, x13 (ix2 r o) = (args m c).xs (head t q) o (blk t * 512 + (13 + r.val))
  h14 : ∀ r o, x14 (ix2 r o) = (args m c).xs (head t q) o (blk t * 512 + (14 + r.val))
  h15 : ∀ r o, x15 (ix2 r o) = (args m c).xs (head t q) o (blk t * 512 + (15 + r.val))

theorem xc_of_reads {c : Dev nD} {t : Fin cfg0.N} {q : Fin 2} {x16 x13 x14 x15 : Vec Ideal S512x128 .f32} (R : Reads m c t q x16 x13 x14 x15)
    (b w3 w0 w1 w2 : Vec Ideal S1x128 .f32) (r : Fin 512) (o : Fin 128) (hb : b (ix2 0 o) = (args m c).cb (ix1 (hcol (head t q) o)))
    (h3 : w3 (ix2 0 o) = (args m c).cw (ix2 3 (hcol (head t q) o))) (h0 : w0 (ix2 0 o) = (args m c).cw (ix2 0 (hcol (head t q) o)))
    (h1 : w1 (ix2 0 o) = (args m c).cw (ix2 1 (hcol (head t q) o))) (h2 : w2 (ix2 0 o) = (args m c).cw (ix2 2 (hcol (head t q) o))) :
    b (ix2 0 o) + w3 (ix2 0 o) * x16 (ix2 r o) + w0 (ix2 0 o) * x13 (ix2 r o) + w1 (ix2 0 o) * x14 (ix2 r o) + w2 (ix2 0 o) * x15 (ix2 r o)
      = (args m c).xc (head t q) o (blk t * 512 + r.val) := by
  unfold Args.xc
  rw [hb, h3, h0, h1, h2, R.h16, R.h13, R.h14, R.h15, show blk t * 512 + (16 + r.val) = blk t * 512 + r.val + 16 by omega,
    show blk t * 512 + (13 + r.val) = blk t * 512 + r.val + 13 by omega, show blk t * 512 + (14 + r.val) = blk t * 512 + r.val + 14 by omega,
    show blk t * 512 + (15 + r.val) = blk t * 512 + r.val + 15 by omega]

theorem xcL_apply {c : Dev nD} {t : Fin cfg0.N} {x16 x13 x14 x15 : Vec Ideal S512x128 .f32} (R : Reads m c t 0 x16 x13 x14 x15)
    (r : Fin 512) (o : Fin 128) : xcL m c t x16 x13 x14 x15 (ix2 r o) = (args m c).xc (head t 0) o (blk t * 512 + r.val) :=
  (conv_left _ _ _ _ _ _ _ _ _ r o).trans (xc_of_reads m R _ _ _ _ _ r o
    ((vec_apply m c t 0 0 (by omega) inb_S8x256_S1x128_0_0 o).trans (iblk2_cb m c t 0 o)) (tap_apply m c t 3 0 (by omega) inb_S4x256_S1x128_3_0 o)
    (tap_apply m c t 0 0 (by omega) inb_S4x256_S1x128_0_0 o) (tap_apply m c t 1 0 (by omega) inb_S4x256_S1x128_1_0 o)
    (tap_apply m c t 2 0 (by omega) inb_S4x256_S1x128_2_0 o))

theorem xcR_apply {c : Dev nD} {t : Fin cfg0.N} {x16 x13 x14 x15 : Vec Ideal S512x128 .f32} (R : Reads m c t 1 x16 x13 x14 x15)
    (r : Fin 512) (o : Fin 128) :
    k0_pay29 (xcR' m c t x16 x13 x14) (tapR m c t 2 inb_S4x256_S1x128_2_128) x15 (ix2 r o) = (args m c).xc (head t 1) o (blk t * 512 + r.val) :=
  (conv_right _ _ _ _ _ _ _ _ _ r o).trans (xc_of_reads m R _ _ _ _ _ r o
    ((vec_apply m c t 0 1 (by omega) inb_S8x256_S1x128_0_128 o).trans (iblk2_cb m c t 1 o)) (tap_apply m c t 3 1 (by omega) inb_S4x256_S1x128_3_128 o)
    (tap_apply m c t 0 1 (by omega) inb_S4x256_S1x128_0_128 o) (tap_apply m c t 1 1 (by omega) inb_S4x256_S1x128_1_128 o)
    (tap_apply m c t 2 1 (by omega) inb_S4x256_S1x128_2_128 o))

/-- Decay and addend are the layer's, where the gates, the parameter and the convolution are. -/
theorem decay_eq (A : Args) (G : FVec Ideal S512x128 .f32) (l : Vec Ideal S1x128 .f32) (hd : Fin 8) (n : ℕ) (r : Fin 512) (o : Fin 128)
    (hG : G (ix2 r o) = A.gate A.aw A.ab hd o n) (hl : l (ix2 0 o) = A.lam (ix1 (hcol hd o))) : logV G l r o = A.loga hd o n := by
  unfold logV Args.loga
  rw [hG, hl]

theorem hsL_apply {c : Dev nD} {t : Fin cfg0.N} (X : FVec Ideal S512x128 .f32) (h : Vec Ideal S1x128 .f32)
    (hX : ∀ r o, X (ix2 r o) = (args m c).xc (head t 0) o (blk t * 512 + r.val))
    (hh : ∀ o : Fin 128, h (ix2 0 o) = (args m c).st (head t 0) o (blk t * 512)) (r : Fin 512) (o : Fin 128) :
    hsL m c t X h (ix2 r o) = (args m c).st (head t 0) o (blk t * 512 + (r.val + 1)) := by
  have hga : ∀ r o, gaL m c t X (ix2 r o) = (args m c).gate (args m c).aw (args m c).ab (head t 0) o (blk t * 512 + r.val) := fun r o =>
    (gate_a_left X _ _ r o).trans (gateV_eq (args m c) X _ _ (head t 0) _ _ _ r o (fun k => hX r k)
      (fun k o => wa_apply m c t 0 inb_S2x128x128_S1x128x128_0_0_0 k o)
      ((vec_apply m c t 1 0 (by omega) inb_S8x256_S1x128_1_0 o).trans (iblk2_ab m c t 0 o)))
  have hgx : ∀ r o, gxL m c t X (ix2 r o) = (args m c).gate (args m c).xw (args m c).xb (head t 0) o (blk t * 512 + r.val) := fun r o =>
    (gate_x_left X _ _ r o).trans (gateV_eq (args m c) X _ _ (head t 0) _ _ _ r o (fun k => hX r k)
      (fun k o => wx_apply m c t 0 inb_S2x128x128_S1x128x128_0_0_0 k o)
      ((vec_apply m c t 2 0 (by omega) inb_S8x256_S1x128_2_0 o).trans (iblk2_xb m c t 0 o)))
  have hlog : ∀ r o, logV (gaL m c t X) (vecL m c t 3 inb_S8x256_S1x128_3_0) r o = (args m c).loga (head t 0) o (blk t * 512 + r.val) := fun r o =>
    decay_eq (args m c) _ _ (head t 0) _ r o (hga r o)
      ((vec_apply m c t 3 0 (by omega) inb_S8x256_S1x128_3_0 o).trans (iblk2_lam m c t 0 o))
  obtain ⟨a, u, ea, eu, va, vu⟩ := pair_left X (gaL m c t X) (gxL m c t X) (vecL m c t 3 inb_S8x256_S1x128_3_0)
  refine (congrFun (scan_left a u _ _ h ea eu) (ix2 r o)).trans ?_
  refine scan_states (args m c) a u h (head t 0) (blk t * 512) (fun r o => ?_) (fun r o => ?_) hh r o
  · rw [va, hlog]; rfl
  · rw [vu, hlog, hgx, hX]; rfl

theorem hsR_apply {c : Dev nD} {t : Fin cfg0.N} (X' x15 : FVec Ideal S512x128 .f32) (h : Vec Ideal S1x128 .f32)
    (hX : ∀ r o, k0_pay29 X' (tapR m c t 2 inb_S4x256_S1x128_2_128) x15 (ix2 r o) = (args m c).xc (head t 1) o (blk t * 512 + r.val))
    (hh : ∀ o : Fin 128, h (ix2 0 o) = (args m c).st (head t 1) o (blk t * 512)) (r : Fin 512) (o : Fin 128) :
    hsR m c t X' x15 h (ix2 r o) = (args m c).st (head t 1) o (blk t * 512 + (r.val + 1)) := by
  have hga : ∀ r o, gaR m c t X' x15 (ix2 r o) = (args m c).gate (args m c).aw (args m c).ab (head t 1) o (blk t * 512 + r.val) := fun r o =>
    (gate_a_right X' _ x15 _ _ r o).trans (gateV_eq (args m c) _ _ _ (head t 1) _ _ _ r o (fun k => hX r k)
      (fun k o => wa_apply m c t 1 inb_S2x128x128_S1x128x128_1_0_0 k o)
      ((vec_apply m c t 1 1 (by omega) inb_S8x256_S1x128_1_128 o).trans (iblk2_ab m c t 1 o)))
  have hgx : ∀ r o, gxR m c t X' x15 (ix2 r o) = (args m c).gate (args m c).xw (args m c).xb (head t 1) o (blk t * 512 + r.val) := fun r o =>
    (gate_x_right X' _ x15 _ _ r o).trans (gateV_eq (args m c) _ _ _ (head t 1) _ _ _ r o (fun k => hX r k)
      (fun k o => wx_apply m c t 1 inb_S2x128x128_S1x128x128_1_0_0 k o)
      ((vec_apply m c t 2 1 (by omega) inb_S8x256_S1x128_2_128 o).trans (iblk2_xb m c t 1 o)))
  have hlog : ∀ r o, logV (gaR m c t X' x15) (vecR m c t 3 inb_S8x256_S1x128_3_128) r o = (args m c).loga (head t 1) o (blk t * 512 + r.val) := fun r o =>
    decay_eq (args m c) _ _ (head t 1) _ r o (hga r o)
      ((vec_apply m c t 3 1 (by omega) inb_S8x256_S1x128_3_128 o).trans (iblk2_lam m c t 1 o))
  obtain ⟨a, u, ea, eu, va, vu⟩ := pair_right (k0_pay29 X' (tapR m c t 2 inb_S4x256_S1x128_2_128) x15) (gaR m c t X' x15) (gxR m c t X' x15)
    (vecR m c t 3 inb_S8x256_S1x128_3_128)
  refine (congrFun (scan_right a u _ _ h iota_S512x128_d0_w32 ea eu) (ix2 r o)).trans ?_
  refine scan_states (args m c) a u h (head t 1) (blk t * 512) (fun r o => ?_) (fun r o => ?_) hh r o
  · rw [va, hlog]; rfl
  · rw [vu, hlog, hgx, hX]; rfl

end Cert.Rnn

end
-- ==== Proof.Rnn.Carry.lean ====
/- The state carried from block to block of the recurrent layer's forward call, and with it the two outputs of every point. -/
module

public import proofs.«01_k».proof.Proof.Rnn.States
public import proofs.«01_k».proof.Proof.Pool.Stores

@[expose] public section

noncomputable section

namespace Cert.Rnn

open Cert.Kernel6Ideal Cert.Kernel6Ideal.Gen Idealize.ShloMosaic Idealize.ShloMosaic.TcCoe Idealize.SL.Sem Idealize.ShloMosaic.StableHlo
open Cert.Pool (emb2 emb3 canon_newest)

variable (m : (ℓ : Loc nD τ sig) → Buf (Elt Ideal) ℓ)

/-- The state of column `j` of the point's pair of heads, before row `n`. -/
def stC (c : Dev nD) (t : Fin cfg0.N) (j : Fin 256) (n : ℕ) : EReal :=
  (args m c).st (head t ⟨j.val / 128, by omega⟩) ⟨j.val % 128, by omega⟩ n

theorem stC_lane (c : Dev nD) (t : Fin cfg0.N) (q : Fin 2) (o : Fin 128) (n : ℕ) :
    stC m c t (lane q o) n = (args m c).st (head t q) o n := by
  unfold stC
  rw [lane_head, lane_off]

theorem readsA (c : Dev nD) (t : Fin cfg0.N) (h0 : t.val % 8 = 0) :
    Reads m c t 0 (readA m c t 16 0 inb_S528x256_S512x128_16_0) (readA m c t 13 0 inb_S528x256_S512x128_13_0)
        (readA m c t 14 0 inb_S528x256_S512x128_14_0) (readA m c t 15 0 inb_S528x256_S512x128_15_0)
      ∧ Reads m c t 1 (readA m c t 16 128 inb_S528x256_S512x128_16_128) (readA m c t 13 128 inb_S528x256_S512x128_13_128)
        (readA m c t 14 128 inb_S528x256_S512x128_14_128) (readA m c t 15 128 inb_S528x256_S512x128_15_128) :=
  ⟨⟨fun r o => readA_apply m c t h0 0 16 (by omega) inb_S528x256_S512x128_16_0 r o, fun r o => readA_apply m c t h0 0 13 (by omega) inb_S528x256_S512x128_13_0 r o,
    fun r o => readA_apply m c t h0 0 14 (by omega) inb_S528x256_S512x128_14_0 r o, fun r o => readA_apply m c t h0 0 15 (by omega) inb_S528x256_S512x128_15_0 r o⟩,
   ⟨fun r o => readA_apply m c t h0 1 16 (by omega) inb_S528x256_S512x128_16_128 r o, fun r o => readA_apply m c t h0 1 13 (by omega) inb_S528x256_S512x128_13_128 r o,
    fun r o => readA_apply m c t h0 1 14 (by omega) inb_S528x256_S512x128_14_128 r o, fun r o => readA_apply m c t h0 1 15 (by omega) inb_S528x256_S512x128_15_128 r o⟩⟩

theorem readsB (c : Dev nD) (t : Fin cfg0.N) (h0 : ¬t.val % 8 = 0) :
    Reads m c t 0 (readB' m c t 16 0 inb_S528x256_S512x128_16_0) (readB m c t 13 0 inb_S528x256_S512x128_13_0)
        (readB m c t 14 0 inb_S528x256_S512x128_14_0) (readB m c t 15 0 inb_S528x256_S512x128_15_0)
      ∧ Reads m c t 1 (readB' m c t 16 128 inb_S528x256_S512x128_16_128) (readB m c t 13 128 inb_S528x256_S512x128_13_128)
        (readB m c t 14 128 inb_S528x256_S512x128_14_128) (readB m c t 15 128 inb_S528x256_S512x128_15_128) :=
  have hp := carried_prev m c t h0
  ⟨⟨fun r o => readB'_apply m c t 0 inb_S528x256_S512x128_16_0 r o, fun r o => readB_apply m c t hp 0 13 (by omega) inb_S528x256_S512x128_13_0 r o,
    fun r o => readB_apply m c t hp 0 14 (by omega) inb_S528x256_S512x128_14_0 r o, fun r o => readB_apply m c t hp 0 15 (by omega) inb_S528x256_S512x128_15_0 r o⟩,
   ⟨fun r o => readB'_apply m c t 1 inb_S528x256_S512x128_16_128 r o, fun r o => readB_apply m c t hp 1 13 (by omega) inb_S528x256_S512x128_13_128 r o,
    fun r o => readB_apply m c t hp 1 14 (by omega) inb_S528x256_S512x128_14_128 r o, fun r o => readB_apply m c t hp 1 15 (by omega) inb_S528x256_S512x128_15_128 r o⟩⟩

/-- A block of a head's states. -/
def IsStates (c : Dev nD) (t : Fin cfg0.N) (q : Fin 2) (H : FVec Ideal S512x128 .f32) : Prop :=
  ∀ r o, H (ix2 r o) = (args m c).st (head t q) o (blk t * 512 + (r.val + 1))

/-! ### The carried state -/

theorem copyL_apply (V : Vec Ideal S1x128 .f32) (o : Fin 128) : k0_pay26 V (ix2 0 o) = V (ix2 0 o) := by
  pointwise [k0_pay26]

theorem copyR_apply (V : Vec Ideal S1x128 .f32) (o : Fin 128) : k0_pay1 (k0_pay46 V) (ix2 0 o) = V (ix2 0 o) := by
  pointwise [k0_pay1, k0_pay46]

theorem cL_apply {c : Dev nD} {t : Fin cfg0.N} {H : FVec Ideal S512x128 .f32} (hH : IsStates m c t 0 H) (o : Fin 128) :
    (cL t H).2 (ix2 0 o) = (args m c).st (head t 0) o (blk t * 512 + 512) := by
  show k0_pay26 ((ms0_6 t).view.readCov [pL H] (Rect.unit (s := S512x256) ![511, 0] ![1, 128] inb_S512x256_S1x128_511_0).toLoadRect) (ix2 0 o) = _
  rw [copyL_apply, View.readCov_eq_canon']
  show View.canon [pL H] ((Rect.unit (s := S512x256) ![511, 0] ![1, 128] inb_S512x256_S1x128_511_0).emb (ix2 0 o)) = _
  have he : (Rect.unit (s := S512x256) ![511, 0] ![1, 128] inb_S512x256_S1x128_511_0).emb (ix2 0 o)
      = (Rect.unit (s := S512x256) ![0, 0] ![512, 128] inb_S512x256_S512x128_0_0).emb (ix2 511 o) := by
    rw [emb2, emb2]
    rfl
  rw [he, View.canon_cons_emb]
  exact hH 511 o

theorem cR_apply {c : Dev nD} {t : Fin cfg0.N} {H H' : FVec Ideal S512x128 .f32} (hH : IsStates m c t 1 H') (o : Fin 128) :
    (cR t H H').2 (ix2 0 o) = (args m c).st (head t 1) o (blk t * 512 + 512) := by
  show k0_pay1 (k0_pay46 ((ms0_6 t).view.readCov [pR H', pL H] (Rect.unit (s := S512x256) ![511, 128] ![1, 128] inb_S512x256_S1x128_511_128).toLoadRect)) (ix2 0 o) = _
  rw [copyR_apply, View.readCov_eq_canon']
  show View.canon [pR H', pL H] ((Rect.unit (s := S512x256) ![511, 128] ![1, 128] inb_S512x256_S1x128_511_128).emb (ix2 0 o)) = _
  have he : (Rect.unit (s := S512x256) ![511, 128] ![1, 128] inb_S512x256_S1x128_511_128).emb (ix2 0 o)
      = (Rect.unit (s := S512x256) ![0, 128] ![512, 128] inb_S512x256_S512x128_0_128).emb (ix2 511 o) := by
    rw [emb2, emb2]
    rfl
  rw [he, View.canon_cons_emb]
  exact hH 511 o

/-- What the block leaves in the carried row. -/
def lastG (c : Dev nD) (t : Fin cfg0.N) (y : S8x256.Idx) : EReal := stC m c t ⟨(y 1).val, (y 1).isLt⟩ (blk t * 512 + 512)

theorem last_pieces {c : Dev nD} {t : Fin cfg0.N} {H H' : FVec Ideal S512x128 .f32} (hH : IsStates m c t 0 H) (hH' : IsStates m c t 1 H') :
    ∀ p ∈ [cR t H H', cL t H], ∀ x : p.1.shape.Idx, p.2 x = lastG m c t (p.1.emb x) := by
  simp only [List.forall_mem_cons]
  refine ⟨fun x => ?_, fun x => ?_, by simp⟩
  · obtain ⟨r, o, rfl⟩ : ∃ (r : Fin 1) (o : Fin 128), x = (ix2 r o : S1x128.Idx) := ⟨_, _, eq_ix2 x⟩
    obtain rfl : r = 0 := Subsingleton.elim _ _
    refine (cR_apply m hH' o).trans ?_
    rw [emb2]
    exact (stC_lane m c t 1 o _).symm
  · obtain ⟨r, o, rfl⟩ : ∃ (r : Fin 1) (o : Fin 128), x = (ix2 r o : S1x128.Idx) := ⟨_, _, eq_ix2 x⟩
    obtain rfl : r = 0 := Subsingleton.elim _ _
    refine (cL_apply m hH o).trans ?_
    rw [emb2]
    exact (stC_lane m c t 0 o _).symm

theorem last_covers (t : Fin cfg0.N) (H H' : FVec Ideal S512x128 .f32) (j : Fin 256) :
    ∃ p ∈ [cR t H H', cL t H], (ix2 0 j : S8x256.Idx) ∈ p.1.set := by
  by_cases hj : j.val < 128
  · refine ⟨cL t H, by simp, ?_⟩
    rw [Rect.mem_set_unit]
    intro a
    fin_cases a
    · exact ⟨Nat.le_refl _, by show 0 < 0 + 1; omega⟩
    · exact ⟨Nat.zero_le _, by show j.val < 0 + 128; omega⟩
  · refine ⟨cR t H H', by simp, ?_⟩
    rw [Rect.mem_set_unit]
    intro a
    fin_cases a
    · exact ⟨Nat.le_refl _, by show 0 < 0 + 1; omega⟩
    · exact ⟨Nat.le_of_not_lt hj, by show j.val < 128 + 128; omega⟩

/-! ### The state before a block -/

theorem zero_apply (j : Fin 256) : k0_pay5 (F := Ideal) (ix2 0 j) = (0 : EReal) := by
  pointwise [k0_pay5]

theorem cZero_emb (r : Fin 8) (j : Fin 256) :
    (ix2 r j : S8x256.Idx) = (Rect.unit (s := S8x256) ![0, 0] ![8, 256] inb_S8x256_S8x256_0_0).emb (ix2 r j) := by
  rw [emb2]
  exact congrArg₂ ix2 (Fin.ext (Nat.zero_add _).symm) (Fin.ext (Nat.zero_add _).symm)

theorem hA_left (o : Fin 128) :
    (View.whole cc0_scratch1).readCov [cZero] (Rect.unit (s := S8x256) ![0, 0] ![1, 128] inb_S8x256_S1x128_0_0).toLoadRect (ix2 0 o) = (0 : EReal) := by
  rw [View.readCov_eq_canon']
  show View.canon [cZero] ((Rect.unit (s := S8x256) ![0, 0] ![1, 128] inb_S8x256_S1x128_0_0).emb (ix2 0 o)) = _
  rw [emb2, cZero_emb, View.canon_cons_emb]
  exact zero_apply _

theorem hA_right (t : Fin cfg0.N) (H : FVec Ideal S512x128 .f32) (o : Fin 128) :
    (View.whole cc0_scratch1).readCov [cL t H, cZero] (Rect.unit (s := S8x256) ![0, 128] ![1, 128] inb_S8x256_S1x128_0_128).toLoadRect (ix2 0 o) = (0 : EReal) := by
  rw [View.readCov_eq_canon']
  show View.canon [cL t H, cZero] ((Rect.unit (s := S8x256) ![0, 128] ![1, 128] inb_S8x256_S1x128_0_128).emb (ix2 0 o)) = _
  rw [emb2]
  have hn : (ix2 ⟨0 + (0 : Fin 1).val, by decide⟩ ⟨128 + o.val, by omega⟩ : S8x256.Idx) ∉ (cL t H).1.set := by
    rw [Rect.mem_set_unit]
    intro h
    have h1 := (h 1).2
    change 128 + o.val < 0 + 128 at h1
    omega
  rw [View.canon_cons_of_not_mem _ _ hn, cZero_emb, View.canon_cons_emb]
  exact zero_apply _

theorem statesA (c : Dev nD) (t : Fin cfg0.N) (h0 : t.val % 8 = 0) : IsStates m c t 0 (HLA m c t) ∧ IsStates m c t 1 (HRA m c t) := by
  have hb : blk t * 512 = 0 := by unfold blk; omega
  refine ⟨fun r o => ?_, fun r o => ?_⟩
  · refine hsL_apply m _ _ (fun r o => xcL_apply m (readsA m c t h0).1 r o) (fun o => ?_) r o
    rw [hb]
    exact hA_left o
  · refine hsR_apply m _ _ _ (fun r o => xcR_apply m (readsA m c t h0).2 r o) (fun o => ?_) r o
    rw [hb]
    exact hA_right t _ o

theorem statesB (c : Dev nD) (t : Fin cfg0.N) (h0 : ¬t.val % 8 = 0)
    (hp : ∀ j : Fin 256, (prev m c t).2.2.2 (ix2 0 j) = stC m c t j (blk t * 512)) :
    IsStates m c t 0 (HLB m c t) ∧ IsStates m c t 1 (HRB m c t) := by
  refine ⟨fun r o => ?_, fun r o => ?_⟩
  · refine hsL_apply m _ _ (fun r o => xcL_apply m (readsB m c t h0).1 r o) (fun o => ?_) r o
    show (prev m c t).2.2.2 ((Rect.unit (s := S8x256) ![0, 0] ![1, 128] inb_S8x256_S1x128_0_0).emb (ix2 0 o)) = _
    rw [emb2]
    exact (hp (lane 0 o)).trans (stC_lane m c t 0 o _)
  · refine hsR_apply m _ _ _ (fun r o => xcR_apply m (readsB m c t h0).2 r o) (fun o => ?_) r o
    show (prev m c t).2.2.2 ((Rect.unit (s := S8x256) ![0, 128] ![1, 128] inb_S8x256_S1x128_0_128).emb (ix2 0 o)) = _
    rw [emb2]
    exact (hp (lane 1 o)).trans (stC_lane m c t 1 o _)

theorem last_A (c : Dev nD) (t : Fin cfg0.N) (h0 : t.val % 8 = 0) (j : Fin 256) :
    (outsAt0 m c t.val t.isLt).2.2.2 (ix2 0 j) = stC m c t j (blk t * 512 + 512) := by
  rw [c_A m c t h0]
  exact canon_newest (lastG m c t) [cR t (HLA m c t) (HRA m c t), cL t (HLA m c t)] [cZero]
    (last_pieces m (statesA m c t h0).1 (statesA m c t h0).2) (ix2 0 j) (last_covers t _ _ j)

theorem last_B (c : Dev nD) (t : Fin cfg0.N) (h0 : ¬t.val % 8 = 0)
    (hp : ∀ j : Fin 256, (prev m c t).2.2.2 (ix2 0 j) = stC m c t j (blk t * 512)) (j : Fin 256) :
    (outsAt0 m c t.val t.isLt).2.2.2 (ix2 0 j) = stC m c t j (blk t * 512 + 512) := by
  rw [c_B m c t h0]
  exact View.read_writes_apply_of_pieces _ _ (lastG m c t) _
    (last_pieces m (statesB m c t h0 hp).1 (statesB m c t h0 hp).2) (ix2 0 j) (last_covers t _ _ j)

theorem stC_before (c : Dev nD) (t : Fin cfg0.N) (h0 : ¬t.val % 8 = 0) (j : Fin 256) :
    stC m c (before t) j (blk (before t) * 512 + 512) = stC m c t j (blk t * 512) := by
  unfold stC
  rw [head_before t h0, blk_before t h0, show blk (before t) * 512 + 512 = (blk (before t) + 1) * 512 by omega]

/-- After every point the carried row holds the state after the point's block. -/
theorem last_state (c : Dev nD) : ∀ (n : ℕ) (t : Fin cfg0.N), t.val = n → ∀ j : Fin 256,
    (outsAt0 m c t.val t.isLt).2.2.2 (ix2 0 j) = stC m c t j (blk t * 512 + 512)
  | 0, t, ht, j => last_A m c t (by omega) j
  | n + 1, t, ht, j => by
    by_cases h0 : t.val % 8 = 0
    · exact last_A m c t h0 j
    · exact last_B m c t h0 (fun j => (last_state c n (before t) (by show t.val - 1 = n; omega) j).trans (stC_before m c t h0 j)) j

theorem states_at (c : Dev nD) (t : Fin cfg0.N) (h0 : ¬t.val % 8 = 0) : IsStates m c t 0 (HLB m c t) ∧ IsStates m c t 1 (HRB m c t) :=
  statesB m c t h0 fun j => (last_state m c _ (before t) rfl j).trans (stC_before m c t h0 j)

end Cert.Rnn

end
-- ==== Proof.Rnn.Out.lean ====
/- The two result arrays of the recurrent layer's forward call, from the values at each point. -/
module

public import proofs.«01_k».proof.Proof.Rnn.Carry
public import proofs.«01_k».proof.Proof.Gen.Kernel6Ideal.Value

@[expose] public section

noncomputable section

namespace Cert.Rnn

open Cert.Kernel6Ideal Cert.Kernel6Ideal.Gen Idealize.ShloMosaic Idealize.ShloMosaic.TcCoe Idealize.SL.Sem Idealize.ShloMosaic.StableHlo
open Cert.Pool (emb2 emb3)

/-- All the states. -/
def Args.hsAll (A : Args) : FVec Ideal S4096x1024 .f32 := fun i =>
  A.st ⟨(i 1).val / 128 % 8, by omega⟩ ⟨(i 1).val % 128, by omega⟩ ((i 0).val + 1)

/-- All the gated outputs; columns past the layer's width repeat it, and nothing is said of them. -/
def Args.yAll (A : Args) : FVec Ideal S4096x2048 .bf16 := fun i =>
  A.y ⟨(i 1).val / 128 % 8, by omega⟩ ⟨(i 1).val % 128, by omega⟩ ⟨(i 0).val, (i 0).isLt⟩

variable (m : (ℓ : Loc nD τ sig) → Buf (Elt Ideal) ℓ)

theorem left_emb (r : Fin 512) (o : Fin 128) : (ix2 r (lane 0 o) : S512x256.Idx)
    = (Rect.unit (s := S512x256) ![0, 0] ![512, 128] inb_S512x256_S512x128_0_0).emb (ix2 r o) := by
  rw [emb2]
  exact congrArg₂ ix2 (Fin.ext (Nat.zero_add _).symm) rfl

theorem right_emb (r : Fin 512) (o : Fin 128) : (ix2 r (lane 1 o) : S512x256.Idx)
    = (Rect.unit (s := S512x256) ![0, 128] ![512, 128] inb_S512x256_S512x128_0_128).emb (ix2 r o) := by
  rw [emb2]
  exact congrArg₂ ix2 (Fin.ext (Nat.zero_add _).symm) rfl

theorem left_not_right (r : Fin 512) (o : Fin 128) :
    (ix2 r (lane 0 o) : S512x256.Idx) ∉ (Rect.unit (s := S512x256) ![0, 128] ![512, 128] inb_S512x256_S512x128_0_128).set := by
  rw [Rect.mem_set_unit]
  intro h
  have h1 := (h 1).1
  change 128 ≤ 0 * 128 + o.val at h1
  omega

theorem hs_canon {c : Dev nD} {t : Fin cfg0.N} {H H' : FVec Ideal S512x128 .f32} (hH : IsStates m c t 0 H) (hH' : IsStates m c t 1 H')
    (r : Fin 512) (q : Fin 2) (o : Fin 128) :
    View.canon [pR H', pL H] (ix2 r (lane q o)) = (args m c).st (head t q) o (blk t * 512 + (r.val + 1)) := by
  match q with
  | 0 =>
    have hn : (ix2 r (lane 0 o) : S512x256.Idx) ∉ (pR H').1.set := left_not_right r o
    rw [View.canon_cons_of_not_mem _ _ hn, left_emb, View.canon_cons_emb]
    exact hH r o
  | 1 =>
    rw [right_emb, View.canon_cons_emb]
    exact hH' r o

theorem yL_apply {c : Dev nD} {t : Fin cfg0.N} {H : FVec Ideal S512x128 .f32} (hH : IsStates m c t 0 H) (r : Fin 512) (o : Fin 128) :
    (yL m c t H).2 (ix2 r o) = (args m c).y (head t 0) o (row t r) := by
  refine (out_left H (View.ld (iblk m c 0 t) (Rect.unit (s := S2x512x256) ![1, 0, 0] ![1, 512, 128] inb_S2x512x256_S1x512x128_1_0_0)) r o).trans ?_
  rw [hH r o]
  have e := g_apply m c t 0 inb_S2x512x256_S1x512x128_1_0_0 r o
  exact congrArg (fun g : EReal => (args m c).st (head t 0) o (blk t * 512 + (r.val + 1)) * (g * Ideal.div 1 (1 + Ideal.exp (0 - g)))) e

theorem yR_apply {c : Dev nD} {t : Fin cfg0.N} {H : FVec Ideal S512x128 .f32} (hH : IsStates m c t 1 H) (r : Fin 512) (o : Fin 128) :
    (yR m c t H).2 (ix2 r o) = (args m c).y (head t 1) o (row t r) := by
  refine (out_right H (View.ld (iblk m c 0 t) (Rect.unit (s := S2x512x256) ![1, 0, 128] ![1, 512, 128] inb_S2x512x256_S1x512x128_1_0_128)) r o).trans ?_
  rw [hH r o]
  have e := g_apply m c t 1 inb_S2x512x256_S1x512x128_1_0_128 r o
  exact congrArg (fun g : EReal => (args m c).st (head t 1) o (blk t * 512 + (r.val + 1)) * (g * Ideal.div 1 (1 + Ideal.exp (0 - g)))) e

theorem y_canon {c : Dev nD} {t : Fin cfg0.N} {H H' : FVec Ideal S512x128 .f32} (hH : IsStates m c t 0 H) (hH' : IsStates m c t 1 H')
    (r : Fin 512) (q : Fin 2) (o : Fin 128) :
    View.canon [yR m c t H', yL m c t H] (ix2 r (lane q o)) = (args m c).y (head t q) o (row t r) := by
  match q with
  | 0 =>
    have hn : (ix2 r (lane 0 o) : S512x256.Idx) ∉ (yR m c t H').1.set := left_not_right r o
    rw [View.canon_cons_of_not_mem _ _ hn, left_emb, View.canon_cons_emb]
    exact yL_apply m hH r o
  | 1 =>
    rw [right_emb, View.canon_cons_emb]
    exact yR_apply m hH' r o

theorem hs_at (c : Dev nD) (t : Fin cfg0.N) (r : Fin 512) (q : Fin 2) (o : Fin 128) :
    (outsAt0 m c t.val t.isLt).2.1 (ix2 r (lane q o)) = (args m c).st (head t q) o (blk t * 512 + (r.val + 1)) := by
  by_cases h0 : t.val % 8 = 0
  · rw [hs_A m c t h0]; exact hs_canon m (statesA m c t h0).1 (statesA m c t h0).2 r q o
  · rw [hs_B m c t h0]; exact hs_canon m (states_at m c t h0).1 (states_at m c t h0).2 r q o

theorem y_at (c : Dev nD) (t : Fin cfg0.N) (r : Fin 512) (q : Fin 2) (o : Fin 128) :
    (outsAt0 m c t.val t.isLt).1 (ix2 r (lane q o)) = (args m c).y (head t q) o (row t r) := by
  by_cases h0 : t.val % 8 = 0
  · rw [y_A m c t h0]; exact y_canon m (statesA m c t h0).1 (statesA m c t h0).2 r q o
  · rw [y_B m c t h0]; exact y_canon m (states_at m c t h0).1 (states_at m c t h0).2 r q o

theorem hsAll_at (A : Args) (n : Fin 4096) (h : Fin 8) (o : Fin 128) : A.hsAll (ix2 n (hcol h o)) = A.st h o (n.val + 1) := by
  show A.st ⟨(h.val * 128 + o.val) / 128 % 8, _⟩ ⟨(h.val * 128 + o.val) % 128, _⟩ (n.val + 1) = _
  exact congrArg₂ (fun h o => A.st h o (n.val + 1)) (Fin.ext (by show (h.val * 128 + o.val) / 128 % 8 = h.val; omega))
    (Fin.ext (by show (h.val * 128 + o.val) % 128 = o.val; omega))

theorem yAll_at (A : Args) (n : Fin 4096) (h : Fin 8) (o : Fin 128) (hl : (hcol h o).val < 2048) :
    A.yAll (ix2 n ⟨(hcol h o).val, hl⟩) = A.y h o n := by
  show A.y ⟨(h.val * 128 + o.val) / 128 % 8, _⟩ ⟨(h.val * 128 + o.val) % 128, _⟩ n = _
  exact congrArg₂ (fun h o => A.y h o n) (Fin.ext (by show (h.val * 128 + o.val) / 128 % 8 = h.val; omega))
    (Fin.ext (by show (h.val * 128 + o.val) % 128 = o.val; omega))

theorem arr6 (c : Dev nD) : (dats m 0 c).arrAt 6 cfg0.N = (fun i => (args m c).hsAll i : FVec Ideal S4096x1024 .f32) := by
  refine (dats m 0 c).arrAt_eq_of_covers 6 (args m c).hsAll (by decide +kernel) fun t hf y => ?_
  blk_simp
  rw [after0_6]
  obtain ⟨r, j, rfl⟩ : ∃ (r : Fin 512) (j : Fin 256), y = (ix2 r j : S512x256.Idx) := ⟨_, _, eq_ix2 y⟩
  obtain ⟨q, o, rfl⟩ : ∃ q o, j = lane q o := ⟨_, _, (lane_split j).symm⟩
  rw [show (win0_6.blk t).view.emb (ix2 r (lane q o)) = ix2 (row t r) (hcol (head t q) o) by blk_ext [e6, row, blk, hcol, head, lane]]
  have e : (args m c).hsAll (ix2 (row t r) (hcol (head t q) o)) = (args m c).st (head t q) o (blk t * 512 + r.val + 1) := hsAll_at _ _ _ _
  exact (hs_at m c t r q o).trans (by rw [e, Nat.add_assoc])

theorem arr5 (c : Dev nD) (i : S4096x2048.Idx) (hi : (i 1).val < 1024) : (dats m 0 c).arrAt 5 cfg0.N i = (args m c).yAll i := by
  refine ((dats m 0 c).arrAt_apply_of_coversWhere 5 (args m c).yAll (P := fun i : S4096x2048.Idx => (i 1).val / 256 < 4)
    (fun β => β (1 : Fin 2) < 4) (by decide +kernel) (fun t hf y => ?_) (fun j => Iff.rfl) i).trans (if_pos (by omega))
  blk_simp
  rw [after0_5]
  obtain ⟨r, j, rfl⟩ : ∃ (r : Fin 512) (j : Fin 256), y = (ix2 r j : S512x256.Idx) := ⟨_, _, eq_ix2 y⟩
  obtain ⟨q, o, rfl⟩ : ∃ q o, j = lane q o := ⟨_, _, (lane_split j).symm⟩
  rw [show (win0_5.blk t).view.emb (ix2 r (lane q o)) = ix2 (row t r) ⟨(hcol (head t q) o).val, by omega⟩ by blk_ext [e5, row, blk, hcol, head, lane]]
  exact (y_at m c t r q o).trans (yAll_at _ _ _ _ _).symm

end Cert.Rnn

end
-- ==== Proof.Rnn.Value.lean ====
/- The value claim of the recurrent layer's forward call: both programs leave every state and the gated output, whatever the
   arguments. -/
module

public import proofs.«01_k».proof.Defs
public import proofs.«01_k».proof.Proof.Rnn.Loop
public import proofs.«01_k».proof.Proof.Rnn.Out

@[expose] public section

noncomputable section

namespace Cert.Rnn

open Cert.Reference6Ideal Cert.Reference6Ideal.Gen Cert.Reference6Ideal.Value Idealize.ShloMosaic Idealize.ShloMosaic.TcCoe Idealize.SL.Sem Idealize.ShloMosaic.StableHlo

variable (m : (ℓ : Loc nD τ sig) → Buf (Elt Ideal) ℓ) (ρ : Dev nD → PrngReg)

/-- The gated output's first half, at a row and a column, from the states and the gate. -/
theorem gated_at (H : FVec Ideal S4096x1x1024 .f32) (g : FVec Ideal S1x4096x1024 .f32) (n : Fin 4096) (j : Fin 1024) (hj : j.val < 2048) :
    (truncf .bf16 (concatenate S4096x2048 1 [⟨S4096x1024, (shapeCast _ (mulf (transpose S1x4096x1024 [1, 0, 2] H transposes_S4096x1x1024_S1x4096x1024_1_0_2) (mulf g (Host.divf (broadcastInDim S1x4096x1024 ![] bcast_S_S1x4096x1024 (constant S_ .f32 0x3F800000#32)) (addf (broadcastInDim S1x4096x1024 ![] bcast_S_S1x4096x1024 (constant S_ .f32 0x3F800000#32)) (Host.exp (Host.negf g)))))) shapeCasts_S1x4096x1024_S4096x1024)⟩, ⟨S4096x1024, (broadcastInDim S4096x1024 ![] bcast_S_S4096x1024 (constant S_ .f32 0x00000000#32))⟩] concatenates_S4096x1024_S4096x1024_S4096x2048_d1) bitsLt_bf16_f32
      : FVec Ideal S4096x2048 .bf16) (ix2 n ⟨j.val, hj⟩)
      = H (ix3 n 0 j) * (g (ix3 0 n j) * Ideal.div 1 (1 + Ideal.exp (0 - g (ix3 0 n j)))) := by
  have hl : j.val < 1024 := j.isLt
  pointwise
  rw [zero_sub]

theorem states_at' (H : FVec Ideal S4096x1x1024 .f32) (n : Fin 4096) (j : Fin 1024) :
    (shapeCast S4096x1024 (transpose S1x4096x1024 [1, 0, 2] H transposes_S4096x1x1024_S1x4096x1024_1_0_2)
      shapeCasts_S1x4096x1024_S4096x1024 : FVec Ideal S4096x1024 .f32) (ix2 n j) = H (ix3 n 0 j) := by
  pointwise

theorem col_split (j : Fin 1024) : ∃ (h : Fin 8) (o : Fin 128), j = hcol h o :=
  ⟨⟨j.val / 128, by omega⟩, ⟨j.val % 128, by omega⟩, Fin.ext (by show j.val = j.val / 128 * 128 + j.val % 128; omega)⟩

/-- Every state. -/
theorem ref_states (c : Dev nD) :
    out_main_v84 (STEP^[4096] (entryContents preI m c)) = (fun i => (rargs m c).hsAll i : FVec Ideal S4096x1024 .f32) := by
  have B := before_all m c 4096 le_rfl
  funext i
  obtain ⟨n, j, rfl⟩ : ∃ (n : Fin 4096) (j : Fin 1024), i = (ix2 n j : S4096x1024.Idx) := ⟨_, _, eq_ix2 i⟩
  obtain ⟨h, o, rfl⟩ := col_split j
  refine (states_at' _ n (hcol h o)).trans ((B.hs n h o n.isLt).trans ?_)
  exact (hsAll_at (rargs m c) n h o).symm

/-- The gated output. -/
theorem ref_out (c : Dev nD) (i : S4096x2048.Idx) (hi : (i 1).val < 1024) :
    out_main_v83 (STEP^[4096] (entryContents preI m c)) i = (rargs m c).yAll i := by
  have B := before_all m c 4096 le_rfl
  have hg := iter_main_arg1 m c 4096
  obtain ⟨n, j, rfl⟩ : ∃ (n : Fin 4096) (j : Fin 2048), i = (ix2 n j : S4096x2048.Idx) := ⟨_, _, eq_ix2 i⟩
  have hj : j.val < 1024 := hi
  obtain ⟨h, o, e⟩ := col_split ⟨j.val, hj⟩
  have hl : (hcol h o).val < 2048 := by have := (hcol h o).isLt; omega
  have ej : j = ⟨(hcol h o).val, hl⟩ := Fin.ext (by have := congrArg Fin.val e; exact this)
  subst ej
  generalize STEP^[4096] (entryContents preI m c) = V at B hg ⊢
  have hs := B.hs n h o n.isLt
  unfold out_main_v83
  rw [hg]
  refine (gated_at _ _ n (hcol h o) hl).trans ?_
  rw [yAll_at, hs]
  rfl

end Cert.Rnn

namespace Cert.Rnn

open Idealize.ShloMosaic Idealize.SL.Sem

/-- The reference's frame: it changes no argument, and its signature has no semaphore. -/
theorem frameR [Cert.Reference6Ideal.Facts] : Cert.quiescent_Reference6Ideal := fun m ρ _ =>
  (θ_run _ _ _).mono (fun r h => ⟨fun c => (h c).2.2, sem_eq_zero_of_no_sems (by decide) r.2⟩)
    (Cert.Reference6Ideal.Value.run m ρ)

instance onFacts : Cert.On_written.Facts where
  bcast_S_S4096x2048 := by decide
  bcast_S_S4096x1024 := by decide

/-- The places the claim covers are the columns below 1024. -/
theorem covered_lt (i : Cert.On_written.S4096x2048.Idx)
    (h : IntOp.cmpi .slt (BitVec.ofNat 32 (i 1).val) 1024#32 = 1#1) : (i 1).val < 1024 :=
  (WordCmp.cmpi_slt_ofNat_eq_one_iff (w := 32) (a := (i 1).val) (b := 1024)
    (by have : (i 1).val < 2048 := (i 1).isLt; norm_num; omega) (by norm_num)).mp h

/-- The value claim of the recurrent layer's forward call. -/
theorem value [hK : Cert.Kernel6Ideal.Facts] [hR : Cert.Reference6Ideal.Facts] :
    Cert.algebraic_Kernel6Ideal_Reference6Ideal_on_written := by
  intro m ρ m' ρ' _ hargs
  refine ⟨fun c => (fun i => (args m c).yAll i : FVec Ideal _ .bf16), fun c => (fun i => (args m c).hsAll i : FVec Ideal _ .f32), ?_, ?_⟩
  · refine (θ_run _ _ _).mono (fun r h c => ⟨fun i hi => ?_, fun i _ => ?_, (h c).2.2⟩) (Cert.Kernel6Ideal.Value.run_blocks m ρ)
    · exact (congrFun (h c).1 i).trans (arr5 m c i (covered_lt i hi))
    · exact (congrFun (h c).2.1 i).trans (congrFun (arr6 m c) i)
  · have e : ∀ c, rargs m' c = args m c := fun c => by
      obtain ⟨a0, a1, a2, a3, a4, a5, a6, a7, a8⟩ := hargs c
      unfold rargs args
      rw [a0, a1, a2, a3, a4, a5, a6, a7, a8]
    refine (θ_run _ _ _).mono (fun r h c => ⟨fun i hi => ?_, fun i _ => ?_, (h c).2.2⟩) (Cert.Reference6Ideal.Value.run m' ρ')
    · refine (congrFun (h c).1 i).trans ((ref_out m' c i (covered_lt i hi)).trans ?_)
      rw [e]
    · refine (congrFun (h c).2.1 i).trans ((congrFun (ref_states m' c) i).trans ?_)
      rw [e]

end Cert.Rnn

end
-- ==== Proof.Shared.Finite.lean ====
/- A value whose absolute value is less than infinity is a real number. -/
module

public import Idealize.ShloMosaic.Lib.Pointwise

@[expose] public section

noncomputable section

namespace Cert.Shared

open Idealize.ShloMosaic

/-- The f32 pattern of positive infinity. -/
theorem inf_eq : Ideal.ofBits .f32 0x7F800000#32 = ⊤ := by simp [Ideal.ofBits, Ideal.ieee]

/-- The comparison `|x| < inf` answers one exactly at the reals. -/
theorem real_of_abs_lt {x : Ideal .f32}
    (h : FloatOps.cmpf (F := Ideal) .olt (FloatOps.absf x) (Ideal.ofBits .f32 0x7F800000#32) = 1#1) : ∃ r : ℝ, x = (r : EReal) := by
  rw [inf_eq] at h
  induction x using EReal.rec with
  | bot => exact absurd h (by change ¬ Ideal.cmp .olt (max (⊥ : EReal) (-⊥)) ⊤ = 1#1; simp [Ideal.cmp])
  | top => exact absurd h (by change ¬ Ideal.cmp .olt (max (⊤ : EReal) (-⊤)) ⊤ = 1#1; simp [Ideal.cmp])
  | coe r => exact ⟨r, rfl⟩

end Cert.Shared
-- ==== Proof.RnnB.Value.lean ====
/- The value claim of the recurrent layer's backward call: at finite arguments both programs leave the same gradient of the
   gate. -/
module

public import proofs.«01_k».proof.Defs
public import proofs.«01_k».proof.Proof.RnnB.Loop
public import proofs.«01_k».proof.Proof.RnnB.Out
public import proofs.«01_k».proof.Proof.RnnB.Reals
public import proofs.«01_k».proof.Proof.Rnn.Value
public import proofs.«01_k».proof.Proof.Shared.Finite

@[expose] public section

noncomputable section

namespace Cert.RnnB

open Cert.Rnn Idealize.ShloMosaic Idealize.ShloMosaic.TcCoe Idealize.SL.Sem Idealize.ShloMosaic.StableHlo
open Cert.Pool (IsReal)

section Reference

open Cert.Reference13Ideal Cert.Reference13Ideal.Gen Cert.Reference13Ideal.Value

/-- The reference's gradient of the gate, in the form the kernel writes it. -/
theorem ref_gate (m : (ℓ : Loc nD τ sig) → Buf (Elt Ideal) ℓ) (c : Dev nD) (d : FVec Ideal S1x4096x1024 .f32)
    (ed : m ((c : Thread nD τ).loc main_arg9) = d) (hA : Finite (rargs m c)) (hg : ∀ n j, IsReal ((rargs m c).g (ix3 0 n j)))
    (hd : ∀ n j, IsReal (d (ix3 0 n j))) (n : Fin 4096) (h : Fin 8) (o : Fin 128) :
    out_main_v85 (STEP^[4096] (entryContents preI m c)) (ix3 1 n (hcol h o))
      = grad ((rargs m c).st h o (n.val + 1)) (d (ix3 0 n (hcol h o))) ((rargs m c).g (ix3 0 n (hcol h o))) := by
  have B := before_all m c 4096 le_rfl
  have k1 : _ = (rargs m c).g := iter_main_arg1 m c 4096
  have k9 := (iter_main_arg9 m c 4096).trans ed
  generalize STEP^[4096] (entryContents preI m c) = V at B k1 k9 ⊢
  refine (out_at V _ d (rargs m c).g rfl k9 k1 n (hcol h o)).trans ?_
  rw [B.hs n h o n.isLt]
  exact rule_eq (st_real hA h o _) (hd _ _) (hg _ _) _ (gate_real _)

end Reference

/-- The reference's frame: it changes no argument, and its signature has no semaphore. -/
theorem frameR [Cert.Reference13Ideal.Facts] : Cert.quiescent_Reference13Ideal := fun m ρ _ =>
  (θ_run _ _ _).mono (fun r h => ⟨fun c => (h c).2, sem_eq_zero_of_no_sems (by decide) r.2⟩)
    (Cert.Reference13Ideal.Value.run m ρ)

instance onFacts : Cert.On_gate_plane.Facts where
  bcast_S_S4x4096x1024 := by decide

instance preFacts : Cert.Pre_finite_rnn.Facts where
  bcast_S_S1x4096x1024 := by decide
  bcast_S_S4x1024 := by decide
  bcast_S_S1024 := by decide

/-- The places the claim covers are those of plane 1. -/
theorem covered_eq : ∀ p : Fin 4, IntOp.cmpi .eq (BitVec.ofNat 32 p.val) 1#32 = 1#1 → p = 1 := by decide

/-- The value claim of the recurrent layer's backward call. -/
theorem value [hK : Cert.Kernel13Ideal.Facts] [hR : Cert.Reference13Ideal.Facts] :
    Cert.algebraic_Kernel13Ideal_Reference13Ideal_on_gate_plane_pre_finite_rnn := by
  intro m ρ m' ρ' hpre hargs
  refine ⟨fun c => (Cert.Kernel13Ideal.Gen.dats m 0 c).arrAt 9 Cert.Kernel13Ideal.cfg0.N, ?_, ?_⟩
  · exact (θ_run _ _ _).mono (fun r h c => ⟨fun i _ => congrFun ((h.1 c).1 9) i, h.2.1 c⟩)
      (θ_run_and (Cert.Kernel13Ideal.Gen.run_main m ρ) (Cert.Kernel13Ideal.Gen.frame m ρ))
  · refine (θ_run _ _ _).mono (fun r h c => ⟨fun i hi => (congrFun (h c).1 i).trans ?_, (h c).2⟩) (Cert.Reference13Ideal.Value.run m' ρ')
    obtain ⟨a0, a1, a2, a3, a4, a5, a6, a7, a8, a9⟩ := hargs c
    obtain ⟨f0, f1, f2, f3, f4⟩ := hpre c
    have e : rargs m' c = args m c := by
      unfold rargs args
      rw [a0, a1, a2, a3, a4, a5, a6, a7, a8]
    have hA : Finite (args m c) := ⟨fun n j => Shared.real_of_abs_lt (congrFun f0 (ix3 0 n j)),
      fun k j => Shared.real_of_abs_lt (congrFun f2 (ix2 k j)), fun j => Shared.real_of_abs_lt (congrFun f3 (ix1 j))⟩
    have hg : ∀ n j, IsReal ((args m c).g (ix3 0 n j)) := fun n j => Shared.real_of_abs_lt (congrFun f1 (ix3 0 n j))
    have hd : ∀ n j, IsReal (dout m c (ix3 0 n j)) := fun n j => Shared.real_of_abs_lt (congrFun f4 (ix3 0 n j))
    obtain ⟨p, n, j, rfl⟩ : ∃ (p : Fin 4) (n : Fin 4096) (j : Fin 1024), i = (ix3 p n j : Cert.On_gate_plane.S4x4096x1024.Idx) :=
      ⟨_, _, _, eq_ix3 i⟩
    obtain rfl : p = 1 := covered_eq p hi
    obtain ⟨h, o, rfl⟩ := col_split j
    rw [← e] at hA hg
    refine (ref_gate m' c (dout m c) a9 hA hg hd n h o).trans ?_
    rw [e]
    exact (arr9 m c n h o).symm

end Cert.RnnB

end
-- ==== Proof.InprojX.Spec.lean ====
/- What the input projection's backward call computes, written once over the six argument arrays read as extended
   reals: the gradient `dx` of the layer input and the eight rows `dvec` of parameter gradients. Both programs are
   proved to leave these two functions. -/
module

public import proofs.«01_k».proof.KernelIdeal
public import Idealize.ShloMosaic.Lib.Pointwise

@[expose] public section

noncomputable section

namespace Cert.InprojX

open Cert.KernelIdeal Idealize.ShloMosaic

/-- The width 1024 of a row, as the programs' literal reads it. -/
abbrev width : EReal := Ideal.ofBits .f32 0x44800000#32

/-- The norm's epsilon, as the programs' literal reads it. -/
abbrev eps : EReal := Ideal.ofBits .f32 0x358637BD#32

/-- One over the root mean square of row `s` of the layer input. -/
def rs (x : FVec Ideal S1x4096x1024 .f32) (s : Fin 4096) : EReal :=
  Ideal.rsqrt (Ideal.div (∑ k : Fin 1024, x (ix3 0 s k) * x (ix3 0 s k)) width + eps)

/-- The gradient of the normed, modulated input: the cotangent of the projection times the transposed weights. -/
def dh (w : FVec Ideal S1024x4096 .f32) (dp : FVec Ideal S1x4096x4096 .f32) (s : Fin 4096) (l : Fin 1024) : EReal :=
  ∑ j : Fin 4096, dp (ix3 0 s j) * w (ix2 l j)

/-- The modulation's scale, `1 + scale`. -/
def sc (mod : FVec Ideal S1x3072 .f32) (l : Fin 1024) : EReal := 1 + mod (ix2 0 ⟨1024 + l.val, by omega⟩)

/-- The gradient of the layer input at row `s`, lane `l`, with the residual's cotangent added. -/
def dx (x : FVec Ideal S1x4096x1024 .f32) (mod : FVec Ideal S1x3072 .f32) (g : FVec Ideal S1024 .f32)
    (w : FVec Ideal S1024x4096 .f32) (dp : FVec Ideal S1x4096x4096 .f32) (dxo : FVec Ideal S1x4096x1024 .f32)
    (s : Fin 4096) (l : Fin 1024) : EReal :=
  dxo (ix3 0 s l) + rs x s * (dh w dp s l * (g (ix1 l) * sc mod l)
    - x (ix3 0 s l) * rs x s
      * Ideal.div (∑ k : Fin 1024, dh w dp s k * (g (ix1 k) * sc mod k) * (x (ix3 0 s k) * rs x s)) width)

/-- One row's share of parameter gradient `q` at lane `l`: 0 the shift's, 1 the scale's, 2 the norm weight's. -/
def share (x : FVec Ideal S1x4096x1024 .f32) (mod : FVec Ideal S1x3072 .f32) (g : FVec Ideal S1024 .f32)
    (w : FVec Ideal S1024x4096 .f32) (dp : FVec Ideal S1x4096x4096 .f32) (q : Fin 8) (s : Fin 4096) (l : Fin 1024) : EReal :=
  if q.val = 0 then dh w dp s l
  else if q.val = 1 then dh w dp s l * (x (ix3 0 s l) * rs x s * g (ix1 l))
  else if q.val = 2 then dh w dp s l * (x (ix3 0 s l) * rs x s * sc mod l)
  else 0

/-- The parameter gradients: each row's shares summed over the sequence. -/
def dvec (x : FVec Ideal S1x4096x1024 .f32) (mod : FVec Ideal S1x3072 .f32) (g : FVec Ideal S1024 .f32)
    (w : FVec Ideal S1024x4096 .f32) (dp : FVec Ideal S1x4096x4096 .f32) (q : Fin 8) (l : Fin 1024) : EReal :=
  ∑ s : Fin 4096, share x mod g w dp q s l

end Cert.InprojX

end
-- ==== Proof.InprojX.Blocks.lean ====
module

public import proofs.«01_k».proof.Proof.Gen.KernelIdeal.Value
public import proofs.«01_k».proof.Proof.InprojX.Spec
public import Idealize.ShloMosaic.Lib.Pointwise
public import Idealize.ShloMosaic.Lib.StableHlo.ReadAt
public import Idealize.ShloMosaic.Lib.Pipeline.ValueKit

@[expose] public section

noncomputable section

namespace Cert.InprojX

open Cert.KernelIdeal Cert.KernelIdeal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![0, t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![t.val, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![0, 0] := (by decide +kernel : ∀ t : Fin grid0.N, _)

abbrev A0 (c : Dev nD) : FVec Ideal S1x4096x1024 .f32 := m ((c : Thread nD τ).loc main_arg0)
abbrev A1 (c : Dev nD) : FVec Ideal S1x3072 .f32 := m ((c : Thread nD τ).loc main_arg1)
abbrev A2 (c : Dev nD) : FVec Ideal S1024 .f32 := m ((c : Thread nD τ).loc main_arg2)
abbrev A3 (c : Dev nD) : FVec Ideal S1024x4096 .f32 := m ((c : Thread nD τ).loc main_arg3)
abbrev A4 (c : Dev nD) : FVec Ideal S1x4096x4096 .f32 := m ((c : Thread nD τ).loc main_arg4)
abbrev A5 (c : Dev nD) : FVec Ideal S1x4096x1024 .f32 := m ((c : Thread nD τ).loc main_arg5)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (a : Fin 4) (r : Fin 512) (k : Fin 1024) :
    iblk m c 0 t (ix3 a r k) = A4 m c (ix3 0 (row t r) ⟨a.val * 1024 + k.val, by omega⟩) := by
  blk_simp [iblk, e0]
  rw [show (win0_0.blk t).view.emb (ix3 a r k) = ix3 a (row t r) k by blk_ext [e0, row]]
  unfold_abbrev_sides
  after_reads_at

theorem iblk1_apply (c : Dev nD) (t : Fin cfg0.N) (a : Fin 4) (r : Fin 1024) (k : Fin 1024) :
    iblk m c 1 t (ix3 a r k) = A3 m c (ix2 r ⟨a.val * 1024 + k.val, by omega⟩) := by
  blk_simp [iblk, e1]
  rw [show (win0_1.blk t).view.emb (ix3 a r k) = ix3 a r k by blk_ext [e1]]
  unfold_abbrev_sides
  after_reads_at

theorem iblk2_apply (c : Dev nD) (t : Fin cfg0.N) (r : Fin 512) (k : Fin 1024) :
    iblk m c 2 t (ix2 r k) = A0 m c (ix3 0 (row t r) k) := by
  blk_simp [iblk, e2]
  rw [show (win0_2.blk t).view.emb (ix2 r k) = ix2 (row t r) k by blk_ext [e2, row]]
  unfold_abbrev_sides
  after_reads_at

theorem iblk3_apply (c : Dev nD) (t : Fin cfg0.N) (r : Fin 512) (k : Fin 1024) :
    iblk m c 3 t (ix2 r k) = A5 m c (ix3 0 (row t r) k) := by
  blk_simp [iblk, e3]
  rw [show (win0_3.blk t).view.emb (ix2 r k) = ix2 (row t r) k by blk_ext [e3, row]]
  unfold_abbrev_sides
  after_reads_at

theorem iblk4_apply1 (c : Dev nD) (t : Fin cfg0.N) (k : Fin 1024) :
    iblk m c 4 t (ix2 1 k) = A1 m c (ix2 0 ⟨1024 + k.val, by omega⟩) := by
  blk_simp [iblk, e4]
  rw [show (win0_4.blk t).view.emb (ix2 1 k) = ix2 1 k by blk_ext [e4]]
  unfold_abbrev_sides
  after_reads_at
  rw [reshape_result']
  after_reads_at

theorem iblk4_apply3 (c : Dev nD) (t : Fin cfg0.N) (k : Fin 1024) :
    iblk m c 4 t (ix2 3 k) = A2 m c (ix1 k) := by
  blk_simp [iblk, e4]
  rw [show (win0_4.blk t).view.emb (ix2 3 k) = ix2 3 k by blk_ext [e4]]
  unfold_abbrev_sides
  after_reads_at
  rw [reshape_result']
  after_reads_at

/-- The gradient of the normed input that point `t` computes from its blocks: four products, one per plane, added. -/
def dhB (c : Dev nD) (t : Fin cfg0.N) : FVec Ideal S512x1024 .f32 :=
  k0_pay4 (View.ld (iblk m c 0 t) (Rect.unit ![0, 0, 0] ![1, 512, 1024] inb_S4x512x1024_S1x512x1024_0_0_0))
    (View.ld (iblk m c 1 t) (Rect.unit ![0, 0, 0] ![1, 1024, 1024] inb_S4x1024x1024_S1x1024x1024_0_0_0))
    (View.ld (iblk m c 0 t) (Rect.unit ![1, 0, 0] ![1, 512, 1024] inb_S4x512x1024_S1x512x1024_1_0_0))
    (View.ld (iblk m c 1 t) (Rect.unit ![1, 0, 0] ![1, 1024, 1024] inb_S4x1024x1024_S1x1024x1024_1_0_0))
    (View.ld (iblk m c 0 t) (Rect.unit ![2, 0, 0] ![1, 512, 1024] inb_S4x512x1024_S1x512x1024_2_0_0))
    (View.ld (iblk m c 1 t) (Rect.unit ![2, 0, 0] ![1, 1024, 1024] inb_S4x1024x1024_S1x1024x1024_2_0_0))
    (View.ld (iblk m c 0 t) (Rect.unit ![3, 0, 0] ![1, 512, 1024] inb_S4x512x1024_S1x512x1024_3_0_0))
    (View.ld (iblk m c 1 t) (Rect.unit ![3, 0, 0] ![1, 1024, 1024] inb_S4x1024x1024_S1x1024x1024_3_0_0))

theorem dhB_apply (c : Dev nD) (t : Fin cfg0.N) (r : Fin 512) (l : Fin 1024) :
    dhB m c t (ix2 r l) = dh (A3 m c) (A4 m c) (row t r) l := by
  unfold dhB dh
  pointwise [k0_pay4]
  rw [Fin.sum_univ_tiles 4 1024 rfl, Fin.sum_univ_four]
  simp only [iblk0_apply, iblk1_apply]

/-- At every point the `dx` block is the same payload of the point's blocks. -/
theorem out5 (c : Dev nD) (t : Fin cfg0.N) :
    (outsAt0 m c t.val t.isLt).1 = k0_pay2 (dhB m c t) (k0_pay6 (iblk m c 2 t)) (k0_pay7 (iblk m c 2 t))
      (k0_pay8 (View.ld (iblk m c 4 t) (Rect.unit ![3, 0] ![1, 1024] inb_S8x1024_S1x1024_3_0)))
      (k0_pay9 (View.ld (iblk m c 4 t) (Rect.unit ![1, 0] ![1, 1024] inb_S8x1024_S1x1024_1_0))) (iblk m c 3 t) := by
  by_cases h0 : t.val % 8 = 0
  · rw [outsAt0_A m c t h0]
    frame_out
    rfl
  · rw [outsAt0_B m c t h0]
    frame_out
    rfl

theorem out5_apply (c : Dev nD) (t : Fin cfg0.N) (r : Fin 512) (l : Fin 1024) :
    (outsAt0 m c t.val t.isLt).1 (ix2 r l)
      = dx (A0 m c) (A1 m c) (A2 m c) (A3 m c) (A4 m c) (A5 m c) (row t r) l := by
  rw [out5]
  pointwise [k0_pay2, k0_pay5, k0_pay6, k0_pay7, k0_pay8, k0_pay9]
  simp only [dhB_apply, iblk2_apply, iblk3_apply, iblk4_apply1, iblk4_apply3]
  rfl

end Cert.InprojX
-- ==== Proof.InprojX.Rows.lean ====
/- The parameter gradients of the input projection's backward call: the eight rows the kernel keeps in one block over
   all its grid points, read after every point. -/
module

public import proofs.«01_k».proof.Proof.InprojX.Blocks
public import Idealize.ShloMosaic.Lib.WritesUnit
public import Idealize.ShloMosaic.Lib.Pipeline.ReadBack

@[expose] public section

noncomputable section

namespace Cert.InprojX

open Cert.KernelIdeal Cert.KernelIdeal.Gen Idealize.ShloMosaic Idealize.ShloMosaic.TcCoe Idealize.SL.Sem
  Idealize.ShloMosaic.StableHlo

/-- Three one-row stores over earlier contents, read at row `q`. -/
theorem read_three {sig : RefSig} {κ : Kind} {sp : Space} (v : View sig κ sp S8x1024 .f32) (f : v.ty.Contents (Elt Ideal))
    (p0 p1 p2 : S1x1024.Idx → EReal) (Ls : List (View.Piece (Elt Ideal) S8x1024 .f32)) (q : Fin 8) (l : Fin 1024) :
    v.read (Elt Ideal) (v.writes (Elt Ideal) f
        (⟨Rect.unit ![2, 0] ![1, 1024] inb_S8x1024_S1x1024_2_0, p2⟩
          :: ⟨Rect.unit ![1, 0] ![1, 1024] inb_S8x1024_S1x1024_1_0, p1⟩
          :: ⟨Rect.unit ![0, 0] ![1, 1024] inb_S8x1024_S1x1024_0_0, p0⟩ :: Ls)) (ix2 q l)
      = if q.val = 0 then p0 (ix2 0 l) else if q.val = 1 then p1 (ix2 0 l) else if q.val = 2 then p2 (ix2 0 l)
        else v.read (Elt Ideal) (v.writes (Elt Ideal) f Ls) (ix2 q l) := by
  by_cases h2 : q.val = 2
  · refine (View.read_writes_cons_rows_of_mem (o := 2) (size := ![1, 1024]) v f _ p2 _ (ix2 q l) (ix2 0 l) rfl h2 rfl).trans ?_
    simp [h2]
  refine (View.read_writes_cons_rows_of_not_mem (o := 2) (W := 1) (size := ![1, 1024]) v f _ p2 _ (ix2 q l) rfl rfl
    (by show q.val < 2 ∨ 2 + 1 ≤ q.val; omega)).trans ?_
  by_cases h1 : q.val = 1
  · refine (View.read_writes_cons_rows_of_mem (o := 1) (size := ![1, 1024]) v f _ p1 _ (ix2 q l) (ix2 0 l) rfl h1 rfl).trans ?_
    simp [h1]
  refine (View.read_writes_cons_rows_of_not_mem (o := 1) (W := 1) (size := ![1, 1024]) v f _ p1 _ (ix2 q l) rfl rfl
    (by show q.val < 1 ∨ 1 + 1 ≤ q.val; omega)).trans ?_
  by_cases h0 : q.val = 0
  · refine (View.read_writes_cons_rows_of_mem (o := 0) (size := ![1, 1024]) v f _ p0 _ (ix2 q l) (ix2 0 l) rfl h0 rfl).trans ?_
    simp [h0]
  refine (View.read_writes_cons_rows_of_not_mem (o := 0) (W := 1) (size := ![1, 1024]) v f _ p0 _ (ix2 q l) rfl rfl
    (by show q.val < 0 ∨ 0 + 1 ≤ q.val; omega)).trans ?_
  simp [h0, h1, h2]

variable (m : (ℓ : Loc nD τ sig) → Buf (Elt Ideal) ℓ)

/-- One block's share of parameter gradient `q`: its rows' shares added. -/
def part (c : Dev nD) (q : Fin 8) (l : Fin 1024) (t : Fin cfg0.N) : EReal :=
  ∑ r : Fin 512, share (A0 m c) (A1 m c) (A2 m c) (A3 m c) (A4 m c) q (row t r) l

/-- The three stores of point `t` over the rows `old`, and the rows no store touches: `old` with this block's shares
added. -/
theorem rows (c : Dev nD) (t : Fin cfg0.N) (old : S8x1024.Idx → Elt Ideal .f32) (q : Fin 8) (l : Fin 1024) :
    (if q.val = 0 then
        k0_pay10 (dhB m c t) (View.ld old (Rect.unit ![0, 0] ![1, 1024] inb_S8x1024_S1x1024_0_0)) (ix2 0 l)
      else if q.val = 1 then
        k0_pay11 (dhB m c t) (iblk m c 2 t) (View.ld (iblk m c 4 t) (Rect.unit ![3, 0] ![1, 1024] inb_S8x1024_S1x1024_3_0))
          (View.ld old (Rect.unit ![1, 0] ![1, 1024] inb_S8x1024_S1x1024_1_0)) (ix2 0 l)
      else if q.val = 2 then
        k0_pay1 (k0_pay12 (View.ld old (Rect.unit ![2, 0] ![1, 1024] inb_S8x1024_S1x1024_2_0)))
          (k0_pay13 (dhB m c t) (iblk m c 2 t)
            (View.ld (iblk m c 4 t) (Rect.unit ![1, 0] ![1, 1024] inb_S8x1024_S1x1024_1_0))) (ix2 0 l)
      else old (ix2 q l)) = old (ix2 q l) + part m c q l t := by
  unfold part share
  split_ifs with h0 h1 h2
  · obtain rfl : q = 0 := Fin.ext h0
    pointwise [k0_pay10]
    simp only [dhB_apply]
  · obtain rfl : q = 1 := Fin.ext h1
    pointwise [k0_pay11, k0_pay5, k0_pay6, k0_pay7, k0_pay8, k0_pay9]
    simp only [dhB_apply, iblk2_apply, iblk4_apply3]
    rfl
  · obtain rfl : q = 2 := Fin.ext h2
    pointwise [k0_pay1, k0_pay12, k0_pay13, k0_pay5, k0_pay6, k0_pay7, k0_pay8, k0_pay9]
    simp only [dhB_apply, iblk2_apply, iblk4_apply1]
    rfl
  · rw [Finset.sum_const_zero, add_zero]

theorem outA (c : Dev nD) (t : Fin cfg0.N) (h0 : t.val % 8 = 0) (q : Fin 8) (l : Fin 1024) :
    (outsAt0 m c t.val t.isLt).2 (ix2 q l) = part m c q l t := by
  rw [outsAt0_A m c t h0]
  frame_open
  simp (disch := decide) only [↓ View.readCov_skip, ↓ View.readCov_fill]
  frame_out
  rw [← View.read_writes_junk_eq_canon (ms0_6 t).view, read_three, View.read_writes_junk_eq_canon, View.canon_cons_unit_lit' _ _ _ (by decide)]
  refine (rows m c t (k0_pay3 (F := Ideal)) q l).trans ?_
  pointwise [k0_pay3]

theorem outB (c : Dev nD) (t : Fin cfg0.N) (h0 : ¬ t.val % 8 = 0) (q : Fin 8) (l : Fin 1024) :
    (outsAt0 m c t.val t.isLt).2 (ix2 q l)
      = (outsAt0 m c (t.val - 1) (Nat.lt_of_le_of_lt (Nat.sub_le _ _) t.isLt)).2 (ix2 q l) + part m c q l t := by
  rw [outsAt0_B m c t h0]
  frame_out
  rw [read_three]
  refine Eq.trans ?_ (rows m c t (outsAt0 m c (t.val - 1) (Nat.lt_of_le_of_lt (Nat.sub_le _ _) t.isLt)).2 q l)
  split_ifs
  · rfl
  · rfl
  · rfl
  · exact congrFun (Memref.IsWhole.read_unread _ _) _

/-- After point `n` each row holds the shares of the blocks so far. -/
theorem out6 (c : Dev nD) (q : Fin 8) (l : Fin 1024) : ∀ (n : ℕ) (hn : n < cfg0.N),
    (outsAt0 m c n hn).2 (ix2 q l) = ∑ u : Fin (n + 1), part m c q l ⟨u.val, by omega⟩
  | 0, hn => by
    rw [show (outsAt0 m c 0 hn).2 (ix2 q l) = part m c q l ⟨0, hn⟩ from outA m c ⟨0, hn⟩ rfl q l, Fin.sum_univ_one]
    rfl
  | n + 1, hn => by
    have h8 : n + 1 < 8 := lt8 ⟨n + 1, hn⟩
    rw [show (outsAt0 m c (n + 1) hn).2 (ix2 q l) = _ from outB m c ⟨n + 1, hn⟩ (by show ¬ (n + 1) % 8 = 0; omega) q l,
      Fin.sum_univ_castSucc]
    exact congrArg (· + _) (out6 c q l n (Nat.lt_of_succ_lt hn))

theorem out6_last (c : Dev nD) (h7 : 7 < cfg0.N) (q : Fin 8) (l : Fin 1024) :
    (outsAt0 m c 7 h7).2 (ix2 q l) = dvec (A0 m c) (A1 m c) (A2 m c) (A3 m c) (A4 m c) q l := by
  rw [out6 m c q l 7 h7]
  unfold dvec
  rw [Fin.sum_univ_tiles 8 512 rfl]
  rfl

end Cert.InprojX
-- ==== Proof.InprojX.Final.lean ====
/- The kernel's two result arrays after the run. -/
module

public import proofs.«01_k».proof.Proof.InprojX.Blocks
public import proofs.«01_k».proof.Proof.InprojX.Rows
public import proofs.«01_k».proof.Proof.Gen.KernelIdeal.Value

@[expose] public section

noncomputable section

namespace Cert.InprojX

open Cert.KernelIdeal Cert.KernelIdeal.Gen Idealize.ShloMosaic Idealize.ShloMosaic.TcCoe Idealize.SL.Sem
  Idealize.ShloMosaic.Pipeline

variable (m : (ℓ : Loc nD τ sig) → Buf (Elt Ideal) ℓ) (ρ : Dev nD → PrngReg)

/-- The first result array: every row block is flushed at its own grid point. -/
theorem arr5 (c : Dev nD) : (dats m 0 c).arrAt 5 cfg0.N
    = (fun i => dx (A0 m c) (A1 m c) (A2 m c) (A3 m c) (A4 m c) (A5 m c) (i 0) (i 1) : FVec Ideal S4096x1024 .f32) := by
  refine (dats m 0 c).arrAt_eq_of_covers 5 _ (by decide +kernel) fun t hf y => ?_
  blk_simp
  rw [after0_5]
  obtain ⟨r, l, rfl⟩ : ∃ (r : Fin 512) (l : Fin 1024), y = (ix2 r l : S512x1024.Idx) := ⟨_, _, eq_ix2 y⟩
  rw [show (win0_5.blk t).view.emb (ix2 r l) = ix2 (row t r) l by blk_ext [e5, row]]
  exact out5_apply m c t r l

/-- The second result array: the accumulator, flushed once at the last grid point. -/
theorem arr6 (c : Dev nD) : (dats m 0 c).arrAt 6 cfg0.N
    = (fun i => dvec (A0 m c) (A1 m c) (A2 m c) (A3 m c) (A4 m c) (i 0) (i 1) : FVec Ideal S8x1024 .f32) := by
  refine (dats m 0 c).arrAt_eq_of_after_last 6 ⟨7, by decide⟩ (by decide +kernel) _ fun j => ?_
  blk_simp
  change (dats m 0 c).after 6 ⟨7, by decide⟩ j = _
  rw [after0_6]
  obtain ⟨q, l, rfl⟩ : ∃ (q : Fin 8) (l : Fin 1024), j = (ix2 q l : S8x1024.Idx) := ⟨_, _, eq_ix2 j⟩
  exact out6_last m c _ q l

end Cert.InprojX
-- ==== Proof.Shared.Sums.lean ====
/- Sums the readings of several programs share. -/
module

public import Idealize.ShloMosaic.Lib.Pointwise

@[expose] public section

noncomputable section

namespace Cert.Shared

open Idealize.ShloMosaic

/-- A host sum over two leading axes of one element each is that element. -/
theorem sum_ones {n : ℕ} (h : (⟨3, ![1, 1, n]⟩ : Shape).ReducesTo [0, 1] ⟨1, ![n]⟩) (v : (⟨3, ![1, 1, n]⟩ : Shape).Idx → EReal)
    (init : EReal) (l : Fin n) : Ideal.hostReduceAdd h v init (ix1 l) = init + v (ix3 0 0 l) := by
  show init + ∑ i ∈ Finset.univ.filter (fun i => h.drop i = ix1 l), v i = _
  rw [show Finset.univ.filter (fun i => h.drop i = ix1 l) = {ix3 0 0 l} from ?_, Finset.sum_singleton]
  ext i
  rw [Finset.mem_filter, Finset.mem_singleton]
  constructor
  · rintro ⟨-, e⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0) :)
  · rintro rfl
    refine ⟨Finset.mem_univ _, funext fun b => ?_⟩
    match b with
    | ⟨0, _⟩ => rfl

/-- A host sum over two leading axes of one element each, of four axes. -/
theorem sum_ones_lead {n k : ℕ} (h : (⟨4, ![1, 1, n, k]⟩ : Shape).ReducesTo [0, 1] ⟨2, ![n, k]⟩) (v : (⟨4, ![1, 1, n, k]⟩ : Shape).Idx → EReal)
    (init : EReal) (r : Fin n) (l : Fin k) : Ideal.hostReduceAdd h v init (ix2 r l) = init + v (ix4 0 0 r l) := by
  show init + ∑ i ∈ Finset.univ.filter (fun i => h.drop i = ix2 r l), v i = _
  rw [show Finset.univ.filter (fun i => h.drop i = ix2 r l) = {ix4 0 0 r l} from ?_, Finset.sum_singleton]
  ext i
  rw [Finset.mem_filter, Finset.mem_singleton]
  constructor
  · rintro ⟨-, e⟩
    funext a
    match a with
    | ⟨0, _⟩ => exact Subsingleton.elim (α := Fin 1) _ _
    | ⟨1, _⟩ => exact Subsingleton.elim (α := Fin 1) _ _
    | ⟨2, _⟩ => exact Fin.ext (congrArg Fin.val (congrFun e 0) :)
    | ⟨3, _⟩ => exact Fin.ext (congrArg Fin.val (congrFun e 1) :)
  · rintro rfl
    refine ⟨Finset.mem_univ _, funext fun b => ?_⟩
    match b with
    | ⟨0, _⟩ => rfl
    | ⟨1, _⟩ => rfl

/-- A host sum over the outer two of three axes, of one element each, is that element. -/
theorem sum_ones_around {n : ℕ} (h : (⟨3, ![1, n, 1]⟩ : Shape).ReducesTo [0, 2] ⟨1, ![n]⟩) (v : (⟨3, ![1, n, 1]⟩ : Shape).Idx → EReal)
    (init : EReal) (l : Fin n) : Ideal.hostReduceAdd h v init (ix1 l) = init + v (ix3 0 l 0) := by
  show init + ∑ i ∈ Finset.univ.filter (fun i => h.drop i = ix1 l), v i = _
  rw [show Finset.univ.filter (fun i => h.drop i = ix1 l) = {ix3 0 l 0} from ?_, Finset.sum_singleton]
  ext i
  rw [Finset.mem_filter, Finset.mem_singleton]
  constructor
  · rintro ⟨-, e⟩
    funext a
    match a with
    | ⟨0, _⟩ => exact Subsingleton.elim (α := Fin 1) _ _
    | ⟨1, _⟩ => exact Fin.ext (congrArg Fin.val (congrFun e 0) :)
    | ⟨2, _⟩ => exact Subsingleton.elim (α := Fin 1) _ _
  · rintro rfl
    refine ⟨Finset.mem_univ _, funext fun b => ?_⟩
    match b with
    | ⟨0, _⟩ => rfl

end Cert.Shared
-- ==== Proof.InprojX.Ref.lean ====
/- The reference's two results, read element by element. -/
module

public import proofs.«01_k».proof.Proof.InprojX.Spec
public import proofs.«01_k».proof.Proof.Gen.ReferenceIdeal.Run
public import proofs.«01_k».proof.Proof.Shared.Sums
public import Idealize.ShloMosaic.Lib.Pointwise
public import Idealize.ShloMosaic.Lib.Tactic.CleanTypes

@[expose] public section

noncomputable section

namespace Cert.InprojX

open Cert.ReferenceIdeal Cert.ReferenceIdeal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- Argument 0 of the reference. -/
abbrev B0 (c : Dev nD) : FVec Ideal S1x4096x1024 .f32 := m ((c : Thread nD τ).loc main_arg0)
/-- Argument 1 of the reference. -/
abbrev B1 (c : Dev nD) : FVec Ideal S1x3072 .f32 := m ((c : Thread nD τ).loc main_arg1)
/-- Argument 2 of the reference. -/
abbrev B2 (c : Dev nD) : FVec Ideal S1024 .f32 := m ((c : Thread nD τ).loc main_arg2)
/-- Argument 3 of the reference. -/
abbrev B3 (c : Dev nD) : FVec Ideal S1024x4096 .f32 := m ((c : Thread nD τ).loc main_arg3)
/-- Argument 4 of the reference. -/
abbrev B4 (c : Dev nD) : FVec Ideal S1x4096x4096 .f32 := m ((c : Thread nD τ).loc main_arg4)
/-- Argument 5 of the reference. -/
abbrev B5 (c : Dev nD) : FVec Ideal S1x4096x1024 .f32 := m ((c : Thread nD τ).loc main_arg5)

/-- The reference's gradient of the layer input at row `s`, lane `l`: the derivative of the mean of squares by the chain
    rule, entering once for each factor of the square. -/
def dxChain (x : FVec Ideal S1x4096x1024 .f32) (mod : FVec Ideal S1x3072 .f32) (g : FVec Ideal S1024 .f32)
    (w : FVec Ideal S1024x4096 .f32) (dp : FVec Ideal S1x4096x4096 .f32) (dxo : FVec Ideal S1x4096x1024 .f32)
    (s : Fin 4096) (l : Fin 1024) : EReal :=
  let u := Ideal.div ((∑ k : Fin 1024, x (ix3 0 s k) * (dh w dp s k * sc mod k * g (ix1 k)))
    * (Ideal.ofBits .f32 0xBF000000#32 * Ideal.div (rs x s) (Ideal.div (∑ k : Fin 1024, x (ix3 0 s k) * x (ix3 0 s k)) width + eps)))
    width
  dxo (ix3 0 s l) + dh w dp s l * sc mod l * g (ix1 l) * rs x s + x (ix3 0 s l) * u + u * x (ix3 0 s l)

/-- The reference's first result is the chain rule's gradient. -/
theorem ref0 (c : Dev nD) (s : Fin 4096) (l : Fin 1024) : Value.res_main_v62 m c (ix2 s l)
    = dxChain (B0 m c) (B1 m c) (B2 m c) (B3 m c) (B4 m c) (B5 m c) s l := by
  unfold Value.res_main_v62
  generalize hU : Host.reduceAdd (F := Ideal) _ _ reducesTo_S1x4096x1_S4096_d0_2 _ = U
  change shapeCast S4096x1024 (s := S1x4096x1024) _ _ (ix2 s l) = _
  pointwise
  unfold dxChain
  have e : U (ix1 s) = Ideal.div ((∑ k : Fin 1024, B0 m c (ix3 0 s k) * (dh (B3 m c) (B4 m c) s k * sc (B1 m c) k * B2 m c (ix1 k)))
      * (Ideal.ofBits .f32 0xBF000000#32 * Ideal.div (rs (B0 m c) s)
        (Ideal.div (∑ k : Fin 1024, B0 m c (ix3 0 s k) * B0 m c (ix3 0 s k)) width + eps))) width := by
    rw [← hU]
    clear hU U
    pointwise [Shared.sum_ones_around]
    rfl
  rw [← e]
  rfl

/-- The reference run: both results as functions of the arguments, the arguments kept. -/
theorem run : θ_run defs (onTc (τ := τ) (main (F := Ideal))) ⟨m, fun _ => 0, ρ⟩ fun r => ∀ c : Dev nD,
    r.2.mem ((c.tc : Thread nD τ).loc main_v62)
        = (fun i => dxChain (B0 m c) (B1 m c) (B2 m c) (B3 m c) (B4 m c) (B5 m c) (i 0) (i 1) : FVec Ideal S4096x1024 .f32)
      ∧ r.2.mem ((c.tc : Thread nD τ).loc main_v65)
        = (fun i => dvec (B0 m c) (B1 m c) (B2 m c) (B3 m c) (B4 m c) (i 0) (i 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun i => ?_), (h c).2.1.trans (funext fun i => ?_), (h c).2.2⟩)
    (Value.run m ρ)
  · rw [eq_ix2 i]
    exact ref0 m c (i 0) (i 1)
  rw [eq_ix2 i]
  generalize i 0 = q, i 1 = l
  clear h
  pointwise [Shared.sum_ones]
  unfold dvec share
  clean_types
  have e1 : q.val - 1 < 1 ↔ q.val = 0 ∨ q.val = 1 := by omega
  split_ifs <;> first | omega | skip
  · rfl
  · exact Finset.sum_congr rfl fun s _ => mul_comm _ _
  · exact Finset.sum_congr rfl fun s _ => (mul_left_comm _ _ _)
  · exact Finset.sum_const_zero.symm

end Cert.InprojX
-- ==== Proof.InprojX.Value.lean ====
/- The value claim: under the precondition the reference's chain-rule gradient is the kernel's closed form, and both
   programs leave the same two arrays. -/
module

public import proofs.«01_k».proof.Defs
public import proofs.«01_k».proof.Proof.InprojX.Final
public import proofs.«01_k».proof.Proof.InprojX.Ref
public import proofs.«01_k».proof.Proof.Shared.Rms
public import proofs.«01_k».proof.Proof.Shared.Finite

@[expose] public section

noncomputable section

namespace Cert.InprojX

open Idealize.ShloMosaic Idealize.ShloMosaic.TcCoe Idealize.SL.Sem

/-- The shape facts the precondition states. -/
instance preFacts : Cert.Pre_finite.Facts where
  slices_S1x3072_S1x1024_0_0 := by decide
  slices_S1x3072_S1x1024_0_1024 := by decide
  slices_S1x3072_S1x1024_0_2048 := by decide
  bcast_S_S1x4096x1024 := by decide
  bcast_S_S1x1024 := by decide
  bcast_S_S1024 := by decide
  bcast_S_S1024x4096 := by decide
  bcast_S_S1x4096x4096 := by decide

open Cert.KernelIdeal Cert.KernelIdeal.Gen

variable (m : (ℓ : Loc nD τ sig) → Buf (Elt Ideal) ℓ)

/-- The precondition makes the five arrays it names real. -/
theorem reals (h : Cert.Pre_KernelIdeal_finite m) (c : Dev nD) :
    (∀ s l, ∃ r : ℝ, A0 m c (ix3 0 s l) = (r : EReal)) ∧ (∀ l : Fin 1024, ∃ r : ℝ, A1 m c (ix2 0 ⟨1024 + l.val, by omega⟩) = (r : EReal))
      ∧ (∀ l, ∃ r : ℝ, A2 m c (ix1 l) = (r : EReal)) ∧ (∀ l j, ∃ r : ℝ, A3 m c (ix2 l j) = (r : EReal))
      ∧ (∀ s j, ∃ r : ℝ, A4 m c (ix3 0 s j) = (r : EReal)) := by
  obtain ⟨h0, h1, h2, h3, h4⟩ := h c
  refine ⟨fun s l => Shared.real_of_abs_lt (congrFun h0 (ix3 0 s l)), fun l => Shared.real_of_abs_lt ?_,
    fun l => Shared.real_of_abs_lt (congrFun h2 (ix1 l)), fun l j => Shared.real_of_abs_lt (congrFun h3 (ix2 l j)),
    fun s j => Shared.real_of_abs_lt (congrFun h4 (ix3 0 s j))⟩
  have e := congrFun h1 (ix2 0 l)
  unfold Cert.Pre_finite.fn at e
  pointwise at e
  exact e

/-- At real arguments the chain rule's gradient is the closed form. -/
theorem chain_eq (h : Cert.Pre_KernelIdeal_finite m) (c : Dev nD) (s : Fin 4096) (l : Fin 1024) :
    dxChain (A0 m c) (A1 m c) (A2 m c) (A3 m c) (A4 m c) (A5 m c) s l
      = dx (A0 m c) (A1 m c) (A2 m c) (A3 m c) (A4 m c) (A5 m c) s l := by
  obtain ⟨h0, h1, h2, h3, h4⟩ := reals m h c
  choose x hx using h0 s
  choose σ hσ using h1
  choose g hg using h2
  choose w hw using h3
  choose p hp using h4 s
  have hG : ∀ k, dh (A3 m c) (A4 m c) s k * (A2 m c (ix1 k) * sc (A1 m c) k)
      = (((∑ j, p j * w k j) * (g k * (1 + σ k)) : ℝ) : EReal) := fun k => by
    unfold dh sc
    simp only [hσ, hg, hw, hp, ← EReal.coe_one, ← EReal.coe_mul, ← EReal.coe_add, ← Shared.coe_sum]
  have e : ∀ k, dh (A3 m c) (A4 m c) s k * sc (A1 m c) k * A2 m c (ix1 k)
      = dh (A3 m c) (A4 m c) s k * (A2 m c (ix1 k) * sc (A1 m c) k) := fun k => by
    rw [mul_assoc, mul_comm (sc (A1 m c) k)]
  unfold dxChain dx
  simp only [e, hG, hx]
  refine Shared.rms_grad x (fun k => (∑ j, p j * w k j) * (g k * (1 + σ k))) (A5 m c (ix3 0 s l)) l _ (rs (A0 m c) s) _ rfl ?_ rfl
  unfold rs
  simp only [hx]

end Cert.InprojX

namespace Cert.InprojX

open Idealize.ShloMosaic Idealize.SL.Sem

/-- The reference's frame: it changes no argument, and its signature has no semaphore. -/
theorem frameR [Cert.ReferenceIdeal.Facts] : Cert.quiescent_ReferenceIdeal := fun m ρ _ =>
  (θ_run _ _ _).mono (fun r h => ⟨fun c => (h c).2.2, sem_eq_zero_of_no_sems (by decide) r.2⟩)
    (Cert.ReferenceIdeal.Value.run m ρ)

/-- The value claim of the input projection's backward call. -/
theorem value [hK : Cert.KernelIdeal.Facts] [hR : Cert.ReferenceIdeal.Facts] [hP : Cert.Pre_finite.Facts] :
    Cert.algebraic_KernelIdeal_ReferenceIdeal_pre_finite := by
  intro m ρ m' ρ' hpre hargs
  refine ⟨fun c => (fun i => dx (A0 m c) (A1 m c) (A2 m c) (A3 m c) (A4 m c) (A5 m c) (i 0) (i 1) : FVec Ideal _ .f32),
    fun c => (fun i => dvec (A0 m c) (A1 m c) (A2 m c) (A3 m c) (A4 m c) (i 0) (i 1) : FVec Ideal _ .f32), ?_, ?_⟩
  · refine (θ_run _ _ _).mono (fun r h c => ⟨(h c).1.trans (arr5 m c), (h c).2.1.trans (arr6 m c), (h c).2.2⟩)
      (Cert.KernelIdeal.Value.run_blocks m ρ)
  · refine (θ_run _ _ _).mono (fun r h c => ⟨(h c).1.trans (funext fun i => ?_), (h c).2.1.trans (funext fun i => ?_), (h c).2.2⟩)
      (run m' ρ')
    all_goals obtain ⟨a0, a1, a2, a3, a4, a5⟩ := hargs c
    · refine Eq.trans ?_ (chain_eq m hpre c (i 0) (i 1))
      unfold B0 B1 B2 B3 B4 B5
      rw [a0, a1, a2, a3, a4, a5]
    · unfold B0 B1 B2 B3 B4
      rw [a0, a1, a2, a3, a4]

end Cert.InprojX
-- ==== Proof.Pool.Carry.lean ====
/- The rows of count-scaled cotangent from point to point, and the gradient block each point leaves. The points walk the
   sequence backwards, so the first rows of one block are the rows behind the end of the next. -/
module

public import proofs.«01_k».proof.Proof.Gen.Kernel2Ideal.Value
public import proofs.«01_k».proof.Proof.Pool.Stores
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-- The count-scaled cotangent of lane `L` at position `n`. -/
def Q (c : Dev nD) (L : Fin 1024) (n : ℕ) : EReal := (args m c).q (grp L) (off L) n

theorem Q_lane (c : Dev nD) (g : Fin 4) (l : Fin 256) (n : ℕ) : Q m c (lane g l) n = (args m c).q g l n := by
  rw [Q, grp_lane, off_lane]

/-- The buffer of scaled cotangents at a point: row `R` is the position `R` after the block's start. -/
def rowsQ (c : Dev nD) (t : Fin cfg0.N) : S528x1024.Idx → EReal :=
  fun y => Q m c ⟨(y 1).val, (y 1).isLt⟩ (blk t * 512 + (y 0).val)

theorem rowsQ_0 (c : Dev nD) (t : Fin cfg0.N) (x : S512x256.Idx) :
    q0 m c t x = rowsQ m c t ((Rect.unit (s := S528x1024) ![0, 0] ![512, 256] inb_S528x1024_S512x256_0_0).emb x) := by
  obtain ⟨r, l, rfl⟩ : ∃ (r : Fin 512) (l : Fin 256), x = (ix2 r l : S512x256.Idx) := ⟨_, _, eq_ix2 x⟩
  rw [emb2, q0_apply]
  show _ = Q m c ⟨0 + l.val, _⟩ (blk t * 512 + (0 + r.val))
  refine Eq.trans ?_ (congrArg₂ (Q m c) (lane_add 0 0 rfl l _).symm (congrArg (blk t * 512 + ·) (Nat.zero_add r.val).symm))
  exact (Q_lane m c 0 l _).symm

theorem rowsQ_1 (c : Dev nD) (t : Fin cfg0.N) (x : S512x256.Idx) :
    q1 m c t x = rowsQ m c t ((Rect.unit (s := S528x1024) ![0, 256] ![512, 256] inb_S528x1024_S512x256_0_256).emb x) := by
  obtain ⟨r, l, rfl⟩ : ∃ (r : Fin 512) (l : Fin 256), x = (ix2 r l : S512x256.Idx) := ⟨_, _, eq_ix2 x⟩
  rw [emb2, q1_apply]
  show _ = Q m c ⟨256 + l.val, _⟩ (blk t * 512 + (0 + r.val))
  refine Eq.trans ?_ (congrArg₂ (Q m c) (lane_add 1 256 rfl l _).symm (congrArg (blk t * 512 + ·) (Nat.zero_add r.val).symm))
  exact (Q_lane m c 1 l _).symm

theorem rowsQ_2 (c : Dev nD) (t : Fin cfg0.N) (x : S512x256.Idx) :
    q2 m c t x = rowsQ m c t ((Rect.unit (s := S528x1024) ![0, 512] ![512, 256] inb_S528x1024_S512x256_0_512).emb x) := by
  obtain ⟨r, l, rfl⟩ : ∃ (r : Fin 512) (l : Fin 256), x = (ix2 r l : S512x256.Idx) := ⟨_, _, eq_ix2 x⟩
  rw [emb2, q2_apply]
  show _ = Q m c ⟨512 + l.val, _⟩ (blk t * 512 + (0 + r.val))
  refine Eq.trans ?_ (congrArg₂ (Q m c) (lane_add 2 512 rfl l _).symm (congrArg (blk t * 512 + ·) (Nat.zero_add r.val).symm))
  exact (Q_lane m c 2 l _).symm

theorem rowsQ_3 (c : Dev nD) (t : Fin cfg0.N) (x : S512x256.Idx) :
    q3 m c t x = rowsQ m c t ((Rect.unit (s := S528x1024) ![0, 768] ![512, 256] inb_S528x1024_S512x256_0_768).emb x) := by
  obtain ⟨r, l, rfl⟩ : ∃ (r : Fin 512) (l : Fin 256), x = (ix2 r l : S512x256.Idx) := ⟨_, _, eq_ix2 x⟩
  rw [emb2, q3_apply]
  show _ = Q m c ⟨768 + l.val, _⟩ (blk t * 512 + (0 + r.val))
  refine Eq.trans ?_ (congrArg₂ (Q m c) (lane_add 3 768 rfl l _).symm (congrArg (blk t * 512 + ·) (Nat.zero_add r.val).symm))
  exact (Q_lane m c 3 l _).symm

theorem qPieces_rows (c : Dev nD) (t : Fin cfg0.N) :
    ∀ p ∈ qPieces m c t, ∀ x : p.1.shape.Idx, p.2 x = rowsQ m c t (p.1.emb x) := by
  simp only [List.forall_mem_cons]
  exact ⟨rowsQ_3 m c t, rowsQ_2 m c t, rowsQ_1 m c t, rowsQ_0 m c t, by simp⟩

/-- The stores of the groups up to `g`, the newest, hold lane `l` of group `g` in all 512 rows. -/
theorem qPieces_cover (c : Dev nD) (t : Fin cfg0.N) (g : Fin 4) (R : Fin 528) (hR : R.val < 512) (l : Fin 256) :
    ∃ p ∈ (qPieces m c t).drop (3 - g.val), (ix2 R (lane g l) : S528x1024.Idx) ∈ p.1.set := by
  have hl := l.isLt
  fin_cases g
  · refine ⟨⟨Rect.unit ![0, 0] ![512, 256] inb_S528x1024_S512x256_0_0, q0 m c t⟩, by simp, ?_⟩
    rw [Rect.mem_set_unit]
    refine Fin.forall_fin_two.mpr ⟨⟨Nat.zero_le _, ?_⟩, ⟨?_, ?_⟩⟩
    · show R.val < 0 + 512; omega
    · show 0 ≤ 0 * 256 + l.val; omega
    · show 0 * 256 + l.val < 0 + 256; omega
  · refine ⟨⟨Rect.unit ![0, 256] ![512, 256] inb_S528x1024_S512x256_0_256, q1 m c t⟩, by simp, ?_⟩
    rw [Rect.mem_set_unit]
    refine Fin.forall_fin_two.mpr ⟨⟨Nat.zero_le _, ?_⟩, ⟨?_, ?_⟩⟩
    · show R.val < 0 + 512; omega
    · show 256 ≤ 1 * 256 + l.val; omega
    · show 1 * 256 + l.val < 256 + 256; omega
  · refine ⟨⟨Rect.unit ![0, 512] ![512, 256] inb_S528x1024_S512x256_0_512, q2 m c t⟩, by simp, ?_⟩
    rw [Rect.mem_set_unit]
    refine Fin.forall_fin_two.mpr ⟨⟨Nat.zero_le _, ?_⟩, ⟨?_, ?_⟩⟩
    · show R.val < 0 + 512; omega
    · show 512 ≤ 2 * 256 + l.val; omega
    · show 2 * 256 + l.val < 512 + 256; omega
  · refine ⟨⟨Rect.unit ![0, 768] ![512, 256] inb_S528x1024_S512x256_0_768, q3 m c t⟩, by simp, ?_⟩
    rw [Rect.mem_set_unit]
    refine Fin.forall_fin_two.mpr ⟨⟨Nat.zero_le _, ?_⟩, ⟨?_, ?_⟩⟩
    · show R.val < 0 + 512; omega
    · show 768 ≤ 3 * 256 + l.val; omega
    · show 3 * 256 + l.val < 768 + 256; omega

/-- No store of the point reaches the carried rows. -/
theorem qPieces_not_mem (c : Dev nD) (t : Fin cfg0.N) (R : Fin 528) (hR : 512 ≤ R.val) (L : Fin 1024) :
    ∀ p ∈ qPieces m c t, (ix2 R L : S528x1024.Idx) ∉ p.1.set := by
  simp only [List.forall_mem_cons, Rect.mem_set_unit]
  have h : ∀ a : ℕ, ¬ ∀ i : Fin 2, (![0, a] : Fin 2 → ℕ) i ≤ ((ix2 R L : S528x1024.Idx) i).val
      ∧ ((ix2 R L : S528x1024.Idx) i).val < (![0, a] : Fin 2 → ℕ) i + (![512, 256] : Fin 2 → ℕ) i := fun a h => by
    have := (h 0).2
    change R.val < 0 + 512 at this
    omega
  exact ⟨h _, h _, h _, h _, by simp⟩

/-! ### Reading the rows inside a point -/

/-- At the first point nothing lies behind the end: those rows are zeros. -/
theorem rows_first (c : Dev nD) (t : Fin cfg0.N) (h0 : t.val % 8 = 0) (g : Fin 4) (R : Fin 528) (l : Fin 256) :
    View.canon ((qPieces m c t).drop (3 - g.val) ++ [⟨Rect.unit ![512, 0] ![16, 1024] inb_S528x1024_S16x1024_512_0, k0_pay3 (F := Ideal)⟩])
      (ix2 R (lane g l)) = (args m c).q g l (blk t * 512 + R) := by
  have ht := lt8 t
  by_cases hR : R.val < 512
  · refine (canon_newest (rowsQ m c t) _ _ (fun p hp => qPieces_rows m c t p (List.mem_of_mem_drop hp)) _ (qPieces_cover m c t g R hR l)).trans ?_
    exact Q_lane m c g l _
  · refine (canon_older _ _ _ fun p hp => qPieces_not_mem m c t R (by omega) _ p (List.mem_of_mem_drop hp)).trans ?_
    have hx : (ix2 R (lane g l) : S528x1024.Idx)
        = (Rect.unit (s := S528x1024) ![512, 0] ![16, 1024] inb_S528x1024_S16x1024_512_0).emb (ix2 ⟨R.val - 512, by omega⟩ (lane g l)) := by
      rw [emb2]
      refine congrArg₂ ix2 (Fin.ext ?_) (Fin.ext ?_)
      · show R.val = 512 + (R.val - 512); omega
      · show (lane g l).val = 0 + (lane g l).val; omega
    rw [hx, View.canon_cons_emb]
    unfold Args.q
    rw [dif_neg (by unfold blk; omega)]
    pointwise [k0_pay3]

/-- At a later point they are what the point before carried. -/
theorem rows_later (c : Dev nD) (t : Fin cfg0.N)
    (hp : ∀ (r : Fin 16) (L : Fin 1024), (prev m c t).2.2.2.1 (ix2 ⟨512 + r.val, by omega⟩ L) = Q m c L (blk t * 512 + 512 + r.val))
    (g : Fin 4) (R : Fin 528) (l : Fin 256) :
    mid m c t ((qPieces m c t).drop (3 - g.val)) (ix2 R (lane g l)) = (args m c).q g l (blk t * 512 + R) := by
  by_cases hR : R.val < 512
  · refine (View.read_writes_apply_of_pieces _ _ (rowsQ m c t) _ (fun p hp => qPieces_rows m c t p (List.mem_of_mem_drop hp)) _
      (qPieces_cover m c t g R hR l)).trans ?_
    exact Q_lane m c g l _
  · refine (View.read_writes_apply_of_forall_not_mem _ _ _ _ fun p hp => qPieces_not_mem m c t R (by omega) _ p (List.mem_of_mem_drop hp)).trans ?_
    rw [read_unread_whole]
    have h := hp ⟨R.val - 512, by omega⟩ (lane g l)
    rw [Q_lane, show blk t * 512 + 512 + (R.val - 512) = blk t * 512 + R.val by omega] at h
    rw [← h]
    exact congrArg (fun k => (prev m c t).2.2.2.1 (ix2 k (lane g l))) (Fin.ext (by show R.val = 512 + (R.val - 512); omega))

/-- What a point carries: the first sixteen rows of its block. -/
theorem carry_apply (c : Dev nD) (t : Fin cfg0.N) (L' L'' : List (View.Piece (Elt Ideal) S528x1024 .f32)) (r : Fin 16) (L : Fin 1024) :
    View.canon (carry (qPieces m c t ++ L') :: L'') (ix2 ⟨512 + r.val, by omega⟩ L) = Q m c L (blk t * 512 + r.val) := by
  have hx : (ix2 ⟨512 + r.val, by omega⟩ L : S528x1024.Idx)
      = (Rect.unit (s := S528x1024) ![512, 0] ![16, 1024] inb_S528x1024_S16x1024_512_0).emb (ix2 r L) := by
    rw [emb2]
    refine congrArg₂ ix2 rfl (Fin.ext ?_)
    show L.val = 0 + L.val; omega
  rw [hx, carry, View.canon_cons_emb, View.readCov_eq_canon']
  pointwise [k0_pay1]
  have h := canon_newest (rowsQ m c t) (qPieces m c t) L' (qPieces_rows m c t) (ix2 ⟨r.val, by omega⟩ L) (by
    have := qPieces_cover m c t (grp L) ⟨r.val, by omega⟩ (by show r.val < 512; omega) (off L)
    rw [lane_grp] at this
    obtain ⟨p, hp, h⟩ := this
    exact ⟨p, List.mem_of_mem_drop hp, h⟩)
  exact h

/-- After every point the carried rows are the first sixteen of its block. -/
theorem carried (c : Dev nD) (t : Fin cfg0.N) (r : Fin 16) (L : Fin 1024) :
    (outsAt0 m c t.val t.isLt).2.2.2.1 (ix2 ⟨512 + r.val, by omega⟩ L) = Q m c L (blk t * 512 + r.val) := by
  have ht := lt8 t
  by_cases h0 : t.val % 8 = 0
  · rw [carry_A m c t h0 (by omega)]
    exact carry_apply m c t _ _ r L
  · by_cases h1 : t.val % 8 = 7
    · rw [carry_C m c t h0 h1]
      have := carry_apply m c t [] (qPieces m c t) r L
      rwa [List.append_nil] at this
    · rw [carry_B m c t h0 h1]
      have := carry_apply m c t [] (qPieces m c t) r L
      rwa [List.append_nil] at this

theorem carried_prev (c : Dev nD) (t : Fin cfg0.N) (h0 : ¬ t.val % 8 = 0) (r : Fin 16) (L : Fin 1024) :
    (prev m c t).2.2.2.1 (ix2 ⟨512 + r.val, by omega⟩ L) = Q m c L (blk t * 512 + 512 + r.val) := by
  have ht := lt8 t
  have h := carried m c ⟨t.val - 1, Nat.lt_of_le_of_lt (Nat.sub_le _ _) t.isLt⟩ r L
  refine h.trans ?_
  congr 1
  show (7 - (t.val - 1)) * 512 + r.val = (7 - t.val) * 512 + 512 + r.val
  omega

/-! ### The gradient block -/

/-- The gradient block of a point: the input's gradient in plane 0, the gate's in plane 1. -/
def planes (c : Dev nD) (t : Fin cfg0.N) : S2x512x1024.Idx → EReal := fun y =>
  if (y 0).val = 0 then (args m c).dx (grp ⟨(y 2).val, (y 2).isLt⟩) (row t ⟨(y 1).val, (y 1).isLt⟩) (off ⟨(y 2).val, (y 2).isLt⟩)
  else (args m c).dgate (grp ⟨(y 2).val, (y 2).isLt⟩) (row t ⟨(y 1).val, (y 1).isLt⟩) (off ⟨(y 2).val, (y 2).isLt⟩)

theorem oPieces_apply (c : Dev nD) (t : Fin cfg0.N) (v0 v1 v2 v3 : Vec Ideal S528x256 .f32)
    (h0 : ∀ (R : Fin 528) (l : Fin 256), v0 (ix2 R l) = (args m c).q 0 l (blk t * 512 + R))
    (h1 : ∀ (R : Fin 528) (l : Fin 256), v1 (ix2 R l) = (args m c).q 1 l (blk t * 512 + R))
    (h2 : ∀ (R : Fin 528) (l : Fin 256), v2 (ix2 R l) = (args m c).q 2 l (blk t * 512 + R))
    (h3 : ∀ (R : Fin 528) (l : Fin 256), v3 (ix2 R l) = (args m c).q 3 l (blk t * 512 + R))
    (k : Fin 2) (r : Fin 512) (L : Fin 1024) :
    View.canon (oPieces m c t v0 v1 v2 v3) (ix3 k r L)
      = if k.val = 0 then (args m c).dx (grp L) (row t r) (off L) else (args m c).dgate (grp L) (row t r) (off L) := by
  refine View.canon_apply_of_pieces (S := S2x512x1024) (Val := Elt Ideal) (e := .f32) (planes m c t) _ ?_ (ix3 k r L) ?_
  · simp only [List.forall_mem_cons]
    refine ⟨fun x => ?_, fun x => ?_, fun x => ?_, fun x => ?_, fun x => ?_, fun x => ?_, fun x => ?_, fun x => ?_, by simp⟩
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dx3_apply m c t r l v3 fun R => h3 R l).trans ?_
      show _ = (args m c).dx (grp ⟨768 + l.val, _⟩) (row t ⟨0 + r.val, _⟩) (off ⟨768 + l.val, _⟩)
      refine Eq.trans ?_ (congrArg₂ (fun (L : Fin 1024) (R : Fin 512) => (args m c).dx (grp L) (row t R) (off L))
        (lane_add 3 768 rfl l _).symm (Fin.ext (Nat.zero_add r.val).symm))
      show _ = (args m c).dx (grp (lane 3 l)) (row t r) (off (lane 3 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dgate3_apply m c t r l).trans ?_
      show _ = (args m c).dgate (grp ⟨768 + l.val, _⟩) (row t ⟨0 + r.val, _⟩) (off ⟨768 + l.val, _⟩)
      refine Eq.trans ?_ (congrArg₂ (fun (L : Fin 1024) (R : Fin 512) => (args m c).dgate (grp L) (row t R) (off L))
        (lane_add 3 768 rfl l _).symm (Fin.ext (Nat.zero_add r.val).symm))
      show _ = (args m c).dgate (grp (lane 3 l)) (row t r) (off (lane 3 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dx2_apply m c t r l v2 fun R => h2 R l).trans ?_
      show _ = (args m c).dx (grp ⟨512 + l.val, _⟩) (row t ⟨0 + r.val, _⟩) (off ⟨512 + l.val, _⟩)
      refine Eq.trans ?_ (congrArg₂ (fun (L : Fin 1024) (R : Fin 512) => (args m c).dx (grp L) (row t R) (off L))
        (lane_add 2 512 rfl l _).symm (Fin.ext (Nat.zero_add r.val).symm))
      show _ = (args m c).dx (grp (lane 2 l)) (row t r) (off (lane 2 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dgate2_apply m c t r l).trans ?_
      show _ = (args m c).dgate (grp ⟨512 + l.val, _⟩) (row t ⟨0 + r.val, _⟩) (off ⟨512 + l.val, _⟩)
      refine Eq.trans ?_ (congrArg₂ (fun (L : Fin 1024) (R : Fin 512) => (args m c).dgate (grp L) (row t R) (off L))
        (lane_add 2 512 rfl l _).symm (Fin.ext (Nat.zero_add r.val).symm))
      show _ = (args m c).dgate (grp (lane 2 l)) (row t r) (off (lane 2 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dx1_apply m c t r l v1 fun R => h1 R l).trans ?_
      show _ = (args m c).dx (grp ⟨256 + l.val, _⟩) (row t ⟨0 + r.val, _⟩) (off ⟨256 + l.val, _⟩)
      refine Eq.trans ?_ (congrArg₂ (fun (L : Fin 1024) (R : Fin 512) => (args m c).dx (grp L) (row t R) (off L))
        (lane_add 1 256 rfl l _).symm (Fin.ext (Nat.zero_add r.val).symm))
      show _ = (args m c).dx (grp (lane 1 l)) (row t r) (off (lane 1 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dgate1_apply m c t r l).trans ?_
      show _ = (args m c).dgate (grp ⟨256 + l.val, _⟩) (row t ⟨0 + r.val, _⟩) (off ⟨256 + l.val, _⟩)
      refine Eq.trans ?_ (congrArg₂ (fun (L : Fin 1024) (R : Fin 512) => (args m c).dgate (grp L) (row t R) (off L))
        (lane_add 1 256 rfl l _).symm (Fin.ext (Nat.zero_add r.val).symm))
      show _ = (args m c).dgate (grp (lane 1 l)) (row t r) (off (lane 1 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dx0_apply m c t r l v0 fun R => h0 R l).trans ?_
      show _ = (args m c).dx (grp ⟨0 + l.val, _⟩) (row t ⟨0 + r.val, _⟩) (off ⟨0 + l.val, _⟩)
      refine Eq.trans ?_ (congrArg₂ (fun (L : Fin 1024) (R : Fin 512) => (args m c).dx (grp L) (row t R) (off L))
        (lane_add 0 0 rfl l _).symm (Fin.ext (Nat.zero_add r.val).symm))
      show _ = (args m c).dx (grp (lane 0 l)) (row t r) (off (lane 0 l))
      rw [grp_lane, off_lane]
    · obtain ⟨z, r, l, rfl⟩ : ∃ (z : Fin 1) (r : Fin 512) (l : Fin 256), x = (ix3 z r l : S1x512x256.Idx) := ⟨_, _, _, eq_ix3 x⟩
      obtain rfl : z = 0 := Subsingleton.elim _ _
      rw [emb3]
      refine (dgate0_apply m c t r l).trans ?_
      show _ = (args m c).dgate (grp ⟨0 + l.val, _⟩) (row t ⟨0 + r.val, _⟩) (off ⟨0 + l.val, _⟩)
      refine Eq.trans ?_ (congrArg₂ (fun (L : Fin 1024) (R : Fin 512) => (args m c).dgate (grp L) (row t R) (off L))
        (lane_add 0 0 rfl l _).symm (Fin.ext (Nat.zero_add r.val).symm))
      show _ = (args m c).dgate (grp (lane 0 l)) (row t r) (off (lane 0 l))
      rw [grp_lane, off_lane]
  · simp only [List.exists_mem_cons_iff, Rect.mem_set_unit]
    have hL := L.isLt
    have hr := r.isLt
    have key : ∀ (g : ℕ), 256 * g ≤ L.val → L.val < 256 * g + 256 → ∀ a : Fin 3,
        (![k.val, 0, 256 * g] : Fin 3 → ℕ) a ≤ ((ix3 k r L : S2x512x1024.Idx) a).val
          ∧ ((ix3 k r L : S2x512x1024.Idx) a).val < (![k.val, 0, 256 * g] : Fin 3 → ℕ) a + (![1, 512, 256] : Fin 3 → ℕ) a := fun g hl hh a => by
      match a with
      | 0 => exact ⟨le_refl _, Nat.lt_succ_self _⟩
      | 1 => exact ⟨Nat.zero_le _, by show r.val < 0 + 512; omega⟩
      | 2 => exact ⟨hl, hh⟩
    match k, key with
    | 0, key =>
      by_cases a3 : 768 ≤ L.val
      · exact .inl (key 3 (by omega) (by omega))
      by_cases a2 : 512 ≤ L.val
      · exact .inr (.inr (.inl (key 2 (by omega) (by omega))))
      by_cases a1 : 256 ≤ L.val
      · exact .inr (.inr (.inr (.inr (.inl (key 1 (by omega) (by omega))))))
      · exact .inr (.inr (.inr (.inr (.inr (.inr (.inl (key 0 (by omega) (by omega))))))))
    | 1, key =>
      by_cases a3 : 768 ≤ L.val
      · exact .inr (.inl (key 3 (by omega) (by omega)))
      by_cases a2 : 512 ≤ L.val
      · exact .inr (.inr (.inr (.inl (key 2 (by omega) (by omega)))))
      by_cases a1 : 256 ≤ L.val
      · exact .inr (.inr (.inr (.inr (.inr (.inl (key 1 (by omega) (by omega)))))))
      · exact .inr (.inr (.inr (.inr (.inr (.inr (.inr (.inl (key 0 (by omega) (by omega)))))))))

/-- Every point leaves the two gradients of its block. -/
theorem block_apply (c : Dev nD) (t : Fin cfg0.N) (k : Fin 2) (r : Fin 512) (L : Fin 1024) :
    (outsAt0 m c t.val t.isLt).1 (ix3 k r L)
      = if k.val = 0 then (args m c).dx (grp L) (row t r) (off L) else (args m c).dgate (grp L) (row t r) (off L) := by
  have ht := lt8 t
  by_cases h0 : t.val % 8 = 0
  · rw [out_A m c t h0 (by omega)]
    exact oPieces_apply m c t _ _ _ _
        (fun R l => by
        rw [View.readCov_eq_canon']
        refine Eq.trans ?_ (rows_first m c t h0 0 R l)
        pointwise
        exact congrArg (fun L => View.canon _ (ix2 R L)) (lane0 l _))
        (fun R l => by
        rw [View.readCov_eq_canon']
        refine Eq.trans ?_ (rows_first m c t h0 1 R l)
        pointwise
        exact congrArg (fun L => View.canon _ (ix2 R L)) (lane1 l _))
        (fun R l => by
        rw [View.readCov_eq_canon']
        refine Eq.trans ?_ (rows_first m c t h0 2 R l)
        pointwise
        exact congrArg (fun L => View.canon _ (ix2 R L)) (lane2 l _))
        (fun R l => by
        rw [View.readCov_eq_canon']
        refine Eq.trans ?_ (rows_first m c t h0 3 R l)
        pointwise
        exact congrArg (fun L => View.canon _ (ix2 R L)) (lane3 l _)) k r L
  · by_cases h1 : t.val % 8 = 7
    · rw [out_C m c t h0 h1]
      exact oPieces_apply m c t _ _ _ _
        (fun R l => by
        refine Eq.trans ?_ (rows_later m c t (carried_prev m c t h0) 0 R l)
        pointwise
        exact congrArg (fun L => mid m c t _ (ix2 R L)) (lane0 l _))
        (fun R l => by
        refine Eq.trans ?_ (rows_later m c t (carried_prev m c t h0) 1 R l)
        pointwise
        exact congrArg (fun L => mid m c t _ (ix2 R L)) (lane1 l _))
        (fun R l => by
        refine Eq.trans ?_ (rows_later m c t (carried_prev m c t h0) 2 R l)
        pointwise
        exact congrArg (fun L => mid m c t _ (ix2 R L)) (lane2 l _))
        (fun R l => by
        refine Eq.trans ?_ (rows_later m c t (carried_prev m c t h0) 3 R l)
        pointwise
        exact congrArg (fun L => mid m c t _ (ix2 R L)) (lane3 l _)) k r L
    · rw [out_B m c t h0 h1]
      exact oPieces_apply m c t _ _ _ _
        (fun R l => by
        refine Eq.trans ?_ (rows_later m c t (carried_prev m c t h0) 0 R l)
        pointwise
        exact congrArg (fun L => mid m c t _ (ix2 R L)) (lane0 l _))
        (fun R l => by
        refine Eq.trans ?_ (rows_later m c t (carried_prev m c t h0) 1 R l)
        pointwise
        exact congrArg (fun L => mid m c t _ (ix2 R L)) (lane1 l _))
        (fun R l => by
        refine Eq.trans ?_ (rows_later m c t (carried_prev m c t h0) 2 R l)
        pointwise
        exact congrArg (fun L => mid m c t _ (ix2 R L)) (lane2 l _))
        (fun R l => by
        refine Eq.trans ?_ (rows_later m c t (carried_prev m c t h0) 3 R l)
        pointwise
        exact congrArg (fun L => mid m c t _ (ix2 R L)) (lane3 l _)) k r L

end Cert.Pool

end
-- ==== Proof.Pool.Accum.lean ====
/- The two accumulators: after a point, the gradients of the weights, bias and scale summed over the blocks walked so far. -/
module

public import proofs.«01_k».proof.Proof.Gen.Kernel2Ideal.Value
public import proofs.«01_k».proof.Proof.Pool.Carry
public import Idealize.ShloMosaic.Lib.StableHlo.ReadAt
public import Idealize.ShloMosaic.Lib.Pipeline.ValueKit
public import Idealize.ShloMosaic.Lib.Pipeline.ReadBack

@[expose] public section

noncomputable section

namespace Cert.Pool

open Cert.Kernel2Ideal Cert.Kernel2Ideal.Gen Idealize.ShloMosaic Idealize.ShloMosaic.TcCoe Idealize.SL.Sem Idealize.ShloMosaic.StableHlo

variable (m : (ℓ : Loc nD τ sig) → Buf (Elt Ideal) ℓ)

/-- The sum of `f` over the block the `k`-th point takes: the points walk the blocks backwards. -/
def blockSum (f : Fin 4096 → EReal) (k : ℕ) : EReal := ∑ r : Fin 512, f ⟨(7 - k) * 512 + r.val, by omega⟩

/-- The sum over the blocks of the points up to `t`. -/
def upto (f : Fin 4096 → EReal) (t : ℕ) : EReal := ∑ k ∈ Finset.range (t + 1), blockSum f k

theorem upto_zero (f : Fin 4096 → EReal) : upto f 0 = blockSum f 0 := by simp [upto]

theorem upto_step (f : Fin 4096 → EReal) (t : ℕ) (ht : t ≠ 0) : upto f t = upto f (t - 1) + blockSum f t := by
  obtain ⟨n, rfl⟩ := Nat.exists_eq_succ_of_ne_zero ht
  show ∑ k ∈ Finset.range (n + 1 + 1), _ = _
  rw [Finset.sum_range_succ]
  rfl

/-- All eight blocks make the whole sequence. -/
theorem upto_all (f : Fin 4096 → EReal) : upto f 7 = ∑ s, f s := by
  rw [Fin.sum_univ_tiles 8 512 rfl]
  refine (Finset.sum_range (blockSum f)).trans ?_
  rw [← Equiv.sum_comp Fin.revPerm]
  refine Finset.sum_congr rfl fun k _ => Finset.sum_congr rfl fun r _ => congrArg f (Fin.ext ?_)
  show (7 - (Fin.rev k).val) * 512 + r.val = k.val * 512 + r.val
  rw [Fin.val_rev]
  omega

/-- The weight gradients' summand. -/
def dwAt (c : Dev nD) (g : Fin 4) (i j : Fin 256) (s : Fin 4096) : EReal := (args m c).pooled g s i * (args m c).dz s (lane g j)

/-- The bias gradient's summand. -/
def dbAt (c : Dev nD) (L : Fin 1024) (s : Fin 4096) : EReal := (args m c).dz s L

/-- The scale gradient's summand. -/
def dsAt (c : Dev nD) (L : Fin 1024) (s : Fin 4096) : EReal := (args m c).dyp s L * (args m c).z (grp L) s (off L)

/-- What the point adds to the weights' accumulator. -/
def dwStep (c : Dev nD) (t : Fin cfg0.N) (p : Vec Ideal S4x256x256 .f32) : S4x256x256.Idx → EReal := fun y =>
  p y + blockSum (dwAt m c ⟨(y 0).val, (y 0).isLt⟩ ⟨(y 1).val, (y 1).isLt⟩ ⟨(y 2).val, (y 2).isLt⟩) t.val

theorem aPieces_step (c : Dev nD) (t : Fin cfg0.N) (p : Vec Ideal S4x256x256 .f32) :
    ∀ q ∈ aPieces m c t p, ∀ x : q.1.shape.Idx, q.2 x = dwStep m c t p (q.1.emb x) := by
  simp only [List.forall_mem_cons]
  refine ⟨fun x => ?_, fun x => ?_, fun x => ?_, fun x => ?_, by simp⟩
  · obtain ⟨z, i, j, rfl⟩ : ∃ (z : Fin 1) (i j : Fin 256), x = (ix3 z i j : S1x256x256.Idx) := ⟨_, _, _, eq_ix3 x⟩
    obtain rfl : z = 0 := Subsingleton.elim _ _
    rw [emb3]
    refine (acc3_apply m c t i j _).trans ?_
    have hi : (⟨0 + i.val, by omega⟩ : Fin 256) = i := Fin.ext (Nat.zero_add _)
    have hj : (⟨0 + j.val, by omega⟩ : Fin 256) = j := Fin.ext (Nat.zero_add _)
    refine Eq.trans ?_ (congrArg₂ (fun a b => dwStep m c t p (ix3 3 a b)) hi.symm hj.symm)
    show _ = p (ix3 3 i j) + blockSum (dwAt m c 3 i j) t.val
    refine congrArg (· + _) ?_
    pointwise
  · obtain ⟨z, i, j, rfl⟩ : ∃ (z : Fin 1) (i j : Fin 256), x = (ix3 z i j : S1x256x256.Idx) := ⟨_, _, _, eq_ix3 x⟩
    obtain rfl : z = 0 := Subsingleton.elim _ _
    rw [emb3]
    refine (acc2_apply m c t i j _).trans ?_
    have hi : (⟨0 + i.val, by omega⟩ : Fin 256) = i := Fin.ext (Nat.zero_add _)
    have hj : (⟨0 + j.val, by omega⟩ : Fin 256) = j := Fin.ext (Nat.zero_add _)
    refine Eq.trans ?_ (congrArg₂ (fun a b => dwStep m c t p (ix3 2 a b)) hi.symm hj.symm)
    show _ = p (ix3 2 i j) + blockSum (dwAt m c 2 i j) t.val
    refine congrArg (· + _) ?_
    pointwise
  · obtain ⟨z, i, j, rfl⟩ : ∃ (z : Fin 1) (i j : Fin 256), x = (ix3 z i j : S1x256x256.Idx) := ⟨_, _, _, eq_ix3 x⟩
    obtain rfl : z = 0 := Subsingleton.elim _ _
    rw [emb3]
    refine (acc1_apply m c t i j _).trans ?_
    have hi : (⟨0 + i.val, by omega⟩ : Fin 256) = i := Fin.ext (Nat.zero_add _)
    have hj : (⟨0 + j.val, by omega⟩ : Fin 256) = j := Fin.ext (Nat.zero_add _)
    refine Eq.trans ?_ (congrArg₂ (fun a b => dwStep m c t p (ix3 1 a b)) hi.symm hj.symm)
    show _ = p (ix3 1 i j) + blockSum (dwAt m c 1 i j) t.val
    refine congrArg (· + _) ?_
    pointwise
  · obtain ⟨z, i, j, rfl⟩ : ∃ (z : Fin 1) (i j : Fin 256), x = (ix3 z i j : S1x256x256.Idx) := ⟨_, _, _, eq_ix3 x⟩
    obtain rfl : z = 0 := Subsingleton.elim _ _
    rw [emb3]
    refine (acc0_apply m c t i j _).trans ?_
    have hi : (⟨0 + i.val, by omega⟩ : Fin 256) = i := Fin.ext (Nat.zero_add _)
    have hj : (⟨0 + j.val, by omega⟩ : Fin 256) = j := Fin.ext (Nat.zero_add _)
    refine Eq.trans ?_ (congrArg₂ (fun a b => dwStep m c t p (ix3 0 a b)) hi.symm hj.symm)
    show _ = p (ix3 0 i j) + blockSum (dwAt m c 0 i j) t.val
    refine congrArg (· + _) ?_
    pointwise

theorem aPieces_cover (c : Dev nD) (t : Fin cfg0.N) (p : Vec Ideal S4x256x256 .f32) (g : Fin 4) (i j : Fin 256) :
    ∃ q ∈ aPieces m c t p, (ix3 g i j : S4x256x256.Idx) ∈ q.1.set := by
  simp only [List.exists_mem_cons_iff, Rect.mem_set_unit]
  have key : ∀ a : Fin 3, (![g.val, 0, 0] : Fin 3 → ℕ) a ≤ ((ix3 g i j : S4x256x256.Idx) a).val
      ∧ ((ix3 g i j : S4x256x256.Idx) a).val < (![g.val, 0, 0] : Fin 3 → ℕ) a + (![1, 256, 256] : Fin 3 → ℕ) a := fun a => by
    have hi := i.isLt
    have hj := j.isLt
    match a with
    | 0 => exact ⟨le_refl _, Nat.lt_succ_self _⟩
    | 1 => exact ⟨Nat.zero_le _, by show i.val < 0 + 256; omega⟩
    | 2 => exact ⟨Nat.zero_le _, by show j.val < 0 + 256; omega⟩
  match g, key with
  | 3, key => exact .inl key
  | 2, key => exact .inr (.inl key)
  | 1, key => exact .inr (.inr (.inl key))
  | 0, key => exact .inr (.inr (.inr (.inl key)))

/-- After a point the weights' accumulator holds their gradients over the blocks so far. -/
theorem weights_upto (c : Dev nD) (g : Fin 4) (i j : Fin 256) : ∀ (n : ℕ) (hn : n < cfg0.N),
    (outsAt0 m c n hn).2.2.2.2 (ix3 g i j) = upto (dwAt m c g i j) n
  | 0, hn => by
    rw [acc_A m c ⟨0, hn⟩ rfl (show ¬ 0 % 8 = 7 by decide)]
    refine (canon_newest (dwStep m c ⟨0, hn⟩ _) _ _ (aPieces_step m c _ _) _ (aPieces_cover m c _ _ g i j)).trans ?_
    rw [upto_zero]
    show k0_pay4 (F := Ideal) (ix3 g i j) + blockSum (dwAt m c g i j) 0 = _
    pointwise [k0_pay4]
  | n + 1, hn => by
    have h8 : n + 1 < 8 := lt8 ⟨n + 1, hn⟩
    have ih := weights_upto c g i j n (Nat.lt_of_succ_lt hn)
    have step : View.canon (aPieces m c ⟨n + 1, hn⟩ (prev m c ⟨n + 1, hn⟩).2.2.2.2) (ix3 g i j) = upto (dwAt m c g i j) (n + 1) := by
      refine (View.canon_apply_of_pieces (S := S4x256x256) (Val := Elt Ideal) (e := .f32) (dwStep m c ⟨n + 1, hn⟩ _) _ (aPieces_step m c _ _) _
        (aPieces_cover m c _ _ g i j)).trans ?_
      rw [upto_step _ (n + 1) (by omega)]
      exact congrArg (· + blockSum (dwAt m c g i j) (n + 1)) ih
    by_cases h1 : (n + 1) % 8 = 7
    · rw [acc_C m c ⟨n + 1, hn⟩ (by show ¬ (n + 1) % 8 = 0; omega) h1]
      exact step
    · rw [acc_B m c ⟨n + 1, hn⟩ (by show ¬ (n + 1) % 8 = 0; omega) h1]
      exact step

/-- The last point stores the whole gradients. -/
theorem weights_last (c : Dev nD) (t : Fin cfg0.N) (h : t.val = 7) (g : Fin 4) (i j : Fin 256) :
    (outsAt0 m c t.val t.isLt).2.1 (ix3 g i j) = (args m c).dw g i j := by
  have h0 : ¬ t.val % 8 = 0 := by omega
  have h1 : t.val % 8 = 7 := by omega
  rw [weights_C m c t h0 h1, View.readCov_eq_canon', ← acc_C m c t h0 h1]
  pointwise [k0_pay2]
  rw [weights_upto]
  show upto _ t.val = _
  rw [h, upto_all]
  rfl

/-! ### Bias and scale -/

/-- What the point adds to the bias row (0) and the scale row (1). -/
def rowStep (c : Dev nD) (t : Fin cfg0.N) (p : Vec Ideal S8x1024 .f32) : S8x1024.Idx → EReal := fun y =>
  p y + (if (y 0).val = 0 then blockSum (dbAt m c ⟨(y 1).val, (y 1).isLt⟩) t.val else blockSum (dsAt m c ⟨(y 1).val, (y 1).isLt⟩) t.val)

theorem vPieces_step (c : Dev nD) (t : Fin cfg0.N) (p : Vec Ideal S8x1024 .f32) :
    ∀ q ∈ vPieces m c t p, ∀ x : q.1.shape.Idx, q.2 x = rowStep m c t p (q.1.emb x) := by
  simp only [List.forall_mem_cons]
  refine ⟨fun x => ?_, fun x => ?_, fun x => ?_, fun x => ?_, fun x => ?_, fun x => ?_, fun x => ?_, fun x => ?_, by simp⟩
  · obtain ⟨z, l, rfl⟩ : ∃ (z : Fin 1) (l : Fin 256), x = (ix2 z l : S1x256.Idx) := ⟨_, _, eq_ix2 x⟩
    obtain rfl : z = 0 := Subsingleton.elim _ _
    rw [emb2]
    refine (db3_apply m c t l _).trans ?_
    refine Eq.trans ?_ (congrArg (fun L => rowStep m c t p (ix2 0 L)) (lane_add 3 768 rfl l (by have := l.isLt; omega)).symm)
    show _ = p (ix2 0 (lane 3 l)) + blockSum (dbAt m c (lane 3 l)) t.val
    refine congrArg₂ (· + ·) ?_ (rfl)
    pointwise
    exact congrArg (fun L => p (ix2 0 L)) (lane3 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (dscale3_apply m c t l _).trans ?_
    refine Eq.trans ?_ (congrArg (fun L => rowStep m c t p (ix2 1 L)) (lane_add 3 768 rfl l (by have := l.isLt; omega)).symm)
    show _ = p (ix2 1 (lane 3 l)) + blockSum (dsAt m c (lane 3 l)) t.val
    refine congrArg₂ (· + ·) ?_ (by unfold dsAt blockSum; rw [grp_lane, off_lane]; rfl)
    pointwise
    exact congrArg (fun L => p (ix2 1 L)) (lane3 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (db2_apply m c t l _).trans ?_
    refine Eq.trans ?_ (congrArg (fun L => rowStep m c t p (ix2 0 L)) (lane_add 2 512 rfl l (by have := l.isLt; omega)).symm)
    show _ = p (ix2 0 (lane 2 l)) + blockSum (dbAt m c (lane 2 l)) t.val
    refine congrArg₂ (· + ·) ?_ (rfl)
    pointwise
    exact congrArg (fun L => p (ix2 0 L)) (lane2 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (dscale2_apply m c t l _).trans ?_
    refine Eq.trans ?_ (congrArg (fun L => rowStep m c t p (ix2 1 L)) (lane_add 2 512 rfl l (by have := l.isLt; omega)).symm)
    show _ = p (ix2 1 (lane 2 l)) + blockSum (dsAt m c (lane 2 l)) t.val
    refine congrArg₂ (· + ·) ?_ (by unfold dsAt blockSum; rw [grp_lane, off_lane]; rfl)
    pointwise
    exact congrArg (fun L => p (ix2 1 L)) (lane2 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (db1_apply m c t l _).trans ?_
    refine Eq.trans ?_ (congrArg (fun L => rowStep m c t p (ix2 0 L)) (lane_add 1 256 rfl l (by have := l.isLt; omega)).symm)
    show _ = p (ix2 0 (lane 1 l)) + blockSum (dbAt m c (lane 1 l)) t.val
    refine congrArg₂ (· + ·) ?_ (rfl)
    pointwise
    exact congrArg (fun L => p (ix2 0 L)) (lane1 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (dscale1_apply m c t l _).trans ?_
    refine Eq.trans ?_ (congrArg (fun L => rowStep m c t p (ix2 1 L)) (lane_add 1 256 rfl l (by have := l.isLt; omega)).symm)
    show _ = p (ix2 1 (lane 1 l)) + blockSum (dsAt m c (lane 1 l)) t.val
    refine congrArg₂ (· + ·) ?_ (by unfold dsAt blockSum; rw [grp_lane, off_lane]; rfl)
    pointwise
    exact congrArg (fun L => p (ix2 1 L)) (lane1 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (db0_apply m c t l _).trans ?_
    refine Eq.trans ?_ (congrArg (fun L => rowStep m c t p (ix2 0 L)) (lane_add 0 0 rfl l (by have := l.isLt; omega)).symm)
    show _ = p (ix2 0 (lane 0 l)) + blockSum (dbAt m c (lane 0 l)) t.val
    refine congrArg₂ (· + ·) ?_ (rfl)
    pointwise
    exact congrArg (fun L => p (ix2 0 L)) (lane0 l _)
  · obtain ⟨z, l, rfl⟩ : ∃ (z : Fin 1) (l : Fin 256), x = (ix2 z l : S1x256.Idx) := ⟨_, _, eq_ix2 x⟩
    obtain rfl : z = 0 := Subsingleton.elim _ _
    rw [emb2]
    refine (dscale0_apply m c t l _).trans ?_
    refine Eq.trans ?_ (congrArg (fun L => rowStep m c t p (ix2 1 L)) (lane_add 0 0 rfl l (by have := l.isLt; omega)).symm)
    show _ = p (ix2 1 (lane 0 l)) + blockSum (dsAt m c (lane 0 l)) t.val
    refine congrArg₂ (· + ·) ?_ (by unfold dsAt blockSum; rw [grp_lane, off_lane]; rfl)
    pointwise
    exact congrArg (fun L => p (ix2 1 L)) (lane0 l _)

theorem vPieces_cover (c : Dev nD) (t : Fin cfg0.N) (p : Vec Ideal S8x1024 .f32) (k : Fin 8) (hk : k.val < 2) (L : Fin 1024) :
    ∃ q ∈ vPieces m c t p, (ix2 k L : S8x1024.Idx) ∈ q.1.set := by
  simp only [List.exists_mem_cons_iff, Rect.mem_set_unit]
  have hL := L.isLt
  have key : ∀ (g : ℕ), 256 * g ≤ L.val → L.val < 256 * g + 256 → ∀ a : Fin 2,
      (![k.val, 256 * g] : Fin 2 → ℕ) a ≤ ((ix2 k L : S8x1024.Idx) a).val
        ∧ ((ix2 k L : S8x1024.Idx) a).val < (![k.val, 256 * g] : Fin 2 → ℕ) a + (![1, 256] : Fin 2 → ℕ) a := fun g hl hh a => by
    match a with
    | 0 => exact ⟨le_refl _, Nat.lt_succ_self _⟩
    | 1 => exact ⟨hl, hh⟩
  match k, hk, key with
  | 0, _, key =>
    by_cases a3 : 768 ≤ L.val
    · exact .inl (key 3 (by omega) (by omega))
    by_cases a2 : 512 ≤ L.val
    · exact .inr (.inr (.inl (key 2 (by omega) (by omega))))
    by_cases a1 : 256 ≤ L.val
    · exact .inr (.inr (.inr (.inr (.inl (key 1 (by omega) (by omega))))))
    · exact .inr (.inr (.inr (.inr (.inr (.inr (.inl (key 0 (by omega) (by omega))))))))
  | 1, _, key =>
    by_cases a3 : 768 ≤ L.val
    · exact .inr (.inl (key 3 (by omega) (by omega)))
    by_cases a2 : 512 ≤ L.val
    · exact .inr (.inr (.inr (.inl (key 2 (by omega) (by omega)))))
    by_cases a1 : 256 ≤ L.val
    · exact .inr (.inr (.inr (.inr (.inr (.inl (key 1 (by omega) (by omega)))))))
    · exact .inr (.inr (.inr (.inr (.inr (.inr (.inr (.inl (key 0 (by omega) (by omega)))))))))

theorem vPieces_not_mem (c : Dev nD) (t : Fin cfg0.N) (p : Vec Ideal S8x1024 .f32) (k : Fin 8) (hk : ¬ k.val < 2) (L : Fin 1024) :
    ∀ q ∈ vPieces m c t p, (ix2 k L : S8x1024.Idx) ∉ q.1.set := by
  simp only [List.forall_mem_cons, Rect.mem_set_unit]
  have h : ∀ o : ℕ, o < 2 → ∀ a : ℕ, ¬ ∀ i : Fin 2, (![o, a] : Fin 2 → ℕ) i ≤ ((ix2 k L : S8x1024.Idx) i).val
      ∧ ((ix2 k L : S8x1024.Idx) i).val < (![o, a] : Fin 2 → ℕ) i + (![1, 256] : Fin 2 → ℕ) i := fun o ho a h => by
    have := (h 0).2
    change k.val < o + 1 at this
    omega
  exact ⟨h 0 (by omega) _, h 1 (by omega) _, h 0 (by omega) _, h 1 (by omega) _, h 0 (by omega) _, h 1 (by omega) _, h 0 (by omega) _,
    h 1 (by omega) _, by simp⟩

/-- The rows of the second accumulator after point `n`. -/
def rowsAt (c : Dev nD) (n : ℕ) (k : Fin 8) (L : Fin 1024) : EReal :=
  if k.val = 0 then upto (dbAt m c L) n else if k.val = 1 then upto (dsAt m c L) n else 0

theorem rowStep_zero (c : Dev nD) (hn : 0 < cfg0.N) (k : Fin 8) (hk : k.val < 2) (L : Fin 1024) (p : Vec Ideal S8x1024 .f32) (hp : p (ix2 k L) = 0) :
    rowStep m c ⟨0, hn⟩ p (ix2 k L) = rowsAt m c 0 k L := by
  show p (ix2 k L) + (if k.val = 0 then blockSum (dbAt m c L) 0 else blockSum (dsAt m c L) 0) = _
  unfold rowsAt
  rw [hp, zero_add, upto_zero, upto_zero]
  by_cases h0 : k.val = 0
  · rw [if_pos h0, if_pos h0]
  · rw [if_neg h0, if_neg h0, if_pos (by omega)]

theorem rowStep_succ (c : Dev nD) (n : ℕ) (hn : n + 1 < cfg0.N) (k : Fin 8) (hk : k.val < 2) (L : Fin 1024) (p : Vec Ideal S8x1024 .f32)
    (hp : p (ix2 k L) = rowsAt m c n k L) : rowStep m c ⟨n + 1, hn⟩ p (ix2 k L) = rowsAt m c (n + 1) k L := by
  show p (ix2 k L) + (if k.val = 0 then blockSum (dbAt m c L) (n + 1) else blockSum (dsAt m c L) (n + 1)) = _
  rw [hp]
  unfold rowsAt
  rw [upto_step _ (n + 1) (by omega), upto_step _ (n + 1) (by omega)]
  by_cases h0 : k.val = 0
  · rw [if_pos h0, if_pos h0, if_pos h0]; rfl
  · rw [if_neg h0, if_neg h0, if_neg h0, if_pos (by omega), if_pos (by omega)]; rfl

/-- After a point the second accumulator holds the gradients of bias and scale over the blocks so far, and zeros below. -/
theorem rows_upto (c : Dev nD) (k : Fin 8) (L : Fin 1024) : ∀ (n : ℕ) (hn : n < cfg0.N),
    (outsAt0 m c n hn).2.2.1 (ix2 k L) = rowsAt m c n k L
  | 0, hn => by
    have hz : k0_pay5 (F := Ideal) (ix2 k L) = 0 := by pointwise [k0_pay5]
    rw [vec_A m c ⟨0, hn⟩ rfl (show ¬ 0 % 8 = 7 by decide)]
    by_cases hk : k.val < 2
    · refine (canon_newest (rowStep m c ⟨0, hn⟩ _) _ _ (vPieces_step m c _ _) _ (vPieces_cover m c _ _ k hk L)).trans ?_
      exact rowStep_zero m c hn k hk L _ hz
    · refine (canon_older _ _ _ (vPieces_not_mem m c _ _ k hk L)).trans ?_
      have hx : (ix2 k L : S8x1024.Idx) = (Rect.unit (s := S8x1024) ![0, 0] ![8, 1024] inb_S8x1024_S8x1024_0_0).emb (ix2 k L) := by
        rw [emb2]
        exact congrArg₂ ix2 (Fin.ext (Nat.zero_add _).symm) (Fin.ext (Nat.zero_add _).symm)
      rw [hx, View.canon_cons_emb, hz]
      unfold rowsAt
      rw [if_neg (by omega), if_neg (by omega)]
  | n + 1, hn => by
    have h8 : n + 1 < 8 := lt8 ⟨n + 1, hn⟩
    have ih := rows_upto c k L n (Nat.lt_of_succ_lt hn)
    have step : View.read (Elt Ideal) (ms0_7 ⟨n + 1, hn⟩).view ((ms0_7 ⟨n + 1, hn⟩).view.writes (Elt Ideal)
        ((hs0_7 ⟨n + 1, hn⟩).unread (prev m c ⟨n + 1, hn⟩).2.2.1) (vPieces m c ⟨n + 1, hn⟩ (prev m c ⟨n + 1, hn⟩).2.2.1)) (ix2 k L)
        = rowsAt m c (n + 1) k L := by
      by_cases hk : k.val < 2
      · refine (View.read_writes_apply_of_pieces _ _ (rowStep m c ⟨n + 1, hn⟩ _) _ (vPieces_step m c _ _) _ (vPieces_cover m c _ _ k hk L)).trans ?_
        exact rowStep_succ m c n hn k hk L _ ih
      · refine (View.read_writes_apply_of_forall_not_mem _ _ _ _ (vPieces_not_mem m c _ _ k hk L)).trans ?_
        rw [Memref.IsWhole.read_unread]
        refine ih.trans ?_
        unfold rowsAt
        rw [if_neg (by omega), if_neg (by omega), if_neg (by omega), if_neg (by omega)]
    by_cases h1 : (n + 1) % 8 = 7
    · rw [vec_C m c ⟨n + 1, hn⟩ (by show ¬ (n + 1) % 8 = 0; omega) h1]
      exact step
    · rw [vec_B m c ⟨n + 1, hn⟩ (by show ¬ (n + 1) % 8 = 0; omega) h1]
      exact step

theorem rows_last (c : Dev nD) (n : ℕ) (hn : n < cfg0.N) (h : n = 7) (k : Fin 8) (L : Fin 1024) :
    (outsAt0 m c n hn).2.2.1 (ix2 k L)
      = if k.val = 0 then (args m c).db (grp L) (off L) else if k.val = 1 then (args m c).dscale (grp L) (off L) else 0 := by
  rw [rows_upto, rowsAt, h, upto_all, upto_all]
  unfold Args.db Args.dscale dbAt dsAt
  rw [lane_grp]

end Cert.Pool

end
-- ==== Proof.Pool.Final.lean ====
/- The kernel's three result arrays after the run. -/
module

public import proofs.«01_k».proof.Proof.Pool.Accum
public import Idealize.ShloMosaic.Lib.Pipeline.ValueKit.Partial

@[expose] public section

noncomputable section

namespace Cert.Pool

open Cert.Kernel2Ideal Cert.Kernel2Ideal.Gen Idealize.ShloMosaic Idealize.ShloMosaic.TcCoe Idealize.SL.Sem
  Idealize.ShloMosaic.StableHlo

namespace Args

variable (A : Args)

/-- The first result: two planes of zeros, the input's gradient, the gate's gradient. -/
def out0 (k : Fin 4) (s : Fin 4096) (L : Fin 1024) : EReal :=
  if k.val = 2 then A.dx (grp L) s (off L) else if k.val = 3 then A.dgate (grp L) s (off L) else 0

/-- The third: the bias gradient's row, the scale gradient's, and zeros. -/
def out2 (k : Fin 8) (L : Fin 1024) : EReal :=
  if k.val = 0 then A.db (grp L) (off L) else if k.val = 1 then A.dscale (grp L) (off L) else 0

end Args

variable (m : (ℓ : Loc nD τ sig) → Buf (Elt Ideal) ℓ) (ρ : Dev nD → PrngReg)

/-- The first result array: planes 2 and 3 are written block by block, the others stay the zeros they were. -/
theorem arr5 (c : Dev nD) : (dats m 0 c).arrAt 5 cfg0.N
    = (fun i => (args m c).out0 (i 0) (i 1) (i 2) : FVec Ideal S4x4096x1024 .bf16) := by
  refine (dats m 0 c).arrAt_eq_of_coversWhere_of_agree 5 _ (fun β => β (0 : Fin 3) = 1) (by decide +kernel) (fun t hf y => ?_) (fun j hj => ?_)
  · blk_simp
    rw [after0_5]
    obtain ⟨k, r, l, rfl⟩ : ∃ (k : Fin 2) (r : Fin 512) (l : Fin 1024), y = (ix3 k r l : S2x512x1024.Idx) := ⟨_, _, _, eq_ix3 y⟩
    rw [show (win0_5.blk t).view.emb (ix3 k r l) = ix3 ⟨2 + k.val, by omega⟩ (row t r) l by blk_ext [e5, row, blk]]
    refine (block_apply m c t k r l).trans ?_
    show _ = (args m c).out0 ⟨2 + k.val, _⟩ (row t r) l
    unfold Args.out0
    match k with
    | 0 => rfl
    | 1 => rfl
  · obtain ⟨k, s, l, rfl⟩ : ∃ (k : Fin 4) (s : Fin 4096) (l : Fin 1024), j = (ix3 k s l : S4x4096x1024.Idx) := ⟨_, _, _, eq_ix3 j⟩
    blk_simp [Pipeline.Window.cell_apply] at hj
    have hk : ¬ k.val = 2 ∧ ¬ k.val = 3 := by omega
    refine (congrFun (A_eq m c 5) _).trans ?_
    rw [show (cfg0.win 5).arr.view.emb (ix3 k s l) = (ix3 k s l : S4x4096x1024.Idx) by blk_ext [e5]]
    refine Eq.trans (b := Ideal.ofBits .bf16 0#16) ?_ (Eq.symm (a := (args m c).out0 k s l) ?_)
    · unfold_abbrev_sides
      after_reads_at
      show Ideal.ofBits .bf16 0#16 = 0
      simp [Ideal.ofBits, Ideal.ieee]
    · unfold Args.out0
      rw [if_neg hk.1, if_neg hk.2]
      simp [Ideal.ofBits, Ideal.ieee]

/-- The second, stored by the last point. -/
theorem arr6 (c : Dev nD) : (dats m 0 c).arrAt 6 cfg0.N
    = (fun i => (args m c).dw (i 0) (i 1) (i 2) : FVec Ideal S4x256x256 .bf16) := by
  refine (dats m 0 c).arrAt_eq_of_after_last 6 ⟨7, by decide⟩ (by decide +kernel) _ fun j => ?_
  blk_simp
  change (dats m 0 c).after 6 ⟨7, by decide⟩ j = _
  rw [after0_6]
  obtain ⟨g, i, l, rfl⟩ : ∃ (g : Fin 4) (i : Fin 256) (l : Fin 256), j = (ix3 g i l : S4x256x256.Idx) := ⟨_, _, _, eq_ix3 j⟩
  exact weights_last m c _ rfl g i l

/-- The third: the accumulator, flushed once at the last point. -/
theorem arr7 (c : Dev nD) : (dats m 0 c).arrAt 7 cfg0.N
    = (fun i => (args m c).out2 (i 0) (i 1) : FVec Ideal S8x1024 .f32) := by
  refine (dats m 0 c).arrAt_eq_of_after_last 7 ⟨7, by decide⟩ (by decide +kernel) _ fun j => ?_
  blk_simp
  change (dats m 0 c).after 7 ⟨7, by decide⟩ j = _
  rw [after0_7]
  obtain ⟨q, l, rfl⟩ : ∃ (q : Fin 8) (l : Fin 1024), j = (ix2 q l : S8x1024.Idx) := ⟨_, _, eq_ix2 j⟩
  exact rows_last m c _ _ rfl q l

end Cert.Pool

end
-- ==== Proof.Shared.Window.lean ====
/- The host's running sums along one axis, forward and backward, read element by element. -/
module

public import Idealize.ShloMosaic.Lib.Pointwise
public import Idealize.ShloMosaic.Lib.Tactic.CleanTypes

@[expose] public section

noncomputable section

namespace Cert.Shared

open Idealize.ShloMosaic

/-- Adding the values of a list's places one after the other is their sum. -/
theorem foldl_add {n : ℕ} (f : Fin n → EReal) (v : EReal) : (List.finRange n).foldl (fun r k => r + f k) v = v + ∑ k, f k := by
  rw [Fin.sum_univ_def]
  generalize List.finRange n = L
  induction L generalizing v with
  | nil => simp
  | cons a L ih => rw [List.foldl_cons, ih, List.map_cons, List.sum_cons, add_assoc]

/-- The one long axis of a window of four axes. -/
def axisEquiv (n : ℕ) : (⟨4, ![1, n, 1, 1]⟩ : Shape).Idx ≃ Fin n where
  toFun i := i 1
  invFun k := ix4 0 k 0 0
  left_inv i := by
    funext b
    match b with
    | ⟨0, _⟩ => exact Subsingleton.elim (α := Fin 1) _ _
    | ⟨1, _⟩ => rfl
    | ⟨2, _⟩ => exact Subsingleton.elim (α := Fin 1) _ _
    | ⟨3, _⟩ => exact Subsingleton.elim (α := Fin 1) _ _
  right_inv _ := rfl

variable {n a e : ℕ} (p : ℕ)

/-- A window as long as the sequence that ends at position `s`, on the second of four axes: the values up to `s`. -/
theorem sum_to (h : (⟨4, ![1, n, a, e]⟩ : Shape).ReduceWindows ![1, n, 1, 1] ![1, 1, 1, 1] ![0, p, 0, 0] ![0, 0, 0, 0] ⟨4, ![1, n, a, e]⟩)
    (hp : p + 1 = n) (x : (⟨4, ![1, n, a, e]⟩ : Shape).Idx → EReal) (f : ℕ → EReal) (s : Fin n) (g : Fin a) (l : Fin e)
    (hf : ∀ k : Fin n, x (ix4 0 k g l) = f k.val) :
    Ideal.hostReduceWindowAdd (s := ⟨4, ![1, n, a, e]⟩) ![1, n, 1, 1] ![1, 1, 1, 1] ![0, p, 0, 0] ![0, 0, 0, 0] h x 0 (ix4 0 s g l)
      = ∑ k ∈ Finset.range (s.val + 1), f k := by
  unfold Ideal.hostReduceWindowAdd Host.reduceWindow
  rw [foldl_add, zero_add, ← Equiv.sum_comp (⟨4, ![1, n, 1, 1]⟩ : Shape).rowMajor]
  simp only [Equiv.symm_apply_apply]
  rw [← Equiv.sum_comp (axisEquiv n).symm]
  have e1 : ∀ k : Fin n, (if hin : ∀ b, (![0, p, 0, 0] : Fin 4 → ℕ) b ≤ ((ix4 0 s g l : (⟨4, ![1, n, a, e]⟩ : Shape).Idx) b).val * (![1, 1, 1, 1] : Fin 4 → ℕ) b + ((axisEquiv n).symm k b).val
        ∧ ((ix4 0 s g l : (⟨4, ![1, n, a, e]⟩ : Shape).Idx) b).val * (![1, 1, 1, 1] : Fin 4 → ℕ) b + ((axisEquiv n).symm k b).val - (![0, p, 0, 0] : Fin 4 → ℕ) b < (⟨4, ![1, n, a, e]⟩ : Shape).size b
      then x (fun b => ⟨((ix4 0 s g l : (⟨4, ![1, n, a, e]⟩ : Shape).Idx) b).val * (![1, 1, 1, 1] : Fin 4 → ℕ) b + ((axisEquiv n).symm k b).val - (![0, p, 0, 0] : Fin 4 → ℕ) b, (hin b).2⟩) else 0)
      = if p ≤ s.val + k.val then f (s.val + k.val - p) else 0 := fun k => by
    by_cases hk : p ≤ s.val + k.val
    · rw [if_pos hk, dif_pos, ← hf ⟨s.val + k.val - p, by omega⟩]
      · refine congrArg x (funext fun b => Fin.ext ?_)
        match b with
        | ⟨0, _⟩ => rfl
        | ⟨1, _⟩ => exact congrArg (fun q => q + k.val - p) (Nat.mul_one _)
        | ⟨2, _⟩ => exact Nat.mul_one _
        | ⟨3, _⟩ => exact Nat.mul_one _
      · intro b
        match b with
        | ⟨0, _⟩ => exact ⟨Nat.le_refl 0, Nat.one_pos⟩
        | ⟨1, _⟩ => exact (show p ≤ s.val * 1 + k.val ∧ s.val * 1 + k.val - p < n by omega)
        | ⟨2, _⟩ => exact (show 0 ≤ g.val * 1 + 0 ∧ g.val * 1 + 0 - 0 < a by omega)
        | ⟨3, _⟩ => exact (show 0 ≤ l.val * 1 + 0 ∧ l.val * 1 + 0 - 0 < e by omega)
    · rw [if_neg hk, dif_neg fun hin => hk (by simpa using (show p ≤ s.val * 1 + k.val from (hin 1).1))]
  refine (Finset.sum_congr rfl fun k _ => e1 k).trans ?_
  rw [Fin.sum_univ_eq_sum_range (fun k => if p ≤ s.val + k then f (s.val + k - p) else 0) n,
    show Finset.range n = Finset.range ((p - s.val) + (s.val + 1)) from congrArg _ (by omega), Finset.sum_range_add, Finset.sum_eq_zero, zero_add]
  · refine Finset.sum_congr rfl fun k _ => ?_
    rw [if_pos (by omega), show s.val + (p - s.val + k) - p = k by omega]
  · exact fun k hk => if_neg (by have := Finset.mem_range.mp hk; omega)

/-- A window as long as the sequence that starts at position `s`: the values from `s` on. -/
theorem sum_from (h : (⟨4, ![1, n, a, e]⟩ : Shape).ReduceWindows ![1, n, 1, 1] ![1, 1, 1, 1] ![0, 0, 0, 0] ![0, p, 0, 0] ⟨4, ![1, n, a, e]⟩)
    (x : (⟨4, ![1, n, a, e]⟩ : Shape).Idx → EReal) (f : ℕ → EReal) (s : Fin n) (g : Fin a) (l : Fin e)
    (hf : ∀ k : Fin n, x (ix4 0 k g l) = f k.val) :
    Ideal.hostReduceWindowAdd (s := ⟨4, ![1, n, a, e]⟩) ![1, n, 1, 1] ![1, 1, 1, 1] ![0, 0, 0, 0] ![0, p, 0, 0] h x 0 (ix4 0 s g l)
      = ∑ k ∈ Finset.range (n - s.val), f (s.val + k) := by
  unfold Ideal.hostReduceWindowAdd Host.reduceWindow
  rw [foldl_add, zero_add, ← Equiv.sum_comp (⟨4, ![1, n, 1, 1]⟩ : Shape).rowMajor]
  simp only [Equiv.symm_apply_apply]
  rw [← Equiv.sum_comp (axisEquiv n).symm]
  have e1 : ∀ k : Fin n, (if hin : ∀ b, (![0, 0, 0, 0] : Fin 4 → ℕ) b ≤ ((ix4 0 s g l : (⟨4, ![1, n, a, e]⟩ : Shape).Idx) b).val * (![1, 1, 1, 1] : Fin 4 → ℕ) b + ((axisEquiv n).symm k b).val
        ∧ ((ix4 0 s g l : (⟨4, ![1, n, a, e]⟩ : Shape).Idx) b).val * (![1, 1, 1, 1] : Fin 4 → ℕ) b + ((axisEquiv n).symm k b).val - (![0, 0, 0, 0] : Fin 4 → ℕ) b < (⟨4, ![1, n, a, e]⟩ : Shape).size b
      then x (fun b => ⟨((ix4 0 s g l : (⟨4, ![1, n, a, e]⟩ : Shape).Idx) b).val * (![1, 1, 1, 1] : Fin 4 → ℕ) b + ((axisEquiv n).symm k b).val - (![0, 0, 0, 0] : Fin 4 → ℕ) b, (hin b).2⟩) else 0)
      = if s.val + k.val < n then f (s.val + k.val) else 0 := fun k => by
    by_cases hk : s.val + k.val < n
    · rw [if_pos hk, dif_pos, ← hf ⟨s.val + k.val, hk⟩]
      · refine congrArg x (funext fun b => Fin.ext ?_)
        match b with
        | ⟨0, _⟩ => rfl
        | ⟨1, _⟩ => exact congrArg (fun q => q + k.val) (Nat.mul_one _)
        | ⟨2, _⟩ => exact Nat.mul_one _
        | ⟨3, _⟩ => exact Nat.mul_one _
      · intro b
        match b with
        | ⟨0, _⟩ => exact ⟨Nat.le_refl 0, Nat.one_pos⟩
        | ⟨1, _⟩ => exact (show 0 ≤ s.val * 1 + k.val ∧ s.val * 1 + k.val - 0 < n by omega)
        | ⟨2, _⟩ => exact (show 0 ≤ g.val * 1 + 0 ∧ g.val * 1 + 0 - 0 < a by omega)
        | ⟨3, _⟩ => exact (show 0 ≤ l.val * 1 + 0 ∧ l.val * 1 + 0 - 0 < e by omega)
    · rw [if_neg hk, dif_neg fun hin => hk (by simpa using (show s.val * 1 + k.val - 0 < n from (hin 1).2))]
  refine (Finset.sum_congr rfl fun k _ => e1 k).trans ?_
  rw [Fin.sum_univ_eq_sum_range (fun k => if s.val + k < n then f (s.val + k) else 0) n]
  rw [show Finset.range n = Finset.range ((n - s.val) + s.val) from congrArg _ (by omega), Finset.sum_range_add, Finset.sum_eq_zero (s := Finset.range s.val), add_zero]
  · exact Finset.sum_congr rfl fun k hk => if_pos (by have := Finset.mem_range.mp hk; omega)
  · exact fun k hk => if_neg (by omega)

/-- `sum_to` for the host's operation, from an initial value that is zero. -/
theorem host_sum_to (h : (⟨4, ![1, n, a, e]⟩ : Shape).ReduceWindows ![1, n, 1, 1] ![1, 1, 1, 1] ![0, p, 0, 0] ![0, 0, 0, 0] ⟨4, ![1, n, a, e]⟩)
    (hp : p + 1 = n) (x : FVec Ideal ⟨4, ![1, n, a, e]⟩ .f32) {u : Shape} (init : FVec Ideal u .f32) (hu : 0 < u.numel)
    (hi : init (Shape.Idx.first hu) = (0 : EReal)) (f : ℕ → EReal) (s : Fin n) (g : Fin a) (l : Fin e)
    (hf : ∀ k : Fin n, x (ix4 0 k g l) = f k.val) :
    Host.reduceWindowAdd (F := Ideal) (s := ⟨4, ![1, n, a, e]⟩) ![1, n, 1, 1] ![1, 1, 1, 1] ![0, p, 0, 0] ![0, 0, 0, 0] x init h hu (ix4 0 s g l)
      = ∑ k ∈ Finset.range (s.val + 1), f k := by
  unfold Host.reduceWindowAdd
  rw [hi]
  exact sum_to p h hp x f s g l hf

/-- `sum_from` for the host's operation, from an initial value that is zero. -/
theorem host_sum_from (h : (⟨4, ![1, n, a, e]⟩ : Shape).ReduceWindows ![1, n, 1, 1] ![1, 1, 1, 1] ![0, 0, 0, 0] ![0, p, 0, 0] ⟨4, ![1, n, a, e]⟩)
    (x : FVec Ideal ⟨4, ![1, n, a, e]⟩ .f32) {u : Shape} (init : FVec Ideal u .f32) (hu : 0 < u.numel)
    (hi : init (Shape.Idx.first hu) = (0 : EReal)) (f : ℕ → EReal) (s : Fin n) (g : Fin a) (l : Fin e)
    (hf : ∀ k : Fin n, x (ix4 0 k g l) = f k.val) :
    Host.reduceWindowAdd (F := Ideal) (s := ⟨4, ![1, n, a, e]⟩) ![1, n, 1, 1] ![1, 1, 1, 1] ![0, 0, 0, 0] ![0, p, 0, 0] x init h hu (ix4 0 s g l)
      = ∑ k ∈ Finset.range (n - s.val), f (s.val + k) := by
  unfold Host.reduceWindowAdd
  rw [hi]
  exact sum_from p h x f s g l hf

end Cert.Shared

end
-- ==== Proof.Pool.Ref.lean ====
/- The reference's three results, read element by element, at real arguments. -/
module

public import proofs.«01_k».proof.Proof.Pool.Reals
public import proofs.«01_k».proof.Proof.Pool.Final
public import proofs.«01_k».proof.Proof.Pool.Window
public import proofs.«01_k».proof.Proof.Gen.Reference2Ideal.Run
public import proofs.«01_k».proof.Proof.Shared.Sums
public import proofs.«01_k».proof.Proof.Shared.Window
public import Idealize.ShloMosaic.Lib.Pointwise
public import Idealize.ShloMosaic.Lib.Tactic.CleanTypes

@[expose] public section

noncomputable section

namespace Cert.Pool

open Cert.Reference2Ideal Cert.Reference2Ideal.Gen Cert.Reference2Ideal.Value Idealize.ShloMosaic Idealize.ShloMosaic.TcCoe
  Idealize.SL.Sem Idealize.ShloMosaic.StableHlo

variable (m : (ℓ : Loc nD τ sig) → Buf (Elt Ideal) ℓ) (ρ : Dev nD → PrngReg)

/-- The reference's six argument arrays. -/
def argsR (c : Dev nD) : Args where
  x := m ((c : Thread nD τ).loc main_arg0)
  gate := m ((c : Thread nD τ).loc main_arg1)
  w := m ((c : Thread nD τ).loc main_arg2)
  b := m ((c : Thread nD τ).loc main_arg3)
  scale := m ((c : Thread nD τ).loc main_arg4)
  dy := m ((c : Thread nD τ).loc main_arg5)

variable (c : Dev nD)

theorem ref_x (s : Fin 4096) (g : Fin 4) (l : Fin 256) : res_main_v0 (launchContents m c) (ix4 0 s g l)
    = (argsR m c).x (ix3 0 s (lane g l)) := by
  unfold res_main_v0 lane
  pointwise
  rfl

theorem ref_sum (s : Fin 4096) (g : Fin 4) (l : Fin 256) : res_main_v1 (launchContents m c) (ix4 0 s g l)
    = ∑ k ∈ Finset.range (s.val + 1), (argsR m c).xf (lane g l) k := by
  unfold res_main_v1
  refine Shared.host_sum_to 4095 _ rfl _ _ _ Ideal.ofBits_zero_f32 _ s g l fun k => ?_
  rw [ref_x]
  unfold Args.xf
  rw [dif_pos k.isLt]

/-- The count of positions, from the words of the position. -/
theorem ref_word (s : Fin 4096) (g : Fin 4) (w : BitVec 32) (hw : w.toNat = win g) :
    (FloatOps.sitofp (F := Ideal) FTy.f32 (IntOp.minsi (IntOp.addi (BitVec.ofNat 32 s.val) 1#32) w) : EReal) = count g s := by
  rw [← count_of_word s g w hw, show IntOp.addi (BitVec.ofNat 32 s.val) 1#32 = BitVec.ofNat 32 (s.val + 1) from ?_]
  apply BitVec.eq_of_toNat_eq
  show (BitVec.ofNat 32 s.val + 1#32 : BitVec 32).toNat = _
  simp only [BitVec.toNat_add, BitVec.toNat_ofNat]
  omega

theorem ref_count0 (s : Fin 4096) : res_main_v14 (launchContents m c) (ix3 0 s 0) = count 0 s := by
  unfold res_main_v14 res_main_v2
  pointwise
  exact ref_word s 0 _ rfl

theorem ref_count1 (s : Fin 4096) : res_main_v29 (launchContents m c) (ix3 0 s 0) = count 1 s := by
  unfold res_main_v29 res_main_v2
  pointwise
  exact ref_word s 1 _ rfl

theorem ref_count2 (s : Fin 4096) : res_main_v44 (launchContents m c) (ix3 0 s 0) = count 2 s := by
  unfold res_main_v44 res_main_v2
  pointwise
  exact ref_word s 2 _ rfl

theorem ref_count3 (s : Fin 4096) : res_main_v59 (launchContents m c) (ix3 0 s 0) = count 3 s := by
  unfold res_main_v59 res_main_v2
  pointwise
  exact ref_word s 3 _ rfl

variable (hA : (argsR m c).Real)
include hA

theorem ref_pooled (s : Fin 4096) (g : Fin 4) (l : Fin 256) : res_main_v68 (launchContents m c) (ix4 0 s g l)
    = (argsR m c).pooled g s l := by
  rw [← Args.pooled_eq hA]
  match g with
  | 0 =>
    unfold res_main_v68 res_main_v4
    pointwise [ref_count0, ref_sum, ref_x]
    rfl
  | 1 =>
    unfold res_main_v68 res_main_v19
    pointwise [ref_count1, ref_sum, ref_x]
    rfl
  | 2 =>
    unfold res_main_v68 res_main_v34
    pointwise [ref_count2, ref_sum, ref_x]
    rfl
  | 3 =>
    unfold res_main_v68 res_main_v49
    pointwise [ref_count3, ref_sum, ref_x]
    rfl

theorem ref_z (s : Fin 4096) (g : Fin 4) (l : Fin 256) : res_main_v74 (launchContents m c) (ix3 0 s (lane g l)) = (argsR m c).z g s l := by
  unfold res_main_v74 lane
  pointwise [ref_pooled m c hA]
  exact congrArg (· + (argsR m c).b (ix2 g l)) (Finset.sum_congr rfl fun i _ => mul_comm _ _)

theorem ref_v80 (s : Fin 4096) (L : Fin 1024) : res_main_v80 (launchContents m c) (ix3 0 s L)
    = (argsR m c).z (grp L) s (off L) * (argsR m c).scale (ix1 (lane (grp L) (off L))) * (argsR m c).dy (ix3 0 s (lane (grp L) (off L))) := by
  rw [← ref_z m c hA, lane_grp]
  unfold res_main_v80 res_main_v77 res_main_v75
  pointwise
  rfl

omit hA
theorem ref_sg (s : Fin 4096) (L : Fin 1024) : res_main_v78_2 (launchContents m c) (ix3 0 s L) = (argsR m c).sg s L := by
  unfold res_main_v78_2
  pointwise
  unfold Args.sg
  rw [sub_eq_add_neg, zero_add]
  rfl

theorem ref_dyp (s : Fin 4096) (L : Fin 1024) : res_main_v81 (launchContents m c) (ix3 0 s L) = (argsR m c).dyp s L := by
  unfold res_main_v81 res_main_v78_0
  pointwise [ref_sg]
  rfl

theorem ref_dz (s : Fin 4096) (g : Fin 4) (l : Fin 256) : res_main_v89 (launchContents m c) (ix4 0 s g l) = (argsR m c).dz s (lane g l) := by
  unfold res_main_v89 res_main_v75
  pointwise
  exact congrArg (· * (argsR m c).scale (ix1 (lane g l))) (ref_dyp m c s (lane g l))

theorem ref_dpooled (s : Fin 4096) (g : Fin 4) (l : Fin 256) : res_main_v95 (launchContents m c) (ix4 0 s g l) = (argsR m c).dpooled g s l := by
  unfold res_main_v95 res_main_v93
  pointwise [ref_dz]
  rfl

include hA in
/-- What the reference adds from the end: each mean's cotangent over its count, less the one the window's length ahead. -/
theorem ref_q (s : Fin 4096) (g : Fin 4) (l : Fin 256) :
    (addf (addf (addf (pad S1x4096x4x256 ![0, 0, 3, 0] ![0, 0, 0, 0] ![0, 0, 0, 0] (broadcastInDim S1x4096x1x256 ![0, 1, 3] bcast_S1x4096x256_S1x4096x1x256_0_1_3 (addf (res_main_v108 (launchContents m c)) (pad S1x4096x256 ![0, 0, 0] ![0, 16, 0] ![0, 0, 0] (extractStridedSlice S1x4080x256 ![0, 16, 0] (res_main_v109 (launchContents m c)) slices_S1x4096x256_S1x4080x256_0_16_0) (constant S_ .f32 0x00000000#32) pads_S1x4080x256_S1x4096x256_000_0160_000 h_S_))) (constant S_ .f32 0x00000000#32) pads_S1x4096x1x256_S1x4096x4x256_000_000_300_000 h_S_) (pad S1x4096x4x256 ![0, 0, 2, 0] ![0, 0, 1, 0] ![0, 0, 0, 0] (broadcastInDim S1x4096x1x256 ![0, 1, 3] bcast_S1x4096x256_S1x4096x1x256_0_1_3 (addf (res_main_v117 (launchContents m c)) (pad S1x4096x256 ![0, 0, 0] ![0, 8, 0] ![0, 0, 0] (extractStridedSlice S1x4088x256 ![0, 8, 0] (res_main_v118 (launchContents m c)) slices_S1x4096x256_S1x4088x256_0_8_0) (constant S_ .f32 0x00000000#32) pads_S1x4088x256_S1x4096x256_000_080_000 h_S_))) (constant S_ .f32 0x00000000#32) pads_S1x4096x1x256_S1x4096x4x256_000_000_210_000 h_S_)) (pad S1x4096x4x256 ![0, 0, 1, 0] ![0, 0, 2, 0] ![0, 0, 0, 0] (broadcastInDim S1x4096x1x256 ![0, 1, 3] bcast_S1x4096x256_S1x4096x1x256_0_1_3 (addf (res_main_v127 (launchContents m c)) (pad S1x4096x256 ![0, 0, 0] ![0, 4, 0] ![0, 0, 0] (extractStridedSlice S1x4092x256 ![0, 4, 0] (res_main_v128 (launchContents m c)) slices_S1x4096x256_S1x4092x256_0_4_0) (constant S_ .f32 0x00000000#32) pads_S1x4092x256_S1x4096x256_000_040_000 h_S_))) (constant S_ .f32 0x00000000#32) pads_S1x4096x1x256_S1x4096x4x256_000_000_120_000 h_S_)) (pad S1x4096x4x256 ![0, 0, 0, 0] ![0, 0, 3, 0] ![0, 0, 0, 0] (broadcastInDim S1x4096x1x256 ![0, 1, 3] bcast_S1x4096x256_S1x4096x1x256_0_1_3 (addf (res_main_v137 (launchContents m c)) (pad S1x4096x256 ![0, 0, 0] ![0, 2, 0] ![0, 0, 0] (extractStridedSlice S1x4094x256 ![0, 2, 0] (res_main_v138 (launchContents m c)) slices_S1x4096x256_S1x4094x256_0_2_0) (constant S_ .f32 0x00000000#32) pads_S1x4094x256_S1x4096x256_000_020_000 h_S_))) (constant S_ .f32 0x00000000#32) pads_S1x4096x1x256_S1x4096x4x256_000_000_030_000 h_S_)) (ix4 0 s g l)
      = (argsR m c).q g l s.val + -(argsR m c).q g l (s.val + win g) := by
  match g with
  | 0 =>
    unfold res_main_v138 res_main_v137
    pointwise [ref_count0, ref_dpooled]
    exact Args.q_eq hA 0 s l 2 4094 rfl rfl
  | 1 =>
    unfold res_main_v128 res_main_v127
    pointwise [ref_count1, ref_dpooled]
    exact Args.q_eq hA 1 s l 4 4092 rfl rfl
  | 2 =>
    unfold res_main_v118 res_main_v117
    pointwise [ref_count2, ref_dpooled]
    exact Args.q_eq hA 2 s l 8 4088 rfl rfl
  | 3 =>
    unfold res_main_v109 res_main_v108
    pointwise [ref_count3, ref_dpooled]
    exact Args.q_eq hA 3 s l 16 4080 rfl rfl

include hA in
/-- The gate's gradient in the reference, by the product rule. -/
theorem ref_dgate (s : Fin 4096) (L : Fin 1024) (V S : EReal) (hV : V = res_main_v80 (launchContents m c) (ix3 0 s L))
    (hS : S = res_main_v78_2 (launchContents m c) (ix3 0 s L)) :
    V * S + (argsR m c).gate (ix3 0 s L) * V * (S * (1 - S)) = (argsR m c).dgate (grp L) s (off L) := by
  rw [← Args.dgate_eq hA, hS, hV, ref_sg, ref_v80 m c hA, lane_grp]

include hA in
/-- One position's part of the scale's gradient in the reference. -/
theorem ref_dscale (s : Fin 4096) (L : Fin 1024) (Z : EReal) (hZ : Z = res_main_v74 (launchContents m c) (ix3 0 s L)) :
    Z * (argsR m c).dyp s L = (argsR m c).dyp s (lane (grp L) (off L)) * (argsR m c).z (grp L) s (off L) := by
  rw [← ref_z m c hA, lane_grp, mul_comm, hZ]

/-- The reference run: its results as functions of the arguments, the arguments kept. -/
theorem run (hA : ∀ c : Dev nD, (argsR m c).Real) : θ_run defs (onTc (τ := τ) (main (F := Ideal))) ⟨m, fun _ => 0, ρ⟩ fun r => ∀ c : Dev nD,
    r.2.mem ((c.tc : Thread nD τ).loc main_v157) = (fun i => (argsR m c).out0 (i 0) (i 1) (i 2) : FVec Ideal S4x4096x1024 .bf16)
      ∧ r.2.mem ((c.tc : Thread nD τ).loc main_v158) = (fun i => (argsR m c).dw (i 0) (i 1) (i 2) : FVec Ideal S4x256x256 .bf16)
      ∧ r.2.mem ((c.tc : Thread nD τ).loc main_v162) = (fun i => (argsR m c).out2 (i 0) (i 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun i => ?_), (h c).2.1.trans (funext fun i => ?_),
    (h c).2.2.1.trans (funext fun i => ?_), (h c).2.2.2⟩) (Value.run m ρ)
  · rw [eq_ix3 i]
    generalize i 0 = q, i 1 = s, i 2 = L
    clear h
    generalize hU : Host.reduceWindowAdd (F := Ideal) _ _ _ _ _ _ _ _ = U
    have eU : U (ix4 0 s (grp L) (off L)) = ∑ k ∈ Finset.range (4096 - s.val), ((argsR m c).q (grp L) (off L) (s.val + k)
        + -(argsR m c).q (grp L) (off L) (s.val + k + win (grp L))) := by
      rw [← hU]
      exact Shared.host_sum_from 4095 _ _ _ _ Ideal.ofBits_zero_f32 (fun n => (argsR m c).q (grp L) (off L) n
        + -(argsR m c).q (grp L) (off L) (n + win (grp L))) s (grp L) (off L) fun k => ref_q m c (hA c) k (grp L) (off L)
    pointwise [res_main_v149, ref_dpooled]
    unfold Args.out0
    clear hU
    clean_types
    have hq : q.val < 4 := q.isLt
    split_ifs <;> first | omega | skip
    · rfl
    · rfl
    · exact (congrArg (-(argsR m c).dpooled (grp L) s (off L) + ·) eU).trans (Args.dx_eq (hA c) (grp L) s (off L))
    · exact ref_dgate m c (hA c) s L _ _ rfl rfl
  · rw [eq_ix3 i]
    generalize i 0 = g, i 1 = k, i 2 = j
    clear h
    pointwise [res_main_v93, ref_dz]
    clean_types
    rw [Fintype.sum_unique]
    exact Finset.sum_congr rfl fun s _ => (mul_comm _ _).trans (congrArg (· * (argsR m c).dz s (lane g j)) (ref_pooled m c (hA c) s g k))
  · rw [eq_ix2 i]
    generalize i 0 = q, i 1 = L
    clear h
    pointwise [Shared.sum_ones, Shared.sum_ones_lead, ref_dz, ref_dyp]
    unfold Args.out2
    clean_types
    split_ifs <;> first | omega | skip
    · rfl
    · exact Finset.sum_congr rfl fun s _ => ref_dscale m c (hA c) s L _ rfl
    · rfl

end Cert.Pool

end
-- ==== Proof.Pool.Value.lean ====
/- The value claim of the pool's backward call: at real arguments both programs leave the same three arrays. -/
module

public import proofs.«01_k».proof.Defs
public import proofs.«01_k».proof.Proof.Pool.Final
public import proofs.«01_k».proof.Proof.Pool.Ref
public import proofs.«01_k».proof.Proof.Shared.Finite

@[expose] public section

noncomputable section

namespace Cert.Pool

open Idealize.ShloMosaic Idealize.ShloMosaic.TcCoe Idealize.SL.Sem

/-- The shape facts the precondition states. -/
instance preFacts : Cert.Pre_finite_pool.Facts where
  bcast_S_S1x4096x1024 := by decide
  bcast_S_S4x256x256 := by decide
  bcast_S_S4x256 := by decide
  bcast_S_S1024 := by decide

/-- The precondition makes the six arrays real. -/
theorem reals (m : (ℓ : Loc Cert.Kernel2Ideal.nD Cert.Kernel2Ideal.τ Cert.Kernel2Ideal.sig) → Buf (Elt Ideal) ℓ)
    (h : Cert.Pre_Kernel2Ideal_finite_pool m) (c : Dev Cert.Kernel2Ideal.nD) : (args m c).Real := by
  obtain ⟨h0, h1, h2, h3, h4, h5⟩ := h c
  exact ⟨fun s L => Shared.real_of_abs_lt (congrFun h0 (ix3 0 s L)), fun s L => Shared.real_of_abs_lt (congrFun h1 (ix3 0 s L)),
    fun g i j => Shared.real_of_abs_lt (congrFun h2 (ix3 g i j)), fun g l => Shared.real_of_abs_lt (congrFun h3 (ix2 g l)),
    fun L => Shared.real_of_abs_lt (congrFun h4 (ix1 L)), fun s L => Shared.real_of_abs_lt (congrFun h5 (ix3 0 s L))⟩

/-- The reference's frame: it changes no argument, and its signature has no semaphore. -/
theorem frameR [Cert.Reference2Ideal.Facts] : Cert.quiescent_Reference2Ideal := fun m ρ _ =>
  (θ_run _ _ _).mono (fun r h => ⟨fun c => (h c).2.2.2, sem_eq_zero_of_no_sems (by decide) r.2⟩)
    (Cert.Reference2Ideal.Value.run m ρ)

/-- The value claim of the pool's backward call. -/
theorem value [hK : Cert.Kernel2Ideal.Facts] [hR : Cert.Reference2Ideal.Facts] [hP : Cert.Pre_finite_pool.Facts] :
    Cert.algebraic_Kernel2Ideal_Reference2Ideal_pre_finite_pool := by
  intro m ρ m' ρ' hpre hargs
  have hab : ∀ c, argsR m' c = args m c := fun c => by
    obtain ⟨a0, a1, a2, a3, a4, a5⟩ := hargs c
    unfold argsR args
    rw [a0, a1, a2, a3, a4, a5]
  refine ⟨fun c => (fun i => (args m c).out0 (i 0) (i 1) (i 2) : FVec Ideal _ .bf16),
    fun c => (fun i => (args m c).dw (i 0) (i 1) (i 2) : FVec Ideal _ .bf16),
    fun c => (fun i => (args m c).out2 (i 0) (i 1) : FVec Ideal _ .f32), ?_, ?_⟩
  · exact (θ_run _ _ _).mono (fun r h c => ⟨(h c).1.trans (arr5 m c), (h c).2.1.trans (arr6 m c), (h c).2.2.1.trans (arr7 m c),
      (h c).2.2.2⟩) (Cert.Kernel2Ideal.Value.run_blocks m ρ)
  · have hA : ∀ c, (argsR m' c).Real := fun c => (hab c).symm ▸ reals m hpre c
    refine (θ_run _ _ _).mono (fun r h c => ?_) (run m' ρ' hA)
    have e := h c
    rw [hab c] at e
    exact e

end Cert.Pool
-- ==== Proof.OutprojB.Spec.lean ====
/- What the output projection's backward call computes, written once over the argument arrays read as extended reals: the
   gradient of the concatenated mixer outputs, the weights' gradient, and the rows of parameter gradients (the gate's and
   the norm weight's). Both programs are proved to leave these functions. -/
module

public import proofs.«01_k».proof.Kernel3Ideal
public import Idealize.ShloMosaic.Lib.Pointwise

@[expose] public section

noncomputable section

namespace Cert.OutprojB

open Cert.Kernel3Ideal Idealize.ShloMosaic

/-- The arrays the gradients depend on: the mixer outputs `yc`, the modulation, the norm's weight `g`, the projection's
weights `w`, and the cotangent `d` of the layer's output. -/
structure Args where
  yc : FVec Ideal S1x4096x2048 .f32
  mod : FVec Ideal S1x3072 .f32
  g : FVec Ideal S1024 .f32
  w : FVec Ideal S2048x1024 .f32
  d : FVec Ideal S1x4096x1024 .f32

/-- The width 1024 of a row, as the programs' literal reads it. -/
abbrev width : EReal := Ideal.ofBits .f32 0x44800000#32

/-- The norm's epsilon, as the programs' literal reads it. -/
abbrev eps : EReal := Ideal.ofBits .f32 0x358637BD#32

/-- Weight row `i` of plane `k`. -/
def wrow (k : Fin 4) (i : Fin 512) : Fin 2048 := ⟨k.val * 512 + i.val, by omega⟩

namespace Args

variable (a : Args)

/-- The projection before its norm. -/
def y (s : Fin 4096) (l : Fin 1024) : EReal := ∑ k : Fin 2048, a.yc (ix3 0 s k) * a.w (ix2 k l)

/-- One over the root mean square of row `s` of the projection. -/
def rs (s : Fin 4096) : EReal := Ideal.rsqrt (Ideal.div (∑ k : Fin 1024, a.y s k * a.y s k) width + eps)

/-- The modulation's gate. -/
def gate (l : Fin 1024) : EReal := a.mod (ix2 0 ⟨2048 + l.val, by omega⟩)

/-- The gradient of the normed row, before the norm's own derivative. -/
def t (s : Fin 4096) (l : Fin 1024) : EReal := a.d (ix3 0 s l) * a.gate l * a.g (ix1 l)

/-- The gradient of the projection, the norm's derivative in closed form. -/
def dy (s : Fin 4096) (l : Fin 1024) : EReal :=
  a.rs s * (a.t s l - a.y s l * a.rs s * Ideal.div (∑ k : Fin 1024, a.t s k * (a.y s k * a.rs s)) width)

/-- The gradient of the mixer outputs. -/
def dycat (s : Fin 4096) (j : Fin 2048) : EReal := ∑ l : Fin 1024, a.dy s l * a.w (ix2 j l)

/-- The gradient of the weights. -/
def dw (k : Fin 4) (i : Fin 512) (l : Fin 1024) : EReal := ∑ s : Fin 4096, a.yc (ix3 0 s (wrow k i)) * a.dy s l

/-- One row's share of parameter gradient `q` at lane `l`: 0 the gate's, 1 the norm weight's. -/
def share (q : Fin 8) (s : Fin 4096) (l : Fin 1024) : EReal :=
  if q.val = 0 then a.d (ix3 0 s l) * (a.y s l * a.rs s * a.g (ix1 l))
  else if q.val = 1 then a.d (ix3 0 s l) * a.gate l * (a.y s l * a.rs s)
  else 0

/-- The parameter gradients: each row's shares summed over the sequence. -/
def dvec (q : Fin 8) (l : Fin 1024) : EReal := ∑ s : Fin 4096, a.share q s l

end Args

end Cert.OutprojB

end
-- ==== Proof.OutprojB.Blocks.lean ====
/- What each grid point of the output projection's backward call reads of the argument arrays, and the gradient of the
   projection it computes from that. -/
module

public import proofs.«01_k».proof.Proof.Gen.Kernel3Ideal.Value
public import proofs.«01_k».proof.Proof.OutprojB.Spec
public import Idealize.ShloMosaic.Lib.Pointwise
public import Idealize.ShloMosaic.Lib.StableHlo.ReadAt
public import Idealize.ShloMosaic.Lib.Pipeline.ValueKit

@[expose] public section

noncomputable section

namespace Cert.OutprojB

open Cert.Kernel3Ideal Cert.Kernel3Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0, 0] := (by decide +kernel : ∀ t : Fin grid0.N, _)
theorem e4 : ∀ t : Fin cfg0.N, win0_4.index t = ![0, 0] := (by decide +kernel : ∀ t : Fin grid0.N, _)
theorem e5 : ∀ t : Fin cfg0.N, win0_5.index t = ![t.val, 0] := (by decide +kernel : ∀ t : Fin grid0.N, _)

/-- The arrays the kernel program is given. -/
def args (c : Dev nD) : Args where
  yc := m ((c : Thread nD τ).loc main_arg1)
  mod := m ((c : Thread nD τ).loc main_arg2)
  g := m ((c : Thread nD τ).loc main_arg3)
  w := m ((c : Thread nD τ).loc main_arg4)
  d := m ((c : Thread nD τ).loc main_arg5)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (r : Fin 512) (l : Fin 1024) :
    iblk m c 0 t (ix2 r l) = (args m c).d (ix3 0 (row t r) l) := by
  blk_simp [iblk, e0]
  rw [show (win0_0.blk t).view.emb (ix2 r l) = ix2 (row t r) l by blk_ext [e0, row]]
  unfold_abbrev_sides
  after_reads_at

theorem iblk1_apply (c : Dev nD) (t : Fin cfg0.N) (r : Fin 512) (l : Fin 1024) :
    iblk m c 1 t (ix2 r l) = (args m c).y (row t r) l := by
  blk_simp [iblk, e1]
  rw [show (win0_1.blk t).view.emb (ix2 r l) = ix2 (row t r) l by blk_ext [e1, row]]
  unfold_abbrev_sides
  after_reads_at
  pointwise
  rfl

theorem iblk2_apply (c : Dev nD) (t : Fin cfg0.N) (r : Fin 512) (j : Fin 2048) :
    iblk m c 2 t (ix2 r j) = (args m c).yc (ix3 0 (row t r) j) := by
  blk_simp [iblk, e2]
  rw [show (win0_2.blk t).view.emb (ix2 r j) = ix2 (row t r) j by blk_ext [e2, row]]
  unfold_abbrev_sides
  after_reads_at

theorem iblk3_apply (c : Dev nD) (t : Fin cfg0.N) (k : Fin 4) (i : Fin 512) (l : Fin 1024) :
    iblk m c 3 t (ix3 k i l) = (args m c).w (ix2 (wrow k i) l) := by
  blk_simp [iblk, e3]
  rw [show (win0_3.blk t).view.emb (ix3 k i l) = ix3 k i l by blk_ext [e3]]
  unfold_abbrev_sides
  after_reads_at
  rfl

theorem iblk4_gate (c : Dev nD) (t : Fin cfg0.N) (l : Fin 1024) :
    iblk m c 4 t (ix2 2 l) = (args m c).gate l := by
  blk_simp [iblk, e4]
  rw [show (win0_4.blk t).view.emb (ix2 2 l) = ix2 2 l by blk_ext [e4]]
  unfold_abbrev_sides
  after_reads_at
  refine (congrFun (reshape_result' ..) _).trans ?_
  after_reads_at
  rfl

theorem iblk4_weight (c : Dev nD) (t : Fin cfg0.N) (l : Fin 1024) :
    iblk m c 4 t (ix2 4 l) = (args m c).g (ix1 l) := by
  blk_simp [iblk, e4]
  rw [show (win0_4.blk t).view.emb (ix2 4 l) = ix2 4 l by blk_ext [e4]]
  unfold_abbrev_sides
  after_reads_at
  refine (congrFun (reshape_result' ..) _).trans ?_
  after_reads_at

/-- The rows of the parameter block the point reads. -/
abbrev gateRow (c : Dev nD) (t : Fin cfg0.N) : Vec Ideal S1x1024 .f32 :=
  View.ld (iblk m c 4 t) (Rect.unit ![2, 0] ![1, 1024] inb_S8x1024_S1x1024_2_0)
@[inherit_doc gateRow] abbrev weightRow (c : Dev nD) (t : Fin cfg0.N) : Vec Ideal S1x1024 .f32 :=
  View.ld (iblk m c 4 t) (Rect.unit ![4, 0] ![1, 1024] inb_S8x1024_S1x1024_4_0)

/-- The gradient of the projection that point `t` computes for its rows. -/
def dyB (c : Dev nD) (t : Fin cfg0.N) : FVec Ideal S512x1024 .bf16 :=
  k0_pay15 (k0_pay6 (iblk m c 1 t)) (k0_pay7 (iblk m c 1 t)) (k0_pay8 (weightRow m c t)) (k0_pay10 (gateRow m c t) (iblk m c 0 t))

theorem dyB_apply (c : Dev nD) (t : Fin cfg0.N) (r : Fin 512) (l : Fin 1024) :
    dyB m c t (ix2 r l) = (args m c).dy (row t r) l := by
  unfold dyB
  pointwise [k0_pay15, k0_pay5, k0_pay6, k0_pay7, k0_pay8, k0_pay9, k0_pay10, gateRow, weightRow]
  simp only [iblk0_apply, iblk1_apply, iblk4_gate, iblk4_weight]
  rfl

end Cert.OutprojB

end
-- ==== Proof.OutprojB.Stores.lean ====
/- What one grid point of the output projection's backward call leaves in its buffers: the four column blocks of the
   gradient of the mixer outputs, and the four planes of the weights' accumulator. -/
module

public import proofs.«01_k».proof.Proof.OutprojB.Blocks
public import Idealize.ShloMosaic.Lib.Pipeline.ReadBack

@[expose] public section

noncomputable section

namespace Cert.OutprojB

open Cert.Kernel3Ideal Cert.Kernel3Ideal.Gen Idealize.ShloMosaic Idealize.ShloMosaic.TcCoe Idealize.SL.Sem Idealize.ShloMosaic.StableHlo

variable (m : (ℓ : Loc nD τ sig) → Buf (Elt Ideal) ℓ)

/-- The four column blocks of the gradient of the mixer outputs. -/
abbrev oPieces (c : Dev nD) (t : Fin cfg0.N) : List (View.Piece (Elt Ideal) S512x2048 .f32) :=
  [⟨Rect.unit ![0, 1536] ![512, 512] inb_S512x2048_S512x512_0_1536, k0_pay22 (dyB m c t)
      (View.ld (iblk m c 3 t) (Rect.unit ![3, 0, 0] ![1, 512, 1024] inb_S4x512x1024_S1x512x1024_3_0_0))⟩,
    ⟨Rect.unit ![0, 1024] ![512, 512] inb_S512x2048_S512x512_0_1024, k0_pay20 (dyB m c t)
      (View.ld (iblk m c 3 t) (Rect.unit ![2, 0, 0] ![1, 512, 1024] inb_S4x512x1024_S1x512x1024_2_0_0))⟩,
    ⟨Rect.unit ![0, 512] ![512, 512] inb_S512x2048_S512x512_0_512,
      k0_pay18 (k0_pay6 (iblk m c 1 t)) (k0_pay7 (iblk m c 1 t)) (k0_pay8 (weightRow m c t)) (k0_pay10 (gateRow m c t) (iblk m c 0 t))
      (View.ld (iblk m c 3 t) (Rect.unit ![1, 0, 0] ![1, 512, 1024] inb_S4x512x1024_S1x512x1024_1_0_0))⟩,
    ⟨Rect.unit ![0, 0] ![512, 512] inb_S512x2048_S512x512_0_0,
      k0_pay16 (k0_pay6 (iblk m c 1 t)) (k0_pay7 (iblk m c 1 t)) (k0_pay8 (weightRow m c t)) (k0_pay10 (gateRow m c t) (iblk m c 0 t))
      (View.ld (iblk m c 3 t) (Rect.unit ![0, 0, 0] ![1, 512, 1024] inb_S4x512x1024_S1x512x1024_0_0_0))⟩]

/-- The four planes of the weights' gradients, added to what the accumulator held. -/
abbrev aPieces (c : Dev nD) (t : Fin cfg0.N) (p : Vec Ideal S4x512x1024 .f32) : List (View.Piece (Elt Ideal) S4x512x1024 .f32) :=
  [⟨Rect.unit ![3, 0, 0] ![1, 512, 1024] inb_S4x512x1024_S1x512x1024_3_0_0, k0_pay1 (dyB m c t)
      (View.ld p (Rect.unit ![3, 0, 0] ![1, 512, 1024] inb_S4x512x1024_S1x512x1024_3_0_0))
      (View.ld (iblk m c 2 t) (Rect.unit ![0, 1536] ![512, 512] inb_S512x2048_S512x512_0_1536))⟩,
    ⟨Rect.unit ![2, 0, 0] ![1, 512, 1024] inb_S4x512x1024_S1x512x1024_2_0_0, k0_pay21 (dyB m c t)
      (View.ld p (Rect.unit ![2, 0, 0] ![1, 512, 1024] inb_S4x512x1024_S1x512x1024_2_0_0))
      (View.ld (iblk m c 2 t) (Rect.unit ![0, 1024] ![512, 512] inb_S512x2048_S512x512_0_1024))⟩,
    ⟨Rect.unit ![1, 0, 0] ![1, 512, 1024] inb_S4x512x1024_S1x512x1024_1_0_0, k0_pay19 (dyB m c t)
      (View.ld p (Rect.unit ![1, 0, 0] ![1, 512, 1024] inb_S4x512x1024_S1x512x1024_1_0_0))
      (View.ld (iblk m c 2 t) (Rect.unit ![0, 512] ![512, 512] inb_S512x2048_S512x512_0_512))⟩,
    ⟨Rect.unit ![0, 0, 0] ![1, 512, 1024] inb_S4x512x1024_S1x512x1024_0_0_0,
      k0_pay17 (k0_pay6 (iblk m c 1 t)) (k0_pay7 (iblk m c 1 t)) (k0_pay8 (weightRow m c t)) (k0_pay10 (gateRow m c t) (iblk m c 0 t))
      (View.ld p (Rect.unit ![0, 0, 0] ![1, 512, 1024] inb_S4x512x1024_S1x512x1024_0_0_0))
      (View.ld (iblk m c 2 t) (Rect.unit ![0, 0] ![512, 512] inb_S512x2048_S512x512_0_0))⟩]

/-- What the point before left. -/
abbrev prev (c : Dev nD) (t : Fin cfg0.N) := outsAt0 m c (t.val - 1) (Nat.lt_of_le_of_lt (Nat.sub_le _ _) t.isLt)

theorem out_eq (c : Dev nD) (t : Fin cfg0.N) : (outsAt0 m c t.val t.isLt).1 = View.canon (oPieces m c t) := by
  have := lt8 t
  by_cases h0 : t.val % 8 = 0
  · rw [outsAt0_A m c t h0 (by omega)]
    frame_out <;> rfl
  · by_cases h1 : t.val % 8 = 7
    · rw [outsAt0_C m c t h0 h1]
      frame_out <;> rfl
    · rw [outsAt0_B m c t h0 h1]
      frame_out <;> rfl

theorem acc_A (c : Dev nD) (t : Fin cfg0.N) (h0 : t.val % 8 = 0) (h1 : ¬ t.val % 8 = 7) :
    (outsAt0 m c t.val t.isLt).2.2.2 = View.canon (aPieces m c t (k0_pay3 (F := Ideal))
      ++ [⟨Rect.unit ![0, 0, 0] ![4, 512, 1024] inb_S4x512x1024_S4x512x1024_0_0_0, k0_pay3 (F := Ideal)⟩]) := by
  rw [outsAt0_A m c t h0 h1]
  frame_open
  simp (disch := decide) only [↓ View.readCov_skip, ↓ View.readCov_fill]
  frame_out <;> rfl

theorem acc_B (c : Dev nD) (t : Fin cfg0.N) (h0 : ¬ t.val % 8 = 0) (h1 : ¬ t.val % 8 = 7) :
    (outsAt0 m c t.val t.isLt).2.2.2 = View.canon (aPieces m c t (prev m c t).2.2.2) := by
  rw [outsAt0_B m c t h0 h1]
  frame_out
  simp only [read_unread_whole]
  rfl

theorem acc_C (c : Dev nD) (t : Fin cfg0.N) (h0 : ¬ t.val % 8 = 0) (h1 : t.val % 8 = 7) :
    (outsAt0 m c t.val t.isLt).2.2.2 = View.canon (aPieces m c t (prev m c t).2.2.2) := by
  rw [outsAt0_C m c t h0 h1]
  frame_out
  simp only [read_unread_whole]
  rfl

theorem weights_C (c : Dev nD) (t : Fin cfg0.N) (h0 : ¬ t.val % 8 = 0) (h1 : t.val % 8 = 7) :
    (outsAt0 m c t.val t.isLt).2.1 = k0_pay2 ((View.whole cc0_scratch0).readCov (aPieces m c t (prev m c t).2.2.2)
      (Rect.unit (s := S4x512x1024) ![0, 0, 0] ![4, 512, 1024] inb_S4x512x1024_S4x512x1024_0_0_0).toLoadRect) := by
  rw [outsAt0_C m c t h0 h1]
  frame_out
  simp only [read_unread_whole]
  rfl

end Cert.OutprojB

end
-- ==== Proof.Shared.Pieces.lean ====
/- Buffers filled block by block: what a list of stores leaves when the newest of them are the four planes of a stack of
   matrices, or four blocks of columns of a matrix. -/
module

public import Idealize.ShloMosaic.Lib.Pointwise
public import Idealize.ShloMosaic.Lib.Pipeline.ValueKit

@[expose] public section

noncomputable section

namespace Cert.Shared

open Idealize.ShloMosaic

/-- Where the newest stores of a list are blocks of one function, the list leaves that function, whatever came before. -/
theorem canon_blocks {S : Shape} (G : S.Idx → EReal) (L L' : List (View.Piece (Elt Ideal) S .f32))
    (hG : ∀ p ∈ L, ∀ x : p.1.shape.Idx, p.2 x = G (p.1.emb x)) (y : S.Idx) (hy : ∃ p ∈ L, y ∈ p.1.set) :
    View.canon (L ++ L') y = G y := by
  induction L with
  | nil => obtain ⟨_, h, _⟩ := hy; simp at h
  | cons p L ih =>
    by_cases h : y ∈ p.1.set
    · obtain ⟨x, rfl⟩ := p.1.exists_idx_of_mem h
      rw [List.cons_append, show p.1.idx x = p.1.emb x from rfl, View.canon_cons_emb]
      exact hG p (by simp) x
    · rw [List.cons_append, View.canon_cons_of_not_mem _ _ h]
      refine ih (fun p' hp' => hG p' (List.mem_cons_of_mem _ hp')) ?_
      obtain ⟨p', hp', h'⟩ := hy
      rcases List.mem_cons.mp hp' with rfl | hp'
      · exact absurd h' h
      · exact ⟨p', hp', h'⟩

/-- An element of plane `k` of a stack, as an element of the stack. -/
theorem plane_emb {C A B : ℕ} (k : Fin C)
    (inb : ∀ i, (![k.val, 0, 0] : Fin 3 → ℕ) i + (![1, A, B] : Fin 3 → ℕ) i ≤ (⟨3, ![C, A, B]⟩ : Shape).size i)
    (z : Fin 1) (r : Fin A) (l : Fin B) :
    (Rect.unit (s := ⟨3, ![C, A, B]⟩) ![k.val, 0, 0] ![1, A, B] inb).emb (ix3 z r l) = ix3 k r l := by
  funext i
  refine Fin.ext ?_
  rw [Rect.emb_apply]
  match i with
  | 0 => show k.val + 1 * z.val = k.val; omega
  | 1 => show 0 + 1 * r.val = r.val; omega
  | 2 => show 0 + 1 * l.val = l.val; omega

/-- An element of a block of columns, as an element of the matrix. -/
theorem columns_emb {A B W : ℕ} (o : ℕ)
    (inb : ∀ i, (![0, o] : Fin 2 → ℕ) i + (![A, W] : Fin 2 → ℕ) i ≤ (⟨2, ![A, B]⟩ : Shape).size i)
    (r : Fin A) (l : Fin W) (h : o + l.val < B) :
    (Rect.unit (s := ⟨2, ![A, B]⟩) ![0, o] ![A, W] inb).emb (ix2 r l) = ix2 r ⟨o + l.val, h⟩ := by
  funext i
  refine Fin.ext ?_
  rw [Rect.emb_apply]
  match i with
  | 0 => show 0 + 1 * r.val = r.val; omega
  | 1 => show o + 1 * l.val = o + l.val; omega

/-- Four stores of whole planes, over anything, leave the planes. -/
theorem canon_planes {A B : ℕ} (h3 h2 h1 h0) (p3 p2 p1 p0 : (⟨3, ![1, A, B]⟩ : Shape).Idx → EReal)
    (L : List (View.Piece (Elt Ideal) (⟨3, ![4, A, B]⟩ : Shape) .f32)) (G : Fin 4 → Fin A → Fin B → EReal)
    (e3 : ∀ r l, p3 (ix3 0 r l) = G 3 r l) (e2 : ∀ r l, p2 (ix3 0 r l) = G 2 r l)
    (e1 : ∀ r l, p1 (ix3 0 r l) = G 1 r l) (e0 : ∀ r l, p0 (ix3 0 r l) = G 0 r l) (k : Fin 4) (r : Fin A) (l : Fin B) :
    View.canon ([⟨Rect.unit (s := ⟨3, ![4, A, B]⟩) ![3, 0, 0] ![1, A, B] h3, p3⟩,
        ⟨Rect.unit (s := ⟨3, ![4, A, B]⟩) ![2, 0, 0] ![1, A, B] h2, p2⟩,
        ⟨Rect.unit (s := ⟨3, ![4, A, B]⟩) ![1, 0, 0] ![1, A, B] h1, p1⟩,
        ⟨Rect.unit (s := ⟨3, ![4, A, B]⟩) ![0, 0, 0] ![1, A, B] h0, p0⟩] ++ L) (ix3 k r l) = G k r l := by
  refine canon_blocks (fun y => G (y 0) (y 1) (y 2)) _ L ?_ _ ?_
  · simp only [List.forall_mem_cons]
    refine ⟨fun x => ?_, fun x => ?_, fun x => ?_, fun x => ?_, by simp⟩ <;>
    obtain ⟨z, i, j, rfl⟩ : ∃ (z : Fin 1) (i : Fin A) (j : Fin B), x = (ix3 z i j : (⟨3, ![1, A, B]⟩ : Shape).Idx) := ⟨_, _, _, eq_ix3 x⟩ <;>
    obtain rfl : z = 0 := Subsingleton.elim _ _
    · exact (e3 i j).trans (congrArg (fun y : (⟨3, ![4, A, B]⟩ : Shape).Idx => G (y 0) (y 1) (y 2)) (plane_emb (C := 4) 3 h3 0 i j).symm)
    · exact (e2 i j).trans (congrArg (fun y : (⟨3, ![4, A, B]⟩ : Shape).Idx => G (y 0) (y 1) (y 2)) (plane_emb (C := 4) 2 h2 0 i j).symm)
    · exact (e1 i j).trans (congrArg (fun y : (⟨3, ![4, A, B]⟩ : Shape).Idx => G (y 0) (y 1) (y 2)) (plane_emb (C := 4) 1 h1 0 i j).symm)
    · exact (e0 i j).trans (congrArg (fun y : (⟨3, ![4, A, B]⟩ : Shape).Idx => G (y 0) (y 1) (y 2)) (plane_emb (C := 4) 0 h0 0 i j).symm)
  · simp only [List.exists_mem_cons_iff, Rect.mem_set_unit]
    have key : ∀ a : Fin 3, (![k.val, 0, 0] : Fin 3 → ℕ) a ≤ ((ix3 k r l : (⟨3, ![4, A, B]⟩ : Shape).Idx) a).val
        ∧ ((ix3 k r l : (⟨3, ![4, A, B]⟩ : Shape).Idx) a).val < (![k.val, 0, 0] : Fin 3 → ℕ) a + (![1, A, B] : Fin 3 → ℕ) a := fun a => by
      have hr := r.isLt
      have hl := l.isLt
      match a with
      | 0 => exact ⟨le_refl _, Nat.lt_succ_self _⟩
      | 1 => exact ⟨Nat.zero_le _, by show r.val < 0 + A; omega⟩
      | 2 => exact ⟨Nat.zero_le _, by show l.val < 0 + B; omega⟩
    match k, key with
    | 3, key => exact .inl key
    | 2, key => exact .inr (.inl key)
    | 1, key => exact .inr (.inr (.inl key))
    | 0, key => exact .inr (.inr (.inr (.inl key)))

/-- Four stores of blocks of `W` columns leave the matrix. -/
theorem canon_columns {A B W : ℕ} (o1 o2 o3 : ℕ) (w1 : o1 = W) (w2 : o2 = 2 * W) (w3 : o3 = 3 * W) (hB : B = 4 * W) (h3 h2 h1 h0)
    (p3 p2 p1 p0 : (⟨2, ![A, W]⟩ : Shape).Idx → EReal)
    (L : List (View.Piece (Elt Ideal) (⟨2, ![A, B]⟩ : Shape) .f32)) (G : Fin A → Fin B → EReal)
    (e3 : ∀ r (l : Fin W) h, p3 (ix2 r l) = G r ⟨o3 + l.val, h⟩) (e2 : ∀ r (l : Fin W) h, p2 (ix2 r l) = G r ⟨o2 + l.val, h⟩)
    (e1 : ∀ r (l : Fin W) h, p1 (ix2 r l) = G r ⟨o1 + l.val, h⟩) (e0 : ∀ r (l : Fin W) h, p0 (ix2 r l) = G r ⟨0 + l.val, h⟩)
    (r : Fin A) (l : Fin B) :
    View.canon ([⟨Rect.unit (s := ⟨2, ![A, B]⟩) ![0, o3] ![A, W] h3, p3⟩,
        ⟨Rect.unit (s := ⟨2, ![A, B]⟩) ![0, o2] ![A, W] h2, p2⟩,
        ⟨Rect.unit (s := ⟨2, ![A, B]⟩) ![0, o1] ![A, W] h1, p1⟩,
        ⟨Rect.unit (s := ⟨2, ![A, B]⟩) ![0, 0] ![A, W] h0, p0⟩] ++ L) (ix2 r l) = G r l := by
  refine canon_blocks (fun y => G (y 0) (y 1)) _ L ?_ _ ?_
  · simp only [List.forall_mem_cons]
    refine ⟨fun x => ?_, fun x => ?_, fun x => ?_, fun x => ?_, by simp⟩ <;>
    obtain ⟨i, j, rfl⟩ : ∃ (i : Fin A) (j : Fin W), x = (ix2 i j : (⟨2, ![A, W]⟩ : Shape).Idx) := ⟨_, _, eq_ix2 x⟩
    · have h : o3 + j.val < B := by have := j.isLt; omega
      exact (e3 i j h).trans (congrArg (fun y : (⟨2, ![A, B]⟩ : Shape).Idx => G (y 0) (y 1)) (columns_emb o3 h3 i j h).symm)
    · have h : o2 + j.val < B := by have := j.isLt; omega
      exact (e2 i j h).trans (congrArg (fun y : (⟨2, ![A, B]⟩ : Shape).Idx => G (y 0) (y 1)) (columns_emb o2 h2 i j h).symm)
    · have h : o1 + j.val < B := by have := j.isLt; omega
      exact (e1 i j h).trans (congrArg (fun y : (⟨2, ![A, B]⟩ : Shape).Idx => G (y 0) (y 1)) (columns_emb o1 h1 i j h).symm)
    · have h : 0 + j.val < B := by have := j.isLt; omega
      exact (e0 i j h).trans (congrArg (fun y : (⟨2, ![A, B]⟩ : Shape).Idx => G (y 0) (y 1)) (columns_emb 0 h0 i j h).symm)
  · simp only [List.exists_mem_cons_iff, Rect.mem_set_unit]
    have key : ∀ o, o ≤ l.val → l.val < o + W → ∀ a : Fin 2, (![0, o] : Fin 2 → ℕ) a ≤ ((ix2 r l : (⟨2, ![A, B]⟩ : Shape).Idx) a).val
        ∧ ((ix2 r l : (⟨2, ![A, B]⟩ : Shape).Idx) a).val < (![0, o] : Fin 2 → ℕ) a + (![A, W] : Fin 2 → ℕ) a := fun o ho hw a => by
      have hr := r.isLt
      match a with
      | 0 => exact ⟨Nat.zero_le _, by show r.val < 0 + A; omega⟩
      | 1 => exact ⟨ho, hw⟩
    have hl := l.isLt
    by_cases c3 : 3 * W ≤ l.val
    · exact .inl (key o3 (by omega) (by omega))
    by_cases c2 : 2 * W ≤ l.val
    · exact .inr (.inl (key o2 (by omega) (by omega)))
    by_cases c1 : W ≤ l.val
    · exact .inr (.inr (.inl (key o1 (by omega) (by omega))))
    · exact .inr (.inr (.inr (.inl (key 0 (by omega) (by omega)))))

end Cert.Shared

end
-- ==== Proof.OutprojB.Accum.lean ====
/- The output projection's backward call, point by point: the gradient of the mixer outputs is stored at its own point; the
   weights' and parameters' gradients add up from point to point. -/
module

public import proofs.«01_k».proof.Proof.OutprojB.Stores
public import proofs.«01_k».proof.Proof.Shared.Pieces
public import Idealize.ShloMosaic.Lib.WritesUnit

@[expose] public section

noncomputable section

namespace Cert.OutprojB

open Cert.Kernel3Ideal Cert.Kernel3Ideal.Gen Idealize.ShloMosaic Idealize.ShloMosaic.TcCoe Idealize.SL.Sem Idealize.ShloMosaic.StableHlo

variable (m : (ℓ : Loc nD τ sig) → Buf (Elt Ideal) ℓ)

/-- The gradient of the mixer outputs, at a point's own rows. -/
theorem out_apply (c : Dev nD) (t : Fin cfg0.N) (r : Fin 512) (j : Fin 2048) :
    (outsAt0 m c t.val t.isLt).1 (ix2 r j) = (args m c).dycat (row t r) j := by
  rw [out_eq]
  refine Shared.canon_columns (A := 512) (B := 2048) (W := 512) 512 1024 1536 rfl rfl rfl rfl _ _ _ _ _ _ _ _ []
    (fun r j => (args m c).dycat (row t r) j) (fun r l h => ?_) (fun r l h => ?_) (fun r l h => ?_) (fun r l h => ?_) r j
  · show _ = (args m c).dycat (row t r) (wrow 3 l)
    unfold Args.dycat
    pointwise [k0_pay22]
    simp only [dyB_apply, iblk3_apply]
  · show _ = (args m c).dycat (row t r) (wrow 2 l)
    unfold Args.dycat
    pointwise [k0_pay20]
    simp only [dyB_apply, iblk3_apply]
  · show _ = (args m c).dycat (row t r) (wrow 1 l)
    unfold Args.dycat k0_pay18
    rw [← dyB]
    pointwise
    simp only [dyB_apply, iblk3_apply]
  · show _ = (args m c).dycat (row t r) (wrow 0 l)
    unfold Args.dycat k0_pay16
    rw [← dyB]
    pointwise
    simp only [dyB_apply, iblk3_apply]

/-- One block's share of the weights' gradient. -/
def wpart (c : Dev nD) (k : Fin 4) (i : Fin 512) (l : Fin 1024) (t : Fin cfg0.N) : EReal :=
  ∑ r : Fin 512, (args m c).yc (ix3 0 (row t r) (wrow k i)) * (args m c).dy (row t r) l

/-- The four planes a point stores are the old ones with the block's shares added. -/
theorem planes (c : Dev nD) (t : Fin cfg0.N) (p : Vec Ideal S4x512x1024 .f32) (L) (k : Fin 4) (i : Fin 512) (l : Fin 1024) :
    View.canon (aPieces m c t p ++ L) (ix3 k i l) = p (ix3 k i l) + wpart m c k i l t := by
  refine Shared.canon_planes (A := 512) (B := 1024) _ _ _ _ _ _ _ _ L (fun k i l => p (ix3 k i l) + wpart m c k i l t)
    (fun i l => ?_) (fun i l => ?_) (fun i l => ?_) (fun i l => ?_) k i l
  · unfold wpart
    pointwise [k0_pay1]
    simp only [dyB_apply, iblk2_apply]
    rfl
  · unfold wpart
    pointwise [k0_pay21]
    simp only [dyB_apply, iblk2_apply]
    rfl
  · unfold wpart
    pointwise [k0_pay19]
    simp only [dyB_apply, iblk2_apply]
    rfl
  · unfold wpart k0_pay17
    rw [← dyB, show wrow 0 i = ⟨i.val, by omega⟩ from Fin.ext (by show 0 * 512 + i.val = i.val; omega)]
    pointwise
    simp only [dyB_apply, iblk2_apply]

/-- After point `n` the accumulator holds the shares of the blocks so far. -/
theorem acc_upto (c : Dev nD) (k : Fin 4) (i : Fin 512) (l : Fin 1024) : ∀ (n : ℕ) (hn : n < cfg0.N),
    (outsAt0 m c n hn).2.2.2 (ix3 k i l) = ∑ u : Fin (n + 1), wpart m c k i l ⟨u.val, by omega⟩
  | 0, hn => by
    refine (congrFun (acc_A m c ⟨0, hn⟩ rfl (show ¬ 0 % 8 = 7 by decide)) _).trans ((planes m c ⟨0, hn⟩ _ _ k i l).trans ?_)
    rw [Fin.sum_univ_one]
    pointwise [k0_pay3]
  | n + 1, hn => by
    have h8 : n + 1 < 8 := lt8 ⟨n + 1, hn⟩
    rw [Fin.sum_univ_castSucc]
    refine Eq.trans ?_ (congrArg (· + _) (acc_upto c k i l n (Nat.lt_of_succ_lt hn)))
    by_cases h1 : (n + 1) % 8 = 7
    · exact (congrFun (acc_C m c ⟨n + 1, hn⟩ (by show ¬ (n + 1) % 8 = 0; omega) h1) _).trans (planes m c ⟨n + 1, hn⟩ _ [] k i l)
    · exact (congrFun (acc_B m c ⟨n + 1, hn⟩ (by show ¬ (n + 1) % 8 = 0; omega) h1) _).trans (planes m c ⟨n + 1, hn⟩ _ [] k i l)

/-- The last point stores the whole gradient of the weights. -/
theorem weights_last (c : Dev nD) (t : Fin cfg0.N) (h : t.val = 7) (k : Fin 4) (i : Fin 512) (l : Fin 1024) :
    (outsAt0 m c t.val t.isLt).2.1 (ix3 k i l) = (args m c).dw k i l := by
  have h0 : ¬ t.val % 8 = 0 := by omega
  have h1 : t.val % 8 = 7 := by omega
  have e := acc_upto m c k i l t.val t.isLt
  rw [weights_C m c t h0 h1, View.readCov_eq_canon', ← acc_C m c t h0 h1]
  refine Eq.trans (b := (outsAt0 m c t.val t.isLt).2.2.2 (ix3 k i l)) (by pointwise [k0_pay2]) (e.trans ?_)
  obtain ⟨n, hn⟩ := t
  obtain rfl : n = 7 := h
  unfold Args.dw
  rw [Fin.sum_univ_tiles 8 512 rfl]
  rfl

/-- Two one-row stores over earlier contents, read at row `q`. -/
theorem read_two {sig : RefSig} {κ : Kind} {sp : Space} (v : View sig κ sp S8x1024 .f32) (f : v.ty.Contents (Elt Ideal))
    (p0 p1 : S1x1024.Idx → EReal) (Ls : List (View.Piece (Elt Ideal) S8x1024 .f32)) (q : Fin 8) (l : Fin 1024) :
    v.read (Elt Ideal) (v.writes (Elt Ideal) f
        (⟨Rect.unit ![1, 0] ![1, 1024] inb_S8x1024_S1x1024_1_0, p1⟩
          :: ⟨Rect.unit ![0, 0] ![1, 1024] inb_S8x1024_S1x1024_0_0, p0⟩ :: Ls)) (ix2 q l)
      = if q.val = 0 then p0 (ix2 0 l) else if q.val = 1 then p1 (ix2 0 l)
        else v.read (Elt Ideal) (v.writes (Elt Ideal) f Ls) (ix2 q l) := by
  by_cases h1 : q.val = 1
  · refine (View.read_writes_cons_rows_of_mem (o := 1) (size := ![1, 1024]) v f _ p1 _ (ix2 q l) (ix2 0 l) rfl h1 rfl).trans ?_
    simp [h1]
  refine (View.read_writes_cons_rows_of_not_mem (o := 1) (W := 1) (size := ![1, 1024]) v f _ p1 _ (ix2 q l) rfl rfl
    (by show q.val < 1 ∨ 1 + 1 ≤ q.val; omega)).trans ?_
  by_cases h0 : q.val = 0
  · refine (View.read_writes_cons_rows_of_mem (o := 0) (size := ![1, 1024]) v f _ p0 _ (ix2 q l) (ix2 0 l) rfl h0 rfl).trans ?_
    simp [h0]
  refine (View.read_writes_cons_rows_of_not_mem (o := 0) (W := 1) (size := ![1, 1024]) v f _ p0 _ (ix2 q l) rfl rfl
    (by show q.val < 0 ∨ 0 + 1 ≤ q.val; omega)).trans ?_
  simp [h0, h1]

/-- One block's share of parameter gradient `q`. -/
def part (c : Dev nD) (q : Fin 8) (l : Fin 1024) (t : Fin cfg0.N) : EReal := ∑ r : Fin 512, (args m c).share q (row t r) l

/-- The two rows a point stores over the rows `old`, and the rows no store touches: `old` with the block's shares added. -/
theorem rows (c : Dev nD) (t : Fin cfg0.N) (old : S8x1024.Idx → Elt Ideal .f32) (q : Fin 8) (l : Fin 1024) :
    (if q.val = 0 then
        k0_pay11 (iblk m c 1 t) (weightRow m c t) (iblk m c 0 t) (View.ld old (Rect.unit ![0, 0] ![1, 1024] inb_S8x1024_S1x1024_0_0)) (ix2 0 l)
      else if q.val = 1 then
        k0_pay14 (k0_pay12 (View.ld old (Rect.unit ![1, 0] ![1, 1024] inb_S8x1024_S1x1024_1_0)))
          (k0_pay13 (iblk m c 1 t) (gateRow m c t) (iblk m c 0 t)) (ix2 0 l)
      else old (ix2 q l)) = old (ix2 q l) + part m c q l t := by
  unfold part Args.share
  split_ifs with h0 h1
  · obtain rfl : q = 0 := Fin.ext h0
    pointwise [k0_pay11, k0_pay5, k0_pay6, k0_pay7, k0_pay8, k0_pay9, weightRow]
    simp only [iblk0_apply, iblk1_apply, iblk4_weight]
    rfl
  · obtain rfl : q = 1 := Fin.ext h1
    pointwise [k0_pay14, k0_pay12, k0_pay13, k0_pay5, k0_pay6, k0_pay7, k0_pay9, k0_pay10, gateRow]
    simp only [iblk0_apply, iblk1_apply, iblk4_gate]
    rfl
  · rw [Finset.sum_const_zero, add_zero]

theorem rows_A (c : Dev nD) (t : Fin cfg0.N) (h0 : t.val % 8 = 0) (h1 : ¬ t.val % 8 = 7) (q : Fin 8) (l : Fin 1024) :
    (outsAt0 m c t.val t.isLt).2.2.1 (ix2 q l) = part m c q l t := by
  rw [outsAt0_A m c t h0 h1]
  frame_open
  simp (disch := decide) only [↓ View.readCov_skip, ↓ View.readCov_fill]
  frame_out
  rw [← View.read_writes_junk_eq_canon (ms0_7 t).view, read_two, View.read_writes_junk_eq_canon, View.canon_cons_unit_lit' _ _ _ (by decide)]
  refine (rows m c t (k0_pay4 (F := Ideal)) q l).trans ?_
  pointwise [k0_pay4]

theorem rows_step (c : Dev nD) (t : Fin cfg0.N) (h0 : ¬ t.val % 8 = 0) (q : Fin 8) (l : Fin 1024) :
    (outsAt0 m c t.val t.isLt).2.2.1 (ix2 q l) = (prev m c t).2.2.1 (ix2 q l) + part m c q l t := by
  by_cases h1 : t.val % 8 = 7
  · rw [outsAt0_C m c t h0 h1]
    frame_out
    rw [read_two]
    refine Eq.trans ?_ (rows m c t (prev m c t).2.2.1 q l)
    split_ifs
    · rfl
    · rfl
    · exact congrFun (Memref.IsWhole.read_unread _ _) _
  · rw [outsAt0_B m c t h0 h1]
    frame_out
    rw [read_two]
    refine Eq.trans ?_ (rows m c t (prev m c t).2.2.1 q l)
    split_ifs
    · rfl
    · rfl
    · exact congrFun (Memref.IsWhole.read_unread _ _) _

/-- After point `n` each row holds the shares of the blocks so far. -/
theorem rows_upto (c : Dev nD) (q : Fin 8) (l : Fin 1024) : ∀ (n : ℕ) (hn : n < cfg0.N),
    (outsAt0 m c n hn).2.2.1 (ix2 q l) = ∑ u : Fin (n + 1), part m c q l ⟨u.val, by omega⟩
  | 0, hn => by
    rw [show (outsAt0 m c 0 hn).2.2.1 (ix2 q l) = part m c q l ⟨0, hn⟩ from rows_A m c ⟨0, hn⟩ rfl (show ¬ 0 % 8 = 7 by decide) q l,
      Fin.sum_univ_one]
    rfl
  | n + 1, hn => by
    have h8 : n + 1 < 8 := lt8 ⟨n + 1, hn⟩
    rw [show (outsAt0 m c (n + 1) hn).2.2.1 (ix2 q l) = _ from rows_step m c ⟨n + 1, hn⟩ (by show ¬ (n + 1) % 8 = 0; omega) q l,
      Fin.sum_univ_castSucc]
    exact congrArg (· + _) (rows_upto c q l n (Nat.lt_of_succ_lt hn))

theorem rows_last (c : Dev nD) (h7 : 7 < cfg0.N) (q : Fin 8) (l : Fin 1024) :
    (outsAt0 m c 7 h7).2.2.1 (ix2 q l) = (args m c).dvec q l := by
  rw [rows_upto m c q l 7 h7]
  unfold Args.dvec
  rw [Fin.sum_univ_tiles 8 512 rfl]
  rfl

end Cert.OutprojB

end
-- ==== Proof.OutprojB.Final.lean ====
/- The three result arrays of the output projection's backward call after the run. -/
module

public import proofs.«01_k».proof.Proof.OutprojB.Accum

@[expose] public section

noncomputable section

namespace Cert.OutprojB

open Cert.Kernel3Ideal Cert.Kernel3Ideal.Gen Idealize.ShloMosaic Idealize.ShloMosaic.TcCoe Idealize.SL.Sem
  Idealize.ShloMosaic.Pipeline

variable (m : (ℓ : Loc nD τ sig) → Buf (Elt Ideal) ℓ)

/-- The gradient of the mixer outputs: every row block is flushed at its own point. -/
theorem arr5 (c : Dev nD) : (dats m 0 c).arrAt 5 cfg0.N
    = (fun i => (args m c).dycat (i 0) (i 1) : FVec Ideal S4096x2048 .f32) := by
  refine (dats m 0 c).arrAt_eq_of_covers 5 _ (by decide +kernel) fun t hf y => ?_
  blk_simp
  rw [after0_5]
  obtain ⟨r, l, rfl⟩ : ∃ (r : Fin 512) (l : Fin 2048), y = (ix2 r l : S512x2048.Idx) := ⟨_, _, eq_ix2 y⟩
  rw [show (win0_5.blk t).view.emb (ix2 r l) = ix2 (row t r) l by blk_ext [e5, row]]
  exact out_apply m c t r l

/-- The gradient of the weights, stored by the last point. -/
theorem arr6 (c : Dev nD) : (dats m 0 c).arrAt 6 cfg0.N
    = (fun i => (args m c).dw (i 0) (i 1) (i 2) : FVec Ideal S4x512x1024 .bf16) := by
  refine (dats m 0 c).arrAt_eq_of_after_last 6 ⟨7, by decide⟩ (by decide +kernel) _ fun j => ?_
  blk_simp
  change (dats m 0 c).after 6 ⟨7, by decide⟩ j = _
  rw [after0_6]
  obtain ⟨k, i, l, rfl⟩ : ∃ (k : Fin 4) (i : Fin 512) (l : Fin 1024), j = (ix3 k i l : S4x512x1024.Idx) := ⟨_, _, _, eq_ix3 j⟩
  exact weights_last m c _ rfl k i l

/-- The parameter gradients, flushed once at the last point. -/
theorem arr7 (c : Dev nD) : (dats m 0 c).arrAt 7 cfg0.N
    = (fun i => (args m c).dvec (i 0) (i 1) : FVec Ideal S8x1024 .f32) := by
  refine (dats m 0 c).arrAt_eq_of_after_last 7 ⟨7, by decide⟩ (by decide +kernel) _ fun j => ?_
  blk_simp
  change (dats m 0 c).after 7 ⟨7, by decide⟩ j = _
  rw [after0_7]
  obtain ⟨q, l, rfl⟩ : ∃ (q : Fin 8) (l : Fin 1024), j = (ix2 q l : S8x1024.Idx) := ⟨_, _, eq_ix2 j⟩
  exact rows_last m c _ q l

end Cert.OutprojB

end
-- ==== Proof.OutprojB.Ref.lean ====
/- The reference's three results, read element by element. -/
module

public import proofs.«01_k».proof.Proof.OutprojB.Spec
public import proofs.«01_k».proof.Proof.Gen.Reference3Ideal.Run
public import proofs.«01_k».proof.Proof.Shared.Sums
public import Idealize.ShloMosaic.Lib.Pointwise
public import Idealize.ShloMosaic.Lib.Tactic.CleanTypes

@[expose] public section

noncomputable section

namespace Cert.OutprojB

open Idealize.ShloMosaic

/-- The gradient of the projection by the chain rule, the derivative of the mean of squares entering once for each factor
of the square. -/
def Args.dyChain (a : Args) (s : Fin 4096) (l : Fin 1024) : EReal :=
  let u := Ideal.div ((∑ k : Fin 1024, a.y s k * (a.gate k * a.d (ix3 0 s k) * a.g (ix1 k)))
    * (Ideal.ofBits .f32 0xBF000000#32 * Ideal.div (a.rs s) (Ideal.div (∑ k : Fin 1024, a.y s k * a.y s k) width + eps))) width
  a.gate l * a.d (ix3 0 s l) * a.g (ix1 l) * a.rs s + a.y s l * u + u * a.y s l

open Cert.Reference3Ideal Cert.Reference3Ideal.Gen Idealize.ShloMosaic Idealize.ShloMosaic.TcCoe Idealize.SL.Sem
  Idealize.ShloMosaic.StableHlo

variable (m : (ℓ : Loc nD τ sig) → Buf (Elt Ideal) ℓ) (ρ : Dev nD → PrngReg)

/-- The arrays the reference is given. -/
def rargs (c : Dev nD) : Args where
  yc := m ((c : Thread nD τ).loc main_arg1)
  mod := m ((c : Thread nD τ).loc main_arg2)
  g := m ((c : Thread nD τ).loc main_arg3)
  w := m ((c : Thread nD τ).loc main_arg4)
  d := m ((c : Thread nD τ).loc main_arg5)

/-- The reference's first result. -/
theorem ref0 (c : Dev nD) (s : Fin 4096) (j : Fin 2048) : Value.res_main_v55 m c (ix2 s j)
    = ∑ l : Fin 1024, (rargs m c).dyChain s l * (rargs m c).w (ix2 j l) := by
  unfold Value.res_main_v55
  change shapeCast S4096x2048 (s := S1x4096x2048) _ _ (ix2 s j) = _
  pointwise [Shared.sum_ones_around]
  rfl

/-- The reference's second result. -/
theorem ref1 (c : Dev nD) (k : Fin 4) (i : Fin 512) (l : Fin 1024) : Value.res_main_v57 m c (ix3 k i l)
    = ∑ s : Fin 4096, (rargs m c).dyChain s l * (rargs m c).yc (ix3 0 s (wrow k i)) := by
  unfold Value.res_main_v57
  change truncf .bf16 (shapeCast S4x512x1024 (s := S2048x1024) _ _) _ (ix3 k i l) = _
  pointwise [Shared.sum_ones_around]
  refine (Fin.sum_univ_one _).trans ?_
  rfl

/-- The reference run: the three results as functions of the arguments, the arguments kept. -/
theorem run : θ_run defs (onTc (τ := τ) (main (F := Ideal))) ⟨m, fun _ => 0, ρ⟩ fun r => ∀ c : Dev nD,
    r.2.mem ((c.tc : Thread nD τ).loc main_v55)
        = (fun i => ∑ l : Fin 1024, (rargs m c).dyChain (i 0) l * (rargs m c).w (ix2 (i 1) l) : FVec Ideal S4096x2048 .f32)
      ∧ r.2.mem ((c.tc : Thread nD τ).loc main_v57)
        = (fun i => ∑ s : Fin 4096, (rargs m c).dyChain s (i 2) * (rargs m c).yc (ix3 0 s (wrow (i 0) (i 1))) : FVec Ideal S4x512x1024 .bf16)
      ∧ r.2.mem ((c.tc : Thread nD τ).loc main_v60)
        = (fun i => (rargs m c).dvec (i 0) (i 1) : FVec Ideal S8x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun i => ?_), (h c).2.1.trans (funext fun i => ?_),
    (h c).2.2.1.trans (funext fun i => ?_), (h c).2.2.2⟩) (Value.run m ρ)
  · rw [eq_ix2 i]
    exact ref0 m c (i 0) (i 1)
  · rw [eq_ix3 i]
    exact ref1 m c (i 0) (i 1) (i 2)
  rw [eq_ix2 i]
  generalize i 0 = q, i 1 = l
  clear h
  pointwise [Shared.sum_ones]
  unfold Args.dvec Args.share
  clean_types
  have e1 : q.val - 1 < 1 ↔ q.val = 0 ∨ q.val = 1 := by omega
  split_ifs <;> first | omega | skip
  · rfl
  · exact Finset.sum_congr rfl fun s _ => (mul_comm _ _).trans (congrArg (· * _) (mul_comm _ _))
  · exact Finset.sum_const_zero.symm

end Cert.OutprojB

end
-- ==== Proof.OutprojB.Value.lean ====
/- The value claim of the output projection's backward call: at real arguments the reference's chain rule is the kernel's
   closed form, and both programs leave the same three arrays. -/
module

public import proofs.«01_k».proof.Defs
public import proofs.«01_k».proof.Proof.OutprojB.Final
public import proofs.«01_k».proof.Proof.OutprojB.Ref
public import proofs.«01_k».proof.Proof.Shared.Rms
public import proofs.«01_k».proof.Proof.Shared.Finite

@[expose] public section

noncomputable section

namespace Cert.OutprojB

open Idealize.ShloMosaic Idealize.ShloMosaic.TcCoe Idealize.SL.Sem

/-- The shape facts the precondition states. -/
instance preFacts : Cert.Pre_finite_out.Facts where
  slices_S1x3072_S1x1024_0_0 := by decide
  slices_S1x3072_S1x1024_0_1024 := by decide
  slices_S1x3072_S1x1024_0_2048 := by decide
  bcast_S_S1x4096x2048 := by decide
  bcast_S_S1x1024 := by decide
  bcast_S_S1024 := by decide
  bcast_S_S2048x1024 := by decide
  bcast_S_S1x4096x1024 := by decide

/-- Where the five arrays are real, the chain rule's gradient of the projection is the closed form. -/
theorem chain_eq (a : Args) (hy : ∀ s k, ∃ r : ℝ, a.yc (ix3 0 s k) = (r : EReal)) (hm : ∀ l, ∃ r : ℝ, a.gate l = (r : EReal))
    (hg : ∀ l, ∃ r : ℝ, a.g (ix1 l) = (r : EReal)) (hw : ∀ k l, ∃ r : ℝ, a.w (ix2 k l) = (r : EReal))
    (hd : ∀ s l, ∃ r : ℝ, a.d (ix3 0 s l) = (r : EReal)) (s : Fin 4096) (l : Fin 1024) : a.dyChain s l = a.dy s l := by
  choose yc hyc using hy s
  choose γ hγ using hm
  choose g hg using hg
  choose w hw using hw
  choose d hd using hd s
  have hY : ∀ k, a.y s k = ((∑ j, yc j * w j k : ℝ) : EReal) := fun k => by
    unfold Args.y
    simp only [hyc, hw, ← EReal.coe_mul, ← Shared.coe_sum]
  have hG : ∀ k, a.t s k = ((d k * γ k * g k : ℝ) : EReal) := fun k => by
    unfold Args.t
    simp only [hd, hγ, hg, ← EReal.coe_mul]
  have e : ∀ k, a.gate k * a.d (ix3 0 s k) * a.g (ix1 k) = a.t s k := fun k => congrArg (· * _) (mul_comm _ _)
  unfold Args.dyChain Args.dy
  simp only [e, hG, hY]
  have h := Shared.rms_grad (fun k => ∑ j, yc j * w j k) (fun k => d k * γ k * g k) 0 l _ (a.rs s) _ rfl
    (by unfold Args.rs; simp only [hY]) rfl
  rw [zero_add, zero_add] at h
  exact h

open Cert.Kernel3Ideal Cert.Kernel3Ideal.Gen

variable (m : (ℓ : Loc nD τ sig) → Buf (Elt Ideal) ℓ)

/-- The precondition makes the arrays real, so the two gradients of the projection agree. -/
theorem chain_pre (h : Cert.Pre_Kernel3Ideal_finite_out m) (c : Dev nD) (s : Fin 4096) (l : Fin 1024) :
    (args m c).dyChain s l = (args m c).dy s l := by
  obtain ⟨h0, h1, h2, h3, h4⟩ := h c
  refine chain_eq (args m c) (fun s k => Shared.real_of_abs_lt (congrFun h0 (ix3 0 s k))) (fun l => Shared.real_of_abs_lt ?_)
    (fun l => Shared.real_of_abs_lt (congrFun h2 (ix1 l))) (fun k l => Shared.real_of_abs_lt (congrFun h3 (ix2 k l)))
    (fun s l => Shared.real_of_abs_lt (congrFun h4 (ix3 0 s l))) s l
  have e := congrFun h1 (ix2 0 l)
  unfold Cert.Pre_finite_out.fn at e
  pointwise at e
  exact e

end Cert.OutprojB

namespace Cert.OutprojB

open Idealize.ShloMosaic Idealize.SL.Sem

/-- The reference's frame: it changes no argument, and its signature has no semaphore. -/
theorem frameR [Cert.Reference3Ideal.Facts] : Cert.quiescent_Reference3Ideal := fun m ρ _ =>
  (θ_run _ _ _).mono (fun r h => ⟨fun c => (h c).2.2.2, sem_eq_zero_of_no_sems (by decide) r.2⟩)
    (Cert.Reference3Ideal.Value.run m ρ)

/-- The value claim of the output projection's backward call. -/
theorem value [hK : Cert.Kernel3Ideal.Facts] [hR : Cert.Reference3Ideal.Facts] [hP : Cert.Pre_finite_out.Facts] :
    Cert.algebraic_Kernel3Ideal_Reference3Ideal_pre_finite_out := by
  intro m ρ m' ρ' hpre hargs
  refine ⟨fun c => (fun i => (args m c).dycat (i 0) (i 1) : FVec Ideal _ .f32),
    fun c => (fun i => (args m c).dw (i 0) (i 1) (i 2) : FVec Ideal _ .bf16),
    fun c => (fun i => (args m c).dvec (i 0) (i 1) : FVec Ideal _ .f32), ?_, ?_⟩
  · refine (θ_run _ _ _).mono (fun r h c => ⟨(h c).1.trans (arr5 m c), (h c).2.1.trans (arr6 m c), (h c).2.2.1.trans (arr7 m c), (h c).2.2.2⟩)
      (Cert.Kernel3Ideal.Value.run_blocks m ρ)
  · have e : ∀ c, rargs m' c = args m c := fun c => by
      obtain ⟨a0, a1, a2, a3, a4, a5⟩ := hargs c
      unfold rargs args
      rw [a1, a2, a3, a4, a5]
    refine (θ_run _ _ _).mono (fun r h c => ⟨(h c).1.trans (funext fun i => ?_), (h c).2.1.trans (funext fun i => ?_),
      (h c).2.2.1.trans (funext fun i => ?_), (h c).2.2.2⟩) (run m' ρ')
    · rw [e]
      exact Finset.sum_congr rfl fun l _ => congrArg (· * _) (chain_pre m hpre c (i 0) l)
    · rw [e]
      exact Finset.sum_congr rfl fun s _ => (congrArg (· * _) (chain_pre m hpre c s (i 2))).trans (mul_comm _ _)
    · rw [e]

end Cert.OutprojB
-- ==== Proof.InprojW.Spec.lean ====
/- What the input projection's weight-gradient call computes, written once over the argument arrays read as extended reals:
   the normed and modulated row made again from the layer's input, and its product with the projection's cotangent. Both
   programs are proved to leave this function. -/
module

public import proofs.«01_k».proof.Kernel4Ideal
public import Idealize.ShloMosaic.Lib.Pointwise

@[expose] public section

noncomputable section

namespace Cert.InprojW

open Cert.Kernel4Ideal Idealize.ShloMosaic

/-- The arrays the gradient depends on: the layer's input `x`, the modulation, the norm's weight `g`, and the cotangent `d`
of the projection. -/
structure Args where
  x : FVec Ideal S1x4096x1024 .f32
  mod : FVec Ideal S1x3072 .f32
  g : FVec Ideal S1024 .f32
  d : FVec Ideal S1x4096x4096 .f32

/-- The width 1024 of a row, as the programs' literal reads it. -/
abbrev width : EReal := Ideal.ofBits .f32 0x44800000#32

/-- The norm's epsilon, as the programs' literal reads it. -/
abbrev eps : EReal := Ideal.ofBits .f32 0x358637BD#32

/-- Column `j` of plane `k`. -/
def col (k : Fin 4) (j : Fin 1024) : Fin 4096 := ⟨k.val * 1024 + j.val, by omega⟩

namespace Args

variable (a : Args)

/-- One over the root mean square of row `s`. -/
def rs (s : Fin 4096) : EReal :=
  Ideal.rsqrt (Ideal.div (∑ k : Fin 1024, a.x (ix3 0 s k) * a.x (ix3 0 s k)) width + eps)

/-- The normed and modulated row. -/
def h (s : Fin 4096) (i : Fin 1024) : EReal :=
  a.x (ix3 0 s i) * a.rs s * a.g (ix1 i) * (1 + a.mod (ix2 0 ⟨1024 + i.val, by omega⟩))
    + a.mod (ix2 0 ⟨i.val, by omega⟩)

/-- The gradient of the weights. -/
def dw (k : Fin 4) (i : Fin 1024) (j : Fin 1024) : EReal := ∑ s : Fin 4096, a.h s i * a.d (ix3 0 s (col k j))

end Args

end Cert.InprojW

end
-- ==== Proof.InprojW.Blocks.lean ====
/- What each grid point of the input projection's weight-gradient call reads of the argument arrays, and the normed rows it
   makes from that. -/
module

public import proofs.«01_k».proof.Proof.Gen.Kernel4Ideal.Value
public import proofs.«01_k».proof.Proof.InprojW.Spec
public import Idealize.ShloMosaic.Lib.Pointwise
public import Idealize.ShloMosaic.Lib.StableHlo.ReadAt
public import Idealize.ShloMosaic.Lib.Pipeline.ValueKit

@[expose] public section

noncomputable section

namespace Cert.InprojW

open Cert.Kernel4Ideal Cert.Kernel4Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![0, t.val, 0] := (by decide +kernel : ∀ t : Fin grid0.N, _)
theorem e1 : ∀ t : Fin cfg0.N, win0_1.index t = ![t.val, 0] := (by decide +kernel : ∀ t : Fin grid0.N, _)
theorem e2 : ∀ t : Fin cfg0.N, win0_2.index t = ![0, 0] := (by decide +kernel : ∀ t : Fin grid0.N, _)

/-- The arrays the kernel program is given. -/
def args (c : Dev nD) : Args where
  x := m ((c : Thread nD τ).loc main_arg0)
  mod := m ((c : Thread nD τ).loc main_arg1)
  g := m ((c : Thread nD τ).loc main_arg2)
  d := m ((c : Thread nD τ).loc main_arg4)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (k : Fin 4) (r : Fin 512) (j : Fin 1024) :
    iblk m c 0 t (ix3 k r j) = (args m c).d (ix3 0 (row t r) (col k j)) := by
  blk_simp [iblk, e0]
  rw [show (win0_0.blk t).view.emb (ix3 k r j) = ix3 k (row t r) j by blk_ext [e0, row]]
  unfold_abbrev_sides
  after_reads_at
  pointwise
  rfl

theorem iblk1_apply (c : Dev nD) (t : Fin cfg0.N) (r : Fin 512) (l : Fin 1024) :
    iblk m c 1 t (ix2 r l) = (args m c).x (ix3 0 (row t r) l) := by
  blk_simp [iblk, e1]
  rw [show (win0_1.blk t).view.emb (ix2 r l) = ix2 (row t r) l by blk_ext [e1, row]]
  unfold_abbrev_sides
  after_reads_at

theorem iblk2_shift (c : Dev nD) (t : Fin cfg0.N) (l : Fin 1024) :
    iblk m c 2 t (ix2 0 l) = (args m c).mod (ix2 0 ⟨l.val, by omega⟩) := by
  blk_simp [iblk, e2]
  rw [show (win0_2.blk t).view.emb (ix2 0 l) = ix2 0 l by blk_ext [e2]]
  unfold_abbrev_sides
  after_reads_at
  refine (congrFun (reshape_result' ..) _).trans ?_
  after_reads_at

theorem iblk2_scale (c : Dev nD) (t : Fin cfg0.N) (l : Fin 1024) :
    iblk m c 2 t (ix2 1 l) = (args m c).mod (ix2 0 ⟨1024 + l.val, by omega⟩) := by
  blk_simp [iblk, e2]
  rw [show (win0_2.blk t).view.emb (ix2 1 l) = ix2 1 l by blk_ext [e2]]
  unfold_abbrev_sides
  after_reads_at
  refine (congrFun (reshape_result' ..) _).trans ?_
  after_reads_at

theorem iblk2_weight (c : Dev nD) (t : Fin cfg0.N) (l : Fin 1024) :
    iblk m c 2 t (ix2 3 l) = (args m c).g (ix1 l) := by
  blk_simp [iblk, e2]
  rw [show (win0_2.blk t).view.emb (ix2 3 l) = ix2 3 l by blk_ext [e2]]
  unfold_abbrev_sides
  after_reads_at
  refine (congrFun (reshape_result' ..) _).trans ?_
  after_reads_at

/-- The rows of the parameter block the point reads. -/
abbrev shiftRow (c : Dev nD) (t : Fin cfg0.N) : Vec Ideal S1x1024 .f32 :=
  View.ld (iblk m c 2 t) (Rect.unit ![0, 0] ![1, 1024] inb_S8x1024_S1x1024_0_0)
@[inherit_doc shiftRow] abbrev scaleRow (c : Dev nD) (t : Fin cfg0.N) : Vec Ideal S1x1024 .f32 :=
  View.ld (iblk m c 2 t) (Rect.unit ![1, 0] ![1, 1024] inb_S8x1024_S1x1024_1_0)
@[inherit_doc shiftRow] abbrev weightRow (c : Dev nD) (t : Fin cfg0.N) : Vec Ideal S1x1024 .f32 :=
  View.ld (iblk m c 2 t) (Rect.unit ![3, 0] ![1, 1024] inb_S8x1024_S1x1024_3_0)

/-- The normed and modulated rows point `t` makes. -/
def hB (c : Dev nD) (t : Fin cfg0.N) : FVec Ideal S512x1024 .bf16 :=
  k0_pay4 (iblk m c 1 t) (weightRow m c t) (scaleRow m c t) (shiftRow m c t)

theorem hB_apply (c : Dev nD) (t : Fin cfg0.N) (r : Fin 512) (l : Fin 1024) :
    hB m c t (ix2 r l) = (args m c).h (row t r) l := by
  unfold hB
  pointwise [k0_pay4, shiftRow, scaleRow, weightRow]
  simp only [iblk1_apply, iblk2_shift, iblk2_scale, iblk2_weight]
  rfl

end Cert.InprojW

end
-- ==== Proof.InprojW.Accum.lean ====
/- The input projection's weight-gradient call, point by point: the four planes of the accumulator add up from point to
   point, and the last point stores them. -/
module

public import proofs.«01_k».proof.Proof.InprojW.Blocks
public import proofs.«01_k».proof.Proof.Shared.Pieces
public import Idealize.ShloMosaic.Lib.Pipeline.ReadBack
public import Idealize.ShloMosaic.Lib.WritesUnit

@[expose] public section

noncomputable section

namespace Cert.InprojW

open Cert.Kernel4Ideal Cert.Kernel4Ideal.Gen Idealize.ShloMosaic Idealize.ShloMosaic.TcCoe Idealize.SL.Sem Idealize.ShloMosaic.StableHlo
  Idealize.ShloMosaic.Pipeline

variable (m : (ℓ : Loc nD τ sig) → Buf (Elt Ideal) ℓ)

/-- The four planes of the weights' gradient, added to what the accumulator held. -/
abbrev aPieces (c : Dev nD) (t : Fin cfg0.N) (p : Vec Ideal S4x1024x1024 .f32) : List (View.Piece (Elt Ideal) S4x1024x1024 .f32) :=
  [⟨Rect.unit ![3, 0, 0] ![1, 1024, 1024] inb_S4x1024x1024_S1x1024x1024_3_0_0, k0_pay1 (k0_pay9 (hB m c t)
      (View.ld p (Rect.unit ![3, 0, 0] ![1, 1024, 1024] inb_S4x1024x1024_S1x1024x1024_3_0_0))
      (View.ld (iblk m c 0 t) (Rect.unit ![3, 0, 0] ![1, 512, 1024] inb_S4x512x1024_S1x512x1024_3_0_0)))⟩,
    ⟨Rect.unit ![2, 0, 0] ![1, 1024, 1024] inb_S4x1024x1024_S1x1024x1024_2_0_0, k0_pay8 (hB m c t)
      (View.ld p (Rect.unit ![2, 0, 0] ![1, 1024, 1024] inb_S4x1024x1024_S1x1024x1024_2_0_0))
      (View.ld (iblk m c 0 t) (Rect.unit ![2, 0, 0] ![1, 512, 1024] inb_S4x512x1024_S1x512x1024_2_0_0))⟩,
    ⟨Rect.unit ![1, 0, 0] ![1, 1024, 1024] inb_S4x1024x1024_S1x1024x1024_1_0_0, k0_pay7 (hB m c t)
      (View.ld p (Rect.unit ![1, 0, 0] ![1, 1024, 1024] inb_S4x1024x1024_S1x1024x1024_1_0_0))
      (View.ld (iblk m c 0 t) (Rect.unit ![1, 0, 0] ![1, 512, 1024] inb_S4x512x1024_S1x512x1024_1_0_0))⟩,
    ⟨Rect.unit ![0, 0, 0] ![1, 1024, 1024] inb_S4x1024x1024_S1x1024x1024_0_0_0,
      k0_pay6 (k0_pay5 (iblk m c 1 t) (weightRow m c t) (scaleRow m c t) (shiftRow m c t)
      (View.ld p (Rect.unit ![0, 0, 0] ![1, 1024, 1024] inb_S4x1024x1024_S1x1024x1024_0_0_0))
      (View.ld (iblk m c 0 t) (Rect.unit ![0, 0, 0] ![1, 512, 1024] inb_S4x512x1024_S1x512x1024_0_0_0)))⟩]

/-- What the point before left. -/
abbrev prev (c : Dev nD) (t : Fin cfg0.N) := outsAt0 m c (t.val - 1) (Nat.lt_of_le_of_lt (Nat.sub_le _ _) t.isLt)

theorem acc_A (c : Dev nD) (t : Fin cfg0.N) (h0 : t.val % 8 = 0) (h1 : ¬ t.val % 8 = 7) :
    (outsAt0 m c t.val t.isLt).2 = View.canon (aPieces m c t (k0_pay3 (F := Ideal))
      ++ [⟨Rect.unit ![0, 0, 0] ![4, 1024, 1024] inb_S4x1024x1024_S4x1024x1024_0_0_0, k0_pay3 (F := Ideal)⟩]) := by
  rw [outsAt0_A m c t h0 h1]
  frame_open
  simp (disch := decide) only [↓ View.readCov_skip, ↓ View.readCov_fill]
  frame_out <;> rfl

theorem acc_B (c : Dev nD) (t : Fin cfg0.N) (h0 : ¬ t.val % 8 = 0) (h1 : ¬ t.val % 8 = 7) :
    (outsAt0 m c t.val t.isLt).2 = View.canon (aPieces m c t (prev m c t).2) := by
  rw [outsAt0_B m c t h0 h1]
  frame_out
  simp only [read_unread_whole]
  rfl

theorem acc_C (c : Dev nD) (t : Fin cfg0.N) (h0 : ¬ t.val % 8 = 0) (h1 : t.val % 8 = 7) :
    (outsAt0 m c t.val t.isLt).2 = View.canon (aPieces m c t (prev m c t).2) := by
  rw [outsAt0_C m c t h0 h1]
  frame_out
  simp only [read_unread_whole]
  rfl

theorem weights_C (c : Dev nD) (t : Fin cfg0.N) (h0 : ¬ t.val % 8 = 0) (h1 : t.val % 8 = 7) :
    (outsAt0 m c t.val t.isLt).1 = k0_pay2 ((View.whole cc0_scratch0).readCov (aPieces m c t (prev m c t).2)
      (Rect.unit (s := S4x1024x1024) ![0, 0, 0] ![4, 1024, 1024] inb_S4x1024x1024_S4x1024x1024_0_0_0).toLoadRect) := by
  rw [outsAt0_C m c t h0 h1]
  frame_out
  simp only [read_unread_whole]
  rfl

/-- One block's share of the weights' gradient. -/
def part (c : Dev nD) (k : Fin 4) (i j : Fin 1024) (t : Fin cfg0.N) : EReal :=
  ∑ r : Fin 512, (args m c).h (row t r) i * (args m c).d (ix3 0 (row t r) (col k j))

/-- The four planes a point stores are the old ones with the block's shares added. -/
theorem planes (c : Dev nD) (t : Fin cfg0.N) (p : Vec Ideal S4x1024x1024 .f32) (L) (k : Fin 4) (i j : Fin 1024) :
    View.canon (aPieces m c t p ++ L) (ix3 k i j) = p (ix3 k i j) + part m c k i j t := by
  refine Shared.canon_planes (A := 1024) (B := 1024) _ _ _ _ _ _ _ _ L (fun k i j => p (ix3 k i j) + part m c k i j t)
    (fun i j => ?_) (fun i j => ?_) (fun i j => ?_) (fun i j => ?_) k i j
  · unfold part
    pointwise [k0_pay1, k0_pay9]
    simp only [hB_apply, iblk0_apply]
  · unfold part
    pointwise [k0_pay8]
    simp only [hB_apply, iblk0_apply]
  · unfold part
    pointwise [k0_pay7]
    simp only [hB_apply, iblk0_apply]
  · unfold part k0_pay5
    rw [← hB]
    pointwise [k0_pay6]
    simp only [hB_apply, iblk0_apply]

/-- After point `n` the accumulator holds the shares of the blocks so far. -/
theorem acc_upto (c : Dev nD) (k : Fin 4) (i j : Fin 1024) : ∀ (n : ℕ) (hn : n < cfg0.N),
    (outsAt0 m c n hn).2 (ix3 k i j) = ∑ u : Fin (n + 1), part m c k i j ⟨u.val, by omega⟩
  | 0, hn => by
    refine (congrFun (acc_A m c ⟨0, hn⟩ rfl (show ¬ 0 % 8 = 7 by decide)) _).trans ((planes m c ⟨0, hn⟩ _ _ k i j).trans ?_)
    rw [Fin.sum_univ_one]
    pointwise [k0_pay3]
  | n + 1, hn => by
    have h8 : n + 1 < 8 := lt8 ⟨n + 1, hn⟩
    rw [Fin.sum_univ_castSucc]
    refine Eq.trans ?_ (congrArg (· + _) (acc_upto c k i j n (Nat.lt_of_succ_lt hn)))
    by_cases h1 : (n + 1) % 8 = 7
    · exact (congrFun (acc_C m c ⟨n + 1, hn⟩ (by show ¬ (n + 1) % 8 = 0; omega) h1) _).trans (planes m c ⟨n + 1, hn⟩ _ [] k i j)
    · exact (congrFun (acc_B m c ⟨n + 1, hn⟩ (by show ¬ (n + 1) % 8 = 0; omega) h1) _).trans (planes m c ⟨n + 1, hn⟩ _ [] k i j)

/-- The last point stores the whole gradient of the weights. -/
theorem weights_last (c : Dev nD) (t : Fin cfg0.N) (h : t.val = 7) (k : Fin 4) (i j : Fin 1024) :
    (outsAt0 m c t.val t.isLt).1 (ix3 k i j) = (args m c).dw k i j := by
  have h0 : ¬ t.val % 8 = 0 := by omega
  have h1 : t.val % 8 = 7 := by omega
  have e := acc_upto m c k i j t.val t.isLt
  rw [weights_C m c t h0 h1, View.readCov_eq_canon', ← acc_C m c t h0 h1]
  refine Eq.trans (b := (outsAt0 m c t.val t.isLt).2 (ix3 k i j)) (by pointwise [k0_pay2]) (e.trans ?_)
  obtain ⟨n, hn⟩ := t
  obtain rfl : n = 7 := h
  unfold Args.dw
  rw [Fin.sum_univ_tiles 8 512 rfl]
  rfl

/-- The result array after the run: the weights' gradient, stored by the last point. -/
theorem arr3 (c : Dev nD) : (dats m 0 c).arrAt 3 cfg0.N
    = (fun i => (args m c).dw (i 0) (i 1) (i 2) : FVec Ideal S4x1024x1024 .bf16) := by
  refine (dats m 0 c).arrAt_eq_of_after_last 3 ⟨7, by decide⟩ (by decide +kernel) _ fun j => ?_
  blk_simp
  change (dats m 0 c).after 3 ⟨7, by decide⟩ j = _
  rw [after0_3]
  obtain ⟨k, i, l, rfl⟩ : ∃ (k : Fin 4) (i l : Fin 1024), j = (ix3 k i l : S4x1024x1024.Idx) := ⟨_, _, _, eq_ix3 j⟩
  exact weights_last m c _ rfl k i l

end Cert.InprojW

end
-- ==== Proof.InprojW.Value.lean ====
/- The value claim of the input projection's weight-gradient call: both programs leave the product of the normed rows with
   the cotangent, whatever the arguments. -/
module

public import proofs.«01_k».proof.Defs
public import proofs.«01_k».proof.Proof.InprojW.Accum
public import proofs.«01_k».proof.Proof.Gen.Reference4Ideal.Run

@[expose] public section

noncomputable section

namespace Cert.InprojW

open Cert.Reference4Ideal Cert.Reference4Ideal.Gen Idealize.ShloMosaic Idealize.ShloMosaic.TcCoe Idealize.SL.Sem

variable (m : (ℓ : Loc nD τ sig) → Buf (Elt Ideal) ℓ) (ρ : Dev nD → PrngReg)

/-- The arrays the reference is given. -/
def rargs (c : Dev nD) : Args where
  x := m ((c : Thread nD τ).loc main_arg0)
  mod := m ((c : Thread nD τ).loc main_arg1)
  g := m ((c : Thread nD τ).loc main_arg2)
  d := m ((c : Thread nD τ).loc main_arg4)

/-- The reference run: the result as a function of the arguments, the arguments kept. -/
theorem run : θ_run defs (onTc (τ := τ) (main (F := Ideal))) ⟨m, fun _ => 0, ρ⟩ fun r => ∀ c : Dev nD,
    r.2.mem ((c.tc : Thread nD τ).loc main_v29)
        = (fun i => (rargs m c).dw (i 0) (i 1) (i 2) : FVec Ideal S4x1024x1024 .bf16)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2⟩) (Value.run m ρ)
  rw [eq_ix3 i]
  generalize i 0 = k, i 1 = i', i 2 = j
  clear h
  pointwise
  unfold Args.dw
  refine (Fin.sum_univ_one _).trans ?_
  exact Finset.sum_congr rfl fun s _ => mul_comm _ _

end Cert.InprojW

namespace Cert.InprojW

open Idealize.ShloMosaic Idealize.SL.Sem

/-- The reference's frame: it changes no argument, and its signature has no semaphore. -/
theorem frameR [Cert.Reference4Ideal.Facts] : Cert.quiescent_Reference4Ideal := fun m ρ _ =>
  (θ_run _ _ _).mono (fun r h => ⟨fun c => (h c).2, sem_eq_zero_of_no_sems (by decide) r.2⟩)
    (Cert.Reference4Ideal.Value.run m ρ)

/-- The value claim of the input projection's weight-gradient call. -/
theorem value [hK : Cert.Kernel4Ideal.Facts] [hR : Cert.Reference4Ideal.Facts] :
    Cert.algebraic_Kernel4Ideal_Reference4Ideal := by
  intro m ρ m' ρ' _ hargs
  refine ⟨fun c => (fun i => (args m c).dw (i 0) (i 1) (i 2) : FVec Ideal _ .bf16), ?_, ?_⟩
  · refine (θ_run _ _ _).mono (fun r h c => ⟨(h c).1.trans (arr3 m c), (h c).2⟩) (Cert.Kernel4Ideal.Value.run_blocks m ρ)
  · have e : ∀ c, rargs m' c = args m c := fun c => by
      obtain ⟨a0, a1, a2, a3, a4⟩ := hargs c
      unfold rargs args
      rw [a0, a1, a2, a4]
    refine (θ_run _ _ _).mono (fun r h c => ⟨(h c).1.trans (funext fun i => ?_), (h c).2⟩) (run m' ρ')
    rw [e]

end Cert.InprojW

end
-- ==== Proof.OutprojF.Spec.lean ====
/- What the forward output projection with the loss at its end computes, written once over the argument arrays read as
   extended reals: the projection, the gradient of the loss, and the sum of squared errors. -/
module

public import proofs.«01_k».proof.Kernel5Ideal
public import Idealize.ShloMosaic.Lib.Pointwise

@[expose] public section

noncomputable section

namespace Cert.OutprojF

open Cert.Kernel5Ideal Idealize.ShloMosaic

/-- The arrays: the layer's input `x`, the mixer outputs `yc`, the modulation, the norm's weight `g`, the projection's
weights `w`, and the targets. -/
structure Args where
  x : FVec Ideal S1x4096x1024 .f32
  yc : FVec Ideal S1x4096x2048 .f32
  mod : FVec Ideal S1x3072 .f32
  g : FVec Ideal S1024 .f32
  w : FVec Ideal S2048x1024 .f32
  target : FVec Ideal S1x4096x1024 .f32

/-- The width 1024 of a row, as the programs' literal reads it. -/
abbrev width : EReal := Ideal.ofBits .f32 0x44800000#32

/-- The norm's epsilon, as the programs' literal reads it. -/
abbrev eps : EReal := Ideal.ofBits .f32 0x358637BD#32

/-- Weight row `i` of plane `k`. -/
def wrow (k : Fin 4) (i : Fin 512) : Fin 2048 := ⟨k.val * 512 + i.val, by omega⟩

namespace Args

variable (a : Args)

/-- The projection before its norm. -/
def y (s : Fin 4096) (l : Fin 1024) : EReal := ∑ k : Fin 2048, a.yc (ix3 0 s k) * a.w (ix2 k l)

/-- One over the root mean square of row `s` of the projection. -/
def rs (s : Fin 4096) : EReal := Ideal.rsqrt (Ideal.div (∑ k : Fin 1024, a.y s k * a.y s k) width + eps)

/-- The modulation's gate. -/
def gate (l : Fin 1024) : EReal := a.mod (ix2 0 ⟨2048 + l.val, by omega⟩)

/-- The layer's output less its target. -/
def err (s : Fin 4096) (l : Fin 1024) : EReal :=
  a.x (ix3 0 s l) + a.gate l * (a.y s l * a.rs s * a.g (ix1 l)) - a.target (ix3 0 s l)

/-- The gradient of the loss: the error over the width. -/
def dx (s : Fin 4096) (l : Fin 1024) : EReal := a.err s l * Ideal.ofBits .f32 0x3A800000#32

/-- The sum of squared errors. -/
def sq : EReal := ∑ s : Fin 4096, ∑ l : Fin 1024, a.err s l * a.err s l

end Args

end Cert.OutprojF

end
-- ==== Proof.OutprojF.Blocks.lean ====
/- What each grid point of the forward output projection reads of the argument arrays, and the projection and error it
   computes from that. -/
module

public import proofs.«01_k».proof.Proof.Gen.Kernel5Ideal.Value
public import proofs.«01_k».proof.Proof.OutprojF.Spec
public import Idealize.ShloMosaic.Lib.Pointwise
public import Idealize.ShloMosaic.Lib.StableHlo.ReadAt
public import Idealize.ShloMosaic.Lib.Pipeline.ValueKit

@[expose] public section

noncomputable section

namespace Cert.OutprojF

open Cert.Kernel5Ideal Cert.Kernel5Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)
theorem e6 : ∀ t : Fin cfg0.N, win0_6.index t = ![t.val, 0] := (by decide +kernel : ∀ t : Fin grid0.N, _)

/-- The arrays the kernel program is given. -/
def args (c : Dev nD) : Args where
  x := m ((c : Thread nD τ).loc main_arg0)
  yc := m ((c : Thread nD τ).loc main_arg1)
  mod := m ((c : Thread nD τ).loc main_arg2)
  g := m ((c : Thread nD τ).loc main_arg3)
  w := m ((c : Thread nD τ).loc main_arg4)
  target := m ((c : Thread nD τ).loc main_arg5)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (r : Fin 512) (j : Fin 2048) :
    iblk m c 0 t (ix2 r j) = (args m c).yc (ix3 0 (row t r) j) := by
  blk_simp [iblk, e0]
  rw [show (win0_0.blk t).view.emb (ix2 r j) = ix2 (row t r) j by blk_ext [e0, row]]
  unfold_abbrev_sides
  after_reads_at

theorem iblk1_apply (c : Dev nD) (t : Fin cfg0.N) (k : Fin 4) (i : Fin 512) (l : Fin 1024) :
    iblk m c 1 t (ix3 k i l) = (args m c).w (ix2 (wrow k i) l) := by
  blk_simp [iblk, e1]
  rw [show (win0_1.blk t).view.emb (ix3 k i l) = ix3 k i l by blk_ext [e1]]
  unfold_abbrev_sides
  after_reads_at
  rfl

theorem iblk2_apply (c : Dev nD) (t : Fin cfg0.N) (r : Fin 512) (l : Fin 1024) :
    iblk m c 2 t (ix2 r l) = (args m c).x (ix3 0 (row t r) l) := by
  blk_simp [iblk, e2]
  rw [show (win0_2.blk t).view.emb (ix2 r l) = ix2 (row t r) l by blk_ext [e2, row]]
  unfold_abbrev_sides
  after_reads_at

theorem iblk4_apply (c : Dev nD) (t : Fin cfg0.N) (r : Fin 512) (l : Fin 1024) :
    iblk m c 4 t (ix2 r l) = (args m c).target (ix3 0 (row t r) l) := by
  blk_simp [iblk, e4]
  rw [show (win0_4.blk t).view.emb (ix2 r l) = ix2 (row t r) l by blk_ext [e4, row]]
  unfold_abbrev_sides
  after_reads_at

theorem iblk3_gate (c : Dev nD) (t : Fin cfg0.N) (l : Fin 1024) :
    iblk m c 3 t (ix2 2 l) = (args m c).gate l := by
  blk_simp [iblk, e3]
  rw [show (win0_3.blk t).view.emb (ix2 2 l) = ix2 2 l by blk_ext [e3]]
  unfold_abbrev_sides
  after_reads_at
  refine (congrFun (reshape_result' ..) _).trans ?_
  after_reads_at
  rfl

theorem iblk3_weight (c : Dev nD) (t : Fin cfg0.N) (l : Fin 1024) :
    iblk m c 3 t (ix2 4 l) = (args m c).g (ix1 l) := by
  blk_simp [iblk, e3]
  rw [show (win0_3.blk t).view.emb (ix2 4 l) = ix2 4 l by blk_ext [e3]]
  unfold_abbrev_sides
  after_reads_at
  refine (congrFun (reshape_result' ..) _).trans ?_
  after_reads_at

/-- The rows of the parameter block the point reads. -/
abbrev gateRow (c : Dev nD) (t : Fin cfg0.N) : Vec Ideal S1x1024 .f32 :=
  View.ld (iblk m c 3 t) (Rect.unit ![2, 0] ![1, 1024] inb_S8x1024_S1x1024_2_0)
@[inherit_doc gateRow] abbrev weightRow (c : Dev nD) (t : Fin cfg0.N) : Vec Ideal S1x1024 .f32 :=
  View.ld (iblk m c 3 t) (Rect.unit ![4, 0] ![1, 1024] inb_S8x1024_S1x1024_4_0)

/-- The column blocks of the mixer outputs, and the planes of the weights. -/
abbrev cols0 (c : Dev nD) (t : Fin cfg0.N) : Vec Ideal S512x512 .bf16 :=
  View.ld (iblk m c 0 t) (Rect.unit ![0, 0] ![512, 512] inb_S512x2048_S512x512_0_0)
@[inherit_doc cols0] abbrev cols1 (c : Dev nD) (t : Fin cfg0.N) : Vec Ideal S512x512 .bf16 :=
  View.ld (iblk m c 0 t) (Rect.unit ![0, 512] ![512, 512] inb_S512x2048_S512x512_0_512)
@[inherit_doc cols0] abbrev cols2 (c : Dev nD) (t : Fin cfg0.N) : Vec Ideal S512x512 .bf16 :=
  View.ld (iblk m c 0 t) (Rect.unit ![0, 1024] ![512, 512] inb_S512x2048_S512x512_0_1024)
@[inherit_doc cols0] abbrev cols3 (c : Dev nD) (t : Fin cfg0.N) : Vec Ideal S512x512 .bf16 :=
  View.ld (iblk m c 0 t) (Rect.unit ![0, 1536] ![512, 512] inb_S512x2048_S512x512_0_1536)
@[inherit_doc cols0] abbrev plane0 (c : Dev nD) (t : Fin cfg0.N) : Vec Ideal S1x512x1024 .bf16 :=
  View.ld (iblk m c 1 t) (Rect.unit ![0, 0, 0] ![1, 512, 1024] inb_S4x512x1024_S1x512x1024_0_0_0)
@[inherit_doc cols0] abbrev plane1 (c : Dev nD) (t : Fin cfg0.N) : Vec Ideal S1x512x1024 .bf16 :=
  View.ld (iblk m c 1 t) (Rect.unit ![1, 0, 0] ![1, 512, 1024] inb_S4x512x1024_S1x512x1024_1_0_0)
@[inherit_doc cols0] abbrev plane2 (c : Dev nD) (t : Fin cfg0.N) : Vec Ideal S1x512x1024 .bf16 :=
  View.ld (iblk m c 1 t) (Rect.unit ![2, 0, 0] ![1, 512, 1024] inb_S4x512x1024_S1x512x1024_2_0_0)
@[inherit_doc cols0] abbrev plane3 (c : Dev nD) (t : Fin cfg0.N) : Vec Ideal S1x512x1024 .bf16 :=
  View.ld (iblk m c 1 t) (Rect.unit ![3, 0, 0] ![1, 512, 1024] inb_S4x512x1024_S1x512x1024_3_0_0)

/-- The projection of a point's rows: four products added. -/
def yB (c : Dev nD) (t : Fin cfg0.N) : FVec Ideal S512x1024 .f32 :=
  k0_pay5 (cols0 m c t) (plane0 m c t) (cols1 m c t) (plane1 m c t) (cols2 m c t) (plane2 m c t) (cols3 m c t) (plane3 m c t)

theorem yB_apply (c : Dev nD) (t : Fin cfg0.N) (r : Fin 512) (l : Fin 1024) :
    yB m c t (ix2 r l) = (args m c).y (row t r) l := by
  unfold yB Args.y
  rw [Fin.sum_univ_tiles 4 512 rfl, Fin.sum_univ_four]
  pointwise [k0_pay5, cols0, cols1, cols2, cols3, plane0, plane1, plane2, plane3]
  simp only [iblk0_apply, iblk1_apply]
  rfl

/-- The mean square of a point's rows of the projection. -/
def msB (c : Dev nD) (t : Fin cfg0.N) : FVec Ideal S512x1 .f32 :=
  k0_pay7 (cols0 m c t) (plane0 m c t) (cols1 m c t) (plane1 m c t) (cols2 m c t) (plane2 m c t) (cols3 m c t) (plane3 m c t)

theorem msB_apply (c : Dev nD) (t : Fin cfg0.N) (r : Fin 512) :
    msB m c t (ix2 r 0) = Ideal.div (∑ k : Fin 1024, (args m c).y (row t r) k * (args m c).y (row t r) k) width := by
  unfold msB k0_pay7
  rw [← yB]
  pointwise
  simp only [yB_apply]

/-- The error of a point's rows. -/
def errB (c : Dev nD) (t : Fin cfg0.N) : FVec Ideal S512x1024 .f32 :=
  k0_pay1 (yB m c t) (msB m c t) (iblk m c 2 t) (gateRow m c t) (weightRow m c t) (iblk m c 4 t)

theorem errB_apply (c : Dev nD) (t : Fin cfg0.N) (r : Fin 512) (l : Fin 1024) :
    errB m c t (ix2 r l) = (args m c).err (row t r) l := by
  unfold errB
  pointwise [k0_pay1, gateRow, weightRow]
  simp only [iblk2_apply, iblk4_apply, iblk3_gate, iblk3_weight, yB_apply, msB_apply]
  rfl

end Cert.OutprojF

end
-- ==== Proof.OutprojF.Accum.lean ====
/- The forward output projection, point by point: the projection and the loss gradient are stored at their own point; the
   squared errors add up from point to point. -/
module

public import proofs.«01_k».proof.Proof.OutprojF.Blocks
public import Idealize.ShloMosaic.Lib.Pipeline.ReadBack

@[expose] public section

noncomputable section

namespace Cert.OutprojF

open Cert.Kernel5Ideal Cert.Kernel5Ideal.Gen Idealize.ShloMosaic Idealize.ShloMosaic.TcCoe Idealize.SL.Sem Idealize.ShloMosaic.StableHlo

variable (m : (ℓ : Loc nD τ sig) → Buf (Elt Ideal) ℓ)

/-- The rows a point stores of the projection. -/
theorem y_eq (c : Dev nD) (t : Fin cfg0.N) : (outsAt0 m c t.val t.isLt).1 = truncf .bf16 (yB m c t) bitsLt_bf16_f32 := by
  by_cases h0 : t.val % 8 = 0
  · rw [outsAt0_A m c t h0]
    frame_out <;> rfl
  · rw [outsAt0_B m c t h0]
    frame_out <;> rfl

/-- The rows a point stores of the loss gradient. -/
theorem dx_eq (c : Dev nD) (t : Fin cfg0.N) : (outsAt0 m c t.val t.isLt).2.1
    = k0_pay2 (yB m c t) (msB m c t) (iblk m c 2 t) (gateRow m c t) (weightRow m c t) (iblk m c 4 t) := by
  by_cases h0 : t.val % 8 = 0
  · rw [outsAt0_A m c t h0]
    frame_out <;> rfl
  · rw [outsAt0_B m c t h0]
    frame_out <;> rfl

theorem y_apply (c : Dev nD) (t : Fin cfg0.N) (r : Fin 512) (l : Fin 1024) :
    (outsAt0 m c t.val t.isLt).1 (ix2 r l) = (args m c).y (row t r) l := by
  rw [y_eq]
  exact yB_apply m c t r l

theorem dx_apply (c : Dev nD) (t : Fin cfg0.N) (r : Fin 512) (l : Fin 1024) :
    (outsAt0 m c t.val t.isLt).2.1 (ix2 r l) = (args m c).dx (row t r) l := by
  rw [dx_eq]
  exact congrArg (· * _) (errB_apply m c t r l)

/-- The sum of squares a point adds to what it finds. -/
def sqB (c : Dev nD) (t : Fin cfg0.N) (p : Vec Ideal S8x128 .f32) : FVec Ideal S8x128 .f32 :=
  k0_pay4 (yB m c t) (msB m c t) (iblk m c 2 t) (gateRow m c t) (weightRow m c t) (iblk m c 4 t) p

/-- One block's share of the sum of squares. -/
def part (c : Dev nD) (t : Fin cfg0.N) : EReal :=
  ∑ r : Fin 512, ∑ l : Fin 1024, (args m c).err (row t r) l * (args m c).err (row t r) l

theorem sqB_apply (c : Dev nD) (t : Fin cfg0.N) (p : Vec Ideal S8x128 .f32) (i : Fin 8) (j : Fin 128) :
    sqB m c t p (ix2 i j) = p (ix2 i j) + part m c t := by
  unfold sqB part k0_pay4
  rw [← errB]
  pointwise
  simp only [errB_apply]

theorem sq_A (c : Dev nD) (t : Fin cfg0.N) (h0 : t.val % 8 = 0) :
    (outsAt0 m c t.val t.isLt).2.2 = sqB m c t (k0_pay3 (F := Ideal)) := by
  rw [outsAt0_A m c t h0]
  frame_open
  simp (disch := decide) only [↓ View.readCov_skip, ↓ View.readCov_fill]
  frame_out <;> rfl

theorem sq_B (c : Dev nD) (n : ℕ) (hn : n + 1 < cfg0.N) (h0 : ¬ (n + 1) % 8 = 0) :
    (outsAt0 m c (n + 1) hn).2.2 = sqB m c ⟨n + 1, hn⟩ (outsAt0 m c n (Nat.lt_of_succ_lt hn)).2.2 := by
  refine (congrArg (·.2.2) (outsAt0_B m c ⟨n + 1, hn⟩ h0)).trans ?_
  frame_out <;> rfl

/-- After point `n` every entry holds the shares of the blocks so far. -/
theorem sq_upto (c : Dev nD) (i : Fin 8) (j : Fin 128) : ∀ (n : ℕ) (hn : n < cfg0.N),
    (outsAt0 m c n hn).2.2 (ix2 i j) = ∑ u : Fin (n + 1), part m c ⟨u.val, by omega⟩
  | 0, hn => by
    refine (congrFun (sq_A m c ⟨0, hn⟩ rfl) _).trans ((sqB_apply m c ⟨0, hn⟩ _ i j).trans ?_)
    rw [Fin.sum_univ_one]
    pointwise [k0_pay3]
  | n + 1, hn => by
    have h8 : n + 1 < 8 := lt8 ⟨n + 1, hn⟩
    rw [sq_B m c n hn (by omega), sqB_apply, Fin.sum_univ_castSucc]
    exact congrArg (· + _) (sq_upto c i j n (Nat.lt_of_succ_lt hn))

theorem sq_last (c : Dev nD) (h7 : 7 < cfg0.N) (i : Fin 8) (j : Fin 128) :
    (outsAt0 m c 7 h7).2.2 (ix2 i j) = (args m c).sq := by
  rw [sq_upto m c i j 7 h7]
  unfold Args.sq
  rw [Fin.sum_univ_tiles 8 512 rfl]
  rfl

end Cert.OutprojF

end
-- ==== Proof.OutprojF.Final.lean ====
/- The three result arrays of the forward output projection after the run. -/
module

public import proofs.«01_k».proof.Proof.OutprojF.Accum

@[expose] public section

noncomputable section

namespace Cert.OutprojF

open Cert.Kernel5Ideal Cert.Kernel5Ideal.Gen Idealize.ShloMosaic Idealize.ShloMosaic.TcCoe Idealize.SL.Sem
  Idealize.ShloMosaic.Pipeline

variable (m : (ℓ : Loc nD τ sig) → Buf (Elt Ideal) ℓ)

/-- The projection: every row block is flushed at its own point. -/
theorem arr5 (c : Dev nD) : (dats m 0 c).arrAt 5 cfg0.N
    = (fun i => (args m c).y (i 0) (i 1) : FVec Ideal S4096x1024 .bf16) := by
  refine (dats m 0 c).arrAt_eq_of_covers 5 _ (by decide +kernel) fun t hf y => ?_
  blk_simp
  rw [after0_5]
  obtain ⟨r, l, rfl⟩ : ∃ (r : Fin 512) (l : Fin 1024), y = (ix2 r l : S512x1024.Idx) := ⟨_, _, eq_ix2 y⟩
  rw [show (win0_5.blk t).view.emb (ix2 r l) = ix2 (row t r) l by blk_ext [e5, row]]
  exact y_apply m c t r l

/-- The gradient of the loss, likewise. -/
theorem arr6 (c : Dev nD) : (dats m 0 c).arrAt 6 cfg0.N
    = (fun i => (args m c).dx (i 0) (i 1) : FVec Ideal S4096x1024 .f32) := by
  refine (dats m 0 c).arrAt_eq_of_covers 6 _ (by decide +kernel) fun t hf y => ?_
  blk_simp
  rw [after0_6]
  obtain ⟨r, l, rfl⟩ : ∃ (r : Fin 512) (l : Fin 1024), y = (ix2 r l : S512x1024.Idx) := ⟨_, _, eq_ix2 y⟩
  rw [show (win0_6.blk t).view.emb (ix2 r l) = ix2 (row t r) l by blk_ext [e6, row]]
  exact dx_apply m c t r l

/-- The sum of squares, flushed once at the last point. -/
theorem arr7 (c : Dev nD) : (dats m 0 c).arrAt 7 cfg0.N = (fun _ => (args m c).sq : FVec Ideal S8x128 .f32) := by
  refine (dats m 0 c).arrAt_eq_of_after_last 7 ⟨7, by decide⟩ (by decide +kernel) _ fun j => ?_
  blk_simp
  change (dats m 0 c).after 7 ⟨7, by decide⟩ j = _
  rw [after0_7]
  obtain ⟨q, l, rfl⟩ : ∃ (q : Fin 8) (l : Fin 128), j = (ix2 q l : S8x128.Idx) := ⟨_, _, eq_ix2 j⟩
  exact sq_last m c _ q l

end Cert.OutprojF

end
-- ==== Proof.OutprojF.Ref.lean ====
/- The reference's three results, read element by element. -/
module

public import proofs.«01_k».proof.Proof.OutprojF.Spec
public import proofs.«01_k».proof.Proof.Gen.Reference5Ideal.Run
public import proofs.«01_k».proof.Proof.Shared.Rms
public import Idealize.ShloMosaic.Lib.Pointwise
public import Idealize.ShloMosaic.Lib.Tactic.CleanTypes

@[expose] public section

noncomputable section

namespace Cert.OutprojF

open Cert.Reference5Ideal Cert.Reference5Ideal.Gen Idealize.ShloMosaic Idealize.ShloMosaic.TcCoe Idealize.SL.Sem
  Idealize.ShloMosaic.StableHlo

theorem half_eq : Ideal.ofBits .f32 0x3F000000#32 = ((1 / 2 : ℝ) : EReal) := by
  simp [Ideal.ofBits, Ideal.ieee, -EReal.coe_mul]; norm_num

theorem two_eq : Ideal.ofBits .f32 0x40000000#32 = ((2 : ℝ) : EReal) := by
  simp [Ideal.ofBits, Ideal.ieee, -EReal.coe_mul]; norm_num

theorem over_width_eq : Ideal.ofBits .f32 0x3A800000#32 = ((1 / 1024 : ℝ) : EReal) := by
  simp [Ideal.ofBits, Ideal.ieee, -EReal.coe_mul]; norm_num

theorem unit_eq : Ideal.ofBits .f32 0x45000000#32 = ((2048 : ℝ) : EReal) := by
  simp [Ideal.ofBits, Ideal.ieee, -EReal.coe_mul]; norm_num

/-- Half of twice the error over the width is the error over the width. -/
theorem half_twice (e : EReal) : Ideal.div (Ideal.ofBits .f32 0x3F000000#32) (Ideal.ofBits .f32 0x44800000#32)
    * (Ideal.ofBits .f32 0x40000000#32 * e) = e * Ideal.ofBits .f32 0x3A800000#32 := by
  rw [half_eq, two_eq, over_width_eq, Shared.width_eq, Shared.coe_div _ (by norm_num), ← mul_assoc, ← EReal.coe_mul, mul_comm]
  congr 2
  norm_num

/-- Division by the width is a product with a nonnegative real, so it goes out of a sum. -/
theorem div_width (x : EReal) : Ideal.div x width = ((1 / 1024 : ℝ) : EReal) * x := by
  rw [show width = ((1024 : ℝ) : EReal) from Shared.width_eq, Ideal.div_coe (by norm_num), mul_comm]

theorem mul_sum {n : ℕ} (f : Fin n → EReal) : ((1 / 1024 : ℝ) : EReal) * ∑ s, f s = ∑ s, ((1 / 1024 : ℝ) : EReal) * f s := by
  induction n with
  | zero => simp
  | succ n ih =>
    rw [Fin.sum_univ_castSucc, Fin.sum_univ_castSucc, EReal.left_distrib_of_nonneg_of_ne_top
      (by exact_mod_cast (by norm_num : (0 : ℝ) ≤ 1 / 1024)) (EReal.coe_ne_top _), ih]

/-- The loss in the unit of a sum of squares: the width and the half cancel. -/
theorem unit_loss (f : Fin 4096 → EReal) : Ideal.ofBits .f32 0x45000000#32
    * (Ideal.ofBits .f32 0x3F000000#32 * ∑ s, Ideal.div (f s) width) = ∑ s, f s := by
  simp only [div_width]
  rw [← mul_sum, half_eq, unit_eq, ← mul_assoc, ← mul_assoc, ← EReal.coe_mul, ← EReal.coe_mul,
    show (2048 * (1 / 2) * (1 / 1024) : ℝ) = 1 by norm_num, EReal.coe_one, one_mul]

/-- A sum over both axes of one row. -/
theorem sum_row {n : ℕ} (h : (⟨2, ![1, n]⟩ : Shape).ReducesTo [0, 1] ⟨0, ![]⟩) (v : (⟨2, ![1, n]⟩ : Shape).Idx → EReal)
    (init : EReal) (i : (⟨0, ![]⟩ : Shape).Idx) : Ideal.hostReduceAdd h v init i = init + ∑ s : Fin n, v (ix2 0 s) := by
  show init + ∑ j ∈ Finset.univ.filter (fun j => h.drop j = i), v j = _
  rw [Finset.filter_true_of_mem fun j _ => funext fun k => k.elim0]
  rw [sum_idx2, Fin.sum_univ_one]

variable (m : (ℓ : Loc nD τ sig) → Buf (Elt Ideal) ℓ) (ρ : Dev nD → PrngReg)

/-- The arrays the reference is given. -/
def rargs (c : Dev nD) : Args where
  x := m ((c : Thread nD τ).loc main_arg0)
  yc := m ((c : Thread nD τ).loc main_arg1)
  mod := m ((c : Thread nD τ).loc main_arg2)
  g := m ((c : Thread nD τ).loc main_arg3)
  w := m ((c : Thread nD τ).loc main_arg4)
  target := m ((c : Thread nD τ).loc main_arg5)

/-- The reference run: the three results as functions of the arguments, the arguments kept. -/
theorem run : θ_run defs (onTc (τ := τ) (main (F := Ideal))) ⟨m, fun _ => 0, ρ⟩ fun r => ∀ c : Dev nD,
    r.2.mem ((c.tc : Thread nD τ).loc main_v37) = (fun i => (rargs m c).y (i 0) (i 1) : FVec Ideal S4096x1024 .bf16)
      ∧ r.2.mem ((c.tc : Thread nD τ).loc main_v38) = (fun i => (rargs m c).dx (i 0) (i 1) : FVec Ideal S4096x1024 .f32)
      ∧ r.2.mem ((c.tc : Thread nD τ).loc main_v40) = (fun _ => (rargs m c).sq : FVec Ideal S8x128 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5) := by
  refine (θ_run defs _ _).mono (fun r h c => ⟨(h c).1.trans (funext fun i => ?_), (h c).2.1.trans (funext fun i => ?_),
    (h c).2.2.1.trans (funext fun i => ?_), (h c).2.2.2⟩) (Value.run m ρ)
  · rw [eq_ix2 i]
    generalize i 0 = s, i 1 = l
    clear h
    change truncf .bf16 (shapeCast S4096x1024 (s := S1x4096x1024) _ _) _ (ix2 s l) = _
    pointwise
    rfl
  · rw [eq_ix2 i]
    generalize i 0 = s, i 1 = l
    clear h
    change shapeCast S4096x1024 (s := S1x4096x1024) _ _ (ix2 s l) = _
    pointwise
    exact half_twice _
  · generalize hV : Host.divf (F := Ideal) _ (broadcastInDim S1x4096 ![] bcast_S_S1x4096 (constant S_ .f32 0x44800000#32)) = V
    have e : ∀ s, V (ix2 0 s) = Ideal.div (∑ l, (rargs m c).err s l * (rargs m c).err s l) width := fun s => by
      rw [← hV]
      clear h hV
      pointwise
      rfl
    rw [eq_ix2 i]
    clear h hV
    pointwise [sum_row]
    simp only [e]
    exact unit_loss _

end Cert.OutprojF

end
-- ==== Proof.OutprojF.Value.lean ====
/- The value claim of the forward output projection and loss head: both programs leave the same three arrays. -/
module

public import proofs.«01_k».proof.Defs
public import proofs.«01_k».proof.Proof.OutprojF.Final
public import proofs.«01_k».proof.Proof.OutprojF.Ref

@[expose] public section

noncomputable section

namespace Cert.OutprojF

open Idealize.ShloMosaic Idealize.SL.Sem

/-- The reference's frame: it changes no argument, and its signature has no semaphore. -/
theorem frameR [Cert.Reference5Ideal.Facts] : Cert.quiescent_Reference5Ideal := fun m ρ _ =>
  (θ_run _ _ _).mono (fun r h => ⟨fun c => (h c).2.2.2, sem_eq_zero_of_no_sems (by decide) r.2⟩)
    (Cert.Reference5Ideal.Value.run m ρ)

/-- The value claim. -/
theorem value [hK : Cert.Kernel5Ideal.Facts] [hR : Cert.Reference5Ideal.Facts] :
    Cert.algebraic_Kernel5Ideal_Reference5Ideal := by
  intro m ρ m' ρ' _ hargs
  refine ⟨fun c => (fun i => (args m c).y (i 0) (i 1) : FVec Ideal _ .bf16),
    fun c => (fun i => (args m c).dx (i 0) (i 1) : FVec Ideal _ .f32),
    fun c => (fun _ => (args m c).sq : FVec Ideal _ .f32), ?_, ?_⟩
  · refine (θ_run _ _ _).mono (fun r h c => ⟨(h c).1.trans (arr5 m c), (h c).2.1.trans (arr6 m c), (h c).2.2.1.trans (arr7 m c), (h c).2.2.2⟩)
      (Cert.Kernel5Ideal.Value.run_blocks m ρ)
  · have e : ∀ c, rargs m' c = args m c := fun c => by
      obtain ⟨a0, a1, a2, a3, a4, a5⟩ := hargs c
      unfold rargs args
      rw [a0, a1, a2, a3, a4, a5]
    refine (θ_run _ _ _).mono (fun r h c => ?_) (run m' ρ')
    have h := h c
    rw [e] at h
    exact h

end Cert.OutprojF

end
-- ==== Proof.InprojF.Spec.lean ====
/- What the input projection's forward call computes, written once over the argument arrays read as extended reals: the
   normed and modulated row, times the projection's weights, in four planes. Both programs are proved to leave this
   function. -/
module

public import proofs.«01_k».proof.Kernel7Ideal
public import Idealize.ShloMosaic.Lib.Pointwise

@[expose] public section

noncomputable section

namespace Cert.InprojF

open Cert.Kernel7Ideal Idealize.ShloMosaic

/-- The argument arrays: the layer's input `x`, the modulation, the norm's weight `g` and the projection's weights `w`. -/
structure Args where
  x : FVec Ideal S1x4096x1024 .f32
  mod : FVec Ideal S1x3072 .f32
  g : FVec Ideal S1024 .f32
  w : FVec Ideal S1024x4096 .f32

/-- The width 1024 of a row, as the programs' literal reads it. -/
abbrev width : EReal := Ideal.ofBits .f32 0x44800000#32

/-- The norm's epsilon, as the programs' literal reads it. -/
abbrev eps : EReal := Ideal.ofBits .f32 0x358637BD#32

/-- Column `j` of plane `k`. -/
def col (k : Fin 4) (j : Fin 1024) : Fin 4096 := ⟨k.val * 1024 + j.val, by omega⟩

namespace Args

variable (a : Args)

/-- One over the root mean square of row `s`. -/
def rs (s : Fin 4096) : EReal :=
  Ideal.rsqrt (Ideal.div (∑ k : Fin 1024, a.x (ix3 0 s k) * a.x (ix3 0 s k)) width + eps)

/-- The normed and modulated row. -/
def h (s : Fin 4096) (i : Fin 1024) : EReal :=
  a.x (ix3 0 s i) * a.rs s * a.g (ix1 i) * (1 + a.mod (ix2 0 ⟨1024 + i.val, by omega⟩))
    + a.mod (ix2 0 ⟨i.val, by omega⟩)

/-- The projection. -/
def proj (k : Fin 4) (s : Fin 4096) (j : Fin 1024) : EReal := ∑ i : Fin 1024, a.h s i * a.w (ix2 i (col k j))

end Args

end Cert.InprojF

end
-- ==== Proof.InprojF.Blocks.lean ====
/- What each grid point of the input projection's forward call reads of the argument arrays, the four planes it stores, and
   the array they make together. -/
module

public import proofs.«01_k».proof.Proof.Gen.Kernel7Ideal.Value
public import proofs.«01_k».proof.Proof.InprojF.Spec
public import proofs.«01_k».proof.Proof.Shared.Pieces
public import Idealize.ShloMosaic.Lib.Pointwise
public import Idealize.ShloMosaic.Lib.StableHlo.ReadAt
public import Idealize.ShloMosaic.Lib.Pipeline.ValueKit

@[expose] public section

noncomputable section

namespace Cert.InprojF

open Cert.Kernel7Ideal Cert.Kernel7Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0] := (by decide +kernel : ∀ t : Fin grid0.N, _)
theorem e2 : ∀ t : Fin cfg0.N, win0_2.index t = ![0, 0, 0] := (by decide +kernel : ∀ t : Fin grid0.N, _)
theorem e3 : ∀ t : Fin cfg0.N, win0_3.index t = ![0, t.val, 0] := (by decide +kernel : ∀ t : Fin grid0.N, _)

/-- The arrays the kernel program is given. -/
def args (c : Dev nD) : Args where
  x := m ((c : Thread nD τ).loc main_arg0)
  mod := m ((c : Thread nD τ).loc main_arg1)
  g := m ((c : Thread nD τ).loc main_arg2)
  w := m ((c : Thread nD τ).loc main_arg3)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (r : Fin 512) (l : Fin 1024) :
    iblk m c 0 t (ix2 r l) = (args m c).x (ix3 0 (row t r) l) := by
  blk_simp [iblk, e0]
  rw [show (win0_0.blk t).view.emb (ix2 r l) = ix2 (row t r) l by blk_ext [e0, row]]
  unfold_abbrev_sides
  after_reads_at

theorem iblk1_shift (c : Dev nD) (t : Fin cfg0.N) (l : Fin 1024) :
    iblk m c 1 t (ix2 0 l) = (args m c).mod (ix2 0 ⟨l.val, by omega⟩) := by
  blk_simp [iblk, e1]
  rw [show (win0_1.blk t).view.emb (ix2 0 l) = ix2 0 l by blk_ext [e1]]
  unfold_abbrev_sides
  after_reads_at
  refine (congrFun (reshape_result' ..) _).trans ?_
  after_reads_at

theorem iblk1_scale (c : Dev nD) (t : Fin cfg0.N) (l : Fin 1024) :
    iblk m c 1 t (ix2 1 l) = (args m c).mod (ix2 0 ⟨1024 + l.val, by omega⟩) := by
  blk_simp [iblk, e1]
  rw [show (win0_1.blk t).view.emb (ix2 1 l) = ix2 1 l by blk_ext [e1]]
  unfold_abbrev_sides
  after_reads_at
  refine (congrFun (reshape_result' ..) _).trans ?_
  after_reads_at

theorem iblk1_weight (c : Dev nD) (t : Fin cfg0.N) (l : Fin 1024) :
    iblk m c 1 t (ix2 3 l) = (args m c).g (ix1 l) := by
  blk_simp [iblk, e1]
  rw [show (win0_1.blk t).view.emb (ix2 3 l) = ix2 3 l by blk_ext [e1]]
  unfold_abbrev_sides
  after_reads_at
  refine (congrFun (reshape_result' ..) _).trans ?_
  after_reads_at

theorem iblk2_apply (c : Dev nD) (t : Fin cfg0.N) (k : Fin 4) (i j : Fin 1024) :
    iblk m c 2 t (ix3 k i j) = (args m c).w (ix2 i (col k j)) := by
  blk_simp [iblk, e2]
  rw [show (win0_2.blk t).view.emb (ix3 k i j) = ix3 k i j by blk_ext [e2]]
  unfold_abbrev_sides
  after_reads_at
  pointwise
  rfl

/-- The rows of the main array the point reads. -/
abbrev xBlock (c : Dev nD) (t : Fin cfg0.N) : Vec Ideal S512x1024 .f32 :=
  View.ld (iblk m c 0 t) (Rect.unit ![0, 0] ![512, 1024] inb_S512x1024_S512x1024_0_0)

/-- The rows of the parameter block the point reads. -/
abbrev shiftRow (c : Dev nD) (t : Fin cfg0.N) : Vec Ideal S1x1024 .f32 :=
  View.ld (iblk m c 1 t) (Rect.unit ![0, 0] ![1, 1024] inb_S8x1024_S1x1024_0_0)
@[inherit_doc shiftRow] abbrev scaleRow (c : Dev nD) (t : Fin cfg0.N) : Vec Ideal S1x1024 .f32 :=
  View.ld (iblk m c 1 t) (Rect.unit ![1, 0] ![1, 1024] inb_S8x1024_S1x1024_1_0)
@[inherit_doc shiftRow] abbrev weightRow (c : Dev nD) (t : Fin cfg0.N) : Vec Ideal S1x1024 .f32 :=
  View.ld (iblk m c 1 t) (Rect.unit ![3, 0] ![1, 1024] inb_S8x1024_S1x1024_3_0)

/-- The normed and modulated rows point `t` makes. -/
def hB (c : Dev nD) (t : Fin cfg0.N) : FVec Ideal S512x1024 .bf16 :=
  k0_pay4 (xBlock m c t) (weightRow m c t) (scaleRow m c t) (shiftRow m c t)

theorem hB_apply (c : Dev nD) (t : Fin cfg0.N) (r : Fin 512) (l : Fin 1024) :
    hB m c t (ix2 r l) = (args m c).h (row t r) l := by
  unfold hB
  pointwise [k0_pay4, xBlock, shiftRow, scaleRow, weightRow]
  simp only [iblk0_apply, iblk1_shift, iblk1_scale, iblk1_weight]
  rfl

/-- The four planes point `t` stores. -/
abbrev pieces (c : Dev nD) (t : Fin cfg0.N) : List (View.Piece (Elt Ideal) S4x512x1024 .f32) :=
  [⟨Rect.unit ![3, 0, 0] ![1, 512, 1024] inb_S4x512x1024_S1x512x1024_3_0_0, k0_pay3 (hB m c t)
      (View.ld (iblk m c 2 t) (Rect.unit ![3, 0, 0] ![1, 1024, 1024] inb_S4x1024x1024_S1x1024x1024_3_0_0))⟩,
    ⟨Rect.unit ![2, 0, 0] ![1, 512, 1024] inb_S4x512x1024_S1x512x1024_2_0_0, k0_pay2 (hB m c t)
      (View.ld (iblk m c 2 t) (Rect.unit ![2, 0, 0] ![1, 1024, 1024] inb_S4x1024x1024_S1x1024x1024_2_0_0))⟩,
    ⟨Rect.unit ![1, 0, 0] ![1, 512, 1024] inb_S4x512x1024_S1x512x1024_1_0_0, k0_pay1 (hB m c t)
      (k0_pay6 (View.ld (iblk m c 2 t) (Rect.unit ![1, 0, 0] ![1, 1024, 1024] inb_S4x1024x1024_S1x1024x1024_1_0_0)))
      (constant S512x1024 .f32 0x00000000#32)⟩,
    ⟨Rect.unit ![0, 0, 0] ![1, 512, 1024] inb_S4x512x1024_S1x512x1024_0_0_0,
      k0_pay5 (xBlock m c t) (weightRow m c t) (scaleRow m c t) (shiftRow m c t)
      (View.ld (iblk m c 2 t) (Rect.unit ![0, 0, 0] ![1, 1024, 1024] inb_S4x1024x1024_S1x1024x1024_0_0_0))⟩]

theorem out_eq (c : Dev nD) (t : Fin cfg0.N) : out0_3 (iblk m c 0 t) (iblk m c 1 t) (iblk m c 2 t) = View.canon (pieces m c t) := by
  unfold_out out0_3
  rfl

theorem planes (c : Dev nD) (t : Fin cfg0.N) (k : Fin 4) (r : Fin 512) (j : Fin 1024) :
    View.canon (pieces m c t) (ix3 k r j) = (args m c).proj k (row t r) j := by
  refine Shared.canon_planes (A := 512) (B := 1024) _ _ _ _ _ _ _ _ [] (fun k r j => (args m c).proj k (row t r) j)
    (fun i j => ?_) (fun i j => ?_) (fun i j => ?_) (fun i j => ?_) k r j
  · unfold Args.proj
    pointwise [k0_pay3]
    simp only [hB_apply, iblk2_apply]
  · unfold Args.proj
    pointwise [k0_pay2]
    simp only [hB_apply, iblk2_apply]
  · unfold Args.proj
    pointwise [k0_pay1, k0_pay6]
    simp only [hB_apply, iblk2_apply]
  · unfold Args.proj k0_pay5
    rw [← hB]
    pointwise
    simp only [hB_apply, iblk2_apply]

/-- The result array: every row block of the four planes is flushed at its own point. -/
theorem arr3 (c : Dev nD) : (dats m 0 c).arrAt 3 cfg0.N
    = (fun i => (args m c).proj (i 0) (i 1) (i 2) : FVec Ideal S4x4096x1024 .f32) := by
  refine (dats m 0 c).arrAt_eq_of_covers 3 _ (by decide +kernel) fun t hf y => ?_
  blk_simp
  rw [after0_3]
  obtain ⟨k, r, l, rfl⟩ : ∃ (k : Fin 4) (r : Fin 512) (l : Fin 1024), y = (ix3 k r l : S4x512x1024.Idx) := ⟨_, _, _, eq_ix3 y⟩
  rw [show (win0_3.blk t).view.emb (ix3 k r l) = ix3 k (row t r) l by blk_ext [e3, row], out_eq]
  exact planes m c t k r l

end Cert.InprojF

end
-- ==== Proof.InprojF.Value.lean ====
/- The value claim of the input projection's forward call: both programs leave the product of the normed rows with the
   weights, in four planes, whatever the arguments. -/
module

public import proofs.«01_k».proof.Defs
public import proofs.«01_k».proof.Proof.InprojF.Blocks
public import proofs.«01_k».proof.Proof.Gen.Reference7Ideal.Run

@[expose] public section

noncomputable section

namespace Cert.InprojF

open Cert.Reference7Ideal Cert.Reference7Ideal.Gen Idealize.ShloMosaic Idealize.ShloMosaic.TcCoe Idealize.SL.Sem

variable (m : (ℓ : Loc nD τ sig) → Buf (Elt Ideal) ℓ) (ρ : Dev nD → PrngReg)

/-- The arrays the reference is given. -/
def rargs (c : Dev nD) : Args where
  x := m ((c : Thread nD τ).loc main_arg0)
  mod := m ((c : Thread nD τ).loc main_arg1)
  g := m ((c : Thread nD τ).loc main_arg2)
  w := m ((c : Thread nD τ).loc main_arg3)

/-- The reference run: the result as a function of the arguments, the arguments kept. -/
theorem run : θ_run defs (onTc (τ := τ) (main (F := Ideal))) ⟨m, fun _ => 0, ρ⟩ fun r => ∀ c : Dev nD,
    r.2.mem ((c.tc : Thread nD τ).loc main_v26)
        = (fun i => (rargs m c).proj (i 0) (i 1) (i 2) : FVec Ideal S4x4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) := by
  refine (θ_run defs _ _).mono (fun r h c => ⟨(h c).1.trans (funext fun i => ?_), (h c).2⟩) (Value.run m ρ)
  rw [eq_ix3 i]
  generalize i 0 = k, i 1 = i', i 2 = j
  clear h
  pointwise
  unfold Args.proj
  rfl

end Cert.InprojF

namespace Cert.InprojF

open Idealize.ShloMosaic Idealize.SL.Sem

/-- The reference's frame: it changes no argument, and its signature has no semaphore. -/
theorem frameR [Cert.Reference7Ideal.Facts] : Cert.quiescent_Reference7Ideal := fun m ρ _ =>
  (θ_run _ _ _).mono (fun r h => ⟨fun c => (h c).2, sem_eq_zero_of_no_sems (by decide) r.2⟩)
    (Cert.Reference7Ideal.Value.run m ρ)

/-- The value claim of the input projection's forward call. -/
theorem value [hK : Cert.Kernel7Ideal.Facts] [hR : Cert.Reference7Ideal.Facts] :
    Cert.algebraic_Kernel7Ideal_Reference7Ideal := by
  intro m ρ m' ρ' _ hargs
  refine ⟨fun c => (fun i => (args m c).proj (i 0) (i 1) (i 2) : FVec Ideal _ .f32), ?_, ?_⟩
  · refine (θ_run _ _ _).mono (fun r h c => ⟨(h c).1.trans (arr3 m c), (h c).2⟩) (Cert.Kernel7Ideal.Value.run_blocks m ρ)
  · have e : ∀ c, rargs m' c = args m c := fun c => by
      obtain ⟨a0, a1, a2, a3⟩ := hargs c
      unfold rargs args
      rw [a0, a1, a2, a3]
    refine (θ_run _ _ _).mono (fun r h c => ⟨(h c).1.trans (funext fun i => ?_), (h c).2⟩) (run m' ρ')
    rw [e]

end Cert.InprojF

end
-- ==== Proof.PoolF.Blocks.lean ====
/- The pool's forward call: its arguments, the entries of its result, and what each grid point's blocks hold of them. -/
module

public import proofs.«01_k».proof.Proof.Gen.Kernel8Ideal.Value
public import proofs.«01_k».proof.Proof.Pool.Common
public import proofs.«01_k».proof.Proof.Pool.Window
public import proofs.«01_k».proof.Proof.Pool.Stores
public import Idealize.ShloMosaic.Lib.StableHlo.ReadAt
public import Idealize.ShloMosaic.Lib.Pipeline.ValueKit
public import Idealize.ShloMosaic.Lib.Pipeline.ReadBack

@[expose] public section

noncomputable section

namespace Cert.PoolF

open Cert.Kernel8Ideal Cert.Kernel8Ideal.Gen Idealize.ShloMosaic Idealize.ShloMosaic.TcCoe Idealize.SL.Sem Idealize.ShloMosaic.StableHlo
open Cert.Pool (Args lane win count inv back grp off)

variable (m : (ℓ : Loc nD τ sig) → Buf (Elt Ideal) ℓ)

/-- Entry `l` of group `g` at position `s`: the group's linear map, scaled and gated. -/
def y (A : Args) (g : Fin 4) (s : Fin 4096) (l : Fin 256) : EReal :=
  A.z g s l * A.scale (ix1 (lane g l)) * (A.gate (ix3 0 s (lane g l)) * A.sg s (lane g l))

/-- The result: zeros, and beside them the four groups. -/
def out (A : Args) (s : Fin 4096) (L : Fin 2048) : EReal :=
  if h : L.val < 1024 then 0 else y A (grp ⟨L.val - 1024, by omega⟩) s (off ⟨L.val - 1024, by omega⟩)

/-- The five argument arrays on device `c`; the forward call has no cotangent, so zeros stand in its place. -/
def args (c : Dev nD) : Args where
  x := m ((c : Thread nD τ).loc main_arg0)
  gate := m ((c : Thread nD τ).loc main_arg1)
  w := m ((c : Thread nD τ).loc main_arg2)
  b := m ((c : Thread nD τ).loc main_arg3)
  scale := m ((c : Thread nD τ).loc main_arg4)
  dy := fun _ => 0

theorem e0 : ∀ t : Fin cfg0.N, win0_0.index t = ![1, t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![0, 0] := (by decide +kernel : ∀ t : Fin grid0.N, _)
theorem e3 : ∀ t : Fin cfg0.N, win0_3.index t = ![t.val, 1] := (by decide +kernel : ∀ t : Fin grid0.N, _)

theorem lt8 (t : Fin cfg0.N) : t.val < 8 := lt_of_lt_of_eq t.isLt (show cfg0.N = 8 from N_0)

/-- Row `r` of the point's block, in the whole sequence. -/
def row (t : Fin cfg0.N) (r : Fin 512) : Fin 4096 := ⟨t.val * 512 + r.val, by have := lt8 t; omega⟩

theorem iblk0_x (c : Dev nD) (t : Fin cfg0.N) (r : Fin 512) (k : Fin 1024) :
    iblk m c 0 t (ix3 0 r k) = (args m c).x (ix3 0 (row t r) k) := by
  blk_simp [iblk, e0]
  rw [show (win0_0.blk t).view.emb (ix3 0 r k) = ix3 2 (row t r) k by blk_ext [e0, row]]
  unfold_abbrev_sides
  after_reads_at
  refine (congrFun (unary_result' ..) _).trans ?_
  after_reads_at

theorem iblk0_gate (c : Dev nD) (t : Fin cfg0.N) (r : Fin 512) (k : Fin 1024) :
    iblk m c 0 t (ix3 1 r k) = (args m c).gate (ix3 0 (row t r) k) := by
  blk_simp [iblk, e0]
  rw [show (win0_0.blk t).view.emb (ix3 1 r k) = ix3 3 (row t r) k by blk_ext [e0, row]]
  unfold_abbrev_sides
  after_reads_at
  refine (congrFun (unary_result' ..) _).trans ?_
  after_reads_at

theorem iblk1_apply (c : Dev nD) (t : Fin cfg0.N) (g : Fin 4) (i j : Fin 256) :
    iblk m c 1 t (ix3 g i j) = (args m c).w (ix3 g i j) := by
  blk_simp [iblk, e1]
  rw [show (win0_1.blk t).view.emb (ix3 g i j) = ix3 g i j by blk_ext [e1]]
  unfold_abbrev_sides
  after_reads_at

theorem iblk2_b (c : Dev nD) (t : Fin cfg0.N) (g : Fin 4) (l : Fin 256) :
    iblk m c 2 t (ix2 0 (lane g l)) = (args m c).b (ix2 g l) := by
  unfold lane
  blk_simp [iblk, e2]
  rw [show (win0_2.blk t).view.emb (ix2 0 ⟨g.val * 256 + l.val, by omega⟩) = ix2 0 ⟨g.val * 256 + l.val, by omega⟩ by blk_ext [e2]]
  unfold_abbrev_sides
  after_reads_at
  refine (congrFun (reshape_result' ..) _).trans ?_
  after_reads_at

theorem iblk2_scale (c : Dev nD) (t : Fin cfg0.N) (k : Fin 1024) :
    iblk m c 2 t (ix2 1 k) = (args m c).scale (ix1 k) := by
  blk_simp [iblk, e2]
  rw [show (win0_2.blk t).view.emb (ix2 1 k) = ix2 1 k by blk_ext [e2]]
  unfold_abbrev_sides
  after_reads_at
  refine (congrFun (reshape_result' ..) _).trans ?_
  after_reads_at

/-- The word of the block's number. -/
abbrev v0 (t : Fin cfg0.N) : BitVec 32 := BitVec.ofNat 32 (grid0.coords t 0).val

theorem coord (t : Fin cfg0.N) : (grid0.coords t 0).val = t.val :=
  (by decide +kernel : ∀ t : Fin grid0.N, (grid0.coords t 0).val = t.val) t

/-- The window's count at row `r` of the block, from the kernel's words. -/
theorem count_word (t : Fin cfg0.N) (r : Fin 512) (g : Fin 4) (w : BitVec 32) (hw : w.toNat = win g) :
    (FloatOps.sitofp (F := Ideal) FTy.f32 (IntOp.minsi (IntOp.addi (IntOp.addi (Scalar.muli (v0 t) 512#32) (BitVec.ofNat 32 r.val)) 1#32) w) : EReal)
      = count g (row t r) := by
  have ht := lt8 t
  have hn : (IntOp.addi (IntOp.addi (Scalar.muli (v0 t) 512#32) (BitVec.ofNat 32 r.val)) 1#32 : BitVec 32)
      = BitVec.ofNat 32 ((row t r).val + 1) := by
    apply BitVec.eq_of_toNat_eq
    show (((BitVec.ofNat 32 (grid0.coords t 0).val * 512#32) + BitVec.ofNat 32 r.val) + 1#32 : BitVec 32).toNat = _
    rw [coord]
    simp only [BitVec.toNat_add, BitVec.toNat_mul, BitVec.toNat_ofNat, row]
    omega
  rw [hn]
  exact Cert.Pool.count_of_word (row t r) g w hw

end Cert.PoolF
-- ==== Proof.PoolF.Pay.lean ====
/- The four groups' stored values, from what their reads hold. -/
module

public import proofs.«01_k».proof.Proof.PoolF.Blocks
public import Idealize.ShloMosaic.Lib.Pointwise

@[expose] public section

noncomputable section

namespace Cert.PoolF

open Cert.Kernel8Ideal Cert.Kernel8Ideal.Gen Idealize.ShloMosaic Idealize.ShloMosaic.TcCoe Idealize.SL.Sem Idealize.ShloMosaic.StableHlo
open Cert.Pool (Args lane win count inv back grp off back_step back_one back_shift)

/-- What a group reads: its lanes of the input, of the rows' buffer and of the gate, and its weights, bias and scale. -/
structure Feeds (A : Args) (t : Fin cfg0.N) (g : Fin 4) (x : Vec Ideal S1x512x256 .f32) (v : Vec Ideal S528x256 .f32)
    (w : Vec Ideal S1x256x256 .bf16) (b : Vec Ideal S1x256 .f32) (gate : Vec Ideal S1x512x256 .f32) (sc : Vec Ideal S1x256 .f32) : Prop where
  x : ∀ r l, x (ix3 0 r l) = A.x (ix3 0 (row t r) (lane g l))
  v : ∀ (R : Fin 528) l, v (ix2 R l) = A.xs (lane g l) (t.val * 512 + R.val)
  w : ∀ i l, w (ix3 0 i l) = A.w (ix3 g i l)
  b : ∀ l, b (ix2 0 l) = A.b (ix2 g l)
  gate : ∀ r l, gate (ix3 0 r l) = A.gate (ix3 0 (row t r) (lane g l))
  sc : ∀ l, sc (ix2 0 l) = A.scale (ix1 (lane g l))

variable {A : Args} {t : Fin cfg0.N} {x gate : Vec Ideal S1x512x256 .f32} {v : Vec Ideal S528x256 .f32} {w : Vec Ideal S1x256x256 .bf16}
  {b sc : Vec Ideal S1x256 .f32}

/-! ### Group 0: windows of 2 -/

theorem y0_apply (h : Feeds A t 0 x v w b gate sc) (r : Fin 512) (l : Fin 256) :
    k0_pay7 (k0_pay5 (grid0.coords t) x v w) (k0_pay6 b) gate sc (ix2 r l) = y A 0 (row t r) l := by
  let f : Fin 256 → ℕ → EReal := fun k n => A.xs (lane 0 k) (t.val * 512 + n)
  have h1 := fun k => back_step (f k) 1 1#32 rfl (by decide) v rotates_S528x256_d0 k (fun R _ => (h.v R k).trans (back_one (f k) R).symm)
  have hw := fun k => (h1 k ⟨16 + r.val, by omega⟩ (by show 2 ≤ 16 + r.val + 1; omega)).trans
    (back_shift (A.xs (lane 0 k)) (t.val * 512) 2 (16 + r.val) (by omega))
  have hr : (row t r).val + 16 = t.val * 512 + (16 + r.val) := by show t.val * 512 + r.val + 16 = _; omega
  dsimp only [k0_pay7, k0_pay5, k0_pay6]
  generalize (addf _ (dynamicRotate (0 : Fin 2) 1#32 none _ rotates_S528x256_d0) : FVec Ideal S528x256 .f32) = U at hw ⊢
  unfold y Args.z Args.pooled Args.sg
  pointwise
  rw [h.b, h.sc, h.gate, hr]
  refine congrArg (fun q => (q + A.b (ix2 0 l)) * A.scale (ix1 (lane 0 l)) * (A.gate (ix3 0 (row t r) (lane 0 l))
    * Ideal.div 1 (1 + Ideal.exp (0 - A.gate (ix3 0 (row t r) (lane 0 l)))))) (Finset.sum_congr rfl fun k _ => ?_)
  rw [h.x, h.w]
  refine congrArg (· * A.w (ix3 0 k l)) (congrArg (· - A.x (ix3 0 (row t r) (lane 0 k))) (congrArg₂ (· * ·) (hw k) ?_))
  exact congrArg (Ideal.div 1) (count_word t r 0 2#32 rfl)

/-! ### Group 1: windows of 4 -/

theorem y1_apply (h : Feeds A t 1 x v w b gate sc) (r : Fin 512) (l : Fin 256) :
    k0_pay10 (k0_pay8 x) (k0_pay9 (v0 t) v) w b gate sc (ix2 r l) = y A 1 (row t r) l := by
  let f : Fin 256 → ℕ → EReal := fun k n => A.xs (lane 1 k) (t.val * 512 + n)
  have h1 := fun k => back_step (f k) 1 1#32 rfl (by decide) v rotates_S528x256_d0 k (fun R _ => (h.v R k).trans (back_one (f k) R).symm)
  have h2 := fun k => back_step (f k) 2 2#32 rfl (by decide) _ rotates_S528x256_d0 k (h1 k)
  have hw := fun k => (h2 k ⟨16 + r.val, by omega⟩ (by show 4 ≤ 16 + r.val + 1; omega)).trans
    (back_shift (A.xs (lane 1 k)) (t.val * 512) 4 (16 + r.val) (by omega))
  have hr : (row t r).val + 16 = t.val * 512 + (16 + r.val) := by show t.val * 512 + r.val + 16 = _; omega
  dsimp only [k0_pay10, k0_pay9, k0_pay8]
  generalize (addf _ (dynamicRotate (0 : Fin 2) 2#32 none _ rotates_S528x256_d0) : FVec Ideal S528x256 .f32) = U at hw ⊢
  unfold y Args.z Args.pooled Args.sg
  pointwise
  rw [h.b, h.sc, h.gate, hr]
  refine congrArg (fun q => (q + A.b (ix2 1 l)) * A.scale (ix1 (lane 1 l)) * (A.gate (ix3 0 (row t r) (lane 1 l))
    * Ideal.div 1 (1 + Ideal.exp (0 - A.gate (ix3 0 (row t r) (lane 1 l)))))) (Finset.sum_congr rfl fun k _ => ?_)
  rw [h.x, h.w]
  refine congrArg (· * A.w (ix3 1 k l)) (congrArg (· - A.x (ix3 0 (row t r) (lane 1 k))) (congrArg₂ (· * ·) (hw k) ?_))
  exact congrArg (Ideal.div 1) (count_word t r 1 4#32 rfl)

/-! ### Group 2: windows of 8 -/

theorem y2_apply (h : Feeds A t 2 x v w b gate sc) (r : Fin 512) (l : Fin 256) :
    k0_pay13 (k0_pay11 x) (k0_pay12 (v0 t)) v w b gate sc (ix2 r l) = y A 2 (row t r) l := by
  let f : Fin 256 → ℕ → EReal := fun k n => A.xs (lane 2 k) (t.val * 512 + n)
  have h1 := fun k => back_step (f k) 1 1#32 rfl (by decide) v rotates_S528x256_d0 k (fun R _ => (h.v R k).trans (back_one (f k) R).symm)
  have h2 := fun k => back_step (f k) 2 2#32 rfl (by decide) _ rotates_S528x256_d0 k (h1 k)
  have h3 := fun k => back_step (f k) 4 4#32 rfl (by decide) _ rotates_S528x256_d0 k (h2 k)
  have hw := fun k => (h3 k ⟨16 + r.val, by omega⟩ (by show 8 ≤ 16 + r.val + 1; omega)).trans
    (back_shift (A.xs (lane 2 k)) (t.val * 512) 8 (16 + r.val) (by omega))
  have hr : (row t r).val + 16 = t.val * 512 + (16 + r.val) := by show t.val * 512 + r.val + 16 = _; omega
  dsimp only [k0_pay13, k0_pay12, k0_pay11]
  generalize (addf _ (dynamicRotate (0 : Fin 2) 4#32 none _ rotates_S528x256_d0) : FVec Ideal S528x256 .f32) = U at hw ⊢
  unfold y Args.z Args.pooled Args.sg
  pointwise
  rw [h.b, h.sc, h.gate, hr]
  refine congrArg (fun q => (q + A.b (ix2 2 l)) * A.scale (ix1 (lane 2 l)) * (A.gate (ix3 0 (row t r) (lane 2 l))
    * Ideal.div 1 (1 + Ideal.exp (0 - A.gate (ix3 0 (row t r) (lane 2 l)))))) (Finset.sum_congr rfl fun k _ => ?_)
  rw [h.x, h.w]
  refine congrArg (· * A.w (ix3 2 k l)) (congrArg (· - A.x (ix3 0 (row t r) (lane 2 k))) (congrArg₂ (· * ·) (hw k) ?_))
  exact congrArg (Ideal.div 1) (count_word t r 2 8#32 rfl)

/-! ### Group 3: windows of 16 -/

theorem y3_apply (h : Feeds A t 3 x v w b gate sc) (r : Fin 512) (l : Fin 256) :
    k0_pay1 (k0_pay14 (v0 t) x v w b) (k0_pay15 gate) sc (ix2 r l) = y A 3 (row t r) l := by
  let f : Fin 256 → ℕ → EReal := fun k n => A.xs (lane 3 k) (t.val * 512 + n)
  have h1 := fun k => back_step (f k) 1 1#32 rfl (by decide) v rotates_S528x256_d0 k (fun R _ => (h.v R k).trans (back_one (f k) R).symm)
  have h2 := fun k => back_step (f k) 2 2#32 rfl (by decide) _ rotates_S528x256_d0 k (h1 k)
  have h3 := fun k => back_step (f k) 4 4#32 rfl (by decide) _ rotates_S528x256_d0 k (h2 k)
  have h4 := fun k => back_step (f k) 8 8#32 rfl (by decide) _ rotates_S528x256_d0 k (h3 k)
  have hw := fun k => (h4 k ⟨16 + r.val, by omega⟩ (by show 16 ≤ 16 + r.val + 1; omega)).trans
    (back_shift (A.xs (lane 3 k)) (t.val * 512) 16 (16 + r.val) (by omega))
  have hr : (row t r).val + 16 = t.val * 512 + (16 + r.val) := by show t.val * 512 + r.val + 16 = _; omega
  dsimp only [k0_pay1, k0_pay14, k0_pay15]
  generalize (addf _ (dynamicRotate (0 : Fin 2) 8#32 none _ rotates_S528x256_d0) : FVec Ideal S528x256 .f32) = U at hw ⊢
  unfold y Args.z Args.pooled Args.sg
  pointwise
  rw [h.b, h.sc, h.gate, hr]
  refine congrArg (fun q => (q + A.b (ix2 3 l)) * A.scale (ix1 (lane 3 l)) * (A.gate (ix3 0 (row t r) (lane 3 l))
    * Ideal.div 1 (1 + Ideal.exp (0 - A.gate (ix3 0 (row t r) (lane 3 l)))))) (Finset.sum_congr rfl fun k _ => ?_)
  rw [h.x, h.w]
  refine congrArg (· * A.w (ix3 3 k l)) (congrArg (· - A.x (ix3 0 (row t r) (lane 3 k))) (congrArg₂ (· * ·) (hw k) ?_))
  exact congrArg (Ideal.div 1) (count_word t r 3 16#32 rfl)

end Cert.PoolF
-- ==== Proof.PoolF.Stores.lean ====
/- The stores of one grid point of the pool's forward call: the buffer of input rows and the four groups' lanes. -/
module

public import proofs.«01_k».proof.Proof.PoolF.Pay

@[expose] public section

noncomputable section

namespace Cert.PoolF

open Cert.Kernel8Ideal Cert.Kernel8Ideal.Gen Idealize.ShloMosaic Idealize.ShloMosaic.TcCoe Idealize.SL.Sem Idealize.ShloMosaic.StableHlo
open Cert.Pool (Args lane win count inv back grp off emb2 emb3)

variable (m : (ℓ : Loc nD τ sig) → Buf (Elt Ideal) ℓ)

/-- Group 0's reads. -/
abbrev lx0 (c : Dev nD) (t : Fin cfg0.N) := View.ld (iblk m c 0 t) (Rect.unit ![0, 0, 0] ![1, 512, 256] inb_S2x512x1024_S1x512x256_0_0_0)
@[inherit_doc lx0] abbrev lg0 (c : Dev nD) (t : Fin cfg0.N) := View.ld (iblk m c 0 t) (Rect.unit ![1, 0, 0] ![1, 512, 256] inb_S2x512x1024_S1x512x256_1_0_0)
@[inherit_doc lx0] abbrev lw0 (c : Dev nD) (t : Fin cfg0.N) := View.ld (iblk m c 1 t) (Rect.unit ![0, 0, 0] ![1, 256, 256] inb_S4x256x256_S1x256x256_0_0_0)
@[inherit_doc lx0] abbrev lb0 (c : Dev nD) (t : Fin cfg0.N) := View.ld (iblk m c 2 t) (Rect.unit ![0, 0] ![1, 256] inb_S8x1024_S1x256_0_0)
@[inherit_doc lx0] abbrev ls0 (c : Dev nD) (t : Fin cfg0.N) := View.ld (iblk m c 2 t) (Rect.unit ![1, 0] ![1, 256] inb_S8x1024_S1x256_1_0)

/-- Group 1's reads. -/
abbrev lx1 (c : Dev nD) (t : Fin cfg0.N) := View.ld (iblk m c 0 t) (Rect.unit ![0, 0, 256] ![1, 512, 256] inb_S2x512x1024_S1x512x256_0_0_256)
@[inherit_doc lx1] abbrev lg1 (c : Dev nD) (t : Fin cfg0.N) := View.ld (iblk m c 0 t) (Rect.unit ![1, 0, 256] ![1, 512, 256] inb_S2x512x1024_S1x512x256_1_0_256)
@[inherit_doc lx1] abbrev lw1 (c : Dev nD) (t : Fin cfg0.N) := View.ld (iblk m c 1 t) (Rect.unit ![1, 0, 0] ![1, 256, 256] inb_S4x256x256_S1x256x256_1_0_0)
@[inherit_doc lx1] abbrev lb1 (c : Dev nD) (t : Fin cfg0.N) := View.ld (iblk m c 2 t) (Rect.unit ![0, 256] ![1, 256] inb_S8x1024_S1x256_0_256)
@[inherit_doc lx1] abbrev ls1 (c : Dev nD) (t : Fin cfg0.N) := View.ld (iblk m c 2 t) (Rect.unit ![1, 256] ![1, 256] inb_S8x1024_S1x256_1_256)

/-- Group 2's reads. -/
abbrev lx2 (c : Dev nD) (t : Fin cfg0.N) := View.ld (iblk m c 0 t) (Rect.unit ![0, 0, 512] ![1, 512, 256] inb_S2x512x1024_S1x512x256_0_0_512)
@[inherit_doc lx2] abbrev lg2 (c : Dev nD) (t : Fin cfg0.N) := View.ld (iblk m c 0 t) (Rect.unit ![1, 0, 512] ![1, 512, 256] inb_S2x512x1024_S1x512x256_1_0_512)
@[inherit_doc lx2] abbrev lw2 (c : Dev nD) (t : Fin cfg0.N) := View.ld (iblk m c 1 t) (Rect.unit ![2, 0, 0] ![1, 256, 256] inb_S4x256x256_S1x256x256_2_0_0)
@[inherit_doc lx2] abbrev lb2 (c : Dev nD) (t : Fin cfg0.N) := View.ld (iblk m c 2 t) (Rect.unit ![0, 512] ![1, 256] inb_S8x1024_S1x256_0_512)
@[inherit_doc lx2] abbrev ls2 (c : Dev nD) (t : Fin cfg0.N) := View.ld (iblk m c 2 t) (Rect.unit ![1, 512] ![1, 256] inb_S8x1024_S1x256_1_512)

/-- Group 3's reads. -/
abbrev lx3 (c : Dev nD) (t : Fin cfg0.N) := View.ld (iblk m c 0 t) (Rect.unit ![0, 0, 768] ![1, 512, 256] inb_S2x512x1024_S1x512x256_0_0_768)
@[inherit_doc lx3] abbrev lg3 (c : Dev nD) (t : Fin cfg0.N) := View.ld (iblk m c 0 t) (Rect.unit ![1, 0, 768] ![1, 512, 256] inb_S2x512x1024_S1x512x256_1_0_768)
@[inherit_doc lx3] abbrev lw3 (c : Dev nD) (t : Fin cfg0.N) := View.ld (iblk m c 1 t) (Rect.unit ![3, 0, 0] ![1, 256, 256] inb_S4x256x256_S1x256x256_3_0_0)
@[inherit_doc lx3] abbrev lb3 (c : Dev nD) (t : Fin cfg0.N) := View.ld (iblk m c 2 t) (Rect.unit ![0, 768] ![1, 256] inb_S8x1024_S1x256_0_768)
@[inherit_doc lx3] abbrev ls3 (c : Dev nD) (t : Fin cfg0.N) := View.ld (iblk m c 2 t) (Rect.unit ![1, 768] ![1, 256] inb_S8x1024_S1x256_1_768)

/-- Group 0's store, from its read of the rows' buffer. -/
abbrev p0 (c : Dev nD) (t : Fin cfg0.N) (v : Vec Ideal S528x256 .f32) : View.Piece (Elt Ideal) S512x1024 .bf16 :=
  ⟨Rect.unit ![0, 0] ![512, 256] inb_S512x1024_S512x256_0_0, k0_pay7 (k0_pay5 (grid0.coords t) (lx0 m c t) v (lw0 m c t)) (k0_pay6 (lb0 m c t)) (lg0 m c t) (ls0 m c t)⟩

/-- Group 1's store, from its read of the rows' buffer. -/
abbrev p1 (c : Dev nD) (t : Fin cfg0.N) (v : Vec Ideal S528x256 .f32) : View.Piece (Elt Ideal) S512x1024 .bf16 :=
  ⟨Rect.unit ![0, 256] ![512, 256] inb_S512x1024_S512x256_0_256, k0_pay10 (k0_pay8 (lx1 m c t)) (k0_pay9 (v0 t) v) (lw1 m c t) (lb1 m c t) (lg1 m c t) (ls1 m c t)⟩

/-- Group 2's store, from its read of the rows' buffer. -/
abbrev p2 (c : Dev nD) (t : Fin cfg0.N) (v : Vec Ideal S528x256 .f32) : View.Piece (Elt Ideal) S512x1024 .bf16 :=
  ⟨Rect.unit ![0, 512] ![512, 256] inb_S512x1024_S512x256_0_512, k0_pay13 (k0_pay11 (lx2 m c t)) (k0_pay12 (v0 t)) v (lw2 m c t) (lb2 m c t) (lg2 m c t) (ls2 m c t)⟩

/-- Group 3's store, from its read of the rows' buffer. -/
abbrev p3 (c : Dev nD) (t : Fin cfg0.N) (v : Vec Ideal S528x256 .f32) : View.Piece (Elt Ideal) S512x1024 .bf16 :=
  ⟨Rect.unit ![0, 768] ![512, 256] inb_S512x1024_S512x256_0_768, k0_pay1 (k0_pay14 (v0 t) (lx3 m c t) v (lw3 m c t) (lb3 m c t)) (k0_pay15 (lg3 m c t)) (ls3 m c t)⟩

/-- The stores into the buffer of input rows: the block, above the sixteen rows before it. -/
abbrev xPiece (c : Dev nD) (t : Fin cfg0.N) : View.Piece (Elt Ideal) S528x1024 .f32 :=
  ⟨Rect.unit ![16, 0] ![512, 1024] inb_S528x1024_S512x1024_16_0,
    k0_pay4 (View.ld (iblk m c 0 t) (Rect.unit ![0, 0, 0] ![1, 512, 1024] inb_S2x512x1024_S1x512x1024_0_0_0))⟩
/-- The zeros before the first block. -/
abbrev xZero : View.Piece (Elt Ideal) S528x1024 .f32 := ⟨Rect.unit ![0, 0] ![16, 1024] inb_S528x1024_S16x1024_0_0, k0_pay3 (F := Ideal)⟩

/-- A group's read of that buffer, at the first block. -/
abbrev readA (c : Dev nD) (t : Fin cfg0.N) (o : ℕ) (inb : ∀ a, (![0, o] : Fin 2 → ℕ) a + (![528, 256] : Fin 2 → ℕ) a ≤ S528x1024.size a) : Vec Ideal S528x256 .f32 :=
  (View.whole cc0_scratch0).readCov [xPiece m c t, xZero] (Rect.unit (s := S528x1024) ![0, o] ![528, 256] inb).toLoadRect

/-- What the point before left. -/
abbrev prev (c : Dev nD) (t : Fin cfg0.N) := outsAt0 m c (t.val - 1) (Nat.lt_of_le_of_lt (Nat.sub_le _ _) t.isLt)

/-- The buffer after the block is stored, over what the point before left. -/
abbrev mid (c : Dev nD) (t : Fin cfg0.N) : Vec Ideal S528x1024 .f32 :=
  View.read (Elt Ideal) (View.whole cc0_scratch0)
    ((View.whole cc0_scratch0).writes (Elt Ideal) ((Memref.isWhole_whole cc0_scratch0).unread (prev m c t).2) [xPiece m c t])

/-- A group's read of it. -/
abbrev readB (c : Dev nD) (t : Fin cfg0.N) (o : ℕ) (inb : ∀ a, (![0, o] : Fin 2 → ℕ) a + (![528, 256] : Fin 2 → ℕ) a ≤ S528x1024.size a) : Vec Ideal S528x256 .f32 :=
  View.ld (mid m c t) (Rect.unit (s := S528x1024) ![0, o] ![528, 256] inb)

theorem y_A (c : Dev nD) (t : Fin cfg0.N) (h0 : t.val % 8 = 0) :
    (outsAt0 m c t.val t.isLt).1 = View.canon [p3 m c t (readA m c t 768 inb_S528x1024_S528x256_0_768),
      p2 m c t (readA m c t 512 inb_S528x1024_S528x256_0_512), p1 m c t (readA m c t 256 inb_S528x1024_S528x256_0_256),
      p0 m c t (readA m c t 0 inb_S528x1024_S528x256_0_0)] := by
  rw [outsAt0_A m c t h0]
  frame_out <;> rfl

theorem y_B (c : Dev nD) (t : Fin cfg0.N) (h0 : ¬t.val % 8 = 0) :
    (outsAt0 m c t.val t.isLt).1 = View.canon [p3 m c t (readB m c t 768 inb_S528x1024_S528x256_0_768),
      p2 m c t (readB m c t 512 inb_S528x1024_S528x256_0_512), p1 m c t (readB m c t 256 inb_S528x1024_S528x256_0_256),
      p0 m c t (readB m c t 0 inb_S528x1024_S528x256_0_0)] := by
  rw [outsAt0_B m c t h0]
  frame_out <;> rfl

/-- The sixteen rows carried to the next block. -/
abbrev xCarry (L : List (View.Piece (Elt Ideal) S528x1024 .f32)) : View.Piece (Elt Ideal) S528x1024 .f32 :=
  ⟨Rect.unit ![0, 0] ![16, 1024] inb_S528x1024_S16x1024_0_0,
    k0_pay2 ((View.whole cc0_scratch0).readCov L (Rect.unit ![512, 0] ![16, 1024] inb_S528x1024_S16x1024_512_0).toLoadRect)⟩

theorem x_A (c : Dev nD) (t : Fin cfg0.N) (h0 : t.val % 8 = 0) :
    (outsAt0 m c t.val t.isLt).2 = View.canon [xCarry [xPiece m c t, xZero], xPiece m c t, xZero] := by
  rw [outsAt0_A m c t h0]
  frame_out <;> rfl

theorem x_B (c : Dev nD) (t : Fin cfg0.N) (h0 : ¬t.val % 8 = 0) :
    (outsAt0 m c t.val t.isLt).2 = View.canon [xCarry [xPiece m c t], xPiece m c t] := by
  rw [outsAt0_B m c t h0]
  frame_out <;> rfl

end Cert.PoolF
-- ==== Proof.PoolF.Rows.lean ====
/- The buffer of input rows at each point: the block with the sixteen rows before it, carried from point to point; and the result. -/
module

public import proofs.«01_k».proof.Proof.PoolF.Stores

@[expose] public section

noncomputable section

namespace Cert.PoolF

open Cert.Kernel8Ideal Cert.Kernel8Ideal.Gen Idealize.ShloMosaic Idealize.ShloMosaic.TcCoe Idealize.SL.Sem Idealize.ShloMosaic.StableHlo
open Cert.Pool (Args lane win count inv back grp off emb2 emb3)

variable (m : (ℓ : Loc nD τ sig) → Buf (Elt Ideal) ℓ)

/-- Lane `j` of the input with sixteen zeros in front, at position `n`. -/
abbrev xsC (c : Dev nD) (j : Fin 1024) (n : ℕ) : EReal := (args m c).xs j n

theorem xPiece_apply (c : Dev nD) (t : Fin cfg0.N) (r : Fin 512) (j : Fin 1024) :
    (xPiece m c t).2 (ix2 r j) = xsC m c j (t.val * 512 + (16 + r.val)) := by
  have ht := lt8 t
  have hG : xsC m c j (t.val * 512 + (16 + r.val)) = (args m c).x (ix3 0 (row t r) j) := by
    unfold xsC Args.xs
    rw [dif_pos (by omega)]
    exact congrArg (fun s => (args m c).x (ix3 0 s j)) (Fin.ext (by show t.val * 512 + (16 + r.val) - 16 = t.val * 512 + r.val; omega))
  rw [hG]
  show k0_pay4 (View.ld (iblk m c 0 t) (Rect.unit ![0, 0, 0] ![1, 512, 1024] inb_S2x512x1024_S1x512x1024_0_0_0)) (ix2 r j) = _
  pointwise [k0_pay4]
  exact iblk0_x m c t r j

theorem x_emb (R : Fin 528) (hR : 16 ≤ R.val) (j : Fin 1024) : (ix2 R j : S528x1024.Idx)
    = (Rect.unit (s := S528x1024) ![16, 0] ![512, 1024] inb_S528x1024_S512x1024_16_0).emb (ix2 ⟨R.val - 16, by omega⟩ j) := by
  rw [emb2]
  refine congrArg₂ ix2 (Fin.ext ?_) (Fin.ext ?_)
  · show R.val = 16 + (R.val - 16); omega
  · show j.val = 0 + j.val; omega

theorem low_emb (R : Fin 528) (hR : R.val < 16) (j : Fin 1024) : (ix2 R j : S528x1024.Idx)
    = (Rect.unit (s := S528x1024) ![0, 0] ![16, 1024] inb_S528x1024_S16x1024_0_0).emb (ix2 ⟨R.val, hR⟩ j) := by
  rw [emb2]
  refine congrArg₂ ix2 (Fin.ext ?_) (Fin.ext ?_)
  · show R.val = 0 + R.val; omega
  · show j.val = 0 + j.val; omega

theorem x_not_mem (R : Fin 528) (hR : R.val < 16) (j : Fin 1024) :
    (ix2 R j : S528x1024.Idx) ∉ (Rect.unit (s := S528x1024) ![16, 0] ![512, 1024] inb_S528x1024_S512x1024_16_0).set := by
  rw [Rect.mem_set_unit]
  intro h
  have := (h 0).1
  change 16 ≤ R.val at this
  omega

theorem x_hi (c : Dev nD) (t : Fin cfg0.N) (L : List (View.Piece (Elt Ideal) S528x1024 .f32)) (R : Fin 528) (hR : 16 ≤ R.val) (j : Fin 1024) :
    View.canon (xPiece m c t :: L) (ix2 R j) = xsC m c j (t.val * 512 + R) := by
  rw [x_emb R hR j, View.canon_cons_emb]
  refine (xPiece_apply m c t ⟨R.val - 16, by omega⟩ j).trans ?_
  rw [show 16 + (⟨R.val - 16, by omega⟩ : Fin 512).val = R.val by show 16 + (R.val - 16) = R.val; omega]

theorem rowsA (c : Dev nD) (t : Fin cfg0.N) (h0 : t.val % 8 = 0) (R : Fin 528) (j : Fin 1024) :
    View.canon [xPiece m c t, xZero] (ix2 R j) = xsC m c j (t.val * 512 + R) := by
  have ht := lt8 t
  by_cases hR : 16 ≤ R.val
  · exact x_hi m c t _ R hR j
  · have hR' : R.val < 16 := Nat.lt_of_not_le hR
    have hn : (ix2 R j : S528x1024.Idx) ∉ (xPiece m c t).1.set := x_not_mem R hR' j
    rw [View.canon_cons_of_not_mem _ _ hn, low_emb R hR' j, View.canon_cons_emb]
    unfold xsC Args.xs
    rw [dif_neg (by omega)]
    pointwise [k0_pay3]

theorem rowsB (c : Dev nD) (t : Fin cfg0.N)
    (hp : ∀ (r : Fin 16) (j : Fin 1024), (prev m c t).2 (ix2 ⟨r.val, by omega⟩ j) = xsC m c j (t.val * 512 + r.val))
    (R : Fin 528) (j : Fin 1024) : mid m c t (ix2 R j) = xsC m c j (t.val * 512 + R) := by
  by_cases hR : 16 ≤ R.val
  · refine (View.read_writes_apply_of_pieces _ _ (fun y => xsC m c ⟨(y 1).val, (y 1).isLt⟩ (t.val * 512 + (y 0).val)) _ ?_ _ ?_).trans rfl
    · simp only [List.forall_mem_cons]
      refine ⟨fun x => ?_, by simp⟩
      obtain ⟨r, l, rfl⟩ : ∃ (r : Fin 512) (l : Fin 1024), x = (ix2 r l : S512x1024.Idx) := ⟨_, _, eq_ix2 x⟩
      refine (xPiece_apply m c t r l).trans ?_
      rw [emb2]
      show _ = xsC m c ⟨0 + l.val, _⟩ (t.val * 512 + (16 + r.val))
      exact congrArg (fun l => xsC m c l (t.val * 512 + (16 + r.val))) (Fin.ext (Nat.zero_add l.val).symm)
    · refine ⟨xPiece m c t, by simp, ?_⟩
      rw [Rect.mem_set_unit]
      intro a
      fin_cases a
      · exact ⟨hR, R.isLt⟩
      · exact ⟨Nat.zero_le _, by show j.val < 0 + 1024; omega⟩
  · refine (View.read_writes_apply_of_forall_not_mem _ _ _ _ fun p hp => ?_).trans ?_
    · obtain rfl : p = xPiece m c t := by simpa using hp
      exact x_not_mem R (by omega) j
    · rw [read_unread_whole]
      exact hp ⟨R.val, by omega⟩ j

theorem readA_apply (c : Dev nD) (t : Fin cfg0.N) (h0 : t.val % 8 = 0) (g : Fin 4) (o : ℕ) (ho : o = g.val * 256) (inb) (R : Fin 528) (l : Fin 256) :
    readA m c t o inb (ix2 R l) = (args m c).xs (lane g l) (t.val * 512 + R.val) := by
  subst ho
  unfold readA
  rw [View.readCov_eq_canon']
  show View.canon _ ((Rect.unit (s := S528x1024) ![0, g.val * 256] ![528, 256] inb).emb (ix2 R l)) = _
  rw [emb2, rowsA m c t h0]
  exact congrArg (fun n => (args m c).xs (lane g l) (t.val * 512 + n)) (Nat.zero_add R.val)

theorem readB_apply (c : Dev nD) (t : Fin cfg0.N)
    (hp : ∀ (r : Fin 16) (j : Fin 1024), (prev m c t).2 (ix2 ⟨r.val, by omega⟩ j) = xsC m c j (t.val * 512 + r.val))
    (g : Fin 4) (o : ℕ) (ho : o = g.val * 256) (inb) (R : Fin 528) (l : Fin 256) :
    readB m c t o inb (ix2 R l) = (args m c).xs (lane g l) (t.val * 512 + R.val) := by
  subst ho
  unfold readB
  show mid m c t ((Rect.unit (s := S528x1024) ![0, g.val * 256] ![528, 256] inb).emb (ix2 R l)) = _
  rw [emb2, rowsB m c t hp]
  exact congrArg (fun n => (args m c).xs (lane g l) (t.val * 512 + n)) (Nat.zero_add R.val)

theorem copy_apply (V : Vec Ideal S16x1024 .f32) (r : Fin 16) (j : Fin 1024) : k0_pay2 V (ix2 r j) = V (ix2 r j) := by
  pointwise [k0_pay2]

theorem tail_apply (c : Dev nD) (t : Fin cfg0.N) (L : List (View.Piece (Elt Ideal) S528x1024 .f32)) (r : Fin 16) (j : Fin 1024) :
    (View.whole cc0_scratch0).readCov (xPiece m c t :: L) (Rect.unit (s := S528x1024) ![512, 0] ![16, 1024] inb_S528x1024_S16x1024_512_0).toLoadRect (ix2 r j)
      = xsC m c j (t.val * 512 + (512 + r.val)) := by
  rw [View.readCov_eq_canon']
  show View.canon (xPiece m c t :: L) ((Rect.unit (s := S528x1024) ![512, 0] ![16, 1024] inb_S528x1024_S16x1024_512_0).emb (ix2 r j)) = _
  rw [emb2, x_hi m c t _ _ (by show 16 ≤ 512 + r.val; omega)]
  exact congrArg (fun l => xsC m c l (t.val * 512 + (512 + r.val))) (Fin.ext (Nat.zero_add j.val))

theorem carry_rows (c : Dev nD) (t : Fin cfg0.N) (L L' : List (View.Piece (Elt Ideal) S528x1024 .f32)) (r : Fin 16) (j : Fin 1024) :
    View.canon (xCarry (xPiece m c t :: L) :: L') (ix2 ⟨r.val, by omega⟩ j) = xsC m c j (t.val * 512 + (512 + r.val)) := by
  rw [low_emb _ (by exact r.isLt) j, View.canon_cons_emb]
  refine (copy_apply _ _ _).trans ?_
  exact tail_apply m c t L ⟨r.val, r.isLt⟩ j

theorem carried (c : Dev nD) (t : Fin cfg0.N) (r : Fin 16) (j : Fin 1024) :
    (outsAt0 m c t.val t.isLt).2 (ix2 ⟨r.val, by omega⟩ j) = xsC m c j (t.val * 512 + (512 + r.val)) := by
  by_cases h0 : t.val % 8 = 0
  · rw [x_A m c t h0]; exact carry_rows m c t _ _ r j
  · rw [x_B m c t h0]; exact carry_rows m c t _ _ r j

theorem carried_prev (c : Dev nD) (t : Fin cfg0.N) (h0 : ¬t.val % 8 = 0) (r : Fin 16) (j : Fin 1024) :
    (prev m c t).2 (ix2 ⟨r.val, by omega⟩ j) = xsC m c j (t.val * 512 + r.val) := by
  refine (carried m c ⟨t.val - 1, Nat.lt_of_le_of_lt (Nat.sub_le _ _) t.isLt⟩ r j).trans ?_
  exact congrArg (xsC m c j) (by show (t.val - 1) * 512 + (512 + r.val) = t.val * 512 + r.val; omega)

/-! ### What each group reads -/

theorem feeds0 (c : Dev nD) (t : Fin cfg0.N) (v : Vec Ideal S528x256 .f32)
    (hv : ∀ (R : Fin 528) l, v (ix2 R l) = (args m c).xs (lane 0 l) (t.val * 512 + R.val)) :
    Feeds (args m c) t 0 (lx0 m c t) v (lw0 m c t) (lb0 m c t) (lg0 m c t) (ls0 m c t) where
  x r l := by pointwise [lx0]; rw [iblk0_x, Cert.Pool.lane0]
  v := hv
  w i l := by pointwise [lw0]; exact iblk1_apply m c t 0 i l
  b l := by pointwise [lb0]; rw [Cert.Pool.lane0, iblk2_b]
  gate r l := by pointwise [lg0]; rw [iblk0_gate, Cert.Pool.lane0]
  sc l := by pointwise [ls0]; rw [iblk2_scale, Cert.Pool.lane0]

theorem feeds1 (c : Dev nD) (t : Fin cfg0.N) (v : Vec Ideal S528x256 .f32)
    (hv : ∀ (R : Fin 528) l, v (ix2 R l) = (args m c).xs (lane 1 l) (t.val * 512 + R.val)) :
    Feeds (args m c) t 1 (lx1 m c t) v (lw1 m c t) (lb1 m c t) (lg1 m c t) (ls1 m c t) where
  x r l := by pointwise [lx1]; rw [iblk0_x, Cert.Pool.lane1]
  v := hv
  w i l := by pointwise [lw1]; exact iblk1_apply m c t 1 i l
  b l := by pointwise [lb1]; rw [Cert.Pool.lane1, iblk2_b]
  gate r l := by pointwise [lg1]; rw [iblk0_gate, Cert.Pool.lane1]
  sc l := by pointwise [ls1]; rw [iblk2_scale, Cert.Pool.lane1]

theorem feeds2 (c : Dev nD) (t : Fin cfg0.N) (v : Vec Ideal S528x256 .f32)
    (hv : ∀ (R : Fin 528) l, v (ix2 R l) = (args m c).xs (lane 2 l) (t.val * 512 + R.val)) :
    Feeds (args m c) t 2 (lx2 m c t) v (lw2 m c t) (lb2 m c t) (lg2 m c t) (ls2 m c t) where
  x r l := by pointwise [lx2]; rw [iblk0_x, Cert.Pool.lane2]
  v := hv
  w i l := by pointwise [lw2]; exact iblk1_apply m c t 2 i l
  b l := by pointwise [lb2]; rw [Cert.Pool.lane2, iblk2_b]
  gate r l := by pointwise [lg2]; rw [iblk0_gate, Cert.Pool.lane2]
  sc l := by pointwise [ls2]; rw [iblk2_scale, Cert.Pool.lane2]

theorem feeds3 (c : Dev nD) (t : Fin cfg0.N) (v : Vec Ideal S528x256 .f32)
    (hv : ∀ (R : Fin 528) l, v (ix2 R l) = (args m c).xs (lane 3 l) (t.val * 512 + R.val)) :
    Feeds (args m c) t 3 (lx3 m c t) v (lw3 m c t) (lb3 m c t) (lg3 m c t) (ls3 m c t) where
  x r l := by pointwise [lx3]; rw [iblk0_x, Cert.Pool.lane3]
  v := hv
  w i l := by pointwise [lw3]; exact iblk1_apply m c t 3 i l
  b l := by pointwise [lb3]; rw [Cert.Pool.lane3, iblk2_b]
  gate r l := by pointwise [lg3]; rw [iblk0_gate, Cert.Pool.lane3]
  sc l := by pointwise [ls3]; rw [iblk2_scale, Cert.Pool.lane3]

/-- The block's entries, as one function of the index. -/
def blockF (c : Dev nD) (t : Fin cfg0.N) (i : S512x1024.Idx) : EReal :=
  y (args m c) (grp ⟨(i 1).val, (i 1).isLt⟩) (row t ⟨(i 0).val, (i 0).isLt⟩) (off ⟨(i 1).val, (i 1).isLt⟩)

theorem blockF_emb (c : Dev nD) (t : Fin cfg0.N) (g : Fin 4) (o : ℕ) (ho : o = g.val * 256)
    (inb : ∀ a, (![0, o] : Fin 2 → ℕ) a + (![512, 256] : Fin 2 → ℕ) a ≤ S512x1024.size a) (r : Fin 512) (l : Fin 256) :
    blockF m c t ((Rect.unit (s := S512x1024) ![0, o] ![512, 256] inb).emb (ix2 r l)) = y (args m c) g (row t r) l := by
  subst ho
  rw [emb2]
  show y (args m c) (grp (lane g l)) (row t ⟨0 + r.val, _⟩) (off (lane g l)) = _
  rw [Cert.Pool.grp_lane, Cert.Pool.off_lane]
  exact congrArg (fun q => y (args m c) g (row t q) l) (Fin.ext (Nat.zero_add r.val))

theorem pieces_apply (c : Dev nD) (t : Fin cfg0.N) (v0 v1 v2 v3 : Vec Ideal S528x256 .f32)
    (h0 : ∀ (R : Fin 528) l, v0 (ix2 R l) = (args m c).xs (lane 0 l) (t.val * 512 + R.val))
    (h1 : ∀ (R : Fin 528) l, v1 (ix2 R l) = (args m c).xs (lane 1 l) (t.val * 512 + R.val))
    (h2 : ∀ (R : Fin 528) l, v2 (ix2 R l) = (args m c).xs (lane 2 l) (t.val * 512 + R.val))
    (h3 : ∀ (R : Fin 528) l, v3 (ix2 R l) = (args m c).xs (lane 3 l) (t.val * 512 + R.val)) (i : S512x1024.Idx) :
    View.canon [p3 m c t v3, p2 m c t v2, p1 m c t v1, p0 m c t v0] i = blockF m c t i := by
  refine View.canon_apply_of_pieces (S := S512x1024) (Val := Elt Ideal) (e := .bf16) (blockF m c t) _ ?_ i ?_
  · simp only [List.forall_mem_cons]
    refine ⟨fun x => ?_, fun x => ?_, fun x => ?_, fun x => ?_, by simp⟩
    · obtain ⟨r, l, rfl⟩ : ∃ (r : Fin 512) (l : Fin 256), x = (ix2 r l : S512x256.Idx) := ⟨_, _, eq_ix2 x⟩
      exact (y3_apply (feeds3 m c t v3 h3) r l).trans (blockF_emb m c t 3 768 rfl _ r l).symm
    · obtain ⟨r, l, rfl⟩ : ∃ (r : Fin 512) (l : Fin 256), x = (ix2 r l : S512x256.Idx) := ⟨_, _, eq_ix2 x⟩
      exact (y2_apply (feeds2 m c t v2 h2) r l).trans (blockF_emb m c t 2 512 rfl _ r l).symm
    · obtain ⟨r, l, rfl⟩ : ∃ (r : Fin 512) (l : Fin 256), x = (ix2 r l : S512x256.Idx) := ⟨_, _, eq_ix2 x⟩
      exact (y1_apply (feeds1 m c t v1 h1) r l).trans (blockF_emb m c t 1 256 rfl _ r l).symm
    · obtain ⟨r, l, rfl⟩ : ∃ (r : Fin 512) (l : Fin 256), x = (ix2 r l : S512x256.Idx) := ⟨_, _, eq_ix2 x⟩
      exact (y0_apply (feeds0 m c t v0 h0) r l).trans (blockF_emb m c t 0 0 rfl _ r l).symm
  · obtain ⟨r, L, rfl⟩ : ∃ (r : Fin 512) (L : Fin 1024), i = (ix2 r L : S512x1024.Idx) := ⟨_, _, eq_ix2 i⟩
    have hL : L.val / 256 = 0 ∨ L.val / 256 = 1 ∨ L.val / 256 = 2 ∨ L.val / 256 = 3 := by omega
    rcases hL with h | h | h | h
    · refine ⟨p0 m c t v0, by simp, ?_⟩
      rw [Rect.mem_set_unit]
      intro a
      fin_cases a
      · exact ⟨Nat.zero_le _, by show r.val < 0 + 512; omega⟩
      · exact ⟨by show 0 ≤ L.val; omega, by show L.val < 0 + 256; omega⟩
    · refine ⟨p1 m c t v1, by simp, ?_⟩
      rw [Rect.mem_set_unit]
      intro a
      fin_cases a
      · exact ⟨Nat.zero_le _, by show r.val < 0 + 512; omega⟩
      · exact ⟨by show 256 ≤ L.val; omega, by show L.val < 256 + 256; omega⟩
    · refine ⟨p2 m c t v2, by simp, ?_⟩
      rw [Rect.mem_set_unit]
      intro a
      fin_cases a
      · exact ⟨Nat.zero_le _, by show r.val < 0 + 512; omega⟩
      · exact ⟨by show 512 ≤ L.val; omega, by show L.val < 512 + 256; omega⟩
    · refine ⟨p3 m c t v3, by simp, ?_⟩
      rw [Rect.mem_set_unit]
      intro a
      fin_cases a
      · exact ⟨Nat.zero_le _, by show r.val < 0 + 512; omega⟩
      · exact ⟨by show 768 ≤ L.val; omega, by show L.val < 768 + 256; omega⟩

theorem block_apply (c : Dev nD) (t : Fin cfg0.N) (i : S512x1024.Idx) : (outsAt0 m c t.val t.isLt).1 i = blockF m c t i := by
  by_cases h0 : t.val % 8 = 0
  · rw [y_A m c t h0]
    exact pieces_apply m c t _ _ _ _ (readA_apply m c t h0 0 _ rfl _) (readA_apply m c t h0 1 _ rfl _) (readA_apply m c t h0 2 _ rfl _)
      (readA_apply m c t h0 3 _ rfl _) i
  · rw [y_B m c t h0]
    have hp := carried_prev m c t h0
    exact pieces_apply m c t _ _ _ _ (readB_apply m c t hp 0 _ rfl _) (readB_apply m c t hp 1 _ rfl _) (readB_apply m c t hp 2 _ rfl _)
      (readB_apply m c t hp 3 _ rfl _) i

end Cert.PoolF
-- ==== Proof.PoolF.Ref.lean ====
/- The reference of the pool's forward call, read element by element where the input is finite. -/
module

public import proofs.«01_k».proof.Proof.Pool.Reals
public import proofs.«01_k».proof.Proof.PoolF.Blocks
public import proofs.«01_k».proof.Proof.Gen.Reference8Ideal.Run
public import proofs.«01_k».proof.Proof.Shared.Sums
public import proofs.«01_k».proof.Proof.Shared.Window
public import Idealize.ShloMosaic.Lib.Pointwise
public import Idealize.ShloMosaic.Lib.Tactic.CleanTypes

@[expose] public section

noncomputable section

namespace Cert.PoolF

open Cert.Reference8Ideal Cert.Reference8Ideal.Gen Cert.Reference8Ideal.Value Idealize.ShloMosaic Idealize.ShloMosaic.TcCoe
  Idealize.SL.Sem Idealize.ShloMosaic.StableHlo
open Cert.Pool (Args lane win count inv back grp off)

/-- The mean by a division of a difference of running sums, where the input is finite. -/
theorem pooled_eq (A : Args) (hx : ∀ s L, ∃ r : ℝ, A.x (ix3 0 s L) = (r : EReal)) (g : Fin 4) (s : Fin 4096) (l : Fin 256) :
    Ideal.div ((∑ k ∈ Finset.range (s.val + 1), A.xf (lane g l) k)
      - (if s.val < win g then 0 else ∑ k ∈ Finset.range (s.val - win g + 1), A.xf (lane g l) k)) (count g s) - A.x (ix3 0 s (lane g l))
      = A.pooled g s l := by
  have hB : Args.Real { x := A.x, gate := fun _ => 0, w := fun _ => 0, b := fun _ => 0, scale := fun _ => 0, dy := fun _ => 0 } :=
    ⟨hx, fun _ _ => ⟨0, rfl⟩, fun _ _ _ => ⟨0, rfl⟩, fun _ _ => ⟨0, rfl⟩, fun _ => ⟨0, rfl⟩, fun _ _ => ⟨0, rfl⟩⟩
  exact Cert.Pool.Args.pooled_eq hB g s l

/-- The running sums of the input, group by group. -/
def rsum (x : FVec Ideal S1x4096x1024 .f32) : FVec Ideal S1x4096x4x256 .f32 :=
  Host.reduceWindowAdd ![1, 4096, 1, 1] ![1, 1, 1, 1] ![0, 4095, 0, 0] ![0, 0, 0, 0] (shapeCast _ x shapeCasts_S1x4096x1024_S1x4096x4x256) (broadcastInDim S_ ![] bcast_S_S_ (constant S_ .f32 0x00000000#32)) reduceWindows_S1x4096x4x256_S1x4096x4x256_w1s1p0_0_w4096s1p4095_0_w1s1p0_0_w1s1p0_0 h_S_

/-- Group 0 of the means: a running sum less an earlier one, over the count. -/
def part0 (S : FVec Ideal S1x4096x4x256 .f32) : FVec Ideal S1x4096x256 .f32 :=
  Host.divf (subf (shapeCast _ (extractStridedSlice S1x4096x1x256 ![0, 0, 0, 0] S slices_S1x4096x4x256_S1x4096x1x256_0_0_0_0) shapeCasts_S1x4096x1x256_S1x4096x256) (concatenate S1x4096x256 1 [⟨S1x2x256, (broadcastInDim S1x2x256 ![] bcast_S_S1x2x256 (constant S_ .f32 0x00000000#32))⟩, ⟨S1x4094x256, (extractStridedSlice S1x4094x256 ![0, 0, 0] (shapeCast _ (extractStridedSlice S1x4096x1x256 ![0, 0, 0, 0] S slices_S1x4096x4x256_S1x4096x1x256_0_0_0_0) shapeCasts_S1x4096x1x256_S1x4096x256) slices_S1x4096x256_S1x4094x256_0_0_0)⟩] concatenates_S1x2x256_S1x4094x256_S1x4096x256_d1)) (broadcastInDim S1x4096x256 ![0, 1, 2] bcast_S1x4096x1_S1x4096x256_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 2#32))))))

/-- Group 1 of the means: a running sum less an earlier one, over the count. -/
def part1 (S : FVec Ideal S1x4096x4x256 .f32) : FVec Ideal S1x4096x256 .f32 :=
  Host.divf (subf (shapeCast _ (extractStridedSlice S1x4096x1x256 ![0, 0, 1, 0] S slices_S1x4096x4x256_S1x4096x1x256_0_0_1_0) shapeCasts_S1x4096x1x256_S1x4096x256) (concatenate S1x4096x256 1 [⟨S1x4x256, (broadcastInDim S1x4x256 ![] bcast_S_S1x4x256 (constant S_ .f32 0x00000000#32))⟩, ⟨S1x4092x256, (extractStridedSlice S1x4092x256 ![0, 0, 0] (shapeCast _ (extractStridedSlice S1x4096x1x256 ![0, 0, 1, 0] S slices_S1x4096x4x256_S1x4096x1x256_0_0_1_0) shapeCasts_S1x4096x1x256_S1x4096x256) slices_S1x4096x256_S1x4092x256_0_0_0)⟩] concatenates_S1x4x256_S1x4092x256_S1x4096x256_d1)) (broadcastInDim S1x4096x256 ![0, 1, 2] bcast_S1x4096x1_S1x4096x256_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 4#32))))))

/-- Group 2 of the means: a running sum less an earlier one, over the count. -/
def part2 (S : FVec Ideal S1x4096x4x256 .f32) : FVec Ideal S1x4096x256 .f32 :=
  Host.divf (subf (shapeCast _ (extractStridedSlice S1x4096x1x256 ![0, 0, 2, 0] S slices_S1x4096x4x256_S1x4096x1x256_0_0_2_0) shapeCasts_S1x4096x1x256_S1x4096x256) (concatenate S1x4096x256 1 [⟨S1x8x256, (broadcastInDim S1x8x256 ![] bcast_S_S1x8x256 (constant S_ .f32 0x00000000#32))⟩, ⟨S1x4088x256, (extractStridedSlice S1x4088x256 ![0, 0, 0] (shapeCast _ (extractStridedSlice S1x4096x1x256 ![0, 0, 2, 0] S slices_S1x4096x4x256_S1x4096x1x256_0_0_2_0) shapeCasts_S1x4096x1x256_S1x4096x256) slices_S1x4096x256_S1x4088x256_0_0_0)⟩] concatenates_S1x8x256_S1x4088x256_S1x4096x256_d1)) (broadcastInDim S1x4096x256 ![0, 1, 2] bcast_S1x4096x1_S1x4096x256_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 8#32))))))

/-- Group 3 of the means: a running sum less an earlier one, over the count. -/
def part3 (S : FVec Ideal S1x4096x4x256 .f32) : FVec Ideal S1x4096x256 .f32 :=
  Host.divf (subf (shapeCast _ (extractStridedSlice S1x4096x1x256 ![0, 0, 3, 0] S slices_S1x4096x4x256_S1x4096x1x256_0_0_3_0) shapeCasts_S1x4096x1x256_S1x4096x256) (concatenate S1x4096x256 1 [⟨S1x16x256, (broadcastInDim S1x16x256 ![] bcast_S_S1x16x256 (constant S_ .f32 0x00000000#32))⟩, ⟨S1x4080x256, (extractStridedSlice S1x4080x256 ![0, 0, 0] (shapeCast _ (extractStridedSlice S1x4096x1x256 ![0, 0, 3, 0] S slices_S1x4096x4x256_S1x4096x1x256_0_0_3_0) shapeCasts_S1x4096x1x256_S1x4096x256) slices_S1x4096x256_S1x4080x256_0_0_0)⟩] concatenates_S1x16x256_S1x4080x256_S1x4096x256_d1)) (broadcastInDim S1x4096x256 ![0, 1, 2] bcast_S1x4096x1_S1x4096x256_0_1_2 (broadcastInDim S1x4096x1 ![1] bcast_S4096_S1x4096x1_1 (sitofp .f32 (minsi (addi (iotaInDim S4096 32 0) (broadcastInDim S4096 ![] bcast_S_S4096 (constantI S_ 32 1#32))) (broadcastInDim S4096 ![] bcast_S_S4096 (constantI S_ 32 16#32))))))

/-- The means less the input. -/
def rpool (S : FVec Ideal S1x4096x4x256 .f32) (x : FVec Ideal S1x4096x1024 .f32) : FVec Ideal S1x4096x4x256 .f32 :=
  subf ((concatenate S1x4096x4x256 2 [⟨S1x4096x1x256, ((broadcastInDim S1x4096x1x256 ![0, 1, 3] bcast_S1x4096x256_S1x4096x1x256_0_1_3 (part0 S)) : (⟨S1x4096x1x256, .f32⟩ : BufTy).Contents (Elt Ideal))⟩, ⟨S1x4096x1x256, ((broadcastInDim S1x4096x1x256 ![0, 1, 3] bcast_S1x4096x256_S1x4096x1x256_0_1_3 (part1 S)) : (⟨S1x4096x1x256, .f32⟩ : BufTy).Contents (Elt Ideal))⟩, ⟨S1x4096x1x256, ((broadcastInDim S1x4096x1x256 ![0, 1, 3] bcast_S1x4096x256_S1x4096x1x256_0_1_3 (part2 S)) : (⟨S1x4096x1x256, .f32⟩ : BufTy).Contents (Elt Ideal))⟩, ⟨S1x4096x1x256, ((broadcastInDim S1x4096x1x256 ![0, 1, 3] bcast_S1x4096x256_S1x4096x1x256_0_1_3 (part3 S)) : (⟨S1x4096x1x256, .f32⟩ : BufTy).Contents (Elt Ideal))⟩] concatenates_S1x4096x1x256_S1x4096x1x256_S1x4096x1x256_S1x4096x1x256_S1x4096x4x256_d2 : (⟨S1x4096x4x256, .f32⟩ : BufTy).Contents (Elt Ideal))) (shapeCast _ x shapeCasts_S1x4096x1024_S1x4096x4x256)

/-- The linear maps of them, with their biases. -/
def rz (P : FVec Ideal S1x4096x4x256 .f32) (w : FVec Ideal S4x256x256 .f32) (b : FVec Ideal S4x256 .f32) : FVec Ideal S1x4096x4x256 .f32 :=
  addf (transpose S1x4096x4x256 [2, 3, 0, 1] (Host.dotGeneral dot_S4x256x256_S1x4096x4x256_S4x256x1x4096_1_3_2_01_0_2 none w P) transposes_S4x256x1x4096_S1x4096x4x256_2_3_0_1) (broadcastInDim S1x4096x4x256 ![0, 1, 2, 3] bcast_S1x1x4x256_S1x4096x4x256_0_1_2_3 (broadcastInDim S1x1x4x256 ![2, 3] bcast_S4x256_S1x1x4x256_2_3 b))

/-- The scaled and gated result, beside zeros. -/
def rout (Z : FVec Ideal S1x4096x4x256 .f32) (scale : FVec Ideal S1024 .f32) (gate : FVec Ideal S1x4096x1024 .f32) : FVec Ideal S4096x2048 .bf16 :=
  truncf .bf16 (concatenate S4096x2048 1 [⟨S4096x1024, (broadcastInDim S4096x1024 ![] bcast_S_S4096x1024 (constant S_ .f32 0x00000000#32))⟩, ⟨S4096x1024, (shapeCast _ (mulf (mulf (shapeCast _ Z shapeCasts_S1x4096x4x256_S1x4096x1024) (broadcastInDim S1x4096x1024 ![0, 1, 2] bcast_S1x1x1024_S1x4096x1024_0_1_2 (broadcastInDim S1x1x1024 ![2] bcast_S1024_S1x1x1024_2 scale))) (mulf gate (Host.divf (broadcastInDim S1x4096x1024 ![] bcast_S_S1x4096x1024 (constant S_ .f32 0x3F800000#32)) (addf (broadcastInDim S1x4096x1024 ![] bcast_S_S1x4096x1024 (constant S_ .f32 0x3F800000#32)) (Host.exp (Host.negf gate)))))) shapeCasts_S1x4096x1024_S4096x1024)⟩] concatenates_S4096x1024_S4096x1024_S4096x2048_d1) bitsLt_bf16_f32

/-- The count of positions, from the words of the position. -/
theorem ref_word (s : Fin 4096) (g : Fin 4) (w : BitVec 32) (hw : w.toNat = win g) :
    (FloatOps.sitofp (F := Ideal) FTy.f32 (IntOp.minsi (IntOp.addi (BitVec.ofNat 32 s.val) 1#32) w) : EReal) = count g s := by
  rw [← Cert.Pool.count_of_word s g w hw, show IntOp.addi (BitVec.ofNat 32 s.val) 1#32 = BitVec.ofNat 32 (s.val + 1) from ?_]
  apply BitVec.eq_of_toNat_eq
  show (BitVec.ofNat 32 s.val + 1#32 : BitVec 32).toNat = _
  simp only [BitVec.toNat_add, BitVec.toNat_ofNat]
  omega

variable (A : Args)

theorem x4_apply (s : Fin 4096) (g : Fin 4) (l : Fin 256) :
    (shapeCast S1x4096x4x256 A.x shapeCasts_S1x4096x1024_S1x4096x4x256 : FVec Ideal S1x4096x4x256 .f32) (ix4 0 s g l) = A.x (ix3 0 s (lane g l)) := by
  unfold lane
  pointwise

theorem rsum_apply (s : Fin 4096) (g : Fin 4) (l : Fin 256) : rsum A.x (ix4 0 s g l)
    = ∑ k ∈ Finset.range (s.val + 1), A.xf (lane g l) k := by
  unfold rsum
  refine Shared.host_sum_to 4095 _ rfl _ _ _ Ideal.ofBits_zero_f32 _ s g l fun k => ?_
  rw [x4_apply]
  unfold Args.xf
  rw [dif_pos k.isLt]

theorem rpool_apply (S : FVec Ideal S1x4096x4x256 .f32) (hS : ∀ (s : Fin 4096) (g : Fin 4) (l : Fin 256), S (ix4 0 s g l)
    = ∑ k ∈ Finset.range (s.val + 1), A.xf (lane g l) k) (hx : ∀ s L, ∃ r : ℝ, A.x (ix3 0 s L) = (r : EReal))
    (s : Fin 4096) (g : Fin 4) (l : Fin 256) : rpool S A.x (ix4 0 s g l) = A.pooled g s l := by
  rw [← pooled_eq A hx]
  match g with
  | 0 =>
    unfold rpool part0
    pointwise [hS, x4_apply]
    rw [ref_word s 0 _ rfl]
    rfl
  | 1 =>
    unfold rpool part1
    pointwise [hS, x4_apply]
    rw [ref_word s 1 _ rfl]
    rfl
  | 2 =>
    unfold rpool part2
    pointwise [hS, x4_apply]
    rw [ref_word s 2 _ rfl]
    rfl
  | 3 =>
    unfold rpool part3
    pointwise [hS, x4_apply]
    rw [ref_word s 3 _ rfl]
    rfl

theorem rz_apply (P : FVec Ideal S1x4096x4x256 .f32) (hP : ∀ (s : Fin 4096) (g : Fin 4) (l : Fin 256), P (ix4 0 s g l) = A.pooled g s l)
    (s : Fin 4096) (g : Fin 4) (l : Fin 256) : rz P A.w A.b (ix4 0 s g l) = A.z g s l := by
  unfold rz
  pointwise [hP]
  exact congrArg (· + A.b (ix2 g l)) (Finset.sum_congr rfl fun i _ => mul_comm _ _)

theorem rout_apply (Z : FVec Ideal S1x4096x4x256 .f32) (hZ : ∀ (s : Fin 4096) (g : Fin 4) (l : Fin 256), Z (ix4 0 s g l) = A.z g s l)
    (s : Fin 4096) (L : Fin 2048) : rout Z A.scale A.gate (ix2 s L) = out A s L := by
  unfold rout out
  pointwise
  split_ifs with h h'
  · rfl
  · refine Eq.trans ?_ (congrArg (fun u => Cert.Pool.Args.z A _ s _ * A.scale (ix1 u) * (A.gate (ix3 0 s u) * A.sg s u)) (Cert.Pool.lane_grp _).symm)
    unfold Args.sg
    refine congrArg₂ (· * ·) (congrArg (· * _) (hZ s _ _)) ?_
    rw [sub_eq_add_neg, zero_add]
  · exact absurd rfl h'

variable (m : (ℓ : Loc nD τ sig) → Buf (Elt Ideal) ℓ) (ρ : Dev nD → PrngReg)

/-- The reference's five argument arrays. -/
def argsR (c : Dev nD) : Args where
  x := m ((c : Thread nD τ).loc main_arg0)
  gate := m ((c : Thread nD τ).loc main_arg1)
  w := m ((c : Thread nD τ).loc main_arg2)
  b := m ((c : Thread nD τ).loc main_arg3)
  scale := m ((c : Thread nD τ).loc main_arg4)
  dy := fun _ => 0

theorem ref_eq (c : Dev nD) : res_main_v79 m c
    = rout (rz (rpool (rsum (argsR m c).x) (argsR m c).x) (argsR m c).w (argsR m c).b) (argsR m c).scale (argsR m c).gate := rfl

theorem ref_apply (c : Dev nD) (hx : ∀ s L, ∃ r : ℝ, (argsR m c).x (ix3 0 s L) = (r : EReal)) (s : Fin 4096) (L : Fin 2048) :
    res_main_v79 m c (ix2 s L) = out (argsR m c) s L := by
  rw [ref_eq]
  exact rout_apply _ _ (rz_apply _ _ (rpool_apply _ _ (rsum_apply _) hx)) s L

end Cert.PoolF
-- ==== Proof.PoolF.Value.lean ====
/- The value claim of the pool's forward call: on arguments whose input is finite, the kernel and the reference return
   the same array. -/
module

public import proofs.«01_k».proof.Defs
public import proofs.«01_k».proof.Proof.PoolF.Rows
public import proofs.«01_k».proof.Proof.PoolF.Ref
public import proofs.«01_k».proof.Proof.Shared.Finite

@[expose] public section

noncomputable section

namespace Cert.PoolF

open Idealize.ShloMosaic Idealize.ShloMosaic.TcCoe Idealize.SL.Sem Idealize.ShloMosaic.StableHlo

section Kernel

open Cert.Kernel8Ideal Cert.Kernel8Ideal.Gen

/-- The result array: its right half is written block by block, its left half stays the zeros it was. -/
theorem arr3 (m : (ℓ : Loc nD τ sig) → Buf (Elt Ideal) ℓ) (c : Dev nD) : (dats m 0 c).arrAt 3 cfg0.N
    = (fun i => out (args m c) (i 0) (i 1) : FVec Ideal S4096x2048 .bf16) := by
  refine (dats m 0 c).arrAt_eq_of_coversWhere_of_agree 3 _ (fun β => β (1 : Fin 2) = 1) (by decide +kernel) (fun t hf y => ?_) (fun j hj => ?_)
  · blk_simp
    rw [after0_3]
    obtain ⟨r, l, rfl⟩ : ∃ (r : Fin 512) (l : Fin 1024), y = (ix2 r l : S512x1024.Idx) := ⟨_, _, eq_ix2 y⟩
    rw [show (win0_3.blk t).view.emb (ix2 r l) = ix2 (row t r) ⟨1024 + l.val, by omega⟩ by blk_ext [e3, row]]
    refine (block_apply m c t _).trans ?_
    show _ = out (args m c) (row t r) ⟨1024 + l.val, _⟩
    unfold out
    rw [dif_neg (by show ¬1024 + l.val < 1024; omega)]
    have hl : (⟨1024 + l.val - 1024, by omega⟩ : Fin 1024) = l := Fin.ext (by show 1024 + l.val - 1024 = l.val; omega)
    exact congrArg (fun L : Fin 1024 => y (args m c) (Cert.Pool.grp L) (row t r) (Cert.Pool.off L)) hl.symm
  · obtain ⟨s, l, rfl⟩ : ∃ (s : Fin 4096) (l : Fin 2048), j = (ix2 s l : S4096x2048.Idx) := ⟨_, _, eq_ix2 j⟩
    blk_simp [Pipeline.Window.cell_apply] at hj
    have hk : l.val < 1024 := by omega
    refine (congrFun (A_eq m c 3) _).trans ?_
    rw [show (cfg0.win 3).arr.view.emb (ix2 s l) = (ix2 s l : S4096x2048.Idx) by blk_ext [e3]]
    refine Eq.trans (b := Ideal.ofBits .bf16 0#16) ?_ (Eq.symm (a := out (args m c) s l) ?_)
    · unfold_abbrev_sides
      after_reads_at
      show Ideal.ofBits .bf16 0#16 = 0
      simp [Ideal.ofBits, Ideal.ieee]
    · unfold out
      rw [dif_pos hk]
      simp [Ideal.ofBits, Ideal.ieee]

end Kernel

/-- The shape fact the precondition states. -/
instance preFacts : Cert.Pre_finite_pool_fwd.Facts where
  bcast_S_S1x4096x1024 := by decide

/-- The precondition makes the input real. -/
theorem reals (m : (ℓ : Loc Cert.Kernel8Ideal.nD Cert.Kernel8Ideal.τ Cert.Kernel8Ideal.sig) → Buf (Elt Ideal) ℓ)
    (h : Cert.Pre_Kernel8Ideal_finite_pool_fwd m) (c : Dev Cert.Kernel8Ideal.nD) (s : Fin 4096) (L : Fin 1024) :
    ∃ r : ℝ, (args m c).x (ix3 0 s L) = (r : EReal) :=
  Shared.real_of_abs_lt (congrFun (h c) (ix3 0 s L))

/-- The reference's frame: it changes no argument, and its signature has no semaphore. -/
theorem frameR [Cert.Reference8Ideal.Facts] : Cert.quiescent_Reference8Ideal := fun m ρ _ =>
  (θ_run _ _ _).mono (fun r h => ⟨fun c => (h c).2, sem_eq_zero_of_no_sems (by decide) r.2⟩)
    (Cert.Reference8Ideal.Value.run m ρ)

/-- The value claim of the pool's forward call. -/
theorem value [hK : Cert.Kernel8Ideal.Facts] [hR : Cert.Reference8Ideal.Facts] [hP : Cert.Pre_finite_pool_fwd.Facts] :
    Cert.algebraic_Kernel8Ideal_Reference8Ideal_pre_finite_pool_fwd := by
  intro m ρ m' ρ' hpre hargs
  have hab : ∀ c, argsR m' c = args m c := fun c => by
    obtain ⟨a0, a1, a2, a3, a4⟩ := hargs c
    unfold argsR args
    rw [a0, a1, a2, a3, a4]
  refine ⟨fun c => (fun i => out (args m c) (i 0) (i 1) : FVec Ideal _ .bf16), ?_, ?_⟩
  · exact (θ_run _ _ _).mono (fun r h c => ⟨(h c).1.trans (arr3 m c), (h c).2⟩) (Cert.Kernel8Ideal.Value.run_blocks m ρ)
  · refine (θ_run _ _ _).mono (fun r h c => ⟨(h c).1.trans (funext fun i => ?_), (h c).2⟩) (Cert.Reference8Ideal.Value.run m' ρ')
    refine (congrArg (Cert.Reference8Ideal.Value.res_main_v79 m' c) (eq_ix2 i)).trans ?_
    refine (ref_apply m' c (fun s L => ?_) (i 0) (i 1)).trans ?_
    · rw [hab c]; exact reals m hpre c s L
    · rw [hab c]

end Cert.PoolF
-- ==== Proof.OutprojM.Spec.lean ====
/- What the forward output projection of a layer before the last computes, written once over the argument arrays read as
   extended reals: the projection, and the layer's output. -/
module

public import proofs.«01_k».proof.Kernel9Ideal
public import Idealize.ShloMosaic.Lib.Pointwise

@[expose] public section

noncomputable section

namespace Cert.OutprojM

open Cert.Kernel9Ideal Idealize.ShloMosaic

/-- The arrays: the layer's input `x`, the mixer outputs `yc`, the modulation, the norm's weight `g`, and the
projection's weights `w`. -/
structure Args where
  x : FVec Ideal S1x4096x1024 .f32
  yc : FVec Ideal S1x4096x2048 .f32
  mod : FVec Ideal S1x3072 .f32
  g : FVec Ideal S1024 .f32
  w : FVec Ideal S2048x1024 .f32

/-- The width 1024 of a row, as the programs' literal reads it. -/
abbrev width : EReal := Ideal.ofBits .f32 0x44800000#32

/-- The norm's epsilon, as the programs' literal reads it. -/
abbrev eps : EReal := Ideal.ofBits .f32 0x358637BD#32

/-- Weight row `i` of plane `k`. -/
def wrow (k : Fin 4) (i : Fin 512) : Fin 2048 := ⟨k.val * 512 + i.val, by omega⟩

namespace Args

variable (a : Args)

/-- The projection before its norm. -/
def y (s : Fin 4096) (l : Fin 1024) : EReal := ∑ k : Fin 2048, a.yc (ix3 0 s k) * a.w (ix2 k l)

/-- One over the root mean square of row `s` of the projection. -/
def rs (s : Fin 4096) : EReal := Ideal.rsqrt (Ideal.div (∑ k : Fin 1024, a.y s k * a.y s k) width + eps)

/-- The modulation's gate. -/
def gate (l : Fin 1024) : EReal := a.mod (ix2 0 ⟨2048 + l.val, by omega⟩)

/-- The layer's output. -/
def xo (s : Fin 4096) (l : Fin 1024) : EReal := a.x (ix3 0 s l) + a.gate l * (a.y s l * a.rs s * a.g (ix1 l))

end Args

end Cert.OutprojM

end
-- ==== Proof.OutprojM.Blocks.lean ====
/- What each grid point of the forward output projection reads of the argument arrays, and the projection and the
   layer's output it computes from that, up to the two arrays after the run. -/
module

public import proofs.«01_k».proof.Proof.Gen.Kernel9Ideal.Value
public import proofs.«01_k».proof.Proof.OutprojM.Spec
public import Idealize.ShloMosaic.Lib.Pointwise
public import Idealize.ShloMosaic.Lib.StableHlo.ReadAt
public import Idealize.ShloMosaic.Lib.Pipeline.ValueKit

@[expose] public section

noncomputable section

namespace Cert.OutprojM

open Cert.Kernel9Ideal Cert.Kernel9Ideal.Gen Idealize.ShloMosaic Idealize.ShloMosaic.TcCoe Idealize.SL.Sem Idealize.ShloMosaic.StableHlo

variable (m : (ℓ : Loc nD τ sig) → Buf (Elt Ideal) ℓ)

theorem e0 : ∀ t : Fin cfg0.N, win0_0.index t = ![t.val, 0] := (by decide +kernel : ∀ t : Fin grid0.N, _)
theorem e1 : ∀ t : Fin cfg0.N, win0_1.index t = ![0, 0, 0] := (by decide +kernel : ∀ t : Fin grid0.N, _)
theorem e2 : ∀ t : Fin cfg0.N, win0_2.index t = ![t.val, 0] := (by decide +kernel : ∀ t : Fin grid0.N, _)
theorem e3 : ∀ t : Fin cfg0.N, win0_3.index t = ![0, 0] := (by decide +kernel : ∀ t : Fin grid0.N, _)
theorem e4 : ∀ t : Fin cfg0.N, win0_4.index t = ![t.val, 0] := (by decide +kernel : ∀ t : Fin grid0.N, _)
theorem e5 : ∀ t : Fin cfg0.N, win0_5.index t = ![t.val, 0] := (by decide +kernel : ∀ t : Fin grid0.N, _)

/-- The arrays the kernel program is given. -/
def args (c : Dev nD) : Args where
  x := m ((c : Thread nD τ).loc main_arg0)
  yc := m ((c : Thread nD τ).loc main_arg1)
  mod := m ((c : Thread nD τ).loc main_arg2)
  g := m ((c : Thread nD τ).loc main_arg3)
  w := m ((c : Thread nD τ).loc main_arg4)

theorem lt8 (t : Fin cfg0.N) : t.val < 8 := lt_of_lt_of_eq t.isLt (show cfg0.N = 8 from N_0)

/-- Row `r` of block `t`, in the whole sequence. -/
def row (t : Fin cfg0.N) (r : Fin 512) : Fin 4096 := ⟨t.val * 512 + r.val, by have := lt8 t; omega⟩

theorem iblk0_apply (c : Dev nD) (t : Fin cfg0.N) (r : Fin 512) (j : Fin 2048) :
    iblk m c 0 t (ix2 r j) = (args m c).yc (ix3 0 (row t r) j) := by
  blk_simp [iblk, e0]
  rw [show (win0_0.blk t).view.emb (ix2 r j) = ix2 (row t r) j by blk_ext [e0, row]]
  unfold_abbrev_sides
  after_reads_at

theorem iblk1_apply (c : Dev nD) (t : Fin cfg0.N) (k : Fin 4) (i : Fin 512) (l : Fin 1024) :
    iblk m c 1 t (ix3 k i l) = (args m c).w (ix2 (wrow k i) l) := by
  blk_simp [iblk, e1]
  rw [show (win0_1.blk t).view.emb (ix3 k i l) = ix3 k i l by blk_ext [e1]]
  unfold_abbrev_sides
  after_reads_at
  rfl

theorem iblk2_apply (c : Dev nD) (t : Fin cfg0.N) (r : Fin 512) (l : Fin 1024) :
    iblk m c 2 t (ix2 r l) = (args m c).x (ix3 0 (row t r) l) := by
  blk_simp [iblk, e2]
  rw [show (win0_2.blk t).view.emb (ix2 r l) = ix2 (row t r) l by blk_ext [e2, row]]
  unfold_abbrev_sides
  after_reads_at

theorem iblk3_gate (c : Dev nD) (t : Fin cfg0.N) (l : Fin 1024) :
    iblk m c 3 t (ix2 2 l) = (args m c).gate l := by
  blk_simp [iblk, e3]
  rw [show (win0_3.blk t).view.emb (ix2 2 l) = ix2 2 l by blk_ext [e3]]
  unfold_abbrev_sides
  after_reads_at
  refine (congrFun (reshape_result' ..) _).trans ?_
  after_reads_at
  rfl

theorem iblk3_weight (c : Dev nD) (t : Fin cfg0.N) (l : Fin 1024) :
    iblk m c 3 t (ix2 4 l) = (args m c).g (ix1 l) := by
  blk_simp [iblk, e3]
  rw [show (win0_3.blk t).view.emb (ix2 4 l) = ix2 4 l by blk_ext [e3]]
  unfold_abbrev_sides
  after_reads_at
  refine (congrFun (reshape_result' ..) _).trans ?_
  after_reads_at

/-- The rows of the parameter block the point reads. -/
abbrev gateRow (c : Dev nD) (t : Fin cfg0.N) : Vec Ideal S1x1024 .f32 :=
  View.ld (iblk m c 3 t) (Rect.unit ![2, 0] ![1, 1024] inb_S8x1024_S1x1024_2_0)
@[inherit_doc gateRow] abbrev weightRow (c : Dev nD) (t : Fin cfg0.N) : Vec Ideal S1x1024 .f32 :=
  View.ld (iblk m c 3 t) (Rect.unit ![4, 0] ![1, 1024] inb_S8x1024_S1x1024_4_0)

/-- The column blocks of the mixer outputs, and the planes of the weights. -/
abbrev cols0 (c : Dev nD) (t : Fin cfg0.N) : Vec Ideal S512x512 .bf16 :=
  View.ld (iblk m c 0 t) (Rect.unit ![0, 0] ![512, 512] inb_S512x2048_S512x512_0_0)
@[inherit_doc cols0] abbrev cols1 (c : Dev nD) (t : Fin cfg0.N) : Vec Ideal S512x512 .bf16 :=
  View.ld (iblk m c 0 t) (Rect.unit ![0, 512] ![512, 512] inb_S512x2048_S512x512_0_512)
@[inherit_doc cols0] abbrev cols2 (c : Dev nD) (t : Fin cfg0.N) : Vec Ideal S512x512 .bf16 :=
  View.ld (iblk m c 0 t) (Rect.unit ![0, 1024] ![512, 512] inb_S512x2048_S512x512_0_1024)
@[inherit_doc cols0] abbrev cols3 (c : Dev nD) (t : Fin cfg0.N) : Vec Ideal S512x512 .bf16 :=
  View.ld (iblk m c 0 t) (Rect.unit ![0, 1536] ![512, 512] inb_S512x2048_S512x512_0_1536)
@[inherit_doc cols0] abbrev plane0 (c : Dev nD) (t : Fin cfg0.N) : Vec Ideal S1x512x1024 .bf16 :=
  View.ld (iblk m c 1 t) (Rect.unit ![0, 0, 0] ![1, 512, 1024] inb_S4x512x1024_S1x512x1024_0_0_0)
@[inherit_doc cols0] abbrev plane1 (c : Dev nD) (t : Fin cfg0.N) : Vec Ideal S1x512x1024 .bf16 :=
  View.ld (iblk m c 1 t) (Rect.unit ![1, 0, 0] ![1, 512, 1024] inb_S4x512x1024_S1x512x1024_1_0_0)
@[inherit_doc cols0] abbrev plane2 (c : Dev nD) (t : Fin cfg0.N) : Vec Ideal S1x512x1024 .bf16 :=
  View.ld (iblk m c 1 t) (Rect.unit ![2, 0, 0] ![1, 512, 1024] inb_S4x512x1024_S1x512x1024_2_0_0)
@[inherit_doc cols0] abbrev plane3 (c : Dev nD) (t : Fin cfg0.N) : Vec Ideal S1x512x1024 .bf16 :=
  View.ld (iblk m c 1 t) (Rect.unit ![3, 0, 0] ![1, 512, 1024] inb_S4x512x1024_S1x512x1024_3_0_0)

/-- The projection of a point's rows: four products added. -/
def yB (c : Dev nD) (t : Fin cfg0.N) : FVec Ideal S512x1024 .f32 :=
  k0_pay2 (cols0 m c t) (plane0 m c t) (cols1 m c t) (plane1 m c t) (cols2 m c t) (plane2 m c t) (cols3 m c t) (plane3 m c t)

theorem yB_apply (c : Dev nD) (t : Fin cfg0.N) (r : Fin 512) (l : Fin 1024) :
    yB m c t (ix2 r l) = (args m c).y (row t r) l := by
  unfold yB Args.y
  rw [Fin.sum_univ_tiles 4 512 rfl, Fin.sum_univ_four]
  pointwise [k0_pay2, cols0, cols1, cols2, cols3, plane0, plane1, plane2, plane3]
  simp only [iblk0_apply, iblk1_apply]
  rfl

/-- The mean square of a point's rows of the projection. -/
def msB (c : Dev nD) (t : Fin cfg0.N) : FVec Ideal S512x1 .f32 :=
  k0_pay4 (cols0 m c t) (plane0 m c t) (cols1 m c t) (plane1 m c t) (cols2 m c t) (plane2 m c t) (cols3 m c t) (plane3 m c t)

theorem msB_apply (c : Dev nD) (t : Fin cfg0.N) (r : Fin 512) :
    msB m c t (ix2 r 0) = Ideal.div (∑ k : Fin 1024, (args m c).y (row t r) k * (args m c).y (row t r) k) width := by
  unfold msB k0_pay4
  rw [← yB]
  pointwise
  simp only [yB_apply]

/-- The layer's output at a point's rows. -/
def xoB (c : Dev nD) (t : Fin cfg0.N) : FVec Ideal S512x1024 .f32 :=
  k0_pay1 (yB m c t) (msB m c t) (iblk m c 2 t) (gateRow m c t) (weightRow m c t)

theorem xoB_apply (c : Dev nD) (t : Fin cfg0.N) (r : Fin 512) (l : Fin 1024) :
    xoB m c t (ix2 r l) = (args m c).xo (row t r) l := by
  unfold xoB
  pointwise [k0_pay1, gateRow, weightRow]
  simp only [iblk2_apply, iblk3_gate, iblk3_weight, yB_apply, msB_apply]
  rfl

/-- The rows a point stores of the projection. -/
theorem y_eq (c : Dev nD) (t : Fin cfg0.N) : out0_4 (iblk m c 0 t) (iblk m c 1 t) (iblk m c 2 t) (iblk m c 3 t)
    = truncf .bf16 (yB m c t) bitsLt_bf16_f32 := by
  unfold out0_4
  frame_out <;> rfl

/-- The rows a point stores of the layer's output. -/
theorem xo_eq (c : Dev nD) (t : Fin cfg0.N) : out0_5 (iblk m c 0 t) (iblk m c 1 t) (iblk m c 2 t) (iblk m c 3 t)
    = xoB m c t := by
  unfold out0_5
  frame_out <;> rfl

/-- The projection: every row block is flushed at its own point. -/
theorem arr4 (c : Dev nD) : (dats m 0 c).arrAt 4 cfg0.N
    = (fun i => (args m c).y (i 0) (i 1) : FVec Ideal S4096x1024 .bf16) := by
  refine (dats m 0 c).arrAt_eq_of_covers 4 _ (by decide +kernel) fun t hf y => ?_
  blk_simp
  rw [after0_4]
  obtain ⟨r, l, rfl⟩ : ∃ (r : Fin 512) (l : Fin 1024), y = (ix2 r l : S512x1024.Idx) := ⟨_, _, eq_ix2 y⟩
  rw [show (win0_4.blk t).view.emb (ix2 r l) = ix2 (row t r) l by blk_ext [e4, row], y_eq]
  exact yB_apply m c t r l

/-- The layer's output, likewise. -/
theorem arr5 (c : Dev nD) : (dats m 0 c).arrAt 5 cfg0.N
    = (fun i => (args m c).xo (i 0) (i 1) : FVec Ideal S4096x1024 .f32) := by
  refine (dats m 0 c).arrAt_eq_of_covers 5 _ (by decide +kernel) fun t hf y => ?_
  blk_simp
  rw [after0_5]
  obtain ⟨r, l, rfl⟩ : ∃ (r : Fin 512) (l : Fin 1024), y = (ix2 r l : S512x1024.Idx) := ⟨_, _, eq_ix2 y⟩
  rw [show (win0_5.blk t).view.emb (ix2 r l) = ix2 (row t r) l by blk_ext [e5, row], xo_eq]
  exact xoB_apply m c t r l

end Cert.OutprojM

end
-- ==== Proof.OutprojM.Value.lean ====
/- The value claim of the forward output projection of a layer before the last: both programs leave the projection and the
   layer's output, whatever the arguments. -/
module

public import proofs.«01_k».proof.Defs
public import proofs.«01_k».proof.Proof.OutprojM.Blocks
public import proofs.«01_k».proof.Proof.Gen.Reference9Ideal.Run

@[expose] public section

noncomputable section

namespace Cert.OutprojM

open Cert.Reference9Ideal Cert.Reference9Ideal.Gen Idealize.ShloMosaic Idealize.ShloMosaic.TcCoe Idealize.SL.Sem

variable (m : (ℓ : Loc nD τ sig) → Buf (Elt Ideal) ℓ) (ρ : Dev nD → PrngReg)

/-- The arrays the reference is given. -/
def rargs (c : Dev nD) : Args where
  x := m ((c : Thread nD τ).loc main_arg0)
  yc := m ((c : Thread nD τ).loc main_arg1)
  mod := m ((c : Thread nD τ).loc main_arg2)
  g := m ((c : Thread nD τ).loc main_arg3)
  w := m ((c : Thread nD τ).loc main_arg4)

/-- The reference run: the two results as functions of the arguments, the arguments kept. -/
theorem run : θ_run defs (onTc (τ := τ) (main (F := Ideal))) ⟨m, fun _ => 0, ρ⟩ fun r => ∀ c : Dev nD,
    r.2.mem ((c.tc : Thread nD τ).loc main_v22) = (fun i => (rargs m c).y (i 0) (i 1) : FVec Ideal S4096x1024 .bf16)
      ∧ r.2.mem ((c.tc : Thread nD τ).loc main_v23) = (fun i => (rargs m c).xo (i 0) (i 1) : FVec Ideal S4096x1024 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) := by
  refine (θ_run defs _ _).mono (fun r h c => ⟨(h c).1.trans (funext fun i => ?_), (h c).2.1.trans (funext fun i => ?_),
    (h c).2.2⟩) (Value.run m ρ)
  · rw [eq_ix2 i]
    generalize i 0 = s, i 1 = l
    clear h
    change truncf .bf16 (shapeCast S4096x1024 (s := S1x4096x1024) _ _) _ (ix2 s l) = _
    pointwise
    rfl
  · rw [eq_ix2 i]
    generalize i 0 = s, i 1 = l
    clear h
    change shapeCast S4096x1024 (s := S1x4096x1024) _ _ (ix2 s l) = _
    pointwise
    rfl

end Cert.OutprojM

namespace Cert.OutprojM

open Idealize.ShloMosaic Idealize.SL.Sem

/-- The reference's frame: it changes no argument, and its signature has no semaphore. -/
theorem frameR [Cert.Reference9Ideal.Facts] : Cert.quiescent_Reference9Ideal := fun m ρ _ =>
  (θ_run _ _ _).mono (fun r h => ⟨fun c => (h c).2.2, sem_eq_zero_of_no_sems (by decide) r.2⟩)
    (Cert.Reference9Ideal.Value.run m ρ)

/-- The value claim. -/
theorem value [hK : Cert.Kernel9Ideal.Facts] [hR : Cert.Reference9Ideal.Facts] :
    Cert.algebraic_Kernel9Ideal_Reference9Ideal := by
  intro m ρ m' ρ' _ hargs
  refine ⟨fun c => (fun i => (args m c).y (i 0) (i 1) : FVec Ideal _ .bf16),
    fun c => (fun i => (args m c).xo (i 0) (i 1) : FVec Ideal _ .f32), ?_, ?_⟩
  · refine (θ_run _ _ _).mono (fun r h c => ⟨(h c).1.trans (arr4 m c), (h c).2.1.trans (arr5 m c), (h c).2.2⟩)
      (Cert.Kernel9Ideal.Value.run_blocks m ρ)
  · have e : ∀ c, rargs m' c = args m c := fun c => by
      obtain ⟨a0, a1, a2, a3, a4⟩ := hargs c
      unfold rargs args
      rw [a0, a1, a2, a3, a4]
    refine (θ_run _ _ _).mono (fun r h c => ?_) (run m' ρ')
    have h := h c
    rw [e] at h
    exact h

end Cert.OutprojM

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Value
public import proofs.«01_k».proof.Proof.Gen.ReferenceIdeal.Run
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import Idealize.ShloMosaic.Adequacy
public import Idealize.ShloMosaic.Init
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Kernel3
public import proofs.«01_k».proof.Proof.Gen.Kernel3.Skeleton
public import proofs.«01_k».proof.Proof.Gen.Kernel3.Launch
public import proofs.«01_k».proof.Proof.Gen.Kernel3.Points
public import proofs.«01_k».proof.Proof.Gen.Kernel3.Frame
public import proofs.«01_k».proof.Proof.Gen.Kernel3Ideal
public import proofs.«01_k».proof.Proof.Gen.Kernel3Ideal.Skeleton
public import proofs.«01_k».proof.Proof.Gen.Kernel3Ideal.Launch
public import proofs.«01_k».proof.Proof.Gen.Kernel3Ideal.Points
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Kernel4
public import proofs.«01_k».proof.Proof.Gen.Kernel4.Skeleton
public import proofs.«01_k».proof.Proof.Gen.Kernel4.Launch
public import proofs.«01_k».proof.Proof.Gen.Kernel4.Points
public import proofs.«01_k».proof.Proof.Gen.Kernel4.Frame
public import proofs.«01_k».proof.Proof.Gen.Kernel4Ideal
public import proofs.«01_k».proof.Proof.Gen.Kernel4Ideal.Skeleton
public import proofs.«01_k».proof.Proof.Gen.Kernel4Ideal.Launch
public import proofs.«01_k».proof.Proof.Gen.Kernel4Ideal.Points
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Kernel5
public import proofs.«01_k».proof.Proof.Gen.Kernel5.Skeleton
public import proofs.«01_k».proof.Proof.Gen.Kernel5.Launch
public import proofs.«01_k».proof.Proof.Gen.Kernel5.Points
public import proofs.«01_k».proof.Proof.Gen.Kernel5.Frame
public import proofs.«01_k».proof.Proof.Gen.Kernel5Ideal
public import proofs.«01_k».proof.Proof.Gen.Kernel5Ideal.Skeleton
public import proofs.«01_k».proof.Proof.Gen.Kernel5Ideal.Launch
public import proofs.«01_k».proof.Proof.Gen.Kernel5Ideal.Points
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Kernel6
public import proofs.«01_k».proof.Proof.Gen.Kernel6.Skeleton
public import proofs.«01_k».proof.Proof.Gen.Kernel6.Launch
public import proofs.«01_k».proof.Proof.Gen.Kernel6.Points
public import proofs.«01_k».proof.Proof.Gen.Kernel6.Frame
public import proofs.«01_k».proof.Proof.Gen.Kernel6Ideal
public import proofs.«01_k».proof.Proof.Gen.Kernel6Ideal.Skeleton
public import proofs.«01_k».proof.Proof.Gen.Kernel6Ideal.Launch
public import proofs.«01_k».proof.Proof.Gen.Kernel6Ideal.Points
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Kernel7
public import proofs.«01_k».proof.Proof.Gen.Kernel7.Skeleton
public import proofs.«01_k».proof.Proof.Gen.Kernel7.Launch
public import proofs.«01_k».proof.Proof.Gen.Kernel7.Points
public import proofs.«01_k».proof.Proof.Gen.Kernel7.Frame
public import proofs.«01_k».proof.Proof.Gen.Kernel7Ideal
public import proofs.«01_k».proof.Proof.Gen.Kernel7Ideal.Skeleton
public import proofs.«01_k».proof.Proof.Gen.Kernel7Ideal.Launch
public import proofs.«01_k».proof.Proof.Gen.Kernel7Ideal.Points
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Kernel8
public import proofs.«01_k».proof.Proof.Gen.Kernel8.Skeleton
public import proofs.«01_k».proof.Proof.Gen.Kernel8.Launch
public import proofs.«01_k».proof.Proof.Gen.Kernel8.Points
public import proofs.«01_k».proof.Proof.Gen.Kernel8.Frame
public import proofs.«01_k».proof.Proof.Gen.Kernel8Ideal
public import proofs.«01_k».proof.Proof.Gen.Kernel8Ideal.Skeleton
public import proofs.«01_k».proof.Proof.Gen.Kernel8Ideal.Launch
public import proofs.«01_k».proof.Proof.Gen.Kernel8Ideal.Points
public import proofs.«01_k».proof.Proof.Gen.Kernel8Ideal.Frame
public import proofs.«01_k».proof.Proof.Gen.Kernel8Ideal.Value
public import proofs.«01_k».proof.Proof.Gen.Reference8Ideal
public import proofs.«01_k».proof.Proof.Gen.Reference8Ideal.Run
public import proofs.«01_k».proof.Proof.Gen.Kernel9
public import proofs.«01_k».proof.Proof.Gen.Kernel9.Skeleton
public import proofs.«01_k».proof.Proof.Gen.Kernel9.Launch
public import proofs.«01_k».proof.Proof.Gen.Kernel9.Points
public import proofs.«01_k».proof.Proof.Gen.Kernel9.Frame
public import proofs.«01_k».proof.Proof.Gen.Kernel9Ideal
public import proofs.«01_k».proof.Proof.Gen.Kernel9Ideal.Skeleton
public import proofs.«01_k».proof.Proof.Gen.Kernel9Ideal.Launch
public import proofs.«01_k».proof.Proof.Gen.Kernel9Ideal.Points
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Kernel10
public import proofs.«01_k».proof.Proof.Gen.Kernel10.Skeleton
public import proofs.«01_k».proof.Proof.Gen.Kernel10.Launch
public import proofs.«01_k».proof.Proof.Gen.Kernel10.Points
public import proofs.«01_k».proof.Proof.Gen.Kernel10.Frame
public import proofs.«01_k».proof.Proof.Gen.Kernel10Ideal
public import proofs.«01_k».proof.Proof.Gen.Kernel10Ideal.Skeleton
public import proofs.«01_k».proof.Proof.Gen.Kernel10Ideal.Launch
public import proofs.«01_k».proof.Proof.Gen.Kernel10Ideal.Points
public import proofs.«01_k».proof.Proof.Gen.Kernel10Ideal.Frame
public import proofs.«01_k».proof.Proof.Gen.Kernel11
public import proofs.«01_k».proof.Proof.Gen.Kernel11.Skeleton
public import proofs.«01_k».proof.Proof.Gen.Kernel11.Launch
public import proofs.«01_k».proof.Proof.Gen.Kernel11.Points
public import proofs.«01_k».proof.Proof.Gen.Kernel11.Frame
public import proofs.«01_k».proof.Proof.Gen.Kernel11Ideal
public import proofs.«01_k».proof.Proof.Gen.Kernel11Ideal.Skeleton
public import proofs.«01_k».proof.Proof.Gen.Kernel11Ideal.Launch
public import proofs.«01_k».proof.Proof.Gen.Kernel11Ideal.Points
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.On_last_layer
public import proofs.«01_k».proof.Proof.Gen.Kernel13
public import proofs.«01_k».proof.Proof.Gen.Kernel13.Skeleton
public import proofs.«01_k».proof.Proof.Gen.Kernel13.Launch
public import proofs.«01_k».proof.Proof.Gen.Kernel13.Points
public import proofs.«01_k».proof.Proof.Gen.Kernel13.Frame
public import proofs.«01_k».proof.Proof.Gen.Kernel13Ideal
public import proofs.«01_k».proof.Proof.Gen.Kernel13Ideal.Skeleton
public import proofs.«01_k».proof.Proof.Gen.Kernel13Ideal.Launch
public import proofs.«01_k».proof.Proof.Gen.Kernel13Ideal.Points
public import proofs.«01_k».proof.Proof.Gen.Kernel13Ideal.Frame
public import proofs.«01_k».proof.Proof.Gen.Reference13Ideal
public import proofs.«01_k».proof.Proof.Gen.Reference13Ideal.Run
public import proofs.«01_k».proof.Proof.Gen.On_gate_plane
public import proofs.«01_k».proof.Proof.Gen.Pre_finite_rnn
public import proofs.«01_k».proof.Proof.Gen.Kernel14
public import proofs.«01_k».proof.Proof.Gen.Kernel14.Skeleton
public import proofs.«01_k».proof.Proof.Gen.Kernel14.Launch
public import proofs.«01_k».proof.Proof.Gen.Kernel14.Points
public import proofs.«01_k».proof.Proof.Gen.Kernel14.Frame
public import proofs.«01_k».proof.Proof.Gen.Kernel14Ideal
public import proofs.«01_k».proof.Proof.Gen.Kernel14Ideal.Skeleton
public import proofs.«01_k».proof.Proof.Gen.Kernel14Ideal.Launch
public import proofs.«01_k».proof.Proof.Gen.Kernel14Ideal.Points
public import proofs.«01_k».proof.Proof.Gen.Kernel14Ideal.Frame
public import proofs.«01_k».proof.Proof.Gen.Kernel14Ideal.Value
public import proofs.«01_k».proof.Proof.Gen.Reference14Ideal
public import proofs.«01_k».proof.Proof.Gen.Reference14Ideal.Run
public import proofs.«01_k».proof.Proof.Pack.Value
public import proofs.«01_k».proof.Proof.Gen.Kernel12
public import proofs.«01_k».proof.Proof.Gen.Kernel12.Skeleton
public import proofs.«01_k».proof.Proof.Gen.Kernel12.Launch
public import proofs.«01_k».proof.Proof.Gen.Kernel12.Points
public import proofs.«01_k».proof.Proof.Gen.Kernel12.Frame
public import proofs.«01_k».proof.Proof.Gen.Kernel12Ideal
public import proofs.«01_k».proof.Proof.Gen.Kernel12Ideal.Skeleton
public import proofs.«01_k».proof.Proof.Gen.Kernel12Ideal.Launch
public import proofs.«01_k».proof.Proof.Gen.Kernel12Ideal.Points
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Adam.Value
public import proofs.«01_k».proof.Proof.Slots.Value
public import proofs.«01_k».proof.Proof.RnnB.Value
public import proofs.«01_k».proof.Proof.InprojX.Value
public import proofs.«01_k».proof.Proof.Pool.Value
public import proofs.«01_k».proof.Proof.OutprojB.Value
public import proofs.«01_k».proof.Proof.InprojW.Value
public import proofs.«01_k».proof.Proof.OutprojF.Value
public import proofs.«01_k».proof.Proof.Rnn.Value
public import proofs.«01_k».proof.Proof.InprojF.Value
public import proofs.«01_k».proof.Proof.PoolF.Value
public import proofs.«01_k».proof.Proof.OutprojM.Value

@[expose] public section

noncomputable section

namespace Cert.Proof

open Idealize.ShloMosaic Idealize.SL.Sem Cert.Kernel

/-- Every claim: of the kernels and the references the frames, the narrowing casts' removal, and the value claims. -/
theorem claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts, Cert.Reference4Ideal.Gen.facts,
    Cert.Kernel5.Gen.facts, Cert.Kernel5Ideal.Gen.facts, Cert.Reference5Ideal.Gen.facts, Cert.Kernel6.Gen.facts, Cert.Kernel6Ideal.Gen.facts, Cert.Reference6Ideal.Gen.facts,
    Cert.Kernel7.Gen.facts, Cert.Kernel7Ideal.Gen.facts, Cert.Reference7Ideal.Gen.facts, Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.InprojX.preFacts, Cert.Pool.preFacts, Cert.OutprojB.preFacts, Cert.PoolF.preFacts, Cert.RnnB.preFacts, Cert.Rnn.onFacts, Cert.Adam.onFacts, Cert.RnnB.onFacts,
    fun m ρ _ => Cert.Kernel.Gen.frame m ρ,
    fun m ρ _ => Cert.KernelIdeal.Gen.frame m ρ,
    fun m ρ _ => Cert.KernelIdeal.Gen.frame m ρ,
    fun m ρ _ => Cert.InprojX.frameR m ρ trivial,
    fun m ρ _ => Cert.InprojX.frameR m ρ trivial,
    fun m ρ _ => Cert.Kernel2.Gen.frame m ρ,
    fun m ρ _ => Cert.Kernel2Ideal.Gen.frame m ρ,
    fun m ρ _ => Cert.Kernel2Ideal.Gen.frame m ρ,
    fun m ρ _ => Cert.Pool.frameR m ρ trivial,
    fun m ρ _ => Cert.Pool.frameR m ρ trivial,
    fun m ρ _ => Cert.Kernel3.Gen.frame m ρ,
    fun m ρ _ => Cert.Kernel3Ideal.Gen.frame m ρ,
    fun m ρ _ => Cert.Kernel3Ideal.Gen.frame m ρ,
    fun m ρ _ => Cert.OutprojB.frameR m ρ trivial,
    fun m ρ _ => Cert.OutprojB.frameR m ρ trivial,
    fun m ρ _ => Cert.Kernel4.Gen.frame m ρ,
    fun m ρ _ => Cert.Kernel4Ideal.Gen.frame m ρ,
    fun m ρ _ => Cert.InprojW.frameR m ρ trivial,
    fun m ρ _ => Cert.Kernel5.Gen.frame m ρ,
    fun m ρ _ => Cert.Kernel5Ideal.Gen.frame m ρ,
    fun m ρ _ => Cert.OutprojF.frameR m ρ trivial,
    fun m ρ _ => Cert.Kernel6.Gen.frame m ρ,
    fun m ρ _ => Cert.Kernel6Ideal.Gen.frame m ρ,
    fun m ρ _ => Cert.Rnn.frameR m ρ trivial,
    fun m ρ _ => Cert.Kernel7.Gen.frame m ρ,
    fun m ρ _ => Cert.Kernel7Ideal.Gen.frame m ρ,
    fun m ρ _ => Cert.InprojF.frameR m ρ trivial,
    fun m ρ _ => Cert.Kernel8.Gen.frame m ρ,
    fun m ρ _ => Cert.Kernel8Ideal.Gen.frame m ρ,
    fun m ρ _ => Cert.Kernel8Ideal.Gen.frame m ρ,
    fun m ρ _ => Cert.PoolF.frameR m ρ trivial,
    fun m ρ _ => Cert.PoolF.frameR m ρ trivial,
    fun m ρ _ => Cert.Kernel9.Gen.frame m ρ,
    fun m ρ _ => Cert.Kernel9Ideal.Gen.frame m ρ,
    fun m ρ _ => Cert.OutprojM.frameR m ρ trivial,
    fun m ρ _ => Cert.Kernel10.Gen.frame m ρ,
    fun m ρ _ => Cert.Kernel10Ideal.Gen.frame m ρ,
    fun m ρ _ => Cert.Kernel11.Gen.frame m ρ,
    fun m ρ _ => Cert.Kernel11Ideal.Gen.frame m ρ,
    fun m ρ _ => Cert.Adam.frameR m ρ trivial,
    fun m ρ _ => Cert.Kernel12.Gen.frame m ρ,
    fun m ρ _ => Cert.Kernel12Ideal.Gen.frame m ρ,
    fun m ρ _ => Cert.Slots.frameR m ρ trivial,
    fun m ρ _ => Cert.Kernel13.Gen.frame m ρ,
    fun m ρ _ => Cert.Kernel13Ideal.Gen.frame m ρ,
    fun m ρ _ => Cert.Kernel13Ideal.Gen.frame m ρ,
    fun m ρ _ => Cert.RnnB.frameR m ρ trivial,
    fun m ρ _ => Cert.RnnB.frameR m ρ trivial,
    fun m ρ _ => Cert.Kernel14.Gen.frame m ρ,
    fun m ρ _ => Cert.Kernel14Ideal.Gen.frame m ρ,
    fun m ρ _ => Cert.Pack.frameR m ρ trivial,
    trivial,
    Cert.InprojX.value,
    trivial,
    Cert.Pool.value,
    trivial,
    Cert.OutprojB.value,
    trivial,
    Cert.InprojW.value,
    trivial,
    Cert.OutprojF.value,
    trivial,
    Cert.Rnn.value,
    trivial,
    Cert.InprojF.value,
    trivial,
    Cert.PoolF.value,
    trivial,
    Cert.OutprojM.value,
    trivial,
    trivial,
    Cert.Adam.value,
    trivial,
    Cert.Slots.value,
    trivial,
    Cert.RnnB.value,
    trivial,
    Cert.Pack.value⟩

end Cert.Proof

end
